-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightReferenceIdeal (m : (ℓ : Loc Cert.UpWeightReferenceIdeal.nD Cert.UpWeightReferenceIdeal.τ Cert.UpWeightReferenceIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightReferenceIdeal (m : (ℓ : Loc Cert.DownWeightReferenceIdeal.nD Cert.DownWeightReferenceIdeal.τ Cert.DownWeightReferenceIdeal.sig) → Buf (Elt Ideal) ℓ) : Prop :=
  True

def Pre_DownInput (m : (ℓ : Loc Cert.DownInput.nD Cert.DownInput.τ Cert.DownInput.sig) → Buf (Elt Bits) ℓ) : Prop :=
  True

def Pre_DownInputIdeal (m : (ℓ : Loc Cert.DownInputIdeal.nD Cert.DownInputIdeal.τ Cert.DownInputIdeal.sig) → Buf (Elt Ideal) ℓ) : Prop :=
  True

def Pre_DownInputReferenceIdeal (m : (ℓ : Loc Cert.DownInputReferenceIdeal.nD Cert.DownInputReferenceIdeal.τ Cert.DownInputReferenceIdeal.sig) → Buf (Elt Ideal) ℓ) : Prop :=
  True

def Pre_NormInput (m : (ℓ : Loc Cert.NormInput.nD Cert.NormInput.τ Cert.NormInput.sig) → Buf (Elt Bits) ℓ) : Prop :=
  True

def Pre_NormInputIdeal (m : (ℓ : Loc Cert.NormInputIdeal.nD Cert.NormInputIdeal.τ Cert.NormInputIdeal.sig) → Buf (Elt Ideal) ℓ) : Prop :=
  True

def Pre_NormInputIdeal_finite_norm [hPre_finite_norm : Cert.Pre_finite_norm.Facts] (m : (ℓ : Loc Cert.NormInputIdeal.nD Cert.NormInputIdeal.τ Cert.NormInputIdeal.sig) → Buf (Elt Ideal) ℓ) : Prop :=
  ∀ c : Dev Cert.NormInputIdeal.nD,
    (Cert.Pre_finite_norm.fn (F := Ideal) (m ((c.tc : Thread Cert.NormInputIdeal.nD Cert.NormInputIdeal.τ).loc Cert.NormInputIdeal.main_arg0)) (m ((c.tc : Thread Cert.NormInputIdeal.nD Cert.NormInputIdeal.τ).loc Cert.NormInputIdeal.main_arg1)) (m ((c.tc : Thread Cert.NormInputIdeal.nD Cert.NormInputIdeal.τ).loc Cert.NormInputIdeal.main_arg2)) (m ((c.tc : Thread Cert.NormInputIdeal.nD Cert.NormInputIdeal.τ).loc Cert.NormInputIdeal.main_arg3)) (m ((c.tc : Thread Cert.NormInputIdeal.nD Cert.NormInputIdeal.τ).loc Cert.NormInputIdeal.main_arg4))) = (fun _ => 1#1)

def Pre_NormInputReferenceIdeal (m : (ℓ : Loc Cert.NormInputReferenceIdeal.nD Cert.NormInputReferenceIdeal.τ Cert.NormInputReferenceIdeal.sig) → Buf (Elt Ideal) ℓ) : Prop :=
  True

def Pre_NormInputReferenceIdeal_finite_norm [hPre_finite_norm : Cert.Pre_finite_norm.Facts] (m : (ℓ : Loc Cert.NormInputReferenceIdeal.nD Cert.NormInputReferenceIdeal.τ Cert.NormInputReferenceIdeal.sig) → Buf (Elt Ideal) ℓ) : Prop :=
  ∀ c : Dev Cert.NormInputReferenceIdeal.nD,
    (Cert.Pre_finite_norm.fn (F := Ideal) (m ((c.tc : Thread Cert.NormInputReferenceIdeal.nD Cert.NormInputReferenceIdeal.τ).loc Cert.NormInputReferenceIdeal.main_arg0)) (m ((c.tc : Thread Cert.NormInputReferenceIdeal.nD Cert.NormInputReferenceIdeal.τ).loc Cert.NormInputReferenceIdeal.main_arg1)) (m ((c.tc : Thread Cert.NormInputReferenceIdeal.nD Cert.NormInputReferenceIdeal.τ).loc Cert.NormInputReferenceIdeal.main_arg2)) (m ((c.tc : Thread Cert.NormInputReferenceIdeal.nD Cert.NormInputReferenceIdeal.τ).loc Cert.NormInputReferenceIdeal.main_arg3)) (m ((c.tc : Thread Cert.NormInputReferenceIdeal.nD Cert.NormInputReferenceIdeal.τ).loc Cert.NormInputReferenceIdeal.main_arg4))) = (fun _ => 1#1)

def Pre_SquareWeight (m : (ℓ : Loc Cert.SquareWeight.nD Cert.SquareWeight.τ Cert.SquareWeight.sig) → Buf (Elt Bits) ℓ) : Prop :=
  True

def Pre_SquareWeightIdeal (m : (ℓ : Loc Cert.SquareWeightIdeal.nD Cert.SquareWeightIdeal.τ Cert.SquareWeightIdeal.sig) → Buf (Elt Ideal) ℓ) : Prop :=
  True

def Pre_SquareWeightReferenceIdeal (m : (ℓ : Loc Cert.SquareWeightReferenceIdeal.nD Cert.SquareWeightReferenceIdeal.τ Cert.SquareWeightReferenceIdeal.sig) → Buf (Elt Ideal) ℓ) : Prop :=
  True

def Pre_SquareInput (m : (ℓ : Loc Cert.SquareInput.nD Cert.SquareInput.τ Cert.SquareInput.sig) → Buf (Elt Bits) ℓ) : Prop :=
  True

def Pre_SquareInputIdeal (m : (ℓ : Loc Cert.SquareInputIdeal.nD Cert.SquareInputIdeal.τ Cert.SquareInputIdeal.sig) → Buf (Elt Ideal) ℓ) : Prop :=
  True

def Pre_SquareInputReferenceIdeal (m : (ℓ : Loc Cert.SquareInputReferenceIdeal.nD Cert.SquareInputReferenceIdeal.τ Cert.SquareInputReferenceIdeal.sig) → Buf (Elt Ideal) ℓ) : Prop :=
  True

def Pre_WindowWeight (m : (ℓ : Loc Cert.WindowWeight.nD Cert.WindowWeight.τ Cert.WindowWeight.sig) → Buf (Elt Bits) ℓ) : Prop :=
  True

def Pre_WindowWeightIdeal (m : (ℓ : Loc Cert.WindowWeightIdeal.nD Cert.WindowWeightIdeal.τ Cert.WindowWeightIdeal.sig) → Buf (Elt Ideal) ℓ) : Prop :=
  True

def Pre_WindowWeightReferenceIdeal (m : (ℓ : Loc Cert.WindowWeightReferenceIdeal.nD Cert.WindowWeightReferenceIdeal.τ Cert.WindowWeightReferenceIdeal.sig) → Buf (Elt Ideal) ℓ) : Prop :=
  True

def Pre_RecurrenceWeight (m : (ℓ : Loc Cert.RecurrenceWeight.nD Cert.RecurrenceWeight.τ Cert.RecurrenceWeight.sig) → Buf (Elt Bits) ℓ) : Prop :=
  True

def Pre_RecurrenceWeightIdeal (m : (ℓ : Loc Cert.RecurrenceWeightIdeal.nD Cert.RecurrenceWeightIdeal.τ Cert.RecurrenceWeightIdeal.sig) → Buf (Elt Ideal) ℓ) : Prop :=
  True

def Pre_RecurrenceWeightReferenceIdeal (m : (ℓ : Loc Cert.RecurrenceWeightReferenceIdeal.nD Cert.RecurrenceWeightReferenceIdeal.τ Cert.RecurrenceWeightReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_NormQuery (m : (ℓ : Loc Cert.NormQuery.nD Cert.NormQuery.τ Cert.NormQuery.sig) → Buf (Elt Bits) ℓ) : Prop :=
  True

def Pre_NormQueryIdeal (m : (ℓ : Loc Cert.NormQueryIdeal.nD Cert.NormQueryIdeal.τ Cert.NormQueryIdeal.sig) → Buf (Elt Ideal) ℓ) : Prop :=
  True

def Pre_NormQueryIdeal_finite_query [hPre_finite_query : Cert.Pre_finite_query.Facts] (m : (ℓ : Loc Cert.NormQueryIdeal.nD Cert.NormQueryIdeal.τ Cert.NormQueryIdeal.sig) → Buf (Elt Ideal) ℓ) : Prop :=
  ∀ c : Dev Cert.NormQueryIdeal.nD,
    (Cert.Pre_finite_query.fn (F := Ideal) (m ((c.tc : Thread Cert.NormQueryIdeal.nD Cert.NormQueryIdeal.τ).loc Cert.NormQueryIdeal.main_arg0)) (m ((c.tc : Thread Cert.NormQueryIdeal.nD Cert.NormQueryIdeal.τ).loc Cert.NormQueryIdeal.main_arg1)) (m ((c.tc : Thread Cert.NormQueryIdeal.nD Cert.NormQueryIdeal.τ).loc Cert.NormQueryIdeal.main_arg2)) (m ((c.tc : Thread Cert.NormQueryIdeal.nD Cert.NormQueryIdeal.τ).loc Cert.NormQueryIdeal.main_arg3)) (m ((c.tc : Thread Cert.NormQueryIdeal.nD Cert.NormQueryIdeal.τ).loc Cert.NormQueryIdeal.main_arg4))) = (fun _ => 1#1)

def Pre_NormQueryReferenceIdeal (m : (ℓ : Loc Cert.NormQueryReferenceIdeal.nD Cert.NormQueryReferenceIdeal.τ Cert.NormQueryReferenceIdeal.sig) → Buf (Elt Ideal) ℓ) : Prop :=
  True

def Pre_NormQueryReferenceIdeal_finite_query [hPre_finite_query : Cert.Pre_finite_query.Facts] (m : (ℓ : Loc Cert.NormQueryReferenceIdeal.nD Cert.NormQueryReferenceIdeal.τ Cert.NormQueryReferenceIdeal.sig) → Buf (Elt Ideal) ℓ) : Prop :=
  ∀ c : Dev Cert.NormQueryReferenceIdeal.nD,
    (Cert.Pre_finite_query.fn (F := Ideal) (m ((c.tc : Thread Cert.NormQueryReferenceIdeal.nD Cert.NormQueryReferenceIdeal.τ).loc Cert.NormQueryReferenceIdeal.main_arg0)) (m ((c.tc : Thread Cert.NormQueryReferenceIdeal.nD Cert.NormQueryReferenceIdeal.τ).loc Cert.NormQueryReferenceIdeal.main_arg1)) (m ((c.tc : Thread Cert.NormQueryReferenceIdeal.nD Cert.NormQueryReferenceIdeal.τ).loc Cert.NormQueryReferenceIdeal.main_arg2)) (m ((c.tc : Thread Cert.NormQueryReferenceIdeal.nD Cert.NormQueryReferenceIdeal.τ).loc Cert.NormQueryReferenceIdeal.main_arg3)) (m ((c.tc : Thread Cert.NormQueryReferenceIdeal.nD Cert.NormQueryReferenceIdeal.τ).loc Cert.NormQueryReferenceIdeal.main_arg4))) = (fun _ => 1#1)

def Pre_NormRecurrence (m : (ℓ : Loc Cert.NormRecurrence.nD Cert.NormRecurrence.τ Cert.NormRecurrence.sig) → Buf (Elt Bits) ℓ) : Prop :=
  True

def Pre_NormRecurrenceIdeal (m : (ℓ : Loc Cert.NormRecurrenceIdeal.nD Cert.NormRecurrenceIdeal.τ Cert.NormRecurrenceIdeal.sig) → Buf (Elt Ideal) ℓ) : Prop :=
  True

def Pre_NormRecurrenceIdeal_finite_recurrence [hPre_finite_recurrence : Cert.Pre_finite_recurrence.Facts] (m : (ℓ : Loc Cert.NormRecurrenceIdeal.nD Cert.NormRecurrenceIdeal.τ Cert.NormRecurrenceIdeal.sig) → Buf (Elt Ideal) ℓ) : Prop :=
  ∀ c : Dev Cert.NormRecurrenceIdeal.nD,
    (Cert.Pre_finite_recurrence.fn (F := Ideal) (m ((c.tc : Thread Cert.NormRecurrenceIdeal.nD Cert.NormRecurrenceIdeal.τ).loc Cert.NormRecurrenceIdeal.main_arg0)) (m ((c.tc : Thread Cert.NormRecurrenceIdeal.nD Cert.NormRecurrenceIdeal.τ).loc Cert.NormRecurrenceIdeal.main_arg1)) (m ((c.tc : Thread Cert.NormRecurrenceIdeal.nD Cert.NormRecurrenceIdeal.τ).loc Cert.NormRecurrenceIdeal.main_arg2)) (m ((c.tc : Thread Cert.NormRecurrenceIdeal.nD Cert.NormRecurrenceIdeal.τ).loc Cert.NormRecurrenceIdeal.main_arg3)) (m ((c.tc : Thread Cert.NormRecurrenceIdeal.nD Cert.NormRecurrenceIdeal.τ).loc Cert.NormRecurrenceIdeal.main_arg4))) = (fun _ => 1#1)

def Pre_NormRecurrenceReferenceIdeal (m : (ℓ : Loc Cert.NormRecurrenceReferenceIdeal.nD Cert.NormRecurrenceReferenceIdeal.τ Cert.NormRecurrenceReferenceIdeal.sig) → Buf (Elt Ideal) ℓ) : Prop :=
  True

def Pre_NormRecurrenceReferenceIdeal_finite_recurrence [hPre_finite_recurrence : Cert.Pre_finite_recurrence.Facts] (m : (ℓ : Loc Cert.NormRecurrenceReferenceIdeal.nD Cert.NormRecurrenceReferenceIdeal.τ Cert.NormRecurrenceReferenceIdeal.sig) → Buf (Elt Ideal) ℓ) : Prop :=
  ∀ c : Dev Cert.NormRecurrenceReferenceIdeal.nD,
    (Cert.Pre_finite_recurrence.fn (F := Ideal) (m ((c.tc : Thread Cert.NormRecurrenceReferenceIdeal.nD Cert.NormRecurrenceReferenceIdeal.τ).loc Cert.NormRecurrenceReferenceIdeal.main_arg0)) (m ((c.tc : Thread Cert.NormRecurrenceReferenceIdeal.nD Cert.NormRecurrenceReferenceIdeal.τ).loc Cert.NormRecurrenceReferenceIdeal.main_arg1)) (m ((c.tc : Thread Cert.NormRecurrenceReferenceIdeal.nD Cert.NormRecurrenceReferenceIdeal.τ).loc Cert.NormRecurrenceReferenceIdeal.main_arg2)) (m ((c.tc : Thread Cert.NormRecurrenceReferenceIdeal.nD Cert.NormRecurrenceReferenceIdeal.τ).loc Cert.NormRecurrenceReferenceIdeal.main_arg3)) (m ((c.tc : Thread Cert.NormRecurrenceReferenceIdeal.nD Cert.NormRecurrenceReferenceIdeal.τ).loc Cert.NormRecurrenceReferenceIdeal.main_arg4))) = (fun _ => 1#1)

def Pre_NormLatent (m : (ℓ : Loc Cert.NormLatent.nD Cert.NormLatent.τ Cert.NormLatent.sig) → Buf (Elt Bits) ℓ) : Prop :=
  True

def Pre_NormLatentIdeal (m : (ℓ : Loc Cert.NormLatentIdeal.nD Cert.NormLatentIdeal.τ Cert.NormLatentIdeal.sig) → Buf (Elt Ideal) ℓ) : Prop :=
  True

def Pre_NormLatentIdeal_finite_latent [hPre_finite_latent : Cert.Pre_finite_latent.Facts] (m : (ℓ : Loc Cert.NormLatentIdeal.nD Cert.NormLatentIdeal.τ Cert.NormLatentIdeal.sig) → Buf (Elt Ideal) ℓ) : Prop :=
  ∀ c : Dev Cert.NormLatentIdeal.nD,
    (Cert.Pre_finite_latent.fn (F := Ideal) (m ((c.tc : Thread Cert.NormLatentIdeal.nD Cert.NormLatentIdeal.τ).loc Cert.NormLatentIdeal.main_arg0)) (m ((c.tc : Thread Cert.NormLatentIdeal.nD Cert.NormLatentIdeal.τ).loc Cert.NormLatentIdeal.main_arg1)) (m ((c.tc : Thread Cert.NormLatentIdeal.nD Cert.NormLatentIdeal.τ).loc Cert.NormLatentIdeal.main_arg2)) (m ((c.tc : Thread Cert.NormLatentIdeal.nD Cert.NormLatentIdeal.τ).loc Cert.NormLatentIdeal.main_arg3)) (m ((c.tc : Thread Cert.NormLatentIdeal.nD Cert.NormLatentIdeal.τ).loc Cert.NormLatentIdeal.main_arg4))) = (fun _ => 1#1)

def Pre_NormLatentReferenceIdeal (m : (ℓ : Loc Cert.NormLatentReferenceIdeal.nD Cert.NormLatentReferenceIdeal.τ Cert.NormLatentReferenceIdeal.sig) → Buf (Elt Ideal) ℓ) : Prop :=
  True

def Pre_NormLatentReferenceIdeal_finite_latent [hPre_finite_latent : Cert.Pre_finite_latent.Facts] (m : (ℓ : Loc Cert.NormLatentReferenceIdeal.nD Cert.NormLatentReferenceIdeal.τ Cert.NormLatentReferenceIdeal.sig) → Buf (Elt Ideal) ℓ) : Prop :=
  ∀ c : Dev Cert.NormLatentReferenceIdeal.nD,
    (Cert.Pre_finite_latent.fn (F := Ideal) (m ((c.tc : Thread Cert.NormLatentReferenceIdeal.nD Cert.NormLatentReferenceIdeal.τ).loc Cert.NormLatentReferenceIdeal.main_arg0)) (m ((c.tc : Thread Cert.NormLatentReferenceIdeal.nD Cert.NormLatentReferenceIdeal.τ).loc Cert.NormLatentReferenceIdeal.main_arg1)) (m ((c.tc : Thread Cert.NormLatentReferenceIdeal.nD Cert.NormLatentReferenceIdeal.τ).loc Cert.NormLatentReferenceIdeal.main_arg2)) (m ((c.tc : Thread Cert.NormLatentReferenceIdeal.nD Cert.NormLatentReferenceIdeal.τ).loc Cert.NormLatentReferenceIdeal.main_arg3)) (m ((c.tc : Thread Cert.NormLatentReferenceIdeal.nD Cert.NormLatentReferenceIdeal.τ).loc Cert.NormLatentReferenceIdeal.main_arg4))) = (fun _ => 1#1)

def Pre_NormWindow (m : (ℓ : Loc Cert.NormWindow.nD Cert.NormWindow.τ Cert.NormWindow.sig) → Buf (Elt Bits) ℓ) : Prop :=
  True

def Pre_NormWindowIdeal (m : (ℓ : Loc Cert.NormWindowIdeal.nD Cert.NormWindowIdeal.τ Cert.NormWindowIdeal.sig) → Buf (Elt Ideal) ℓ) : Prop :=
  True

def Pre_NormWindowIdeal_finite_window [hPre_finite_window : Cert.Pre_finite_window.Facts] (m : (ℓ : Loc Cert.NormWindowIdeal.nD Cert.NormWindowIdeal.τ Cert.NormWindowIdeal.sig) → Buf (Elt Ideal) ℓ) : Prop :=
  ∀ c : Dev Cert.NormWindowIdeal.nD,
    (Cert.Pre_finite_window.fn (F := Ideal) (m ((c.tc : Thread Cert.NormWindowIdeal.nD Cert.NormWindowIdeal.τ).loc Cert.NormWindowIdeal.main_arg0)) (m ((c.tc : Thread Cert.NormWindowIdeal.nD Cert.NormWindowIdeal.τ).loc Cert.NormWindowIdeal.main_arg1)) (m ((c.tc : Thread Cert.NormWindowIdeal.nD Cert.NormWindowIdeal.τ).loc Cert.NormWindowIdeal.main_arg2)) (m ((c.tc : Thread Cert.NormWindowIdeal.nD Cert.NormWindowIdeal.τ).loc Cert.NormWindowIdeal.main_arg3)) (m ((c.tc : Thread Cert.NormWindowIdeal.nD Cert.NormWindowIdeal.τ).loc Cert.NormWindowIdeal.main_arg4))) = (fun _ => 1#1)

def Pre_NormWindowReferenceIdeal (m : (ℓ : Loc Cert.NormWindowReferenceIdeal.nD Cert.NormWindowReferenceIdeal.τ Cert.NormWindowReferenceIdeal.sig) → Buf (Elt Ideal) ℓ) : Prop :=
  True

def Pre_NormWindowReferenceIdeal_finite_window [hPre_finite_window : Cert.Pre_finite_window.Facts] (m : (ℓ : Loc Cert.NormWindowReferenceIdeal.nD Cert.NormWindowReferenceIdeal.τ Cert.NormWindowReferenceIdeal.sig) → Buf (Elt Ideal) ℓ) : Prop :=
  ∀ c : Dev Cert.NormWindowReferenceIdeal.nD,
    (Cert.Pre_finite_window.fn (F := Ideal) (m ((c.tc : Thread Cert.NormWindowReferenceIdeal.nD Cert.NormWindowReferenceIdeal.τ).loc Cert.NormWindowReferenceIdeal.main_arg0)) (m ((c.tc : Thread Cert.NormWindowReferenceIdeal.nD Cert.NormWindowReferenceIdeal.τ).loc Cert.NormWindowReferenceIdeal.main_arg1)) (m ((c.tc : Thread Cert.NormWindowReferenceIdeal.nD Cert.NormWindowReferenceIdeal.τ).loc Cert.NormWindowReferenceIdeal.main_arg2)) (m ((c.tc : Thread Cert.NormWindowReferenceIdeal.nD Cert.NormWindowReferenceIdeal.τ).loc Cert.NormWindowReferenceIdeal.main_arg3)) (m ((c.tc : Thread Cert.NormWindowReferenceIdeal.nD Cert.NormWindowReferenceIdeal.τ).loc Cert.NormWindowReferenceIdeal.main_arg4))) = (fun _ => 1#1)

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormReferenceIdeal (m : (ℓ : Loc Cert.OutNormReferenceIdeal.nD Cert.OutNormReferenceIdeal.τ Cert.OutNormReferenceIdeal.sig) → Buf (Elt Ideal) ℓ) : Prop :=
  True

def Pre_DownNorm (m : (ℓ : Loc Cert.DownNorm.nD Cert.DownNorm.τ Cert.DownNorm.sig) → Buf (Elt Bits) ℓ) : Prop :=
  True

def Pre_DownNormIdeal (m : (ℓ : Loc Cert.DownNormIdeal.nD Cert.DownNormIdeal.τ Cert.DownNormIdeal.sig) → Buf (Elt Ideal) ℓ) : Prop :=
  True

def Pre_DownNormReferenceIdeal (m : (ℓ : Loc Cert.DownNormReferenceIdeal.nD Cert.DownNormReferenceIdeal.τ Cert.DownNormReferenceIdeal.sig) → Buf (Elt Ideal) ℓ) : Prop :=
  True

def Pre_WindowUp (m : (ℓ : Loc Cert.WindowUp.nD Cert.WindowUp.τ Cert.WindowUp.sig) → Buf (Elt Bits) ℓ) : Prop :=
  True

def Pre_WindowUpIdeal (m : (ℓ : Loc Cert.WindowUpIdeal.nD Cert.WindowUpIdeal.τ Cert.WindowUpIdeal.sig) → Buf (Elt Ideal) ℓ) : Prop :=
  True

def Pre_WindowUpReferenceIdeal (m : (ℓ : Loc Cert.WindowUpReferenceIdeal.nD Cert.WindowUpReferenceIdeal.τ Cert.WindowUpReferenceIdeal.sig) → Buf (Elt Ideal) ℓ) : Prop :=
  True

def Pre_RecurrenceUp (m : (ℓ : Loc Cert.RecurrenceUp.nD Cert.RecurrenceUp.τ Cert.RecurrenceUp.sig) → Buf (Elt Bits) ℓ) : Prop :=
  True

def Pre_RecurrenceUpIdeal (m : (ℓ : Loc Cert.RecurrenceUpIdeal.nD Cert.RecurrenceUpIdeal.τ Cert.RecurrenceUpIdeal.sig) → Buf (Elt Ideal) ℓ) : Prop :=
  True

def Pre_RecurrenceUpReferenceIdeal (m : (ℓ : Loc Cert.RecurrenceUpReferenceIdeal.nD Cert.RecurrenceUpReferenceIdeal.τ Cert.RecurrenceUpReferenceIdeal.sig) → Buf (Elt Ideal) ℓ) : Prop :=
  True

def Pre_LatentDown (m : (ℓ : Loc Cert.LatentDown.nD Cert.LatentDown.τ Cert.LatentDown.sig) → Buf (Elt Bits) ℓ) : Prop :=
  True

def Pre_LatentDownIdeal (m : (ℓ : Loc Cert.LatentDownIdeal.nD Cert.LatentDownIdeal.τ Cert.LatentDownIdeal.sig) → Buf (Elt Ideal) ℓ) : Prop :=
  True

def Pre_LatentDownReferenceIdeal (m : (ℓ : Loc Cert.LatentDownReferenceIdeal.nD Cert.LatentDownReferenceIdeal.τ Cert.LatentDownReferenceIdeal.sig) → Buf (Elt Ideal) ℓ) : Prop :=
  True

def Pre_RopeUp (m : (ℓ : Loc Cert.RopeUp.nD Cert.RopeUp.τ Cert.RopeUp.sig) → Buf (Elt Bits) ℓ) : Prop :=
  True

def Pre_RopeUpIdeal (m : (ℓ : Loc Cert.RopeUpIdeal.nD Cert.RopeUpIdeal.τ Cert.RopeUpIdeal.sig) → Buf (Elt Ideal) ℓ) : Prop :=
  True

def Pre_RopeUpReferenceIdeal (m : (ℓ : Loc Cert.RopeUpReferenceIdeal.nD Cert.RopeUpReferenceIdeal.τ Cert.RopeUpReferenceIdeal.sig) → Buf (Elt Ideal) ℓ) : Prop :=
  True

def Pre_NopeUp (m : (ℓ : Loc Cert.NopeUp.nD Cert.NopeUp.τ Cert.NopeUp.sig) → Buf (Elt Bits) ℓ) : Prop :=
  True

def Pre_NopeUpIdeal (m : (ℓ : Loc Cert.NopeUpIdeal.nD Cert.NopeUpIdeal.τ Cert.NopeUpIdeal.sig) → Buf (Elt Ideal) ℓ) : Prop :=
  True

def Pre_NopeUpReferenceIdeal (m : (ℓ : Loc Cert.NopeUpReferenceIdeal.nD Cert.NopeUpReferenceIdeal.τ Cert.NopeUpReferenceIdeal.sig) → Buf (Elt Ideal) ℓ) : Prop :=
  True

def Pre_KeyValueUp (m : (ℓ : Loc Cert.KeyValueUp.nD Cert.KeyValueUp.τ Cert.KeyValueUp.sig) → Buf (Elt Bits) ℓ) : Prop :=
  True

def Pre_KeyValueUpIdeal (m : (ℓ : Loc Cert.KeyValueUpIdeal.nD Cert.KeyValueUpIdeal.τ Cert.KeyValueUpIdeal.sig) → Buf (Elt Ideal) ℓ) : Prop :=
  True

def Pre_KeyValueUpReferenceIdeal (m : (ℓ : Loc Cert.KeyValueUpReferenceIdeal.nD Cert.KeyValueUpReferenceIdeal.τ Cert.KeyValueUpReferenceIdeal.sig) → Buf (Elt Ideal) ℓ) : Prop :=
  True

def Pre_MemoryUp (m : (ℓ : Loc Cert.MemoryUp.nD Cert.MemoryUp.τ Cert.MemoryUp.sig) → Buf (Elt Bits) ℓ) : Prop :=
  True

def Pre_MemoryUpIdeal (m : (ℓ : Loc Cert.MemoryUpIdeal.nD Cert.MemoryUpIdeal.τ Cert.MemoryUpIdeal.sig) → Buf (Elt Ideal) ℓ) : Prop :=
  True

def Pre_MemoryUpReferenceIdeal (m : (ℓ : Loc Cert.MemoryUpReferenceIdeal.nD Cert.MemoryUpReferenceIdeal.τ Cert.MemoryUpReferenceIdeal.sig) → Buf (Elt Ideal) ℓ) : Prop :=
  True

def Pre_WindowInput (m : (ℓ : Loc Cert.WindowInput.nD Cert.WindowInput.τ Cert.WindowInput.sig) → Buf (Elt Bits) ℓ) : Prop :=
  True

def Pre_WindowInputIdeal (m : (ℓ : Loc Cert.WindowInputIdeal.nD Cert.WindowInputIdeal.τ Cert.WindowInputIdeal.sig) → Buf (Elt Ideal) ℓ) : Prop :=
  True

def Pre_WindowInputReferenceIdeal (m : (ℓ : Loc Cert.WindowInputReferenceIdeal.nD Cert.WindowInputReferenceIdeal.τ Cert.WindowInputReferenceIdeal.sig) → Buf (Elt Ideal) ℓ) : Prop :=
  True

def Pre_NopeInput (m : (ℓ : Loc Cert.NopeInput.nD Cert.NopeInput.τ Cert.NopeInput.sig) → Buf (Elt Bits) ℓ) : Prop :=
  True

def Pre_NopeInputIdeal (m : (ℓ : Loc Cert.NopeInputIdeal.nD Cert.NopeInputIdeal.τ Cert.NopeInputIdeal.sig) → Buf (Elt Ideal) ℓ) : Prop :=
  True

def Pre_NopeInputReferenceIdeal (m : (ℓ : Loc Cert.NopeInputReferenceIdeal.nD Cert.NopeInputReferenceIdeal.τ Cert.NopeInputReferenceIdeal.sig) → Buf (Elt Ideal) ℓ) : Prop :=
  True

def Pre_RopeInput (m : (ℓ : Loc Cert.RopeInput.nD Cert.RopeInput.τ Cert.RopeInput.sig) → Buf (Elt Bits) ℓ) : Prop :=
  True

def Pre_RopeInputIdeal (m : (ℓ : Loc Cert.RopeInputIdeal.nD Cert.RopeInputIdeal.τ Cert.RopeInputIdeal.sig) → Buf (Elt Ideal) ℓ) : Prop :=
  True

def Pre_RopeInputReferenceIdeal (m : (ℓ : Loc Cert.RopeInputReferenceIdeal.nD Cert.RopeInputReferenceIdeal.τ Cert.RopeInputReferenceIdeal.sig) → Buf (Elt Ideal) ℓ) : Prop :=
  True

def Pre_KeyValueInput (m : (ℓ : Loc Cert.KeyValueInput.nD Cert.KeyValueInput.τ Cert.KeyValueInput.sig) → Buf (Elt Bits) ℓ) : Prop :=
  True

def Pre_KeyValueInputIdeal (m : (ℓ : Loc Cert.KeyValueInputIdeal.nD Cert.KeyValueInputIdeal.τ Cert.KeyValueInputIdeal.sig) → Buf (Elt Ideal) ℓ) : Prop :=
  True

def Pre_KeyValueInputReferenceIdeal (m : (ℓ : Loc Cert.KeyValueInputReferenceIdeal.nD Cert.KeyValueInputReferenceIdeal.τ Cert.KeyValueInputReferenceIdeal.sig) → Buf (Elt Ideal) ℓ) : Prop :=
  True

def Pre_LatentWeight (m : (ℓ : Loc Cert.LatentWeight.nD Cert.LatentWeight.τ Cert.LatentWeight.sig) → Buf (Elt Bits) ℓ) : Prop :=
  True

def Pre_LatentWeightIdeal (m : (ℓ : Loc Cert.LatentWeightIdeal.nD Cert.LatentWeightIdeal.τ Cert.LatentWeightIdeal.sig) → Buf (Elt Ideal) ℓ) : Prop :=
  True

def Pre_LatentWeightReferenceIdeal (m : (ℓ : Loc Cert.LatentWeightReferenceIdeal.nD Cert.LatentWeightReferenceIdeal.τ Cert.LatentWeightReferenceIdeal.sig) → Buf (Elt Ideal) ℓ) : Prop :=
  True

def Pre_NopeWeight (m : (ℓ : Loc Cert.NopeWeight.nD Cert.NopeWeight.τ Cert.NopeWeight.sig) → Buf (Elt Bits) ℓ) : Prop :=
  True

def Pre_NopeWeightIdeal (m : (ℓ : Loc Cert.NopeWeightIdeal.nD Cert.NopeWeightIdeal.τ Cert.NopeWeightIdeal.sig) → Buf (Elt Ideal) ℓ) : Prop :=
  True

def Pre_NopeWeightReferenceIdeal (m : (ℓ : Loc Cert.NopeWeightReferenceIdeal.nD Cert.NopeWeightReferenceIdeal.τ Cert.NopeWeightReferenceIdeal.sig) → Buf (Elt Ideal) ℓ) : Prop :=
  True

def Pre_RopeWeight (m : (ℓ : Loc Cert.RopeWeight.nD Cert.RopeWeight.τ Cert.RopeWeight.sig) → Buf (Elt Bits) ℓ) : Prop :=
  True

def Pre_RopeWeightIdeal (m : (ℓ : Loc Cert.RopeWeightIdeal.nD Cert.RopeWeightIdeal.τ Cert.RopeWeightIdeal.sig) → Buf (Elt Ideal) ℓ) : Prop :=
  True

def Pre_RopeWeightReferenceIdeal (m : (ℓ : Loc Cert.RopeWeightReferenceIdeal.nD Cert.RopeWeightReferenceIdeal.τ Cert.RopeWeightReferenceIdeal.sig) → Buf (Elt Ideal) ℓ) : Prop :=
  True

def Pre_KeyValueWeight (m : (ℓ : Loc Cert.KeyValueWeight.nD Cert.KeyValueWeight.τ Cert.KeyValueWeight.sig) → Buf (Elt Bits) ℓ) : Prop :=
  True

def Pre_KeyValueWeightIdeal (m : (ℓ : Loc Cert.KeyValueWeightIdeal.nD Cert.KeyValueWeightIdeal.τ Cert.KeyValueWeightIdeal.sig) → Buf (Elt Ideal) ℓ) : Prop :=
  True

def Pre_KeyValueWeightReferenceIdeal (m : (ℓ : Loc Cert.KeyValueWeightReferenceIdeal.nD Cert.KeyValueWeightReferenceIdeal.τ Cert.KeyValueWeightReferenceIdeal.sig) → Buf (Elt Ideal) ℓ) : Prop :=
  True

def Pre_MemoryWeight (m : (ℓ : Loc Cert.MemoryWeight.nD Cert.MemoryWeight.τ Cert.MemoryWeight.sig) → Buf (Elt Bits) ℓ) : Prop :=
  True

def Pre_MemoryWeightIdeal (m : (ℓ : Loc Cert.MemoryWeightIdeal.nD Cert.MemoryWeightIdeal.τ Cert.MemoryWeightIdeal.sig) → Buf (Elt Ideal) ℓ) : Prop :=
  True

def Pre_MemoryWeightReferenceIdeal (m : (ℓ : Loc Cert.MemoryWeightReferenceIdeal.nD Cert.MemoryWeightReferenceIdeal.τ Cert.MemoryWeightReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionReferenceIdeal (m : (ℓ : Loc Cert.AttentionReferenceIdeal.nD Cert.AttentionReferenceIdeal.τ Cert.AttentionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ r.2.sem = fun _ => 0)

def quiescent_UpWeightReferenceIdeal [hUpWeightReferenceIdeal : Cert.UpWeightReferenceIdeal.Facts] : Prop :=
  ∀ (m : (ℓ : Loc Cert.UpWeightReferenceIdeal.nD Cert.UpWeightReferenceIdeal.τ Cert.UpWeightReferenceIdeal.sig) → Buf (Elt Ideal) ℓ) (g : Dev Cert.UpWeightReferenceIdeal.nD → PrngReg), Pre_UpWeightReferenceIdeal m →
    θ_run (Cert.UpWeightReferenceIdeal.defs (F := Ideal)) (onTc (τ := Cert.UpWeightReferenceIdeal.τ) (Cert.UpWeightReferenceIdeal.main (F := Ideal))) ⟨m, fun _ => 0, g⟩ (fun r => (∀ c : Dev Cert.UpWeightReferenceIdeal.nD,
      r.2.mem ((c.tc : Thread Cert.UpWeightReferenceIdeal.nD Cert.UpWeightReferenceIdeal.τ).loc Cert.UpWeightReferenceIdeal.main_arg0) = m ((c.tc : Thread Cert.UpWeightReferenceIdeal.nD Cert.UpWeightReferenceIdeal.τ).loc Cert.UpWeightReferenceIdeal.main_arg0)
      ∧ r.2.mem ((c.tc : Thread Cert.UpWeightReferenceIdeal.nD Cert.UpWeightReferenceIdeal.τ).loc Cert.UpWeightReferenceIdeal.main_arg1) = m ((c.tc : Thread Cert.UpWeightReferenceIdeal.nD Cert.UpWeightReferenceIdeal.τ).loc Cert.UpWeightReferenceIdeal.main_arg1))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightReferenceIdeal [hDownWeightReferenceIdeal : Cert.DownWeightReferenceIdeal.Facts] : Prop :=
  ∀ (m : (ℓ : Loc Cert.DownWeightReferenceIdeal.nD Cert.DownWeightReferenceIdeal.τ Cert.DownWeightReferenceIdeal.sig) → Buf (Elt Ideal) ℓ) (g : Dev Cert.DownWeightReferenceIdeal.nD → PrngReg), Pre_DownWeightReferenceIdeal m →
    θ_run (Cert.DownWeightReferenceIdeal.defs (F := Ideal)) (onTc (τ := Cert.DownWeightReferenceIdeal.τ) (Cert.DownWeightReferenceIdeal.main (F := Ideal))) ⟨m, fun _ => 0, g⟩ (fun r => (∀ c : Dev Cert.DownWeightReferenceIdeal.nD,
      r.2.mem ((c.tc : Thread Cert.DownWeightReferenceIdeal.nD Cert.DownWeightReferenceIdeal.τ).loc Cert.DownWeightReferenceIdeal.main_arg0) = m ((c.tc : Thread Cert.DownWeightReferenceIdeal.nD Cert.DownWeightReferenceIdeal.τ).loc Cert.DownWeightReferenceIdeal.main_arg0)
      ∧ r.2.mem ((c.tc : Thread Cert.DownWeightReferenceIdeal.nD Cert.DownWeightReferenceIdeal.τ).loc Cert.DownWeightReferenceIdeal.main_arg1) = m ((c.tc : Thread Cert.DownWeightReferenceIdeal.nD Cert.DownWeightReferenceIdeal.τ).loc Cert.DownWeightReferenceIdeal.main_arg1))
      ∧ r.2.sem = fun _ => 0)

def quiescent_DownInput [hDownInput : Cert.DownInput.Facts] : Prop :=
  ∀ (m : (ℓ : Loc Cert.DownInput.nD Cert.DownInput.τ Cert.DownInput.sig) → Buf (Elt Bits) ℓ) (g : Dev Cert.DownInput.nD → PrngReg), Pre_DownInput m →
    θ_run (Cert.DownInput.defs (F := Bits)) (onTc (τ := Cert.DownInput.τ) (Cert.DownInput.main (F := Bits))) ⟨m, fun _ => 0, g⟩ (fun r => (∀ c : Dev Cert.DownInput.nD,
      r.2.mem ((c.tc : Thread Cert.DownInput.nD Cert.DownInput.τ).loc Cert.DownInput.main_arg0) = m ((c.tc : Thread Cert.DownInput.nD Cert.DownInput.τ).loc Cert.DownInput.main_arg0)
      ∧ r.2.mem ((c.tc : Thread Cert.DownInput.nD Cert.DownInput.τ).loc Cert.DownInput.main_arg1) = m ((c.tc : Thread Cert.DownInput.nD Cert.DownInput.τ).loc Cert.DownInput.main_arg1))
      ∧ r.2.sem = fun _ => 0)

def quiescent_DownInputIdeal [hDownInputIdeal : Cert.DownInputIdeal.Facts] : Prop :=
  ∀ (m : (ℓ : Loc Cert.DownInputIdeal.nD Cert.DownInputIdeal.τ Cert.DownInputIdeal.sig) → Buf (Elt Ideal) ℓ) (g : Dev Cert.DownInputIdeal.nD → PrngReg), Pre_DownInputIdeal m →
    θ_run (Cert.DownInputIdeal.defs (F := Ideal)) (onTc (τ := Cert.DownInputIdeal.τ) (Cert.DownInputIdeal.main (F := Ideal))) ⟨m, fun _ => 0, g⟩ (fun r => (∀ c : Dev Cert.DownInputIdeal.nD,
      r.2.mem ((c.tc : Thread Cert.DownInputIdeal.nD Cert.DownInputIdeal.τ).loc Cert.DownInputIdeal.main_arg0) = m ((c.tc : Thread Cert.DownInputIdeal.nD Cert.DownInputIdeal.τ).loc Cert.DownInputIdeal.main_arg0)
      ∧ r.2.mem ((c.tc : Thread Cert.DownInputIdeal.nD Cert.DownInputIdeal.τ).loc Cert.DownInputIdeal.main_arg1) = m ((c.tc : Thread Cert.DownInputIdeal.nD Cert.DownInputIdeal.τ).loc Cert.DownInputIdeal.main_arg1))
      ∧ r.2.sem = fun _ => 0)

def quiescent_DownInputReferenceIdeal [hDownInputReferenceIdeal : Cert.DownInputReferenceIdeal.Facts] : Prop :=
  ∀ (m : (ℓ : Loc Cert.DownInputReferenceIdeal.nD Cert.DownInputReferenceIdeal.τ Cert.DownInputReferenceIdeal.sig) → Buf (Elt Ideal) ℓ) (g : Dev Cert.DownInputReferenceIdeal.nD → PrngReg), Pre_DownInputReferenceIdeal m →
    θ_run (Cert.DownInputReferenceIdeal.defs (F := Ideal)) (onTc (τ := Cert.DownInputReferenceIdeal.τ) (Cert.DownInputReferenceIdeal.main (F := Ideal))) ⟨m, fun _ => 0, g⟩ (fun r => (∀ c : Dev Cert.DownInputReferenceIdeal.nD,
      r.2.mem ((c.tc : Thread Cert.DownInputReferenceIdeal.nD Cert.DownInputReferenceIdeal.τ).loc Cert.DownInputReferenceIdeal.main_arg0) = m ((c.tc : Thread Cert.DownInputReferenceIdeal.nD Cert.DownInputReferenceIdeal.τ).loc Cert.DownInputReferenceIdeal.main_arg0)
      ∧ r.2.mem ((c.tc : Thread Cert.DownInputReferenceIdeal.nD Cert.DownInputReferenceIdeal.τ).loc Cert.DownInputReferenceIdeal.main_arg1) = m ((c.tc : Thread Cert.DownInputReferenceIdeal.nD Cert.DownInputReferenceIdeal.τ).loc Cert.DownInputReferenceIdeal.main_arg1))
      ∧ r.2.sem = fun _ => 0)

def quiescent_NormInput [hNormInput : Cert.NormInput.Facts] : Prop :=
  ∀ (m : (ℓ : Loc Cert.NormInput.nD Cert.NormInput.τ Cert.NormInput.sig) → Buf (Elt Bits) ℓ) (g : Dev Cert.NormInput.nD → PrngReg), Pre_NormInput m →
    θ_run (Cert.NormInput.defs (F := Bits)) (onTc (τ := Cert.NormInput.τ) (Cert.NormInput.main (F := Bits))) ⟨m, fun _ => 0, g⟩ (fun r => (∀ c : Dev Cert.NormInput.nD,
      r.2.mem ((c.tc : Thread Cert.NormInput.nD Cert.NormInput.τ).loc Cert.NormInput.main_arg0) = m ((c.tc : Thread Cert.NormInput.nD Cert.NormInput.τ).loc Cert.NormInput.main_arg0)
      ∧ r.2.mem ((c.tc : Thread Cert.NormInput.nD Cert.NormInput.τ).loc Cert.NormInput.main_arg1) = m ((c.tc : Thread Cert.NormInput.nD Cert.NormInput.τ).loc Cert.NormInput.main_arg1)
      ∧ r.2.mem ((c.tc : Thread Cert.NormInput.nD Cert.NormInput.τ).loc Cert.NormInput.main_arg2) = m ((c.tc : Thread Cert.NormInput.nD Cert.NormInput.τ).loc Cert.NormInput.main_arg2)
      ∧ r.2.mem ((c.tc : Thread Cert.NormInput.nD Cert.NormInput.τ).loc Cert.NormInput.main_arg3) = m ((c.tc : Thread Cert.NormInput.nD Cert.NormInput.τ).loc Cert.NormInput.main_arg3)
      ∧ r.2.mem ((c.tc : Thread Cert.NormInput.nD Cert.NormInput.τ).loc Cert.NormInput.main_arg4) = m ((c.tc : Thread Cert.NormInput.nD Cert.NormInput.τ).loc Cert.NormInput.main_arg4))
      ∧ r.2.sem = fun _ => 0)

def quiescent_NormInputIdeal [hNormInputIdeal : Cert.NormInputIdeal.Facts] : Prop :=
  ∀ (m : (ℓ : Loc Cert.NormInputIdeal.nD Cert.NormInputIdeal.τ Cert.NormInputIdeal.sig) → Buf (Elt Ideal) ℓ) (g : Dev Cert.NormInputIdeal.nD → PrngReg), Pre_NormInputIdeal m →
    θ_run (Cert.NormInputIdeal.defs (F := Ideal)) (onTc (τ := Cert.NormInputIdeal.τ) (Cert.NormInputIdeal.main (F := Ideal))) ⟨m, fun _ => 0, g⟩ (fun r => (∀ c : Dev Cert.NormInputIdeal.nD,
      r.2.mem ((c.tc : Thread Cert.NormInputIdeal.nD Cert.NormInputIdeal.τ).loc Cert.NormInputIdeal.main_arg0) = m ((c.tc : Thread Cert.NormInputIdeal.nD Cert.NormInputIdeal.τ).loc Cert.NormInputIdeal.main_arg0)
      ∧ r.2.mem ((c.tc : Thread Cert.NormInputIdeal.nD Cert.NormInputIdeal.τ).loc Cert.NormInputIdeal.main_arg1) = m ((c.tc : Thread Cert.NormInputIdeal.nD Cert.NormInputIdeal.τ).loc Cert.NormInputIdeal.main_arg1)
      ∧ r.2.mem ((c.tc : Thread Cert.NormInputIdeal.nD Cert.NormInputIdeal.τ).loc Cert.NormInputIdeal.main_arg2) = m ((c.tc : Thread Cert.NormInputIdeal.nD Cert.NormInputIdeal.τ).loc Cert.NormInputIdeal.main_arg2)
      ∧ r.2.mem ((c.tc : Thread Cert.NormInputIdeal.nD Cert.NormInputIdeal.τ).loc Cert.NormInputIdeal.main_arg3) = m ((c.tc : Thread Cert.NormInputIdeal.nD Cert.NormInputIdeal.τ).loc Cert.NormInputIdeal.main_arg3)
      ∧ r.2.mem ((c.tc : Thread Cert.NormInputIdeal.nD Cert.NormInputIdeal.τ).loc Cert.NormInputIdeal.main_arg4) = m ((c.tc : Thread Cert.NormInputIdeal.nD Cert.NormInputIdeal.τ).loc Cert.NormInputIdeal.main_arg4))
      ∧ r.2.sem = fun _ => 0)

def quiescent_NormInputIdeal_pre_finite_norm [hNormInputIdeal : Cert.NormInputIdeal.Facts] [hPre_finite_norm : Cert.Pre_finite_norm.Facts] : Prop :=
  ∀ (m : (ℓ : Loc Cert.NormInputIdeal.nD Cert.NormInputIdeal.τ Cert.NormInputIdeal.sig) → Buf (Elt Ideal) ℓ) (g : Dev Cert.NormInputIdeal.nD → PrngReg), Pre_NormInputIdeal_finite_norm m →
    θ_run (Cert.NormInputIdeal.defs (F := Ideal)) (onTc (τ := Cert.NormInputIdeal.τ) (Cert.NormInputIdeal.main (F := Ideal))) ⟨m, fun _ => 0, g⟩ (fun r => (∀ c : Dev Cert.NormInputIdeal.nD,
      r.2.mem ((c.tc : Thread Cert.NormInputIdeal.nD Cert.NormInputIdeal.τ).loc Cert.NormInputIdeal.main_arg0) = m ((c.tc : Thread Cert.NormInputIdeal.nD Cert.NormInputIdeal.τ).loc Cert.NormInputIdeal.main_arg0)
      ∧ r.2.mem ((c.tc : Thread Cert.NormInputIdeal.nD Cert.NormInputIdeal.τ).loc Cert.NormInputIdeal.main_arg1) = m ((c.tc : Thread Cert.NormInputIdeal.nD Cert.NormInputIdeal.τ).loc Cert.NormInputIdeal.main_arg1)
      ∧ r.2.mem ((c.tc : Thread Cert.NormInputIdeal.nD Cert.NormInputIdeal.τ).loc Cert.NormInputIdeal.main_arg2) = m ((c.tc : Thread Cert.NormInputIdeal.nD Cert.NormInputIdeal.τ).loc Cert.NormInputIdeal.main_arg2)
      ∧ r.2.mem ((c.tc : Thread Cert.NormInputIdeal.nD Cert.NormInputIdeal.τ).loc Cert.NormInputIdeal.main_arg3) = m ((c.tc : Thread Cert.NormInputIdeal.nD Cert.NormInputIdeal.τ).loc Cert.NormInputIdeal.main_arg3)
      ∧ r.2.mem ((c.tc : Thread Cert.NormInputIdeal.nD Cert.NormInputIdeal.τ).loc Cert.NormInputIdeal.main_arg4) = m ((c.tc : Thread Cert.NormInputIdeal.nD Cert.NormInputIdeal.τ).loc Cert.NormInputIdeal.main_arg4))
      ∧ r.2.sem = fun _ => 0)

def quiescent_NormInputReferenceIdeal [hNormInputReferenceIdeal : Cert.NormInputReferenceIdeal.Facts] : Prop :=
  ∀ (m : (ℓ : Loc Cert.NormInputReferenceIdeal.nD Cert.NormInputReferenceIdeal.τ Cert.NormInputReferenceIdeal.sig) → Buf (Elt Ideal) ℓ) (g : Dev Cert.NormInputReferenceIdeal.nD → PrngReg), Pre_NormInputReferenceIdeal m →
    θ_run (Cert.NormInputReferenceIdeal.defs (F := Ideal)) (onTc (τ := Cert.NormInputReferenceIdeal.τ) (Cert.NormInputReferenceIdeal.main (F := Ideal))) ⟨m, fun _ => 0, g⟩ (fun r => (∀ c : Dev Cert.NormInputReferenceIdeal.nD,
      r.2.mem ((c.tc : Thread Cert.NormInputReferenceIdeal.nD Cert.NormInputReferenceIdeal.τ).loc Cert.NormInputReferenceIdeal.main_arg0) = m ((c.tc : Thread Cert.NormInputReferenceIdeal.nD Cert.NormInputReferenceIdeal.τ).loc Cert.NormInputReferenceIdeal.main_arg0)
      ∧ r.2.mem ((c.tc : Thread Cert.NormInputReferenceIdeal.nD Cert.NormInputReferenceIdeal.τ).loc Cert.NormInputReferenceIdeal.main_arg1) = m ((c.tc : Thread Cert.NormInputReferenceIdeal.nD Cert.NormInputReferenceIdeal.τ).loc Cert.NormInputReferenceIdeal.main_arg1)
      ∧ r.2.mem ((c.tc : Thread Cert.NormInputReferenceIdeal.nD Cert.NormInputReferenceIdeal.τ).loc Cert.NormInputReferenceIdeal.main_arg2) = m ((c.tc : Thread Cert.NormInputReferenceIdeal.nD Cert.NormInputReferenceIdeal.τ).loc Cert.NormInputReferenceIdeal.main_arg2)
      ∧ r.2.mem ((c.tc : Thread Cert.NormInputReferenceIdeal.nD Cert.NormInputReferenceIdeal.τ).loc Cert.NormInputReferenceIdeal.main_arg3) = m ((c.tc : Thread Cert.NormInputReferenceIdeal.nD Cert.NormInputReferenceIdeal.τ).loc Cert.NormInputReferenceIdeal.main_arg3)
      ∧ r.2.mem ((c.tc : Thread Cert.NormInputReferenceIdeal.nD Cert.NormInputReferenceIdeal.τ).loc Cert.NormInputReferenceIdeal.main_arg4) = m ((c.tc : Thread Cert.NormInputReferenceIdeal.nD Cert.NormInputReferenceIdeal.τ).loc Cert.NormInputReferenceIdeal.main_arg4))
      ∧ r.2.sem = fun _ => 0)

def quiescent_NormInputReferenceIdeal_pre_finite_norm [hNormInputReferenceIdeal : Cert.NormInputReferenceIdeal.Facts] [hPre_finite_norm : Cert.Pre_finite_norm.Facts] : Prop :=
  ∀ (m : (ℓ : Loc Cert.NormInputReferenceIdeal.nD Cert.NormInputReferenceIdeal.τ Cert.NormInputReferenceIdeal.sig) → Buf (Elt Ideal) ℓ) (g : Dev Cert.NormInputReferenceIdeal.nD → PrngReg), Pre_NormInputReferenceIdeal_finite_norm m →
    θ_run (Cert.NormInputReferenceIdeal.defs (F := Ideal)) (onTc (τ := Cert.NormInputReferenceIdeal.τ) (Cert.NormInputReferenceIdeal.main (F := Ideal))) ⟨m, fun _ => 0, g⟩ (fun r => (∀ c : Dev Cert.NormInputReferenceIdeal.nD,
      r.2.mem ((c.tc : Thread Cert.NormInputReferenceIdeal.nD Cert.NormInputReferenceIdeal.τ).loc Cert.NormInputReferenceIdeal.main_arg0) = m ((c.tc : Thread Cert.NormInputReferenceIdeal.nD Cert.NormInputReferenceIdeal.τ).loc Cert.NormInputReferenceIdeal.main_arg0)
      ∧ r.2.mem ((c.tc : Thread Cert.NormInputReferenceIdeal.nD Cert.NormInputReferenceIdeal.τ).loc Cert.NormInputReferenceIdeal.main_arg1) = m ((c.tc : Thread Cert.NormInputReferenceIdeal.nD Cert.NormInputReferenceIdeal.τ).loc Cert.NormInputReferenceIdeal.main_arg1)
      ∧ r.2.mem ((c.tc : Thread Cert.NormInputReferenceIdeal.nD Cert.NormInputReferenceIdeal.τ).loc Cert.NormInputReferenceIdeal.main_arg2) = m ((c.tc : Thread Cert.NormInputReferenceIdeal.nD Cert.NormInputReferenceIdeal.τ).loc Cert.NormInputReferenceIdeal.main_arg2)
      ∧ r.2.mem ((c.tc : Thread Cert.NormInputReferenceIdeal.nD Cert.NormInputReferenceIdeal.τ).loc Cert.NormInputReferenceIdeal.main_arg3) = m ((c.tc : Thread Cert.NormInputReferenceIdeal.nD Cert.NormInputReferenceIdeal.τ).loc Cert.NormInputReferenceIdeal.main_arg3)
      ∧ r.2.mem ((c.tc : Thread Cert.NormInputReferenceIdeal.nD Cert.NormInputReferenceIdeal.τ).loc Cert.NormInputReferenceIdeal.main_arg4) = m ((c.tc : Thread Cert.NormInputReferenceIdeal.nD Cert.NormInputReferenceIdeal.τ).loc Cert.NormInputReferenceIdeal.main_arg4))
      ∧ r.2.sem = fun _ => 0)

def quiescent_SquareWeight [hSquareWeight : Cert.SquareWeight.Facts] : Prop :=
  ∀ (m : (ℓ : Loc Cert.SquareWeight.nD Cert.SquareWeight.τ Cert.SquareWeight.sig) → Buf (Elt Bits) ℓ) (g : Dev Cert.SquareWeight.nD → PrngReg), Pre_SquareWeight m →
    θ_run (Cert.SquareWeight.defs (F := Bits)) (onTc (τ := Cert.SquareWeight.τ) (Cert.SquareWeight.main (F := Bits))) ⟨m, fun _ => 0, g⟩ (fun r => (∀ c : Dev Cert.SquareWeight.nD,
      r.2.mem ((c.tc : Thread Cert.SquareWeight.nD Cert.SquareWeight.τ).loc Cert.SquareWeight.main_arg0) = m ((c.tc : Thread Cert.SquareWeight.nD Cert.SquareWeight.τ).loc Cert.SquareWeight.main_arg0)
      ∧ r.2.mem ((c.tc : Thread Cert.SquareWeight.nD Cert.SquareWeight.τ).loc Cert.SquareWeight.main_arg1) = m ((c.tc : Thread Cert.SquareWeight.nD Cert.SquareWeight.τ).loc Cert.SquareWeight.main_arg1))
      ∧ r.2.sem = fun _ => 0)

def quiescent_SquareWeightIdeal [hSquareWeightIdeal : Cert.SquareWeightIdeal.Facts] : Prop :=
  ∀ (m : (ℓ : Loc Cert.SquareWeightIdeal.nD Cert.SquareWeightIdeal.τ Cert.SquareWeightIdeal.sig) → Buf (Elt Ideal) ℓ) (g : Dev Cert.SquareWeightIdeal.nD → PrngReg), Pre_SquareWeightIdeal m →
    θ_run (Cert.SquareWeightIdeal.defs (F := Ideal)) (onTc (τ := Cert.SquareWeightIdeal.τ) (Cert.SquareWeightIdeal.main (F := Ideal))) ⟨m, fun _ => 0, g⟩ (fun r => (∀ c : Dev Cert.SquareWeightIdeal.nD,
      r.2.mem ((c.tc : Thread Cert.SquareWeightIdeal.nD Cert.SquareWeightIdeal.τ).loc Cert.SquareWeightIdeal.main_arg0) = m ((c.tc : Thread Cert.SquareWeightIdeal.nD Cert.SquareWeightIdeal.τ).loc Cert.SquareWeightIdeal.main_arg0)
      ∧ r.2.mem ((c.tc : Thread Cert.SquareWeightIdeal.nD Cert.SquareWeightIdeal.τ).loc Cert.SquareWeightIdeal.main_arg1) = m ((c.tc : Thread Cert.SquareWeightIdeal.nD Cert.SquareWeightIdeal.τ).loc Cert.SquareWeightIdeal.main_arg1))
      ∧ r.2.sem = fun _ => 0)

def quiescent_SquareWeightReferenceIdeal [hSquareWeightReferenceIdeal : Cert.SquareWeightReferenceIdeal.Facts] : Prop :=
  ∀ (m : (ℓ : Loc Cert.SquareWeightReferenceIdeal.nD Cert.SquareWeightReferenceIdeal.τ Cert.SquareWeightReferenceIdeal.sig) → Buf (Elt Ideal) ℓ) (g : Dev Cert.SquareWeightReferenceIdeal.nD → PrngReg), Pre_SquareWeightReferenceIdeal m →
    θ_run (Cert.SquareWeightReferenceIdeal.defs (F := Ideal)) (onTc (τ := Cert.SquareWeightReferenceIdeal.τ) (Cert.SquareWeightReferenceIdeal.main (F := Ideal))) ⟨m, fun _ => 0, g⟩ (fun r => (∀ c : Dev Cert.SquareWeightReferenceIdeal.nD,
      r.2.mem ((c.tc : Thread Cert.SquareWeightReferenceIdeal.nD Cert.SquareWeightReferenceIdeal.τ).loc Cert.SquareWeightReferenceIdeal.main_arg0) = m ((c.tc : Thread Cert.SquareWeightReferenceIdeal.nD Cert.SquareWeightReferenceIdeal.τ).loc Cert.SquareWeightReferenceIdeal.main_arg0)
      ∧ r.2.mem ((c.tc : Thread Cert.SquareWeightReferenceIdeal.nD Cert.SquareWeightReferenceIdeal.τ).loc Cert.SquareWeightReferenceIdeal.main_arg1) = m ((c.tc : Thread Cert.SquareWeightReferenceIdeal.nD Cert.SquareWeightReferenceIdeal.τ).loc Cert.SquareWeightReferenceIdeal.main_arg1))
      ∧ r.2.sem = fun _ => 0)

def quiescent_SquareInput [hSquareInput : Cert.SquareInput.Facts] : Prop :=
  ∀ (m : (ℓ : Loc Cert.SquareInput.nD Cert.SquareInput.τ Cert.SquareInput.sig) → Buf (Elt Bits) ℓ) (g : Dev Cert.SquareInput.nD → PrngReg), Pre_SquareInput m →
    θ_run (Cert.SquareInput.defs (F := Bits)) (onTc (τ := Cert.SquareInput.τ) (Cert.SquareInput.main (F := Bits))) ⟨m, fun _ => 0, g⟩ (fun r => (∀ c : Dev Cert.SquareInput.nD,
      r.2.mem ((c.tc : Thread Cert.SquareInput.nD Cert.SquareInput.τ).loc Cert.SquareInput.main_arg0) = m ((c.tc : Thread Cert.SquareInput.nD Cert.SquareInput.τ).loc Cert.SquareInput.main_arg0)
      ∧ r.2.mem ((c.tc : Thread Cert.SquareInput.nD Cert.SquareInput.τ).loc Cert.SquareInput.main_arg1) = m ((c.tc : Thread Cert.SquareInput.nD Cert.SquareInput.τ).loc Cert.SquareInput.main_arg1))
      ∧ r.2.sem = fun _ => 0)

def quiescent_SquareInputIdeal [hSquareInputIdeal : Cert.SquareInputIdeal.Facts] : Prop :=
  ∀ (m : (ℓ : Loc Cert.SquareInputIdeal.nD Cert.SquareInputIdeal.τ Cert.SquareInputIdeal.sig) → Buf (Elt Ideal) ℓ) (g : Dev Cert.SquareInputIdeal.nD → PrngReg), Pre_SquareInputIdeal m →
    θ_run (Cert.SquareInputIdeal.defs (F := Ideal)) (onTc (τ := Cert.SquareInputIdeal.τ) (Cert.SquareInputIdeal.main (F := Ideal))) ⟨m, fun _ => 0, g⟩ (fun r => (∀ c : Dev Cert.SquareInputIdeal.nD,
      r.2.mem ((c.tc : Thread Cert.SquareInputIdeal.nD Cert.SquareInputIdeal.τ).loc Cert.SquareInputIdeal.main_arg0) = m ((c.tc : Thread Cert.SquareInputIdeal.nD Cert.SquareInputIdeal.τ).loc Cert.SquareInputIdeal.main_arg0)
      ∧ r.2.mem ((c.tc : Thread Cert.SquareInputIdeal.nD Cert.SquareInputIdeal.τ).loc Cert.SquareInputIdeal.main_arg1) = m ((c.tc : Thread Cert.SquareInputIdeal.nD Cert.SquareInputIdeal.τ).loc Cert.SquareInputIdeal.main_arg1))
      ∧ r.2.sem = fun _ => 0)

def quiescent_SquareInputReferenceIdeal [hSquareInputReferenceIdeal : Cert.SquareInputReferenceIdeal.Facts] : Prop :=
  ∀ (m : (ℓ : Loc Cert.SquareInputReferenceIdeal.nD Cert.SquareInputReferenceIdeal.τ Cert.SquareInputReferenceIdeal.sig) → Buf (Elt Ideal) ℓ) (g : Dev Cert.SquareInputReferenceIdeal.nD → PrngReg), Pre_SquareInputReferenceIdeal m →
    θ_run (Cert.SquareInputReferenceIdeal.defs (F := Ideal)) (onTc (τ := Cert.SquareInputReferenceIdeal.τ) (Cert.SquareInputReferenceIdeal.main (F := Ideal))) ⟨m, fun _ => 0, g⟩ (fun r => (∀ c : Dev Cert.SquareInputReferenceIdeal.nD,
      r.2.mem ((c.tc : Thread Cert.SquareInputReferenceIdeal.nD Cert.SquareInputReferenceIdeal.τ).loc Cert.SquareInputReferenceIdeal.main_arg0) = m ((c.tc : Thread Cert.SquareInputReferenceIdeal.nD Cert.SquareInputReferenceIdeal.τ).loc Cert.SquareInputReferenceIdeal.main_arg0)
      ∧ r.2.mem ((c.tc : Thread Cert.SquareInputReferenceIdeal.nD Cert.SquareInputReferenceIdeal.τ).loc Cert.SquareInputReferenceIdeal.main_arg1) = m ((c.tc : Thread Cert.SquareInputReferenceIdeal.nD Cert.SquareInputReferenceIdeal.τ).loc Cert.SquareInputReferenceIdeal.main_arg1))
      ∧ r.2.sem = fun _ => 0)

def quiescent_WindowWeight [hWindowWeight : Cert.WindowWeight.Facts] : Prop :=
  ∀ (m : (ℓ : Loc Cert.WindowWeight.nD Cert.WindowWeight.τ Cert.WindowWeight.sig) → Buf (Elt Bits) ℓ) (g : Dev Cert.WindowWeight.nD → PrngReg), Pre_WindowWeight m →
    θ_run (Cert.WindowWeight.defs (F := Bits)) (onTc (τ := Cert.WindowWeight.τ) (Cert.WindowWeight.main (F := Bits))) ⟨m, fun _ => 0, g⟩ (fun r => (∀ c : Dev Cert.WindowWeight.nD,
      r.2.mem ((c.tc : Thread Cert.WindowWeight.nD Cert.WindowWeight.τ).loc Cert.WindowWeight.main_arg0) = m ((c.tc : Thread Cert.WindowWeight.nD Cert.WindowWeight.τ).loc Cert.WindowWeight.main_arg0)
      ∧ r.2.mem ((c.tc : Thread Cert.WindowWeight.nD Cert.WindowWeight.τ).loc Cert.WindowWeight.main_arg1) = m ((c.tc : Thread Cert.WindowWeight.nD Cert.WindowWeight.τ).loc Cert.WindowWeight.main_arg1))
      ∧ r.2.sem = fun _ => 0)

def quiescent_WindowWeightIdeal [hWindowWeightIdeal : Cert.WindowWeightIdeal.Facts] : Prop :=
  ∀ (m : (ℓ : Loc Cert.WindowWeightIdeal.nD Cert.WindowWeightIdeal.τ Cert.WindowWeightIdeal.sig) → Buf (Elt Ideal) ℓ) (g : Dev Cert.WindowWeightIdeal.nD → PrngReg), Pre_WindowWeightIdeal m →
    θ_run (Cert.WindowWeightIdeal.defs (F := Ideal)) (onTc (τ := Cert.WindowWeightIdeal.τ) (Cert.WindowWeightIdeal.main (F := Ideal))) ⟨m, fun _ => 0, g⟩ (fun r => (∀ c : Dev Cert.WindowWeightIdeal.nD,
      r.2.mem ((c.tc : Thread Cert.WindowWeightIdeal.nD Cert.WindowWeightIdeal.τ).loc Cert.WindowWeightIdeal.main_arg0) = m ((c.tc : Thread Cert.WindowWeightIdeal.nD Cert.WindowWeightIdeal.τ).loc Cert.WindowWeightIdeal.main_arg0)
      ∧ r.2.mem ((c.tc : Thread Cert.WindowWeightIdeal.nD Cert.WindowWeightIdeal.τ).loc Cert.WindowWeightIdeal.main_arg1) = m ((c.tc : Thread Cert.WindowWeightIdeal.nD Cert.WindowWeightIdeal.τ).loc Cert.WindowWeightIdeal.main_arg1))
      ∧ r.2.sem = fun _ => 0)

def quiescent_WindowWeightReferenceIdeal [hWindowWeightReferenceIdeal : Cert.WindowWeightReferenceIdeal.Facts] : Prop :=
  ∀ (m : (ℓ : Loc Cert.WindowWeightReferenceIdeal.nD Cert.WindowWeightReferenceIdeal.τ Cert.WindowWeightReferenceIdeal.sig) → Buf (Elt Ideal) ℓ) (g : Dev Cert.WindowWeightReferenceIdeal.nD → PrngReg), Pre_WindowWeightReferenceIdeal m →
    θ_run (Cert.WindowWeightReferenceIdeal.defs (F := Ideal)) (onTc (τ := Cert.WindowWeightReferenceIdeal.τ) (Cert.WindowWeightReferenceIdeal.main (F := Ideal))) ⟨m, fun _ => 0, g⟩ (fun r => (∀ c : Dev Cert.WindowWeightReferenceIdeal.nD,
      r.2.mem ((c.tc : Thread Cert.WindowWeightReferenceIdeal.nD Cert.WindowWeightReferenceIdeal.τ).loc Cert.WindowWeightReferenceIdeal.main_arg0) = m ((c.tc : Thread Cert.WindowWeightReferenceIdeal.nD Cert.WindowWeightReferenceIdeal.τ).loc Cert.WindowWeightReferenceIdeal.main_arg0)
      ∧ r.2.mem ((c.tc : Thread Cert.WindowWeightReferenceIdeal.nD Cert.WindowWeightReferenceIdeal.τ).loc Cert.WindowWeightReferenceIdeal.main_arg1) = m ((c.tc : Thread Cert.WindowWeightReferenceIdeal.nD Cert.WindowWeightReferenceIdeal.τ).loc Cert.WindowWeightReferenceIdeal.main_arg1))
      ∧ r.2.sem = fun _ => 0)

def quiescent_RecurrenceWeight [hRecurrenceWeight : Cert.RecurrenceWeight.Facts] : Prop :=
  ∀ (m : (ℓ : Loc Cert.RecurrenceWeight.nD Cert.RecurrenceWeight.τ Cert.RecurrenceWeight.sig) → Buf (Elt Bits) ℓ) (g : Dev Cert.RecurrenceWeight.nD → PrngReg), Pre_RecurrenceWeight m →
    θ_run (Cert.RecurrenceWeight.defs (F := Bits)) (onTc (τ := Cert.RecurrenceWeight.τ) (Cert.RecurrenceWeight.main (F := Bits))) ⟨m, fun _ => 0, g⟩ (fun r => (∀ c : Dev Cert.RecurrenceWeight.nD,
      r.2.mem ((c.tc : Thread Cert.RecurrenceWeight.nD Cert.RecurrenceWeight.τ).loc Cert.RecurrenceWeight.main_arg0) = m ((c.tc : Thread Cert.RecurrenceWeight.nD Cert.RecurrenceWeight.τ).loc Cert.RecurrenceWeight.main_arg0)
      ∧ r.2.mem ((c.tc : Thread Cert.RecurrenceWeight.nD Cert.RecurrenceWeight.τ).loc Cert.RecurrenceWeight.main_arg1) = m ((c.tc : Thread Cert.RecurrenceWeight.nD Cert.RecurrenceWeight.τ).loc Cert.RecurrenceWeight.main_arg1))
      ∧ r.2.sem = fun _ => 0)

def quiescent_RecurrenceWeightIdeal [hRecurrenceWeightIdeal : Cert.RecurrenceWeightIdeal.Facts] : Prop :=
  ∀ (m : (ℓ : Loc Cert.RecurrenceWeightIdeal.nD Cert.RecurrenceWeightIdeal.τ Cert.RecurrenceWeightIdeal.sig) → Buf (Elt Ideal) ℓ) (g : Dev Cert.RecurrenceWeightIdeal.nD → PrngReg), Pre_RecurrenceWeightIdeal m →
    θ_run (Cert.RecurrenceWeightIdeal.defs (F := Ideal)) (onTc (τ := Cert.RecurrenceWeightIdeal.τ) (Cert.RecurrenceWeightIdeal.main (F := Ideal))) ⟨m, fun _ => 0, g⟩ (fun r => (∀ c : Dev Cert.RecurrenceWeightIdeal.nD,
      r.2.mem ((c.tc : Thread Cert.RecurrenceWeightIdeal.nD Cert.RecurrenceWeightIdeal.τ).loc Cert.RecurrenceWeightIdeal.main_arg0) = m ((c.tc : Thread Cert.RecurrenceWeightIdeal.nD Cert.RecurrenceWeightIdeal.τ).loc Cert.RecurrenceWeightIdeal.main_arg0)
      ∧ r.2.mem ((c.tc : Thread Cert.RecurrenceWeightIdeal.nD Cert.RecurrenceWeightIdeal.τ).loc Cert.RecurrenceWeightIdeal.main_arg1) = m ((c.tc : Thread Cert.RecurrenceWeightIdeal.nD Cert.RecurrenceWeightIdeal.τ).loc Cert.RecurrenceWeightIdeal.main_arg1))
      ∧ r.2.sem = fun _ => 0)

def quiescent_RecurrenceWeightReferenceIdeal [hRecurrenceWeightReferenceIdeal : Cert.RecurrenceWeightReferenceIdeal.Facts] : Prop :=
  ∀ (m : (ℓ : Loc Cert.RecurrenceWeightReferenceIdeal.nD Cert.RecurrenceWeightReferenceIdeal.τ Cert.RecurrenceWeightReferenceIdeal.sig) → Buf (Elt Ideal) ℓ) (g : Dev Cert.RecurrenceWeightReferenceIdeal.nD → PrngReg), Pre_RecurrenceWeightReferenceIdeal m →
    θ_run (Cert.RecurrenceWeightReferenceIdeal.defs (F := Ideal)) (onTc (τ := Cert.RecurrenceWeightReferenceIdeal.τ) (Cert.RecurrenceWeightReferenceIdeal.main (F := Ideal))) ⟨m, fun _ => 0, g⟩ (fun r => (∀ c : Dev Cert.RecurrenceWeightReferenceIdeal.nD,
      r.2.mem ((c.tc : Thread Cert.RecurrenceWeightReferenceIdeal.nD Cert.RecurrenceWeightReferenceIdeal.τ).loc Cert.RecurrenceWeightReferenceIdeal.main_arg0) = m ((c.tc : Thread Cert.RecurrenceWeightReferenceIdeal.nD Cert.RecurrenceWeightReferenceIdeal.τ).loc Cert.RecurrenceWeightReferenceIdeal.main_arg0)
      ∧ r.2.mem ((c.tc : Thread Cert.RecurrenceWeightReferenceIdeal.nD Cert.RecurrenceWeightReferenceIdeal.τ).loc Cert.RecurrenceWeightReferenceIdeal.main_arg1) = m ((c.tc : Thread Cert.RecurrenceWeightReferenceIdeal.nD Cert.RecurrenceWeightReferenceIdeal.τ).loc Cert.RecurrenceWeightReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_NormQuery [hNormQuery : Cert.NormQuery.Facts] : Prop :=
  ∀ (m : (ℓ : Loc Cert.NormQuery.nD Cert.NormQuery.τ Cert.NormQuery.sig) → Buf (Elt Bits) ℓ) (g : Dev Cert.NormQuery.nD → PrngReg), Pre_NormQuery m →
    θ_run (Cert.NormQuery.defs (F := Bits)) (onTc (τ := Cert.NormQuery.τ) (Cert.NormQuery.main (F := Bits))) ⟨m, fun _ => 0, g⟩ (fun r => (∀ c : Dev Cert.NormQuery.nD,
      r.2.mem ((c.tc : Thread Cert.NormQuery.nD Cert.NormQuery.τ).loc Cert.NormQuery.main_arg0) = m ((c.tc : Thread Cert.NormQuery.nD Cert.NormQuery.τ).loc Cert.NormQuery.main_arg0)
      ∧ r.2.mem ((c.tc : Thread Cert.NormQuery.nD Cert.NormQuery.τ).loc Cert.NormQuery.main_arg1) = m ((c.tc : Thread Cert.NormQuery.nD Cert.NormQuery.τ).loc Cert.NormQuery.main_arg1)
      ∧ r.2.mem ((c.tc : Thread Cert.NormQuery.nD Cert.NormQuery.τ).loc Cert.NormQuery.main_arg2) = m ((c.tc : Thread Cert.NormQuery.nD Cert.NormQuery.τ).loc Cert.NormQuery.main_arg2)
      ∧ r.2.mem ((c.tc : Thread Cert.NormQuery.nD Cert.NormQuery.τ).loc Cert.NormQuery.main_arg3) = m ((c.tc : Thread Cert.NormQuery.nD Cert.NormQuery.τ).loc Cert.NormQuery.main_arg3)
      ∧ r.2.mem ((c.tc : Thread Cert.NormQuery.nD Cert.NormQuery.τ).loc Cert.NormQuery.main_arg4) = m ((c.tc : Thread Cert.NormQuery.nD Cert.NormQuery.τ).loc Cert.NormQuery.main_arg4))
      ∧ r.2.sem = fun _ => 0)

def quiescent_NormQueryIdeal [hNormQueryIdeal : Cert.NormQueryIdeal.Facts] : Prop :=
  ∀ (m : (ℓ : Loc Cert.NormQueryIdeal.nD Cert.NormQueryIdeal.τ Cert.NormQueryIdeal.sig) → Buf (Elt Ideal) ℓ) (g : Dev Cert.NormQueryIdeal.nD → PrngReg), Pre_NormQueryIdeal m →
    θ_run (Cert.NormQueryIdeal.defs (F := Ideal)) (onTc (τ := Cert.NormQueryIdeal.τ) (Cert.NormQueryIdeal.main (F := Ideal))) ⟨m, fun _ => 0, g⟩ (fun r => (∀ c : Dev Cert.NormQueryIdeal.nD,
      r.2.mem ((c.tc : Thread Cert.NormQueryIdeal.nD Cert.NormQueryIdeal.τ).loc Cert.NormQueryIdeal.main_arg0) = m ((c.tc : Thread Cert.NormQueryIdeal.nD Cert.NormQueryIdeal.τ).loc Cert.NormQueryIdeal.main_arg0)
      ∧ r.2.mem ((c.tc : Thread Cert.NormQueryIdeal.nD Cert.NormQueryIdeal.τ).loc Cert.NormQueryIdeal.main_arg1) = m ((c.tc : Thread Cert.NormQueryIdeal.nD Cert.NormQueryIdeal.τ).loc Cert.NormQueryIdeal.main_arg1)
      ∧ r.2.mem ((c.tc : Thread Cert.NormQueryIdeal.nD Cert.NormQueryIdeal.τ).loc Cert.NormQueryIdeal.main_arg2) = m ((c.tc : Thread Cert.NormQueryIdeal.nD Cert.NormQueryIdeal.τ).loc Cert.NormQueryIdeal.main_arg2)
      ∧ r.2.mem ((c.tc : Thread Cert.NormQueryIdeal.nD Cert.NormQueryIdeal.τ).loc Cert.NormQueryIdeal.main_arg3) = m ((c.tc : Thread Cert.NormQueryIdeal.nD Cert.NormQueryIdeal.τ).loc Cert.NormQueryIdeal.main_arg3)
      ∧ r.2.mem ((c.tc : Thread Cert.NormQueryIdeal.nD Cert.NormQueryIdeal.τ).loc Cert.NormQueryIdeal.main_arg4) = m ((c.tc : Thread Cert.NormQueryIdeal.nD Cert.NormQueryIdeal.τ).loc Cert.NormQueryIdeal.main_arg4))
      ∧ r.2.sem = fun _ => 0)

def quiescent_NormQueryIdeal_pre_finite_query [hNormQueryIdeal : Cert.NormQueryIdeal.Facts] [hPre_finite_query : Cert.Pre_finite_query.Facts] : Prop :=
  ∀ (m : (ℓ : Loc Cert.NormQueryIdeal.nD Cert.NormQueryIdeal.τ Cert.NormQueryIdeal.sig) → Buf (Elt Ideal) ℓ) (g : Dev Cert.NormQueryIdeal.nD → PrngReg), Pre_NormQueryIdeal_finite_query m →
    θ_run (Cert.NormQueryIdeal.defs (F := Ideal)) (onTc (τ := Cert.NormQueryIdeal.τ) (Cert.NormQueryIdeal.main (F := Ideal))) ⟨m, fun _ => 0, g⟩ (fun r => (∀ c : Dev Cert.NormQueryIdeal.nD,
      r.2.mem ((c.tc : Thread Cert.NormQueryIdeal.nD Cert.NormQueryIdeal.τ).loc Cert.NormQueryIdeal.main_arg0) = m ((c.tc : Thread Cert.NormQueryIdeal.nD Cert.NormQueryIdeal.τ).loc Cert.NormQueryIdeal.main_arg0)
      ∧ r.2.mem ((c.tc : Thread Cert.NormQueryIdeal.nD Cert.NormQueryIdeal.τ).loc Cert.NormQueryIdeal.main_arg1) = m ((c.tc : Thread Cert.NormQueryIdeal.nD Cert.NormQueryIdeal.τ).loc Cert.NormQueryIdeal.main_arg1)
      ∧ r.2.mem ((c.tc : Thread Cert.NormQueryIdeal.nD Cert.NormQueryIdeal.τ).loc Cert.NormQueryIdeal.main_arg2) = m ((c.tc : Thread Cert.NormQueryIdeal.nD Cert.NormQueryIdeal.τ).loc Cert.NormQueryIdeal.main_arg2)
      ∧ r.2.mem ((c.tc : Thread Cert.NormQueryIdeal.nD Cert.NormQueryIdeal.τ).loc Cert.NormQueryIdeal.main_arg3) = m ((c.tc : Thread Cert.NormQueryIdeal.nD Cert.NormQueryIdeal.τ).loc Cert.NormQueryIdeal.main_arg3)
      ∧ r.2.mem ((c.tc : Thread Cert.NormQueryIdeal.nD Cert.NormQueryIdeal.τ).loc Cert.NormQueryIdeal.main_arg4) = m ((c.tc : Thread Cert.NormQueryIdeal.nD Cert.NormQueryIdeal.τ).loc Cert.NormQueryIdeal.main_arg4))
      ∧ r.2.sem = fun _ => 0)

def quiescent_NormQueryReferenceIdeal [hNormQueryReferenceIdeal : Cert.NormQueryReferenceIdeal.Facts] : Prop :=
  ∀ (m : (ℓ : Loc Cert.NormQueryReferenceIdeal.nD Cert.NormQueryReferenceIdeal.τ Cert.NormQueryReferenceIdeal.sig) → Buf (Elt Ideal) ℓ) (g : Dev Cert.NormQueryReferenceIdeal.nD → PrngReg), Pre_NormQueryReferenceIdeal m →
    θ_run (Cert.NormQueryReferenceIdeal.defs (F := Ideal)) (onTc (τ := Cert.NormQueryReferenceIdeal.τ) (Cert.NormQueryReferenceIdeal.main (F := Ideal))) ⟨m, fun _ => 0, g⟩ (fun r => (∀ c : Dev Cert.NormQueryReferenceIdeal.nD,
      r.2.mem ((c.tc : Thread Cert.NormQueryReferenceIdeal.nD Cert.NormQueryReferenceIdeal.τ).loc Cert.NormQueryReferenceIdeal.main_arg0) = m ((c.tc : Thread Cert.NormQueryReferenceIdeal.nD Cert.NormQueryReferenceIdeal.τ).loc Cert.NormQueryReferenceIdeal.main_arg0)
      ∧ r.2.mem ((c.tc : Thread Cert.NormQueryReferenceIdeal.nD Cert.NormQueryReferenceIdeal.τ).loc Cert.NormQueryReferenceIdeal.main_arg1) = m ((c.tc : Thread Cert.NormQueryReferenceIdeal.nD Cert.NormQueryReferenceIdeal.τ).loc Cert.NormQueryReferenceIdeal.main_arg1)
      ∧ r.2.mem ((c.tc : Thread Cert.NormQueryReferenceIdeal.nD Cert.NormQueryReferenceIdeal.τ).loc Cert.NormQueryReferenceIdeal.main_arg2) = m ((c.tc : Thread Cert.NormQueryReferenceIdeal.nD Cert.NormQueryReferenceIdeal.τ).loc Cert.NormQueryReferenceIdeal.main_arg2)
      ∧ r.2.mem ((c.tc : Thread Cert.NormQueryReferenceIdeal.nD Cert.NormQueryReferenceIdeal.τ).loc Cert.NormQueryReferenceIdeal.main_arg3) = m ((c.tc : Thread Cert.NormQueryReferenceIdeal.nD Cert.NormQueryReferenceIdeal.τ).loc Cert.NormQueryReferenceIdeal.main_arg3)
      ∧ r.2.mem ((c.tc : Thread Cert.NormQueryReferenceIdeal.nD Cert.NormQueryReferenceIdeal.τ).loc Cert.NormQueryReferenceIdeal.main_arg4) = m ((c.tc : Thread Cert.NormQueryReferenceIdeal.nD Cert.NormQueryReferenceIdeal.τ).loc Cert.NormQueryReferenceIdeal.main_arg4))
      ∧ r.2.sem = fun _ => 0)

def quiescent_NormQueryReferenceIdeal_pre_finite_query [hNormQueryReferenceIdeal : Cert.NormQueryReferenceIdeal.Facts] [hPre_finite_query : Cert.Pre_finite_query.Facts] : Prop :=
  ∀ (m : (ℓ : Loc Cert.NormQueryReferenceIdeal.nD Cert.NormQueryReferenceIdeal.τ Cert.NormQueryReferenceIdeal.sig) → Buf (Elt Ideal) ℓ) (g : Dev Cert.NormQueryReferenceIdeal.nD → PrngReg), Pre_NormQueryReferenceIdeal_finite_query m →
    θ_run (Cert.NormQueryReferenceIdeal.defs (F := Ideal)) (onTc (τ := Cert.NormQueryReferenceIdeal.τ) (Cert.NormQueryReferenceIdeal.main (F := Ideal))) ⟨m, fun _ => 0, g⟩ (fun r => (∀ c : Dev Cert.NormQueryReferenceIdeal.nD,
      r.2.mem ((c.tc : Thread Cert.NormQueryReferenceIdeal.nD Cert.NormQueryReferenceIdeal.τ).loc Cert.NormQueryReferenceIdeal.main_arg0) = m ((c.tc : Thread Cert.NormQueryReferenceIdeal.nD Cert.NormQueryReferenceIdeal.τ).loc Cert.NormQueryReferenceIdeal.main_arg0)
      ∧ r.2.mem ((c.tc : Thread Cert.NormQueryReferenceIdeal.nD Cert.NormQueryReferenceIdeal.τ).loc Cert.NormQueryReferenceIdeal.main_arg1) = m ((c.tc : Thread Cert.NormQueryReferenceIdeal.nD Cert.NormQueryReferenceIdeal.τ).loc Cert.NormQueryReferenceIdeal.main_arg1)
      ∧ r.2.mem ((c.tc : Thread Cert.NormQueryReferenceIdeal.nD Cert.NormQueryReferenceIdeal.τ).loc Cert.NormQueryReferenceIdeal.main_arg2) = m ((c.tc : Thread Cert.NormQueryReferenceIdeal.nD Cert.NormQueryReferenceIdeal.τ).loc Cert.NormQueryReferenceIdeal.main_arg2)
      ∧ r.2.mem ((c.tc : Thread Cert.NormQueryReferenceIdeal.nD Cert.NormQueryReferenceIdeal.τ).loc Cert.NormQueryReferenceIdeal.main_arg3) = m ((c.tc : Thread Cert.NormQueryReferenceIdeal.nD Cert.NormQueryReferenceIdeal.τ).loc Cert.NormQueryReferenceIdeal.main_arg3)
      ∧ r.2.mem ((c.tc : Thread Cert.NormQueryReferenceIdeal.nD Cert.NormQueryReferenceIdeal.τ).loc Cert.NormQueryReferenceIdeal.main_arg4) = m ((c.tc : Thread Cert.NormQueryReferenceIdeal.nD Cert.NormQueryReferenceIdeal.τ).loc Cert.NormQueryReferenceIdeal.main_arg4))
      ∧ r.2.sem = fun _ => 0)

def quiescent_NormRecurrence [hNormRecurrence : Cert.NormRecurrence.Facts] : Prop :=
  ∀ (m : (ℓ : Loc Cert.NormRecurrence.nD Cert.NormRecurrence.τ Cert.NormRecurrence.sig) → Buf (Elt Bits) ℓ) (g : Dev Cert.NormRecurrence.nD → PrngReg), Pre_NormRecurrence m →
    θ_run (Cert.NormRecurrence.defs (F := Bits)) (onTc (τ := Cert.NormRecurrence.τ) (Cert.NormRecurrence.main (F := Bits))) ⟨m, fun _ => 0, g⟩ (fun r => (∀ c : Dev Cert.NormRecurrence.nD,
      r.2.mem ((c.tc : Thread Cert.NormRecurrence.nD Cert.NormRecurrence.τ).loc Cert.NormRecurrence.main_arg0) = m ((c.tc : Thread Cert.NormRecurrence.nD Cert.NormRecurrence.τ).loc Cert.NormRecurrence.main_arg0)
      ∧ r.2.mem ((c.tc : Thread Cert.NormRecurrence.nD Cert.NormRecurrence.τ).loc Cert.NormRecurrence.main_arg1) = m ((c.tc : Thread Cert.NormRecurrence.nD Cert.NormRecurrence.τ).loc Cert.NormRecurrence.main_arg1)
      ∧ r.2.mem ((c.tc : Thread Cert.NormRecurrence.nD Cert.NormRecurrence.τ).loc Cert.NormRecurrence.main_arg2) = m ((c.tc : Thread Cert.NormRecurrence.nD Cert.NormRecurrence.τ).loc Cert.NormRecurrence.main_arg2)
      ∧ r.2.mem ((c.tc : Thread Cert.NormRecurrence.nD Cert.NormRecurrence.τ).loc Cert.NormRecurrence.main_arg3) = m ((c.tc : Thread Cert.NormRecurrence.nD Cert.NormRecurrence.τ).loc Cert.NormRecurrence.main_arg3)
      ∧ r.2.mem ((c.tc : Thread Cert.NormRecurrence.nD Cert.NormRecurrence.τ).loc Cert.NormRecurrence.main_arg4) = m ((c.tc : Thread Cert.NormRecurrence.nD Cert.NormRecurrence.τ).loc Cert.NormRecurrence.main_arg4))
      ∧ r.2.sem = fun _ => 0)

def quiescent_NormRecurrenceIdeal [hNormRecurrenceIdeal : Cert.NormRecurrenceIdeal.Facts] : Prop :=
  ∀ (m : (ℓ : Loc Cert.NormRecurrenceIdeal.nD Cert.NormRecurrenceIdeal.τ Cert.NormRecurrenceIdeal.sig) → Buf (Elt Ideal) ℓ) (g : Dev Cert.NormRecurrenceIdeal.nD → PrngReg), Pre_NormRecurrenceIdeal m →
    θ_run (Cert.NormRecurrenceIdeal.defs (F := Ideal)) (onTc (τ := Cert.NormRecurrenceIdeal.τ) (Cert.NormRecurrenceIdeal.main (F := Ideal))) ⟨m, fun _ => 0, g⟩ (fun r => (∀ c : Dev Cert.NormRecurrenceIdeal.nD,
      r.2.mem ((c.tc : Thread Cert.NormRecurrenceIdeal.nD Cert.NormRecurrenceIdeal.τ).loc Cert.NormRecurrenceIdeal.main_arg0) = m ((c.tc : Thread Cert.NormRecurrenceIdeal.nD Cert.NormRecurrenceIdeal.τ).loc Cert.NormRecurrenceIdeal.main_arg0)
      ∧ r.2.mem ((c.tc : Thread Cert.NormRecurrenceIdeal.nD Cert.NormRecurrenceIdeal.τ).loc Cert.NormRecurrenceIdeal.main_arg1) = m ((c.tc : Thread Cert.NormRecurrenceIdeal.nD Cert.NormRecurrenceIdeal.τ).loc Cert.NormRecurrenceIdeal.main_arg1)
      ∧ r.2.mem ((c.tc : Thread Cert.NormRecurrenceIdeal.nD Cert.NormRecurrenceIdeal.τ).loc Cert.NormRecurrenceIdeal.main_arg2) = m ((c.tc : Thread Cert.NormRecurrenceIdeal.nD Cert.NormRecurrenceIdeal.τ).loc Cert.NormRecurrenceIdeal.main_arg2)
      ∧ r.2.mem ((c.tc : Thread Cert.NormRecurrenceIdeal.nD Cert.NormRecurrenceIdeal.τ).loc Cert.NormRecurrenceIdeal.main_arg3) = m ((c.tc : Thread Cert.NormRecurrenceIdeal.nD Cert.NormRecurrenceIdeal.τ).loc Cert.NormRecurrenceIdeal.main_arg3)
      ∧ r.2.mem ((c.tc : Thread Cert.NormRecurrenceIdeal.nD Cert.NormRecurrenceIdeal.τ).loc Cert.NormRecurrenceIdeal.main_arg4) = m ((c.tc : Thread Cert.NormRecurrenceIdeal.nD Cert.NormRecurrenceIdeal.τ).loc Cert.NormRecurrenceIdeal.main_arg4))
      ∧ r.2.sem = fun _ => 0)

def quiescent_NormRecurrenceIdeal_pre_finite_recurrence [hNormRecurrenceIdeal : Cert.NormRecurrenceIdeal.Facts] [hPre_finite_recurrence : Cert.Pre_finite_recurrence.Facts] : Prop :=
  ∀ (m : (ℓ : Loc Cert.NormRecurrenceIdeal.nD Cert.NormRecurrenceIdeal.τ Cert.NormRecurrenceIdeal.sig) → Buf (Elt Ideal) ℓ) (g : Dev Cert.NormRecurrenceIdeal.nD → PrngReg), Pre_NormRecurrenceIdeal_finite_recurrence m →
    θ_run (Cert.NormRecurrenceIdeal.defs (F := Ideal)) (onTc (τ := Cert.NormRecurrenceIdeal.τ) (Cert.NormRecurrenceIdeal.main (F := Ideal))) ⟨m, fun _ => 0, g⟩ (fun r => (∀ c : Dev Cert.NormRecurrenceIdeal.nD,
      r.2.mem ((c.tc : Thread Cert.NormRecurrenceIdeal.nD Cert.NormRecurrenceIdeal.τ).loc Cert.NormRecurrenceIdeal.main_arg0) = m ((c.tc : Thread Cert.NormRecurrenceIdeal.nD Cert.NormRecurrenceIdeal.τ).loc Cert.NormRecurrenceIdeal.main_arg0)
      ∧ r.2.mem ((c.tc : Thread Cert.NormRecurrenceIdeal.nD Cert.NormRecurrenceIdeal.τ).loc Cert.NormRecurrenceIdeal.main_arg1) = m ((c.tc : Thread Cert.NormRecurrenceIdeal.nD Cert.NormRecurrenceIdeal.τ).loc Cert.NormRecurrenceIdeal.main_arg1)
      ∧ r.2.mem ((c.tc : Thread Cert.NormRecurrenceIdeal.nD Cert.NormRecurrenceIdeal.τ).loc Cert.NormRecurrenceIdeal.main_arg2) = m ((c.tc : Thread Cert.NormRecurrenceIdeal.nD Cert.NormRecurrenceIdeal.τ).loc Cert.NormRecurrenceIdeal.main_arg2)
      ∧ r.2.mem ((c.tc : Thread Cert.NormRecurrenceIdeal.nD Cert.NormRecurrenceIdeal.τ).loc Cert.NormRecurrenceIdeal.main_arg3) = m ((c.tc : Thread Cert.NormRecurrenceIdeal.nD Cert.NormRecurrenceIdeal.τ).loc Cert.NormRecurrenceIdeal.main_arg3)
      ∧ r.2.mem ((c.tc : Thread Cert.NormRecurrenceIdeal.nD Cert.NormRecurrenceIdeal.τ).loc Cert.NormRecurrenceIdeal.main_arg4) = m ((c.tc : Thread Cert.NormRecurrenceIdeal.nD Cert.NormRecurrenceIdeal.τ).loc Cert.NormRecurrenceIdeal.main_arg4))
      ∧ r.2.sem = fun _ => 0)

def quiescent_NormRecurrenceReferenceIdeal [hNormRecurrenceReferenceIdeal : Cert.NormRecurrenceReferenceIdeal.Facts] : Prop :=
  ∀ (m : (ℓ : Loc Cert.NormRecurrenceReferenceIdeal.nD Cert.NormRecurrenceReferenceIdeal.τ Cert.NormRecurrenceReferenceIdeal.sig) → Buf (Elt Ideal) ℓ) (g : Dev Cert.NormRecurrenceReferenceIdeal.nD → PrngReg), Pre_NormRecurrenceReferenceIdeal m →
    θ_run (Cert.NormRecurrenceReferenceIdeal.defs (F := Ideal)) (onTc (τ := Cert.NormRecurrenceReferenceIdeal.τ) (Cert.NormRecurrenceReferenceIdeal.main (F := Ideal))) ⟨m, fun _ => 0, g⟩ (fun r => (∀ c : Dev Cert.NormRecurrenceReferenceIdeal.nD,
      r.2.mem ((c.tc : Thread Cert.NormRecurrenceReferenceIdeal.nD Cert.NormRecurrenceReferenceIdeal.τ).loc Cert.NormRecurrenceReferenceIdeal.main_arg0) = m ((c.tc : Thread Cert.NormRecurrenceReferenceIdeal.nD Cert.NormRecurrenceReferenceIdeal.τ).loc Cert.NormRecurrenceReferenceIdeal.main_arg0)
      ∧ r.2.mem ((c.tc : Thread Cert.NormRecurrenceReferenceIdeal.nD Cert.NormRecurrenceReferenceIdeal.τ).loc Cert.NormRecurrenceReferenceIdeal.main_arg1) = m ((c.tc : Thread Cert.NormRecurrenceReferenceIdeal.nD Cert.NormRecurrenceReferenceIdeal.τ).loc Cert.NormRecurrenceReferenceIdeal.main_arg1)
      ∧ r.2.mem ((c.tc : Thread Cert.NormRecurrenceReferenceIdeal.nD Cert.NormRecurrenceReferenceIdeal.τ).loc Cert.NormRecurrenceReferenceIdeal.main_arg2) = m ((c.tc : Thread Cert.NormRecurrenceReferenceIdeal.nD Cert.NormRecurrenceReferenceIdeal.τ).loc Cert.NormRecurrenceReferenceIdeal.main_arg2)
      ∧ r.2.mem ((c.tc : Thread Cert.NormRecurrenceReferenceIdeal.nD Cert.NormRecurrenceReferenceIdeal.τ).loc Cert.NormRecurrenceReferenceIdeal.main_arg3) = m ((c.tc : Thread Cert.NormRecurrenceReferenceIdeal.nD Cert.NormRecurrenceReferenceIdeal.τ).loc Cert.NormRecurrenceReferenceIdeal.main_arg3)
      ∧ r.2.mem ((c.tc : Thread Cert.NormRecurrenceReferenceIdeal.nD Cert.NormRecurrenceReferenceIdeal.τ).loc Cert.NormRecurrenceReferenceIdeal.main_arg4) = m ((c.tc : Thread Cert.NormRecurrenceReferenceIdeal.nD Cert.NormRecurrenceReferenceIdeal.τ).loc Cert.NormRecurrenceReferenceIdeal.main_arg4))
      ∧ r.2.sem = fun _ => 0)

def quiescent_NormRecurrenceReferenceIdeal_pre_finite_recurrence [hNormRecurrenceReferenceIdeal : Cert.NormRecurrenceReferenceIdeal.Facts] [hPre_finite_recurrence : Cert.Pre_finite_recurrence.Facts] : Prop :=
  ∀ (m : (ℓ : Loc Cert.NormRecurrenceReferenceIdeal.nD Cert.NormRecurrenceReferenceIdeal.τ Cert.NormRecurrenceReferenceIdeal.sig) → Buf (Elt Ideal) ℓ) (g : Dev Cert.NormRecurrenceReferenceIdeal.nD → PrngReg), Pre_NormRecurrenceReferenceIdeal_finite_recurrence m →
    θ_run (Cert.NormRecurrenceReferenceIdeal.defs (F := Ideal)) (onTc (τ := Cert.NormRecurrenceReferenceIdeal.τ) (Cert.NormRecurrenceReferenceIdeal.main (F := Ideal))) ⟨m, fun _ => 0, g⟩ (fun r => (∀ c : Dev Cert.NormRecurrenceReferenceIdeal.nD,
      r.2.mem ((c.tc : Thread Cert.NormRecurrenceReferenceIdeal.nD Cert.NormRecurrenceReferenceIdeal.τ).loc Cert.NormRecurrenceReferenceIdeal.main_arg0) = m ((c.tc : Thread Cert.NormRecurrenceReferenceIdeal.nD Cert.NormRecurrenceReferenceIdeal.τ).loc Cert.NormRecurrenceReferenceIdeal.main_arg0)
      ∧ r.2.mem ((c.tc : Thread Cert.NormRecurrenceReferenceIdeal.nD Cert.NormRecurrenceReferenceIdeal.τ).loc Cert.NormRecurrenceReferenceIdeal.main_arg1) = m ((c.tc : Thread Cert.NormRecurrenceReferenceIdeal.nD Cert.NormRecurrenceReferenceIdeal.τ).loc Cert.NormRecurrenceReferenceIdeal.main_arg1)
      ∧ r.2.mem ((c.tc : Thread Cert.NormRecurrenceReferenceIdeal.nD Cert.NormRecurrenceReferenceIdeal.τ).loc Cert.NormRecurrenceReferenceIdeal.main_arg2) = m ((c.tc : Thread Cert.NormRecurrenceReferenceIdeal.nD Cert.NormRecurrenceReferenceIdeal.τ).loc Cert.NormRecurrenceReferenceIdeal.main_arg2)
      ∧ r.2.mem ((c.tc : Thread Cert.NormRecurrenceReferenceIdeal.nD Cert.NormRecurrenceReferenceIdeal.τ).loc Cert.NormRecurrenceReferenceIdeal.main_arg3) = m ((c.tc : Thread Cert.NormRecurrenceReferenceIdeal.nD Cert.NormRecurrenceReferenceIdeal.τ).loc Cert.NormRecurrenceReferenceIdeal.main_arg3)
      ∧ r.2.mem ((c.tc : Thread Cert.NormRecurrenceReferenceIdeal.nD Cert.NormRecurrenceReferenceIdeal.τ).loc Cert.NormRecurrenceReferenceIdeal.main_arg4) = m ((c.tc : Thread Cert.NormRecurrenceReferenceIdeal.nD Cert.NormRecurrenceReferenceIdeal.τ).loc Cert.NormRecurrenceReferenceIdeal.main_arg4))
      ∧ r.2.sem = fun _ => 0)

def quiescent_NormLatent [hNormLatent : Cert.NormLatent.Facts] : Prop :=
  ∀ (m : (ℓ : Loc Cert.NormLatent.nD Cert.NormLatent.τ Cert.NormLatent.sig) → Buf (Elt Bits) ℓ) (g : Dev Cert.NormLatent.nD → PrngReg), Pre_NormLatent m →
    θ_run (Cert.NormLatent.defs (F := Bits)) (onTc (τ := Cert.NormLatent.τ) (Cert.NormLatent.main (F := Bits))) ⟨m, fun _ => 0, g⟩ (fun r => (∀ c : Dev Cert.NormLatent.nD,
      r.2.mem ((c.tc : Thread Cert.NormLatent.nD Cert.NormLatent.τ).loc Cert.NormLatent.main_arg0) = m ((c.tc : Thread Cert.NormLatent.nD Cert.NormLatent.τ).loc Cert.NormLatent.main_arg0)
      ∧ r.2.mem ((c.tc : Thread Cert.NormLatent.nD Cert.NormLatent.τ).loc Cert.NormLatent.main_arg1) = m ((c.tc : Thread Cert.NormLatent.nD Cert.NormLatent.τ).loc Cert.NormLatent.main_arg1)
      ∧ r.2.mem ((c.tc : Thread Cert.NormLatent.nD Cert.NormLatent.τ).loc Cert.NormLatent.main_arg2) = m ((c.tc : Thread Cert.NormLatent.nD Cert.NormLatent.τ).loc Cert.NormLatent.main_arg2)
      ∧ r.2.mem ((c.tc : Thread Cert.NormLatent.nD Cert.NormLatent.τ).loc Cert.NormLatent.main_arg3) = m ((c.tc : Thread Cert.NormLatent.nD Cert.NormLatent.τ).loc Cert.NormLatent.main_arg3)
      ∧ r.2.mem ((c.tc : Thread Cert.NormLatent.nD Cert.NormLatent.τ).loc Cert.NormLatent.main_arg4) = m ((c.tc : Thread Cert.NormLatent.nD Cert.NormLatent.τ).loc Cert.NormLatent.main_arg4))
      ∧ r.2.sem = fun _ => 0)

def quiescent_NormLatentIdeal [hNormLatentIdeal : Cert.NormLatentIdeal.Facts] : Prop :=
  ∀ (m : (ℓ : Loc Cert.NormLatentIdeal.nD Cert.NormLatentIdeal.τ Cert.NormLatentIdeal.sig) → Buf (Elt Ideal) ℓ) (g : Dev Cert.NormLatentIdeal.nD → PrngReg), Pre_NormLatentIdeal m →
    θ_run (Cert.NormLatentIdeal.defs (F := Ideal)) (onTc (τ := Cert.NormLatentIdeal.τ) (Cert.NormLatentIdeal.main (F := Ideal))) ⟨m, fun _ => 0, g⟩ (fun r => (∀ c : Dev Cert.NormLatentIdeal.nD,
      r.2.mem ((c.tc : Thread Cert.NormLatentIdeal.nD Cert.NormLatentIdeal.τ).loc Cert.NormLatentIdeal.main_arg0) = m ((c.tc : Thread Cert.NormLatentIdeal.nD Cert.NormLatentIdeal.τ).loc Cert.NormLatentIdeal.main_arg0)
      ∧ r.2.mem ((c.tc : Thread Cert.NormLatentIdeal.nD Cert.NormLatentIdeal.τ).loc Cert.NormLatentIdeal.main_arg1) = m ((c.tc : Thread Cert.NormLatentIdeal.nD Cert.NormLatentIdeal.τ).loc Cert.NormLatentIdeal.main_arg1)
      ∧ r.2.mem ((c.tc : Thread Cert.NormLatentIdeal.nD Cert.NormLatentIdeal.τ).loc Cert.NormLatentIdeal.main_arg2) = m ((c.tc : Thread Cert.NormLatentIdeal.nD Cert.NormLatentIdeal.τ).loc Cert.NormLatentIdeal.main_arg2)
      ∧ r.2.mem ((c.tc : Thread Cert.NormLatentIdeal.nD Cert.NormLatentIdeal.τ).loc Cert.NormLatentIdeal.main_arg3) = m ((c.tc : Thread Cert.NormLatentIdeal.nD Cert.NormLatentIdeal.τ).loc Cert.NormLatentIdeal.main_arg3)
      ∧ r.2.mem ((c.tc : Thread Cert.NormLatentIdeal.nD Cert.NormLatentIdeal.τ).loc Cert.NormLatentIdeal.main_arg4) = m ((c.tc : Thread Cert.NormLatentIdeal.nD Cert.NormLatentIdeal.τ).loc Cert.NormLatentIdeal.main_arg4))
      ∧ r.2.sem = fun _ => 0)

def quiescent_NormLatentIdeal_pre_finite_latent [hNormLatentIdeal : Cert.NormLatentIdeal.Facts] [hPre_finite_latent : Cert.Pre_finite_latent.Facts] : Prop :=
  ∀ (m : (ℓ : Loc Cert.NormLatentIdeal.nD Cert.NormLatentIdeal.τ Cert.NormLatentIdeal.sig) → Buf (Elt Ideal) ℓ) (g : Dev Cert.NormLatentIdeal.nD → PrngReg), Pre_NormLatentIdeal_finite_latent m →
    θ_run (Cert.NormLatentIdeal.defs (F := Ideal)) (onTc (τ := Cert.NormLatentIdeal.τ) (Cert.NormLatentIdeal.main (F := Ideal))) ⟨m, fun _ => 0, g⟩ (fun r => (∀ c : Dev Cert.NormLatentIdeal.nD,
      r.2.mem ((c.tc : Thread Cert.NormLatentIdeal.nD Cert.NormLatentIdeal.τ).loc Cert.NormLatentIdeal.main_arg0) = m ((c.tc : Thread Cert.NormLatentIdeal.nD Cert.NormLatentIdeal.τ).loc Cert.NormLatentIdeal.main_arg0)
      ∧ r.2.mem ((c.tc : Thread Cert.NormLatentIdeal.nD Cert.NormLatentIdeal.τ).loc Cert.NormLatentIdeal.main_arg1) = m ((c.tc : Thread Cert.NormLatentIdeal.nD Cert.NormLatentIdeal.τ).loc Cert.NormLatentIdeal.main_arg1)
      ∧ r.2.mem ((c.tc : Thread Cert.NormLatentIdeal.nD Cert.NormLatentIdeal.τ).loc Cert.NormLatentIdeal.main_arg2) = m ((c.tc : Thread Cert.NormLatentIdeal.nD Cert.NormLatentIdeal.τ).loc Cert.NormLatentIdeal.main_arg2)
      ∧ r.2.mem ((c.tc : Thread Cert.NormLatentIdeal.nD Cert.NormLatentIdeal.τ).loc Cert.NormLatentIdeal.main_arg3) = m ((c.tc : Thread Cert.NormLatentIdeal.nD Cert.NormLatentIdeal.τ).loc Cert.NormLatentIdeal.main_arg3)
      ∧ r.2.mem ((c.tc : Thread Cert.NormLatentIdeal.nD Cert.NormLatentIdeal.τ).loc Cert.NormLatentIdeal.main_arg4) = m ((c.tc : Thread Cert.NormLatentIdeal.nD Cert.NormLatentIdeal.τ).loc Cert.NormLatentIdeal.main_arg4))
      ∧ r.2.sem = fun _ => 0)

def quiescent_NormLatentReferenceIdeal [hNormLatentReferenceIdeal : Cert.NormLatentReferenceIdeal.Facts] : Prop :=
  ∀ (m : (ℓ : Loc Cert.NormLatentReferenceIdeal.nD Cert.NormLatentReferenceIdeal.τ Cert.NormLatentReferenceIdeal.sig) → Buf (Elt Ideal) ℓ) (g : Dev Cert.NormLatentReferenceIdeal.nD → PrngReg), Pre_NormLatentReferenceIdeal m →
    θ_run (Cert.NormLatentReferenceIdeal.defs (F := Ideal)) (onTc (τ := Cert.NormLatentReferenceIdeal.τ) (Cert.NormLatentReferenceIdeal.main (F := Ideal))) ⟨m, fun _ => 0, g⟩ (fun r => (∀ c : Dev Cert.NormLatentReferenceIdeal.nD,
      r.2.mem ((c.tc : Thread Cert.NormLatentReferenceIdeal.nD Cert.NormLatentReferenceIdeal.τ).loc Cert.NormLatentReferenceIdeal.main_arg0) = m ((c.tc : Thread Cert.NormLatentReferenceIdeal.nD Cert.NormLatentReferenceIdeal.τ).loc Cert.NormLatentReferenceIdeal.main_arg0)
      ∧ r.2.mem ((c.tc : Thread Cert.NormLatentReferenceIdeal.nD Cert.NormLatentReferenceIdeal.τ).loc Cert.NormLatentReferenceIdeal.main_arg1) = m ((c.tc : Thread Cert.NormLatentReferenceIdeal.nD Cert.NormLatentReferenceIdeal.τ).loc Cert.NormLatentReferenceIdeal.main_arg1)
      ∧ r.2.mem ((c.tc : Thread Cert.NormLatentReferenceIdeal.nD Cert.NormLatentReferenceIdeal.τ).loc Cert.NormLatentReferenceIdeal.main_arg2) = m ((c.tc : Thread Cert.NormLatentReferenceIdeal.nD Cert.NormLatentReferenceIdeal.τ).loc Cert.NormLatentReferenceIdeal.main_arg2)
      ∧ r.2.mem ((c.tc : Thread Cert.NormLatentReferenceIdeal.nD Cert.NormLatentReferenceIdeal.τ).loc Cert.NormLatentReferenceIdeal.main_arg3) = m ((c.tc : Thread Cert.NormLatentReferenceIdeal.nD Cert.NormLatentReferenceIdeal.τ).loc Cert.NormLatentReferenceIdeal.main_arg3)
      ∧ r.2.mem ((c.tc : Thread Cert.NormLatentReferenceIdeal.nD Cert.NormLatentReferenceIdeal.τ).loc Cert.NormLatentReferenceIdeal.main_arg4) = m ((c.tc : Thread Cert.NormLatentReferenceIdeal.nD Cert.NormLatentReferenceIdeal.τ).loc Cert.NormLatentReferenceIdeal.main_arg4))
      ∧ r.2.sem = fun _ => 0)

def quiescent_NormLatentReferenceIdeal_pre_finite_latent [hNormLatentReferenceIdeal : Cert.NormLatentReferenceIdeal.Facts] [hPre_finite_latent : Cert.Pre_finite_latent.Facts] : Prop :=
  ∀ (m : (ℓ : Loc Cert.NormLatentReferenceIdeal.nD Cert.NormLatentReferenceIdeal.τ Cert.NormLatentReferenceIdeal.sig) → Buf (Elt Ideal) ℓ) (g : Dev Cert.NormLatentReferenceIdeal.nD → PrngReg), Pre_NormLatentReferenceIdeal_finite_latent m →
    θ_run (Cert.NormLatentReferenceIdeal.defs (F := Ideal)) (onTc (τ := Cert.NormLatentReferenceIdeal.τ) (Cert.NormLatentReferenceIdeal.main (F := Ideal))) ⟨m, fun _ => 0, g⟩ (fun r => (∀ c : Dev Cert.NormLatentReferenceIdeal.nD,
      r.2.mem ((c.tc : Thread Cert.NormLatentReferenceIdeal.nD Cert.NormLatentReferenceIdeal.τ).loc Cert.NormLatentReferenceIdeal.main_arg0) = m ((c.tc : Thread Cert.NormLatentReferenceIdeal.nD Cert.NormLatentReferenceIdeal.τ).loc Cert.NormLatentReferenceIdeal.main_arg0)
      ∧ r.2.mem ((c.tc : Thread Cert.NormLatentReferenceIdeal.nD Cert.NormLatentReferenceIdeal.τ).loc Cert.NormLatentReferenceIdeal.main_arg1) = m ((c.tc : Thread Cert.NormLatentReferenceIdeal.nD Cert.NormLatentReferenceIdeal.τ).loc Cert.NormLatentReferenceIdeal.main_arg1)
      ∧ r.2.mem ((c.tc : Thread Cert.NormLatentReferenceIdeal.nD Cert.NormLatentReferenceIdeal.τ).loc Cert.NormLatentReferenceIdeal.main_arg2) = m ((c.tc : Thread Cert.NormLatentReferenceIdeal.nD Cert.NormLatentReferenceIdeal.τ).loc Cert.NormLatentReferenceIdeal.main_arg2)
      ∧ r.2.mem ((c.tc : Thread Cert.NormLatentReferenceIdeal.nD Cert.NormLatentReferenceIdeal.τ).loc Cert.NormLatentReferenceIdeal.main_arg3) = m ((c.tc : Thread Cert.NormLatentReferenceIdeal.nD Cert.NormLatentReferenceIdeal.τ).loc Cert.NormLatentReferenceIdeal.main_arg3)
      ∧ r.2.mem ((c.tc : Thread Cert.NormLatentReferenceIdeal.nD Cert.NormLatentReferenceIdeal.τ).loc Cert.NormLatentReferenceIdeal.main_arg4) = m ((c.tc : Thread Cert.NormLatentReferenceIdeal.nD Cert.NormLatentReferenceIdeal.τ).loc Cert.NormLatentReferenceIdeal.main_arg4))
      ∧ r.2.sem = fun _ => 0)

def quiescent_NormWindow [hNormWindow : Cert.NormWindow.Facts] : Prop :=
  ∀ (m : (ℓ : Loc Cert.NormWindow.nD Cert.NormWindow.τ Cert.NormWindow.sig) → Buf (Elt Bits) ℓ) (g : Dev Cert.NormWindow.nD → PrngReg), Pre_NormWindow m →
    θ_run (Cert.NormWindow.defs (F := Bits)) (onTc (τ := Cert.NormWindow.τ) (Cert.NormWindow.main (F := Bits))) ⟨m, fun _ => 0, g⟩ (fun r => (∀ c : Dev Cert.NormWindow.nD,
      r.2.mem ((c.tc : Thread Cert.NormWindow.nD Cert.NormWindow.τ).loc Cert.NormWindow.main_arg0) = m ((c.tc : Thread Cert.NormWindow.nD Cert.NormWindow.τ).loc Cert.NormWindow.main_arg0)
      ∧ r.2.mem ((c.tc : Thread Cert.NormWindow.nD Cert.NormWindow.τ).loc Cert.NormWindow.main_arg1) = m ((c.tc : Thread Cert.NormWindow.nD Cert.NormWindow.τ).loc Cert.NormWindow.main_arg1)
      ∧ r.2.mem ((c.tc : Thread Cert.NormWindow.nD Cert.NormWindow.τ).loc Cert.NormWindow.main_arg2) = m ((c.tc : Thread Cert.NormWindow.nD Cert.NormWindow.τ).loc Cert.NormWindow.main_arg2)
      ∧ r.2.mem ((c.tc : Thread Cert.NormWindow.nD Cert.NormWindow.τ).loc Cert.NormWindow.main_arg3) = m ((c.tc : Thread Cert.NormWindow.nD Cert.NormWindow.τ).loc Cert.NormWindow.main_arg3)
      ∧ r.2.mem ((c.tc : Thread Cert.NormWindow.nD Cert.NormWindow.τ).loc Cert.NormWindow.main_arg4) = m ((c.tc : Thread Cert.NormWindow.nD Cert.NormWindow.τ).loc Cert.NormWindow.main_arg4))
      ∧ r.2.sem = fun _ => 0)

def quiescent_NormWindowIdeal [hNormWindowIdeal : Cert.NormWindowIdeal.Facts] : Prop :=
  ∀ (m : (ℓ : Loc Cert.NormWindowIdeal.nD Cert.NormWindowIdeal.τ Cert.NormWindowIdeal.sig) → Buf (Elt Ideal) ℓ) (g : Dev Cert.NormWindowIdeal.nD → PrngReg), Pre_NormWindowIdeal m →
    θ_run (Cert.NormWindowIdeal.defs (F := Ideal)) (onTc (τ := Cert.NormWindowIdeal.τ) (Cert.NormWindowIdeal.main (F := Ideal))) ⟨m, fun _ => 0, g⟩ (fun r => (∀ c : Dev Cert.NormWindowIdeal.nD,
      r.2.mem ((c.tc : Thread Cert.NormWindowIdeal.nD Cert.NormWindowIdeal.τ).loc Cert.NormWindowIdeal.main_arg0) = m ((c.tc : Thread Cert.NormWindowIdeal.nD Cert.NormWindowIdeal.τ).loc Cert.NormWindowIdeal.main_arg0)
      ∧ r.2.mem ((c.tc : Thread Cert.NormWindowIdeal.nD Cert.NormWindowIdeal.τ).loc Cert.NormWindowIdeal.main_arg1) = m ((c.tc : Thread Cert.NormWindowIdeal.nD Cert.NormWindowIdeal.τ).loc Cert.NormWindowIdeal.main_arg1)
      ∧ r.2.mem ((c.tc : Thread Cert.NormWindowIdeal.nD Cert.NormWindowIdeal.τ).loc Cert.NormWindowIdeal.main_arg2) = m ((c.tc : Thread Cert.NormWindowIdeal.nD Cert.NormWindowIdeal.τ).loc Cert.NormWindowIdeal.main_arg2)
      ∧ r.2.mem ((c.tc : Thread Cert.NormWindowIdeal.nD Cert.NormWindowIdeal.τ).loc Cert.NormWindowIdeal.main_arg3) = m ((c.tc : Thread Cert.NormWindowIdeal.nD Cert.NormWindowIdeal.τ).loc Cert.NormWindowIdeal.main_arg3)
      ∧ r.2.mem ((c.tc : Thread Cert.NormWindowIdeal.nD Cert.NormWindowIdeal.τ).loc Cert.NormWindowIdeal.main_arg4) = m ((c.tc : Thread Cert.NormWindowIdeal.nD Cert.NormWindowIdeal.τ).loc Cert.NormWindowIdeal.main_arg4))
      ∧ r.2.sem = fun _ => 0)

def quiescent_NormWindowIdeal_pre_finite_window [hNormWindowIdeal : Cert.NormWindowIdeal.Facts] [hPre_finite_window : Cert.Pre_finite_window.Facts] : Prop :=
  ∀ (m : (ℓ : Loc Cert.NormWindowIdeal.nD Cert.NormWindowIdeal.τ Cert.NormWindowIdeal.sig) → Buf (Elt Ideal) ℓ) (g : Dev Cert.NormWindowIdeal.nD → PrngReg), Pre_NormWindowIdeal_finite_window m →
    θ_run (Cert.NormWindowIdeal.defs (F := Ideal)) (onTc (τ := Cert.NormWindowIdeal.τ) (Cert.NormWindowIdeal.main (F := Ideal))) ⟨m, fun _ => 0, g⟩ (fun r => (∀ c : Dev Cert.NormWindowIdeal.nD,
      r.2.mem ((c.tc : Thread Cert.NormWindowIdeal.nD Cert.NormWindowIdeal.τ).loc Cert.NormWindowIdeal.main_arg0) = m ((c.tc : Thread Cert.NormWindowIdeal.nD Cert.NormWindowIdeal.τ).loc Cert.NormWindowIdeal.main_arg0)
      ∧ r.2.mem ((c.tc : Thread Cert.NormWindowIdeal.nD Cert.NormWindowIdeal.τ).loc Cert.NormWindowIdeal.main_arg1) = m ((c.tc : Thread Cert.NormWindowIdeal.nD Cert.NormWindowIdeal.τ).loc Cert.NormWindowIdeal.main_arg1)
      ∧ r.2.mem ((c.tc : Thread Cert.NormWindowIdeal.nD Cert.NormWindowIdeal.τ).loc Cert.NormWindowIdeal.main_arg2) = m ((c.tc : Thread Cert.NormWindowIdeal.nD Cert.NormWindowIdeal.τ).loc Cert.NormWindowIdeal.main_arg2)
      ∧ r.2.mem ((c.tc : Thread Cert.NormWindowIdeal.nD Cert.NormWindowIdeal.τ).loc Cert.NormWindowIdeal.main_arg3) = m ((c.tc : Thread Cert.NormWindowIdeal.nD Cert.NormWindowIdeal.τ).loc Cert.NormWindowIdeal.main_arg3)
      ∧ r.2.mem ((c.tc : Thread Cert.NormWindowIdeal.nD Cert.NormWindowIdeal.τ).loc Cert.NormWindowIdeal.main_arg4) = m ((c.tc : Thread Cert.NormWindowIdeal.nD Cert.NormWindowIdeal.τ).loc Cert.NormWindowIdeal.main_arg4))
      ∧ r.2.sem = fun _ => 0)

def quiescent_NormWindowReferenceIdeal [hNormWindowReferenceIdeal : Cert.NormWindowReferenceIdeal.Facts] : Prop :=
  ∀ (m : (ℓ : Loc Cert.NormWindowReferenceIdeal.nD Cert.NormWindowReferenceIdeal.τ Cert.NormWindowReferenceIdeal.sig) → Buf (Elt Ideal) ℓ) (g : Dev Cert.NormWindowReferenceIdeal.nD → PrngReg), Pre_NormWindowReferenceIdeal m →
    θ_run (Cert.NormWindowReferenceIdeal.defs (F := Ideal)) (onTc (τ := Cert.NormWindowReferenceIdeal.τ) (Cert.NormWindowReferenceIdeal.main (F := Ideal))) ⟨m, fun _ => 0, g⟩ (fun r => (∀ c : Dev Cert.NormWindowReferenceIdeal.nD,
      r.2.mem ((c.tc : Thread Cert.NormWindowReferenceIdeal.nD Cert.NormWindowReferenceIdeal.τ).loc Cert.NormWindowReferenceIdeal.main_arg0) = m ((c.tc : Thread Cert.NormWindowReferenceIdeal.nD Cert.NormWindowReferenceIdeal.τ).loc Cert.NormWindowReferenceIdeal.main_arg0)
      ∧ r.2.mem ((c.tc : Thread Cert.NormWindowReferenceIdeal.nD Cert.NormWindowReferenceIdeal.τ).loc Cert.NormWindowReferenceIdeal.main_arg1) = m ((c.tc : Thread Cert.NormWindowReferenceIdeal.nD Cert.NormWindowReferenceIdeal.τ).loc Cert.NormWindowReferenceIdeal.main_arg1)
      ∧ r.2.mem ((c.tc : Thread Cert.NormWindowReferenceIdeal.nD Cert.NormWindowReferenceIdeal.τ).loc Cert.NormWindowReferenceIdeal.main_arg2) = m ((c.tc : Thread Cert.NormWindowReferenceIdeal.nD Cert.NormWindowReferenceIdeal.τ).loc Cert.NormWindowReferenceIdeal.main_arg2)
      ∧ r.2.mem ((c.tc : Thread Cert.NormWindowReferenceIdeal.nD Cert.NormWindowReferenceIdeal.τ).loc Cert.NormWindowReferenceIdeal.main_arg3) = m ((c.tc : Thread Cert.NormWindowReferenceIdeal.nD Cert.NormWindowReferenceIdeal.τ).loc Cert.NormWindowReferenceIdeal.main_arg3)
      ∧ r.2.mem ((c.tc : Thread Cert.NormWindowReferenceIdeal.nD Cert.NormWindowReferenceIdeal.τ).loc Cert.NormWindowReferenceIdeal.main_arg4) = m ((c.tc : Thread Cert.NormWindowReferenceIdeal.nD Cert.NormWindowReferenceIdeal.τ).loc Cert.NormWindowReferenceIdeal.main_arg4))
      ∧ r.2.sem = fun _ => 0)

def quiescent_NormWindowReferenceIdeal_pre_finite_window [hNormWindowReferenceIdeal : Cert.NormWindowReferenceIdeal.Facts] [hPre_finite_window : Cert.Pre_finite_window.Facts] : Prop :=
  ∀ (m : (ℓ : Loc Cert.NormWindowReferenceIdeal.nD Cert.NormWindowReferenceIdeal.τ Cert.NormWindowReferenceIdeal.sig) → Buf (Elt Ideal) ℓ) (g : Dev Cert.NormWindowReferenceIdeal.nD → PrngReg), Pre_NormWindowReferenceIdeal_finite_window m →
    θ_run (Cert.NormWindowReferenceIdeal.defs (F := Ideal)) (onTc (τ := Cert.NormWindowReferenceIdeal.τ) (Cert.NormWindowReferenceIdeal.main (F := Ideal))) ⟨m, fun _ => 0, g⟩ (fun r => (∀ c : Dev Cert.NormWindowReferenceIdeal.nD,
      r.2.mem ((c.tc : Thread Cert.NormWindowReferenceIdeal.nD Cert.NormWindowReferenceIdeal.τ).loc Cert.NormWindowReferenceIdeal.main_arg0) = m ((c.tc : Thread Cert.NormWindowReferenceIdeal.nD Cert.NormWindowReferenceIdeal.τ).loc Cert.NormWindowReferenceIdeal.main_arg0)
      ∧ r.2.mem ((c.tc : Thread Cert.NormWindowReferenceIdeal.nD Cert.NormWindowReferenceIdeal.τ).loc Cert.NormWindowReferenceIdeal.main_arg1) = m ((c.tc : Thread Cert.NormWindowReferenceIdeal.nD Cert.NormWindowReferenceIdeal.τ).loc Cert.NormWindowReferenceIdeal.main_arg1)
      ∧ r.2.mem ((c.tc : Thread Cert.NormWindowReferenceIdeal.nD Cert.NormWindowReferenceIdeal.τ).loc Cert.NormWindowReferenceIdeal.main_arg2) = m ((c.tc : Thread Cert.NormWindowReferenceIdeal.nD Cert.NormWindowReferenceIdeal.τ).loc Cert.NormWindowReferenceIdeal.main_arg2)
      ∧ r.2.mem ((c.tc : Thread Cert.NormWindowReferenceIdeal.nD Cert.NormWindowReferenceIdeal.τ).loc Cert.NormWindowReferenceIdeal.main_arg3) = m ((c.tc : Thread Cert.NormWindowReferenceIdeal.nD Cert.NormWindowReferenceIdeal.τ).loc Cert.NormWindowReferenceIdeal.main_arg3)
      ∧ r.2.mem ((c.tc : Thread Cert.NormWindowReferenceIdeal.nD Cert.NormWindowReferenceIdeal.τ).loc Cert.NormWindowReferenceIdeal.main_arg4) = m ((c.tc : Thread Cert.NormWindowReferenceIdeal.nD Cert.NormWindowReferenceIdeal.τ).loc Cert.NormWindowReferenceIdeal.main_arg4))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ r.2.sem = fun _ => 0)

def quiescent_OutNormReferenceIdeal [hOutNormReferenceIdeal : Cert.OutNormReferenceIdeal.Facts] : Prop :=
  ∀ (m : (ℓ : Loc Cert.OutNormReferenceIdeal.nD Cert.OutNormReferenceIdeal.τ Cert.OutNormReferenceIdeal.sig) → Buf (Elt Ideal) ℓ) (g : Dev Cert.OutNormReferenceIdeal.nD → PrngReg), Pre_OutNormReferenceIdeal m →
    θ_run (Cert.OutNormReferenceIdeal.defs (F := Ideal)) (onTc (τ := Cert.OutNormReferenceIdeal.τ) (Cert.OutNormReferenceIdeal.main (F := Ideal))) ⟨m, fun _ => 0, g⟩ (fun r => (∀ c : Dev Cert.OutNormReferenceIdeal.nD,
      r.2.mem ((c.tc : Thread Cert.OutNormReferenceIdeal.nD Cert.OutNormReferenceIdeal.τ).loc Cert.OutNormReferenceIdeal.main_arg0) = m ((c.tc : Thread Cert.OutNormReferenceIdeal.nD Cert.OutNormReferenceIdeal.τ).loc Cert.OutNormReferenceIdeal.main_arg0)
      ∧ r.2.mem ((c.tc : Thread Cert.OutNormReferenceIdeal.nD Cert.OutNormReferenceIdeal.τ).loc Cert.OutNormReferenceIdeal.main_arg1) = m ((c.tc : Thread Cert.OutNormReferenceIdeal.nD Cert.OutNormReferenceIdeal.τ).loc Cert.OutNormReferenceIdeal.main_arg1)
      ∧ r.2.mem ((c.tc : Thread Cert.OutNormReferenceIdeal.nD Cert.OutNormReferenceIdeal.τ).loc Cert.OutNormReferenceIdeal.main_arg2) = m ((c.tc : Thread Cert.OutNormReferenceIdeal.nD Cert.OutNormReferenceIdeal.τ).loc Cert.OutNormReferenceIdeal.main_arg2)
      ∧ r.2.mem ((c.tc : Thread Cert.OutNormReferenceIdeal.nD Cert.OutNormReferenceIdeal.τ).loc Cert.OutNormReferenceIdeal.main_arg3) = m ((c.tc : Thread Cert.OutNormReferenceIdeal.nD Cert.OutNormReferenceIdeal.τ).loc Cert.OutNormReferenceIdeal.main_arg3)
      ∧ r.2.mem ((c.tc : Thread Cert.OutNormReferenceIdeal.nD Cert.OutNormReferenceIdeal.τ).loc Cert.OutNormReferenceIdeal.main_arg4) = m ((c.tc : Thread Cert.OutNormReferenceIdeal.nD Cert.OutNormReferenceIdeal.τ).loc Cert.OutNormReferenceIdeal.main_arg4))
      ∧ r.2.sem = fun _ => 0)

def quiescent_DownNorm [hDownNorm : Cert.DownNorm.Facts] : Prop :=
  ∀ (m : (ℓ : Loc Cert.DownNorm.nD Cert.DownNorm.τ Cert.DownNorm.sig) → Buf (Elt Bits) ℓ) (g : Dev Cert.DownNorm.nD → PrngReg), Pre_DownNorm m →
    θ_run (Cert.DownNorm.defs (F := Bits)) (onTc (τ := Cert.DownNorm.τ) (Cert.DownNorm.main (F := Bits))) ⟨m, fun _ => 0, g⟩ (fun r => (∀ c : Dev Cert.DownNorm.nD,
      r.2.mem ((c.tc : Thread Cert.DownNorm.nD Cert.DownNorm.τ).loc Cert.DownNorm.main_arg0) = m ((c.tc : Thread Cert.DownNorm.nD Cert.DownNorm.τ).loc Cert.DownNorm.main_arg0)
      ∧ r.2.mem ((c.tc : Thread Cert.DownNorm.nD Cert.DownNorm.τ).loc Cert.DownNorm.main_arg1) = m ((c.tc : Thread Cert.DownNorm.nD Cert.DownNorm.τ).loc Cert.DownNorm.main_arg1)
      ∧ r.2.mem ((c.tc : Thread Cert.DownNorm.nD Cert.DownNorm.τ).loc Cert.DownNorm.main_arg2) = m ((c.tc : Thread Cert.DownNorm.nD Cert.DownNorm.τ).loc Cert.DownNorm.main_arg2)
      ∧ r.2.mem ((c.tc : Thread Cert.DownNorm.nD Cert.DownNorm.τ).loc Cert.DownNorm.main_arg3) = m ((c.tc : Thread Cert.DownNorm.nD Cert.DownNorm.τ).loc Cert.DownNorm.main_arg3)
      ∧ r.2.mem ((c.tc : Thread Cert.DownNorm.nD Cert.DownNorm.τ).loc Cert.DownNorm.main_arg4) = m ((c.tc : Thread Cert.DownNorm.nD Cert.DownNorm.τ).loc Cert.DownNorm.main_arg4))
      ∧ r.2.sem = fun _ => 0)

def quiescent_DownNormIdeal [hDownNormIdeal : Cert.DownNormIdeal.Facts] : Prop :=
  ∀ (m : (ℓ : Loc Cert.DownNormIdeal.nD Cert.DownNormIdeal.τ Cert.DownNormIdeal.sig) → Buf (Elt Ideal) ℓ) (g : Dev Cert.DownNormIdeal.nD → PrngReg), Pre_DownNormIdeal m →
    θ_run (Cert.DownNormIdeal.defs (F := Ideal)) (onTc (τ := Cert.DownNormIdeal.τ) (Cert.DownNormIdeal.main (F := Ideal))) ⟨m, fun _ => 0, g⟩ (fun r => (∀ c : Dev Cert.DownNormIdeal.nD,
      r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
      ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
      ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
      ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3)
      ∧ r.2.mem ((c.tc : Thread Cert.DownNormIdeal.nD Cert.DownNormIdeal.τ).loc Cert.DownNormIdeal.main_arg4) = m ((c.tc : Thread Cert.DownNormIdeal.nD Cert.DownNormIdeal.τ).loc Cert.DownNormIdeal.main_arg4))
      ∧ r.2.sem = fun _ => 0)

def quiescent_DownNormReferenceIdeal [hDownNormReferenceIdeal : Cert.DownNormReferenceIdeal.Facts] : Prop :=
  ∀ (m : (ℓ : Loc Cert.DownNormReferenceIdeal.nD Cert.DownNormReferenceIdeal.τ Cert.DownNormReferenceIdeal.sig) → Buf (Elt Ideal) ℓ) (g : Dev Cert.DownNormReferenceIdeal.nD → PrngReg), Pre_DownNormReferenceIdeal m →
    θ_run (Cert.DownNormReferenceIdeal.defs (F := Ideal)) (onTc (τ := Cert.DownNormReferenceIdeal.τ) (Cert.DownNormReferenceIdeal.main (F := Ideal))) ⟨m, fun _ => 0, g⟩ (fun r => (∀ c : Dev Cert.DownNormReferenceIdeal.nD,
      r.2.mem ((c.tc : Thread Cert.DownNormReferenceIdeal.nD Cert.DownNormReferenceIdeal.τ).loc Cert.DownNormReferenceIdeal.main_arg0) = m ((c.tc : Thread Cert.DownNormReferenceIdeal.nD Cert.DownNormReferenceIdeal.τ).loc Cert.DownNormReferenceIdeal.main_arg0)
      ∧ r.2.mem ((c.tc : Thread Cert.DownNormReferenceIdeal.nD Cert.DownNormReferenceIdeal.τ).loc Cert.DownNormReferenceIdeal.main_arg1) = m ((c.tc : Thread Cert.DownNormReferenceIdeal.nD Cert.DownNormReferenceIdeal.τ).loc Cert.DownNormReferenceIdeal.main_arg1)
      ∧ r.2.mem ((c.tc : Thread Cert.DownNormReferenceIdeal.nD Cert.DownNormReferenceIdeal.τ).loc Cert.DownNormReferenceIdeal.main_arg2) = m ((c.tc : Thread Cert.DownNormReferenceIdeal.nD Cert.DownNormReferenceIdeal.τ).loc Cert.DownNormReferenceIdeal.main_arg2)
      ∧ r.2.mem ((c.tc : Thread Cert.DownNormReferenceIdeal.nD Cert.DownNormReferenceIdeal.τ).loc Cert.DownNormReferenceIdeal.main_arg3) = m ((c.tc : Thread Cert.DownNormReferenceIdeal.nD Cert.DownNormReferenceIdeal.τ).loc Cert.DownNormReferenceIdeal.main_arg3)
      ∧ r.2.mem ((c.tc : Thread Cert.DownNormReferenceIdeal.nD Cert.DownNormReferenceIdeal.τ).loc Cert.DownNormReferenceIdeal.main_arg4) = m ((c.tc : Thread Cert.DownNormReferenceIdeal.nD Cert.DownNormReferenceIdeal.τ).loc Cert.DownNormReferenceIdeal.main_arg4))
      ∧ r.2.sem = fun _ => 0)

def quiescent_WindowUp [hWindowUp : Cert.WindowUp.Facts] : Prop :=
  ∀ (m : (ℓ : Loc Cert.WindowUp.nD Cert.WindowUp.τ Cert.WindowUp.sig) → Buf (Elt Bits) ℓ) (g : Dev Cert.WindowUp.nD → PrngReg), Pre_WindowUp m →
    θ_run (Cert.WindowUp.defs (F := Bits)) (onTc (τ := Cert.WindowUp.τ) (Cert.WindowUp.main (F := Bits))) ⟨m, fun _ => 0, g⟩ (fun r => (∀ c : Dev Cert.WindowUp.nD,
      r.2.mem ((c.tc : Thread Cert.WindowUp.nD Cert.WindowUp.τ).loc Cert.WindowUp.main_arg0) = m ((c.tc : Thread Cert.WindowUp.nD Cert.WindowUp.τ).loc Cert.WindowUp.main_arg0)
      ∧ r.2.mem ((c.tc : Thread Cert.WindowUp.nD Cert.WindowUp.τ).loc Cert.WindowUp.main_arg1) = m ((c.tc : Thread Cert.WindowUp.nD Cert.WindowUp.τ).loc Cert.WindowUp.main_arg1))
      ∧ r.2.sem = fun _ => 0)

def quiescent_WindowUpIdeal [hWindowUpIdeal : Cert.WindowUpIdeal.Facts] : Prop :=
  ∀ (m : (ℓ : Loc Cert.WindowUpIdeal.nD Cert.WindowUpIdeal.τ Cert.WindowUpIdeal.sig) → Buf (Elt Ideal) ℓ) (g : Dev Cert.WindowUpIdeal.nD → PrngReg), Pre_WindowUpIdeal m →
    θ_run (Cert.WindowUpIdeal.defs (F := Ideal)) (onTc (τ := Cert.WindowUpIdeal.τ) (Cert.WindowUpIdeal.main (F := Ideal))) ⟨m, fun _ => 0, g⟩ (fun r => (∀ c : Dev Cert.WindowUpIdeal.nD,
      r.2.mem ((c.tc : Thread Cert.WindowUpIdeal.nD Cert.WindowUpIdeal.τ).loc Cert.WindowUpIdeal.main_arg0) = m ((c.tc : Thread Cert.WindowUpIdeal.nD Cert.WindowUpIdeal.τ).loc Cert.WindowUpIdeal.main_arg0)
      ∧ r.2.mem ((c.tc : Thread Cert.WindowUpIdeal.nD Cert.WindowUpIdeal.τ).loc Cert.WindowUpIdeal.main_arg1) = m ((c.tc : Thread Cert.WindowUpIdeal.nD Cert.WindowUpIdeal.τ).loc Cert.WindowUpIdeal.main_arg1))
      ∧ r.2.sem = fun _ => 0)

def quiescent_WindowUpReferenceIdeal [hWindowUpReferenceIdeal : Cert.WindowUpReferenceIdeal.Facts] : Prop :=
  ∀ (m : (ℓ : Loc Cert.WindowUpReferenceIdeal.nD Cert.WindowUpReferenceIdeal.τ Cert.WindowUpReferenceIdeal.sig) → Buf (Elt Ideal) ℓ) (g : Dev Cert.WindowUpReferenceIdeal.nD → PrngReg), Pre_WindowUpReferenceIdeal m →
    θ_run (Cert.WindowUpReferenceIdeal.defs (F := Ideal)) (onTc (τ := Cert.WindowUpReferenceIdeal.τ) (Cert.WindowUpReferenceIdeal.main (F := Ideal))) ⟨m, fun _ => 0, g⟩ (fun r => (∀ c : Dev Cert.WindowUpReferenceIdeal.nD,
      r.2.mem ((c.tc : Thread Cert.WindowUpReferenceIdeal.nD Cert.WindowUpReferenceIdeal.τ).loc Cert.WindowUpReferenceIdeal.main_arg0) = m ((c.tc : Thread Cert.WindowUpReferenceIdeal.nD Cert.WindowUpReferenceIdeal.τ).loc Cert.WindowUpReferenceIdeal.main_arg0)
      ∧ r.2.mem ((c.tc : Thread Cert.WindowUpReferenceIdeal.nD Cert.WindowUpReferenceIdeal.τ).loc Cert.WindowUpReferenceIdeal.main_arg1) = m ((c.tc : Thread Cert.WindowUpReferenceIdeal.nD Cert.WindowUpReferenceIdeal.τ).loc Cert.WindowUpReferenceIdeal.main_arg1))
      ∧ r.2.sem = fun _ => 0)

def quiescent_RecurrenceUp [hRecurrenceUp : Cert.RecurrenceUp.Facts] : Prop :=
  ∀ (m : (ℓ : Loc Cert.RecurrenceUp.nD Cert.RecurrenceUp.τ Cert.RecurrenceUp.sig) → Buf (Elt Bits) ℓ) (g : Dev Cert.RecurrenceUp.nD → PrngReg), Pre_RecurrenceUp m →
    θ_run (Cert.RecurrenceUp.defs (F := Bits)) (onTc (τ := Cert.RecurrenceUp.τ) (Cert.RecurrenceUp.main (F := Bits))) ⟨m, fun _ => 0, g⟩ (fun r => (∀ c : Dev Cert.RecurrenceUp.nD,
      r.2.mem ((c.tc : Thread Cert.RecurrenceUp.nD Cert.RecurrenceUp.τ).loc Cert.RecurrenceUp.main_arg0) = m ((c.tc : Thread Cert.RecurrenceUp.nD Cert.RecurrenceUp.τ).loc Cert.RecurrenceUp.main_arg0)
      ∧ r.2.mem ((c.tc : Thread Cert.RecurrenceUp.nD Cert.RecurrenceUp.τ).loc Cert.RecurrenceUp.main_arg1) = m ((c.tc : Thread Cert.RecurrenceUp.nD Cert.RecurrenceUp.τ).loc Cert.RecurrenceUp.main_arg1))
      ∧ r.2.sem = fun _ => 0)

def quiescent_RecurrenceUpIdeal [hRecurrenceUpIdeal : Cert.RecurrenceUpIdeal.Facts] : Prop :=
  ∀ (m : (ℓ : Loc Cert.RecurrenceUpIdeal.nD Cert.RecurrenceUpIdeal.τ Cert.RecurrenceUpIdeal.sig) → Buf (Elt Ideal) ℓ) (g : Dev Cert.RecurrenceUpIdeal.nD → PrngReg), Pre_RecurrenceUpIdeal m →
    θ_run (Cert.RecurrenceUpIdeal.defs (F := Ideal)) (onTc (τ := Cert.RecurrenceUpIdeal.τ) (Cert.RecurrenceUpIdeal.main (F := Ideal))) ⟨m, fun _ => 0, g⟩ (fun r => (∀ c : Dev Cert.RecurrenceUpIdeal.nD,
      r.2.mem ((c.tc : Thread Cert.RecurrenceUpIdeal.nD Cert.RecurrenceUpIdeal.τ).loc Cert.RecurrenceUpIdeal.main_arg0) = m ((c.tc : Thread Cert.RecurrenceUpIdeal.nD Cert.RecurrenceUpIdeal.τ).loc Cert.RecurrenceUpIdeal.main_arg0)
      ∧ r.2.mem ((c.tc : Thread Cert.RecurrenceUpIdeal.nD Cert.RecurrenceUpIdeal.τ).loc Cert.RecurrenceUpIdeal.main_arg1) = m ((c.tc : Thread Cert.RecurrenceUpIdeal.nD Cert.RecurrenceUpIdeal.τ).loc Cert.RecurrenceUpIdeal.main_arg1))
      ∧ r.2.sem = fun _ => 0)

def quiescent_RecurrenceUpReferenceIdeal [hRecurrenceUpReferenceIdeal : Cert.RecurrenceUpReferenceIdeal.Facts] : Prop :=
  ∀ (m : (ℓ : Loc Cert.RecurrenceUpReferenceIdeal.nD Cert.RecurrenceUpReferenceIdeal.τ Cert.RecurrenceUpReferenceIdeal.sig) → Buf (Elt Ideal) ℓ) (g : Dev Cert.RecurrenceUpReferenceIdeal.nD → PrngReg), Pre_RecurrenceUpReferenceIdeal m →
    θ_run (Cert.RecurrenceUpReferenceIdeal.defs (F := Ideal)) (onTc (τ := Cert.RecurrenceUpReferenceIdeal.τ) (Cert.RecurrenceUpReferenceIdeal.main (F := Ideal))) ⟨m, fun _ => 0, g⟩ (fun r => (∀ c : Dev Cert.RecurrenceUpReferenceIdeal.nD,
      r.2.mem ((c.tc : Thread Cert.RecurrenceUpReferenceIdeal.nD Cert.RecurrenceUpReferenceIdeal.τ).loc Cert.RecurrenceUpReferenceIdeal.main_arg0) = m ((c.tc : Thread Cert.RecurrenceUpReferenceIdeal.nD Cert.RecurrenceUpReferenceIdeal.τ).loc Cert.RecurrenceUpReferenceIdeal.main_arg0)
      ∧ r.2.mem ((c.tc : Thread Cert.RecurrenceUpReferenceIdeal.nD Cert.RecurrenceUpReferenceIdeal.τ).loc Cert.RecurrenceUpReferenceIdeal.main_arg1) = m ((c.tc : Thread Cert.RecurrenceUpReferenceIdeal.nD Cert.RecurrenceUpReferenceIdeal.τ).loc Cert.RecurrenceUpReferenceIdeal.main_arg1))
      ∧ r.2.sem = fun _ => 0)

def quiescent_LatentDown [hLatentDown : Cert.LatentDown.Facts] : Prop :=
  ∀ (m : (ℓ : Loc Cert.LatentDown.nD Cert.LatentDown.τ Cert.LatentDown.sig) → Buf (Elt Bits) ℓ) (g : Dev Cert.LatentDown.nD → PrngReg), Pre_LatentDown m →
    θ_run (Cert.LatentDown.defs (F := Bits)) (onTc (τ := Cert.LatentDown.τ) (Cert.LatentDown.main (F := Bits))) ⟨m, fun _ => 0, g⟩ (fun r => (∀ c : Dev Cert.LatentDown.nD,
      r.2.mem ((c.tc : Thread Cert.LatentDown.nD Cert.LatentDown.τ).loc Cert.LatentDown.main_arg0) = m ((c.tc : Thread Cert.LatentDown.nD Cert.LatentDown.τ).loc Cert.LatentDown.main_arg0)
      ∧ r.2.mem ((c.tc : Thread Cert.LatentDown.nD Cert.LatentDown.τ).loc Cert.LatentDown.main_arg1) = m ((c.tc : Thread Cert.LatentDown.nD Cert.LatentDown.τ).loc Cert.LatentDown.main_arg1))
      ∧ r.2.sem = fun _ => 0)

def quiescent_LatentDownIdeal [hLatentDownIdeal : Cert.LatentDownIdeal.Facts] : Prop :=
  ∀ (m : (ℓ : Loc Cert.LatentDownIdeal.nD Cert.LatentDownIdeal.τ Cert.LatentDownIdeal.sig) → Buf (Elt Ideal) ℓ) (g : Dev Cert.LatentDownIdeal.nD → PrngReg), Pre_LatentDownIdeal m →
    θ_run (Cert.LatentDownIdeal.defs (F := Ideal)) (onTc (τ := Cert.LatentDownIdeal.τ) (Cert.LatentDownIdeal.main (F := Ideal))) ⟨m, fun _ => 0, g⟩ (fun r => (∀ c : Dev Cert.LatentDownIdeal.nD,
      r.2.mem ((c.tc : Thread Cert.LatentDownIdeal.nD Cert.LatentDownIdeal.τ).loc Cert.LatentDownIdeal.main_arg0) = m ((c.tc : Thread Cert.LatentDownIdeal.nD Cert.LatentDownIdeal.τ).loc Cert.LatentDownIdeal.main_arg0)
      ∧ r.2.mem ((c.tc : Thread Cert.LatentDownIdeal.nD Cert.LatentDownIdeal.τ).loc Cert.LatentDownIdeal.main_arg1) = m ((c.tc : Thread Cert.LatentDownIdeal.nD Cert.LatentDownIdeal.τ).loc Cert.LatentDownIdeal.main_arg1))
      ∧ r.2.sem = fun _ => 0)

def quiescent_LatentDownReferenceIdeal [hLatentDownReferenceIdeal : Cert.LatentDownReferenceIdeal.Facts] : Prop :=
  ∀ (m : (ℓ : Loc Cert.LatentDownReferenceIdeal.nD Cert.LatentDownReferenceIdeal.τ Cert.LatentDownReferenceIdeal.sig) → Buf (Elt Ideal) ℓ) (g : Dev Cert.LatentDownReferenceIdeal.nD → PrngReg), Pre_LatentDownReferenceIdeal m →
    θ_run (Cert.LatentDownReferenceIdeal.defs (F := Ideal)) (onTc (τ := Cert.LatentDownReferenceIdeal.τ) (Cert.LatentDownReferenceIdeal.main (F := Ideal))) ⟨m, fun _ => 0, g⟩ (fun r => (∀ c : Dev Cert.LatentDownReferenceIdeal.nD,
      r.2.mem ((c.tc : Thread Cert.LatentDownReferenceIdeal.nD Cert.LatentDownReferenceIdeal.τ).loc Cert.LatentDownReferenceIdeal.main_arg0) = m ((c.tc : Thread Cert.LatentDownReferenceIdeal.nD Cert.LatentDownReferenceIdeal.τ).loc Cert.LatentDownReferenceIdeal.main_arg0)
      ∧ r.2.mem ((c.tc : Thread Cert.LatentDownReferenceIdeal.nD Cert.LatentDownReferenceIdeal.τ).loc Cert.LatentDownReferenceIdeal.main_arg1) = m ((c.tc : Thread Cert.LatentDownReferenceIdeal.nD Cert.LatentDownReferenceIdeal.τ).loc Cert.LatentDownReferenceIdeal.main_arg1))
      ∧ r.2.sem = fun _ => 0)

def quiescent_RopeUp [hRopeUp : Cert.RopeUp.Facts] : Prop :=
  ∀ (m : (ℓ : Loc Cert.RopeUp.nD Cert.RopeUp.τ Cert.RopeUp.sig) → Buf (Elt Bits) ℓ) (g : Dev Cert.RopeUp.nD → PrngReg), Pre_RopeUp m →
    θ_run (Cert.RopeUp.defs (F := Bits)) (onTc (τ := Cert.RopeUp.τ) (Cert.RopeUp.main (F := Bits))) ⟨m, fun _ => 0, g⟩ (fun r => (∀ c : Dev Cert.RopeUp.nD,
      r.2.mem ((c.tc : Thread Cert.RopeUp.nD Cert.RopeUp.τ).loc Cert.RopeUp.main_arg0) = m ((c.tc : Thread Cert.RopeUp.nD Cert.RopeUp.τ).loc Cert.RopeUp.main_arg0)
      ∧ r.2.mem ((c.tc : Thread Cert.RopeUp.nD Cert.RopeUp.τ).loc Cert.RopeUp.main_arg1) = m ((c.tc : Thread Cert.RopeUp.nD Cert.RopeUp.τ).loc Cert.RopeUp.main_arg1))
      ∧ r.2.sem = fun _ => 0)

def quiescent_RopeUpIdeal [hRopeUpIdeal : Cert.RopeUpIdeal.Facts] : Prop :=
  ∀ (m : (ℓ : Loc Cert.RopeUpIdeal.nD Cert.RopeUpIdeal.τ Cert.RopeUpIdeal.sig) → Buf (Elt Ideal) ℓ) (g : Dev Cert.RopeUpIdeal.nD → PrngReg), Pre_RopeUpIdeal m →
    θ_run (Cert.RopeUpIdeal.defs (F := Ideal)) (onTc (τ := Cert.RopeUpIdeal.τ) (Cert.RopeUpIdeal.main (F := Ideal))) ⟨m, fun _ => 0, g⟩ (fun r => (∀ c : Dev Cert.RopeUpIdeal.nD,
      r.2.mem ((c.tc : Thread Cert.RopeUpIdeal.nD Cert.RopeUpIdeal.τ).loc Cert.RopeUpIdeal.main_arg0) = m ((c.tc : Thread Cert.RopeUpIdeal.nD Cert.RopeUpIdeal.τ).loc Cert.RopeUpIdeal.main_arg0)
      ∧ r.2.mem ((c.tc : Thread Cert.RopeUpIdeal.nD Cert.RopeUpIdeal.τ).loc Cert.RopeUpIdeal.main_arg1) = m ((c.tc : Thread Cert.RopeUpIdeal.nD Cert.RopeUpIdeal.τ).loc Cert.RopeUpIdeal.main_arg1))
      ∧ r.2.sem = fun _ => 0)

def quiescent_RopeUpReferenceIdeal [hRopeUpReferenceIdeal : Cert.RopeUpReferenceIdeal.Facts] : Prop :=
  ∀ (m : (ℓ : Loc Cert.RopeUpReferenceIdeal.nD Cert.RopeUpReferenceIdeal.τ Cert.RopeUpReferenceIdeal.sig) → Buf (Elt Ideal) ℓ) (g : Dev Cert.RopeUpReferenceIdeal.nD → PrngReg), Pre_RopeUpReferenceIdeal m →
    θ_run (Cert.RopeUpReferenceIdeal.defs (F := Ideal)) (onTc (τ := Cert.RopeUpReferenceIdeal.τ) (Cert.RopeUpReferenceIdeal.main (F := Ideal))) ⟨m, fun _ => 0, g⟩ (fun r => (∀ c : Dev Cert.RopeUpReferenceIdeal.nD,
      r.2.mem ((c.tc : Thread Cert.RopeUpReferenceIdeal.nD Cert.RopeUpReferenceIdeal.τ).loc Cert.RopeUpReferenceIdeal.main_arg0) = m ((c.tc : Thread Cert.RopeUpReferenceIdeal.nD Cert.RopeUpReferenceIdeal.τ).loc Cert.RopeUpReferenceIdeal.main_arg0)
      ∧ r.2.mem ((c.tc : Thread Cert.RopeUpReferenceIdeal.nD Cert.RopeUpReferenceIdeal.τ).loc Cert.RopeUpReferenceIdeal.main_arg1) = m ((c.tc : Thread Cert.RopeUpReferenceIdeal.nD Cert.RopeUpReferenceIdeal.τ).loc Cert.RopeUpReferenceIdeal.main_arg1))
      ∧ r.2.sem = fun _ => 0)

def quiescent_NopeUp [hNopeUp : Cert.NopeUp.Facts] : Prop :=
  ∀ (m : (ℓ : Loc Cert.NopeUp.nD Cert.NopeUp.τ Cert.NopeUp.sig) → Buf (Elt Bits) ℓ) (g : Dev Cert.NopeUp.nD → PrngReg), Pre_NopeUp m →
    θ_run (Cert.NopeUp.defs (F := Bits)) (onTc (τ := Cert.NopeUp.τ) (Cert.NopeUp.main (F := Bits))) ⟨m, fun _ => 0, g⟩ (fun r => (∀ c : Dev Cert.NopeUp.nD,
      r.2.mem ((c.tc : Thread Cert.NopeUp.nD Cert.NopeUp.τ).loc Cert.NopeUp.main_arg0) = m ((c.tc : Thread Cert.NopeUp.nD Cert.NopeUp.τ).loc Cert.NopeUp.main_arg0)
      ∧ r.2.mem ((c.tc : Thread Cert.NopeUp.nD Cert.NopeUp.τ).loc Cert.NopeUp.main_arg1) = m ((c.tc : Thread Cert.NopeUp.nD Cert.NopeUp.τ).loc Cert.NopeUp.main_arg1))
      ∧ r.2.sem = fun _ => 0)

def quiescent_NopeUpIdeal [hNopeUpIdeal : Cert.NopeUpIdeal.Facts] : Prop :=
  ∀ (m : (ℓ : Loc Cert.NopeUpIdeal.nD Cert.NopeUpIdeal.τ Cert.NopeUpIdeal.sig) → Buf (Elt Ideal) ℓ) (g : Dev Cert.NopeUpIdeal.nD → PrngReg), Pre_NopeUpIdeal m →
    θ_run (Cert.NopeUpIdeal.defs (F := Ideal)) (onTc (τ := Cert.NopeUpIdeal.τ) (Cert.NopeUpIdeal.main (F := Ideal))) ⟨m, fun _ => 0, g⟩ (fun r => (∀ c : Dev Cert.NopeUpIdeal.nD,
      r.2.mem ((c.tc : Thread Cert.NopeUpIdeal.nD Cert.NopeUpIdeal.τ).loc Cert.NopeUpIdeal.main_arg0) = m ((c.tc : Thread Cert.NopeUpIdeal.nD Cert.NopeUpIdeal.τ).loc Cert.NopeUpIdeal.main_arg0)
      ∧ r.2.mem ((c.tc : Thread Cert.NopeUpIdeal.nD Cert.NopeUpIdeal.τ).loc Cert.NopeUpIdeal.main_arg1) = m ((c.tc : Thread Cert.NopeUpIdeal.nD Cert.NopeUpIdeal.τ).loc Cert.NopeUpIdeal.main_arg1))
      ∧ r.2.sem = fun _ => 0)

def quiescent_NopeUpReferenceIdeal [hNopeUpReferenceIdeal : Cert.NopeUpReferenceIdeal.Facts] : Prop :=
  ∀ (m : (ℓ : Loc Cert.NopeUpReferenceIdeal.nD Cert.NopeUpReferenceIdeal.τ Cert.NopeUpReferenceIdeal.sig) → Buf (Elt Ideal) ℓ) (g : Dev Cert.NopeUpReferenceIdeal.nD → PrngReg), Pre_NopeUpReferenceIdeal m →
    θ_run (Cert.NopeUpReferenceIdeal.defs (F := Ideal)) (onTc (τ := Cert.NopeUpReferenceIdeal.τ) (Cert.NopeUpReferenceIdeal.main (F := Ideal))) ⟨m, fun _ => 0, g⟩ (fun r => (∀ c : Dev Cert.NopeUpReferenceIdeal.nD,
      r.2.mem ((c.tc : Thread Cert.NopeUpReferenceIdeal.nD Cert.NopeUpReferenceIdeal.τ).loc Cert.NopeUpReferenceIdeal.main_arg0) = m ((c.tc : Thread Cert.NopeUpReferenceIdeal.nD Cert.NopeUpReferenceIdeal.τ).loc Cert.NopeUpReferenceIdeal.main_arg0)
      ∧ r.2.mem ((c.tc : Thread Cert.NopeUpReferenceIdeal.nD Cert.NopeUpReferenceIdeal.τ).loc Cert.NopeUpReferenceIdeal.main_arg1) = m ((c.tc : Thread Cert.NopeUpReferenceIdeal.nD Cert.NopeUpReferenceIdeal.τ).loc Cert.NopeUpReferenceIdeal.main_arg1))
      ∧ r.2.sem = fun _ => 0)

def quiescent_KeyValueUp [hKeyValueUp : Cert.KeyValueUp.Facts] : Prop :=
  ∀ (m : (ℓ : Loc Cert.KeyValueUp.nD Cert.KeyValueUp.τ Cert.KeyValueUp.sig) → Buf (Elt Bits) ℓ) (g : Dev Cert.KeyValueUp.nD → PrngReg), Pre_KeyValueUp m →
    θ_run (Cert.KeyValueUp.defs (F := Bits)) (onTc (τ := Cert.KeyValueUp.τ) (Cert.KeyValueUp.main (F := Bits))) ⟨m, fun _ => 0, g⟩ (fun r => (∀ c : Dev Cert.KeyValueUp.nD,
      r.2.mem ((c.tc : Thread Cert.KeyValueUp.nD Cert.KeyValueUp.τ).loc Cert.KeyValueUp.main_arg0) = m ((c.tc : Thread Cert.KeyValueUp.nD Cert.KeyValueUp.τ).loc Cert.KeyValueUp.main_arg0)
      ∧ r.2.mem ((c.tc : Thread Cert.KeyValueUp.nD Cert.KeyValueUp.τ).loc Cert.KeyValueUp.main_arg1) = m ((c.tc : Thread Cert.KeyValueUp.nD Cert.KeyValueUp.τ).loc Cert.KeyValueUp.main_arg1))
      ∧ r.2.sem = fun _ => 0)

def quiescent_KeyValueUpIdeal [hKeyValueUpIdeal : Cert.KeyValueUpIdeal.Facts] : Prop :=
  ∀ (m : (ℓ : Loc Cert.KeyValueUpIdeal.nD Cert.KeyValueUpIdeal.τ Cert.KeyValueUpIdeal.sig) → Buf (Elt Ideal) ℓ) (g : Dev Cert.KeyValueUpIdeal.nD → PrngReg), Pre_KeyValueUpIdeal m →
    θ_run (Cert.KeyValueUpIdeal.defs (F := Ideal)) (onTc (τ := Cert.KeyValueUpIdeal.τ) (Cert.KeyValueUpIdeal.main (F := Ideal))) ⟨m, fun _ => 0, g⟩ (fun r => (∀ c : Dev Cert.KeyValueUpIdeal.nD,
      r.2.mem ((c.tc : Thread Cert.KeyValueUpIdeal.nD Cert.KeyValueUpIdeal.τ).loc Cert.KeyValueUpIdeal.main_arg0) = m ((c.tc : Thread Cert.KeyValueUpIdeal.nD Cert.KeyValueUpIdeal.τ).loc Cert.KeyValueUpIdeal.main_arg0)
      ∧ r.2.mem ((c.tc : Thread Cert.KeyValueUpIdeal.nD Cert.KeyValueUpIdeal.τ).loc Cert.KeyValueUpIdeal.main_arg1) = m ((c.tc : Thread Cert.KeyValueUpIdeal.nD Cert.KeyValueUpIdeal.τ).loc Cert.KeyValueUpIdeal.main_arg1))
      ∧ r.2.sem = fun _ => 0)

def quiescent_KeyValueUpReferenceIdeal [hKeyValueUpReferenceIdeal : Cert.KeyValueUpReferenceIdeal.Facts] : Prop :=
  ∀ (m : (ℓ : Loc Cert.KeyValueUpReferenceIdeal.nD Cert.KeyValueUpReferenceIdeal.τ Cert.KeyValueUpReferenceIdeal.sig) → Buf (Elt Ideal) ℓ) (g : Dev Cert.KeyValueUpReferenceIdeal.nD → PrngReg), Pre_KeyValueUpReferenceIdeal m →
    θ_run (Cert.KeyValueUpReferenceIdeal.defs (F := Ideal)) (onTc (τ := Cert.KeyValueUpReferenceIdeal.τ) (Cert.KeyValueUpReferenceIdeal.main (F := Ideal))) ⟨m, fun _ => 0, g⟩ (fun r => (∀ c : Dev Cert.KeyValueUpReferenceIdeal.nD,
      r.2.mem ((c.tc : Thread Cert.KeyValueUpReferenceIdeal.nD Cert.KeyValueUpReferenceIdeal.τ).loc Cert.KeyValueUpReferenceIdeal.main_arg0) = m ((c.tc : Thread Cert.KeyValueUpReferenceIdeal.nD Cert.KeyValueUpReferenceIdeal.τ).loc Cert.KeyValueUpReferenceIdeal.main_arg0)
      ∧ r.2.mem ((c.tc : Thread Cert.KeyValueUpReferenceIdeal.nD Cert.KeyValueUpReferenceIdeal.τ).loc Cert.KeyValueUpReferenceIdeal.main_arg1) = m ((c.tc : Thread Cert.KeyValueUpReferenceIdeal.nD Cert.KeyValueUpReferenceIdeal.τ).loc Cert.KeyValueUpReferenceIdeal.main_arg1))
      ∧ r.2.sem = fun _ => 0)

def quiescent_MemoryUp [hMemoryUp : Cert.MemoryUp.Facts] : Prop :=
  ∀ (m : (ℓ : Loc Cert.MemoryUp.nD Cert.MemoryUp.τ Cert.MemoryUp.sig) → Buf (Elt Bits) ℓ) (g : Dev Cert.MemoryUp.nD → PrngReg), Pre_MemoryUp m →
    θ_run (Cert.MemoryUp.defs (F := Bits)) (onTc (τ := Cert.MemoryUp.τ) (Cert.MemoryUp.main (F := Bits))) ⟨m, fun _ => 0, g⟩ (fun r => (∀ c : Dev Cert.MemoryUp.nD,
      r.2.mem ((c.tc : Thread Cert.MemoryUp.nD Cert.MemoryUp.τ).loc Cert.MemoryUp.main_arg0) = m ((c.tc : Thread Cert.MemoryUp.nD Cert.MemoryUp.τ).loc Cert.MemoryUp.main_arg0)
      ∧ r.2.mem ((c.tc : Thread Cert.MemoryUp.nD Cert.MemoryUp.τ).loc Cert.MemoryUp.main_arg1) = m ((c.tc : Thread Cert.MemoryUp.nD Cert.MemoryUp.τ).loc Cert.MemoryUp.main_arg1))
      ∧ r.2.sem = fun _ => 0)

def quiescent_MemoryUpIdeal [hMemoryUpIdeal : Cert.MemoryUpIdeal.Facts] : Prop :=
  ∀ (m : (ℓ : Loc Cert.MemoryUpIdeal.nD Cert.MemoryUpIdeal.τ Cert.MemoryUpIdeal.sig) → Buf (Elt Ideal) ℓ) (g : Dev Cert.MemoryUpIdeal.nD → PrngReg), Pre_MemoryUpIdeal m →
    θ_run (Cert.MemoryUpIdeal.defs (F := Ideal)) (onTc (τ := Cert.MemoryUpIdeal.τ) (Cert.MemoryUpIdeal.main (F := Ideal))) ⟨m, fun _ => 0, g⟩ (fun r => (∀ c : Dev Cert.MemoryUpIdeal.nD,
      r.2.mem ((c.tc : Thread Cert.MemoryUpIdeal.nD Cert.MemoryUpIdeal.τ).loc Cert.MemoryUpIdeal.main_arg0) = m ((c.tc : Thread Cert.MemoryUpIdeal.nD Cert.MemoryUpIdeal.τ).loc Cert.MemoryUpIdeal.main_arg0)
      ∧ r.2.mem ((c.tc : Thread Cert.MemoryUpIdeal.nD Cert.MemoryUpIdeal.τ).loc Cert.MemoryUpIdeal.main_arg1) = m ((c.tc : Thread Cert.MemoryUpIdeal.nD Cert.MemoryUpIdeal.τ).loc Cert.MemoryUpIdeal.main_arg1))
      ∧ r.2.sem = fun _ => 0)

def quiescent_MemoryUpReferenceIdeal [hMemoryUpReferenceIdeal : Cert.MemoryUpReferenceIdeal.Facts] : Prop :=
  ∀ (m : (ℓ : Loc Cert.MemoryUpReferenceIdeal.nD Cert.MemoryUpReferenceIdeal.τ Cert.MemoryUpReferenceIdeal.sig) → Buf (Elt Ideal) ℓ) (g : Dev Cert.MemoryUpReferenceIdeal.nD → PrngReg), Pre_MemoryUpReferenceIdeal m →
    θ_run (Cert.MemoryUpReferenceIdeal.defs (F := Ideal)) (onTc (τ := Cert.MemoryUpReferenceIdeal.τ) (Cert.MemoryUpReferenceIdeal.main (F := Ideal))) ⟨m, fun _ => 0, g⟩ (fun r => (∀ c : Dev Cert.MemoryUpReferenceIdeal.nD,
      r.2.mem ((c.tc : Thread Cert.MemoryUpReferenceIdeal.nD Cert.MemoryUpReferenceIdeal.τ).loc Cert.MemoryUpReferenceIdeal.main_arg0) = m ((c.tc : Thread Cert.MemoryUpReferenceIdeal.nD Cert.MemoryUpReferenceIdeal.τ).loc Cert.MemoryUpReferenceIdeal.main_arg0)
      ∧ r.2.mem ((c.tc : Thread Cert.MemoryUpReferenceIdeal.nD Cert.MemoryUpReferenceIdeal.τ).loc Cert.MemoryUpReferenceIdeal.main_arg1) = m ((c.tc : Thread Cert.MemoryUpReferenceIdeal.nD Cert.MemoryUpReferenceIdeal.τ).loc Cert.MemoryUpReferenceIdeal.main_arg1))
      ∧ r.2.sem = fun _ => 0)

def quiescent_WindowInput [hWindowInput : Cert.WindowInput.Facts] : Prop :=
  ∀ (m : (ℓ : Loc Cert.WindowInput.nD Cert.WindowInput.τ Cert.WindowInput.sig) → Buf (Elt Bits) ℓ) (g : Dev Cert.WindowInput.nD → PrngReg), Pre_WindowInput m →
    θ_run (Cert.WindowInput.defs (F := Bits)) (onTc (τ := Cert.WindowInput.τ) (Cert.WindowInput.main (F := Bits))) ⟨m, fun _ => 0, g⟩ (fun r => (∀ c : Dev Cert.WindowInput.nD,
      r.2.mem ((c.tc : Thread Cert.WindowInput.nD Cert.WindowInput.τ).loc Cert.WindowInput.main_arg0) = m ((c.tc : Thread Cert.WindowInput.nD Cert.WindowInput.τ).loc Cert.WindowInput.main_arg0)
      ∧ r.2.mem ((c.tc : Thread Cert.WindowInput.nD Cert.WindowInput.τ).loc Cert.WindowInput.main_arg1) = m ((c.tc : Thread Cert.WindowInput.nD Cert.WindowInput.τ).loc Cert.WindowInput.main_arg1))
      ∧ r.2.sem = fun _ => 0)

def quiescent_WindowInputIdeal [hWindowInputIdeal : Cert.WindowInputIdeal.Facts] : Prop :=
  ∀ (m : (ℓ : Loc Cert.WindowInputIdeal.nD Cert.WindowInputIdeal.τ Cert.WindowInputIdeal.sig) → Buf (Elt Ideal) ℓ) (g : Dev Cert.WindowInputIdeal.nD → PrngReg), Pre_WindowInputIdeal m →
    θ_run (Cert.WindowInputIdeal.defs (F := Ideal)) (onTc (τ := Cert.WindowInputIdeal.τ) (Cert.WindowInputIdeal.main (F := Ideal))) ⟨m, fun _ => 0, g⟩ (fun r => (∀ c : Dev Cert.WindowInputIdeal.nD,
      r.2.mem ((c.tc : Thread Cert.WindowInputIdeal.nD Cert.WindowInputIdeal.τ).loc Cert.WindowInputIdeal.main_arg0) = m ((c.tc : Thread Cert.WindowInputIdeal.nD Cert.WindowInputIdeal.τ).loc Cert.WindowInputIdeal.main_arg0)
      ∧ r.2.mem ((c.tc : Thread Cert.WindowInputIdeal.nD Cert.WindowInputIdeal.τ).loc Cert.WindowInputIdeal.main_arg1) = m ((c.tc : Thread Cert.WindowInputIdeal.nD Cert.WindowInputIdeal.τ).loc Cert.WindowInputIdeal.main_arg1))
      ∧ r.2.sem = fun _ => 0)

def quiescent_WindowInputReferenceIdeal [hWindowInputReferenceIdeal : Cert.WindowInputReferenceIdeal.Facts] : Prop :=
  ∀ (m : (ℓ : Loc Cert.WindowInputReferenceIdeal.nD Cert.WindowInputReferenceIdeal.τ Cert.WindowInputReferenceIdeal.sig) → Buf (Elt Ideal) ℓ) (g : Dev Cert.WindowInputReferenceIdeal.nD → PrngReg), Pre_WindowInputReferenceIdeal m →
    θ_run (Cert.WindowInputReferenceIdeal.defs (F := Ideal)) (onTc (τ := Cert.WindowInputReferenceIdeal.τ) (Cert.WindowInputReferenceIdeal.main (F := Ideal))) ⟨m, fun _ => 0, g⟩ (fun r => (∀ c : Dev Cert.WindowInputReferenceIdeal.nD,
      r.2.mem ((c.tc : Thread Cert.WindowInputReferenceIdeal.nD Cert.WindowInputReferenceIdeal.τ).loc Cert.WindowInputReferenceIdeal.main_arg0) = m ((c.tc : Thread Cert.WindowInputReferenceIdeal.nD Cert.WindowInputReferenceIdeal.τ).loc Cert.WindowInputReferenceIdeal.main_arg0)
      ∧ r.2.mem ((c.tc : Thread Cert.WindowInputReferenceIdeal.nD Cert.WindowInputReferenceIdeal.τ).loc Cert.WindowInputReferenceIdeal.main_arg1) = m ((c.tc : Thread Cert.WindowInputReferenceIdeal.nD Cert.WindowInputReferenceIdeal.τ).loc Cert.WindowInputReferenceIdeal.main_arg1))
      ∧ r.2.sem = fun _ => 0)

def quiescent_NopeInput [hNopeInput : Cert.NopeInput.Facts] : Prop :=
  ∀ (m : (ℓ : Loc Cert.NopeInput.nD Cert.NopeInput.τ Cert.NopeInput.sig) → Buf (Elt Bits) ℓ) (g : Dev Cert.NopeInput.nD → PrngReg), Pre_NopeInput m →
    θ_run (Cert.NopeInput.defs (F := Bits)) (onTc (τ := Cert.NopeInput.τ) (Cert.NopeInput.main (F := Bits))) ⟨m, fun _ => 0, g⟩ (fun r => (∀ c : Dev Cert.NopeInput.nD,
      r.2.mem ((c.tc : Thread Cert.NopeInput.nD Cert.NopeInput.τ).loc Cert.NopeInput.main_arg0) = m ((c.tc : Thread Cert.NopeInput.nD Cert.NopeInput.τ).loc Cert.NopeInput.main_arg0)
      ∧ r.2.mem ((c.tc : Thread Cert.NopeInput.nD Cert.NopeInput.τ).loc Cert.NopeInput.main_arg1) = m ((c.tc : Thread Cert.NopeInput.nD Cert.NopeInput.τ).loc Cert.NopeInput.main_arg1))
      ∧ r.2.sem = fun _ => 0)

def quiescent_NopeInputIdeal [hNopeInputIdeal : Cert.NopeInputIdeal.Facts] : Prop :=
  ∀ (m : (ℓ : Loc Cert.NopeInputIdeal.nD Cert.NopeInputIdeal.τ Cert.NopeInputIdeal.sig) → Buf (Elt Ideal) ℓ) (g : Dev Cert.NopeInputIdeal.nD → PrngReg), Pre_NopeInputIdeal m →
    θ_run (Cert.NopeInputIdeal.defs (F := Ideal)) (onTc (τ := Cert.NopeInputIdeal.τ) (Cert.NopeInputIdeal.main (F := Ideal))) ⟨m, fun _ => 0, g⟩ (fun r => (∀ c : Dev Cert.NopeInputIdeal.nD,
      r.2.mem ((c.tc : Thread Cert.NopeInputIdeal.nD Cert.NopeInputIdeal.τ).loc Cert.NopeInputIdeal.main_arg0) = m ((c.tc : Thread Cert.NopeInputIdeal.nD Cert.NopeInputIdeal.τ).loc Cert.NopeInputIdeal.main_arg0)
      ∧ r.2.mem ((c.tc : Thread Cert.NopeInputIdeal.nD Cert.NopeInputIdeal.τ).loc Cert.NopeInputIdeal.main_arg1) = m ((c.tc : Thread Cert.NopeInputIdeal.nD Cert.NopeInputIdeal.τ).loc Cert.NopeInputIdeal.main_arg1))
      ∧ r.2.sem = fun _ => 0)

def quiescent_NopeInputReferenceIdeal [hNopeInputReferenceIdeal : Cert.NopeInputReferenceIdeal.Facts] : Prop :=
  ∀ (m : (ℓ : Loc Cert.NopeInputReferenceIdeal.nD Cert.NopeInputReferenceIdeal.τ Cert.NopeInputReferenceIdeal.sig) → Buf (Elt Ideal) ℓ) (g : Dev Cert.NopeInputReferenceIdeal.nD → PrngReg), Pre_NopeInputReferenceIdeal m →
    θ_run (Cert.NopeInputReferenceIdeal.defs (F := Ideal)) (onTc (τ := Cert.NopeInputReferenceIdeal.τ) (Cert.NopeInputReferenceIdeal.main (F := Ideal))) ⟨m, fun _ => 0, g⟩ (fun r => (∀ c : Dev Cert.NopeInputReferenceIdeal.nD,
      r.2.mem ((c.tc : Thread Cert.NopeInputReferenceIdeal.nD Cert.NopeInputReferenceIdeal.τ).loc Cert.NopeInputReferenceIdeal.main_arg0) = m ((c.tc : Thread Cert.NopeInputReferenceIdeal.nD Cert.NopeInputReferenceIdeal.τ).loc Cert.NopeInputReferenceIdeal.main_arg0)
      ∧ r.2.mem ((c.tc : Thread Cert.NopeInputReferenceIdeal.nD Cert.NopeInputReferenceIdeal.τ).loc Cert.NopeInputReferenceIdeal.main_arg1) = m ((c.tc : Thread Cert.NopeInputReferenceIdeal.nD Cert.NopeInputReferenceIdeal.τ).loc Cert.NopeInputReferenceIdeal.main_arg1))
      ∧ r.2.sem = fun _ => 0)

def quiescent_RopeInput [hRopeInput : Cert.RopeInput.Facts] : Prop :=
  ∀ (m : (ℓ : Loc Cert.RopeInput.nD Cert.RopeInput.τ Cert.RopeInput.sig) → Buf (Elt Bits) ℓ) (g : Dev Cert.RopeInput.nD → PrngReg), Pre_RopeInput m →
    θ_run (Cert.RopeInput.defs (F := Bits)) (onTc (τ := Cert.RopeInput.τ) (Cert.RopeInput.main (F := Bits))) ⟨m, fun _ => 0, g⟩ (fun r => (∀ c : Dev Cert.RopeInput.nD,
      r.2.mem ((c.tc : Thread Cert.RopeInput.nD Cert.RopeInput.τ).loc Cert.RopeInput.main_arg0) = m ((c.tc : Thread Cert.RopeInput.nD Cert.RopeInput.τ).loc Cert.RopeInput.main_arg0)
      ∧ r.2.mem ((c.tc : Thread Cert.RopeInput.nD Cert.RopeInput.τ).loc Cert.RopeInput.main_arg1) = m ((c.tc : Thread Cert.RopeInput.nD Cert.RopeInput.τ).loc Cert.RopeInput.main_arg1))
      ∧ r.2.sem = fun _ => 0)

def quiescent_RopeInputIdeal [hRopeInputIdeal : Cert.RopeInputIdeal.Facts] : Prop :=
  ∀ (m : (ℓ : Loc Cert.RopeInputIdeal.nD Cert.RopeInputIdeal.τ Cert.RopeInputIdeal.sig) → Buf (Elt Ideal) ℓ) (g : Dev Cert.RopeInputIdeal.nD → PrngReg), Pre_RopeInputIdeal m →
    θ_run (Cert.RopeInputIdeal.defs (F := Ideal)) (onTc (τ := Cert.RopeInputIdeal.τ) (Cert.RopeInputIdeal.main (F := Ideal))) ⟨m, fun _ => 0, g⟩ (fun r => (∀ c : Dev Cert.RopeInputIdeal.nD,
      r.2.mem ((c.tc : Thread Cert.RopeInputIdeal.nD Cert.RopeInputIdeal.τ).loc Cert.RopeInputIdeal.main_arg0) = m ((c.tc : Thread Cert.RopeInputIdeal.nD Cert.RopeInputIdeal.τ).loc Cert.RopeInputIdeal.main_arg0)
      ∧ r.2.mem ((c.tc : Thread Cert.RopeInputIdeal.nD Cert.RopeInputIdeal.τ).loc Cert.RopeInputIdeal.main_arg1) = m ((c.tc : Thread Cert.RopeInputIdeal.nD Cert.RopeInputIdeal.τ).loc Cert.RopeInputIdeal.main_arg1))
      ∧ r.2.sem = fun _ => 0)

def quiescent_RopeInputReferenceIdeal [hRopeInputReferenceIdeal : Cert.RopeInputReferenceIdeal.Facts] : Prop :=
  ∀ (m : (ℓ : Loc Cert.RopeInputReferenceIdeal.nD Cert.RopeInputReferenceIdeal.τ Cert.RopeInputReferenceIdeal.sig) → Buf (Elt Ideal) ℓ) (g : Dev Cert.RopeInputReferenceIdeal.nD → PrngReg), Pre_RopeInputReferenceIdeal m →
    θ_run (Cert.RopeInputReferenceIdeal.defs (F := Ideal)) (onTc (τ := Cert.RopeInputReferenceIdeal.τ) (Cert.RopeInputReferenceIdeal.main (F := Ideal))) ⟨m, fun _ => 0, g⟩ (fun r => (∀ c : Dev Cert.RopeInputReferenceIdeal.nD,
      r.2.mem ((c.tc : Thread Cert.RopeInputReferenceIdeal.nD Cert.RopeInputReferenceIdeal.τ).loc Cert.RopeInputReferenceIdeal.main_arg0) = m ((c.tc : Thread Cert.RopeInputReferenceIdeal.nD Cert.RopeInputReferenceIdeal.τ).loc Cert.RopeInputReferenceIdeal.main_arg0)
      ∧ r.2.mem ((c.tc : Thread Cert.RopeInputReferenceIdeal.nD Cert.RopeInputReferenceIdeal.τ).loc Cert.RopeInputReferenceIdeal.main_arg1) = m ((c.tc : Thread Cert.RopeInputReferenceIdeal.nD Cert.RopeInputReferenceIdeal.τ).loc Cert.RopeInputReferenceIdeal.main_arg1))
      ∧ r.2.sem = fun _ => 0)

def quiescent_KeyValueInput [hKeyValueInput : Cert.KeyValueInput.Facts] : Prop :=
  ∀ (m : (ℓ : Loc Cert.KeyValueInput.nD Cert.KeyValueInput.τ Cert.KeyValueInput.sig) → Buf (Elt Bits) ℓ) (g : Dev Cert.KeyValueInput.nD → PrngReg), Pre_KeyValueInput m →
    θ_run (Cert.KeyValueInput.defs (F := Bits)) (onTc (τ := Cert.KeyValueInput.τ) (Cert.KeyValueInput.main (F := Bits))) ⟨m, fun _ => 0, g⟩ (fun r => (∀ c : Dev Cert.KeyValueInput.nD,
      r.2.mem ((c.tc : Thread Cert.KeyValueInput.nD Cert.KeyValueInput.τ).loc Cert.KeyValueInput.main_arg0) = m ((c.tc : Thread Cert.KeyValueInput.nD Cert.KeyValueInput.τ).loc Cert.KeyValueInput.main_arg0)
      ∧ r.2.mem ((c.tc : Thread Cert.KeyValueInput.nD Cert.KeyValueInput.τ).loc Cert.KeyValueInput.main_arg1) = m ((c.tc : Thread Cert.KeyValueInput.nD Cert.KeyValueInput.τ).loc Cert.KeyValueInput.main_arg1))
      ∧ r.2.sem = fun _ => 0)

def quiescent_KeyValueInputIdeal [hKeyValueInputIdeal : Cert.KeyValueInputIdeal.Facts] : Prop :=
  ∀ (m : (ℓ : Loc Cert.KeyValueInputIdeal.nD Cert.KeyValueInputIdeal.τ Cert.KeyValueInputIdeal.sig) → Buf (Elt Ideal) ℓ) (g : Dev Cert.KeyValueInputIdeal.nD → PrngReg), Pre_KeyValueInputIdeal m →
    θ_run (Cert.KeyValueInputIdeal.defs (F := Ideal)) (onTc (τ := Cert.KeyValueInputIdeal.τ) (Cert.KeyValueInputIdeal.main (F := Ideal))) ⟨m, fun _ => 0, g⟩ (fun r => (∀ c : Dev Cert.KeyValueInputIdeal.nD,
      r.2.mem ((c.tc : Thread Cert.KeyValueInputIdeal.nD Cert.KeyValueInputIdeal.τ).loc Cert.KeyValueInputIdeal.main_arg0) = m ((c.tc : Thread Cert.KeyValueInputIdeal.nD Cert.KeyValueInputIdeal.τ).loc Cert.KeyValueInputIdeal.main_arg0)
      ∧ r.2.mem ((c.tc : Thread Cert.KeyValueInputIdeal.nD Cert.KeyValueInputIdeal.τ).loc Cert.KeyValueInputIdeal.main_arg1) = m ((c.tc : Thread Cert.KeyValueInputIdeal.nD Cert.KeyValueInputIdeal.τ).loc Cert.KeyValueInputIdeal.main_arg1))
      ∧ r.2.sem = fun _ => 0)

def quiescent_KeyValueInputReferenceIdeal [hKeyValueInputReferenceIdeal : Cert.KeyValueInputReferenceIdeal.Facts] : Prop :=
  ∀ (m : (ℓ : Loc Cert.KeyValueInputReferenceIdeal.nD Cert.KeyValueInputReferenceIdeal.τ Cert.KeyValueInputReferenceIdeal.sig) → Buf (Elt Ideal) ℓ) (g : Dev Cert.KeyValueInputReferenceIdeal.nD → PrngReg), Pre_KeyValueInputReferenceIdeal m →
    θ_run (Cert.KeyValueInputReferenceIdeal.defs (F := Ideal)) (onTc (τ := Cert.KeyValueInputReferenceIdeal.τ) (Cert.KeyValueInputReferenceIdeal.main (F := Ideal))) ⟨m, fun _ => 0, g⟩ (fun r => (∀ c : Dev Cert.KeyValueInputReferenceIdeal.nD,
      r.2.mem ((c.tc : Thread Cert.KeyValueInputReferenceIdeal.nD Cert.KeyValueInputReferenceIdeal.τ).loc Cert.KeyValueInputReferenceIdeal.main_arg0) = m ((c.tc : Thread Cert.KeyValueInputReferenceIdeal.nD Cert.KeyValueInputReferenceIdeal.τ).loc Cert.KeyValueInputReferenceIdeal.main_arg0)
      ∧ r.2.mem ((c.tc : Thread Cert.KeyValueInputReferenceIdeal.nD Cert.KeyValueInputReferenceIdeal.τ).loc Cert.KeyValueInputReferenceIdeal.main_arg1) = m ((c.tc : Thread Cert.KeyValueInputReferenceIdeal.nD Cert.KeyValueInputReferenceIdeal.τ).loc Cert.KeyValueInputReferenceIdeal.main_arg1))
      ∧ r.2.sem = fun _ => 0)

def quiescent_LatentWeight [hLatentWeight : Cert.LatentWeight.Facts] : Prop :=
  ∀ (m : (ℓ : Loc Cert.LatentWeight.nD Cert.LatentWeight.τ Cert.LatentWeight.sig) → Buf (Elt Bits) ℓ) (g : Dev Cert.LatentWeight.nD → PrngReg), Pre_LatentWeight m →
    θ_run (Cert.LatentWeight.defs (F := Bits)) (onTc (τ := Cert.LatentWeight.τ) (Cert.LatentWeight.main (F := Bits))) ⟨m, fun _ => 0, g⟩ (fun r => (∀ c : Dev Cert.LatentWeight.nD,
      r.2.mem ((c.tc : Thread Cert.LatentWeight.nD Cert.LatentWeight.τ).loc Cert.LatentWeight.main_arg0) = m ((c.tc : Thread Cert.LatentWeight.nD Cert.LatentWeight.τ).loc Cert.LatentWeight.main_arg0)
      ∧ r.2.mem ((c.tc : Thread Cert.LatentWeight.nD Cert.LatentWeight.τ).loc Cert.LatentWeight.main_arg1) = m ((c.tc : Thread Cert.LatentWeight.nD Cert.LatentWeight.τ).loc Cert.LatentWeight.main_arg1))
      ∧ r.2.sem = fun _ => 0)

def quiescent_LatentWeightIdeal [hLatentWeightIdeal : Cert.LatentWeightIdeal.Facts] : Prop :=
  ∀ (m : (ℓ : Loc Cert.LatentWeightIdeal.nD Cert.LatentWeightIdeal.τ Cert.LatentWeightIdeal.sig) → Buf (Elt Ideal) ℓ) (g : Dev Cert.LatentWeightIdeal.nD → PrngReg), Pre_LatentWeightIdeal m →
    θ_run (Cert.LatentWeightIdeal.defs (F := Ideal)) (onTc (τ := Cert.LatentWeightIdeal.τ) (Cert.LatentWeightIdeal.main (F := Ideal))) ⟨m, fun _ => 0, g⟩ (fun r => (∀ c : Dev Cert.LatentWeightIdeal.nD,
      r.2.mem ((c.tc : Thread Cert.LatentWeightIdeal.nD Cert.LatentWeightIdeal.τ).loc Cert.LatentWeightIdeal.main_arg0) = m ((c.tc : Thread Cert.LatentWeightIdeal.nD Cert.LatentWeightIdeal.τ).loc Cert.LatentWeightIdeal.main_arg0)
      ∧ r.2.mem ((c.tc : Thread Cert.LatentWeightIdeal.nD Cert.LatentWeightIdeal.τ).loc Cert.LatentWeightIdeal.main_arg1) = m ((c.tc : Thread Cert.LatentWeightIdeal.nD Cert.LatentWeightIdeal.τ).loc Cert.LatentWeightIdeal.main_arg1))
      ∧ r.2.sem = fun _ => 0)

def quiescent_LatentWeightReferenceIdeal [hLatentWeightReferenceIdeal : Cert.LatentWeightReferenceIdeal.Facts] : Prop :=
  ∀ (m : (ℓ : Loc Cert.LatentWeightReferenceIdeal.nD Cert.LatentWeightReferenceIdeal.τ Cert.LatentWeightReferenceIdeal.sig) → Buf (Elt Ideal) ℓ) (g : Dev Cert.LatentWeightReferenceIdeal.nD → PrngReg), Pre_LatentWeightReferenceIdeal m →
    θ_run (Cert.LatentWeightReferenceIdeal.defs (F := Ideal)) (onTc (τ := Cert.LatentWeightReferenceIdeal.τ) (Cert.LatentWeightReferenceIdeal.main (F := Ideal))) ⟨m, fun _ => 0, g⟩ (fun r => (∀ c : Dev Cert.LatentWeightReferenceIdeal.nD,
      r.2.mem ((c.tc : Thread Cert.LatentWeightReferenceIdeal.nD Cert.LatentWeightReferenceIdeal.τ).loc Cert.LatentWeightReferenceIdeal.main_arg0) = m ((c.tc : Thread Cert.LatentWeightReferenceIdeal.nD Cert.LatentWeightReferenceIdeal.τ).loc Cert.LatentWeightReferenceIdeal.main_arg0)
      ∧ r.2.mem ((c.tc : Thread Cert.LatentWeightReferenceIdeal.nD Cert.LatentWeightReferenceIdeal.τ).loc Cert.LatentWeightReferenceIdeal.main_arg1) = m ((c.tc : Thread Cert.LatentWeightReferenceIdeal.nD Cert.LatentWeightReferenceIdeal.τ).loc Cert.LatentWeightReferenceIdeal.main_arg1))
      ∧ r.2.sem = fun _ => 0)

def quiescent_NopeWeight [hNopeWeight : Cert.NopeWeight.Facts] : Prop :=
  ∀ (m : (ℓ : Loc Cert.NopeWeight.nD Cert.NopeWeight.τ Cert.NopeWeight.sig) → Buf (Elt Bits) ℓ) (g : Dev Cert.NopeWeight.nD → PrngReg), Pre_NopeWeight m →
    θ_run (Cert.NopeWeight.defs (F := Bits)) (onTc (τ := Cert.NopeWeight.τ) (Cert.NopeWeight.main (F := Bits))) ⟨m, fun _ => 0, g⟩ (fun r => (∀ c : Dev Cert.NopeWeight.nD,
      r.2.mem ((c.tc : Thread Cert.NopeWeight.nD Cert.NopeWeight.τ).loc Cert.NopeWeight.main_arg0) = m ((c.tc : Thread Cert.NopeWeight.nD Cert.NopeWeight.τ).loc Cert.NopeWeight.main_arg0)
      ∧ r.2.mem ((c.tc : Thread Cert.NopeWeight.nD Cert.NopeWeight.τ).loc Cert.NopeWeight.main_arg1) = m ((c.tc : Thread Cert.NopeWeight.nD Cert.NopeWeight.τ).loc Cert.NopeWeight.main_arg1))
      ∧ r.2.sem = fun _ => 0)

def quiescent_NopeWeightIdeal [hNopeWeightIdeal : Cert.NopeWeightIdeal.Facts] : Prop :=
  ∀ (m : (ℓ : Loc Cert.NopeWeightIdeal.nD Cert.NopeWeightIdeal.τ Cert.NopeWeightIdeal.sig) → Buf (Elt Ideal) ℓ) (g : Dev Cert.NopeWeightIdeal.nD → PrngReg), Pre_NopeWeightIdeal m →
    θ_run (Cert.NopeWeightIdeal.defs (F := Ideal)) (onTc (τ := Cert.NopeWeightIdeal.τ) (Cert.NopeWeightIdeal.main (F := Ideal))) ⟨m, fun _ => 0, g⟩ (fun r => (∀ c : Dev Cert.NopeWeightIdeal.nD,
      r.2.mem ((c.tc : Thread Cert.NopeWeightIdeal.nD Cert.NopeWeightIdeal.τ).loc Cert.NopeWeightIdeal.main_arg0) = m ((c.tc : Thread Cert.NopeWeightIdeal.nD Cert.NopeWeightIdeal.τ).loc Cert.NopeWeightIdeal.main_arg0)
      ∧ r.2.mem ((c.tc : Thread Cert.NopeWeightIdeal.nD Cert.NopeWeightIdeal.τ).loc Cert.NopeWeightIdeal.main_arg1) = m ((c.tc : Thread Cert.NopeWeightIdeal.nD Cert.NopeWeightIdeal.τ).loc Cert.NopeWeightIdeal.main_arg1))
      ∧ r.2.sem = fun _ => 0)

def quiescent_NopeWeightReferenceIdeal [hNopeWeightReferenceIdeal : Cert.NopeWeightReferenceIdeal.Facts] : Prop :=
  ∀ (m : (ℓ : Loc Cert.NopeWeightReferenceIdeal.nD Cert.NopeWeightReferenceIdeal.τ Cert.NopeWeightReferenceIdeal.sig) → Buf (Elt Ideal) ℓ) (g : Dev Cert.NopeWeightReferenceIdeal.nD → PrngReg), Pre_NopeWeightReferenceIdeal m →
    θ_run (Cert.NopeWeightReferenceIdeal.defs (F := Ideal)) (onTc (τ := Cert.NopeWeightReferenceIdeal.τ) (Cert.NopeWeightReferenceIdeal.main (F := Ideal))) ⟨m, fun _ => 0, g⟩ (fun r => (∀ c : Dev Cert.NopeWeightReferenceIdeal.nD,
      r.2.mem ((c.tc : Thread Cert.NopeWeightReferenceIdeal.nD Cert.NopeWeightReferenceIdeal.τ).loc Cert.NopeWeightReferenceIdeal.main_arg0) = m ((c.tc : Thread Cert.NopeWeightReferenceIdeal.nD Cert.NopeWeightReferenceIdeal.τ).loc Cert.NopeWeightReferenceIdeal.main_arg0)
      ∧ r.2.mem ((c.tc : Thread Cert.NopeWeightReferenceIdeal.nD Cert.NopeWeightReferenceIdeal.τ).loc Cert.NopeWeightReferenceIdeal.main_arg1) = m ((c.tc : Thread Cert.NopeWeightReferenceIdeal.nD Cert.NopeWeightReferenceIdeal.τ).loc Cert.NopeWeightReferenceIdeal.main_arg1))
      ∧ r.2.sem = fun _ => 0)

def quiescent_RopeWeight [hRopeWeight : Cert.RopeWeight.Facts] : Prop :=
  ∀ (m : (ℓ : Loc Cert.RopeWeight.nD Cert.RopeWeight.τ Cert.RopeWeight.sig) → Buf (Elt Bits) ℓ) (g : Dev Cert.RopeWeight.nD → PrngReg), Pre_RopeWeight m →
    θ_run (Cert.RopeWeight.defs (F := Bits)) (onTc (τ := Cert.RopeWeight.τ) (Cert.RopeWeight.main (F := Bits))) ⟨m, fun _ => 0, g⟩ (fun r => (∀ c : Dev Cert.RopeWeight.nD,
      r.2.mem ((c.tc : Thread Cert.RopeWeight.nD Cert.RopeWeight.τ).loc Cert.RopeWeight.main_arg0) = m ((c.tc : Thread Cert.RopeWeight.nD Cert.RopeWeight.τ).loc Cert.RopeWeight.main_arg0)
      ∧ r.2.mem ((c.tc : Thread Cert.RopeWeight.nD Cert.RopeWeight.τ).loc Cert.RopeWeight.main_arg1) = m ((c.tc : Thread Cert.RopeWeight.nD Cert.RopeWeight.τ).loc Cert.RopeWeight.main_arg1))
      ∧ r.2.sem = fun _ => 0)

def quiescent_RopeWeightIdeal [hRopeWeightIdeal : Cert.RopeWeightIdeal.Facts] : Prop :=
  ∀ (m : (ℓ : Loc Cert.RopeWeightIdeal.nD Cert.RopeWeightIdeal.τ Cert.RopeWeightIdeal.sig) → Buf (Elt Ideal) ℓ) (g : Dev Cert.RopeWeightIdeal.nD → PrngReg), Pre_RopeWeightIdeal m →
    θ_run (Cert.RopeWeightIdeal.defs (F := Ideal)) (onTc (τ := Cert.RopeWeightIdeal.τ) (Cert.RopeWeightIdeal.main (F := Ideal))) ⟨m, fun _ => 0, g⟩ (fun r => (∀ c : Dev Cert.RopeWeightIdeal.nD,
      r.2.mem ((c.tc : Thread Cert.RopeWeightIdeal.nD Cert.RopeWeightIdeal.τ).loc Cert.RopeWeightIdeal.main_arg0) = m ((c.tc : Thread Cert.RopeWeightIdeal.nD Cert.RopeWeightIdeal.τ).loc Cert.RopeWeightIdeal.main_arg0)
      ∧ r.2.mem ((c.tc : Thread Cert.RopeWeightIdeal.nD Cert.RopeWeightIdeal.τ).loc Cert.RopeWeightIdeal.main_arg1) = m ((c.tc : Thread Cert.RopeWeightIdeal.nD Cert.RopeWeightIdeal.τ).loc Cert.RopeWeightIdeal.main_arg1))
      ∧ r.2.sem = fun _ => 0)

def quiescent_RopeWeightReferenceIdeal [hRopeWeightReferenceIdeal : Cert.RopeWeightReferenceIdeal.Facts] : Prop :=
  ∀ (m : (ℓ : Loc Cert.RopeWeightReferenceIdeal.nD Cert.RopeWeightReferenceIdeal.τ Cert.RopeWeightReferenceIdeal.sig) → Buf (Elt Ideal) ℓ) (g : Dev Cert.RopeWeightReferenceIdeal.nD → PrngReg), Pre_RopeWeightReferenceIdeal m →
    θ_run (Cert.RopeWeightReferenceIdeal.defs (F := Ideal)) (onTc (τ := Cert.RopeWeightReferenceIdeal.τ) (Cert.RopeWeightReferenceIdeal.main (F := Ideal))) ⟨m, fun _ => 0, g⟩ (fun r => (∀ c : Dev Cert.RopeWeightReferenceIdeal.nD,
      r.2.mem ((c.tc : Thread Cert.RopeWeightReferenceIdeal.nD Cert.RopeWeightReferenceIdeal.τ).loc Cert.RopeWeightReferenceIdeal.main_arg0) = m ((c.tc : Thread Cert.RopeWeightReferenceIdeal.nD Cert.RopeWeightReferenceIdeal.τ).loc Cert.RopeWeightReferenceIdeal.main_arg0)
      ∧ r.2.mem ((c.tc : Thread Cert.RopeWeightReferenceIdeal.nD Cert.RopeWeightReferenceIdeal.τ).loc Cert.RopeWeightReferenceIdeal.main_arg1) = m ((c.tc : Thread Cert.RopeWeightReferenceIdeal.nD Cert.RopeWeightReferenceIdeal.τ).loc Cert.RopeWeightReferenceIdeal.main_arg1))
      ∧ r.2.sem = fun _ => 0)

def quiescent_KeyValueWeight [hKeyValueWeight : Cert.KeyValueWeight.Facts] : Prop :=
  ∀ (m : (ℓ : Loc Cert.KeyValueWeight.nD Cert.KeyValueWeight.τ Cert.KeyValueWeight.sig) → Buf (Elt Bits) ℓ) (g : Dev Cert.KeyValueWeight.nD → PrngReg), Pre_KeyValueWeight m →
    θ_run (Cert.KeyValueWeight.defs (F := Bits)) (onTc (τ := Cert.KeyValueWeight.τ) (Cert.KeyValueWeight.main (F := Bits))) ⟨m, fun _ => 0, g⟩ (fun r => (∀ c : Dev Cert.KeyValueWeight.nD,
      r.2.mem ((c.tc : Thread Cert.KeyValueWeight.nD Cert.KeyValueWeight.τ).loc Cert.KeyValueWeight.main_arg0) = m ((c.tc : Thread Cert.KeyValueWeight.nD Cert.KeyValueWeight.τ).loc Cert.KeyValueWeight.main_arg0)
      ∧ r.2.mem ((c.tc : Thread Cert.KeyValueWeight.nD Cert.KeyValueWeight.τ).loc Cert.KeyValueWeight.main_arg1) = m ((c.tc : Thread Cert.KeyValueWeight.nD Cert.KeyValueWeight.τ).loc Cert.KeyValueWeight.main_arg1))
      ∧ r.2.sem = fun _ => 0)

def quiescent_KeyValueWeightIdeal [hKeyValueWeightIdeal : Cert.KeyValueWeightIdeal.Facts] : Prop :=
  ∀ (m : (ℓ : Loc Cert.KeyValueWeightIdeal.nD Cert.KeyValueWeightIdeal.τ Cert.KeyValueWeightIdeal.sig) → Buf (Elt Ideal) ℓ) (g : Dev Cert.KeyValueWeightIdeal.nD → PrngReg), Pre_KeyValueWeightIdeal m →
    θ_run (Cert.KeyValueWeightIdeal.defs (F := Ideal)) (onTc (τ := Cert.KeyValueWeightIdeal.τ) (Cert.KeyValueWeightIdeal.main (F := Ideal))) ⟨m, fun _ => 0, g⟩ (fun r => (∀ c : Dev Cert.KeyValueWeightIdeal.nD,
      r.2.mem ((c.tc : Thread Cert.KeyValueWeightIdeal.nD Cert.KeyValueWeightIdeal.τ).loc Cert.KeyValueWeightIdeal.main_arg0) = m ((c.tc : Thread Cert.KeyValueWeightIdeal.nD Cert.KeyValueWeightIdeal.τ).loc Cert.KeyValueWeightIdeal.main_arg0)
      ∧ r.2.mem ((c.tc : Thread Cert.KeyValueWeightIdeal.nD Cert.KeyValueWeightIdeal.τ).loc Cert.KeyValueWeightIdeal.main_arg1) = m ((c.tc : Thread Cert.KeyValueWeightIdeal.nD Cert.KeyValueWeightIdeal.τ).loc Cert.KeyValueWeightIdeal.main_arg1))
      ∧ r.2.sem = fun _ => 0)

def quiescent_KeyValueWeightReferenceIdeal [hKeyValueWeightReferenceIdeal : Cert.KeyValueWeightReferenceIdeal.Facts] : Prop :=
  ∀ (m : (ℓ : Loc Cert.KeyValueWeightReferenceIdeal.nD Cert.KeyValueWeightReferenceIdeal.τ Cert.KeyValueWeightReferenceIdeal.sig) → Buf (Elt Ideal) ℓ) (g : Dev Cert.KeyValueWeightReferenceIdeal.nD → PrngReg), Pre_KeyValueWeightReferenceIdeal m →
    θ_run (Cert.KeyValueWeightReferenceIdeal.defs (F := Ideal)) (onTc (τ := Cert.KeyValueWeightReferenceIdeal.τ) (Cert.KeyValueWeightReferenceIdeal.main (F := Ideal))) ⟨m, fun _ => 0, g⟩ (fun r => (∀ c : Dev Cert.KeyValueWeightReferenceIdeal.nD,
      r.2.mem ((c.tc : Thread Cert.KeyValueWeightReferenceIdeal.nD Cert.KeyValueWeightReferenceIdeal.τ).loc Cert.KeyValueWeightReferenceIdeal.main_arg0) = m ((c.tc : Thread Cert.KeyValueWeightReferenceIdeal.nD Cert.KeyValueWeightReferenceIdeal.τ).loc Cert.KeyValueWeightReferenceIdeal.main_arg0)
      ∧ r.2.mem ((c.tc : Thread Cert.KeyValueWeightReferenceIdeal.nD Cert.KeyValueWeightReferenceIdeal.τ).loc Cert.KeyValueWeightReferenceIdeal.main_arg1) = m ((c.tc : Thread Cert.KeyValueWeightReferenceIdeal.nD Cert.KeyValueWeightReferenceIdeal.τ).loc Cert.KeyValueWeightReferenceIdeal.main_arg1))
      ∧ r.2.sem = fun _ => 0)

def quiescent_MemoryWeight [hMemoryWeight : Cert.MemoryWeight.Facts] : Prop :=
  ∀ (m : (ℓ : Loc Cert.MemoryWeight.nD Cert.MemoryWeight.τ Cert.MemoryWeight.sig) → Buf (Elt Bits) ℓ) (g : Dev Cert.MemoryWeight.nD → PrngReg), Pre_MemoryWeight m →
    θ_run (Cert.MemoryWeight.defs (F := Bits)) (onTc (τ := Cert.MemoryWeight.τ) (Cert.MemoryWeight.main (F := Bits))) ⟨m, fun _ => 0, g⟩ (fun r => (∀ c : Dev Cert.MemoryWeight.nD,
      r.2.mem ((c.tc : Thread Cert.MemoryWeight.nD Cert.MemoryWeight.τ).loc Cert.MemoryWeight.main_arg0) = m ((c.tc : Thread Cert.MemoryWeight.nD Cert.MemoryWeight.τ).loc Cert.MemoryWeight.main_arg0)
      ∧ r.2.mem ((c.tc : Thread Cert.MemoryWeight.nD Cert.MemoryWeight.τ).loc Cert.MemoryWeight.main_arg1) = m ((c.tc : Thread Cert.MemoryWeight.nD Cert.MemoryWeight.τ).loc Cert.MemoryWeight.main_arg1))
      ∧ r.2.sem = fun _ => 0)

def quiescent_MemoryWeightIdeal [hMemoryWeightIdeal : Cert.MemoryWeightIdeal.Facts] : Prop :=
  ∀ (m : (ℓ : Loc Cert.MemoryWeightIdeal.nD Cert.MemoryWeightIdeal.τ Cert.MemoryWeightIdeal.sig) → Buf (Elt Ideal) ℓ) (g : Dev Cert.MemoryWeightIdeal.nD → PrngReg), Pre_MemoryWeightIdeal m →
    θ_run (Cert.MemoryWeightIdeal.defs (F := Ideal)) (onTc (τ := Cert.MemoryWeightIdeal.τ) (Cert.MemoryWeightIdeal.main (F := Ideal))) ⟨m, fun _ => 0, g⟩ (fun r => (∀ c : Dev Cert.MemoryWeightIdeal.nD,
      r.2.mem ((c.tc : Thread Cert.MemoryWeightIdeal.nD Cert.MemoryWeightIdeal.τ).loc Cert.MemoryWeightIdeal.main_arg0) = m ((c.tc : Thread Cert.MemoryWeightIdeal.nD Cert.MemoryWeightIdeal.τ).loc Cert.MemoryWeightIdeal.main_arg0)
      ∧ r.2.mem ((c.tc : Thread Cert.MemoryWeightIdeal.nD Cert.MemoryWeightIdeal.τ).loc Cert.MemoryWeightIdeal.main_arg1) = m ((c.tc : Thread Cert.MemoryWeightIdeal.nD Cert.MemoryWeightIdeal.τ).loc Cert.MemoryWeightIdeal.main_arg1))
      ∧ r.2.sem = fun _ => 0)

def quiescent_MemoryWeightReferenceIdeal [hMemoryWeightReferenceIdeal : Cert.MemoryWeightReferenceIdeal.Facts] : Prop :=
  ∀ (m : (ℓ : Loc Cert.MemoryWeightReferenceIdeal.nD Cert.MemoryWeightReferenceIdeal.τ Cert.MemoryWeightReferenceIdeal.sig) → Buf (Elt Ideal) ℓ) (g : Dev Cert.MemoryWeightReferenceIdeal.nD → PrngReg), Pre_MemoryWeightReferenceIdeal m →
    θ_run (Cert.MemoryWeightReferenceIdeal.defs (F := Ideal)) (onTc (τ := Cert.MemoryWeightReferenceIdeal.τ) (Cert.MemoryWeightReferenceIdeal.main (F := Ideal))) ⟨m, fun _ => 0, g⟩ (fun r => (∀ c : Dev Cert.MemoryWeightReferenceIdeal.nD,
      r.2.mem ((c.tc : Thread Cert.MemoryWeightReferenceIdeal.nD Cert.MemoryWeightReferenceIdeal.τ).loc Cert.MemoryWeightReferenceIdeal.main_arg0) = m ((c.tc : Thread Cert.MemoryWeightReferenceIdeal.nD Cert.MemoryWeightReferenceIdeal.τ).loc Cert.MemoryWeightReferenceIdeal.main_arg0)
      ∧ r.2.mem ((c.tc : Thread Cert.MemoryWeightReferenceIdeal.nD Cert.MemoryWeightReferenceIdeal.τ).loc Cert.MemoryWeightReferenceIdeal.main_arg1) = m ((c.tc : Thread Cert.MemoryWeightReferenceIdeal.nD Cert.MemoryWeightReferenceIdeal.τ).loc Cert.MemoryWeightReferenceIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpWeight_UpWeightIdeal : Prop :=
  True

def algebraic_UpWeightIdeal_UpWeightReferenceIdeal [hUpWeightIdeal : Cert.UpWeightIdeal.Facts] [hUpWeightReferenceIdeal : Cert.UpWeightReferenceIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightReferenceIdeal.nD Cert.UpWeightReferenceIdeal.τ Cert.UpWeightReferenceIdeal.sig) → Buf (Elt Ideal) ℓ) (g' : Dev Cert.UpWeightReferenceIdeal.nD → PrngReg), Pre_UpWeightIdeal m →
    (∀ c : Dev Cert.UpWeightIdeal.nD,
      m' ((c.tc : Thread Cert.UpWeightReferenceIdeal.nD Cert.UpWeightReferenceIdeal.τ).loc Cert.UpWeightReferenceIdeal.main_arg0) = m ((c.tc : Thread Cert.UpWeightIdeal.nD Cert.UpWeightIdeal.τ).loc Cert.UpWeightIdeal.main_arg0)
      ∧ m' ((c.tc : Thread Cert.UpWeightReferenceIdeal.nD Cert.UpWeightReferenceIdeal.τ).loc Cert.UpWeightReferenceIdeal.main_arg1) = m ((c.tc : Thread Cert.UpWeightIdeal.nD Cert.UpWeightIdeal.τ).loc Cert.UpWeightIdeal.main_arg1)) →
    ∃ (v0 : (c : Dev Cert.UpWeightIdeal.nD) → Buf (Elt Ideal) ((c.tc : Thread Cert.UpWeightIdeal.nD Cert.UpWeightIdeal.τ).loc Cert.UpWeightIdeal.main_v0)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v0) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ θ_run (Cert.UpWeightReferenceIdeal.defs (F := Ideal)) (onTc (τ := Cert.UpWeightReferenceIdeal.τ) (Cert.UpWeightReferenceIdeal.main (F := Ideal))) ⟨m', fun _ => 0, g'⟩ (fun r => ∀ c : Dev Cert.UpWeightReferenceIdeal.nD,
          r.2.mem ((c.tc : Thread Cert.UpWeightReferenceIdeal.nD Cert.UpWeightReferenceIdeal.τ).loc Cert.UpWeightReferenceIdeal.main_v6) = v0 c
          ∧ r.2.mem ((c.tc : Thread Cert.UpWeightReferenceIdeal.nD Cert.UpWeightReferenceIdeal.τ).loc Cert.UpWeightReferenceIdeal.main_arg0) = m' ((c.tc : Thread Cert.UpWeightReferenceIdeal.nD Cert.UpWeightReferenceIdeal.τ).loc Cert.UpWeightReferenceIdeal.main_arg0)
          ∧ r.2.mem ((c.tc : Thread Cert.UpWeightReferenceIdeal.nD Cert.UpWeightReferenceIdeal.τ).loc Cert.UpWeightReferenceIdeal.main_arg1) = m' ((c.tc : Thread Cert.UpWeightReferenceIdeal.nD Cert.UpWeightReferenceIdeal.τ).loc Cert.UpWeightReferenceIdeal.main_arg1))

def preserves_DownWeight_DownWeightIdeal : Prop :=
  True

def algebraic_DownWeightIdeal_DownWeightReferenceIdeal [hDownWeightIdeal : Cert.DownWeightIdeal.Facts] [hDownWeightReferenceIdeal : Cert.DownWeightReferenceIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightReferenceIdeal.nD Cert.DownWeightReferenceIdeal.τ Cert.DownWeightReferenceIdeal.sig) → Buf (Elt Ideal) ℓ) (g' : Dev Cert.DownWeightReferenceIdeal.nD → PrngReg), Pre_DownWeightIdeal m →
    (∀ c : Dev Cert.DownWeightIdeal.nD,
      m' ((c.tc : Thread Cert.DownWeightReferenceIdeal.nD Cert.DownWeightReferenceIdeal.τ).loc Cert.DownWeightReferenceIdeal.main_arg0) = m ((c.tc : Thread Cert.DownWeightIdeal.nD Cert.DownWeightIdeal.τ).loc Cert.DownWeightIdeal.main_arg0)
      ∧ m' ((c.tc : Thread Cert.DownWeightReferenceIdeal.nD Cert.DownWeightReferenceIdeal.τ).loc Cert.DownWeightReferenceIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightReferenceIdeal.defs (F := Ideal)) (onTc (τ := Cert.DownWeightReferenceIdeal.τ) (Cert.DownWeightReferenceIdeal.main (F := Ideal))) ⟨m', fun _ => 0, g'⟩ (fun r => ∀ c : Dev Cert.DownWeightReferenceIdeal.nD,
          r.2.mem ((c.tc : Thread Cert.DownWeightReferenceIdeal.nD Cert.DownWeightReferenceIdeal.τ).loc Cert.DownWeightReferenceIdeal.main_v6) = v0 c
          ∧ r.2.mem ((c.tc : Thread Cert.DownWeightReferenceIdeal.nD Cert.DownWeightReferenceIdeal.τ).loc Cert.DownWeightReferenceIdeal.main_arg0) = m' ((c.tc : Thread Cert.DownWeightReferenceIdeal.nD Cert.DownWeightReferenceIdeal.τ).loc Cert.DownWeightReferenceIdeal.main_arg0)
          ∧ r.2.mem ((c.tc : Thread Cert.DownWeightReferenceIdeal.nD Cert.DownWeightReferenceIdeal.τ).loc Cert.DownWeightReferenceIdeal.main_arg1) = m' ((c.tc : Thread Cert.DownWeightReferenceIdeal.nD Cert.DownWeightReferenceIdeal.τ).loc Cert.DownWeightReferenceIdeal.main_arg1))

def preserves_DownInput_DownInputIdeal : Prop :=
  True

def algebraic_DownInputIdeal_DownInputReferenceIdeal [hDownInputIdeal : Cert.DownInputIdeal.Facts] [hDownInputReferenceIdeal : Cert.DownInputReferenceIdeal.Facts] : Prop :=
  ∀ (m : (ℓ : Loc Cert.DownInputIdeal.nD Cert.DownInputIdeal.τ Cert.DownInputIdeal.sig) → Buf (Elt Ideal) ℓ) (g : Dev Cert.DownInputIdeal.nD → PrngReg)
    (m' : (ℓ : Loc Cert.DownInputReferenceIdeal.nD Cert.DownInputReferenceIdeal.τ Cert.DownInputReferenceIdeal.sig) → Buf (Elt Ideal) ℓ) (g' : Dev Cert.DownInputReferenceIdeal.nD → PrngReg), Pre_DownInputIdeal m →
    (∀ c : Dev Cert.DownInputIdeal.nD,
      m' ((c.tc : Thread Cert.DownInputReferenceIdeal.nD Cert.DownInputReferenceIdeal.τ).loc Cert.DownInputReferenceIdeal.main_arg0) = m ((c.tc : Thread Cert.DownInputIdeal.nD Cert.DownInputIdeal.τ).loc Cert.DownInputIdeal.main_arg0)
      ∧ m' ((c.tc : Thread Cert.DownInputReferenceIdeal.nD Cert.DownInputReferenceIdeal.τ).loc Cert.DownInputReferenceIdeal.main_arg1) = m ((c.tc : Thread Cert.DownInputIdeal.nD Cert.DownInputIdeal.τ).loc Cert.DownInputIdeal.main_arg1)) →
    ∃ (v0 : (c : Dev Cert.DownInputIdeal.nD) → Buf (Elt Ideal) ((c.tc : Thread Cert.DownInputIdeal.nD Cert.DownInputIdeal.τ).loc Cert.DownInputIdeal.main_v0)),
      θ_run (Cert.DownInputIdeal.defs (F := Ideal)) (onTc (τ := Cert.DownInputIdeal.τ) (Cert.DownInputIdeal.main (F := Ideal))) ⟨m, fun _ => 0, g⟩ (fun r => ∀ c : Dev Cert.DownInputIdeal.nD,
          r.2.mem ((c.tc : Thread Cert.DownInputIdeal.nD Cert.DownInputIdeal.τ).loc Cert.DownInputIdeal.main_v0) = v0 c
          ∧ r.2.mem ((c.tc : Thread Cert.DownInputIdeal.nD Cert.DownInputIdeal.τ).loc Cert.DownInputIdeal.main_arg0) = m ((c.tc : Thread Cert.DownInputIdeal.nD Cert.DownInputIdeal.τ).loc Cert.DownInputIdeal.main_arg0)
          ∧ r.2.mem ((c.tc : Thread Cert.DownInputIdeal.nD Cert.DownInputIdeal.τ).loc Cert.DownInputIdeal.main_arg1) = m ((c.tc : Thread Cert.DownInputIdeal.nD Cert.DownInputIdeal.τ).loc Cert.DownInputIdeal.main_arg1))
      ∧ θ_run (Cert.DownInputReferenceIdeal.defs (F := Ideal)) (onTc (τ := Cert.DownInputReferenceIdeal.τ) (Cert.DownInputReferenceIdeal.main (F := Ideal))) ⟨m', fun _ => 0, g'⟩ (fun r => ∀ c : Dev Cert.DownInputReferenceIdeal.nD,
          r.2.mem ((c.tc : Thread Cert.DownInputReferenceIdeal.nD Cert.DownInputReferenceIdeal.τ).loc Cert.DownInputReferenceIdeal.main_v5) = v0 c
          ∧ r.2.mem ((c.tc : Thread Cert.DownInputReferenceIdeal.nD Cert.DownInputReferenceIdeal.τ).loc Cert.DownInputReferenceIdeal.main_arg0) = m' ((c.tc : Thread Cert.DownInputReferenceIdeal.nD Cert.DownInputReferenceIdeal.τ).loc Cert.DownInputReferenceIdeal.main_arg0)
          ∧ r.2.mem ((c.tc : Thread Cert.DownInputReferenceIdeal.nD Cert.DownInputReferenceIdeal.τ).loc Cert.DownInputReferenceIdeal.main_arg1) = m' ((c.tc : Thread Cert.DownInputReferenceIdeal.nD Cert.DownInputReferenceIdeal.τ).loc Cert.DownInputReferenceIdeal.main_arg1))

def preserves_NormInput_NormInputIdeal : Prop :=
  True

def algebraic_NormInputIdeal_NormInputReferenceIdeal_pre_finite_norm [hNormInputIdeal : Cert.NormInputIdeal.Facts] [hNormInputReferenceIdeal : Cert.NormInputReferenceIdeal.Facts] [hPre_finite_norm : Cert.Pre_finite_norm.Facts] : Prop :=
  ∀ (m : (ℓ : Loc Cert.NormInputIdeal.nD Cert.NormInputIdeal.τ Cert.NormInputIdeal.sig) → Buf (Elt Ideal) ℓ) (g : Dev Cert.NormInputIdeal.nD → PrngReg)
    (m' : (ℓ : Loc Cert.NormInputReferenceIdeal.nD Cert.NormInputReferenceIdeal.τ Cert.NormInputReferenceIdeal.sig) → Buf (Elt Ideal) ℓ) (g' : Dev Cert.NormInputReferenceIdeal.nD → PrngReg), Pre_NormInputIdeal_finite_norm m →
    (∀ c : Dev Cert.NormInputIdeal.nD,
      m' ((c.tc : Thread Cert.NormInputReferenceIdeal.nD Cert.NormInputReferenceIdeal.τ).loc Cert.NormInputReferenceIdeal.main_arg0) = m ((c.tc : Thread Cert.NormInputIdeal.nD Cert.NormInputIdeal.τ).loc Cert.NormInputIdeal.main_arg0)
      ∧ m' ((c.tc : Thread Cert.NormInputReferenceIdeal.nD Cert.NormInputReferenceIdeal.τ).loc Cert.NormInputReferenceIdeal.main_arg1) = m ((c.tc : Thread Cert.NormInputIdeal.nD Cert.NormInputIdeal.τ).loc Cert.NormInputIdeal.main_arg1)
      ∧ m' ((c.tc : Thread Cert.NormInputReferenceIdeal.nD Cert.NormInputReferenceIdeal.τ).loc Cert.NormInputReferenceIdeal.main_arg2) = m ((c.tc : Thread Cert.NormInputIdeal.nD Cert.NormInputIdeal.τ).loc Cert.NormInputIdeal.main_arg2)
      ∧ m' ((c.tc : Thread Cert.NormInputReferenceIdeal.nD Cert.NormInputReferenceIdeal.τ).loc Cert.NormInputReferenceIdeal.main_arg3) = m ((c.tc : Thread Cert.NormInputIdeal.nD Cert.NormInputIdeal.τ).loc Cert.NormInputIdeal.main_arg3)
      ∧ m' ((c.tc : Thread Cert.NormInputReferenceIdeal.nD Cert.NormInputReferenceIdeal.τ).loc Cert.NormInputReferenceIdeal.main_arg4) = m ((c.tc : Thread Cert.NormInputIdeal.nD Cert.NormInputIdeal.τ).loc Cert.NormInputIdeal.main_arg4)) →
    ∃ (v0 : (c : Dev Cert.NormInputIdeal.nD) → Buf (Elt Ideal) ((c.tc : Thread Cert.NormInputIdeal.nD Cert.NormInputIdeal.τ).loc Cert.NormInputIdeal.main_v16_0)) (v1 : (c : Dev Cert.NormInputIdeal.nD) → Buf (Elt Ideal) ((c.tc : Thread Cert.NormInputIdeal.nD Cert.NormInputIdeal.τ).loc Cert.NormInputIdeal.main_v16_1)) (v2 : (c : Dev Cert.NormInputIdeal.nD) → Buf (Elt Ideal) ((c.tc : Thread Cert.NormInputIdeal.nD Cert.NormInputIdeal.τ).loc Cert.NormInputIdeal.main_v16_2)) (v3 : (c : Dev Cert.NormInputIdeal.nD) → Buf (Elt Ideal) ((c.tc : Thread Cert.NormInputIdeal.nD Cert.NormInputIdeal.τ).loc Cert.NormInputIdeal.main_v16_3)),
      θ_run (Cert.NormInputIdeal.defs (F := Ideal)) (onTc (τ := Cert.NormInputIdeal.τ) (Cert.NormInputIdeal.main (F := Ideal))) ⟨m, fun _ => 0, g⟩ (fun r => ∀ c : Dev Cert.NormInputIdeal.nD,
          r.2.mem ((c.tc : Thread Cert.NormInputIdeal.nD Cert.NormInputIdeal.τ).loc Cert.NormInputIdeal.main_v16_0) = v0 c
          ∧ r.2.mem ((c.tc : Thread Cert.NormInputIdeal.nD Cert.NormInputIdeal.τ).loc Cert.NormInputIdeal.main_v16_1) = v1 c
          ∧ r.2.mem ((c.tc : Thread Cert.NormInputIdeal.nD Cert.NormInputIdeal.τ).loc Cert.NormInputIdeal.main_v16_2) = v2 c
          ∧ r.2.mem ((c.tc : Thread Cert.NormInputIdeal.nD Cert.NormInputIdeal.τ).loc Cert.NormInputIdeal.main_v16_3) = v3 c
          ∧ r.2.mem ((c.tc : Thread Cert.NormInputIdeal.nD Cert.NormInputIdeal.τ).loc Cert.NormInputIdeal.main_arg0) = m ((c.tc : Thread Cert.NormInputIdeal.nD Cert.NormInputIdeal.τ).loc Cert.NormInputIdeal.main_arg0)
          ∧ r.2.mem ((c.tc : Thread Cert.NormInputIdeal.nD Cert.NormInputIdeal.τ).loc Cert.NormInputIdeal.main_arg1) = m ((c.tc : Thread Cert.NormInputIdeal.nD Cert.NormInputIdeal.τ).loc Cert.NormInputIdeal.main_arg1)
          ∧ r.2.mem ((c.tc : Thread Cert.NormInputIdeal.nD Cert.NormInputIdeal.τ).loc Cert.NormInputIdeal.main_arg2) = m ((c.tc : Thread Cert.NormInputIdeal.nD Cert.NormInputIdeal.τ).loc Cert.NormInputIdeal.main_arg2)
          ∧ r.2.mem ((c.tc : Thread Cert.NormInputIdeal.nD Cert.NormInputIdeal.τ).loc Cert.NormInputIdeal.main_arg3) = m ((c.tc : Thread Cert.NormInputIdeal.nD Cert.NormInputIdeal.τ).loc Cert.NormInputIdeal.main_arg3)
          ∧ r.2.mem ((c.tc : Thread Cert.NormInputIdeal.nD Cert.NormInputIdeal.τ).loc Cert.NormInputIdeal.main_arg4) = m ((c.tc : Thread Cert.NormInputIdeal.nD Cert.NormInputIdeal.τ).loc Cert.NormInputIdeal.main_arg4))
      ∧ θ_run (Cert.NormInputReferenceIdeal.defs (F := Ideal)) (onTc (τ := Cert.NormInputReferenceIdeal.τ) (Cert.NormInputReferenceIdeal.main (F := Ideal))) ⟨m', fun _ => 0, g'⟩ (fun r => ∀ c : Dev Cert.NormInputReferenceIdeal.nD,
          r.2.mem ((c.tc : Thread Cert.NormInputReferenceIdeal.nD Cert.NormInputReferenceIdeal.τ).loc Cert.NormInputReferenceIdeal.main_v67) = v0 c
          ∧ r.2.mem ((c.tc : Thread Cert.NormInputReferenceIdeal.nD Cert.NormInputReferenceIdeal.τ).loc Cert.NormInputReferenceIdeal.main_v68) = v1 c
          ∧ r.2.mem ((c.tc : Thread Cert.NormInputReferenceIdeal.nD Cert.NormInputReferenceIdeal.τ).loc Cert.NormInputReferenceIdeal.main_v41) = v2 c
          ∧ r.2.mem ((c.tc : Thread Cert.NormInputReferenceIdeal.nD Cert.NormInputReferenceIdeal.τ).loc Cert.NormInputReferenceIdeal.main_v38) = v3 c
          ∧ r.2.mem ((c.tc : Thread Cert.NormInputReferenceIdeal.nD Cert.NormInputReferenceIdeal.τ).loc Cert.NormInputReferenceIdeal.main_arg0) = m' ((c.tc : Thread Cert.NormInputReferenceIdeal.nD Cert.NormInputReferenceIdeal.τ).loc Cert.NormInputReferenceIdeal.main_arg0)
          ∧ r.2.mem ((c.tc : Thread Cert.NormInputReferenceIdeal.nD Cert.NormInputReferenceIdeal.τ).loc Cert.NormInputReferenceIdeal.main_arg1) = m' ((c.tc : Thread Cert.NormInputReferenceIdeal.nD Cert.NormInputReferenceIdeal.τ).loc Cert.NormInputReferenceIdeal.main_arg1)
          ∧ r.2.mem ((c.tc : Thread Cert.NormInputReferenceIdeal.nD Cert.NormInputReferenceIdeal.τ).loc Cert.NormInputReferenceIdeal.main_arg2) = m' ((c.tc : Thread Cert.NormInputReferenceIdeal.nD Cert.NormInputReferenceIdeal.τ).loc Cert.NormInputReferenceIdeal.main_arg2)
          ∧ r.2.mem ((c.tc : Thread Cert.NormInputReferenceIdeal.nD Cert.NormInputReferenceIdeal.τ).loc Cert.NormInputReferenceIdeal.main_arg3) = m' ((c.tc : Thread Cert.NormInputReferenceIdeal.nD Cert.NormInputReferenceIdeal.τ).loc Cert.NormInputReferenceIdeal.main_arg3)
          ∧ r.2.mem ((c.tc : Thread Cert.NormInputReferenceIdeal.nD Cert.NormInputReferenceIdeal.τ).loc Cert.NormInputReferenceIdeal.main_arg4) = m' ((c.tc : Thread Cert.NormInputReferenceIdeal.nD Cert.NormInputReferenceIdeal.τ).loc Cert.NormInputReferenceIdeal.main_arg4))

def preserves_SquareWeight_SquareWeightIdeal : Prop :=
  True

def algebraic_SquareWeightIdeal_SquareWeightReferenceIdeal [hSquareWeightIdeal : Cert.SquareWeightIdeal.Facts] [hSquareWeightReferenceIdeal : Cert.SquareWeightReferenceIdeal.Facts] : Prop :=
  ∀ (m : (ℓ : Loc Cert.SquareWeightIdeal.nD Cert.SquareWeightIdeal.τ Cert.SquareWeightIdeal.sig) → Buf (Elt Ideal) ℓ) (g : Dev Cert.SquareWeightIdeal.nD → PrngReg)
    (m' : (ℓ : Loc Cert.SquareWeightReferenceIdeal.nD Cert.SquareWeightReferenceIdeal.τ Cert.SquareWeightReferenceIdeal.sig) → Buf (Elt Ideal) ℓ) (g' : Dev Cert.SquareWeightReferenceIdeal.nD → PrngReg), Pre_SquareWeightIdeal m →
    (∀ c : Dev Cert.SquareWeightIdeal.nD,
      m' ((c.tc : Thread Cert.SquareWeightReferenceIdeal.nD Cert.SquareWeightReferenceIdeal.τ).loc Cert.SquareWeightReferenceIdeal.main_arg0) = m ((c.tc : Thread Cert.SquareWeightIdeal.nD Cert.SquareWeightIdeal.τ).loc Cert.SquareWeightIdeal.main_arg0)
      ∧ m' ((c.tc : Thread Cert.SquareWeightReferenceIdeal.nD Cert.SquareWeightReferenceIdeal.τ).loc Cert.SquareWeightReferenceIdeal.main_arg1) = m ((c.tc : Thread Cert.SquareWeightIdeal.nD Cert.SquareWeightIdeal.τ).loc Cert.SquareWeightIdeal.main_arg1)) →
    ∃ (v0 : (c : Dev Cert.SquareWeightIdeal.nD) → Buf (Elt Ideal) ((c.tc : Thread Cert.SquareWeightIdeal.nD Cert.SquareWeightIdeal.τ).loc Cert.SquareWeightIdeal.main_v0)),
      θ_run (Cert.SquareWeightIdeal.defs (F := Ideal)) (onTc (τ := Cert.SquareWeightIdeal.τ) (Cert.SquareWeightIdeal.main (F := Ideal))) ⟨m, fun _ => 0, g⟩ (fun r => ∀ c : Dev Cert.SquareWeightIdeal.nD,
          r.2.mem ((c.tc : Thread Cert.SquareWeightIdeal.nD Cert.SquareWeightIdeal.τ).loc Cert.SquareWeightIdeal.main_v0) = v0 c
          ∧ r.2.mem ((c.tc : Thread Cert.SquareWeightIdeal.nD Cert.SquareWeightIdeal.τ).loc Cert.SquareWeightIdeal.main_arg0) = m ((c.tc : Thread Cert.SquareWeightIdeal.nD Cert.SquareWeightIdeal.τ).loc Cert.SquareWeightIdeal.main_arg0)
          ∧ r.2.mem ((c.tc : Thread Cert.SquareWeightIdeal.nD Cert.SquareWeightIdeal.τ).loc Cert.SquareWeightIdeal.main_arg1) = m ((c.tc : Thread Cert.SquareWeightIdeal.nD Cert.SquareWeightIdeal.τ).loc Cert.SquareWeightIdeal.main_arg1))
      ∧ θ_run (Cert.SquareWeightReferenceIdeal.defs (F := Ideal)) (onTc (τ := Cert.SquareWeightReferenceIdeal.τ) (Cert.SquareWeightReferenceIdeal.main (F := Ideal))) ⟨m', fun _ => 0, g'⟩ (fun r => ∀ c : Dev Cert.SquareWeightReferenceIdeal.nD,
          r.2.mem ((c.tc : Thread Cert.SquareWeightReferenceIdeal.nD Cert.SquareWeightReferenceIdeal.τ).loc Cert.SquareWeightReferenceIdeal.main_v6) = v0 c
          ∧ r.2.mem ((c.tc : Thread Cert.SquareWeightReferenceIdeal.nD Cert.SquareWeightReferenceIdeal.τ).loc Cert.SquareWeightReferenceIdeal.main_arg0) = m' ((c.tc : Thread Cert.SquareWeightReferenceIdeal.nD Cert.SquareWeightReferenceIdeal.τ).loc Cert.SquareWeightReferenceIdeal.main_arg0)
          ∧ r.2.mem ((c.tc : Thread Cert.SquareWeightReferenceIdeal.nD Cert.SquareWeightReferenceIdeal.τ).loc Cert.SquareWeightReferenceIdeal.main_arg1) = m' ((c.tc : Thread Cert.SquareWeightReferenceIdeal.nD Cert.SquareWeightReferenceIdeal.τ).loc Cert.SquareWeightReferenceIdeal.main_arg1))

def preserves_SquareInput_SquareInputIdeal : Prop :=
  True

def algebraic_SquareInputIdeal_SquareInputReferenceIdeal [hSquareInputIdeal : Cert.SquareInputIdeal.Facts] [hSquareInputReferenceIdeal : Cert.SquareInputReferenceIdeal.Facts] : Prop :=
  ∀ (m : (ℓ : Loc Cert.SquareInputIdeal.nD Cert.SquareInputIdeal.τ Cert.SquareInputIdeal.sig) → Buf (Elt Ideal) ℓ) (g : Dev Cert.SquareInputIdeal.nD → PrngReg)
    (m' : (ℓ : Loc Cert.SquareInputReferenceIdeal.nD Cert.SquareInputReferenceIdeal.τ Cert.SquareInputReferenceIdeal.sig) → Buf (Elt Ideal) ℓ) (g' : Dev Cert.SquareInputReferenceIdeal.nD → PrngReg), Pre_SquareInputIdeal m →
    (∀ c : Dev Cert.SquareInputIdeal.nD,
      m' ((c.tc : Thread Cert.SquareInputReferenceIdeal.nD Cert.SquareInputReferenceIdeal.τ).loc Cert.SquareInputReferenceIdeal.main_arg0) = m ((c.tc : Thread Cert.SquareInputIdeal.nD Cert.SquareInputIdeal.τ).loc Cert.SquareInputIdeal.main_arg0)
      ∧ m' ((c.tc : Thread Cert.SquareInputReferenceIdeal.nD Cert.SquareInputReferenceIdeal.τ).loc Cert.SquareInputReferenceIdeal.main_arg1) = m ((c.tc : Thread Cert.SquareInputIdeal.nD Cert.SquareInputIdeal.τ).loc Cert.SquareInputIdeal.main_arg1)) →
    ∃ (v0 : (c : Dev Cert.SquareInputIdeal.nD) → Buf (Elt Ideal) ((c.tc : Thread Cert.SquareInputIdeal.nD Cert.SquareInputIdeal.τ).loc Cert.SquareInputIdeal.main_v0)),
      θ_run (Cert.SquareInputIdeal.defs (F := Ideal)) (onTc (τ := Cert.SquareInputIdeal.τ) (Cert.SquareInputIdeal.main (F := Ideal))) ⟨m, fun _ => 0, g⟩ (fun r => ∀ c : Dev Cert.SquareInputIdeal.nD,
          r.2.mem ((c.tc : Thread Cert.SquareInputIdeal.nD Cert.SquareInputIdeal.τ).loc Cert.SquareInputIdeal.main_v0) = v0 c
          ∧ r.2.mem ((c.tc : Thread Cert.SquareInputIdeal.nD Cert.SquareInputIdeal.τ).loc Cert.SquareInputIdeal.main_arg0) = m ((c.tc : Thread Cert.SquareInputIdeal.nD Cert.SquareInputIdeal.τ).loc Cert.SquareInputIdeal.main_arg0)
          ∧ r.2.mem ((c.tc : Thread Cert.SquareInputIdeal.nD Cert.SquareInputIdeal.τ).loc Cert.SquareInputIdeal.main_arg1) = m ((c.tc : Thread Cert.SquareInputIdeal.nD Cert.SquareInputIdeal.τ).loc Cert.SquareInputIdeal.main_arg1))
      ∧ θ_run (Cert.SquareInputReferenceIdeal.defs (F := Ideal)) (onTc (τ := Cert.SquareInputReferenceIdeal.τ) (Cert.SquareInputReferenceIdeal.main (F := Ideal))) ⟨m', fun _ => 0, g'⟩ (fun r => ∀ c : Dev Cert.SquareInputReferenceIdeal.nD,
          r.2.mem ((c.tc : Thread Cert.SquareInputReferenceIdeal.nD Cert.SquareInputReferenceIdeal.τ).loc Cert.SquareInputReferenceIdeal.main_v5) = v0 c
          ∧ r.2.mem ((c.tc : Thread Cert.SquareInputReferenceIdeal.nD Cert.SquareInputReferenceIdeal.τ).loc Cert.SquareInputReferenceIdeal.main_arg0) = m' ((c.tc : Thread Cert.SquareInputReferenceIdeal.nD Cert.SquareInputReferenceIdeal.τ).loc Cert.SquareInputReferenceIdeal.main_arg0)
          ∧ r.2.mem ((c.tc : Thread Cert.SquareInputReferenceIdeal.nD Cert.SquareInputReferenceIdeal.τ).loc Cert.SquareInputReferenceIdeal.main_arg1) = m' ((c.tc : Thread Cert.SquareInputReferenceIdeal.nD Cert.SquareInputReferenceIdeal.τ).loc Cert.SquareInputReferenceIdeal.main_arg1))

def preserves_WindowWeight_WindowWeightIdeal : Prop :=
  True

def algebraic_WindowWeightIdeal_WindowWeightReferenceIdeal [hWindowWeightIdeal : Cert.WindowWeightIdeal.Facts] [hWindowWeightReferenceIdeal : Cert.WindowWeightReferenceIdeal.Facts] : Prop :=
  ∀ (m : (ℓ : Loc Cert.WindowWeightIdeal.nD Cert.WindowWeightIdeal.τ Cert.WindowWeightIdeal.sig) → Buf (Elt Ideal) ℓ) (g : Dev Cert.WindowWeightIdeal.nD → PrngReg)
    (m' : (ℓ : Loc Cert.WindowWeightReferenceIdeal.nD Cert.WindowWeightReferenceIdeal.τ Cert.WindowWeightReferenceIdeal.sig) → Buf (Elt Ideal) ℓ) (g' : Dev Cert.WindowWeightReferenceIdeal.nD → PrngReg), Pre_WindowWeightIdeal m →
    (∀ c : Dev Cert.WindowWeightIdeal.nD,
      m' ((c.tc : Thread Cert.WindowWeightReferenceIdeal.nD Cert.WindowWeightReferenceIdeal.τ).loc Cert.WindowWeightReferenceIdeal.main_arg0) = m ((c.tc : Thread Cert.WindowWeightIdeal.nD Cert.WindowWeightIdeal.τ).loc Cert.WindowWeightIdeal.main_arg0)
      ∧ m' ((c.tc : Thread Cert.WindowWeightReferenceIdeal.nD Cert.WindowWeightReferenceIdeal.τ).loc Cert.WindowWeightReferenceIdeal.main_arg1) = m ((c.tc : Thread Cert.WindowWeightIdeal.nD Cert.WindowWeightIdeal.τ).loc Cert.WindowWeightIdeal.main_arg1)) →
    ∃ (v0 : (c : Dev Cert.WindowWeightIdeal.nD) → Buf (Elt Ideal) ((c.tc : Thread Cert.WindowWeightIdeal.nD Cert.WindowWeightIdeal.τ).loc Cert.WindowWeightIdeal.main_v0)),
      θ_run (Cert.WindowWeightIdeal.defs (F := Ideal)) (onTc (τ := Cert.WindowWeightIdeal.τ) (Cert.WindowWeightIdeal.main (F := Ideal))) ⟨m, fun _ => 0, g⟩ (fun r => ∀ c : Dev Cert.WindowWeightIdeal.nD,
          r.2.mem ((c.tc : Thread Cert.WindowWeightIdeal.nD Cert.WindowWeightIdeal.τ).loc Cert.WindowWeightIdeal.main_v0) = v0 c
          ∧ r.2.mem ((c.tc : Thread Cert.WindowWeightIdeal.nD Cert.WindowWeightIdeal.τ).loc Cert.WindowWeightIdeal.main_arg0) = m ((c.tc : Thread Cert.WindowWeightIdeal.nD Cert.WindowWeightIdeal.τ).loc Cert.WindowWeightIdeal.main_arg0)
          ∧ r.2.mem ((c.tc : Thread Cert.WindowWeightIdeal.nD Cert.WindowWeightIdeal.τ).loc Cert.WindowWeightIdeal.main_arg1) = m ((c.tc : Thread Cert.WindowWeightIdeal.nD Cert.WindowWeightIdeal.τ).loc Cert.WindowWeightIdeal.main_arg1))
      ∧ θ_run (Cert.WindowWeightReferenceIdeal.defs (F := Ideal)) (onTc (τ := Cert.WindowWeightReferenceIdeal.τ) (Cert.WindowWeightReferenceIdeal.main (F := Ideal))) ⟨m', fun _ => 0, g'⟩ (fun r => ∀ c : Dev Cert.WindowWeightReferenceIdeal.nD,
          r.2.mem ((c.tc : Thread Cert.WindowWeightReferenceIdeal.nD Cert.WindowWeightReferenceIdeal.τ).loc Cert.WindowWeightReferenceIdeal.main_v6) = v0 c
          ∧ r.2.mem ((c.tc : Thread Cert.WindowWeightReferenceIdeal.nD Cert.WindowWeightReferenceIdeal.τ).loc Cert.WindowWeightReferenceIdeal.main_arg0) = m' ((c.tc : Thread Cert.WindowWeightReferenceIdeal.nD Cert.WindowWeightReferenceIdeal.τ).loc Cert.WindowWeightReferenceIdeal.main_arg0)
          ∧ r.2.mem ((c.tc : Thread Cert.WindowWeightReferenceIdeal.nD Cert.WindowWeightReferenceIdeal.τ).loc Cert.WindowWeightReferenceIdeal.main_arg1) = m' ((c.tc : Thread Cert.WindowWeightReferenceIdeal.nD Cert.WindowWeightReferenceIdeal.τ).loc Cert.WindowWeightReferenceIdeal.main_arg1))

def preserves_RecurrenceWeight_RecurrenceWeightIdeal : Prop :=
  True

def algebraic_RecurrenceWeightIdeal_RecurrenceWeightReferenceIdeal [hRecurrenceWeightIdeal : Cert.RecurrenceWeightIdeal.Facts] [hRecurrenceWeightReferenceIdeal : Cert.RecurrenceWeightReferenceIdeal.Facts] : Prop :=
  ∀ (m : (ℓ : Loc Cert.RecurrenceWeightIdeal.nD Cert.RecurrenceWeightIdeal.τ Cert.RecurrenceWeightIdeal.sig) → Buf (Elt Ideal) ℓ) (g : Dev Cert.RecurrenceWeightIdeal.nD → PrngReg)
    (m' : (ℓ : Loc Cert.RecurrenceWeightReferenceIdeal.nD Cert.RecurrenceWeightReferenceIdeal.τ Cert.RecurrenceWeightReferenceIdeal.sig) → Buf (Elt Ideal) ℓ) (g' : Dev Cert.RecurrenceWeightReferenceIdeal.nD → PrngReg), Pre_RecurrenceWeightIdeal m →
    (∀ c : Dev Cert.RecurrenceWeightIdeal.nD,
      m' ((c.tc : Thread Cert.RecurrenceWeightReferenceIdeal.nD Cert.RecurrenceWeightReferenceIdeal.τ).loc Cert.RecurrenceWeightReferenceIdeal.main_arg0) = m ((c.tc : Thread Cert.RecurrenceWeightIdeal.nD Cert.RecurrenceWeightIdeal.τ).loc Cert.RecurrenceWeightIdeal.main_arg0)
      ∧ m' ((c.tc : Thread Cert.RecurrenceWeightReferenceIdeal.nD Cert.RecurrenceWeightReferenceIdeal.τ).loc Cert.RecurrenceWeightReferenceIdeal.main_arg1) = m ((c.tc : Thread Cert.RecurrenceWeightIdeal.nD Cert.RecurrenceWeightIdeal.τ).loc Cert.RecurrenceWeightIdeal.main_arg1)) →
    ∃ (v0 : (c : Dev Cert.RecurrenceWeightIdeal.nD) → Buf (Elt Ideal) ((c.tc : Thread Cert.RecurrenceWeightIdeal.nD Cert.RecurrenceWeightIdeal.τ).loc Cert.RecurrenceWeightIdeal.main_v0)),
      θ_run (Cert.RecurrenceWeightIdeal.defs (F := Ideal)) (onTc (τ := Cert.RecurrenceWeightIdeal.τ) (Cert.RecurrenceWeightIdeal.main (F := Ideal))) ⟨m, fun _ => 0, g⟩ (fun r => ∀ c : Dev Cert.RecurrenceWeightIdeal.nD,
          r.2.mem ((c.tc : Thread Cert.RecurrenceWeightIdeal.nD Cert.RecurrenceWeightIdeal.τ).loc Cert.RecurrenceWeightIdeal.main_v0) = v0 c
          ∧ r.2.mem ((c.tc : Thread Cert.RecurrenceWeightIdeal.nD Cert.RecurrenceWeightIdeal.τ).loc Cert.RecurrenceWeightIdeal.main_arg0) = m ((c.tc : Thread Cert.RecurrenceWeightIdeal.nD Cert.RecurrenceWeightIdeal.τ).loc Cert.RecurrenceWeightIdeal.main_arg0)
          ∧ r.2.mem ((c.tc : Thread Cert.RecurrenceWeightIdeal.nD Cert.RecurrenceWeightIdeal.τ).loc Cert.RecurrenceWeightIdeal.main_arg1) = m ((c.tc : Thread Cert.RecurrenceWeightIdeal.nD Cert.RecurrenceWeightIdeal.τ).loc Cert.RecurrenceWeightIdeal.main_arg1))
      ∧ θ_run (Cert.RecurrenceWeightReferenceIdeal.defs (F := Ideal)) (onTc (τ := Cert.RecurrenceWeightReferenceIdeal.τ) (Cert.RecurrenceWeightReferenceIdeal.main (F := Ideal))) ⟨m', fun _ => 0, g'⟩ (fun r => ∀ c : Dev Cert.RecurrenceWeightReferenceIdeal.nD,
          r.2.mem ((c.tc : Thread Cert.RecurrenceWeightReferenceIdeal.nD Cert.RecurrenceWeightReferenceIdeal.τ).loc Cert.RecurrenceWeightReferenceIdeal.main_v6) = v0 c
          ∧ r.2.mem ((c.tc : Thread Cert.RecurrenceWeightReferenceIdeal.nD Cert.RecurrenceWeightReferenceIdeal.τ).loc Cert.RecurrenceWeightReferenceIdeal.main_arg0) = m' ((c.tc : Thread Cert.RecurrenceWeightReferenceIdeal.nD Cert.RecurrenceWeightReferenceIdeal.τ).loc Cert.RecurrenceWeightReferenceIdeal.main_arg0)
          ∧ r.2.mem ((c.tc : Thread Cert.RecurrenceWeightReferenceIdeal.nD Cert.RecurrenceWeightReferenceIdeal.τ).loc Cert.RecurrenceWeightReferenceIdeal.main_arg1) = m' ((c.tc : Thread Cert.RecurrenceWeightReferenceIdeal.nD Cert.RecurrenceWeightReferenceIdeal.τ).loc Cert.RecurrenceWeightReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v3) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_NormQuery_NormQueryIdeal : Prop :=
  True

def algebraic_NormQueryIdeal_NormQueryReferenceIdeal_pre_finite_query [hNormQueryIdeal : Cert.NormQueryIdeal.Facts] [hNormQueryReferenceIdeal : Cert.NormQueryReferenceIdeal.Facts] [hPre_finite_query : Cert.Pre_finite_query.Facts] : Prop :=
  ∀ (m : (ℓ : Loc Cert.NormQueryIdeal.nD Cert.NormQueryIdeal.τ Cert.NormQueryIdeal.sig) → Buf (Elt Ideal) ℓ) (g : Dev Cert.NormQueryIdeal.nD → PrngReg)
    (m' : (ℓ : Loc Cert.NormQueryReferenceIdeal.nD Cert.NormQueryReferenceIdeal.τ Cert.NormQueryReferenceIdeal.sig) → Buf (Elt Ideal) ℓ) (g' : Dev Cert.NormQueryReferenceIdeal.nD → PrngReg), Pre_NormQueryIdeal_finite_query m →
    (∀ c : Dev Cert.NormQueryIdeal.nD,
      m' ((c.tc : Thread Cert.NormQueryReferenceIdeal.nD Cert.NormQueryReferenceIdeal.τ).loc Cert.NormQueryReferenceIdeal.main_arg0) = m ((c.tc : Thread Cert.NormQueryIdeal.nD Cert.NormQueryIdeal.τ).loc Cert.NormQueryIdeal.main_arg0)
      ∧ m' ((c.tc : Thread Cert.NormQueryReferenceIdeal.nD Cert.NormQueryReferenceIdeal.τ).loc Cert.NormQueryReferenceIdeal.main_arg1) = m ((c.tc : Thread Cert.NormQueryIdeal.nD Cert.NormQueryIdeal.τ).loc Cert.NormQueryIdeal.main_arg1)
      ∧ m' ((c.tc : Thread Cert.NormQueryReferenceIdeal.nD Cert.NormQueryReferenceIdeal.τ).loc Cert.NormQueryReferenceIdeal.main_arg2) = m ((c.tc : Thread Cert.NormQueryIdeal.nD Cert.NormQueryIdeal.τ).loc Cert.NormQueryIdeal.main_arg2)
      ∧ m' ((c.tc : Thread Cert.NormQueryReferenceIdeal.nD Cert.NormQueryReferenceIdeal.τ).loc Cert.NormQueryReferenceIdeal.main_arg3) = m ((c.tc : Thread Cert.NormQueryIdeal.nD Cert.NormQueryIdeal.τ).loc Cert.NormQueryIdeal.main_arg3)
      ∧ m' ((c.tc : Thread Cert.NormQueryReferenceIdeal.nD Cert.NormQueryReferenceIdeal.τ).loc Cert.NormQueryReferenceIdeal.main_arg4) = m ((c.tc : Thread Cert.NormQueryIdeal.nD Cert.NormQueryIdeal.τ).loc Cert.NormQueryIdeal.main_arg4)) →
    ∃ (v0 : (c : Dev Cert.NormQueryIdeal.nD) → Buf (Elt Ideal) ((c.tc : Thread Cert.NormQueryIdeal.nD Cert.NormQueryIdeal.τ).loc Cert.NormQueryIdeal.main_v16_0)) (v1 : (c : Dev Cert.NormQueryIdeal.nD) → Buf (Elt Ideal) ((c.tc : Thread Cert.NormQueryIdeal.nD Cert.NormQueryIdeal.τ).loc Cert.NormQueryIdeal.main_v16_1)) (v2 : (c : Dev Cert.NormQueryIdeal.nD) → Buf (Elt Ideal) ((c.tc : Thread Cert.NormQueryIdeal.nD Cert.NormQueryIdeal.τ).loc Cert.NormQueryIdeal.main_v16_2)) (v3 : (c : Dev Cert.NormQueryIdeal.nD) → Buf (Elt Ideal) ((c.tc : Thread Cert.NormQueryIdeal.nD Cert.NormQueryIdeal.τ).loc Cert.NormQueryIdeal.main_v16_3)),
      θ_run (Cert.NormQueryIdeal.defs (F := Ideal)) (onTc (τ := Cert.NormQueryIdeal.τ) (Cert.NormQueryIdeal.main (F := Ideal))) ⟨m, fun _ => 0, g⟩ (fun r => ∀ c : Dev Cert.NormQueryIdeal.nD,
          r.2.mem ((c.tc : Thread Cert.NormQueryIdeal.nD Cert.NormQueryIdeal.τ).loc Cert.NormQueryIdeal.main_v16_0) = v0 c
          ∧ r.2.mem ((c.tc : Thread Cert.NormQueryIdeal.nD Cert.NormQueryIdeal.τ).loc Cert.NormQueryIdeal.main_v16_1) = v1 c
          ∧ r.2.mem ((c.tc : Thread Cert.NormQueryIdeal.nD Cert.NormQueryIdeal.τ).loc Cert.NormQueryIdeal.main_v16_2) = v2 c
          ∧ r.2.mem ((c.tc : Thread Cert.NormQueryIdeal.nD Cert.NormQueryIdeal.τ).loc Cert.NormQueryIdeal.main_v16_3) = v3 c
          ∧ r.2.mem ((c.tc : Thread Cert.NormQueryIdeal.nD Cert.NormQueryIdeal.τ).loc Cert.NormQueryIdeal.main_arg0) = m ((c.tc : Thread Cert.NormQueryIdeal.nD Cert.NormQueryIdeal.τ).loc Cert.NormQueryIdeal.main_arg0)
          ∧ r.2.mem ((c.tc : Thread Cert.NormQueryIdeal.nD Cert.NormQueryIdeal.τ).loc Cert.NormQueryIdeal.main_arg1) = m ((c.tc : Thread Cert.NormQueryIdeal.nD Cert.NormQueryIdeal.τ).loc Cert.NormQueryIdeal.main_arg1)
          ∧ r.2.mem ((c.tc : Thread Cert.NormQueryIdeal.nD Cert.NormQueryIdeal.τ).loc Cert.NormQueryIdeal.main_arg2) = m ((c.tc : Thread Cert.NormQueryIdeal.nD Cert.NormQueryIdeal.τ).loc Cert.NormQueryIdeal.main_arg2)
          ∧ r.2.mem ((c.tc : Thread Cert.NormQueryIdeal.nD Cert.NormQueryIdeal.τ).loc Cert.NormQueryIdeal.main_arg3) = m ((c.tc : Thread Cert.NormQueryIdeal.nD Cert.NormQueryIdeal.τ).loc Cert.NormQueryIdeal.main_arg3)
          ∧ r.2.mem ((c.tc : Thread Cert.NormQueryIdeal.nD Cert.NormQueryIdeal.τ).loc Cert.NormQueryIdeal.main_arg4) = m ((c.tc : Thread Cert.NormQueryIdeal.nD Cert.NormQueryIdeal.τ).loc Cert.NormQueryIdeal.main_arg4))
      ∧ θ_run (Cert.NormQueryReferenceIdeal.defs (F := Ideal)) (onTc (τ := Cert.NormQueryReferenceIdeal.τ) (Cert.NormQueryReferenceIdeal.main (F := Ideal))) ⟨m', fun _ => 0, g'⟩ (fun r => ∀ c : Dev Cert.NormQueryReferenceIdeal.nD,
          r.2.mem ((c.tc : Thread Cert.NormQueryReferenceIdeal.nD Cert.NormQueryReferenceIdeal.τ).loc Cert.NormQueryReferenceIdeal.main_v67) = v0 c
          ∧ r.2.mem ((c.tc : Thread Cert.NormQueryReferenceIdeal.nD Cert.NormQueryReferenceIdeal.τ).loc Cert.NormQueryReferenceIdeal.main_v68) = v1 c
          ∧ r.2.mem ((c.tc : Thread Cert.NormQueryReferenceIdeal.nD Cert.NormQueryReferenceIdeal.τ).loc Cert.NormQueryReferenceIdeal.main_v41) = v2 c
          ∧ r.2.mem ((c.tc : Thread Cert.NormQueryReferenceIdeal.nD Cert.NormQueryReferenceIdeal.τ).loc Cert.NormQueryReferenceIdeal.main_v38) = v3 c
          ∧ r.2.mem ((c.tc : Thread Cert.NormQueryReferenceIdeal.nD Cert.NormQueryReferenceIdeal.τ).loc Cert.NormQueryReferenceIdeal.main_arg0) = m' ((c.tc : Thread Cert.NormQueryReferenceIdeal.nD Cert.NormQueryReferenceIdeal.τ).loc Cert.NormQueryReferenceIdeal.main_arg0)
          ∧ r.2.mem ((c.tc : Thread Cert.NormQueryReferenceIdeal.nD Cert.NormQueryReferenceIdeal.τ).loc Cert.NormQueryReferenceIdeal.main_arg1) = m' ((c.tc : Thread Cert.NormQueryReferenceIdeal.nD Cert.NormQueryReferenceIdeal.τ).loc Cert.NormQueryReferenceIdeal.main_arg1)
          ∧ r.2.mem ((c.tc : Thread Cert.NormQueryReferenceIdeal.nD Cert.NormQueryReferenceIdeal.τ).loc Cert.NormQueryReferenceIdeal.main_arg2) = m' ((c.tc : Thread Cert.NormQueryReferenceIdeal.nD Cert.NormQueryReferenceIdeal.τ).loc Cert.NormQueryReferenceIdeal.main_arg2)
          ∧ r.2.mem ((c.tc : Thread Cert.NormQueryReferenceIdeal.nD Cert.NormQueryReferenceIdeal.τ).loc Cert.NormQueryReferenceIdeal.main_arg3) = m' ((c.tc : Thread Cert.NormQueryReferenceIdeal.nD Cert.NormQueryReferenceIdeal.τ).loc Cert.NormQueryReferenceIdeal.main_arg3)
          ∧ r.2.mem ((c.tc : Thread Cert.NormQueryReferenceIdeal.nD Cert.NormQueryReferenceIdeal.τ).loc Cert.NormQueryReferenceIdeal.main_arg4) = m' ((c.tc : Thread Cert.NormQueryReferenceIdeal.nD Cert.NormQueryReferenceIdeal.τ).loc Cert.NormQueryReferenceIdeal.main_arg4))

def preserves_NormRecurrence_NormRecurrenceIdeal : Prop :=
  True

def algebraic_NormRecurrenceIdeal_NormRecurrenceReferenceIdeal_pre_finite_recurrence [hNormRecurrenceIdeal : Cert.NormRecurrenceIdeal.Facts] [hNormRecurrenceReferenceIdeal : Cert.NormRecurrenceReferenceIdeal.Facts] [hPre_finite_recurrence : Cert.Pre_finite_recurrence.Facts] : Prop :=
  ∀ (m : (ℓ : Loc Cert.NormRecurrenceIdeal.nD Cert.NormRecurrenceIdeal.τ Cert.NormRecurrenceIdeal.sig) → Buf (Elt Ideal) ℓ) (g : Dev Cert.NormRecurrenceIdeal.nD → PrngReg)
    (m' : (ℓ : Loc Cert.NormRecurrenceReferenceIdeal.nD Cert.NormRecurrenceReferenceIdeal.τ Cert.NormRecurrenceReferenceIdeal.sig) → Buf (Elt Ideal) ℓ) (g' : Dev Cert.NormRecurrenceReferenceIdeal.nD → PrngReg), Pre_NormRecurrenceIdeal_finite_recurrence m →
    (∀ c : Dev Cert.NormRecurrenceIdeal.nD,
      m' ((c.tc : Thread Cert.NormRecurrenceReferenceIdeal.nD Cert.NormRecurrenceReferenceIdeal.τ).loc Cert.NormRecurrenceReferenceIdeal.main_arg0) = m ((c.tc : Thread Cert.NormRecurrenceIdeal.nD Cert.NormRecurrenceIdeal.τ).loc Cert.NormRecurrenceIdeal.main_arg0)
      ∧ m' ((c.tc : Thread Cert.NormRecurrenceReferenceIdeal.nD Cert.NormRecurrenceReferenceIdeal.τ).loc Cert.NormRecurrenceReferenceIdeal.main_arg1) = m ((c.tc : Thread Cert.NormRecurrenceIdeal.nD Cert.NormRecurrenceIdeal.τ).loc Cert.NormRecurrenceIdeal.main_arg1)
      ∧ m' ((c.tc : Thread Cert.NormRecurrenceReferenceIdeal.nD Cert.NormRecurrenceReferenceIdeal.τ).loc Cert.NormRecurrenceReferenceIdeal.main_arg2) = m ((c.tc : Thread Cert.NormRecurrenceIdeal.nD Cert.NormRecurrenceIdeal.τ).loc Cert.NormRecurrenceIdeal.main_arg2)
      ∧ m' ((c.tc : Thread Cert.NormRecurrenceReferenceIdeal.nD Cert.NormRecurrenceReferenceIdeal.τ).loc Cert.NormRecurrenceReferenceIdeal.main_arg3) = m ((c.tc : Thread Cert.NormRecurrenceIdeal.nD Cert.NormRecurrenceIdeal.τ).loc Cert.NormRecurrenceIdeal.main_arg3)
      ∧ m' ((c.tc : Thread Cert.NormRecurrenceReferenceIdeal.nD Cert.NormRecurrenceReferenceIdeal.τ).loc Cert.NormRecurrenceReferenceIdeal.main_arg4) = m ((c.tc : Thread Cert.NormRecurrenceIdeal.nD Cert.NormRecurrenceIdeal.τ).loc Cert.NormRecurrenceIdeal.main_arg4)) →
    ∃ (v0 : (c : Dev Cert.NormRecurrenceIdeal.nD) → Buf (Elt Ideal) ((c.tc : Thread Cert.NormRecurrenceIdeal.nD Cert.NormRecurrenceIdeal.τ).loc Cert.NormRecurrenceIdeal.main_v16_0)) (v1 : (c : Dev Cert.NormRecurrenceIdeal.nD) → Buf (Elt Ideal) ((c.tc : Thread Cert.NormRecurrenceIdeal.nD Cert.NormRecurrenceIdeal.τ).loc Cert.NormRecurrenceIdeal.main_v16_1)) (v2 : (c : Dev Cert.NormRecurrenceIdeal.nD) → Buf (Elt Ideal) ((c.tc : Thread Cert.NormRecurrenceIdeal.nD Cert.NormRecurrenceIdeal.τ).loc Cert.NormRecurrenceIdeal.main_v16_2)) (v3 : (c : Dev Cert.NormRecurrenceIdeal.nD) → Buf (Elt Ideal) ((c.tc : Thread Cert.NormRecurrenceIdeal.nD Cert.NormRecurrenceIdeal.τ).loc Cert.NormRecurrenceIdeal.main_v16_3)),
      θ_run (Cert.NormRecurrenceIdeal.defs (F := Ideal)) (onTc (τ := Cert.NormRecurrenceIdeal.τ) (Cert.NormRecurrenceIdeal.main (F := Ideal))) ⟨m, fun _ => 0, g⟩ (fun r => ∀ c : Dev Cert.NormRecurrenceIdeal.nD,
          r.2.mem ((c.tc : Thread Cert.NormRecurrenceIdeal.nD Cert.NormRecurrenceIdeal.τ).loc Cert.NormRecurrenceIdeal.main_v16_0) = v0 c
          ∧ r.2.mem ((c.tc : Thread Cert.NormRecurrenceIdeal.nD Cert.NormRecurrenceIdeal.τ).loc Cert.NormRecurrenceIdeal.main_v16_1) = v1 c
          ∧ r.2.mem ((c.tc : Thread Cert.NormRecurrenceIdeal.nD Cert.NormRecurrenceIdeal.τ).loc Cert.NormRecurrenceIdeal.main_v16_2) = v2 c
          ∧ r.2.mem ((c.tc : Thread Cert.NormRecurrenceIdeal.nD Cert.NormRecurrenceIdeal.τ).loc Cert.NormRecurrenceIdeal.main_v16_3) = v3 c
          ∧ r.2.mem ((c.tc : Thread Cert.NormRecurrenceIdeal.nD Cert.NormRecurrenceIdeal.τ).loc Cert.NormRecurrenceIdeal.main_arg0) = m ((c.tc : Thread Cert.NormRecurrenceIdeal.nD Cert.NormRecurrenceIdeal.τ).loc Cert.NormRecurrenceIdeal.main_arg0)
          ∧ r.2.mem ((c.tc : Thread Cert.NormRecurrenceIdeal.nD Cert.NormRecurrenceIdeal.τ).loc Cert.NormRecurrenceIdeal.main_arg1) = m ((c.tc : Thread Cert.NormRecurrenceIdeal.nD Cert.NormRecurrenceIdeal.τ).loc Cert.NormRecurrenceIdeal.main_arg1)
          ∧ r.2.mem ((c.tc : Thread Cert.NormRecurrenceIdeal.nD Cert.NormRecurrenceIdeal.τ).loc Cert.NormRecurrenceIdeal.main_arg2) = m ((c.tc : Thread Cert.NormRecurrenceIdeal.nD Cert.NormRecurrenceIdeal.τ).loc Cert.NormRecurrenceIdeal.main_arg2)
          ∧ r.2.mem ((c.tc : Thread Cert.NormRecurrenceIdeal.nD Cert.NormRecurrenceIdeal.τ).loc Cert.NormRecurrenceIdeal.main_arg3) = m ((c.tc : Thread Cert.NormRecurrenceIdeal.nD Cert.NormRecurrenceIdeal.τ).loc Cert.NormRecurrenceIdeal.main_arg3)
          ∧ r.2.mem ((c.tc : Thread Cert.NormRecurrenceIdeal.nD Cert.NormRecurrenceIdeal.τ).loc Cert.NormRecurrenceIdeal.main_arg4) = m ((c.tc : Thread Cert.NormRecurrenceIdeal.nD Cert.NormRecurrenceIdeal.τ).loc Cert.NormRecurrenceIdeal.main_arg4))
      ∧ θ_run (Cert.NormRecurrenceReferenceIdeal.defs (F := Ideal)) (onTc (τ := Cert.NormRecurrenceReferenceIdeal.τ) (Cert.NormRecurrenceReferenceIdeal.main (F := Ideal))) ⟨m', fun _ => 0, g'⟩ (fun r => ∀ c : Dev Cert.NormRecurrenceReferenceIdeal.nD,
          r.2.mem ((c.tc : Thread Cert.NormRecurrenceReferenceIdeal.nD Cert.NormRecurrenceReferenceIdeal.τ).loc Cert.NormRecurrenceReferenceIdeal.main_v67) = v0 c
          ∧ r.2.mem ((c.tc : Thread Cert.NormRecurrenceReferenceIdeal.nD Cert.NormRecurrenceReferenceIdeal.τ).loc Cert.NormRecurrenceReferenceIdeal.main_v68) = v1 c
          ∧ r.2.mem ((c.tc : Thread Cert.NormRecurrenceReferenceIdeal.nD Cert.NormRecurrenceReferenceIdeal.τ).loc Cert.NormRecurrenceReferenceIdeal.main_v41) = v2 c
          ∧ r.2.mem ((c.tc : Thread Cert.NormRecurrenceReferenceIdeal.nD Cert.NormRecurrenceReferenceIdeal.τ).loc Cert.NormRecurrenceReferenceIdeal.main_v38) = v3 c
          ∧ r.2.mem ((c.tc : Thread Cert.NormRecurrenceReferenceIdeal.nD Cert.NormRecurrenceReferenceIdeal.τ).loc Cert.NormRecurrenceReferenceIdeal.main_arg0) = m' ((c.tc : Thread Cert.NormRecurrenceReferenceIdeal.nD Cert.NormRecurrenceReferenceIdeal.τ).loc Cert.NormRecurrenceReferenceIdeal.main_arg0)
          ∧ r.2.mem ((c.tc : Thread Cert.NormRecurrenceReferenceIdeal.nD Cert.NormRecurrenceReferenceIdeal.τ).loc Cert.NormRecurrenceReferenceIdeal.main_arg1) = m' ((c.tc : Thread Cert.NormRecurrenceReferenceIdeal.nD Cert.NormRecurrenceReferenceIdeal.τ).loc Cert.NormRecurrenceReferenceIdeal.main_arg1)
          ∧ r.2.mem ((c.tc : Thread Cert.NormRecurrenceReferenceIdeal.nD Cert.NormRecurrenceReferenceIdeal.τ).loc Cert.NormRecurrenceReferenceIdeal.main_arg2) = m' ((c.tc : Thread Cert.NormRecurrenceReferenceIdeal.nD Cert.NormRecurrenceReferenceIdeal.τ).loc Cert.NormRecurrenceReferenceIdeal.main_arg2)
          ∧ r.2.mem ((c.tc : Thread Cert.NormRecurrenceReferenceIdeal.nD Cert.NormRecurrenceReferenceIdeal.τ).loc Cert.NormRecurrenceReferenceIdeal.main_arg3) = m' ((c.tc : Thread Cert.NormRecurrenceReferenceIdeal.nD Cert.NormRecurrenceReferenceIdeal.τ).loc Cert.NormRecurrenceReferenceIdeal.main_arg3)
          ∧ r.2.mem ((c.tc : Thread Cert.NormRecurrenceReferenceIdeal.nD Cert.NormRecurrenceReferenceIdeal.τ).loc Cert.NormRecurrenceReferenceIdeal.main_arg4) = m' ((c.tc : Thread Cert.NormRecurrenceReferenceIdeal.nD Cert.NormRecurrenceReferenceIdeal.τ).loc Cert.NormRecurrenceReferenceIdeal.main_arg4))

def preserves_NormLatent_NormLatentIdeal : Prop :=
  True

def algebraic_NormLatentIdeal_NormLatentReferenceIdeal_pre_finite_latent [hNormLatentIdeal : Cert.NormLatentIdeal.Facts] [hNormLatentReferenceIdeal : Cert.NormLatentReferenceIdeal.Facts] [hPre_finite_latent : Cert.Pre_finite_latent.Facts] : Prop :=
  ∀ (m : (ℓ : Loc Cert.NormLatentIdeal.nD Cert.NormLatentIdeal.τ Cert.NormLatentIdeal.sig) → Buf (Elt Ideal) ℓ) (g : Dev Cert.NormLatentIdeal.nD → PrngReg)
    (m' : (ℓ : Loc Cert.NormLatentReferenceIdeal.nD Cert.NormLatentReferenceIdeal.τ Cert.NormLatentReferenceIdeal.sig) → Buf (Elt Ideal) ℓ) (g' : Dev Cert.NormLatentReferenceIdeal.nD → PrngReg), Pre_NormLatentIdeal_finite_latent m →
    (∀ c : Dev Cert.NormLatentIdeal.nD,
      m' ((c.tc : Thread Cert.NormLatentReferenceIdeal.nD Cert.NormLatentReferenceIdeal.τ).loc Cert.NormLatentReferenceIdeal.main_arg0) = m ((c.tc : Thread Cert.NormLatentIdeal.nD Cert.NormLatentIdeal.τ).loc Cert.NormLatentIdeal.main_arg0)
      ∧ m' ((c.tc : Thread Cert.NormLatentReferenceIdeal.nD Cert.NormLatentReferenceIdeal.τ).loc Cert.NormLatentReferenceIdeal.main_arg1) = m ((c.tc : Thread Cert.NormLatentIdeal.nD Cert.NormLatentIdeal.τ).loc Cert.NormLatentIdeal.main_arg1)
      ∧ m' ((c.tc : Thread Cert.NormLatentReferenceIdeal.nD Cert.NormLatentReferenceIdeal.τ).loc Cert.NormLatentReferenceIdeal.main_arg2) = m ((c.tc : Thread Cert.NormLatentIdeal.nD Cert.NormLatentIdeal.τ).loc Cert.NormLatentIdeal.main_arg2)
      ∧ m' ((c.tc : Thread Cert.NormLatentReferenceIdeal.nD Cert.NormLatentReferenceIdeal.τ).loc Cert.NormLatentReferenceIdeal.main_arg3) = m ((c.tc : Thread Cert.NormLatentIdeal.nD Cert.NormLatentIdeal.τ).loc Cert.NormLatentIdeal.main_arg3)
      ∧ m' ((c.tc : Thread Cert.NormLatentReferenceIdeal.nD Cert.NormLatentReferenceIdeal.τ).loc Cert.NormLatentReferenceIdeal.main_arg4) = m ((c.tc : Thread Cert.NormLatentIdeal.nD Cert.NormLatentIdeal.τ).loc Cert.NormLatentIdeal.main_arg4)) →
    ∃ (v0 : (c : Dev Cert.NormLatentIdeal.nD) → Buf (Elt Ideal) ((c.tc : Thread Cert.NormLatentIdeal.nD Cert.NormLatentIdeal.τ).loc Cert.NormLatentIdeal.main_v16_0)) (v1 : (c : Dev Cert.NormLatentIdeal.nD) → Buf (Elt Ideal) ((c.tc : Thread Cert.NormLatentIdeal.nD Cert.NormLatentIdeal.τ).loc Cert.NormLatentIdeal.main_v16_1)) (v2 : (c : Dev Cert.NormLatentIdeal.nD) → Buf (Elt Ideal) ((c.tc : Thread Cert.NormLatentIdeal.nD Cert.NormLatentIdeal.τ).loc Cert.NormLatentIdeal.main_v16_2)) (v3 : (c : Dev Cert.NormLatentIdeal.nD) → Buf (Elt Ideal) ((c.tc : Thread Cert.NormLatentIdeal.nD Cert.NormLatentIdeal.τ).loc Cert.NormLatentIdeal.main_v16_3)),
      θ_run (Cert.NormLatentIdeal.defs (F := Ideal)) (onTc (τ := Cert.NormLatentIdeal.τ) (Cert.NormLatentIdeal.main (F := Ideal))) ⟨m, fun _ => 0, g⟩ (fun r => ∀ c : Dev Cert.NormLatentIdeal.nD,
          r.2.mem ((c.tc : Thread Cert.NormLatentIdeal.nD Cert.NormLatentIdeal.τ).loc Cert.NormLatentIdeal.main_v16_0) = v0 c
          ∧ r.2.mem ((c.tc : Thread Cert.NormLatentIdeal.nD Cert.NormLatentIdeal.τ).loc Cert.NormLatentIdeal.main_v16_1) = v1 c
          ∧ r.2.mem ((c.tc : Thread Cert.NormLatentIdeal.nD Cert.NormLatentIdeal.τ).loc Cert.NormLatentIdeal.main_v16_2) = v2 c
          ∧ r.2.mem ((c.tc : Thread Cert.NormLatentIdeal.nD Cert.NormLatentIdeal.τ).loc Cert.NormLatentIdeal.main_v16_3) = v3 c
          ∧ r.2.mem ((c.tc : Thread Cert.NormLatentIdeal.nD Cert.NormLatentIdeal.τ).loc Cert.NormLatentIdeal.main_arg0) = m ((c.tc : Thread Cert.NormLatentIdeal.nD Cert.NormLatentIdeal.τ).loc Cert.NormLatentIdeal.main_arg0)
          ∧ r.2.mem ((c.tc : Thread Cert.NormLatentIdeal.nD Cert.NormLatentIdeal.τ).loc Cert.NormLatentIdeal.main_arg1) = m ((c.tc : Thread Cert.NormLatentIdeal.nD Cert.NormLatentIdeal.τ).loc Cert.NormLatentIdeal.main_arg1)
          ∧ r.2.mem ((c.tc : Thread Cert.NormLatentIdeal.nD Cert.NormLatentIdeal.τ).loc Cert.NormLatentIdeal.main_arg2) = m ((c.tc : Thread Cert.NormLatentIdeal.nD Cert.NormLatentIdeal.τ).loc Cert.NormLatentIdeal.main_arg2)
          ∧ r.2.mem ((c.tc : Thread Cert.NormLatentIdeal.nD Cert.NormLatentIdeal.τ).loc Cert.NormLatentIdeal.main_arg3) = m ((c.tc : Thread Cert.NormLatentIdeal.nD Cert.NormLatentIdeal.τ).loc Cert.NormLatentIdeal.main_arg3)
          ∧ r.2.mem ((c.tc : Thread Cert.NormLatentIdeal.nD Cert.NormLatentIdeal.τ).loc Cert.NormLatentIdeal.main_arg4) = m ((c.tc : Thread Cert.NormLatentIdeal.nD Cert.NormLatentIdeal.τ).loc Cert.NormLatentIdeal.main_arg4))
      ∧ θ_run (Cert.NormLatentReferenceIdeal.defs (F := Ideal)) (onTc (τ := Cert.NormLatentReferenceIdeal.τ) (Cert.NormLatentReferenceIdeal.main (F := Ideal))) ⟨m', fun _ => 0, g'⟩ (fun r => ∀ c : Dev Cert.NormLatentReferenceIdeal.nD,
          r.2.mem ((c.tc : Thread Cert.NormLatentReferenceIdeal.nD Cert.NormLatentReferenceIdeal.τ).loc Cert.NormLatentReferenceIdeal.main_v67) = v0 c
          ∧ r.2.mem ((c.tc : Thread Cert.NormLatentReferenceIdeal.nD Cert.NormLatentReferenceIdeal.τ).loc Cert.NormLatentReferenceIdeal.main_v68) = v1 c
          ∧ r.2.mem ((c.tc : Thread Cert.NormLatentReferenceIdeal.nD Cert.NormLatentReferenceIdeal.τ).loc Cert.NormLatentReferenceIdeal.main_v41) = v2 c
          ∧ r.2.mem ((c.tc : Thread Cert.NormLatentReferenceIdeal.nD Cert.NormLatentReferenceIdeal.τ).loc Cert.NormLatentReferenceIdeal.main_v38) = v3 c
          ∧ r.2.mem ((c.tc : Thread Cert.NormLatentReferenceIdeal.nD Cert.NormLatentReferenceIdeal.τ).loc Cert.NormLatentReferenceIdeal.main_arg0) = m' ((c.tc : Thread Cert.NormLatentReferenceIdeal.nD Cert.NormLatentReferenceIdeal.τ).loc Cert.NormLatentReferenceIdeal.main_arg0)
          ∧ r.2.mem ((c.tc : Thread Cert.NormLatentReferenceIdeal.nD Cert.NormLatentReferenceIdeal.τ).loc Cert.NormLatentReferenceIdeal.main_arg1) = m' ((c.tc : Thread Cert.NormLatentReferenceIdeal.nD Cert.NormLatentReferenceIdeal.τ).loc Cert.NormLatentReferenceIdeal.main_arg1)
          ∧ r.2.mem ((c.tc : Thread Cert.NormLatentReferenceIdeal.nD Cert.NormLatentReferenceIdeal.τ).loc Cert.NormLatentReferenceIdeal.main_arg2) = m' ((c.tc : Thread Cert.NormLatentReferenceIdeal.nD Cert.NormLatentReferenceIdeal.τ).loc Cert.NormLatentReferenceIdeal.main_arg2)
          ∧ r.2.mem ((c.tc : Thread Cert.NormLatentReferenceIdeal.nD Cert.NormLatentReferenceIdeal.τ).loc Cert.NormLatentReferenceIdeal.main_arg3) = m' ((c.tc : Thread Cert.NormLatentReferenceIdeal.nD Cert.NormLatentReferenceIdeal.τ).loc Cert.NormLatentReferenceIdeal.main_arg3)
          ∧ r.2.mem ((c.tc : Thread Cert.NormLatentReferenceIdeal.nD Cert.NormLatentReferenceIdeal.τ).loc Cert.NormLatentReferenceIdeal.main_arg4) = m' ((c.tc : Thread Cert.NormLatentReferenceIdeal.nD Cert.NormLatentReferenceIdeal.τ).loc Cert.NormLatentReferenceIdeal.main_arg4))

def preserves_NormWindow_NormWindowIdeal : Prop :=
  True

def algebraic_NormWindowIdeal_NormWindowReferenceIdeal_pre_finite_window [hNormWindowIdeal : Cert.NormWindowIdeal.Facts] [hNormWindowReferenceIdeal : Cert.NormWindowReferenceIdeal.Facts] [hPre_finite_window : Cert.Pre_finite_window.Facts] : Prop :=
  ∀ (m : (ℓ : Loc Cert.NormWindowIdeal.nD Cert.NormWindowIdeal.τ Cert.NormWindowIdeal.sig) → Buf (Elt Ideal) ℓ) (g : Dev Cert.NormWindowIdeal.nD → PrngReg)
    (m' : (ℓ : Loc Cert.NormWindowReferenceIdeal.nD Cert.NormWindowReferenceIdeal.τ Cert.NormWindowReferenceIdeal.sig) → Buf (Elt Ideal) ℓ) (g' : Dev Cert.NormWindowReferenceIdeal.nD → PrngReg), Pre_NormWindowIdeal_finite_window m →
    (∀ c : Dev Cert.NormWindowIdeal.nD,
      m' ((c.tc : Thread Cert.NormWindowReferenceIdeal.nD Cert.NormWindowReferenceIdeal.τ).loc Cert.NormWindowReferenceIdeal.main_arg0) = m ((c.tc : Thread Cert.NormWindowIdeal.nD Cert.NormWindowIdeal.τ).loc Cert.NormWindowIdeal.main_arg0)
      ∧ m' ((c.tc : Thread Cert.NormWindowReferenceIdeal.nD Cert.NormWindowReferenceIdeal.τ).loc Cert.NormWindowReferenceIdeal.main_arg1) = m ((c.tc : Thread Cert.NormWindowIdeal.nD Cert.NormWindowIdeal.τ).loc Cert.NormWindowIdeal.main_arg1)
      ∧ m' ((c.tc : Thread Cert.NormWindowReferenceIdeal.nD Cert.NormWindowReferenceIdeal.τ).loc Cert.NormWindowReferenceIdeal.main_arg2) = m ((c.tc : Thread Cert.NormWindowIdeal.nD Cert.NormWindowIdeal.τ).loc Cert.NormWindowIdeal.main_arg2)
      ∧ m' ((c.tc : Thread Cert.NormWindowReferenceIdeal.nD Cert.NormWindowReferenceIdeal.τ).loc Cert.NormWindowReferenceIdeal.main_arg3) = m ((c.tc : Thread Cert.NormWindowIdeal.nD Cert.NormWindowIdeal.τ).loc Cert.NormWindowIdeal.main_arg3)
      ∧ m' ((c.tc : Thread Cert.NormWindowReferenceIdeal.nD Cert.NormWindowReferenceIdeal.τ).loc Cert.NormWindowReferenceIdeal.main_arg4) = m ((c.tc : Thread Cert.NormWindowIdeal.nD Cert.NormWindowIdeal.τ).loc Cert.NormWindowIdeal.main_arg4)) →
    ∃ (v0 : (c : Dev Cert.NormWindowIdeal.nD) → Buf (Elt Ideal) ((c.tc : Thread Cert.NormWindowIdeal.nD Cert.NormWindowIdeal.τ).loc Cert.NormWindowIdeal.main_v16_0)) (v1 : (c : Dev Cert.NormWindowIdeal.nD) → Buf (Elt Ideal) ((c.tc : Thread Cert.NormWindowIdeal.nD Cert.NormWindowIdeal.τ).loc Cert.NormWindowIdeal.main_v16_1)) (v2 : (c : Dev Cert.NormWindowIdeal.nD) → Buf (Elt Ideal) ((c.tc : Thread Cert.NormWindowIdeal.nD Cert.NormWindowIdeal.τ).loc Cert.NormWindowIdeal.main_v16_2)) (v3 : (c : Dev Cert.NormWindowIdeal.nD) → Buf (Elt Ideal) ((c.tc : Thread Cert.NormWindowIdeal.nD Cert.NormWindowIdeal.τ).loc Cert.NormWindowIdeal.main_v16_3)),
      θ_run (Cert.NormWindowIdeal.defs (F := Ideal)) (onTc (τ := Cert.NormWindowIdeal.τ) (Cert.NormWindowIdeal.main (F := Ideal))) ⟨m, fun _ => 0, g⟩ (fun r => ∀ c : Dev Cert.NormWindowIdeal.nD,
          r.2.mem ((c.tc : Thread Cert.NormWindowIdeal.nD Cert.NormWindowIdeal.τ).loc Cert.NormWindowIdeal.main_v16_0) = v0 c
          ∧ r.2.mem ((c.tc : Thread Cert.NormWindowIdeal.nD Cert.NormWindowIdeal.τ).loc Cert.NormWindowIdeal.main_v16_1) = v1 c
          ∧ r.2.mem ((c.tc : Thread Cert.NormWindowIdeal.nD Cert.NormWindowIdeal.τ).loc Cert.NormWindowIdeal.main_v16_2) = v2 c
          ∧ r.2.mem ((c.tc : Thread Cert.NormWindowIdeal.nD Cert.NormWindowIdeal.τ).loc Cert.NormWindowIdeal.main_v16_3) = v3 c
          ∧ r.2.mem ((c.tc : Thread Cert.NormWindowIdeal.nD Cert.NormWindowIdeal.τ).loc Cert.NormWindowIdeal.main_arg0) = m ((c.tc : Thread Cert.NormWindowIdeal.nD Cert.NormWindowIdeal.τ).loc Cert.NormWindowIdeal.main_arg0)
          ∧ r.2.mem ((c.tc : Thread Cert.NormWindowIdeal.nD Cert.NormWindowIdeal.τ).loc Cert.NormWindowIdeal.main_arg1) = m ((c.tc : Thread Cert.NormWindowIdeal.nD Cert.NormWindowIdeal.τ).loc Cert.NormWindowIdeal.main_arg1)
          ∧ r.2.mem ((c.tc : Thread Cert.NormWindowIdeal.nD Cert.NormWindowIdeal.τ).loc Cert.NormWindowIdeal.main_arg2) = m ((c.tc : Thread Cert.NormWindowIdeal.nD Cert.NormWindowIdeal.τ).loc Cert.NormWindowIdeal.main_arg2)
          ∧ r.2.mem ((c.tc : Thread Cert.NormWindowIdeal.nD Cert.NormWindowIdeal.τ).loc Cert.NormWindowIdeal.main_arg3) = m ((c.tc : Thread Cert.NormWindowIdeal.nD Cert.NormWindowIdeal.τ).loc Cert.NormWindowIdeal.main_arg3)
          ∧ r.2.mem ((c.tc : Thread Cert.NormWindowIdeal.nD Cert.NormWindowIdeal.τ).loc Cert.NormWindowIdeal.main_arg4) = m ((c.tc : Thread Cert.NormWindowIdeal.nD Cert.NormWindowIdeal.τ).loc Cert.NormWindowIdeal.main_arg4))
      ∧ θ_run (Cert.NormWindowReferenceIdeal.defs (F := Ideal)) (onTc (τ := Cert.NormWindowReferenceIdeal.τ) (Cert.NormWindowReferenceIdeal.main (F := Ideal))) ⟨m', fun _ => 0, g'⟩ (fun r => ∀ c : Dev Cert.NormWindowReferenceIdeal.nD,
          r.2.mem ((c.tc : Thread Cert.NormWindowReferenceIdeal.nD Cert.NormWindowReferenceIdeal.τ).loc Cert.NormWindowReferenceIdeal.main_v67) = v0 c
          ∧ r.2.mem ((c.tc : Thread Cert.NormWindowReferenceIdeal.nD Cert.NormWindowReferenceIdeal.τ).loc Cert.NormWindowReferenceIdeal.main_v68) = v1 c
          ∧ r.2.mem ((c.tc : Thread Cert.NormWindowReferenceIdeal.nD Cert.NormWindowReferenceIdeal.τ).loc Cert.NormWindowReferenceIdeal.main_v41) = v2 c
          ∧ r.2.mem ((c.tc : Thread Cert.NormWindowReferenceIdeal.nD Cert.NormWindowReferenceIdeal.τ).loc Cert.NormWindowReferenceIdeal.main_v38) = v3 c
          ∧ r.2.mem ((c.tc : Thread Cert.NormWindowReferenceIdeal.nD Cert.NormWindowReferenceIdeal.τ).loc Cert.NormWindowReferenceIdeal.main_arg0) = m' ((c.tc : Thread Cert.NormWindowReferenceIdeal.nD Cert.NormWindowReferenceIdeal.τ).loc Cert.NormWindowReferenceIdeal.main_arg0)
          ∧ r.2.mem ((c.tc : Thread Cert.NormWindowReferenceIdeal.nD Cert.NormWindowReferenceIdeal.τ).loc Cert.NormWindowReferenceIdeal.main_arg1) = m' ((c.tc : Thread Cert.NormWindowReferenceIdeal.nD Cert.NormWindowReferenceIdeal.τ).loc Cert.NormWindowReferenceIdeal.main_arg1)
          ∧ r.2.mem ((c.tc : Thread Cert.NormWindowReferenceIdeal.nD Cert.NormWindowReferenceIdeal.τ).loc Cert.NormWindowReferenceIdeal.main_arg2) = m' ((c.tc : Thread Cert.NormWindowReferenceIdeal.nD Cert.NormWindowReferenceIdeal.τ).loc Cert.NormWindowReferenceIdeal.main_arg2)
          ∧ r.2.mem ((c.tc : Thread Cert.NormWindowReferenceIdeal.nD Cert.NormWindowReferenceIdeal.τ).loc Cert.NormWindowReferenceIdeal.main_arg3) = m' ((c.tc : Thread Cert.NormWindowReferenceIdeal.nD Cert.NormWindowReferenceIdeal.τ).loc Cert.NormWindowReferenceIdeal.main_arg3)
          ∧ r.2.mem ((c.tc : Thread Cert.NormWindowReferenceIdeal.nD Cert.NormWindowReferenceIdeal.τ).loc Cert.NormWindowReferenceIdeal.main_arg4) = m' ((c.tc : Thread Cert.NormWindowReferenceIdeal.nD Cert.NormWindowReferenceIdeal.τ).loc Cert.NormWindowReferenceIdeal.main_arg4))

def preserves_OutNorm_OutNormIdeal : Prop :=
  True

def algebraic_OutNormIdeal_OutNormReferenceIdeal [hOutNormIdeal : Cert.OutNormIdeal.Facts] [hOutNormReferenceIdeal : Cert.OutNormReferenceIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormReferenceIdeal.nD Cert.OutNormReferenceIdeal.τ Cert.OutNormReferenceIdeal.sig) → Buf (Elt Ideal) ℓ) (g' : Dev Cert.OutNormReferenceIdeal.nD → PrngReg), Pre_OutNormIdeal m →
    (∀ c : Dev Cert.OutNormIdeal.nD,
      m' ((c.tc : Thread Cert.OutNormReferenceIdeal.nD Cert.OutNormReferenceIdeal.τ).loc Cert.OutNormReferenceIdeal.main_arg0) = m ((c.tc : Thread Cert.OutNormIdeal.nD Cert.OutNormIdeal.τ).loc Cert.OutNormIdeal.main_arg0)
      ∧ m' ((c.tc : Thread Cert.OutNormReferenceIdeal.nD Cert.OutNormReferenceIdeal.τ).loc Cert.OutNormReferenceIdeal.main_arg1) = m ((c.tc : Thread Cert.OutNormIdeal.nD Cert.OutNormIdeal.τ).loc Cert.OutNormIdeal.main_arg1)
      ∧ m' ((c.tc : Thread Cert.OutNormReferenceIdeal.nD Cert.OutNormReferenceIdeal.τ).loc Cert.OutNormReferenceIdeal.main_arg2) = m ((c.tc : Thread Cert.OutNormIdeal.nD Cert.OutNormIdeal.τ).loc Cert.OutNormIdeal.main_arg2)
      ∧ m' ((c.tc : Thread Cert.OutNormReferenceIdeal.nD Cert.OutNormReferenceIdeal.τ).loc Cert.OutNormReferenceIdeal.main_arg3) = m ((c.tc : Thread Cert.OutNormIdeal.nD Cert.OutNormIdeal.τ).loc Cert.OutNormIdeal.main_arg3)
      ∧ m' ((c.tc : Thread Cert.OutNormReferenceIdeal.nD Cert.OutNormReferenceIdeal.τ).loc Cert.OutNormReferenceIdeal.main_arg4) = m ((c.tc : Thread Cert.OutNormIdeal.nD Cert.OutNormIdeal.τ).loc Cert.OutNormIdeal.main_arg4)) →
    ∃ (v0 : (c : Dev Cert.OutNormIdeal.nD) → Buf (Elt Ideal) ((c.tc : Thread Cert.OutNormIdeal.nD Cert.OutNormIdeal.τ).loc Cert.OutNormIdeal.main_v0_0)) (v1 : (c : Dev Cert.OutNormIdeal.nD) → Buf (Elt Ideal) ((c.tc : Thread Cert.OutNormIdeal.nD Cert.OutNormIdeal.τ).loc Cert.OutNormIdeal.main_v0_1)) (v2 : (c : Dev Cert.OutNormIdeal.nD) → Buf (Elt Ideal) ((c.tc : Thread Cert.OutNormIdeal.nD Cert.OutNormIdeal.τ).loc Cert.OutNormIdeal.main_v0_2)) (v3 : (c : Dev Cert.OutNormIdeal.nD) → Buf (Elt Ideal) ((c.tc : Thread Cert.OutNormIdeal.nD Cert.OutNormIdeal.τ).loc Cert.OutNormIdeal.main_v0_3)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v0_0) = v0 c
          ∧ r.2.mem ((c.tc : Thread Cert.OutNormIdeal.nD Cert.OutNormIdeal.τ).loc Cert.OutNormIdeal.main_v0_1) = v1 c
          ∧ r.2.mem ((c.tc : Thread Cert.OutNormIdeal.nD Cert.OutNormIdeal.τ).loc Cert.OutNormIdeal.main_v0_2) = v2 c
          ∧ r.2.mem ((c.tc : Thread Cert.OutNormIdeal.nD Cert.OutNormIdeal.τ).loc Cert.OutNormIdeal.main_v0_3) = v3 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ θ_run (Cert.OutNormReferenceIdeal.defs (F := Ideal)) (onTc (τ := Cert.OutNormReferenceIdeal.τ) (Cert.OutNormReferenceIdeal.main (F := Ideal))) ⟨m', fun _ => 0, g'⟩ (fun r => ∀ c : Dev Cert.OutNormReferenceIdeal.nD,
          r.2.mem ((c.tc : Thread Cert.OutNormReferenceIdeal.nD Cert.OutNormReferenceIdeal.τ).loc Cert.OutNormReferenceIdeal.main_v41) = v0 c
          ∧ r.2.mem ((c.tc : Thread Cert.OutNormReferenceIdeal.nD Cert.OutNormReferenceIdeal.τ).loc Cert.OutNormReferenceIdeal.main_v42) = v1 c
          ∧ r.2.mem ((c.tc : Thread Cert.OutNormReferenceIdeal.nD Cert.OutNormReferenceIdeal.τ).loc Cert.OutNormReferenceIdeal.main_v46) = v2 c
          ∧ r.2.mem ((c.tc : Thread Cert.OutNormReferenceIdeal.nD Cert.OutNormReferenceIdeal.τ).loc Cert.OutNormReferenceIdeal.main_v19) = v3 c
          ∧ r.2.mem ((c.tc : Thread Cert.OutNormReferenceIdeal.nD Cert.OutNormReferenceIdeal.τ).loc Cert.OutNormReferenceIdeal.main_arg0) = m' ((c.tc : Thread Cert.OutNormReferenceIdeal.nD Cert.OutNormReferenceIdeal.τ).loc Cert.OutNormReferenceIdeal.main_arg0)
          ∧ r.2.mem ((c.tc : Thread Cert.OutNormReferenceIdeal.nD Cert.OutNormReferenceIdeal.τ).loc Cert.OutNormReferenceIdeal.main_arg1) = m' ((c.tc : Thread Cert.OutNormReferenceIdeal.nD Cert.OutNormReferenceIdeal.τ).loc Cert.OutNormReferenceIdeal.main_arg1)
          ∧ r.2.mem ((c.tc : Thread Cert.OutNormReferenceIdeal.nD Cert.OutNormReferenceIdeal.τ).loc Cert.OutNormReferenceIdeal.main_arg2) = m' ((c.tc : Thread Cert.OutNormReferenceIdeal.nD Cert.OutNormReferenceIdeal.τ).loc Cert.OutNormReferenceIdeal.main_arg2)
          ∧ r.2.mem ((c.tc : Thread Cert.OutNormReferenceIdeal.nD Cert.OutNormReferenceIdeal.τ).loc Cert.OutNormReferenceIdeal.main_arg3) = m' ((c.tc : Thread Cert.OutNormReferenceIdeal.nD Cert.OutNormReferenceIdeal.τ).loc Cert.OutNormReferenceIdeal.main_arg3)
          ∧ r.2.mem ((c.tc : Thread Cert.OutNormReferenceIdeal.nD Cert.OutNormReferenceIdeal.τ).loc Cert.OutNormReferenceIdeal.main_arg4) = m' ((c.tc : Thread Cert.OutNormReferenceIdeal.nD Cert.OutNormReferenceIdeal.τ).loc Cert.OutNormReferenceIdeal.main_arg4))

def preserves_DownNorm_DownNormIdeal : Prop :=
  True

def algebraic_DownNormIdeal_DownNormReferenceIdeal [hDownNormIdeal : Cert.DownNormIdeal.Facts] [hDownNormReferenceIdeal : Cert.DownNormReferenceIdeal.Facts] : Prop :=
  ∀ (m : (ℓ : Loc Cert.DownNormIdeal.nD Cert.DownNormIdeal.τ Cert.DownNormIdeal.sig) → Buf (Elt Ideal) ℓ) (g : Dev Cert.DownNormIdeal.nD → PrngReg)
    (m' : (ℓ : Loc Cert.DownNormReferenceIdeal.nD Cert.DownNormReferenceIdeal.τ Cert.DownNormReferenceIdeal.sig) → Buf (Elt Ideal) ℓ) (g' : Dev Cert.DownNormReferenceIdeal.nD → PrngReg), Pre_DownNormIdeal m →
    (∀ c : Dev Cert.DownNormIdeal.nD,
      m' ((c.tc : Thread Cert.DownNormReferenceIdeal.nD Cert.DownNormReferenceIdeal.τ).loc Cert.DownNormReferenceIdeal.main_arg0) = m ((c.tc : Thread Cert.DownNormIdeal.nD Cert.DownNormIdeal.τ).loc Cert.DownNormIdeal.main_arg0)
      ∧ m' ((c.tc : Thread Cert.DownNormReferenceIdeal.nD Cert.DownNormReferenceIdeal.τ).loc Cert.DownNormReferenceIdeal.main_arg1) = m ((c.tc : Thread Cert.DownNormIdeal.nD Cert.DownNormIdeal.τ).loc Cert.DownNormIdeal.main_arg1)
      ∧ m' ((c.tc : Thread Cert.DownNormReferenceIdeal.nD Cert.DownNormReferenceIdeal.τ).loc Cert.DownNormReferenceIdeal.main_arg2) = m ((c.tc : Thread Cert.DownNormIdeal.nD Cert.DownNormIdeal.τ).loc Cert.DownNormIdeal.main_arg2)
      ∧ m' ((c.tc : Thread Cert.DownNormReferenceIdeal.nD Cert.DownNormReferenceIdeal.τ).loc Cert.DownNormReferenceIdeal.main_arg3) = m ((c.tc : Thread Cert.DownNormIdeal.nD Cert.DownNormIdeal.τ).loc Cert.DownNormIdeal.main_arg3)
      ∧ m' ((c.tc : Thread Cert.DownNormReferenceIdeal.nD Cert.DownNormReferenceIdeal.τ).loc Cert.DownNormReferenceIdeal.main_arg4) = m ((c.tc : Thread Cert.DownNormIdeal.nD Cert.DownNormIdeal.τ).loc Cert.DownNormIdeal.main_arg4)) →
    ∃ (v0 : (c : Dev Cert.DownNormIdeal.nD) → Buf (Elt Ideal) ((c.tc : Thread Cert.DownNormIdeal.nD Cert.DownNormIdeal.τ).loc Cert.DownNormIdeal.main_v0_0)) (v1 : (c : Dev Cert.DownNormIdeal.nD) → Buf (Elt Ideal) ((c.tc : Thread Cert.DownNormIdeal.nD Cert.DownNormIdeal.τ).loc Cert.DownNormIdeal.main_v0_1)) (v2 : (c : Dev Cert.DownNormIdeal.nD) → Buf (Elt Ideal) ((c.tc : Thread Cert.DownNormIdeal.nD Cert.DownNormIdeal.τ).loc Cert.DownNormIdeal.main_v0_2)) (v3 : (c : Dev Cert.DownNormIdeal.nD) → Buf (Elt Ideal) ((c.tc : Thread Cert.DownNormIdeal.nD Cert.DownNormIdeal.τ).loc Cert.DownNormIdeal.main_v0_3)),
      θ_run (Cert.DownNormIdeal.defs (F := Ideal)) (onTc (τ := Cert.DownNormIdeal.τ) (Cert.DownNormIdeal.main (F := Ideal))) ⟨m, fun _ => 0, g⟩ (fun r => ∀ c : Dev Cert.DownNormIdeal.nD,
          r.2.mem ((c.tc : Thread Cert.DownNormIdeal.nD Cert.DownNormIdeal.τ).loc Cert.DownNormIdeal.main_v0_0) = v0 c
          ∧ r.2.mem ((c.tc : Thread Cert.DownNormIdeal.nD Cert.DownNormIdeal.τ).loc Cert.DownNormIdeal.main_v0_1) = v1 c
          ∧ r.2.mem ((c.tc : Thread Cert.DownNormIdeal.nD Cert.DownNormIdeal.τ).loc Cert.DownNormIdeal.main_v0_2) = v2 c
          ∧ r.2.mem ((c.tc : Thread Cert.DownNormIdeal.nD Cert.DownNormIdeal.τ).loc Cert.DownNormIdeal.main_v0_3) = v3 c
          ∧ r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
          ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
          ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
          ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3)
          ∧ r.2.mem ((c.tc : Thread Cert.DownNormIdeal.nD Cert.DownNormIdeal.τ).loc Cert.DownNormIdeal.main_arg4) = m ((c.tc : Thread Cert.DownNormIdeal.nD Cert.DownNormIdeal.τ).loc Cert.DownNormIdeal.main_arg4))
      ∧ θ_run (Cert.DownNormReferenceIdeal.defs (F := Ideal)) (onTc (τ := Cert.DownNormReferenceIdeal.τ) (Cert.DownNormReferenceIdeal.main (F := Ideal))) ⟨m', fun _ => 0, g'⟩ (fun r => ∀ c : Dev Cert.DownNormReferenceIdeal.nD,
          r.2.mem ((c.tc : Thread Cert.DownNormReferenceIdeal.nD Cert.DownNormReferenceIdeal.τ).loc Cert.DownNormReferenceIdeal.main_v41) = v0 c
          ∧ r.2.mem ((c.tc : Thread Cert.DownNormReferenceIdeal.nD Cert.DownNormReferenceIdeal.τ).loc Cert.DownNormReferenceIdeal.main_v42) = v1 c
          ∧ r.2.mem ((c.tc : Thread Cert.DownNormReferenceIdeal.nD Cert.DownNormReferenceIdeal.τ).loc Cert.DownNormReferenceIdeal.main_v46) = v2 c
          ∧ r.2.mem ((c.tc : Thread Cert.DownNormReferenceIdeal.nD Cert.DownNormReferenceIdeal.τ).loc Cert.DownNormReferenceIdeal.main_v19) = v3 c
          ∧ r.2.mem ((c.tc : Thread Cert.DownNormReferenceIdeal.nD Cert.DownNormReferenceIdeal.τ).loc Cert.DownNormReferenceIdeal.main_arg0) = m' ((c.tc : Thread Cert.DownNormReferenceIdeal.nD Cert.DownNormReferenceIdeal.τ).loc Cert.DownNormReferenceIdeal.main_arg0)
          ∧ r.2.mem ((c.tc : Thread Cert.DownNormReferenceIdeal.nD Cert.DownNormReferenceIdeal.τ).loc Cert.DownNormReferenceIdeal.main_arg1) = m' ((c.tc : Thread Cert.DownNormReferenceIdeal.nD Cert.DownNormReferenceIdeal.τ).loc Cert.DownNormReferenceIdeal.main_arg1)
          ∧ r.2.mem ((c.tc : Thread Cert.DownNormReferenceIdeal.nD Cert.DownNormReferenceIdeal.τ).loc Cert.DownNormReferenceIdeal.main_arg2) = m' ((c.tc : Thread Cert.DownNormReferenceIdeal.nD Cert.DownNormReferenceIdeal.τ).loc Cert.DownNormReferenceIdeal.main_arg2)
          ∧ r.2.mem ((c.tc : Thread Cert.DownNormReferenceIdeal.nD Cert.DownNormReferenceIdeal.τ).loc Cert.DownNormReferenceIdeal.main_arg3) = m' ((c.tc : Thread Cert.DownNormReferenceIdeal.nD Cert.DownNormReferenceIdeal.τ).loc Cert.DownNormReferenceIdeal.main_arg3)
          ∧ r.2.mem ((c.tc : Thread Cert.DownNormReferenceIdeal.nD Cert.DownNormReferenceIdeal.τ).loc Cert.DownNormReferenceIdeal.main_arg4) = m' ((c.tc : Thread Cert.DownNormReferenceIdeal.nD Cert.DownNormReferenceIdeal.τ).loc Cert.DownNormReferenceIdeal.main_arg4))

def preserves_WindowUp_WindowUpIdeal : Prop :=
  True

def algebraic_WindowUpIdeal_WindowUpReferenceIdeal [hWindowUpIdeal : Cert.WindowUpIdeal.Facts] [hWindowUpReferenceIdeal : Cert.WindowUpReferenceIdeal.Facts] : Prop :=
  ∀ (m : (ℓ : Loc Cert.WindowUpIdeal.nD Cert.WindowUpIdeal.τ Cert.WindowUpIdeal.sig) → Buf (Elt Ideal) ℓ) (g : Dev Cert.WindowUpIdeal.nD → PrngReg)
    (m' : (ℓ : Loc Cert.WindowUpReferenceIdeal.nD Cert.WindowUpReferenceIdeal.τ Cert.WindowUpReferenceIdeal.sig) → Buf (Elt Ideal) ℓ) (g' : Dev Cert.WindowUpReferenceIdeal.nD → PrngReg), Pre_WindowUpIdeal m →
    (∀ c : Dev Cert.WindowUpIdeal.nD,
      m' ((c.tc : Thread Cert.WindowUpReferenceIdeal.nD Cert.WindowUpReferenceIdeal.τ).loc Cert.WindowUpReferenceIdeal.main_arg0) = m ((c.tc : Thread Cert.WindowUpIdeal.nD Cert.WindowUpIdeal.τ).loc Cert.WindowUpIdeal.main_arg0)
      ∧ m' ((c.tc : Thread Cert.WindowUpReferenceIdeal.nD Cert.WindowUpReferenceIdeal.τ).loc Cert.WindowUpReferenceIdeal.main_arg1) = m ((c.tc : Thread Cert.WindowUpIdeal.nD Cert.WindowUpIdeal.τ).loc Cert.WindowUpIdeal.main_arg1)) →
    ∃ (v0 : (c : Dev Cert.WindowUpIdeal.nD) → Buf (Elt Ideal) ((c.tc : Thread Cert.WindowUpIdeal.nD Cert.WindowUpIdeal.τ).loc Cert.WindowUpIdeal.main_v0)),
      θ_run (Cert.WindowUpIdeal.defs (F := Ideal)) (onTc (τ := Cert.WindowUpIdeal.τ) (Cert.WindowUpIdeal.main (F := Ideal))) ⟨m, fun _ => 0, g⟩ (fun r => ∀ c : Dev Cert.WindowUpIdeal.nD,
          r.2.mem ((c.tc : Thread Cert.WindowUpIdeal.nD Cert.WindowUpIdeal.τ).loc Cert.WindowUpIdeal.main_v0) = v0 c
          ∧ r.2.mem ((c.tc : Thread Cert.WindowUpIdeal.nD Cert.WindowUpIdeal.τ).loc Cert.WindowUpIdeal.main_arg0) = m ((c.tc : Thread Cert.WindowUpIdeal.nD Cert.WindowUpIdeal.τ).loc Cert.WindowUpIdeal.main_arg0)
          ∧ r.2.mem ((c.tc : Thread Cert.WindowUpIdeal.nD Cert.WindowUpIdeal.τ).loc Cert.WindowUpIdeal.main_arg1) = m ((c.tc : Thread Cert.WindowUpIdeal.nD Cert.WindowUpIdeal.τ).loc Cert.WindowUpIdeal.main_arg1))
      ∧ θ_run (Cert.WindowUpReferenceIdeal.defs (F := Ideal)) (onTc (τ := Cert.WindowUpReferenceIdeal.τ) (Cert.WindowUpReferenceIdeal.main (F := Ideal))) ⟨m', fun _ => 0, g'⟩ (fun r => ∀ c : Dev Cert.WindowUpReferenceIdeal.nD,
          r.2.mem ((c.tc : Thread Cert.WindowUpReferenceIdeal.nD Cert.WindowUpReferenceIdeal.τ).loc Cert.WindowUpReferenceIdeal.main_v2) = v0 c
          ∧ r.2.mem ((c.tc : Thread Cert.WindowUpReferenceIdeal.nD Cert.WindowUpReferenceIdeal.τ).loc Cert.WindowUpReferenceIdeal.main_arg0) = m' ((c.tc : Thread Cert.WindowUpReferenceIdeal.nD Cert.WindowUpReferenceIdeal.τ).loc Cert.WindowUpReferenceIdeal.main_arg0)
          ∧ r.2.mem ((c.tc : Thread Cert.WindowUpReferenceIdeal.nD Cert.WindowUpReferenceIdeal.τ).loc Cert.WindowUpReferenceIdeal.main_arg1) = m' ((c.tc : Thread Cert.WindowUpReferenceIdeal.nD Cert.WindowUpReferenceIdeal.τ).loc Cert.WindowUpReferenceIdeal.main_arg1))

def preserves_RecurrenceUp_RecurrenceUpIdeal : Prop :=
  True

def algebraic_RecurrenceUpIdeal_RecurrenceUpReferenceIdeal [hRecurrenceUpIdeal : Cert.RecurrenceUpIdeal.Facts] [hRecurrenceUpReferenceIdeal : Cert.RecurrenceUpReferenceIdeal.Facts] : Prop :=
  ∀ (m : (ℓ : Loc Cert.RecurrenceUpIdeal.nD Cert.RecurrenceUpIdeal.τ Cert.RecurrenceUpIdeal.sig) → Buf (Elt Ideal) ℓ) (g : Dev Cert.RecurrenceUpIdeal.nD → PrngReg)
    (m' : (ℓ : Loc Cert.RecurrenceUpReferenceIdeal.nD Cert.RecurrenceUpReferenceIdeal.τ Cert.RecurrenceUpReferenceIdeal.sig) → Buf (Elt Ideal) ℓ) (g' : Dev Cert.RecurrenceUpReferenceIdeal.nD → PrngReg), Pre_RecurrenceUpIdeal m →
    (∀ c : Dev Cert.RecurrenceUpIdeal.nD,
      m' ((c.tc : Thread Cert.RecurrenceUpReferenceIdeal.nD Cert.RecurrenceUpReferenceIdeal.τ).loc Cert.RecurrenceUpReferenceIdeal.main_arg0) = m ((c.tc : Thread Cert.RecurrenceUpIdeal.nD Cert.RecurrenceUpIdeal.τ).loc Cert.RecurrenceUpIdeal.main_arg0)
      ∧ m' ((c.tc : Thread Cert.RecurrenceUpReferenceIdeal.nD Cert.RecurrenceUpReferenceIdeal.τ).loc Cert.RecurrenceUpReferenceIdeal.main_arg1) = m ((c.tc : Thread Cert.RecurrenceUpIdeal.nD Cert.RecurrenceUpIdeal.τ).loc Cert.RecurrenceUpIdeal.main_arg1)) →
    ∃ (v0 : (c : Dev Cert.RecurrenceUpIdeal.nD) → Buf (Elt Ideal) ((c.tc : Thread Cert.RecurrenceUpIdeal.nD Cert.RecurrenceUpIdeal.τ).loc Cert.RecurrenceUpIdeal.main_v0)),
      θ_run (Cert.RecurrenceUpIdeal.defs (F := Ideal)) (onTc (τ := Cert.RecurrenceUpIdeal.τ) (Cert.RecurrenceUpIdeal.main (F := Ideal))) ⟨m, fun _ => 0, g⟩ (fun r => ∀ c : Dev Cert.RecurrenceUpIdeal.nD,
          r.2.mem ((c.tc : Thread Cert.RecurrenceUpIdeal.nD Cert.RecurrenceUpIdeal.τ).loc Cert.RecurrenceUpIdeal.main_v0) = v0 c
          ∧ r.2.mem ((c.tc : Thread Cert.RecurrenceUpIdeal.nD Cert.RecurrenceUpIdeal.τ).loc Cert.RecurrenceUpIdeal.main_arg0) = m ((c.tc : Thread Cert.RecurrenceUpIdeal.nD Cert.RecurrenceUpIdeal.τ).loc Cert.RecurrenceUpIdeal.main_arg0)
          ∧ r.2.mem ((c.tc : Thread Cert.RecurrenceUpIdeal.nD Cert.RecurrenceUpIdeal.τ).loc Cert.RecurrenceUpIdeal.main_arg1) = m ((c.tc : Thread Cert.RecurrenceUpIdeal.nD Cert.RecurrenceUpIdeal.τ).loc Cert.RecurrenceUpIdeal.main_arg1))
      ∧ θ_run (Cert.RecurrenceUpReferenceIdeal.defs (F := Ideal)) (onTc (τ := Cert.RecurrenceUpReferenceIdeal.τ) (Cert.RecurrenceUpReferenceIdeal.main (F := Ideal))) ⟨m', fun _ => 0, g'⟩ (fun r => ∀ c : Dev Cert.RecurrenceUpReferenceIdeal.nD,
          r.2.mem ((c.tc : Thread Cert.RecurrenceUpReferenceIdeal.nD Cert.RecurrenceUpReferenceIdeal.τ).loc Cert.RecurrenceUpReferenceIdeal.main_v2) = v0 c
          ∧ r.2.mem ((c.tc : Thread Cert.RecurrenceUpReferenceIdeal.nD Cert.RecurrenceUpReferenceIdeal.τ).loc Cert.RecurrenceUpReferenceIdeal.main_arg0) = m' ((c.tc : Thread Cert.RecurrenceUpReferenceIdeal.nD Cert.RecurrenceUpReferenceIdeal.τ).loc Cert.RecurrenceUpReferenceIdeal.main_arg0)
          ∧ r.2.mem ((c.tc : Thread Cert.RecurrenceUpReferenceIdeal.nD Cert.RecurrenceUpReferenceIdeal.τ).loc Cert.RecurrenceUpReferenceIdeal.main_arg1) = m' ((c.tc : Thread Cert.RecurrenceUpReferenceIdeal.nD Cert.RecurrenceUpReferenceIdeal.τ).loc Cert.RecurrenceUpReferenceIdeal.main_arg1))

def preserves_LatentDown_LatentDownIdeal : Prop :=
  True

def algebraic_LatentDownIdeal_LatentDownReferenceIdeal [hLatentDownIdeal : Cert.LatentDownIdeal.Facts] [hLatentDownReferenceIdeal : Cert.LatentDownReferenceIdeal.Facts] : Prop :=
  ∀ (m : (ℓ : Loc Cert.LatentDownIdeal.nD Cert.LatentDownIdeal.τ Cert.LatentDownIdeal.sig) → Buf (Elt Ideal) ℓ) (g : Dev Cert.LatentDownIdeal.nD → PrngReg)
    (m' : (ℓ : Loc Cert.LatentDownReferenceIdeal.nD Cert.LatentDownReferenceIdeal.τ Cert.LatentDownReferenceIdeal.sig) → Buf (Elt Ideal) ℓ) (g' : Dev Cert.LatentDownReferenceIdeal.nD → PrngReg), Pre_LatentDownIdeal m →
    (∀ c : Dev Cert.LatentDownIdeal.nD,
      m' ((c.tc : Thread Cert.LatentDownReferenceIdeal.nD Cert.LatentDownReferenceIdeal.τ).loc Cert.LatentDownReferenceIdeal.main_arg0) = m ((c.tc : Thread Cert.LatentDownIdeal.nD Cert.LatentDownIdeal.τ).loc Cert.LatentDownIdeal.main_arg0)
      ∧ m' ((c.tc : Thread Cert.LatentDownReferenceIdeal.nD Cert.LatentDownReferenceIdeal.τ).loc Cert.LatentDownReferenceIdeal.main_arg1) = m ((c.tc : Thread Cert.LatentDownIdeal.nD Cert.LatentDownIdeal.τ).loc Cert.LatentDownIdeal.main_arg1)) →
    ∃ (v0 : (c : Dev Cert.LatentDownIdeal.nD) → Buf (Elt Ideal) ((c.tc : Thread Cert.LatentDownIdeal.nD Cert.LatentDownIdeal.τ).loc Cert.LatentDownIdeal.main_v0)),
      θ_run (Cert.LatentDownIdeal.defs (F := Ideal)) (onTc (τ := Cert.LatentDownIdeal.τ) (Cert.LatentDownIdeal.main (F := Ideal))) ⟨m, fun _ => 0, g⟩ (fun r => ∀ c : Dev Cert.LatentDownIdeal.nD,
          r.2.mem ((c.tc : Thread Cert.LatentDownIdeal.nD Cert.LatentDownIdeal.τ).loc Cert.LatentDownIdeal.main_v0) = v0 c
          ∧ r.2.mem ((c.tc : Thread Cert.LatentDownIdeal.nD Cert.LatentDownIdeal.τ).loc Cert.LatentDownIdeal.main_arg0) = m ((c.tc : Thread Cert.LatentDownIdeal.nD Cert.LatentDownIdeal.τ).loc Cert.LatentDownIdeal.main_arg0)
          ∧ r.2.mem ((c.tc : Thread Cert.LatentDownIdeal.nD Cert.LatentDownIdeal.τ).loc Cert.LatentDownIdeal.main_arg1) = m ((c.tc : Thread Cert.LatentDownIdeal.nD Cert.LatentDownIdeal.τ).loc Cert.LatentDownIdeal.main_arg1))
      ∧ θ_run (Cert.LatentDownReferenceIdeal.defs (F := Ideal)) (onTc (τ := Cert.LatentDownReferenceIdeal.τ) (Cert.LatentDownReferenceIdeal.main (F := Ideal))) ⟨m', fun _ => 0, g'⟩ (fun r => ∀ c : Dev Cert.LatentDownReferenceIdeal.nD,
          r.2.mem ((c.tc : Thread Cert.LatentDownReferenceIdeal.nD Cert.LatentDownReferenceIdeal.τ).loc Cert.LatentDownReferenceIdeal.main_v2) = v0 c
          ∧ r.2.mem ((c.tc : Thread Cert.LatentDownReferenceIdeal.nD Cert.LatentDownReferenceIdeal.τ).loc Cert.LatentDownReferenceIdeal.main_arg0) = m' ((c.tc : Thread Cert.LatentDownReferenceIdeal.nD Cert.LatentDownReferenceIdeal.τ).loc Cert.LatentDownReferenceIdeal.main_arg0)
          ∧ r.2.mem ((c.tc : Thread Cert.LatentDownReferenceIdeal.nD Cert.LatentDownReferenceIdeal.τ).loc Cert.LatentDownReferenceIdeal.main_arg1) = m' ((c.tc : Thread Cert.LatentDownReferenceIdeal.nD Cert.LatentDownReferenceIdeal.τ).loc Cert.LatentDownReferenceIdeal.main_arg1))

def preserves_RopeUp_RopeUpIdeal : Prop :=
  True

def algebraic_RopeUpIdeal_RopeUpReferenceIdeal [hRopeUpIdeal : Cert.RopeUpIdeal.Facts] [hRopeUpReferenceIdeal : Cert.RopeUpReferenceIdeal.Facts] : Prop :=
  ∀ (m : (ℓ : Loc Cert.RopeUpIdeal.nD Cert.RopeUpIdeal.τ Cert.RopeUpIdeal.sig) → Buf (Elt Ideal) ℓ) (g : Dev Cert.RopeUpIdeal.nD → PrngReg)
    (m' : (ℓ : Loc Cert.RopeUpReferenceIdeal.nD Cert.RopeUpReferenceIdeal.τ Cert.RopeUpReferenceIdeal.sig) → Buf (Elt Ideal) ℓ) (g' : Dev Cert.RopeUpReferenceIdeal.nD → PrngReg), Pre_RopeUpIdeal m →
    (∀ c : Dev Cert.RopeUpIdeal.nD,
      m' ((c.tc : Thread Cert.RopeUpReferenceIdeal.nD Cert.RopeUpReferenceIdeal.τ).loc Cert.RopeUpReferenceIdeal.main_arg0) = m ((c.tc : Thread Cert.RopeUpIdeal.nD Cert.RopeUpIdeal.τ).loc Cert.RopeUpIdeal.main_arg0)
      ∧ m' ((c.tc : Thread Cert.RopeUpReferenceIdeal.nD Cert.RopeUpReferenceIdeal.τ).loc Cert.RopeUpReferenceIdeal.main_arg1) = m ((c.tc : Thread Cert.RopeUpIdeal.nD Cert.RopeUpIdeal.τ).loc Cert.RopeUpIdeal.main_arg1)) →
    ∃ (v0 : (c : Dev Cert.RopeUpIdeal.nD) → Buf (Elt Ideal) ((c.tc : Thread Cert.RopeUpIdeal.nD Cert.RopeUpIdeal.τ).loc Cert.RopeUpIdeal.main_v0)),
      θ_run (Cert.RopeUpIdeal.defs (F := Ideal)) (onTc (τ := Cert.RopeUpIdeal.τ) (Cert.RopeUpIdeal.main (F := Ideal))) ⟨m, fun _ => 0, g⟩ (fun r => ∀ c : Dev Cert.RopeUpIdeal.nD,
          r.2.mem ((c.tc : Thread Cert.RopeUpIdeal.nD Cert.RopeUpIdeal.τ).loc Cert.RopeUpIdeal.main_v0) = v0 c
          ∧ r.2.mem ((c.tc : Thread Cert.RopeUpIdeal.nD Cert.RopeUpIdeal.τ).loc Cert.RopeUpIdeal.main_arg0) = m ((c.tc : Thread Cert.RopeUpIdeal.nD Cert.RopeUpIdeal.τ).loc Cert.RopeUpIdeal.main_arg0)
          ∧ r.2.mem ((c.tc : Thread Cert.RopeUpIdeal.nD Cert.RopeUpIdeal.τ).loc Cert.RopeUpIdeal.main_arg1) = m ((c.tc : Thread Cert.RopeUpIdeal.nD Cert.RopeUpIdeal.τ).loc Cert.RopeUpIdeal.main_arg1))
      ∧ θ_run (Cert.RopeUpReferenceIdeal.defs (F := Ideal)) (onTc (τ := Cert.RopeUpReferenceIdeal.τ) (Cert.RopeUpReferenceIdeal.main (F := Ideal))) ⟨m', fun _ => 0, g'⟩ (fun r => ∀ c : Dev Cert.RopeUpReferenceIdeal.nD,
          r.2.mem ((c.tc : Thread Cert.RopeUpReferenceIdeal.nD Cert.RopeUpReferenceIdeal.τ).loc Cert.RopeUpReferenceIdeal.main_v2) = v0 c
          ∧ r.2.mem ((c.tc : Thread Cert.RopeUpReferenceIdeal.nD Cert.RopeUpReferenceIdeal.τ).loc Cert.RopeUpReferenceIdeal.main_arg0) = m' ((c.tc : Thread Cert.RopeUpReferenceIdeal.nD Cert.RopeUpReferenceIdeal.τ).loc Cert.RopeUpReferenceIdeal.main_arg0)
          ∧ r.2.mem ((c.tc : Thread Cert.RopeUpReferenceIdeal.nD Cert.RopeUpReferenceIdeal.τ).loc Cert.RopeUpReferenceIdeal.main_arg1) = m' ((c.tc : Thread Cert.RopeUpReferenceIdeal.nD Cert.RopeUpReferenceIdeal.τ).loc Cert.RopeUpReferenceIdeal.main_arg1))

def preserves_NopeUp_NopeUpIdeal : Prop :=
  True

def algebraic_NopeUpIdeal_NopeUpReferenceIdeal [hNopeUpIdeal : Cert.NopeUpIdeal.Facts] [hNopeUpReferenceIdeal : Cert.NopeUpReferenceIdeal.Facts] : Prop :=
  ∀ (m : (ℓ : Loc Cert.NopeUpIdeal.nD Cert.NopeUpIdeal.τ Cert.NopeUpIdeal.sig) → Buf (Elt Ideal) ℓ) (g : Dev Cert.NopeUpIdeal.nD → PrngReg)
    (m' : (ℓ : Loc Cert.NopeUpReferenceIdeal.nD Cert.NopeUpReferenceIdeal.τ Cert.NopeUpReferenceIdeal.sig) → Buf (Elt Ideal) ℓ) (g' : Dev Cert.NopeUpReferenceIdeal.nD → PrngReg), Pre_NopeUpIdeal m →
    (∀ c : Dev Cert.NopeUpIdeal.nD,
      m' ((c.tc : Thread Cert.NopeUpReferenceIdeal.nD Cert.NopeUpReferenceIdeal.τ).loc Cert.NopeUpReferenceIdeal.main_arg0) = m ((c.tc : Thread Cert.NopeUpIdeal.nD Cert.NopeUpIdeal.τ).loc Cert.NopeUpIdeal.main_arg0)
      ∧ m' ((c.tc : Thread Cert.NopeUpReferenceIdeal.nD Cert.NopeUpReferenceIdeal.τ).loc Cert.NopeUpReferenceIdeal.main_arg1) = m ((c.tc : Thread Cert.NopeUpIdeal.nD Cert.NopeUpIdeal.τ).loc Cert.NopeUpIdeal.main_arg1)) →
    ∃ (v0 : (c : Dev Cert.NopeUpIdeal.nD) → Buf (Elt Ideal) ((c.tc : Thread Cert.NopeUpIdeal.nD Cert.NopeUpIdeal.τ).loc Cert.NopeUpIdeal.main_v0)),
      θ_run (Cert.NopeUpIdeal.defs (F := Ideal)) (onTc (τ := Cert.NopeUpIdeal.τ) (Cert.NopeUpIdeal.main (F := Ideal))) ⟨m, fun _ => 0, g⟩ (fun r => ∀ c : Dev Cert.NopeUpIdeal.nD,
          r.2.mem ((c.tc : Thread Cert.NopeUpIdeal.nD Cert.NopeUpIdeal.τ).loc Cert.NopeUpIdeal.main_v0) = v0 c
          ∧ r.2.mem ((c.tc : Thread Cert.NopeUpIdeal.nD Cert.NopeUpIdeal.τ).loc Cert.NopeUpIdeal.main_arg0) = m ((c.tc : Thread Cert.NopeUpIdeal.nD Cert.NopeUpIdeal.τ).loc Cert.NopeUpIdeal.main_arg0)
          ∧ r.2.mem ((c.tc : Thread Cert.NopeUpIdeal.nD Cert.NopeUpIdeal.τ).loc Cert.NopeUpIdeal.main_arg1) = m ((c.tc : Thread Cert.NopeUpIdeal.nD Cert.NopeUpIdeal.τ).loc Cert.NopeUpIdeal.main_arg1))
      ∧ θ_run (Cert.NopeUpReferenceIdeal.defs (F := Ideal)) (onTc (τ := Cert.NopeUpReferenceIdeal.τ) (Cert.NopeUpReferenceIdeal.main (F := Ideal))) ⟨m', fun _ => 0, g'⟩ (fun r => ∀ c : Dev Cert.NopeUpReferenceIdeal.nD,
          r.2.mem ((c.tc : Thread Cert.NopeUpReferenceIdeal.nD Cert.NopeUpReferenceIdeal.τ).loc Cert.NopeUpReferenceIdeal.main_v3) = v0 c
          ∧ r.2.mem ((c.tc : Thread Cert.NopeUpReferenceIdeal.nD Cert.NopeUpReferenceIdeal.τ).loc Cert.NopeUpReferenceIdeal.main_arg0) = m' ((c.tc : Thread Cert.NopeUpReferenceIdeal.nD Cert.NopeUpReferenceIdeal.τ).loc Cert.NopeUpReferenceIdeal.main_arg0)
          ∧ r.2.mem ((c.tc : Thread Cert.NopeUpReferenceIdeal.nD Cert.NopeUpReferenceIdeal.τ).loc Cert.NopeUpReferenceIdeal.main_arg1) = m' ((c.tc : Thread Cert.NopeUpReferenceIdeal.nD Cert.NopeUpReferenceIdeal.τ).loc Cert.NopeUpReferenceIdeal.main_arg1))

def preserves_KeyValueUp_KeyValueUpIdeal : Prop :=
  True

def algebraic_KeyValueUpIdeal_KeyValueUpReferenceIdeal [hKeyValueUpIdeal : Cert.KeyValueUpIdeal.Facts] [hKeyValueUpReferenceIdeal : Cert.KeyValueUpReferenceIdeal.Facts] : Prop :=
  ∀ (m : (ℓ : Loc Cert.KeyValueUpIdeal.nD Cert.KeyValueUpIdeal.τ Cert.KeyValueUpIdeal.sig) → Buf (Elt Ideal) ℓ) (g : Dev Cert.KeyValueUpIdeal.nD → PrngReg)
    (m' : (ℓ : Loc Cert.KeyValueUpReferenceIdeal.nD Cert.KeyValueUpReferenceIdeal.τ Cert.KeyValueUpReferenceIdeal.sig) → Buf (Elt Ideal) ℓ) (g' : Dev Cert.KeyValueUpReferenceIdeal.nD → PrngReg), Pre_KeyValueUpIdeal m →
    (∀ c : Dev Cert.KeyValueUpIdeal.nD,
      m' ((c.tc : Thread Cert.KeyValueUpReferenceIdeal.nD Cert.KeyValueUpReferenceIdeal.τ).loc Cert.KeyValueUpReferenceIdeal.main_arg0) = m ((c.tc : Thread Cert.KeyValueUpIdeal.nD Cert.KeyValueUpIdeal.τ).loc Cert.KeyValueUpIdeal.main_arg0)
      ∧ m' ((c.tc : Thread Cert.KeyValueUpReferenceIdeal.nD Cert.KeyValueUpReferenceIdeal.τ).loc Cert.KeyValueUpReferenceIdeal.main_arg1) = m ((c.tc : Thread Cert.KeyValueUpIdeal.nD Cert.KeyValueUpIdeal.τ).loc Cert.KeyValueUpIdeal.main_arg1)) →
    ∃ (v0 : (c : Dev Cert.KeyValueUpIdeal.nD) → Buf (Elt Ideal) ((c.tc : Thread Cert.KeyValueUpIdeal.nD Cert.KeyValueUpIdeal.τ).loc Cert.KeyValueUpIdeal.main_v0)),
      θ_run (Cert.KeyValueUpIdeal.defs (F := Ideal)) (onTc (τ := Cert.KeyValueUpIdeal.τ) (Cert.KeyValueUpIdeal.main (F := Ideal))) ⟨m, fun _ => 0, g⟩ (fun r => ∀ c : Dev Cert.KeyValueUpIdeal.nD,
          r.2.mem ((c.tc : Thread Cert.KeyValueUpIdeal.nD Cert.KeyValueUpIdeal.τ).loc Cert.KeyValueUpIdeal.main_v0) = v0 c
          ∧ r.2.mem ((c.tc : Thread Cert.KeyValueUpIdeal.nD Cert.KeyValueUpIdeal.τ).loc Cert.KeyValueUpIdeal.main_arg0) = m ((c.tc : Thread Cert.KeyValueUpIdeal.nD Cert.KeyValueUpIdeal.τ).loc Cert.KeyValueUpIdeal.main_arg0)
          ∧ r.2.mem ((c.tc : Thread Cert.KeyValueUpIdeal.nD Cert.KeyValueUpIdeal.τ).loc Cert.KeyValueUpIdeal.main_arg1) = m ((c.tc : Thread Cert.KeyValueUpIdeal.nD Cert.KeyValueUpIdeal.τ).loc Cert.KeyValueUpIdeal.main_arg1))
      ∧ θ_run (Cert.KeyValueUpReferenceIdeal.defs (F := Ideal)) (onTc (τ := Cert.KeyValueUpReferenceIdeal.τ) (Cert.KeyValueUpReferenceIdeal.main (F := Ideal))) ⟨m', fun _ => 0, g'⟩ (fun r => ∀ c : Dev Cert.KeyValueUpReferenceIdeal.nD,
          r.2.mem ((c.tc : Thread Cert.KeyValueUpReferenceIdeal.nD Cert.KeyValueUpReferenceIdeal.τ).loc Cert.KeyValueUpReferenceIdeal.main_v3) = v0 c
          ∧ r.2.mem ((c.tc : Thread Cert.KeyValueUpReferenceIdeal.nD Cert.KeyValueUpReferenceIdeal.τ).loc Cert.KeyValueUpReferenceIdeal.main_arg0) = m' ((c.tc : Thread Cert.KeyValueUpReferenceIdeal.nD Cert.KeyValueUpReferenceIdeal.τ).loc Cert.KeyValueUpReferenceIdeal.main_arg0)
          ∧ r.2.mem ((c.tc : Thread Cert.KeyValueUpReferenceIdeal.nD Cert.KeyValueUpReferenceIdeal.τ).loc Cert.KeyValueUpReferenceIdeal.main_arg1) = m' ((c.tc : Thread Cert.KeyValueUpReferenceIdeal.nD Cert.KeyValueUpReferenceIdeal.τ).loc Cert.KeyValueUpReferenceIdeal.main_arg1))

def preserves_MemoryUp_MemoryUpIdeal : Prop :=
  True

def algebraic_MemoryUpIdeal_MemoryUpReferenceIdeal [hMemoryUpIdeal : Cert.MemoryUpIdeal.Facts] [hMemoryUpReferenceIdeal : Cert.MemoryUpReferenceIdeal.Facts] : Prop :=
  ∀ (m : (ℓ : Loc Cert.MemoryUpIdeal.nD Cert.MemoryUpIdeal.τ Cert.MemoryUpIdeal.sig) → Buf (Elt Ideal) ℓ) (g : Dev Cert.MemoryUpIdeal.nD → PrngReg)
    (m' : (ℓ : Loc Cert.MemoryUpReferenceIdeal.nD Cert.MemoryUpReferenceIdeal.τ Cert.MemoryUpReferenceIdeal.sig) → Buf (Elt Ideal) ℓ) (g' : Dev Cert.MemoryUpReferenceIdeal.nD → PrngReg), Pre_MemoryUpIdeal m →
    (∀ c : Dev Cert.MemoryUpIdeal.nD,
      m' ((c.tc : Thread Cert.MemoryUpReferenceIdeal.nD Cert.MemoryUpReferenceIdeal.τ).loc Cert.MemoryUpReferenceIdeal.main_arg0) = m ((c.tc : Thread Cert.MemoryUpIdeal.nD Cert.MemoryUpIdeal.τ).loc Cert.MemoryUpIdeal.main_arg0)
      ∧ m' ((c.tc : Thread Cert.MemoryUpReferenceIdeal.nD Cert.MemoryUpReferenceIdeal.τ).loc Cert.MemoryUpReferenceIdeal.main_arg1) = m ((c.tc : Thread Cert.MemoryUpIdeal.nD Cert.MemoryUpIdeal.τ).loc Cert.MemoryUpIdeal.main_arg1)) →
    ∃ (v0 : (c : Dev Cert.MemoryUpIdeal.nD) → Buf (Elt Ideal) ((c.tc : Thread Cert.MemoryUpIdeal.nD Cert.MemoryUpIdeal.τ).loc Cert.MemoryUpIdeal.main_v0)),
      θ_run (Cert.MemoryUpIdeal.defs (F := Ideal)) (onTc (τ := Cert.MemoryUpIdeal.τ) (Cert.MemoryUpIdeal.main (F := Ideal))) ⟨m, fun _ => 0, g⟩ (fun r => ∀ c : Dev Cert.MemoryUpIdeal.nD,
          r.2.mem ((c.tc : Thread Cert.MemoryUpIdeal.nD Cert.MemoryUpIdeal.τ).loc Cert.MemoryUpIdeal.main_v0) = v0 c
          ∧ r.2.mem ((c.tc : Thread Cert.MemoryUpIdeal.nD Cert.MemoryUpIdeal.τ).loc Cert.MemoryUpIdeal.main_arg0) = m ((c.tc : Thread Cert.MemoryUpIdeal.nD Cert.MemoryUpIdeal.τ).loc Cert.MemoryUpIdeal.main_arg0)
          ∧ r.2.mem ((c.tc : Thread Cert.MemoryUpIdeal.nD Cert.MemoryUpIdeal.τ).loc Cert.MemoryUpIdeal.main_arg1) = m ((c.tc : Thread Cert.MemoryUpIdeal.nD Cert.MemoryUpIdeal.τ).loc Cert.MemoryUpIdeal.main_arg1))
      ∧ θ_run (Cert.MemoryUpReferenceIdeal.defs (F := Ideal)) (onTc (τ := Cert.MemoryUpReferenceIdeal.τ) (Cert.MemoryUpReferenceIdeal.main (F := Ideal))) ⟨m', fun _ => 0, g'⟩ (fun r => ∀ c : Dev Cert.MemoryUpReferenceIdeal.nD,
          r.2.mem ((c.tc : Thread Cert.MemoryUpReferenceIdeal.nD Cert.MemoryUpReferenceIdeal.τ).loc Cert.MemoryUpReferenceIdeal.main_v3) = v0 c
          ∧ r.2.mem ((c.tc : Thread Cert.MemoryUpReferenceIdeal.nD Cert.MemoryUpReferenceIdeal.τ).loc Cert.MemoryUpReferenceIdeal.main_arg0) = m' ((c.tc : Thread Cert.MemoryUpReferenceIdeal.nD Cert.MemoryUpReferenceIdeal.τ).loc Cert.MemoryUpReferenceIdeal.main_arg0)
          ∧ r.2.mem ((c.tc : Thread Cert.MemoryUpReferenceIdeal.nD Cert.MemoryUpReferenceIdeal.τ).loc Cert.MemoryUpReferenceIdeal.main_arg1) = m' ((c.tc : Thread Cert.MemoryUpReferenceIdeal.nD Cert.MemoryUpReferenceIdeal.τ).loc Cert.MemoryUpReferenceIdeal.main_arg1))

def preserves_WindowInput_WindowInputIdeal : Prop :=
  True

def algebraic_WindowInputIdeal_WindowInputReferenceIdeal [hWindowInputIdeal : Cert.WindowInputIdeal.Facts] [hWindowInputReferenceIdeal : Cert.WindowInputReferenceIdeal.Facts] : Prop :=
  ∀ (m : (ℓ : Loc Cert.WindowInputIdeal.nD Cert.WindowInputIdeal.τ Cert.WindowInputIdeal.sig) → Buf (Elt Ideal) ℓ) (g : Dev Cert.WindowInputIdeal.nD → PrngReg)
    (m' : (ℓ : Loc Cert.WindowInputReferenceIdeal.nD Cert.WindowInputReferenceIdeal.τ Cert.WindowInputReferenceIdeal.sig) → Buf (Elt Ideal) ℓ) (g' : Dev Cert.WindowInputReferenceIdeal.nD → PrngReg), Pre_WindowInputIdeal m →
    (∀ c : Dev Cert.WindowInputIdeal.nD,
      m' ((c.tc : Thread Cert.WindowInputReferenceIdeal.nD Cert.WindowInputReferenceIdeal.τ).loc Cert.WindowInputReferenceIdeal.main_arg0) = m ((c.tc : Thread Cert.WindowInputIdeal.nD Cert.WindowInputIdeal.τ).loc Cert.WindowInputIdeal.main_arg0)
      ∧ m' ((c.tc : Thread Cert.WindowInputReferenceIdeal.nD Cert.WindowInputReferenceIdeal.τ).loc Cert.WindowInputReferenceIdeal.main_arg1) = m ((c.tc : Thread Cert.WindowInputIdeal.nD Cert.WindowInputIdeal.τ).loc Cert.WindowInputIdeal.main_arg1)) →
    ∃ (v0 : (c : Dev Cert.WindowInputIdeal.nD) → Buf (Elt Ideal) ((c.tc : Thread Cert.WindowInputIdeal.nD Cert.WindowInputIdeal.τ).loc Cert.WindowInputIdeal.main_v0)),
      θ_run (Cert.WindowInputIdeal.defs (F := Ideal)) (onTc (τ := Cert.WindowInputIdeal.τ) (Cert.WindowInputIdeal.main (F := Ideal))) ⟨m, fun _ => 0, g⟩ (fun r => ∀ c : Dev Cert.WindowInputIdeal.nD,
          r.2.mem ((c.tc : Thread Cert.WindowInputIdeal.nD Cert.WindowInputIdeal.τ).loc Cert.WindowInputIdeal.main_v0) = v0 c
          ∧ r.2.mem ((c.tc : Thread Cert.WindowInputIdeal.nD Cert.WindowInputIdeal.τ).loc Cert.WindowInputIdeal.main_arg0) = m ((c.tc : Thread Cert.WindowInputIdeal.nD Cert.WindowInputIdeal.τ).loc Cert.WindowInputIdeal.main_arg0)
          ∧ r.2.mem ((c.tc : Thread Cert.WindowInputIdeal.nD Cert.WindowInputIdeal.τ).loc Cert.WindowInputIdeal.main_arg1) = m ((c.tc : Thread Cert.WindowInputIdeal.nD Cert.WindowInputIdeal.τ).loc Cert.WindowInputIdeal.main_arg1))
      ∧ θ_run (Cert.WindowInputReferenceIdeal.defs (F := Ideal)) (onTc (τ := Cert.WindowInputReferenceIdeal.τ) (Cert.WindowInputReferenceIdeal.main (F := Ideal))) ⟨m', fun _ => 0, g'⟩ (fun r => ∀ c : Dev Cert.WindowInputReferenceIdeal.nD,
          r.2.mem ((c.tc : Thread Cert.WindowInputReferenceIdeal.nD Cert.WindowInputReferenceIdeal.τ).loc Cert.WindowInputReferenceIdeal.main_v4) = v0 c
          ∧ r.2.mem ((c.tc : Thread Cert.WindowInputReferenceIdeal.nD Cert.WindowInputReferenceIdeal.τ).loc Cert.WindowInputReferenceIdeal.main_arg0) = m' ((c.tc : Thread Cert.WindowInputReferenceIdeal.nD Cert.WindowInputReferenceIdeal.τ).loc Cert.WindowInputReferenceIdeal.main_arg0)
          ∧ r.2.mem ((c.tc : Thread Cert.WindowInputReferenceIdeal.nD Cert.WindowInputReferenceIdeal.τ).loc Cert.WindowInputReferenceIdeal.main_arg1) = m' ((c.tc : Thread Cert.WindowInputReferenceIdeal.nD Cert.WindowInputReferenceIdeal.τ).loc Cert.WindowInputReferenceIdeal.main_arg1))

def preserves_NopeInput_NopeInputIdeal : Prop :=
  True

def algebraic_NopeInputIdeal_NopeInputReferenceIdeal [hNopeInputIdeal : Cert.NopeInputIdeal.Facts] [hNopeInputReferenceIdeal : Cert.NopeInputReferenceIdeal.Facts] : Prop :=
  ∀ (m : (ℓ : Loc Cert.NopeInputIdeal.nD Cert.NopeInputIdeal.τ Cert.NopeInputIdeal.sig) → Buf (Elt Ideal) ℓ) (g : Dev Cert.NopeInputIdeal.nD → PrngReg)
    (m' : (ℓ : Loc Cert.NopeInputReferenceIdeal.nD Cert.NopeInputReferenceIdeal.τ Cert.NopeInputReferenceIdeal.sig) → Buf (Elt Ideal) ℓ) (g' : Dev Cert.NopeInputReferenceIdeal.nD → PrngReg), Pre_NopeInputIdeal m →
    (∀ c : Dev Cert.NopeInputIdeal.nD,
      m' ((c.tc : Thread Cert.NopeInputReferenceIdeal.nD Cert.NopeInputReferenceIdeal.τ).loc Cert.NopeInputReferenceIdeal.main_arg0) = m ((c.tc : Thread Cert.NopeInputIdeal.nD Cert.NopeInputIdeal.τ).loc Cert.NopeInputIdeal.main_arg0)
      ∧ m' ((c.tc : Thread Cert.NopeInputReferenceIdeal.nD Cert.NopeInputReferenceIdeal.τ).loc Cert.NopeInputReferenceIdeal.main_arg1) = m ((c.tc : Thread Cert.NopeInputIdeal.nD Cert.NopeInputIdeal.τ).loc Cert.NopeInputIdeal.main_arg1)) →
    ∃ (v0 : (c : Dev Cert.NopeInputIdeal.nD) → Buf (Elt Ideal) ((c.tc : Thread Cert.NopeInputIdeal.nD Cert.NopeInputIdeal.τ).loc Cert.NopeInputIdeal.main_v0)),
      θ_run (Cert.NopeInputIdeal.defs (F := Ideal)) (onTc (τ := Cert.NopeInputIdeal.τ) (Cert.NopeInputIdeal.main (F := Ideal))) ⟨m, fun _ => 0, g⟩ (fun r => ∀ c : Dev Cert.NopeInputIdeal.nD,
          r.2.mem ((c.tc : Thread Cert.NopeInputIdeal.nD Cert.NopeInputIdeal.τ).loc Cert.NopeInputIdeal.main_v0) = v0 c
          ∧ r.2.mem ((c.tc : Thread Cert.NopeInputIdeal.nD Cert.NopeInputIdeal.τ).loc Cert.NopeInputIdeal.main_arg0) = m ((c.tc : Thread Cert.NopeInputIdeal.nD Cert.NopeInputIdeal.τ).loc Cert.NopeInputIdeal.main_arg0)
          ∧ r.2.mem ((c.tc : Thread Cert.NopeInputIdeal.nD Cert.NopeInputIdeal.τ).loc Cert.NopeInputIdeal.main_arg1) = m ((c.tc : Thread Cert.NopeInputIdeal.nD Cert.NopeInputIdeal.τ).loc Cert.NopeInputIdeal.main_arg1))
      ∧ θ_run (Cert.NopeInputReferenceIdeal.defs (F := Ideal)) (onTc (τ := Cert.NopeInputReferenceIdeal.τ) (Cert.NopeInputReferenceIdeal.main (F := Ideal))) ⟨m', fun _ => 0, g'⟩ (fun r => ∀ c : Dev Cert.NopeInputReferenceIdeal.nD,
          r.2.mem ((c.tc : Thread Cert.NopeInputReferenceIdeal.nD Cert.NopeInputReferenceIdeal.τ).loc Cert.NopeInputReferenceIdeal.main_v4) = v0 c
          ∧ r.2.mem ((c.tc : Thread Cert.NopeInputReferenceIdeal.nD Cert.NopeInputReferenceIdeal.τ).loc Cert.NopeInputReferenceIdeal.main_arg0) = m' ((c.tc : Thread Cert.NopeInputReferenceIdeal.nD Cert.NopeInputReferenceIdeal.τ).loc Cert.NopeInputReferenceIdeal.main_arg0)
          ∧ r.2.mem ((c.tc : Thread Cert.NopeInputReferenceIdeal.nD Cert.NopeInputReferenceIdeal.τ).loc Cert.NopeInputReferenceIdeal.main_arg1) = m' ((c.tc : Thread Cert.NopeInputReferenceIdeal.nD Cert.NopeInputReferenceIdeal.τ).loc Cert.NopeInputReferenceIdeal.main_arg1))

def preserves_RopeInput_RopeInputIdeal : Prop :=
  True

def algebraic_RopeInputIdeal_RopeInputReferenceIdeal [hRopeInputIdeal : Cert.RopeInputIdeal.Facts] [hRopeInputReferenceIdeal : Cert.RopeInputReferenceIdeal.Facts] : Prop :=
  ∀ (m : (ℓ : Loc Cert.RopeInputIdeal.nD Cert.RopeInputIdeal.τ Cert.RopeInputIdeal.sig) → Buf (Elt Ideal) ℓ) (g : Dev Cert.RopeInputIdeal.nD → PrngReg)
    (m' : (ℓ : Loc Cert.RopeInputReferenceIdeal.nD Cert.RopeInputReferenceIdeal.τ Cert.RopeInputReferenceIdeal.sig) → Buf (Elt Ideal) ℓ) (g' : Dev Cert.RopeInputReferenceIdeal.nD → PrngReg), Pre_RopeInputIdeal m →
    (∀ c : Dev Cert.RopeInputIdeal.nD,
      m' ((c.tc : Thread Cert.RopeInputReferenceIdeal.nD Cert.RopeInputReferenceIdeal.τ).loc Cert.RopeInputReferenceIdeal.main_arg0) = m ((c.tc : Thread Cert.RopeInputIdeal.nD Cert.RopeInputIdeal.τ).loc Cert.RopeInputIdeal.main_arg0)
      ∧ m' ((c.tc : Thread Cert.RopeInputReferenceIdeal.nD Cert.RopeInputReferenceIdeal.τ).loc Cert.RopeInputReferenceIdeal.main_arg1) = m ((c.tc : Thread Cert.RopeInputIdeal.nD Cert.RopeInputIdeal.τ).loc Cert.RopeInputIdeal.main_arg1)) →
    ∃ (v0 : (c : Dev Cert.RopeInputIdeal.nD) → Buf (Elt Ideal) ((c.tc : Thread Cert.RopeInputIdeal.nD Cert.RopeInputIdeal.τ).loc Cert.RopeInputIdeal.main_v0)),
      θ_run (Cert.RopeInputIdeal.defs (F := Ideal)) (onTc (τ := Cert.RopeInputIdeal.τ) (Cert.RopeInputIdeal.main (F := Ideal))) ⟨m, fun _ => 0, g⟩ (fun r => ∀ c : Dev Cert.RopeInputIdeal.nD,
          r.2.mem ((c.tc : Thread Cert.RopeInputIdeal.nD Cert.RopeInputIdeal.τ).loc Cert.RopeInputIdeal.main_v0) = v0 c
          ∧ r.2.mem ((c.tc : Thread Cert.RopeInputIdeal.nD Cert.RopeInputIdeal.τ).loc Cert.RopeInputIdeal.main_arg0) = m ((c.tc : Thread Cert.RopeInputIdeal.nD Cert.RopeInputIdeal.τ).loc Cert.RopeInputIdeal.main_arg0)
          ∧ r.2.mem ((c.tc : Thread Cert.RopeInputIdeal.nD Cert.RopeInputIdeal.τ).loc Cert.RopeInputIdeal.main_arg1) = m ((c.tc : Thread Cert.RopeInputIdeal.nD Cert.RopeInputIdeal.τ).loc Cert.RopeInputIdeal.main_arg1))
      ∧ θ_run (Cert.RopeInputReferenceIdeal.defs (F := Ideal)) (onTc (τ := Cert.RopeInputReferenceIdeal.τ) (Cert.RopeInputReferenceIdeal.main (F := Ideal))) ⟨m', fun _ => 0, g'⟩ (fun r => ∀ c : Dev Cert.RopeInputReferenceIdeal.nD,
          r.2.mem ((c.tc : Thread Cert.RopeInputReferenceIdeal.nD Cert.RopeInputReferenceIdeal.τ).loc Cert.RopeInputReferenceIdeal.main_v4) = v0 c
          ∧ r.2.mem ((c.tc : Thread Cert.RopeInputReferenceIdeal.nD Cert.RopeInputReferenceIdeal.τ).loc Cert.RopeInputReferenceIdeal.main_arg0) = m' ((c.tc : Thread Cert.RopeInputReferenceIdeal.nD Cert.RopeInputReferenceIdeal.τ).loc Cert.RopeInputReferenceIdeal.main_arg0)
          ∧ r.2.mem ((c.tc : Thread Cert.RopeInputReferenceIdeal.nD Cert.RopeInputReferenceIdeal.τ).loc Cert.RopeInputReferenceIdeal.main_arg1) = m' ((c.tc : Thread Cert.RopeInputReferenceIdeal.nD Cert.RopeInputReferenceIdeal.τ).loc Cert.RopeInputReferenceIdeal.main_arg1))

def preserves_KeyValueInput_KeyValueInputIdeal : Prop :=
  True

def algebraic_KeyValueInputIdeal_KeyValueInputReferenceIdeal [hKeyValueInputIdeal : Cert.KeyValueInputIdeal.Facts] [hKeyValueInputReferenceIdeal : Cert.KeyValueInputReferenceIdeal.Facts] : Prop :=
  ∀ (m : (ℓ : Loc Cert.KeyValueInputIdeal.nD Cert.KeyValueInputIdeal.τ Cert.KeyValueInputIdeal.sig) → Buf (Elt Ideal) ℓ) (g : Dev Cert.KeyValueInputIdeal.nD → PrngReg)
    (m' : (ℓ : Loc Cert.KeyValueInputReferenceIdeal.nD Cert.KeyValueInputReferenceIdeal.τ Cert.KeyValueInputReferenceIdeal.sig) → Buf (Elt Ideal) ℓ) (g' : Dev Cert.KeyValueInputReferenceIdeal.nD → PrngReg), Pre_KeyValueInputIdeal m →
    (∀ c : Dev Cert.KeyValueInputIdeal.nD,
      m' ((c.tc : Thread Cert.KeyValueInputReferenceIdeal.nD Cert.KeyValueInputReferenceIdeal.τ).loc Cert.KeyValueInputReferenceIdeal.main_arg0) = m ((c.tc : Thread Cert.KeyValueInputIdeal.nD Cert.KeyValueInputIdeal.τ).loc Cert.KeyValueInputIdeal.main_arg0)
      ∧ m' ((c.tc : Thread Cert.KeyValueInputReferenceIdeal.nD Cert.KeyValueInputReferenceIdeal.τ).loc Cert.KeyValueInputReferenceIdeal.main_arg1) = m ((c.tc : Thread Cert.KeyValueInputIdeal.nD Cert.KeyValueInputIdeal.τ).loc Cert.KeyValueInputIdeal.main_arg1)) →
    ∃ (v0 : (c : Dev Cert.KeyValueInputIdeal.nD) → Buf (Elt Ideal) ((c.tc : Thread Cert.KeyValueInputIdeal.nD Cert.KeyValueInputIdeal.τ).loc Cert.KeyValueInputIdeal.main_v0)),
      θ_run (Cert.KeyValueInputIdeal.defs (F := Ideal)) (onTc (τ := Cert.KeyValueInputIdeal.τ) (Cert.KeyValueInputIdeal.main (F := Ideal))) ⟨m, fun _ => 0, g⟩ (fun r => ∀ c : Dev Cert.KeyValueInputIdeal.nD,
          r.2.mem ((c.tc : Thread Cert.KeyValueInputIdeal.nD Cert.KeyValueInputIdeal.τ).loc Cert.KeyValueInputIdeal.main_v0) = v0 c
          ∧ r.2.mem ((c.tc : Thread Cert.KeyValueInputIdeal.nD Cert.KeyValueInputIdeal.τ).loc Cert.KeyValueInputIdeal.main_arg0) = m ((c.tc : Thread Cert.KeyValueInputIdeal.nD Cert.KeyValueInputIdeal.τ).loc Cert.KeyValueInputIdeal.main_arg0)
          ∧ r.2.mem ((c.tc : Thread Cert.KeyValueInputIdeal.nD Cert.KeyValueInputIdeal.τ).loc Cert.KeyValueInputIdeal.main_arg1) = m ((c.tc : Thread Cert.KeyValueInputIdeal.nD Cert.KeyValueInputIdeal.τ).loc Cert.KeyValueInputIdeal.main_arg1))
      ∧ θ_run (Cert.KeyValueInputReferenceIdeal.defs (F := Ideal)) (onTc (τ := Cert.KeyValueInputReferenceIdeal.τ) (Cert.KeyValueInputReferenceIdeal.main (F := Ideal))) ⟨m', fun _ => 0, g'⟩ (fun r => ∀ c : Dev Cert.KeyValueInputReferenceIdeal.nD,
          r.2.mem ((c.tc : Thread Cert.KeyValueInputReferenceIdeal.nD Cert.KeyValueInputReferenceIdeal.τ).loc Cert.KeyValueInputReferenceIdeal.main_v4) = v0 c
          ∧ r.2.mem ((c.tc : Thread Cert.KeyValueInputReferenceIdeal.nD Cert.KeyValueInputReferenceIdeal.τ).loc Cert.KeyValueInputReferenceIdeal.main_arg0) = m' ((c.tc : Thread Cert.KeyValueInputReferenceIdeal.nD Cert.KeyValueInputReferenceIdeal.τ).loc Cert.KeyValueInputReferenceIdeal.main_arg0)
          ∧ r.2.mem ((c.tc : Thread Cert.KeyValueInputReferenceIdeal.nD Cert.KeyValueInputReferenceIdeal.τ).loc Cert.KeyValueInputReferenceIdeal.main_arg1) = m' ((c.tc : Thread Cert.KeyValueInputReferenceIdeal.nD Cert.KeyValueInputReferenceIdeal.τ).loc Cert.KeyValueInputReferenceIdeal.main_arg1))

def preserves_LatentWeight_LatentWeightIdeal : Prop :=
  True

def algebraic_LatentWeightIdeal_LatentWeightReferenceIdeal [hLatentWeightIdeal : Cert.LatentWeightIdeal.Facts] [hLatentWeightReferenceIdeal : Cert.LatentWeightReferenceIdeal.Facts] : Prop :=
  ∀ (m : (ℓ : Loc Cert.LatentWeightIdeal.nD Cert.LatentWeightIdeal.τ Cert.LatentWeightIdeal.sig) → Buf (Elt Ideal) ℓ) (g : Dev Cert.LatentWeightIdeal.nD → PrngReg)
    (m' : (ℓ : Loc Cert.LatentWeightReferenceIdeal.nD Cert.LatentWeightReferenceIdeal.τ Cert.LatentWeightReferenceIdeal.sig) → Buf (Elt Ideal) ℓ) (g' : Dev Cert.LatentWeightReferenceIdeal.nD → PrngReg), Pre_LatentWeightIdeal m →
    (∀ c : Dev Cert.LatentWeightIdeal.nD,
      m' ((c.tc : Thread Cert.LatentWeightReferenceIdeal.nD Cert.LatentWeightReferenceIdeal.τ).loc Cert.LatentWeightReferenceIdeal.main_arg0) = m ((c.tc : Thread Cert.LatentWeightIdeal.nD Cert.LatentWeightIdeal.τ).loc Cert.LatentWeightIdeal.main_arg0)
      ∧ m' ((c.tc : Thread Cert.LatentWeightReferenceIdeal.nD Cert.LatentWeightReferenceIdeal.τ).loc Cert.LatentWeightReferenceIdeal.main_arg1) = m ((c.tc : Thread Cert.LatentWeightIdeal.nD Cert.LatentWeightIdeal.τ).loc Cert.LatentWeightIdeal.main_arg1)) →
    ∃ (v0 : (c : Dev Cert.LatentWeightIdeal.nD) → Buf (Elt Ideal) ((c.tc : Thread Cert.LatentWeightIdeal.nD Cert.LatentWeightIdeal.τ).loc Cert.LatentWeightIdeal.main_v0)),
      θ_run (Cert.LatentWeightIdeal.defs (F := Ideal)) (onTc (τ := Cert.LatentWeightIdeal.τ) (Cert.LatentWeightIdeal.main (F := Ideal))) ⟨m, fun _ => 0, g⟩ (fun r => ∀ c : Dev Cert.LatentWeightIdeal.nD,
          r.2.mem ((c.tc : Thread Cert.LatentWeightIdeal.nD Cert.LatentWeightIdeal.τ).loc Cert.LatentWeightIdeal.main_v0) = v0 c
          ∧ r.2.mem ((c.tc : Thread Cert.LatentWeightIdeal.nD Cert.LatentWeightIdeal.τ).loc Cert.LatentWeightIdeal.main_arg0) = m ((c.tc : Thread Cert.LatentWeightIdeal.nD Cert.LatentWeightIdeal.τ).loc Cert.LatentWeightIdeal.main_arg0)
          ∧ r.2.mem ((c.tc : Thread Cert.LatentWeightIdeal.nD Cert.LatentWeightIdeal.τ).loc Cert.LatentWeightIdeal.main_arg1) = m ((c.tc : Thread Cert.LatentWeightIdeal.nD Cert.LatentWeightIdeal.τ).loc Cert.LatentWeightIdeal.main_arg1))
      ∧ θ_run (Cert.LatentWeightReferenceIdeal.defs (F := Ideal)) (onTc (τ := Cert.LatentWeightReferenceIdeal.τ) (Cert.LatentWeightReferenceIdeal.main (F := Ideal))) ⟨m', fun _ => 0, g'⟩ (fun r => ∀ c : Dev Cert.LatentWeightReferenceIdeal.nD,
          r.2.mem ((c.tc : Thread Cert.LatentWeightReferenceIdeal.nD Cert.LatentWeightReferenceIdeal.τ).loc Cert.LatentWeightReferenceIdeal.main_v6) = v0 c
          ∧ r.2.mem ((c.tc : Thread Cert.LatentWeightReferenceIdeal.nD Cert.LatentWeightReferenceIdeal.τ).loc Cert.LatentWeightReferenceIdeal.main_arg0) = m' ((c.tc : Thread Cert.LatentWeightReferenceIdeal.nD Cert.LatentWeightReferenceIdeal.τ).loc Cert.LatentWeightReferenceIdeal.main_arg0)
          ∧ r.2.mem ((c.tc : Thread Cert.LatentWeightReferenceIdeal.nD Cert.LatentWeightReferenceIdeal.τ).loc Cert.LatentWeightReferenceIdeal.main_arg1) = m' ((c.tc : Thread Cert.LatentWeightReferenceIdeal.nD Cert.LatentWeightReferenceIdeal.τ).loc Cert.LatentWeightReferenceIdeal.main_arg1))

def preserves_NopeWeight_NopeWeightIdeal : Prop :=
  True

def algebraic_NopeWeightIdeal_NopeWeightReferenceIdeal [hNopeWeightIdeal : Cert.NopeWeightIdeal.Facts] [hNopeWeightReferenceIdeal : Cert.NopeWeightReferenceIdeal.Facts] : Prop :=
  ∀ (m : (ℓ : Loc Cert.NopeWeightIdeal.nD Cert.NopeWeightIdeal.τ Cert.NopeWeightIdeal.sig) → Buf (Elt Ideal) ℓ) (g : Dev Cert.NopeWeightIdeal.nD → PrngReg)
    (m' : (ℓ : Loc Cert.NopeWeightReferenceIdeal.nD Cert.NopeWeightReferenceIdeal.τ Cert.NopeWeightReferenceIdeal.sig) → Buf (Elt Ideal) ℓ) (g' : Dev Cert.NopeWeightReferenceIdeal.nD → PrngReg), Pre_NopeWeightIdeal m →
    (∀ c : Dev Cert.NopeWeightIdeal.nD,
      m' ((c.tc : Thread Cert.NopeWeightReferenceIdeal.nD Cert.NopeWeightReferenceIdeal.τ).loc Cert.NopeWeightReferenceIdeal.main_arg0) = m ((c.tc : Thread Cert.NopeWeightIdeal.nD Cert.NopeWeightIdeal.τ).loc Cert.NopeWeightIdeal.main_arg0)
      ∧ m' ((c.tc : Thread Cert.NopeWeightReferenceIdeal.nD Cert.NopeWeightReferenceIdeal.τ).loc Cert.NopeWeightReferenceIdeal.main_arg1) = m ((c.tc : Thread Cert.NopeWeightIdeal.nD Cert.NopeWeightIdeal.τ).loc Cert.NopeWeightIdeal.main_arg1)) →
    ∃ (v0 : (c : Dev Cert.NopeWeightIdeal.nD) → Buf (Elt Ideal) ((c.tc : Thread Cert.NopeWeightIdeal.nD Cert.NopeWeightIdeal.τ).loc Cert.NopeWeightIdeal.main_v0)),
      θ_run (Cert.NopeWeightIdeal.defs (F := Ideal)) (onTc (τ := Cert.NopeWeightIdeal.τ) (Cert.NopeWeightIdeal.main (F := Ideal))) ⟨m, fun _ => 0, g⟩ (fun r => ∀ c : Dev Cert.NopeWeightIdeal.nD,
          r.2.mem ((c.tc : Thread Cert.NopeWeightIdeal.nD Cert.NopeWeightIdeal.τ).loc Cert.NopeWeightIdeal.main_v0) = v0 c
          ∧ r.2.mem ((c.tc : Thread Cert.NopeWeightIdeal.nD Cert.NopeWeightIdeal.τ).loc Cert.NopeWeightIdeal.main_arg0) = m ((c.tc : Thread Cert.NopeWeightIdeal.nD Cert.NopeWeightIdeal.τ).loc Cert.NopeWeightIdeal.main_arg0)
          ∧ r.2.mem ((c.tc : Thread Cert.NopeWeightIdeal.nD Cert.NopeWeightIdeal.τ).loc Cert.NopeWeightIdeal.main_arg1) = m ((c.tc : Thread Cert.NopeWeightIdeal.nD Cert.NopeWeightIdeal.τ).loc Cert.NopeWeightIdeal.main_arg1))
      ∧ θ_run (Cert.NopeWeightReferenceIdeal.defs (F := Ideal)) (onTc (τ := Cert.NopeWeightReferenceIdeal.τ) (Cert.NopeWeightReferenceIdeal.main (F := Ideal))) ⟨m', fun _ => 0, g'⟩ (fun r => ∀ c : Dev Cert.NopeWeightReferenceIdeal.nD,
          r.2.mem ((c.tc : Thread Cert.NopeWeightReferenceIdeal.nD Cert.NopeWeightReferenceIdeal.τ).loc Cert.NopeWeightReferenceIdeal.main_v6) = v0 c
          ∧ r.2.mem ((c.tc : Thread Cert.NopeWeightReferenceIdeal.nD Cert.NopeWeightReferenceIdeal.τ).loc Cert.NopeWeightReferenceIdeal.main_arg0) = m' ((c.tc : Thread Cert.NopeWeightReferenceIdeal.nD Cert.NopeWeightReferenceIdeal.τ).loc Cert.NopeWeightReferenceIdeal.main_arg0)
          ∧ r.2.mem ((c.tc : Thread Cert.NopeWeightReferenceIdeal.nD Cert.NopeWeightReferenceIdeal.τ).loc Cert.NopeWeightReferenceIdeal.main_arg1) = m' ((c.tc : Thread Cert.NopeWeightReferenceIdeal.nD Cert.NopeWeightReferenceIdeal.τ).loc Cert.NopeWeightReferenceIdeal.main_arg1))

def preserves_RopeWeight_RopeWeightIdeal : Prop :=
  True

def algebraic_RopeWeightIdeal_RopeWeightReferenceIdeal [hRopeWeightIdeal : Cert.RopeWeightIdeal.Facts] [hRopeWeightReferenceIdeal : Cert.RopeWeightReferenceIdeal.Facts] : Prop :=
  ∀ (m : (ℓ : Loc Cert.RopeWeightIdeal.nD Cert.RopeWeightIdeal.τ Cert.RopeWeightIdeal.sig) → Buf (Elt Ideal) ℓ) (g : Dev Cert.RopeWeightIdeal.nD → PrngReg)
    (m' : (ℓ : Loc Cert.RopeWeightReferenceIdeal.nD Cert.RopeWeightReferenceIdeal.τ Cert.RopeWeightReferenceIdeal.sig) → Buf (Elt Ideal) ℓ) (g' : Dev Cert.RopeWeightReferenceIdeal.nD → PrngReg), Pre_RopeWeightIdeal m →
    (∀ c : Dev Cert.RopeWeightIdeal.nD,
      m' ((c.tc : Thread Cert.RopeWeightReferenceIdeal.nD Cert.RopeWeightReferenceIdeal.τ).loc Cert.RopeWeightReferenceIdeal.main_arg0) = m ((c.tc : Thread Cert.RopeWeightIdeal.nD Cert.RopeWeightIdeal.τ).loc Cert.RopeWeightIdeal.main_arg0)
      ∧ m' ((c.tc : Thread Cert.RopeWeightReferenceIdeal.nD Cert.RopeWeightReferenceIdeal.τ).loc Cert.RopeWeightReferenceIdeal.main_arg1) = m ((c.tc : Thread Cert.RopeWeightIdeal.nD Cert.RopeWeightIdeal.τ).loc Cert.RopeWeightIdeal.main_arg1)) →
    ∃ (v0 : (c : Dev Cert.RopeWeightIdeal.nD) → Buf (Elt Ideal) ((c.tc : Thread Cert.RopeWeightIdeal.nD Cert.RopeWeightIdeal.τ).loc Cert.RopeWeightIdeal.main_v0)),
      θ_run (Cert.RopeWeightIdeal.defs (F := Ideal)) (onTc (τ := Cert.RopeWeightIdeal.τ) (Cert.RopeWeightIdeal.main (F := Ideal))) ⟨m, fun _ => 0, g⟩ (fun r => ∀ c : Dev Cert.RopeWeightIdeal.nD,
          r.2.mem ((c.tc : Thread Cert.RopeWeightIdeal.nD Cert.RopeWeightIdeal.τ).loc Cert.RopeWeightIdeal.main_v0) = v0 c
          ∧ r.2.mem ((c.tc : Thread Cert.RopeWeightIdeal.nD Cert.RopeWeightIdeal.τ).loc Cert.RopeWeightIdeal.main_arg0) = m ((c.tc : Thread Cert.RopeWeightIdeal.nD Cert.RopeWeightIdeal.τ).loc Cert.RopeWeightIdeal.main_arg0)
          ∧ r.2.mem ((c.tc : Thread Cert.RopeWeightIdeal.nD Cert.RopeWeightIdeal.τ).loc Cert.RopeWeightIdeal.main_arg1) = m ((c.tc : Thread Cert.RopeWeightIdeal.nD Cert.RopeWeightIdeal.τ).loc Cert.RopeWeightIdeal.main_arg1))
      ∧ θ_run (Cert.RopeWeightReferenceIdeal.defs (F := Ideal)) (onTc (τ := Cert.RopeWeightReferenceIdeal.τ) (Cert.RopeWeightReferenceIdeal.main (F := Ideal))) ⟨m', fun _ => 0, g'⟩ (fun r => ∀ c : Dev Cert.RopeWeightReferenceIdeal.nD,
          r.2.mem ((c.tc : Thread Cert.RopeWeightReferenceIdeal.nD Cert.RopeWeightReferenceIdeal.τ).loc Cert.RopeWeightReferenceIdeal.main_v6) = v0 c
          ∧ r.2.mem ((c.tc : Thread Cert.RopeWeightReferenceIdeal.nD Cert.RopeWeightReferenceIdeal.τ).loc Cert.RopeWeightReferenceIdeal.main_arg0) = m' ((c.tc : Thread Cert.RopeWeightReferenceIdeal.nD Cert.RopeWeightReferenceIdeal.τ).loc Cert.RopeWeightReferenceIdeal.main_arg0)
          ∧ r.2.mem ((c.tc : Thread Cert.RopeWeightReferenceIdeal.nD Cert.RopeWeightReferenceIdeal.τ).loc Cert.RopeWeightReferenceIdeal.main_arg1) = m' ((c.tc : Thread Cert.RopeWeightReferenceIdeal.nD Cert.RopeWeightReferenceIdeal.τ).loc Cert.RopeWeightReferenceIdeal.main_arg1))

def preserves_KeyValueWeight_KeyValueWeightIdeal : Prop :=
  True

def algebraic_KeyValueWeightIdeal_KeyValueWeightReferenceIdeal [hKeyValueWeightIdeal : Cert.KeyValueWeightIdeal.Facts] [hKeyValueWeightReferenceIdeal : Cert.KeyValueWeightReferenceIdeal.Facts] : Prop :=
  ∀ (m : (ℓ : Loc Cert.KeyValueWeightIdeal.nD Cert.KeyValueWeightIdeal.τ Cert.KeyValueWeightIdeal.sig) → Buf (Elt Ideal) ℓ) (g : Dev Cert.KeyValueWeightIdeal.nD → PrngReg)
    (m' : (ℓ : Loc Cert.KeyValueWeightReferenceIdeal.nD Cert.KeyValueWeightReferenceIdeal.τ Cert.KeyValueWeightReferenceIdeal.sig) → Buf (Elt Ideal) ℓ) (g' : Dev Cert.KeyValueWeightReferenceIdeal.nD → PrngReg), Pre_KeyValueWeightIdeal m →
    (∀ c : Dev Cert.KeyValueWeightIdeal.nD,
      m' ((c.tc : Thread Cert.KeyValueWeightReferenceIdeal.nD Cert.KeyValueWeightReferenceIdeal.τ).loc Cert.KeyValueWeightReferenceIdeal.main_arg0) = m ((c.tc : Thread Cert.KeyValueWeightIdeal.nD Cert.KeyValueWeightIdeal.τ).loc Cert.KeyValueWeightIdeal.main_arg0)
      ∧ m' ((c.tc : Thread Cert.KeyValueWeightReferenceIdeal.nD Cert.KeyValueWeightReferenceIdeal.τ).loc Cert.KeyValueWeightReferenceIdeal.main_arg1) = m ((c.tc : Thread Cert.KeyValueWeightIdeal.nD Cert.KeyValueWeightIdeal.τ).loc Cert.KeyValueWeightIdeal.main_arg1)) →
    ∃ (v0 : (c : Dev Cert.KeyValueWeightIdeal.nD) → Buf (Elt Ideal) ((c.tc : Thread Cert.KeyValueWeightIdeal.nD Cert.KeyValueWeightIdeal.τ).loc Cert.KeyValueWeightIdeal.main_v0)),
      θ_run (Cert.KeyValueWeightIdeal.defs (F := Ideal)) (onTc (τ := Cert.KeyValueWeightIdeal.τ) (Cert.KeyValueWeightIdeal.main (F := Ideal))) ⟨m, fun _ => 0, g⟩ (fun r => ∀ c : Dev Cert.KeyValueWeightIdeal.nD,
          r.2.mem ((c.tc : Thread Cert.KeyValueWeightIdeal.nD Cert.KeyValueWeightIdeal.τ).loc Cert.KeyValueWeightIdeal.main_v0) = v0 c
          ∧ r.2.mem ((c.tc : Thread Cert.KeyValueWeightIdeal.nD Cert.KeyValueWeightIdeal.τ).loc Cert.KeyValueWeightIdeal.main_arg0) = m ((c.tc : Thread Cert.KeyValueWeightIdeal.nD Cert.KeyValueWeightIdeal.τ).loc Cert.KeyValueWeightIdeal.main_arg0)
          ∧ r.2.mem ((c.tc : Thread Cert.KeyValueWeightIdeal.nD Cert.KeyValueWeightIdeal.τ).loc Cert.KeyValueWeightIdeal.main_arg1) = m ((c.tc : Thread Cert.KeyValueWeightIdeal.nD Cert.KeyValueWeightIdeal.τ).loc Cert.KeyValueWeightIdeal.main_arg1))
      ∧ θ_run (Cert.KeyValueWeightReferenceIdeal.defs (F := Ideal)) (onTc (τ := Cert.KeyValueWeightReferenceIdeal.τ) (Cert.KeyValueWeightReferenceIdeal.main (F := Ideal))) ⟨m', fun _ => 0, g'⟩ (fun r => ∀ c : Dev Cert.KeyValueWeightReferenceIdeal.nD,
          r.2.mem ((c.tc : Thread Cert.KeyValueWeightReferenceIdeal.nD Cert.KeyValueWeightReferenceIdeal.τ).loc Cert.KeyValueWeightReferenceIdeal.main_v6) = v0 c
          ∧ r.2.mem ((c.tc : Thread Cert.KeyValueWeightReferenceIdeal.nD Cert.KeyValueWeightReferenceIdeal.τ).loc Cert.KeyValueWeightReferenceIdeal.main_arg0) = m' ((c.tc : Thread Cert.KeyValueWeightReferenceIdeal.nD Cert.KeyValueWeightReferenceIdeal.τ).loc Cert.KeyValueWeightReferenceIdeal.main_arg0)
          ∧ r.2.mem ((c.tc : Thread Cert.KeyValueWeightReferenceIdeal.nD Cert.KeyValueWeightReferenceIdeal.τ).loc Cert.KeyValueWeightReferenceIdeal.main_arg1) = m' ((c.tc : Thread Cert.KeyValueWeightReferenceIdeal.nD Cert.KeyValueWeightReferenceIdeal.τ).loc Cert.KeyValueWeightReferenceIdeal.main_arg1))

def preserves_MemoryWeight_MemoryWeightIdeal : Prop :=
  True

def algebraic_MemoryWeightIdeal_MemoryWeightReferenceIdeal [hMemoryWeightIdeal : Cert.MemoryWeightIdeal.Facts] [hMemoryWeightReferenceIdeal : Cert.MemoryWeightReferenceIdeal.Facts] : Prop :=
  ∀ (m : (ℓ : Loc Cert.MemoryWeightIdeal.nD Cert.MemoryWeightIdeal.τ Cert.MemoryWeightIdeal.sig) → Buf (Elt Ideal) ℓ) (g : Dev Cert.MemoryWeightIdeal.nD → PrngReg)
    (m' : (ℓ : Loc Cert.MemoryWeightReferenceIdeal.nD Cert.MemoryWeightReferenceIdeal.τ Cert.MemoryWeightReferenceIdeal.sig) → Buf (Elt Ideal) ℓ) (g' : Dev Cert.MemoryWeightReferenceIdeal.nD → PrngReg), Pre_MemoryWeightIdeal m →
    (∀ c : Dev Cert.MemoryWeightIdeal.nD,
      m' ((c.tc : Thread Cert.MemoryWeightReferenceIdeal.nD Cert.MemoryWeightReferenceIdeal.τ).loc Cert.MemoryWeightReferenceIdeal.main_arg0) = m ((c.tc : Thread Cert.MemoryWeightIdeal.nD Cert.MemoryWeightIdeal.τ).loc Cert.MemoryWeightIdeal.main_arg0)
      ∧ m' ((c.tc : Thread Cert.MemoryWeightReferenceIdeal.nD Cert.MemoryWeightReferenceIdeal.τ).loc Cert.MemoryWeightReferenceIdeal.main_arg1) = m ((c.tc : Thread Cert.MemoryWeightIdeal.nD Cert.MemoryWeightIdeal.τ).loc Cert.MemoryWeightIdeal.main_arg1)) →
    ∃ (v0 : (c : Dev Cert.MemoryWeightIdeal.nD) → Buf (Elt Ideal) ((c.tc : Thread Cert.MemoryWeightIdeal.nD Cert.MemoryWeightIdeal.τ).loc Cert.MemoryWeightIdeal.main_v0)),
      θ_run (Cert.MemoryWeightIdeal.defs (F := Ideal)) (onTc (τ := Cert.MemoryWeightIdeal.τ) (Cert.MemoryWeightIdeal.main (F := Ideal))) ⟨m, fun _ => 0, g⟩ (fun r => ∀ c : Dev Cert.MemoryWeightIdeal.nD,
          r.2.mem ((c.tc : Thread Cert.MemoryWeightIdeal.nD Cert.MemoryWeightIdeal.τ).loc Cert.MemoryWeightIdeal.main_v0) = v0 c
          ∧ r.2.mem ((c.tc : Thread Cert.MemoryWeightIdeal.nD Cert.MemoryWeightIdeal.τ).loc Cert.MemoryWeightIdeal.main_arg0) = m ((c.tc : Thread Cert.MemoryWeightIdeal.nD Cert.MemoryWeightIdeal.τ).loc Cert.MemoryWeightIdeal.main_arg0)
          ∧ r.2.mem ((c.tc : Thread Cert.MemoryWeightIdeal.nD Cert.MemoryWeightIdeal.τ).loc Cert.MemoryWeightIdeal.main_arg1) = m ((c.tc : Thread Cert.MemoryWeightIdeal.nD Cert.MemoryWeightIdeal.τ).loc Cert.MemoryWeightIdeal.main_arg1))
      ∧ θ_run (Cert.MemoryWeightReferenceIdeal.defs (F := Ideal)) (onTc (τ := Cert.MemoryWeightReferenceIdeal.τ) (Cert.MemoryWeightReferenceIdeal.main (F := Ideal))) ⟨m', fun _ => 0, g'⟩ (fun r => ∀ c : Dev Cert.MemoryWeightReferenceIdeal.nD,
          r.2.mem ((c.tc : Thread Cert.MemoryWeightReferenceIdeal.nD Cert.MemoryWeightReferenceIdeal.τ).loc Cert.MemoryWeightReferenceIdeal.main_v5) = v0 c
          ∧ r.2.mem ((c.tc : Thread Cert.MemoryWeightReferenceIdeal.nD Cert.MemoryWeightReferenceIdeal.τ).loc Cert.MemoryWeightReferenceIdeal.main_arg0) = m' ((c.tc : Thread Cert.MemoryWeightReferenceIdeal.nD Cert.MemoryWeightReferenceIdeal.τ).loc Cert.MemoryWeightReferenceIdeal.main_arg0)
          ∧ r.2.mem ((c.tc : Thread Cert.MemoryWeightReferenceIdeal.nD Cert.MemoryWeightReferenceIdeal.τ).loc Cert.MemoryWeightReferenceIdeal.main_arg1) = m' ((c.tc : Thread Cert.MemoryWeightReferenceIdeal.nD Cert.MemoryWeightReferenceIdeal.τ).loc Cert.MemoryWeightReferenceIdeal.main_arg1))

def preserves_Attention_AttentionIdeal : Prop :=
  True

def algebraic_AttentionIdeal_AttentionReferenceIdeal [hAttentionIdeal : Cert.AttentionIdeal.Facts] [hAttentionReferenceIdeal : Cert.AttentionReferenceIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v24) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1))

def Claim : Prop :=
  ∃ (hKernel : Cert.Kernel.Facts) (hKernelIdeal : Cert.KernelIdeal.Facts) (hReferenceIdeal : Cert.ReferenceIdeal.Facts) (hUpWeight : Cert.UpWeight.Facts) (hUpWeightIdeal : Cert.UpWeightIdeal.Facts) (hUpWeightReferenceIdeal : Cert.UpWeightReferenceIdeal.Facts) (hDownWeight : Cert.DownWeight.Facts) (hDownWeightIdeal : Cert.DownWeightIdeal.Facts) (hDownWeightReferenceIdeal : Cert.DownWeightReferenceIdeal.Facts) (hDownInput : Cert.DownInput.Facts) (hDownInputIdeal : Cert.DownInputIdeal.Facts) (hDownInputReferenceIdeal : Cert.DownInputReferenceIdeal.Facts) (hNormInput : Cert.NormInput.Facts) (hNormInputIdeal : Cert.NormInputIdeal.Facts) (hNormInputReferenceIdeal : Cert.NormInputReferenceIdeal.Facts) (hSquareWeight : Cert.SquareWeight.Facts) (hSquareWeightIdeal : Cert.SquareWeightIdeal.Facts) (hSquareWeightReferenceIdeal : Cert.SquareWeightReferenceIdeal.Facts) (hSquareInput : Cert.SquareInput.Facts) (hSquareInputIdeal : Cert.SquareInputIdeal.Facts) (hSquareInputReferenceIdeal : Cert.SquareInputReferenceIdeal.Facts) (hWindowWeight : Cert.WindowWeight.Facts) (hWindowWeightIdeal : Cert.WindowWeightIdeal.Facts) (hWindowWeightReferenceIdeal : Cert.WindowWeightReferenceIdeal.Facts) (hRecurrenceWeight : Cert.RecurrenceWeight.Facts) (hRecurrenceWeightIdeal : Cert.RecurrenceWeightIdeal.Facts) (hRecurrenceWeightReferenceIdeal : Cert.RecurrenceWeightReferenceIdeal.Facts) (hUp : Cert.Up.Facts) (hUpIdeal : Cert.UpIdeal.Facts) (hUpReferenceIdeal : Cert.UpReferenceIdeal.Facts) (hQuery : Cert.Query.Facts) (hQueryIdeal : Cert.QueryIdeal.Facts) (hQueryReferenceIdeal : Cert.QueryReferenceIdeal.Facts) (hNormQuery : Cert.NormQuery.Facts) (hNormQueryIdeal : Cert.NormQueryIdeal.Facts) (hNormQueryReferenceIdeal : Cert.NormQueryReferenceIdeal.Facts) (hNormRecurrence : Cert.NormRecurrence.Facts) (hNormRecurrenceIdeal : Cert.NormRecurrenceIdeal.Facts) (hNormRecurrenceReferenceIdeal : Cert.NormRecurrenceReferenceIdeal.Facts) (hNormLatent : Cert.NormLatent.Facts) (hNormLatentIdeal : Cert.NormLatentIdeal.Facts) (hNormLatentReferenceIdeal : Cert.NormLatentReferenceIdeal.Facts) (hNormWindow : Cert.NormWindow.Facts) (hNormWindowIdeal : Cert.NormWindowIdeal.Facts) (hNormWindowReferenceIdeal : Cert.NormWindowReferenceIdeal.Facts) (hOutNorm : Cert.OutNorm.Facts) (hOutNormIdeal : Cert.OutNormIdeal.Facts) (hOutNormReferenceIdeal : Cert.OutNormReferenceIdeal.Facts) (hDownNorm : Cert.DownNorm.Facts) (hDownNormIdeal : Cert.DownNormIdeal.Facts) (hDownNormReferenceIdeal : Cert.DownNormReferenceIdeal.Facts) (hWindowUp : Cert.WindowUp.Facts) (hWindowUpIdeal : Cert.WindowUpIdeal.Facts) (hWindowUpReferenceIdeal : Cert.WindowUpReferenceIdeal.Facts) (hRecurrenceUp : Cert.RecurrenceUp.Facts) (hRecurrenceUpIdeal : Cert.RecurrenceUpIdeal.Facts) (hRecurrenceUpReferenceIdeal : Cert.RecurrenceUpReferenceIdeal.Facts) (hLatentDown : Cert.LatentDown.Facts) (hLatentDownIdeal : Cert.LatentDownIdeal.Facts) (hLatentDownReferenceIdeal : Cert.LatentDownReferenceIdeal.Facts) (hRopeUp : Cert.RopeUp.Facts) (hRopeUpIdeal : Cert.RopeUpIdeal.Facts) (hRopeUpReferenceIdeal : Cert.RopeUpReferenceIdeal.Facts) (hNopeUp : Cert.NopeUp.Facts) (hNopeUpIdeal : Cert.NopeUpIdeal.Facts) (hNopeUpReferenceIdeal : Cert.NopeUpReferenceIdeal.Facts) (hKeyValueUp : Cert.KeyValueUp.Facts) (hKeyValueUpIdeal : Cert.KeyValueUpIdeal.Facts) (hKeyValueUpReferenceIdeal : Cert.KeyValueUpReferenceIdeal.Facts) (hMemoryUp : Cert.MemoryUp.Facts) (hMemoryUpIdeal : Cert.MemoryUpIdeal.Facts) (hMemoryUpReferenceIdeal : Cert.MemoryUpReferenceIdeal.Facts) (hWindowInput : Cert.WindowInput.Facts) (hWindowInputIdeal : Cert.WindowInputIdeal.Facts) (hWindowInputReferenceIdeal : Cert.WindowInputReferenceIdeal.Facts) (hNopeInput : Cert.NopeInput.Facts) (hNopeInputIdeal : Cert.NopeInputIdeal.Facts) (hNopeInputReferenceIdeal : Cert.NopeInputReferenceIdeal.Facts) (hRopeInput : Cert.RopeInput.Facts) (hRopeInputIdeal : Cert.RopeInputIdeal.Facts) (hRopeInputReferenceIdeal : Cert.RopeInputReferenceIdeal.Facts) (hKeyValueInput : Cert.KeyValueInput.Facts) (hKeyValueInputIdeal : Cert.KeyValueInputIdeal.Facts) (hKeyValueInputReferenceIdeal : Cert.KeyValueInputReferenceIdeal.Facts) (hLatentWeight : Cert.LatentWeight.Facts) (hLatentWeightIdeal : Cert.LatentWeightIdeal.Facts) (hLatentWeightReferenceIdeal : Cert.LatentWeightReferenceIdeal.Facts) (hNopeWeight : Cert.NopeWeight.Facts) (hNopeWeightIdeal : Cert.NopeWeightIdeal.Facts) (hNopeWeightReferenceIdeal : Cert.NopeWeightReferenceIdeal.Facts) (hRopeWeight : Cert.RopeWeight.Facts) (hRopeWeightIdeal : Cert.RopeWeightIdeal.Facts) (hRopeWeightReferenceIdeal : Cert.RopeWeightReferenceIdeal.Facts) (hKeyValueWeight : Cert.KeyValueWeight.Facts) (hKeyValueWeightIdeal : Cert.KeyValueWeightIdeal.Facts) (hKeyValueWeightReferenceIdeal : Cert.KeyValueWeightReferenceIdeal.Facts) (hMemoryWeight : Cert.MemoryWeight.Facts) (hMemoryWeightIdeal : Cert.MemoryWeightIdeal.Facts) (hMemoryWeightReferenceIdeal : Cert.MemoryWeightReferenceIdeal.Facts) (hAttention : Cert.Attention.Facts) (hAttentionIdeal : Cert.AttentionIdeal.Facts) (hAttentionReferenceIdeal : Cert.AttentionReferenceIdeal.Facts) (hPre_finite_scores : Cert.Pre_finite_scores.Facts) (hPre_finite_norm : Cert.Pre_finite_norm.Facts) (hPre_finite_query : Cert.Pre_finite_query.Facts) (hPre_finite_recurrence : Cert.Pre_finite_recurrence.Facts) (hPre_finite_latent : Cert.Pre_finite_latent.Facts) (hPre_finite_window : Cert.Pre_finite_window.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_UpWeight (hUpWeight := hUpWeight)
    ∧ quiescent_UpWeightIdeal (hUpWeightIdeal := hUpWeightIdeal)
    ∧ quiescent_UpWeightReferenceIdeal (hUpWeightReferenceIdeal := hUpWeightReferenceIdeal)
    ∧ quiescent_DownWeight (hDownWeight := hDownWeight)
    ∧ quiescent_DownWeightIdeal (hDownWeightIdeal := hDownWeightIdeal)
    ∧ quiescent_DownWeightReferenceIdeal (hDownWeightReferenceIdeal := hDownWeightReferenceIdeal)
    ∧ quiescent_DownInput (hDownInput := hDownInput)
    ∧ quiescent_DownInputIdeal (hDownInputIdeal := hDownInputIdeal)
    ∧ quiescent_DownInputReferenceIdeal (hDownInputReferenceIdeal := hDownInputReferenceIdeal)
    ∧ quiescent_NormInput (hNormInput := hNormInput)
    ∧ quiescent_NormInputIdeal (hNormInputIdeal := hNormInputIdeal)
    ∧ quiescent_NormInputIdeal_pre_finite_norm (hNormInputIdeal := hNormInputIdeal) (hPre_finite_norm := hPre_finite_norm)
    ∧ quiescent_NormInputReferenceIdeal (hNormInputReferenceIdeal := hNormInputReferenceIdeal)
    ∧ quiescent_NormInputReferenceIdeal_pre_finite_norm (hNormInputReferenceIdeal := hNormInputReferenceIdeal) (hPre_finite_norm := hPre_finite_norm)
    ∧ quiescent_SquareWeight (hSquareWeight := hSquareWeight)
    ∧ quiescent_SquareWeightIdeal (hSquareWeightIdeal := hSquareWeightIdeal)
    ∧ quiescent_SquareWeightReferenceIdeal (hSquareWeightReferenceIdeal := hSquareWeightReferenceIdeal)
    ∧ quiescent_SquareInput (hSquareInput := hSquareInput)
    ∧ quiescent_SquareInputIdeal (hSquareInputIdeal := hSquareInputIdeal)
    ∧ quiescent_SquareInputReferenceIdeal (hSquareInputReferenceIdeal := hSquareInputReferenceIdeal)
    ∧ quiescent_WindowWeight (hWindowWeight := hWindowWeight)
    ∧ quiescent_WindowWeightIdeal (hWindowWeightIdeal := hWindowWeightIdeal)
    ∧ quiescent_WindowWeightReferenceIdeal (hWindowWeightReferenceIdeal := hWindowWeightReferenceIdeal)
    ∧ quiescent_RecurrenceWeight (hRecurrenceWeight := hRecurrenceWeight)
    ∧ quiescent_RecurrenceWeightIdeal (hRecurrenceWeightIdeal := hRecurrenceWeightIdeal)
    ∧ quiescent_RecurrenceWeightReferenceIdeal (hRecurrenceWeightReferenceIdeal := hRecurrenceWeightReferenceIdeal)
    ∧ quiescent_Up (hUp := hUp)
    ∧ quiescent_UpIdeal (hUpIdeal := hUpIdeal)
    ∧ quiescent_UpReferenceIdeal (hUpReferenceIdeal := hUpReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_NormQuery (hNormQuery := hNormQuery)
    ∧ quiescent_NormQueryIdeal (hNormQueryIdeal := hNormQueryIdeal)
    ∧ quiescent_NormQueryIdeal_pre_finite_query (hNormQueryIdeal := hNormQueryIdeal) (hPre_finite_query := hPre_finite_query)
    ∧ quiescent_NormQueryReferenceIdeal (hNormQueryReferenceIdeal := hNormQueryReferenceIdeal)
    ∧ quiescent_NormQueryReferenceIdeal_pre_finite_query (hNormQueryReferenceIdeal := hNormQueryReferenceIdeal) (hPre_finite_query := hPre_finite_query)
    ∧ quiescent_NormRecurrence (hNormRecurrence := hNormRecurrence)
    ∧ quiescent_NormRecurrenceIdeal (hNormRecurrenceIdeal := hNormRecurrenceIdeal)
    ∧ quiescent_NormRecurrenceIdeal_pre_finite_recurrence (hNormRecurrenceIdeal := hNormRecurrenceIdeal) (hPre_finite_recurrence := hPre_finite_recurrence)
    ∧ quiescent_NormRecurrenceReferenceIdeal (hNormRecurrenceReferenceIdeal := hNormRecurrenceReferenceIdeal)
    ∧ quiescent_NormRecurrenceReferenceIdeal_pre_finite_recurrence (hNormRecurrenceReferenceIdeal := hNormRecurrenceReferenceIdeal) (hPre_finite_recurrence := hPre_finite_recurrence)
    ∧ quiescent_NormLatent (hNormLatent := hNormLatent)
    ∧ quiescent_NormLatentIdeal (hNormLatentIdeal := hNormLatentIdeal)
    ∧ quiescent_NormLatentIdeal_pre_finite_latent (hNormLatentIdeal := hNormLatentIdeal) (hPre_finite_latent := hPre_finite_latent)
    ∧ quiescent_NormLatentReferenceIdeal (hNormLatentReferenceIdeal := hNormLatentReferenceIdeal)
    ∧ quiescent_NormLatentReferenceIdeal_pre_finite_latent (hNormLatentReferenceIdeal := hNormLatentReferenceIdeal) (hPre_finite_latent := hPre_finite_latent)
    ∧ quiescent_NormWindow (hNormWindow := hNormWindow)
    ∧ quiescent_NormWindowIdeal (hNormWindowIdeal := hNormWindowIdeal)
    ∧ quiescent_NormWindowIdeal_pre_finite_window (hNormWindowIdeal := hNormWindowIdeal) (hPre_finite_window := hPre_finite_window)
    ∧ quiescent_NormWindowReferenceIdeal (hNormWindowReferenceIdeal := hNormWindowReferenceIdeal)
    ∧ quiescent_NormWindowReferenceIdeal_pre_finite_window (hNormWindowReferenceIdeal := hNormWindowReferenceIdeal) (hPre_finite_window := hPre_finite_window)
    ∧ quiescent_OutNorm (hOutNorm := hOutNorm)
    ∧ quiescent_OutNormIdeal (hOutNormIdeal := hOutNormIdeal)
    ∧ quiescent_OutNormReferenceIdeal (hOutNormReferenceIdeal := hOutNormReferenceIdeal)
    ∧ quiescent_DownNorm (hDownNorm := hDownNorm)
    ∧ quiescent_DownNormIdeal (hDownNormIdeal := hDownNormIdeal)
    ∧ quiescent_DownNormReferenceIdeal (hDownNormReferenceIdeal := hDownNormReferenceIdeal)
    ∧ quiescent_WindowUp (hWindowUp := hWindowUp)
    ∧ quiescent_WindowUpIdeal (hWindowUpIdeal := hWindowUpIdeal)
    ∧ quiescent_WindowUpReferenceIdeal (hWindowUpReferenceIdeal := hWindowUpReferenceIdeal)
    ∧ quiescent_RecurrenceUp (hRecurrenceUp := hRecurrenceUp)
    ∧ quiescent_RecurrenceUpIdeal (hRecurrenceUpIdeal := hRecurrenceUpIdeal)
    ∧ quiescent_RecurrenceUpReferenceIdeal (hRecurrenceUpReferenceIdeal := hRecurrenceUpReferenceIdeal)
    ∧ quiescent_LatentDown (hLatentDown := hLatentDown)
    ∧ quiescent_LatentDownIdeal (hLatentDownIdeal := hLatentDownIdeal)
    ∧ quiescent_LatentDownReferenceIdeal (hLatentDownReferenceIdeal := hLatentDownReferenceIdeal)
    ∧ quiescent_RopeUp (hRopeUp := hRopeUp)
    ∧ quiescent_RopeUpIdeal (hRopeUpIdeal := hRopeUpIdeal)
    ∧ quiescent_RopeUpReferenceIdeal (hRopeUpReferenceIdeal := hRopeUpReferenceIdeal)
    ∧ quiescent_NopeUp (hNopeUp := hNopeUp)
    ∧ quiescent_NopeUpIdeal (hNopeUpIdeal := hNopeUpIdeal)
    ∧ quiescent_NopeUpReferenceIdeal (hNopeUpReferenceIdeal := hNopeUpReferenceIdeal)
    ∧ quiescent_KeyValueUp (hKeyValueUp := hKeyValueUp)
    ∧ quiescent_KeyValueUpIdeal (hKeyValueUpIdeal := hKeyValueUpIdeal)
    ∧ quiescent_KeyValueUpReferenceIdeal (hKeyValueUpReferenceIdeal := hKeyValueUpReferenceIdeal)
    ∧ quiescent_MemoryUp (hMemoryUp := hMemoryUp)
    ∧ quiescent_MemoryUpIdeal (hMemoryUpIdeal := hMemoryUpIdeal)
    ∧ quiescent_MemoryUpReferenceIdeal (hMemoryUpReferenceIdeal := hMemoryUpReferenceIdeal)
    ∧ quiescent_WindowInput (hWindowInput := hWindowInput)
    ∧ quiescent_WindowInputIdeal (hWindowInputIdeal := hWindowInputIdeal)
    ∧ quiescent_WindowInputReferenceIdeal (hWindowInputReferenceIdeal := hWindowInputReferenceIdeal)
    ∧ quiescent_NopeInput (hNopeInput := hNopeInput)
    ∧ quiescent_NopeInputIdeal (hNopeInputIdeal := hNopeInputIdeal)
    ∧ quiescent_NopeInputReferenceIdeal (hNopeInputReferenceIdeal := hNopeInputReferenceIdeal)
    ∧ quiescent_RopeInput (hRopeInput := hRopeInput)
    ∧ quiescent_RopeInputIdeal (hRopeInputIdeal := hRopeInputIdeal)
    ∧ quiescent_RopeInputReferenceIdeal (hRopeInputReferenceIdeal := hRopeInputReferenceIdeal)
    ∧ quiescent_KeyValueInput (hKeyValueInput := hKeyValueInput)
    ∧ quiescent_KeyValueInputIdeal (hKeyValueInputIdeal := hKeyValueInputIdeal)
    ∧ quiescent_KeyValueInputReferenceIdeal (hKeyValueInputReferenceIdeal := hKeyValueInputReferenceIdeal)
    ∧ quiescent_LatentWeight (hLatentWeight := hLatentWeight)
    ∧ quiescent_LatentWeightIdeal (hLatentWeightIdeal := hLatentWeightIdeal)
    ∧ quiescent_LatentWeightReferenceIdeal (hLatentWeightReferenceIdeal := hLatentWeightReferenceIdeal)
    ∧ quiescent_NopeWeight (hNopeWeight := hNopeWeight)
    ∧ quiescent_NopeWeightIdeal (hNopeWeightIdeal := hNopeWeightIdeal)
    ∧ quiescent_NopeWeightReferenceIdeal (hNopeWeightReferenceIdeal := hNopeWeightReferenceIdeal)
    ∧ quiescent_RopeWeight (hRopeWeight := hRopeWeight)
    ∧ quiescent_RopeWeightIdeal (hRopeWeightIdeal := hRopeWeightIdeal)
    ∧ quiescent_RopeWeightReferenceIdeal (hRopeWeightReferenceIdeal := hRopeWeightReferenceIdeal)
    ∧ quiescent_KeyValueWeight (hKeyValueWeight := hKeyValueWeight)
    ∧ quiescent_KeyValueWeightIdeal (hKeyValueWeightIdeal := hKeyValueWeightIdeal)
    ∧ quiescent_KeyValueWeightReferenceIdeal (hKeyValueWeightReferenceIdeal := hKeyValueWeightReferenceIdeal)
    ∧ quiescent_MemoryWeight (hMemoryWeight := hMemoryWeight)
    ∧ quiescent_MemoryWeightIdeal (hMemoryWeightIdeal := hMemoryWeightIdeal)
    ∧ quiescent_MemoryWeightReferenceIdeal (hMemoryWeightReferenceIdeal := hMemoryWeightReferenceIdeal)
    ∧ quiescent_Attention (hAttention := hAttention)
    ∧ quiescent_AttentionIdeal (hAttentionIdeal := hAttentionIdeal)
    ∧ quiescent_AttentionReferenceIdeal (hAttentionReferenceIdeal := hAttentionReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_UpWeight_UpWeightIdeal
    ∧ algebraic_UpWeightIdeal_UpWeightReferenceIdeal (hUpWeightIdeal := hUpWeightIdeal) (hUpWeightReferenceIdeal := hUpWeightReferenceIdeal)
    ∧ preserves_DownWeight_DownWeightIdeal
    ∧ algebraic_DownWeightIdeal_DownWeightReferenceIdeal (hDownWeightIdeal := hDownWeightIdeal) (hDownWeightReferenceIdeal := hDownWeightReferenceIdeal)
    ∧ preserves_DownInput_DownInputIdeal
    ∧ algebraic_DownInputIdeal_DownInputReferenceIdeal (hDownInputIdeal := hDownInputIdeal) (hDownInputReferenceIdeal := hDownInputReferenceIdeal)
    ∧ preserves_NormInput_NormInputIdeal
    ∧ algebraic_NormInputIdeal_NormInputReferenceIdeal_pre_finite_norm (hNormInputIdeal := hNormInputIdeal) (hNormInputReferenceIdeal := hNormInputReferenceIdeal) (hPre_finite_norm := hPre_finite_norm)
    ∧ preserves_SquareWeight_SquareWeightIdeal
    ∧ algebraic_SquareWeightIdeal_SquareWeightReferenceIdeal (hSquareWeightIdeal := hSquareWeightIdeal) (hSquareWeightReferenceIdeal := hSquareWeightReferenceIdeal)
    ∧ preserves_SquareInput_SquareInputIdeal
    ∧ algebraic_SquareInputIdeal_SquareInputReferenceIdeal (hSquareInputIdeal := hSquareInputIdeal) (hSquareInputReferenceIdeal := hSquareInputReferenceIdeal)
    ∧ preserves_WindowWeight_WindowWeightIdeal
    ∧ algebraic_WindowWeightIdeal_WindowWeightReferenceIdeal (hWindowWeightIdeal := hWindowWeightIdeal) (hWindowWeightReferenceIdeal := hWindowWeightReferenceIdeal)
    ∧ preserves_RecurrenceWeight_RecurrenceWeightIdeal
    ∧ algebraic_RecurrenceWeightIdeal_RecurrenceWeightReferenceIdeal (hRecurrenceWeightIdeal := hRecurrenceWeightIdeal) (hRecurrenceWeightReferenceIdeal := hRecurrenceWeightReferenceIdeal)
    ∧ preserves_Up_UpIdeal
    ∧ algebraic_UpIdeal_UpReferenceIdeal (hUpIdeal := hUpIdeal) (hUpReferenceIdeal := hUpReferenceIdeal)
    ∧ preserves_Query_QueryIdeal
    ∧ algebraic_QueryIdeal_QueryReferenceIdeal (hQueryIdeal := hQueryIdeal) (hQueryReferenceIdeal := hQueryReferenceIdeal)
    ∧ preserves_NormQuery_NormQueryIdeal
    ∧ algebraic_NormQueryIdeal_NormQueryReferenceIdeal_pre_finite_query (hNormQueryIdeal := hNormQueryIdeal) (hNormQueryReferenceIdeal := hNormQueryReferenceIdeal) (hPre_finite_query := hPre_finite_query)
    ∧ preserves_NormRecurrence_NormRecurrenceIdeal
    ∧ algebraic_NormRecurrenceIdeal_NormRecurrenceReferenceIdeal_pre_finite_recurrence (hNormRecurrenceIdeal := hNormRecurrenceIdeal) (hNormRecurrenceReferenceIdeal := hNormRecurrenceReferenceIdeal) (hPre_finite_recurrence := hPre_finite_recurrence)
    ∧ preserves_NormLatent_NormLatentIdeal
    ∧ algebraic_NormLatentIdeal_NormLatentReferenceIdeal_pre_finite_latent (hNormLatentIdeal := hNormLatentIdeal) (hNormLatentReferenceIdeal := hNormLatentReferenceIdeal) (hPre_finite_latent := hPre_finite_latent)
    ∧ preserves_NormWindow_NormWindowIdeal
    ∧ algebraic_NormWindowIdeal_NormWindowReferenceIdeal_pre_finite_window (hNormWindowIdeal := hNormWindowIdeal) (hNormWindowReferenceIdeal := hNormWindowReferenceIdeal) (hPre_finite_window := hPre_finite_window)
    ∧ preserves_OutNorm_OutNormIdeal
    ∧ algebraic_OutNormIdeal_OutNormReferenceIdeal (hOutNormIdeal := hOutNormIdeal) (hOutNormReferenceIdeal := hOutNormReferenceIdeal)
    ∧ preserves_DownNorm_DownNormIdeal
    ∧ algebraic_DownNormIdeal_DownNormReferenceIdeal (hDownNormIdeal := hDownNormIdeal) (hDownNormReferenceIdeal := hDownNormReferenceIdeal)
    ∧ preserves_WindowUp_WindowUpIdeal
    ∧ algebraic_WindowUpIdeal_WindowUpReferenceIdeal (hWindowUpIdeal := hWindowUpIdeal) (hWindowUpReferenceIdeal := hWindowUpReferenceIdeal)
    ∧ preserves_RecurrenceUp_RecurrenceUpIdeal
    ∧ algebraic_RecurrenceUpIdeal_RecurrenceUpReferenceIdeal (hRecurrenceUpIdeal := hRecurrenceUpIdeal) (hRecurrenceUpReferenceIdeal := hRecurrenceUpReferenceIdeal)
    ∧ preserves_LatentDown_LatentDownIdeal
    ∧ algebraic_LatentDownIdeal_LatentDownReferenceIdeal (hLatentDownIdeal := hLatentDownIdeal) (hLatentDownReferenceIdeal := hLatentDownReferenceIdeal)
    ∧ preserves_RopeUp_RopeUpIdeal
    ∧ algebraic_RopeUpIdeal_RopeUpReferenceIdeal (hRopeUpIdeal := hRopeUpIdeal) (hRopeUpReferenceIdeal := hRopeUpReferenceIdeal)
    ∧ preserves_NopeUp_NopeUpIdeal
    ∧ algebraic_NopeUpIdeal_NopeUpReferenceIdeal (hNopeUpIdeal := hNopeUpIdeal) (hNopeUpReferenceIdeal := hNopeUpReferenceIdeal)
    ∧ preserves_KeyValueUp_KeyValueUpIdeal
    ∧ algebraic_KeyValueUpIdeal_KeyValueUpReferenceIdeal (hKeyValueUpIdeal := hKeyValueUpIdeal) (hKeyValueUpReferenceIdeal := hKeyValueUpReferenceIdeal)
    ∧ preserves_MemoryUp_MemoryUpIdeal
    ∧ algebraic_MemoryUpIdeal_MemoryUpReferenceIdeal (hMemoryUpIdeal := hMemoryUpIdeal) (hMemoryUpReferenceIdeal := hMemoryUpReferenceIdeal)
    ∧ preserves_WindowInput_WindowInputIdeal
    ∧ algebraic_WindowInputIdeal_WindowInputReferenceIdeal (hWindowInputIdeal := hWindowInputIdeal) (hWindowInputReferenceIdeal := hWindowInputReferenceIdeal)
    ∧ preserves_NopeInput_NopeInputIdeal
    ∧ algebraic_NopeInputIdeal_NopeInputReferenceIdeal (hNopeInputIdeal := hNopeInputIdeal) (hNopeInputReferenceIdeal := hNopeInputReferenceIdeal)
    ∧ preserves_RopeInput_RopeInputIdeal
    ∧ algebraic_RopeInputIdeal_RopeInputReferenceIdeal (hRopeInputIdeal := hRopeInputIdeal) (hRopeInputReferenceIdeal := hRopeInputReferenceIdeal)
    ∧ preserves_KeyValueInput_KeyValueInputIdeal
    ∧ algebraic_KeyValueInputIdeal_KeyValueInputReferenceIdeal (hKeyValueInputIdeal := hKeyValueInputIdeal) (hKeyValueInputReferenceIdeal := hKeyValueInputReferenceIdeal)
    ∧ preserves_LatentWeight_LatentWeightIdeal
    ∧ algebraic_LatentWeightIdeal_LatentWeightReferenceIdeal (hLatentWeightIdeal := hLatentWeightIdeal) (hLatentWeightReferenceIdeal := hLatentWeightReferenceIdeal)
    ∧ preserves_NopeWeight_NopeWeightIdeal
    ∧ algebraic_NopeWeightIdeal_NopeWeightReferenceIdeal (hNopeWeightIdeal := hNopeWeightIdeal) (hNopeWeightReferenceIdeal := hNopeWeightReferenceIdeal)
    ∧ preserves_RopeWeight_RopeWeightIdeal
    ∧ algebraic_RopeWeightIdeal_RopeWeightReferenceIdeal (hRopeWeightIdeal := hRopeWeightIdeal) (hRopeWeightReferenceIdeal := hRopeWeightReferenceIdeal)
    ∧ preserves_KeyValueWeight_KeyValueWeightIdeal
    ∧ algebraic_KeyValueWeightIdeal_KeyValueWeightReferenceIdeal (hKeyValueWeightIdeal := hKeyValueWeightIdeal) (hKeyValueWeightReferenceIdeal := hKeyValueWeightReferenceIdeal)
    ∧ preserves_MemoryWeight_MemoryWeightIdeal
    ∧ algebraic_MemoryWeightIdeal_MemoryWeightReferenceIdeal (hMemoryWeightIdeal := hMemoryWeightIdeal) (hMemoryWeightReferenceIdeal := hMemoryWeightReferenceIdeal)
    ∧ preserves_Attention_AttentionIdeal
    ∧ algebraic_AttentionIdeal_AttentionReferenceIdeal (hAttentionIdeal := hAttentionIdeal) (hAttentionReferenceIdeal := hAttentionReferenceIdeal)
-- ==== Pre_finite_latent.lean ====
abbrev S8192x1024 : Shape := ⟨2, ![8192, 1024]⟩
abbrev S8192x704 : Shape := ⟨2, ![8192, 704]⟩
abbrev S1024x704 : Shape := ⟨2, ![1024, 704]⟩
abbrev S1x1024 : Shape := ⟨2, ![1, 1024]⟩
abbrev S_ : Shape := ⟨0, ![]⟩

class Facts : Prop where
  reducesTo_S8192x1024_S_d0_1 : S8192x1024.ReducesTo [0, 1] S_
  h_S_ : 0 < S_.numel
  bitsLt_bf16_f32 : FTy.bits .bf16 < FTy.bits .f32
  reducesTo_S8192x704_S_d0_1 : S8192x704.ReducesTo [0, 1] S_
  reducesTo_S1024x704_S_d0_1 : S1024x704.ReducesTo [0, 1] S_
  reducesTo_S1x1024_S_d0_1 : S1x1024.ReducesTo [0, 1] S_

variable [Facts]

def fn_part1 {F : FTy → Type} [FloatOps F] (main_v13 : IVec S_ 1) (main_v15 : IVec S_ 1) : IVec S_ 1 :=
  let main_v16 : IVec S_ 1 := andi main_v15 main_v13
  main_v16

def fn {F : FTy → Type} [FloatOps F] (main_arg0 : FVec F S8192x1024 .f32) (main_arg1 : FVec F S8192x704 .bf16) (main_arg2 : FVec F S1024x704 .bf16) (main_arg3 : FVec F S8192x1024 .f32) (main_arg4 : FVec F S1x1024 .f32) : IVec S_ 1 :=
  let main_v0 : FVec F S8192x1024 .f32 := Host.absf main_arg0
  let main_cst : FVec F S_ .f32 := constant S_ .f32 0xFF800000#32
  let main_v1 : FVec F S_ .f32 := (fun x v => Host.reduce FloatOps.maximumf x v reducesTo_S8192x1024_S_d0_1 h_S_) main_v0 main_cst
  let main_cst_0 : FVec F S_ .f32 := constant S_ .f32 0x7F800000#32
  let main_v2 : IVec S_ 1 := cmpf .olt main_v1 main_cst_0
  let main_v3 : FVec F S8192x704 .f32 := (extf .f32 · bitsLt_bf16_f32) main_arg1
  let main_v4 : FVec F S8192x704 .f32 := Host.absf main_v3
  let main_cst_1 : FVec F S_ .f32 := constant S_ .f32 0xFF800000#32
  let main_v5 : FVec F S_ .f32 := (fun x v => Host.reduce FloatOps.maximumf x v reducesTo_S8192x704_S_d0_1 h_S_) main_v4 main_cst_1
  let main_cst_2 : FVec F S_ .f32 := constant S_ .f32 0x7F800000#32
  let main_v6 : IVec S_ 1 := cmpf .olt main_v5 main_cst_2
  let main_v7 : FVec F S1024x704 .f32 := (extf .f32 · bitsLt_bf16_f32) main_arg2
  let main_v8 : FVec F S1024x704 .f32 := Host.absf main_v7
  let main_cst_3 : FVec F S_ .f32 := constant S_ .f32 0xFF800000#32
  let main_v9 : FVec F S_ .f32 := (fun x v => Host.reduce FloatOps.maximumf x v reducesTo_S1024x704_S_d0_1 h_S_) main_v8 main_cst_3
  let main_cst_4 : FVec F S_ .f32 := constant S_ .f32 0x7F800000#32
  let main_v10 : IVec S_ 1 := cmpf .olt main_v9 main_cst_4
  let main_v11 : FVec F S1x1024 .f32 := Host.absf main_arg4
  let main_cst_5 : FVec F S_ .f32 := constant S_ .f32 0xFF800000#32
  let main_v12 : FVec F S_ .f32 := (fun x v => Host.reduce FloatOps.maximumf x v reducesTo_S1x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v2 main_v6
  let main_v15 : IVec S_ 1 := andi main_v14 main_v10
  fn_part1 (F := F) main_v13 main_v15
-- ==== Pre_finite_norm.lean ====
abbrev S8192x1024 : Shape := ⟨2, ![8192, 1024]⟩
abbrev S8192x5632 : Shape := ⟨2, ![8192, 5632]⟩
abbrev S1024x5632 : Shape := ⟨2, ![1024, 5632]⟩
abbrev S1x1024 : Shape := ⟨2, ![1, 1024]⟩
abbrev S_ : Shape := ⟨0, ![]⟩

class Facts : Prop where
  reducesTo_S8192x1024_S_d0_1 : S8192x1024.ReducesTo [0, 1] S_
  h_S_ : 0 < S_.numel
  bitsLt_bf16_f32 : FTy.bits .bf16 < FTy.bits .f32
  reducesTo_S8192x5632_S_d0_1 : S8192x5632.ReducesTo [0, 1] S_
  reducesTo_S1024x5632_S_d0_1 : S1024x5632.ReducesTo [0, 1] S_
  reducesTo_S1x1024_S_d0_1 : S1x1024.ReducesTo [0, 1] S_

variable [Facts]

def fn_part1 {F : FTy → Type} [FloatOps F] (main_v13 : IVec S_ 1) (main_v15 : IVec S_ 1) : IVec S_ 1 :=
  let main_v16 : IVec S_ 1 := andi main_v15 main_v13
  main_v16

def fn {F : FTy → Type} [FloatOps F] (main_arg0 : FVec F S8192x1024 .f32) (main_arg1 : FVec F S8192x5632 .bf16) (main_arg2 : FVec F S1024x5632 .bf16) (main_arg3 : FVec F S8192x1024 .f32) (main_arg4 : FVec F S1x1024 .f32) : IVec S_ 1 :=
  let main_v0 : FVec F S8192x1024 .f32 := Host.absf main_arg0
  let main_cst : FVec F S_ .f32 := constant S_ .f32 0xFF800000#32
  let main_v1 : FVec F S_ .f32 := (fun x v => Host.reduce FloatOps.maximumf x v reducesTo_S8192x1024_S_d0_1 h_S_) main_v0 main_cst
  let main_cst_0 : FVec F S_ .f32 := constant S_ .f32 0x7F800000#32
  let main_v2 : IVec S_ 1 := cmpf .olt main_v1 main_cst_0
  let main_v3 : FVec F S8192x5632 .f32 := (extf .f32 · bitsLt_bf16_f32) main_arg1
  let main_v4 : FVec F S8192x5632 .f32 := Host.absf main_v3
  let main_cst_1 : FVec F S_ .f32 := constant S_ .f32 0xFF800000#32
  let main_v5 : FVec F S_ .f32 := (fun x v => Host.reduce FloatOps.maximumf x v reducesTo_S8192x5632_S_d0_1 h_S_) main_v4 main_cst_1
  let main_cst_2 : FVec F S_ .f32 := constant S_ .f32 0x7F800000#32
  let main_v6 : IVec S_ 1 := cmpf .olt main_v5 main_cst_2
  let main_v7 : FVec F S1024x5632 .f32 := (extf .f32 · bitsLt_bf16_f32) main_arg2
  let main_v8 : FVec F S1024x5632 .f32 := Host.absf main_v7
  let main_cst_3 : FVec F S_ .f32 := constant S_ .f32 0xFF800000#32
  let main_v9 : FVec F S_ .f32 := (fun x v => Host.reduce FloatOps.maximumf x v reducesTo_S1024x5632_S_d0_1 h_S_) main_v8 main_cst_3
  let main_cst_4 : FVec F S_ .f32 := constant S_ .f32 0x7F800000#32
  let main_v10 : IVec S_ 1 := cmpf .olt main_v9 main_cst_4
  let main_v11 : FVec F S1x1024 .f32 := Host.absf main_arg4
  let main_cst_5 : FVec F S_ .f32 := constant S_ .f32 0xFF800000#32
  let main_v12 : FVec F S_ .f32 := (fun x v => Host.reduce FloatOps.maximumf x v reducesTo_S1x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v2 main_v6
  let main_v15 : IVec S_ 1 := andi main_v14 main_v10
  fn_part1 (F := F) main_v13 main_v15
-- ==== Pre_finite_query.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  reducesTo_S8192x1024_S_d0_1 : S8192x1024.ReducesTo [0, 1] S_
  h_S_ : 0 < S_.numel
  bitsLt_bf16_f32 : FTy.bits .bf16 < FTy.bits .f32
  reducesTo_S1024x1024_S_d0_1 : S1024x1024.ReducesTo [0, 1] S_
  reducesTo_S1x1024_S_d0_1 : S1x1024.ReducesTo [0, 1] S_

variable [Facts]

def fn_part1 {F : FTy → Type} [FloatOps F] (main_v13 : IVec S_ 1) (main_v15 : IVec S_ 1) : IVec S_ 1 :=
  let main_v16 : IVec S_ 1 := andi main_v15 main_v13
  main_v16

def fn {F : FTy → Type} [FloatOps F] (main_arg0 : FVec F S8192x1024 .f32) (main_arg1 : FVec F S8192x1024 .bf16) (main_arg2 : FVec F S1024x1024 .bf16) (main_arg3 : FVec F S8192x1024 .f32) (main_arg4 : FVec F S1x1024 .f32) : IVec S_ 1 :=
  let main_v0 : FVec F S8192x1024 .f32 := Host.absf main_arg0
  let main_cst : FVec F S_ .f32 := constant S_ .f32 0xFF800000#32
  let main_v1 : FVec F S_ .f32 := (fun x v => Host.reduce FloatOps.maximumf x v reducesTo_S8192x1024_S_d0_1 h_S_) main_v0 main_cst
  let main_cst_0 : FVec F S_ .f32 := constant S_ .f32 0x7F800000#32
  let main_v2 : IVec S_ 1 := cmpf .olt main_v1 main_cst_0
  let main_v3 : FVec F S8192x1024 .f32 := (extf .f32 · bitsLt_bf16_f32) main_arg1
  let main_v4 : FVec F S8192x1024 .f32 := Host.absf main_v3
  let main_cst_1 : FVec F S_ .f32 := constant S_ .f32 0xFF800000#32
  let main_v5 : FVec F S_ .f32 := (fun x v => Host.reduce FloatOps.maximumf x v reducesTo_S8192x1024_S_d0_1 h_S_) main_v4 main_cst_1
  let main_cst_2 : FVec F S_ .f32 := constant S_ .f32 0x7F800000#32
  let main_v6 : IVec S_ 1 := cmpf .olt main_v5 main_cst_2
  let main_v7 : FVec F S1024x1024 .f32 := (extf .f32 · bitsLt_bf16_f32) main_arg2
  let main_v8 : FVec F S1024x1024 .f32 := Host.absf main_v7
  let main_cst_3 : FVec F S_ .f32 := constant S_ .f32 0xFF800000#32
  let main_v9 : FVec F S_ .f32 := (fun x v => Host.reduce FloatOps.maximumf x v reducesTo_S1024x1024_S_d0_1 h_S_) main_v8 main_cst_3
  let main_cst_4 : FVec F S_ .f32 := constant S_ .f32 0x7F800000#32
  let main_v10 : IVec S_ 1 := cmpf .olt main_v9 main_cst_4
  let main_v11 : FVec F S1x1024 .f32 := Host.absf main_arg4
  let main_cst_5 : FVec F S_ .f32 := constant S_ .f32 0xFF800000#32
  let main_v12 : FVec F S_ .f32 := (fun x v => Host.reduce FloatOps.maximumf x v reducesTo_S1x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v2 main_v6
  let main_v15 : IVec S_ 1 := andi main_v14 main_v10
  fn_part1 (F := F) main_v13 main_v15
-- ==== Pre_finite_recurrence.lean ====
abbrev S8192x1024 : Shape := ⟨2, ![8192, 1024]⟩
abbrev S8192x2048 : Shape := ⟨2, ![8192, 2048]⟩
abbrev S1024x2048 : Shape := ⟨2, ![1024, 2048]⟩
abbrev S1x1024 : Shape := ⟨2, ![1, 1024]⟩
abbrev S_ : Shape := ⟨0, ![]⟩

class Facts : Prop where
  reducesTo_S8192x1024_S_d0_1 : S8192x1024.ReducesTo [0, 1] S_
  h_S_ : 0 < S_.numel
  bitsLt_bf16_f32 : FTy.bits .bf16 < FTy.bits .f32
  reducesTo_S8192x2048_S_d0_1 : S8192x2048.ReducesTo [0, 1] S_
  reducesTo_S1024x2048_S_d0_1 : S1024x2048.ReducesTo [0, 1] S_
  reducesTo_S1x1024_S_d0_1 : S1x1024.ReducesTo [0, 1] S_

variable [Facts]

def fn_part1 {F : FTy → Type} [FloatOps F] (main_v13 : IVec S_ 1) (main_v15 : IVec S_ 1) : IVec S_ 1 :=
  let main_v16 : IVec S_ 1 := andi main_v15 main_v13
  main_v16

def fn {F : FTy → Type} [FloatOps F] (main_arg0 : FVec F S8192x1024 .f32) (main_arg1 : FVec F S8192x2048 .bf16) (main_arg2 : FVec F S1024x2048 .bf16) (main_arg3 : FVec F S8192x1024 .f32) (main_arg4 : FVec F S1x1024 .f32) : IVec S_ 1 :=
  let main_v0 : FVec F S8192x1024 .f32 := Host.absf main_arg0
  let main_cst : FVec F S_ .f32 := constant S_ .f32 0xFF800000#32
  let main_v1 : FVec F S_ .f32 := (fun x v => Host.reduce FloatOps.maximumf x v reducesTo_S8192x1024_S_d0_1 h_S_) main_v0 main_cst
  let main_cst_0 : FVec F S_ .f32 := constant S_ .f32 0x7F800000#32
  let main_v2 : IVec S_ 1 := cmpf .olt main_v1 main_cst_0
  let main_v3 : FVec F S8192x2048 .f32 := (extf .f32 · bitsLt_bf16_f32) main_arg1
  let main_v4 : FVec F S8192x2048 .f32 := Host.absf main_v3
  let main_cst_1 : FVec F S_ .f32 := constant S_ .f32 0xFF800000#32
  let main_v5 : FVec F S_ .f32 := (fun x v => Host.reduce FloatOps.maximumf x v reducesTo_S8192x2048_S_d0_1 h_S_) main_v4 main_cst_1
  let main_cst_2 : FVec F S_ .f32 := constant S_ .f32 0x7F800000#32
  let main_v6 : IVec S_ 1 := cmpf .olt main_v5 main_cst_2
  let main_v7 : FVec F S1024x2048 .f32 := (extf .f32 · bitsLt_bf16_f32) main_arg2
  let main_v8 : FVec F S1024x2048 .f32 := Host.absf main_v7
  let main_cst_3 : FVec F S_ .f32 := constant S_ .f32 0xFF800000#32
  let main_v9 : FVec F S_ .f32 := (fun x v => Host.reduce FloatOps.maximumf x v reducesTo_S1024x2048_S_d0_1 h_S_) main_v8 main_cst_3
  let main_cst_4 : FVec F S_ .f32 := constant S_ .f32 0x7F800000#32
  let main_v10 : IVec S_ 1 := cmpf .olt main_v9 main_cst_4
  let main_v11 : FVec F S1x1024 .f32 := Host.absf main_arg4
  let main_cst_5 : FVec F S_ .f32 := constant S_ .f32 0xFF800000#32
  let main_v12 : FVec F S_ .f32 := (fun x v => Host.reduce FloatOps.maximumf x v reducesTo_S1x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v2 main_v6
  let main_v15 : IVec S_ 1 := andi main_v14 main_v10
  fn_part1 (F := F) main_v13 main_v15
-- ==== Pre_finite_scores.lean ====
abbrev S8192x1024 : Shape := ⟨2, ![8192, 1024]⟩
abbrev S256x2048 : Shape := ⟨2, ![256, 2048]⟩
abbrev S_ : Shape := ⟨0, ![]⟩

class Facts : Prop where
  bitsLt_bf16_f32 : FTy.bits .bf16 < FTy.bits .f32
  reducesTo_S8192x1024_S_d0_1 : S8192x1024.ReducesTo [0, 1] S_
  h_S_ : 0 < S_.numel
  reducesTo_S256x2048_S_d0_1 : S256x2048.ReducesTo [0, 1] S_

variable [Facts]

def fn {F : FTy → Type} [FloatOps F] (main_arg0 : FVec F S8192x1024 .bf16) (main_arg1 : FVec F S256x2048 .bf16) (main_arg2 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0xFF800000#32
  let main_v2 : FVec F S_ .f32 := (fun x v => Host.reduce FloatOps.maximumf x v reducesTo_S8192x1024_S_d0_1 h_S_) main_v1 main_cst
  let main_cst_0 : FVec F S_ .f32 := constant S_ .f32 0x7F800000#32
  let main_v3 : IVec S_ 1 := cmpf .olt main_v2 main_cst_0
  let main_v4 : FVec F S256x2048 .f32 := (extf .f32 · bitsLt_bf16_f32) main_arg1
  let main_v5 : FVec F S256x2048 .f32 := Host.absf main_v4
  let main_cst_1 : FVec F S_ .f32 := constant S_ .f32 0xFF800000#32
  let main_v6 : FVec F S_ .f32 := (fun x v => Host.reduce FloatOps.maximumf x v reducesTo_S256x2048_S_d0_1 h_S_) main_v5 main_cst_1
  let main_cst_2 : FVec F S_ .f32 := constant S_ .f32 0x7F800000#32
  let main_v7 : IVec S_ 1 := cmpf .olt main_v6 main_cst_2
  let main_v8 : IVec S_ 1 := andi main_v3 main_v7
  main_v8
-- ==== Pre_finite_window.lean ====
abbrev S8192x1024 : Shape := ⟨2, ![8192, 1024]⟩
abbrev S8192x1536 : Shape := ⟨2, ![8192, 1536]⟩
abbrev S1024x1536 : Shape := ⟨2, ![1024, 1536]⟩
abbrev S1x1024 : Shape := ⟨2, ![1, 1024]⟩
abbrev S_ : Shape := ⟨0, ![]⟩

class Facts : Prop where
  reducesTo_S8192x1024_S_d0_1 : S8192x1024.ReducesTo [0, 1] S_
  h_S_ : 0 < S_.numel
  bitsLt_bf16_f32 : FTy.bits .bf16 < FTy.bits .f32
  reducesTo_S8192x1536_S_d0_1 : S8192x1536.ReducesTo [0, 1] S_
  reducesTo_S1024x1536_S_d0_1 : S1024x1536.ReducesTo [0, 1] S_
  reducesTo_S1x1024_S_d0_1 : S1x1024.ReducesTo [0, 1] S_

variable [Facts]

def fn_part1 {F : FTy → Type} [FloatOps F] (main_v13 : IVec S_ 1) (main_v15 : IVec S_ 1) : IVec S_ 1 :=
  let main_v16 : IVec S_ 1 := andi main_v15 main_v13
  main_v16

def fn {F : FTy → Type} [FloatOps F] (main_arg0 : FVec F S8192x1024 .f32) (main_arg1 : FVec F S8192x1536 .bf16) (main_arg2 : FVec F S1024x1536 .bf16) (main_arg3 : FVec F S8192x1024 .f32) (main_arg4 : FVec F S1x1024 .f32) : IVec S_ 1 :=
  let main_v0 : FVec F S8192x1024 .f32 := Host.absf main_arg0
  let main_cst : FVec F S_ .f32 := constant S_ .f32 0xFF800000#32
  let main_v1 : FVec F S_ .f32 := (fun x v => Host.reduce FloatOps.maximumf x v reducesTo_S8192x1024_S_d0_1 h_S_) main_v0 main_cst
  let main_cst_0 : FVec F S_ .f32 := constant S_ .f32 0x7F800000#32
  let main_v2 : IVec S_ 1 := cmpf .olt main_v1 main_cst_0
  let main_v3 : FVec F S8192x1536 .f32 := (extf .f32 · bitsLt_bf16_f32) main_arg1
  let main_v4 : FVec F S8192x1536 .f32 := Host.absf main_v3
  let main_cst_1 : FVec F S_ .f32 := constant S_ .f32 0xFF800000#32
  let main_v5 : FVec F S_ .f32 := (fun x v => Host.reduce FloatOps.maximumf x v reducesTo_S8192x1536_S_d0_1 h_S_) main_v4 main_cst_1
  let main_cst_2 : FVec F S_ .f32 := constant S_ .f32 0x7F800000#32
  let main_v6 : IVec S_ 1 := cmpf .olt main_v5 main_cst_2
  let main_v7 : FVec F S1024x1536 .f32 := (extf .f32 · bitsLt_bf16_f32) main_arg2
  let main_v8 : FVec F S1024x1536 .f32 := Host.absf main_v7
  let main_cst_3 : FVec F S_ .f32 := constant S_ .f32 0xFF800000#32
  let main_v9 : FVec F S_ .f32 := (fun x v => Host.reduce FloatOps.maximumf x v reducesTo_S1024x1536_S_d0_1 h_S_) main_v8 main_cst_3
  let main_cst_4 : FVec F S_ .f32 := constant S_ .f32 0x7F800000#32
  let main_v10 : IVec S_ 1 := cmpf .olt main_v9 main_cst_4
  let main_v11 : FVec F S1x1024 .f32 := Host.absf main_arg4
  let main_cst_5 : FVec F S_ .f32 := constant S_ .f32 0xFF800000#32
  let main_v12 : FVec F S_ .f32 := (fun x v => Host.reduce FloatOps.maximumf x v reducesTo_S1x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v2 main_v6
  let main_v15 : IVec S_ 1 := andi main_v14 main_v10
  fn_part1 (F := F) main_v13 main_v15
-- ==== Kernel.lean ====
abbrev S8192x1024 : Shape := ⟨2, ![8192, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S8192x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x1024 : Shape := ⟨2, ![8192, 1024]⟩
abbrev S256x2048 : Shape := ⟨2, ![256, 2048]⟩
abbrev S256x1024 : Shape := ⟨2, ![256, 1024]⟩
abbrev S256x4x256 : Shape := ⟨3, ![256, 4, 256]⟩
abbrev S8192x4x256 : Shape := ⟨3, ![8192, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S8192x1024, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S256x4x256, .f32⟩
  | .hbm, ⟨8, _⟩ => ⟨S256x4x256, .f32⟩
  | .hbm, ⟨9, _⟩ => ⟨S8192x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x256x8192, .f32⟩
  | .hbm, ⟨53, _⟩ => ⟨S8192x4x256, .f32⟩
  | .hbm, ⟨54, _⟩ => ⟨S8192x1024, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S8192x1024, .f32⟩
  | .hbm, ⟨83, _⟩ => ⟨S256x1024, .f32⟩
  | .hbm, ⟨84, _⟩ => ⟨S256x1024, .f32⟩
  | .hbm, ⟨85, _⟩ => ⟨S256x2048, .f32⟩
  | .hbm, ⟨86, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== UpWeight.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWeightReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownWeight.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownInput.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownInputReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NormInput.lean ====
abbrev S8192x1024 : Shape := ⟨2, ![8192, 1024]⟩
abbrev S8192x5632 : Shape := ⟨2, ![8192, 5632]⟩
abbrev S1024x5632 : Shape := ⟨2, ![1024, 5632]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x5632 : Shape := ⟨2, ![256, 5632]⟩
abbrev S256x1 : Shape := ⟨2, ![256, 1]⟩
abbrev S256 : Shape := ⟨1, ![256]⟩
abbrev S1024 : Shape := ⟨1, ![1024]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormInputIdeal.lean ====
abbrev S8192x1024 : Shape := ⟨2, ![8192, 1024]⟩
abbrev S8192x5632 : Shape := ⟨2, ![8192, 5632]⟩
abbrev S1024x5632 : Shape := ⟨2, ![1024, 5632]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x5632 : Shape := ⟨2, ![256, 5632]⟩
abbrev S256x1 : Shape := ⟨2, ![256, 1]⟩
abbrev S256 : Shape := ⟨1, ![256]⟩
abbrev S1024 : Shape := ⟨1, ![1024]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormInputReferenceIdeal.lean ====
abbrev S8192x1024 : Shape := ⟨2, ![8192, 1024]⟩
abbrev S8192x5632 : Shape := ⟨2, ![8192, 5632]⟩
abbrev S1024x5632 : Shape := ⟨2, ![1024, 5632]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S1024x5632, .f32⟩
  | .hbm, ⟨45, _⟩ => ⟨S8192x5632, .f32⟩
  | .hbm, ⟨46, _⟩ => ⟨S8192x5632, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== SquareWeight.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareWeightReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SquareInput.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareInputReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WindowWeight.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WindowWeightReferenceIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RecurrenceWeight.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RecurrenceWeightReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Query.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormQuery.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormQueryIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormQueryReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== NormRecurrence.lean ====
abbrev S8192x1024 : Shape := ⟨2, ![8192, 1024]⟩
abbrev S8192x2048 : Shape := ⟨2, ![8192, 2048]⟩
abbrev S1024x2048 : Shape := ⟨2, ![1024, 2048]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x2048 : Shape := ⟨2, ![256, 2048]⟩
abbrev S256x1 : Shape := ⟨2, ![256, 1]⟩
abbrev S256 : Shape := ⟨1, ![256]⟩
abbrev S1024 : Shape := ⟨1, ![1024]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRecurrenceIdeal.lean ====
abbrev S8192x1024 : Shape := ⟨2, ![8192, 1024]⟩
abbrev S8192x2048 : Shape := ⟨2, ![8192, 2048]⟩
abbrev S1024x2048 : Shape := ⟨2, ![1024, 2048]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x2048 : Shape := ⟨2, ![256, 2048]⟩
abbrev S256x1 : Shape := ⟨2, ![256, 1]⟩
abbrev S256 : Shape := ⟨1, ![256]⟩
abbrev S1024 : Shape := ⟨1, ![1024]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRecurrenceReferenceIdeal.lean ====
abbrev S8192x1024 : Shape := ⟨2, ![8192, 1024]⟩
abbrev S8192x2048 : Shape := ⟨2, ![8192, 2048]⟩
abbrev S1024x2048 : Shape := ⟨2, ![1024, 2048]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S1024x2048, .f32⟩
  | .hbm, ⟨45, _⟩ => ⟨S8192x2048, .f32⟩
  | .hbm, ⟨46, _⟩ => ⟨S8192x2048, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== NormLatent.lean ====
abbrev S8192x1024 : Shape := ⟨2, ![8192, 1024]⟩
abbrev S8192x704 : Shape := ⟨2, ![8192, 704]⟩
abbrev S1024x704 : Shape := ⟨2, ![1024, 704]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x704 : Shape := ⟨2, ![256, 704]⟩
abbrev S256x1 : Shape := ⟨2, ![256, 1]⟩
abbrev S256 : Shape := ⟨1, ![256]⟩
abbrev S1024 : Shape := ⟨1, ![1024]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x704, .bf16⟩
  | .hbm, ⟨2, _⟩ => ⟨S1024x704, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x704, .bf16⟩
  | .local _ .vmem, ⟨3, _⟩ => ⟨S256x704, .bf16⟩
  | .local _ .vmem, ⟨4, _⟩ => ⟨S1024x704, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormLatentIdeal.lean ====
abbrev S8192x1024 : Shape := ⟨2, ![8192, 1024]⟩
abbrev S8192x704 : Shape := ⟨2, ![8192, 704]⟩
abbrev S1024x704 : Shape := ⟨2, ![1024, 704]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x704 : Shape := ⟨2, ![256, 704]⟩
abbrev S256x1 : Shape := ⟨2, ![256, 1]⟩
abbrev S256 : Shape := ⟨1, ![256]⟩
abbrev S1024 : Shape := ⟨1, ![1024]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x704, .bf16⟩
  | .hbm, ⟨2, _⟩ => ⟨S1024x704, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x704, .bf16⟩
  | .local _ .vmem, ⟨3, _⟩ => ⟨S256x704, .bf16⟩
  | .local _ .vmem, ⟨4, _⟩ => ⟨S1024x704, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormLatentReferenceIdeal.lean ====
abbrev S8192x1024 : Shape := ⟨2, ![8192, 1024]⟩
abbrev S8192x704 : Shape := ⟨2, ![8192, 704]⟩
abbrev S1024x704 : Shape := ⟨2, ![1024, 704]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x704, .bf16⟩
  | .hbm, ⟨2, _⟩ => ⟨S1024x704, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S1024x704, .f32⟩
  | .hbm, ⟨45, _⟩ => ⟨S8192x704, .f32⟩
  | .hbm, ⟨46, _⟩ => ⟨S8192x704, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== NormWindow.lean ====
abbrev S8192x1024 : Shape := ⟨2, ![8192, 1024]⟩
abbrev S8192x1536 : Shape := ⟨2, ![8192, 1536]⟩
abbrev S1024x1536 : Shape := ⟨2, ![1024, 1536]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x1536 : Shape := ⟨2, ![256, 1536]⟩
abbrev S256x1 : Shape := ⟨2, ![256, 1]⟩
abbrev S256 : Shape := ⟨1, ![256]⟩
abbrev S1024 : Shape := ⟨1, ![1024]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1536, .bf16⟩
  | .hbm, ⟨2, _⟩ => ⟨S1024x1536, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1536, .bf16⟩
  | .local _ .vmem, ⟨3, _⟩ => ⟨S256x1536, .bf16⟩
  | .local _ .vmem, ⟨4, _⟩ => ⟨S1024x1536, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormWindowReferenceIdeal.lean ====
abbrev S8192x1024 : Shape := ⟨2, ![8192, 1024]⟩
abbrev S8192x1536 : Shape := ⟨2, ![8192, 1536]⟩
abbrev S1024x1536 : Shape := ⟨2, ![1024, 1536]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .bf16⟩
  | .hbm, ⟨2, _⟩ => ⟨S1024x1536, .bf16⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S1024x1536, .f32⟩
  | .hbm, ⟨45, _⟩ => ⟨S8192x1536, .f32⟩
  | .hbm, ⟨46, _⟩ => ⟨S8192x1536, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== OutNorm.lean ====
abbrev S8192x1024 : Shape := ⟨2, ![8192, 1024]⟩
abbrev S1024x1024 : Shape := ⟨2, ![1024, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutNormIdeal.lean ====
abbrev S8192x1024 : Shape := ⟨2, ![8192, 1024]⟩
abbrev S1024x1024 : Shape := ⟨2, ![1024, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutNormReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== DownNorm.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8192x1 : Shape := ⟨2, ![8192, 1]⟩
abbrev S512x2816 : Shape := ⟨2, ![512, 2816]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownNormReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== WindowUp.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WindowUpReferenceIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RecurrenceUp.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecurrenceUpReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LatentDown.lean ====
abbrev S8192x1024 : Shape := ⟨2, ![8192, 1024]⟩
abbrev S1024x704 : Shape := ⟨2, ![1024, 704]⟩
abbrev S8192x704 : Shape := ⟨2, ![8192, 704]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x704, .bf16⟩
  | .hbm, ⟨2, _⟩ => ⟨S8192x704, .f32⟩
  | .local _ .vmem, ⟨0, _⟩ => ⟨S1024x1024, .bf16⟩
  | .local _ .vmem, ⟨1, _⟩ => ⟨S1024x1024, .bf16⟩
  | .local _ .vmem, ⟨2, _⟩ => ⟨S1024x704, .bf16⟩
  | .local _ .vmem, ⟨3, _⟩ => ⟨S1024x704, .f32⟩
  | .local _ .vmem, ⟨4, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentDownReferenceIdeal.lean ====
abbrev S8192x1024 : Shape := ⟨2, ![8192, 1024]⟩
abbrev S1024x704 : Shape := ⟨2, ![1024, 704]⟩
abbrev S8192x704 : Shape := ⟨2, ![8192, 704]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x704, .bf16⟩
  | .hbm, ⟨2, _⟩ => ⟨S8192x1024, .f32⟩
  | .hbm, ⟨3, _⟩ => ⟨S1024x704, .f32⟩
  | .hbm, ⟨4, _⟩ => ⟨S8192x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RopeUp.lean ====
abbrev S8192x384 : Shape := ⟨2, ![8192, 384]⟩
abbrev S384x512 : Shape := ⟨2, ![384, 512]⟩
abbrev S8192x512 : Shape := ⟨2, ![8192, 512]⟩
abbrev S1024x384 : Shape := ⟨2, ![1024, 384]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x384, .bf16⟩
  | .hbm, ⟨1, _⟩ => ⟨S384x512, .bf16⟩
  | .hbm, ⟨2, _⟩ => ⟨S8192x512, .f32⟩
  | .local _ .vmem, ⟨0, _⟩ => ⟨S1024x384, .bf16⟩
  | .local _ .vmem, ⟨1, _⟩ => ⟨S1024x384, .bf16⟩
  | .local _ .vmem, ⟨2, _⟩ => ⟨S384x512, .bf16⟩
  | .local _ .vmem, ⟨3, _⟩ => ⟨S1024x512, .f32⟩
  | .local _ .vmem, ⟨4, _⟩ => ⟨S1024x512, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RopeUpReferenceIdeal.lean ====
abbrev S8192x384 : Shape := ⟨2, ![8192, 384]⟩
abbrev S384x512 : Shape := ⟨2, ![384, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S384x512, .bf16⟩
  | .hbm, ⟨2, _⟩ => ⟨S8192x384, .f32⟩
  | .hbm, ⟨3, _⟩ => ⟨S384x512, .f32⟩
  | .hbm, ⟨4, _⟩ => ⟨S8192x512, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NopeUp.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x384, .bf16⟩
  | .hbm, ⟨1, _⟩ => ⟨S384x1024, .bf16⟩
  | .hbm, ⟨2, _⟩ => ⟨S8192x1024, .bf16⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .bf16⟩
  | .local _ .vmem, ⟨4, _⟩ => ⟨S1024x1024, .bf16⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NopeUpReferenceIdeal.lean ====
abbrev S8192x384 : Shape := ⟨2, ![8192, 384]⟩
abbrev S384x1024 : Shape := ⟨2, ![384, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S384x1024, .bf16⟩
  | .hbm, ⟨2, _⟩ => ⟨S8192x384, .f32⟩
  | .hbm, ⟨3, _⟩ => ⟨S384x1024, .f32⟩
  | .hbm, ⟨4, _⟩ => ⟨S8192x1024, .f32⟩
  | .hbm, ⟨5, _⟩ => ⟨S8192x1024, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KeyValueUp.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S256x2048, .bf16⟩
  | .local _ .vmem, ⟨3, _⟩ => ⟨S1024x2048, .bf16⟩
  | .local _ .vmem, ⟨4, _⟩ => ⟨S1024x2048, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyValueUpReferenceIdeal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x256, .f32⟩
  | .hbm, ⟨3, _⟩ => ⟨S256x2048, .f32⟩
  | .hbm, ⟨4, _⟩ => ⟨S8192x2048, .f32⟩
  | .hbm, ⟨5, _⟩ => ⟨S8192x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemoryUp.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .bf16⟩
  | .local _ .vmem, ⟨0, _⟩ => ⟨S256x1024, .bf16⟩
  | .local _ .vmem, ⟨1, _⟩ => ⟨S1024x2048, .bf16⟩
  | .local _ .vmem, ⟨2, _⟩ => ⟨S256x2048, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemoryUpReferenceIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | .hbm, ⟨5, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WindowInput.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WindowInputReferenceIdeal.lean ====
abbrev S8192x1536 : Shape := ⟨2, ![8192, 1536]⟩
abbrev S1024x1536 : Shape := ⟨2, ![1024, 1536]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S_, .f32⟩
  | .hbm, ⟨3, _⟩ => ⟨S8192x1024, .f32⟩
  | .hbm, ⟨4, _⟩ => ⟨S1024x1536, .f32⟩
  | .hbm, ⟨5, _⟩ => ⟨S8192x1536, .f32⟩
  | .hbm, ⟨6, _⟩ => ⟨S8192x1536, .f32⟩
  | .hbm, ⟨7, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NopeInput.lean ====
abbrev S8192x1024 : Shape := ⟨2, ![8192, 1024]⟩
abbrev S384x1024 : Shape := ⟨2, ![384, 1024]⟩
abbrev S8192x384 : Shape := ⟨2, ![8192, 384]⟩
abbrev S1024x1024 : Shape := ⟨2, ![1024, 1024]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S384x1024, .bf16⟩
  | .hbm, ⟨2, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NopeInputReferenceIdeal.lean ====
abbrev S8192x1024 : Shape := ⟨2, ![8192, 1024]⟩
abbrev S384x1024 : Shape := ⟨2, ![384, 1024]⟩
abbrev S_ : Shape := ⟨0, ![]⟩
abbrev S8192x384 : Shape := ⟨2, ![8192, 384]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S384x1024, .bf16⟩
  | .hbm, ⟨2, _⟩ => ⟨S_, .f32⟩
  | .hbm, ⟨3, _⟩ => ⟨S8192x384, .f32⟩
  | .hbm, ⟨4, _⟩ => ⟨S384x1024, .f32⟩
  | .hbm, ⟨5, _⟩ => ⟨S8192x1024, .f32⟩
  | .hbm, ⟨6, _⟩ => ⟨S8192x1024, .f32⟩
  | .hbm, ⟨7, _⟩ => ⟨S8192x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RopeInput.lean ====
abbrev S8192x512 : Shape := ⟨2, ![8192, 512]⟩
abbrev S384x512 : Shape := ⟨2, ![384, 512]⟩
abbrev S8192x384 : Shape := ⟨2, ![8192, 384]⟩
abbrev S1024x512 : Shape := ⟨2, ![1024, 512]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S384x512, .bf16⟩
  | .hbm, ⟨2, _⟩ => ⟨S8192x384, .f32⟩
  | .local _ .vmem, ⟨0, _⟩ => ⟨S1024x512, .bf16⟩
  | .local _ .vmem, ⟨1, _⟩ => ⟨S1024x512, .bf16⟩
  | .local _ .vmem, ⟨2, _⟩ => ⟨S384x512, .bf16⟩
  | .local _ .vmem, ⟨3, _⟩ => ⟨S1024x384, .f32⟩
  | .local _ .vmem, ⟨4, _⟩ => ⟨S1024x384, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RopeInputReferenceIdeal.lean ====
abbrev S8192x512 : Shape := ⟨2, ![8192, 512]⟩
abbrev S384x512 : Shape := ⟨2, ![384, 512]⟩
abbrev S_ : Shape := ⟨0, ![]⟩
abbrev S8192x384 : Shape := ⟨2, ![8192, 384]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S384x512, .bf16⟩
  | .hbm, ⟨2, _⟩ => ⟨S_, .f32⟩
  | .hbm, ⟨3, _⟩ => ⟨S8192x384, .f32⟩
  | .hbm, ⟨4, _⟩ => ⟨S384x512, .f32⟩
  | .hbm, ⟨5, _⟩ => ⟨S8192x512, .f32⟩
  | .hbm, ⟨6, _⟩ => ⟨S8192x512, .f32⟩
  | .hbm, ⟨7, _⟩ => ⟨S8192x384, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KeyValueInput.lean ====
abbrev S8192x2048 : Shape := ⟨2, ![8192, 2048]⟩
abbrev S256x2048 : Shape := ⟨2, ![256, 2048]⟩
abbrev S8192x256 : Shape := ⟨2, ![8192, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyValueInputReferenceIdeal.lean ====
abbrev S8192x2048 : Shape := ⟨2, ![8192, 2048]⟩
abbrev S256x2048 : Shape := ⟨2, ![256, 2048]⟩
abbrev S_ : Shape := ⟨0, ![]⟩
abbrev S8192x256 : Shape := ⟨2, ![8192, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S_, .f32⟩
  | .hbm, ⟨3, _⟩ => ⟨S8192x256, .f32⟩
  | .hbm, ⟨4, _⟩ => ⟨S256x2048, .f32⟩
  | .hbm, ⟨5, _⟩ => ⟨S8192x2048, .f32⟩
  | .hbm, ⟨6, _⟩ => ⟨S8192x2048, .f32⟩
  | .hbm, ⟨7, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LatentWeight.lean ====
abbrev S8192x1024 : Shape := ⟨2, ![8192, 1024]⟩
abbrev S8192x704 : Shape := ⟨2, ![8192, 704]⟩
abbrev S1024x704 : Shape := ⟨2, ![1024, 704]⟩
abbrev S2048x1024 : Shape := ⟨2, ![2048, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x704, .bf16⟩
  | .hbm, ⟨2, _⟩ => ⟨S1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S2048x704, .bf16⟩
  | .local _ .vmem, ⟨3, _⟩ => ⟨S2048x704, .bf16⟩
  | .local _ .vmem, ⟨4, _⟩ => ⟨S1024x704, .bf16⟩
  | .local _ .vmem, ⟨5, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LatentWeightReferenceIdeal.lean ====
abbrev S8192x1024 : Shape := ⟨2, ![8192, 1024]⟩
abbrev S8192x704 : Shape := ⟨2, ![8192, 704]⟩
abbrev S_ : Shape := ⟨0, ![]⟩
abbrev S1024x704 : Shape := ⟨2, ![1024, 704]⟩
abbrev S704x1024 : Shape := ⟨2, ![704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x704, .bf16⟩
  | .hbm, ⟨2, _⟩ => ⟨S_, .f32⟩
  | .hbm, ⟨3, _⟩ => ⟨S1024x704, .f32⟩
  | .hbm, ⟨4, _⟩ => ⟨S8192x1024, .f32⟩
  | .hbm, ⟨5, _⟩ => ⟨S8192x704, .f32⟩
  | .hbm, ⟨6, _⟩ => ⟨S8192x704, .f32⟩
  | .hbm, ⟨7, _⟩ => ⟨S704x1024, .f32⟩
  | .hbm, ⟨8, _⟩ => ⟨S1024x704, .f32⟩
  | .hbm, ⟨9, _⟩ => ⟨S1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== NopeWeight.lean ====
abbrev S8192x384 : Shape := ⟨2, ![8192, 384]⟩
abbrev S8192x1024 : Shape := ⟨2, ![8192, 1024]⟩
abbrev S384x1024 : Shape := ⟨2, ![384, 1024]⟩
abbrev S2048x384 : Shape := ⟨2, ![2048, 384]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S384x1024, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .bf16⟩
  | .local _ .vmem, ⟨5, _⟩ => ⟨S384x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== NopeWeightReferenceIdeal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S_, .f32⟩
  | .hbm, ⟨3, _⟩ => ⟨S384x1024, .f32⟩
  | .hbm, ⟨4, _⟩ => ⟨S8192x384, .f32⟩
  | .hbm, ⟨5, _⟩ => ⟨S8192x1024, .f32⟩
  | .hbm, ⟨6, _⟩ => ⟨S8192x1024, .f32⟩
  | .hbm, ⟨7, _⟩ => ⟨S1024x384, .f32⟩
  | .hbm, ⟨8, _⟩ => ⟨S384x1024, .f32⟩
  | .hbm, ⟨9, _⟩ => ⟨S384x1024, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RopeWeight.lean ====
abbrev S8192x384 : Shape := ⟨2, ![8192, 384]⟩
abbrev S8192x512 : Shape := ⟨2, ![8192, 512]⟩
abbrev S384x512 : Shape := ⟨2, ![384, 512]⟩
abbrev S2048x384 : Shape := ⟨2, ![2048, 384]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x384, .bf16⟩
  | .hbm, ⟨1, _⟩ => ⟨S8192x512, .bf16⟩
  | .hbm, ⟨2, _⟩ => ⟨S384x512, .bf16⟩
  | .local _ .vmem, ⟨0, _⟩ => ⟨S2048x384, .bf16⟩
  | .local _ .vmem, ⟨1, _⟩ => ⟨S2048x384, .bf16⟩
  | .local _ .vmem, ⟨2, _⟩ => ⟨S2048x512, .bf16⟩
  | .local _ .vmem, ⟨3, _⟩ => ⟨S2048x512, .bf16⟩
  | .local _ .vmem, ⟨4, _⟩ => ⟨S384x512, .bf16⟩
  | .local _ .vmem, ⟨5, _⟩ => ⟨S384x512, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RopeWeightReferenceIdeal.lean ====
abbrev S8192x384 : Shape := ⟨2, ![8192, 384]⟩
abbrev S8192x512 : Shape := ⟨2, ![8192, 512]⟩
abbrev S_ : Shape := ⟨0, ![]⟩
abbrev S384x512 : Shape := ⟨2, ![384, 512]⟩
abbrev S512x384 : Shape := ⟨2, ![512, 384]⟩

abbrev nBuf : Space → Nat
  | .hbm => 10
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x512, .bf16⟩
  | .hbm, ⟨2, _⟩ => ⟨S_, .f32⟩
  | .hbm, ⟨3, _⟩ => ⟨S384x512, .f32⟩
  | .hbm, ⟨4, _⟩ => ⟨S8192x384, .f32⟩
  | .hbm, ⟨5, _⟩ => ⟨S8192x512, .f32⟩
  | .hbm, ⟨6, _⟩ => ⟨S8192x512, .f32⟩
  | .hbm, ⟨7, _⟩ => ⟨S512x384, .f32⟩
  | .hbm, ⟨8, _⟩ => ⟨S384x512, .f32⟩
  | .hbm, ⟨9, _⟩ => ⟨S384x512, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KeyValueWeight.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeyValueWeightReferenceIdeal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x256, .f32⟩
  | .hbm, ⟨5, _⟩ => ⟨S8192x2048, .f32⟩
  | .hbm, ⟨6, _⟩ => ⟨S8192x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemoryWeight.lean ====
abbrev S256x1024 : Shape := ⟨2, ![256, 1024]⟩
abbrev S256x2048 : Shape := ⟨2, ![256, 2048]⟩
abbrev S1024x2048 : Shape := ⟨2, ![1024, 2048]⟩
abbrev S256x512 : Shape := ⟨2, ![256, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S1024x2048, .bf16⟩
  | .local _ .vmem, ⟨0, _⟩ => ⟨S256x512, .bf16⟩
  | .local _ .vmem, ⟨1, _⟩ => ⟨S256x512, .bf16⟩
  | .local _ .vmem, ⟨2, _⟩ => ⟨S256x2048, .f32⟩
  | .local _ .vmem, ⟨3, _⟩ => ⟨S512x2048, .bf16⟩
  | .local _ .vmem, ⟨4, _⟩ => ⟨S512x2048, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemoryWeightReferenceIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Attention.lean ====
abbrev S8192x1024 : Shape := ⟨2, ![8192, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttentionReferenceIdeal.lean ====
abbrev S8192x1024 : Shape := ⟨2, ![8192, 1024]⟩
abbrev S256x2048 : Shape := ⟨2, ![256, 2048]⟩
abbrev S256x1024 : Shape := ⟨2, ![256, 1024]⟩
abbrev S256x4x256 : Shape := ⟨3, ![256, 4, 256]⟩
abbrev S8192x4x256 : Shape := ⟨3, ![8192, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .f32⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S256x4x256, .f32⟩
  | .hbm, ⟨7, _⟩ => ⟨S256x4x256, .f32⟩
  | .hbm, ⟨8, _⟩ => ⟨S8192x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x256x8192, .f32⟩
  | .hbm, ⟨28, _⟩ => ⟨S8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Softmax.lean ====
/-
  THE SOFTMAX OF ONE ROW OF SCORES AND ITS GRADIENT, on the extended reals.

  A query sees `n` memory slots; `s j` is its score with slot `j` and `g j` the derivative of the loss by the probability the softmax gives that slot. The derivative by
  the score is written here in the two ways that the two programs write it:

  * `dscore`: `p_j (g_j − Σ_k p_k g_k)`, with the probabilities `p`;
  * `dquot`: the derivative of the quotient `e_j / Z` taken rule by rule, `(g_j / Z − Σ_k g_k (1 / Z²) e_k) e_j`, with the exponentials `e` and their sum `Z`.

  `dquot_eq_dscore` says they agree whenever the exponentials are real numbers, none negative, with a positive sum, whatever `g` is: infinite entries of `g` included. The last
  section shows that real scores give such exponentials.
-/
module

public import Idealize.ShloMosaic.Lib.IdealHost
public import Idealize.ShloMosaic.PureOps.IdealRules

@[expose] public section

noncomputable section

namespace Cert.Attend

open Idealize.ShloMosaic

variable {n : ℕ}

/-- The largest score of a row. -/
def peak (s : Fin n → EReal) : EReal := Finset.univ.fold max ⊥ s

/-- The exponential of a score measured from the row's largest. -/
def wt (s : Fin n → EReal) (j : Fin n) : EReal := Ideal.exp (s j - peak s)

/-- The sum of a row's exponentials. -/
def mass (s : Fin n → EReal) : EReal := ∑ j, wt s j

/-- The probability that the softmax of the row gives slot `j`. -/
def prob (s : Fin n → EReal) (j : Fin n) : EReal := Ideal.div (wt s j) (mass s)

/-- The derivative by score `j`, from the derivatives `g` by the probabilities: the probability times `g`'s distance from its mean under the probabilities. -/
def dscore (s g : Fin n → EReal) (j : Fin n) : EReal := prob s j * (g j - ∑ k, prob s k * g k)

/-- The derivative by score `j` by the rule of the quotient. -/
def dquot (s g : Fin n → EReal) (j : Fin n) : EReal :=
  (Ideal.div (g j) (mass s) + -(∑ k, g k * Ideal.div 1 (mass s * mass s) * wt s k)) * wt s j

/-- What the exponentials of a row must be for the two derivatives to agree. -/
structure Tame (s : Fin n → EReal) : Prop where
  /-- Each exponential is a real number and not negative. -/
  wt_real : ∀ j, ∃ r : ℝ, 0 ≤ r ∧ wt s j = (r : EReal)
  /-- Their sum is a positive real number. -/
  mass_real : ∃ z : ℝ, 0 < z ∧ mass s = (z : EReal)

/-! ### A real factor and a sum -/

/-- A real factor moves into a sum of two extended reals when it is not negative. -/
theorem real_mul_add {r : ℝ} (hr : 0 ≤ r) (x y : EReal) : (r : EReal) * (x + y) = r * x + r * y :=
  EReal.left_distrib_of_nonneg_of_ne_top (EReal.coe_nonneg.mpr hr) (EReal.coe_ne_top r) x y

/-- A real factor moves into a finite sum of extended reals when it is not negative. -/
theorem real_mul_sum {ι : Type*} {r : ℝ} (hr : 0 ≤ r) (A : Finset ι) (f : ι → EReal) : (r : EReal) * ∑ i ∈ A, f i = ∑ i ∈ A, (r : EReal) * f i := by
  classical
  induction A using Finset.induction_on with
  | empty => simp
  | insert i A hi ih => rw [Finset.sum_insert hi, Finset.sum_insert hi, real_mul_add hr, ih]

/-- The quotient by a real number other than zero is the product with its inverse. -/
theorem div_real (x : EReal) {z : ℝ} (hz : z ≠ 0) : Ideal.div x (z : EReal) = x * ((z⁻¹ : ℝ) : EReal) := by
  rw [Ideal.div, if_neg (by exact_mod_cast hz), EReal.coe_inv]

/-- The two ways of writing the derivative by a score agree. -/
theorem dquot_eq_dscore {s : Fin n → EReal} (hs : Tame s) (g : Fin n → EReal) (j : Fin n) : dquot s g j = dscore s g j := by
  obtain ⟨z, hz, hZ⟩ := hs.mass_real
  choose e he hwt using hs.wt_real
  have hi : 0 ≤ z⁻¹ := inv_nonneg.mpr hz.le
  have hp : ∀ k, prob s k = ((e k * z⁻¹ : ℝ) : EReal) := fun k => by rw [prob, hZ, hwt, div_real _ hz.ne', ← EReal.coe_mul]
  have hsum : ∑ k, g k * Ideal.div 1 (mass s * mass s) * wt s k = ((z⁻¹ : ℝ) : EReal) * ∑ k, prob s k * g k := by
    rw [real_mul_sum hi]
    refine Finset.sum_congr rfl fun k _ => ?_
    rw [hp, hwt, hZ, ← EReal.coe_mul, div_real _ (mul_pos hz hz).ne', one_mul, mul_inv, EReal.coe_mul (e k), EReal.coe_mul z⁻¹ z⁻¹]
    ac_rfl
  rw [dquot, dscore, hsum, hp j, hZ, div_real _ hz.ne', hwt, mul_comm (g j), ← mul_neg, ← real_mul_add hi, EReal.coe_mul, sub_eq_add_neg]
  ac_rfl

/-! ### Real scores -/

/-- Some score is the largest one, when there is a score. -/
theorem peak_mem (s : Fin n → EReal) (i : Fin n) : ∃ k, peak s = s k := by
  have h : ∀ A : Finset (Fin n), A.fold max ⊥ s = ⊥ ∨ ∃ k, A.fold max ⊥ s = s k := fun A => by
    classical
    induction A using Finset.induction_on with
    | empty => exact .inl rfl
    | insert a A ha ih =>
      rw [Finset.fold_insert ha]
      rcases max_choice (s a) (A.fold max ⊥ s) with hm | hm
      · exact .inr ⟨a, hm⟩
      · rw [hm]; exact ih
  rcases h Finset.univ with h | h
  · refine ⟨i, le_antisymm (by rw [peak, h]; exact bot_le) ?_⟩
    exact (Finset.le_fold_max (s i)).mpr (.inr ⟨i, Finset.mem_univ i, le_rfl⟩)
  · exact h

/-- The row of real scores has real exponentials, none negative, with a positive real sum. -/
theorem Tame.of_real {s : Fin n → EReal} (i : Fin n) (hs : ∀ j, ∃ r : ℝ, s j = (r : EReal)) : Tame s := by
  obtain ⟨k, hk⟩ := peak_mem s i
  choose r hr using hs
  have hw : ∀ j, wt s j = ((Real.exp (r j - r k) : ℝ) : EReal) := fun j => by
    rw [wt, hk, hr j, hr k, ← EReal.coe_sub]; rfl
  refine ⟨fun j => ⟨_, (Real.exp_pos _).le, hw j⟩, ∑ j, Real.exp (r j - r k), Finset.sum_pos (fun j _ => Real.exp_pos _) ⟨i, Finset.mem_univ i⟩, ?_⟩
  have hc : ∀ A : Finset (Fin n), ((∑ j ∈ A, Real.exp (r j - r k) : ℝ) : EReal) = ∑ j ∈ A, wt s j := fun A => by
    classical
    induction A using Finset.induction_on with
    | empty => simp
    | insert a A ha ih => rw [Finset.sum_insert ha, Finset.sum_insert ha, EReal.coe_add, ih, hw]
  exact (hc Finset.univ).symm

end Cert.Attend

end
-- ==== Proof.Spec.lean ====
/-
  THE GRADIENT OF A CROSS-ATTENTION, entry by entry: what both programs compute.

  Each of 8192 query rows has four heads of 256 columns, and looks at 256 memory slots. The memory's array holds a key and a value per slot and head.
-/
module

public import proofs.«01_k».proof.Proof.Softmax
public import Idealize.ShloMosaic.Lib.Pointwise.Index

@[expose] public section

noncomputable section

namespace Cert.Attend

open Idealize.ShloMosaic

/-- The factor `1 / √256` on every score. -/
def scale : EReal := ((1 / 16 : ℝ) : EReal)

/-- The word of the factor denotes it. -/
theorem word_scale : Ideal.ofBits .f32 0x3D800000#32 = scale := by
  simp [Ideal.ofBits, Ideal.ieee, scale, -EReal.coe_mul]; norm_num

/-- The word from which a maximum starts denotes `−∞`. -/
theorem word_bot : Ideal.ofBits .f32 0xFF800000#32 = (⊥ : EReal) := by
  simp [Ideal.ofBits, Ideal.ieee]

/-- The product of two vectors. -/
def dot {n : ℕ} (x y : Fin n → EReal) : EReal := ∑ d, x d * y d

/-- The scores of a query `q` against the keys `K`. -/
def logits {n : ℕ} (q : Fin n → EReal) (K : Fin n → Fin n → EReal) (j : Fin n) : EReal := dot q (K j) * scale

/-- The derivatives by the scores before their factor, of a query `q` whose output has the derivative `g`. -/
def dlogits {n : ℕ} (q g : Fin n → EReal) (K V : Fin n → Fin n → EReal) (j : Fin n) : EReal :=
  dscore (logits q K) (fun k => dot g (V k)) j * scale

/-! ### The arrays

The arrays hold four heads side by side, 256 columns each; the memory's array holds the keys and then the values. -/

/-- Column `d` of head `h`. -/
def col (h : Fin 4) (d : Fin 256) : Fin 1024 := ⟨h.val * 256 + d.val, by omega⟩

/-- Every column is a column of a head. -/
theorem exists_col (c : Fin 1024) : ∃ h d, c = col h d :=
  ⟨⟨c.val / 256, by omega⟩, ⟨c.val % 256, by omega⟩, Fin.ext (by show c.val = c.val / 256 * 256 + c.val % 256; omega)⟩

/-- Where the keys' column `c` is in the memory's array. -/
def keyCol (c : Fin 1024) : Fin 2048 := ⟨c.val, by omega⟩

/-- Where the values' column `c` is in the memory's array. -/
def valCol (c : Fin 1024) : Fin 2048 := ⟨1024 + c.val, by omega⟩

/-- Every column of the memory's array is a key's or a value's. -/
theorem exists_keyCol_or_valCol (c : Fin 2048) : (∃ h d, c = keyCol (col h d)) ∨ ∃ h d, c = valCol (col h d) := by
  by_cases hc : c.val < 1024
  · obtain ⟨h, d, e⟩ := exists_col ⟨c.val, hc⟩
    exact .inl ⟨h, d, by rw [← e]; rfl⟩
  · obtain ⟨h, d, e⟩ := exists_col ⟨c.val - 1024, by omega⟩
    exact .inr ⟨h, d, by rw [← e]; exact Fin.ext (by show c.val = 1024 + (c.val - 1024); omega)⟩

/-- The head that a column of the memory's array belongs to. -/
def headOf (c : Fin 2048) : Fin 4 := ⟨c.val % 1024 / 256, by omega⟩

/-- The place of a column within its head. -/
def within (c : Fin 2048) : Fin 256 := ⟨c.val % 256, by omega⟩

theorem headOf_key (h : Fin 4) (d : Fin 256) : headOf (keyCol (col h d)) = h := Fin.ext (by simp only [headOf, keyCol, col]; omega)

theorem within_key (h : Fin 4) (d : Fin 256) : within (keyCol (col h d)) = d := Fin.ext (by simp only [within, keyCol, col]; omega)

theorem headOf_val (h : Fin 4) (d : Fin 256) : headOf (valCol (col h d)) = h := Fin.ext (by simp only [headOf, valCol, col]; omega)

theorem within_val (h : Fin 4) (d : Fin 256) : within (valCol (col h d)) = d := Fin.ext (by simp only [within, valCol, col]; omega)

/-- Row `r` of a table with two axes. -/
abbrev row {n w : ℕ} (x : (⟨2, ![n, w]⟩ : Shape).Idx → EReal) (r : Fin n) : Fin w → EReal := fun d => x (ix2 r d)

/-- The part of row `r` that belongs to head `h`. -/
abbrev headRow {n : ℕ} (x : (⟨2, ![n, 1024]⟩ : Shape).Idx → EReal) (h : Fin 4) (r : Fin n) : Fin 256 → EReal := fun d => x (ix2 r (col h d))

/-- The keys of head `h`. -/
abbrev keys (x : (⟨2, ![256, 2048]⟩ : Shape).Idx → EReal) (h : Fin 4) (j : Fin 256) : Fin 256 → EReal := fun d => x (ix2 j (keyCol (col h d)))

/-- The values of head `h`. -/
abbrev values (x : (⟨2, ![256, 2048]⟩ : Shape).Idx → EReal) (h : Fin 4) (j : Fin 256) : Fin 256 → EReal := fun d => x (ix2 j (valCol (col h d)))

section Gradient

variable (q : (⟨2, ![8192, 1024]⟩ : Shape).Idx → EReal) (mkv : (⟨2, ![256, 2048]⟩ : Shape).Idx → EReal) (g : (⟨2, ![8192, 1024]⟩ : Shape).Idx → EReal)

/-- The derivative by the query at row `s`, column `d` of head `h`. -/
def dquery (h : Fin 4) (s : Fin 8192) (d : Fin 256) : EReal :=
  ∑ j, dlogits (headRow q h s) (headRow g h s) (keys mkv h) (values mkv h) j * keys mkv h j d

/-- What row `s` of the query adds to the derivative by key `j` at column `d` of head `h`. -/
def dkeyTerm (h : Fin 4) (j d : Fin 256) (s : Fin 8192) : EReal :=
  dlogits (headRow q h s) (headRow g h s) (keys mkv h) (values mkv h) j * headRow q h s d

/-- What row `s` of the query adds to the derivative by value `j` at column `d` of head `h`. -/
def dvalTerm (h : Fin 4) (j d : Fin 256) (s : Fin 8192) : EReal :=
  prob (logits (headRow q h s) (keys mkv h)) j * headRow g h s d

/-- The derivative by key `j` at column `d` of head `h`. -/
def dkey (h : Fin 4) (j d : Fin 256) : EReal := ∑ s, dkeyTerm q mkv g h j d s

/-- The derivative by value `j` at column `d` of head `h`. -/
def dval (h : Fin 4) (j d : Fin 256) : EReal := ∑ s, dvalTerm q mkv g h j d s

/-- What row `s` of the query adds to the derivative by the memory at row `j` of its array, at any column. -/
def dmemTerm (j : Fin 256) (c : Fin 2048) (s : Fin 8192) : EReal :=
  if c.val < 1024 then dkeyTerm q mkv g (headOf c) j (within c) s else dvalTerm q mkv g (headOf c) j (within c) s

theorem dmemTerm_key (h : Fin 4) (j d : Fin 256) (s : Fin 8192) : dmemTerm q mkv g j (keyCol (col h d)) s = dkeyTerm q mkv g h j d s := by
  rw [dmemTerm, if_pos (show (keyCol (col h d)).val < 1024 from (col h d).isLt), headOf_key, within_key]

theorem dmemTerm_val (h : Fin 4) (j d : Fin 256) (s : Fin 8192) : dmemTerm q mkv g j (valCol (col h d)) s = dvalTerm q mkv g h j d s := by
  rw [dmemTerm, if_neg (show ¬(valCol (col h d)).val < 1024 from Nat.not_lt.mpr (Nat.le_add_right _ _)), headOf_val, within_val]

end Gradient

end Cert.Attend

end
-- ==== Proof.Block.lean ====
/-
  ONE HEAD OF ONE BLOCK: what each value that the kernel stores is at an index.

  At a grid point the kernel holds 512 rows of the query and of the output's derivative, and the whole memory: 256 keys and 256 values. It goes head by head, and for each head
  stores one block of the query's derivative and adds one block to the keys' derivative and one to the values'. The printed text cuts the same arithmetic differently from one
  head to the next; the lemmas of `Head 0` read it once, and those of the other heads are the same terms.
-/
module

public import proofs.«01_k».proof.Proof.Gen.KernelIdeal.Value
public import proofs.«01_k».proof.Proof.Spec
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.KernelIdeal.Block

open Cert.KernelIdeal Cert.KernelIdeal.Gen Cert.Attend Idealize.ShloMosaic Idealize.ShloMosaic.TcCoe

variable (q g : S512x256.Idx → Elt Ideal .bf16) (k v : S256x256.Idx → Elt Ideal .bf16) (a : S256x256.Idx → Elt Ideal .f32)

/-! ### Head 0 -/

/-- The query's derivative. -/
theorem dq0 (r : Fin 512) (d : Fin 256) :
    k0_pay11 (k0_pay4 g v) k (k0_pay7 q k) (k0_pay8 q k) (ix2 r d)
      = ∑ j, dlogits (row q r) (row g r) (row k) (row v) j * k (ix2 j d) := by
  unfold_payloads
  pointwise [dot_S512x256_S256x256_S512x256_1_1_0_0_n_n, dot_S512x256_S256x256_S512x256_1_0_0_1_n_n, word_scale, word_bot]
  rfl

/-- The keys' derivative: what was there, and this block's rows. -/
theorem dk0 (j d : Fin 256) :
    k0_pay12 (k0_pay4 g v) q (k0_pay7 q k) (k0_pay8 q k) a (ix2 j d)
      = a (ix2 j d) + ∑ r, dlogits (row q r) (row g r) (row k) (row v) j * q (ix2 r d) := by
  unfold_payloads
  pointwise [dot_S512x256_S256x256_S512x256_1_1_0_0_n_n, dot_S512x256_S512x256_S256x256_0_0_1_1_n_n, word_scale, word_bot]
  rfl

/-- The values' derivative: what was there, and this block's rows. -/
theorem dv0 (j d : Fin 256) :
    k0_pay13 g (k0_pay7 q k) (k0_pay8 q k) a (ix2 j d)
      = a (ix2 j d) + ∑ r, prob (logits (row q r) (row k)) j * g (ix2 r d) := by
  unfold_payloads
  pointwise [dot_S512x256_S256x256_S512x256_1_1_0_0_n_n, dot_S512x256_S512x256_S256x256_0_0_1_1_n_n, word_scale, word_bot]
  rfl

/-! ### The other heads -/

theorem dq1 : k0_pay18 (k0_pay5 q k) (k0_pay6 g v) k = k0_pay11 (k0_pay4 g v) k (k0_pay7 q k) (k0_pay8 q k) := rfl

theorem dk1 : k0_pay19 (k0_pay5 q k) (k0_pay6 g v) q a = k0_pay12 (k0_pay4 g v) q (k0_pay7 q k) (k0_pay8 q k) a := rfl

theorem dv1 : k0_pay20 (k0_pay5 q k) g a = k0_pay13 g (k0_pay7 q k) (k0_pay8 q k) a := rfl

theorem dq2 : k0_pay25 (k0_pay14 q k) (k0_pay15 g v) k = k0_pay11 (k0_pay4 g v) k (k0_pay7 q k) (k0_pay8 q k) := rfl

theorem dk2 : k0_pay26 q (k0_pay24 (k0_pay14 q k) (k0_pay15 g v)) a = k0_pay12 (k0_pay4 g v) q (k0_pay7 q k) (k0_pay8 q k) a := rfl

theorem dv2 : k0_pay27 g (k0_pay23 (k0_pay14 q k)) a = k0_pay13 g (k0_pay7 q k) (k0_pay8 q k) a := rfl

theorem dq3 : k0_pay30 (k0_pay21 q k) (k0_pay22 g v) k = k0_pay11 (k0_pay4 g v) k (k0_pay7 q k) (k0_pay8 q k) := rfl

theorem dk3 : k0_pay1 q (k0_pay29 (k0_pay21 q k) (k0_pay22 g v)) a = k0_pay12 (k0_pay4 g v) q (k0_pay7 q k) (k0_pay8 q k) a := rfl

theorem dv3 : k0_pay2 g (k0_pay28 (k0_pay21 q k)) a = k0_pay13 g (k0_pay7 q k) (k0_pay8 q k) a := rfl

end Cert.KernelIdeal.Block

end
-- ==== Proof.Arrays.lean ====
/-
  THE KERNEL'S TWO ARRAYS. The grid walks down the query in 16 blocks of 512 rows. Each point writes its own block of the query's derivative; the derivative by the memory stays in
  one buffer, cleared at the first point and added to at every point, and goes out after the last.
-/
module

public import proofs.«01_k».proof.Proof.Block
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.KernelIdeal.Arrays

open Cert.KernelIdeal Cert.KernelIdeal.Gen Cert.KernelIdeal.Block Cert.Attend Idealize.ShloMosaic Idealize.ShloMosaic.TcCoe Idealize.SL.Sem

variable (m : (ℓ : Loc nD τ sig) → Buf (Elt Ideal) ℓ) (c : Dev nD)

/-- The query. -/
abbrev Q : S8192x1024.Idx → EReal := m ((c.tc : Thread nD τ).loc main_arg0)

/-- The memory: keys and values. -/
abbrev MKV : S256x2048.Idx → EReal := m ((c.tc : Thread nD τ).loc main_arg1)

/-- The derivative by the output. -/
abbrev G : S8192x1024.Idx → EReal := m ((c.tc : Thread nD τ).loc main_arg2)

theorem points : cfg0.N = 16 := rfl

/-- The array's row that is row `r` of block `t`. -/
def rowAt (t : Fin cfg0.N) (r : Fin 512) : Fin 8192 := ⟨t.val * 512 + r.val, by have : t.val < 16 := t.isLt; omega⟩

/-! ### The blocks a point reads -/

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = 0 ∧ win0_2.index t 1 = 1 :=
  (by decide +kernel : ∀ t : Fin grid0.N, win0_2.index t 0 = 0 ∧ win0_2.index t 1 = 1)

theorem place3 : ∀ t : Fin cfg0.N, win0_3.index t 0 = t.val ∧ win0_3.index t 1 = 0 :=
  (by decide +kernel : ∀ t : Fin grid0.N, win0_3.index t 0 = t.val ∧ win0_3.index t 1 = 0)

theorem place4 : ∀ t : Fin cfg0.N, win0_4.index t 0 = t.val ∧ win0_4.index t 1 = 0 :=
  (by decide +kernel : ∀ t : Fin grid0.N, win0_4.index t 0 = t.val ∧ win0_4.index t 1 = 0)

variable (t : Fin cfg0.N)

/-- The query's block. -/
theorem iblk_q (r : Fin 512) (k : Fin 1024) : iblk m c 0 t (ix2 r k) = Q m c (ix2 (rowAt t r) k) := by
  blk_ext [iblk, V, place0 t, rowAt]

/-- The keys. -/
theorem iblk_k (j : Fin 256) (k : Fin 1024) : iblk m c 1 t (ix2 j k) = MKV m c (ix2 j (keyCol k)) := by
  blk_ext [iblk, V, place1 t, keyCol]

/-- The values. -/
theorem iblk_v (j : Fin 256) (k : Fin 1024) : iblk m c 2 t (ix2 j k) = MKV m c (ix2 j (valCol k)) := by
  blk_ext [iblk, V, place2 t, valCol]

/-- The block of the output's derivative. -/
theorem iblk_g (r : Fin 512) (k : Fin 1024) : iblk m c 3 t (ix2 r k) = G m c (ix2 (rowAt t r) k) := by
  blk_ext [iblk, V, place3 t, rowAt]

/-! ### One head's columns of the blocks -/

section Tiles

variable {o : ℕ} (hd : Fin 4) (ho : o = hd.val * 256)
include ho

theorem tile_q (inb) (r : Fin 512) (d : Fin 256) :
    View.ld (iblk m c 0 t) (Rect.unit ![0, o] ![512, 256] inb) (ix2 r d) = headRow (Q m c) hd (rowAt t r) d := by
  rw [View.ld_unit_apply_of _ _ _ _ _ (ix2 r (col hd d)) (by simp [col, ho])]
  exact iblk_q m c t r (col hd d)

theorem tile_g (inb) (r : Fin 512) (d : Fin 256) :
    View.ld (iblk m c 3 t) (Rect.unit ![0, o] ![512, 256] inb) (ix2 r d) = headRow (G m c) hd (rowAt t r) d := by
  rw [View.ld_unit_apply_of _ _ _ _ _ (ix2 r (col hd d)) (by simp [col, ho])]
  exact iblk_g m c t r (col hd d)

theorem tile_k (inb) (j d : Fin 256) :
    View.ld (iblk m c 1 t) (Rect.unit ![0, o] ![256, 256] inb) (ix2 j d) = keys (MKV m c) hd j d := by
  rw [View.ld_unit_apply_of _ _ _ _ _ (ix2 j (col hd d)) (by simp [col, ho])]
  exact iblk_k m c t j (col hd d)

theorem tile_v (inb) (j d : Fin 256) :
    View.ld (iblk m c 2 t) (Rect.unit ![0, o] ![256, 256] inb) (ix2 j d) = values (MKV m c) hd j d := by
  rw [View.ld_unit_apply_of _ _ _ _ _ (ix2 j (col hd d)) (by simp [col, ho])]
  exact iblk_v m c t j (col hd d)

/-- The query's derivative of one head, as the point computes it. -/
theorem dq_tile (i1 i2 i3 i4) (r : Fin 512) (d : Fin 256) :
    k0_pay11 (k0_pay4 (View.ld (iblk m c 3 t) (Rect.unit ![0, o] ![512, 256] i1)) (View.ld (iblk m c 2 t) (Rect.unit ![0, o] ![256, 256] i2)))
        (View.ld (iblk m c 1 t) (Rect.unit ![0, o] ![256, 256] i3))
        (k0_pay7 (View.ld (iblk m c 0 t) (Rect.unit ![0, o] ![512, 256] i4)) (View.ld (iblk m c 1 t) (Rect.unit ![0, o] ![256, 256] i3)))
        (k0_pay8 (View.ld (iblk m c 0 t) (Rect.unit ![0, o] ![512, 256] i4)) (View.ld (iblk m c 1 t) (Rect.unit ![0, o] ![256, 256] i3))) (ix2 r d)
      = dquery (Q m c) (MKV m c) (G m c) hd (rowAt t r) d := by
  rw [dq0]
  unfold dquery row
  simp only [tile_q m c t hd ho, tile_g m c t hd ho, tile_k m c t hd ho, tile_v m c t hd ho]

/-- What the point adds to the keys' derivative of one head. -/
theorem dk_tile (i1 i2 i3 i4) (a) (j d : Fin 256) :
    k0_pay12 (k0_pay4 (View.ld (iblk m c 3 t) (Rect.unit ![0, o] ![512, 256] i1)) (View.ld (iblk m c 2 t) (Rect.unit ![0, o] ![256, 256] i2)))
        (View.ld (iblk m c 0 t) (Rect.unit ![0, o] ![512, 256] i4))
        (k0_pay7 (View.ld (iblk m c 0 t) (Rect.unit ![0, o] ![512, 256] i4)) (View.ld (iblk m c 1 t) (Rect.unit ![0, o] ![256, 256] i3)))
        (k0_pay8 (View.ld (iblk m c 0 t) (Rect.unit ![0, o] ![512, 256] i4)) (View.ld (iblk m c 1 t) (Rect.unit ![0, o] ![256, 256] i3))) a (ix2 j d)
      = a (ix2 j d) + ∑ r : Fin 512, dkeyTerm (Q m c) (MKV m c) (G m c) hd j d (rowAt t r) := by
  rw [dk0]
  unfold dkeyTerm row
  simp only [tile_q m c t hd ho, tile_g m c t hd ho, tile_k m c t hd ho, tile_v m c t hd ho]

/-- What the point adds to the values' derivative of one head. -/
theorem dv_tile (i1 i3 i4) (a) (j d : Fin 256) :
    k0_pay13 (View.ld (iblk m c 3 t) (Rect.unit ![0, o] ![512, 256] i1))
        (k0_pay7 (View.ld (iblk m c 0 t) (Rect.unit ![0, o] ![512, 256] i4)) (View.ld (iblk m c 1 t) (Rect.unit ![0, o] ![256, 256] i3)))
        (k0_pay8 (View.ld (iblk m c 0 t) (Rect.unit ![0, o] ![512, 256] i4)) (View.ld (iblk m c 1 t) (Rect.unit ![0, o] ![256, 256] i3))) a (ix2 j d)
      = a (ix2 j d) + ∑ r : Fin 512, dvalTerm (Q m c) (MKV m c) (G m c) hd j d (rowAt t r) := by
  rw [dv0]
  unfold dvalTerm row
  simp only [tile_q m c t hd ho, tile_g m c t hd ho, tile_k m c t hd ho, tile_v m c t hd ho]

end Tiles

/-! ### What a point leaves -/

/-- The query's block of the derivative. -/
def dqBlock : S512x1024.Idx → Elt Ideal .bf16 := fun y =>
  dquery (Q m c) (MKV m c) (G m c) (headOf (keyCol (y 1))) (rowAt t (y 0)) (within (keyCol (y 1)))

/-- The memory's derivative after the point, over what was there before it. -/
def dmStep (p : S256x2048.Idx → Elt Ideal .f32) : S256x2048.Idx → Elt Ideal .f32 := fun y =>
  (p y + ∑ r : Fin 512, dmemTerm (Q m c) (MKV m c) (G m c) (y 0) (y 1) (rowAt t r) : EReal)

theorem dqBlock_emb {o : ℕ} (hd : Fin 4) (ho : o = hd.val * 256) (inb) (r : Fin 512) (d : Fin 256) :
    dqBlock m c t ((Rect.unit (s := S512x1024) ![0, o] ![512, 256] inb).emb (ix2 r d)) = dquery (Q m c) (MKV m c) (G m c) hd (rowAt t r) d := by
  have e : (Rect.unit (s := S512x1024) ![0, o] ![512, 256] inb).emb (ix2 r d) = ix2 r (col hd d) := by
    blk_ext [col, ho]
  rw [e]
  show dquery _ _ _ (headOf (keyCol (col hd d))) (rowAt t r) (within (keyCol (col hd d))) = _
  rw [headOf_key, within_key]

theorem dmStep_key (p) {o : ℕ} (hd : Fin 4) (ho : o = hd.val * 256) (inb) (j d : Fin 256) :
    dmStep m c t p ((Rect.unit (s := S256x2048) ![0, o] ![256, 256] inb).emb (ix2 j d))
      = View.ld (Val := Elt Ideal) (e' := .f32) (S := S256x2048) p (Rect.unit ![0, o] ![256, 256] inb) (ix2 j d) + ∑ r : Fin 512, dkeyTerm (Q m c) (MKV m c) (G m c) hd j d (rowAt t r) := by
  have e : (Rect.unit (s := S256x2048) ![0, o] ![256, 256] inb).emb (ix2 j d) = ix2 j (keyCol (col hd d)) := by
    blk_ext [col, keyCol, ho]
  rw [dmStep, View.ld_apply]
  refine congrArg₂ (· + ·) rfl (Finset.sum_congr rfl fun r _ => ?_)
  rw [e]
  exact dmemTerm_key _ _ _ hd j d _

theorem dmStep_val (p) {o : ℕ} (hd : Fin 4) (ho : o = 1024 + hd.val * 256) (inb) (j d : Fin 256) :
    dmStep m c t p ((Rect.unit (s := S256x2048) ![0, o] ![256, 256] inb).emb (ix2 j d))
      = View.ld (Val := Elt Ideal) (e' := .f32) (S := S256x2048) p (Rect.unit ![0, o] ![256, 256] inb) (ix2 j d) + ∑ r : Fin 512, dvalTerm (Q m c) (MKV m c) (G m c) hd j d (rowAt t r) := by
  have e : (Rect.unit (s := S256x2048) ![0, o] ![256, 256] inb).emb (ix2 j d) = ix2 j (valCol (col hd d)) := by
    blk_ext [col, valCol, ho]
  rw [dmStep, View.ld_apply]
  refine congrArg₂ (· + ·) rfl (Finset.sum_congr rfl fun r _ => ?_)
  rw [e]
  exact dmemTerm_val _ _ _ hd j d _

/-- An equation of two tables holds when it holds at every row and column. -/
theorem on_table {n w : ℕ} {α : Type} {f g : (⟨2, ![n, w]⟩ : Shape).Idx → α} (h : ∀ r d, f (ix2 r d) = g (ix2 r d)) (x) : f x = g x := by
  have e : x = ix2 (x 0) (x 1) := by funext a; match a with | 0 => rfl | 1 => rfl
  rw [e]
  exact h _ _

/-- The query's derivative after a point. -/
theorem dq_after (y : S512x1024.Idx) : (outsAt0 m c t.val t.isLt).1 y = dqBlock m c t y := by
  by_cases h0 : t.val % 16 = 0
  · rw [outsAt0_A m c t h0]
    frame_out
    refine View.canon_append_of_piecesOf (dqBlock m c t) [] [_, _, _, _] ?_ y ?_
    · exact ⟨
        on_table fun r d => (congrFun (dq3 _ _ _ _) _).trans <| (dq_tile m c t 3 rfl _ _ _ _ r d).trans (dqBlock_emb m c t 3 rfl inb_S512x1024_S512x256_0_768 r d).symm,
        on_table fun r d => (congrFun (dq2 _ _ _ _) _).trans <| (dq_tile m c t 2 rfl _ _ _ _ r d).trans (dqBlock_emb m c t 2 rfl inb_S512x1024_S512x256_0_512 r d).symm,
        on_table fun r d => (congrFun (dq1 _ _ _ _) _).trans <| (dq_tile m c t 1 rfl _ _ _ _ r d).trans (dqBlock_emb m c t 1 rfl inb_S512x1024_S512x256_0_256 r d).symm,
        on_table fun r d => (dq_tile m c t 0 rfl _ _ _ _ r d).trans (dqBlock_emb m c t 0 rfl inb_S512x1024_S512x256_0_0 r d).symm, trivial⟩
    · exact View.cover_of_tiled _ ![512, 256] rfl y
  · rw [outsAt0_B m c t h0]
    frame_out
    refine View.canon_append_of_piecesOf (dqBlock m c t) [] [_, _, _, _] ?_ y ?_
    · exact ⟨
        on_table fun r d => (congrFun (dq3 _ _ _ _) _).trans <| (dq_tile m c t 3 rfl _ _ _ _ r d).trans (dqBlock_emb m c t 3 rfl inb_S512x1024_S512x256_0_768 r d).symm,
        on_table fun r d => (congrFun (dq2 _ _ _ _) _).trans <| (dq_tile m c t 2 rfl _ _ _ _ r d).trans (dqBlock_emb m c t 2 rfl inb_S512x1024_S512x256_0_512 r d).symm,
        on_table fun r d => (congrFun (dq1 _ _ _ _) _).trans <| (dq_tile m c t 1 rfl _ _ _ _ r d).trans (dqBlock_emb m c t 1 rfl inb_S512x1024_S512x256_0_256 r d).symm,
        on_table fun r d => (dq_tile m c t 0 rfl _ _ _ _ r d).trans (dqBlock_emb m c t 0 rfl inb_S512x1024_S512x256_0_0 r d).symm, trivial⟩
    · exact View.cover_of_tiled _ ![512, 256] rfl y

/-- The memory's derivative after the first point. -/
theorem dm_first (h0 : t.val % 16 = 0) (y : S256x2048.Idx) : (outsAt0 m c t.val t.isLt).2 y = dmStep m c t (k0_pay3 (F := Ideal)) y := by
    rw [outsAt0_A m c t h0]
    frame_out
    simp (disch := decide) only [↓View.readCov_skip, ↓View.readCov_fill]
    refine View.canon_append_of_piecesOf (dmStep m c t (k0_pay3 (F := Ideal))) [_] [_, _, _, _, _, _, _, _] ?_ y ?_
    · exact ⟨
        on_table fun j d => (congrFun (dv3 _ _ _ _) _).trans <| (dv_tile m c t 3 rfl _ _ _ _ j d).trans (dmStep_val m c t _ 3 rfl inb_S256x2048_S256x256_0_1792 j d).symm,
        on_table fun j d => (congrFun (dk3 _ _ _ _ _) _).trans <| (dk_tile m c t 3 rfl _ _ _ _ _ j d).trans (dmStep_key m c t _ 3 rfl inb_S256x2048_S256x256_0_768 j d).symm,
        on_table fun j d => (congrFun (dv2 _ _ _ _) _).trans <| (dv_tile m c t 2 rfl _ _ _ _ j d).trans (dmStep_val m c t _ 2 rfl inb_S256x2048_S256x256_0_1536 j d).symm,
        on_table fun j d => (congrFun (dk2 _ _ _ _ _) _).trans <| (dk_tile m c t 2 rfl _ _ _ _ _ j d).trans (dmStep_key m c t _ 2 rfl inb_S256x2048_S256x256_0_512 j d).symm,
        on_table fun j d => (congrFun (dv1 _ _ _ _) _).trans <| (dv_tile m c t 1 rfl _ _ _ _ j d).trans (dmStep_val m c t _ 1 rfl inb_S256x2048_S256x256_0_1280 j d).symm,
        on_table fun j d => (congrFun (dk1 _ _ _ _ _) _).trans <| (dk_tile m c t 1 rfl _ _ _ _ _ j d).trans (dmStep_key m c t _ 1 rfl inb_S256x2048_S256x256_0_256 j d).symm,
        on_table fun j d => (dv_tile m c t 0 rfl _ _ _ _ j d).trans (dmStep_val m c t _ 0 rfl inb_S256x2048_S256x256_0_1024 j d).symm,
        on_table fun j d => (dk_tile m c t 0 rfl _ _ _ _ _ j d).trans (dmStep_key m c t _ 0 rfl inb_S256x2048_S256x256_0_0 j d).symm, trivial⟩
    · exact View.cover_of_tiled _ ![256, 256] rfl y

/-- The memory's derivative after a later point. -/
theorem dm_next (h0 : ¬t.val % 16 = 0) (y : S256x2048.Idx) :
    (outsAt0 m c t.val t.isLt).2 y = dmStep m c t (outsAt0 m c (t.val - 1) (Nat.lt_of_le_of_lt (Nat.sub_le _ _) t.isLt)).2 y := by
  · rw [outsAt0_B m c t h0]
    frame_out
    refine View.canon_append_of_piecesOf (dmStep m c t (outsAt0 m c (t.val - 1) (Nat.lt_of_le_of_lt (Nat.sub_le _ _) t.isLt)).2) [] [_, _, _, _, _, _, _, _] ?_ y ?_
    · exact ⟨
        on_table fun j d => (congrFun (dv3 _ _ _ _) _).trans <| (dv_tile m c t 3 rfl _ _ _ _ j d).trans (dmStep_val m c t _ 3 rfl inb_S256x2048_S256x256_0_1792 j d).symm,
        on_table fun j d => (congrFun (dk3 _ _ _ _ _) _).trans <| (dk_tile m c t 3 rfl _ _ _ _ _ j d).trans (dmStep_key m c t _ 3 rfl inb_S256x2048_S256x256_0_768 j d).symm,
        on_table fun j d => (congrFun (dv2 _ _ _ _) _).trans <| (dv_tile m c t 2 rfl _ _ _ _ j d).trans (dmStep_val m c t _ 2 rfl inb_S256x2048_S256x256_0_1536 j d).symm,
        on_table fun j d => (congrFun (dk2 _ _ _ _ _) _).trans <| (dk_tile m c t 2 rfl _ _ _ _ _ j d).trans (dmStep_key m c t _ 2 rfl inb_S256x2048_S256x256_0_512 j d).symm,
        on_table fun j d => (congrFun (dv1 _ _ _ _) _).trans <| (dv_tile m c t 1 rfl _ _ _ _ j d).trans (dmStep_val m c t _ 1 rfl inb_S256x2048_S256x256_0_1280 j d).symm,
        on_table fun j d => (congrFun (dk1 _ _ _ _ _) _).trans <| (dk_tile m c t 1 rfl _ _ _ _ _ j d).trans (dmStep_key m c t _ 1 rfl inb_S256x2048_S256x256_0_256 j d).symm,
        on_table fun j d => (dv_tile m c t 0 rfl _ _ _ _ j d).trans (dmStep_val m c t _ 0 rfl inb_S256x2048_S256x256_0_1024 j d).symm,
        on_table fun j d => (dk_tile m c t 0 rfl _ _ _ _ _ j d).trans (dmStep_key m c t _ 0 rfl inb_S256x2048_S256x256_0_0 j d).symm, trivial⟩
    · exact View.cover_of_tiled _ ![256, 256] rfl y

/-! ### The arrays at the end -/

/-- What the first point clears the buffer to. -/
theorem zeros (y : S256x2048.Idx) : k0_pay3 (F := Ideal) y = 0 := by
  unfold_payloads
  pointwise

/-- The memory's derivative after point `n` is the sum over the rows of the blocks up to it. -/
theorem dm_last (h : 15 < cfg0.N) (y : S256x2048.Idx) :
    (outsAt0 m c 15 h).2 y = ∑ s : Fin 8192, dmemTerm (Q m c) (MKV m c) (G m c) (y 0) (y 1) s := by
  rw [Pipeline.eq_sum_fin_of_reset_step_apply_last (M := EReal) (fun n hn y => (outsAt0 m c n hn).2 y) 16 (fun _ => 0)
    (fun t y => ∑ r : Fin 512, dmemTerm (Q m c) (MKV m c) (G m c) (y 0) (y 1) (rowAt t r))
    (fun t h0 y => (dm_first m c t h0 y).trans (congrArg (· + _) (zeros y))) (fun t h0 y => dm_next m c t h0 y) (by decide) ⟨15, h⟩ rfl y, zero_add]
  exact Fin.sum_mul_add_fin 16 512 (fun s => dmemTerm (Q m c) (MKV m c) (G m c) (y 0) (y 1) s) rfl

/-- The query's derivative. -/
def dqArray : S8192x1024.Idx → Elt Ideal .bf16 := fun y =>
  dquery (Q m c) (MKV m c) (G m c) (headOf (keyCol (y 1))) (y 0) (within (keyCol (y 1)))

/-- The memory's derivative. -/
def dmArray : S256x2048.Idx → Elt Ideal .f32 := fun y =>
  (∑ s : Fin 8192, dmemTerm (Q m c) (MKV m c) (G m c) (y 0) (y 1) s : EReal)

theorem dq_end : (dats m 0 c).arrAt 4 cfg0.N = dqArray m c := by
  refine (dats m 0 c).arrAt_eq_of_covers 4 _ (by decide +kernel) fun t hf y => ?_
  blk_simp
  rw [after0_4]
  refine (dq_after m c t y).trans ?_
  have e : (win0_4.blk t).view.emb y = ix2 (rowAt t (y 0)) (y 1) := by
    blk_ext [place4 t, rowAt]
  rw [e]
  rfl

/-- The last point. -/
def lastPoint : Fin cfg0.N := ⟨15, by decide⟩

theorem dm_end : (dats m 0 c).arrAt 5 cfg0.N = dmArray m c := by
  refine (dats m 0 c).arrAt_eq_of_after_last 5 lastPoint (by decide +kernel) _ fun j => ?_
  blk_simp
  rw [after0_5]
  exact dm_last m c _ j

end Cert.KernelIdeal.Arrays

end
-- ==== Proof.Reference.lean ====
/-
  THE REFERENCE, ENTRY BY ENTRY. The reference differentiates the attention, line by line, with the rules of the product, the exponential, the sum and the quotient: it reaches the
  derivative by the scores in the form `dquot`. Each lemma below reads one line at an index from the lines before it.
-/
module

public import proofs.«01_k».proof.Proof.Gen.ReferenceIdeal.Read
public import proofs.«01_k».proof.Proof.Spec
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select

@[expose] public section

noncomputable section

namespace Cert.ReferenceIdeal.Gradient

open Cert.ReferenceIdeal Cert.ReferenceIdeal.Gen Cert.ReferenceIdeal.Read Cert.Attend Idealize.ShloMosaic Idealize.ShloMosaic.TcCoe Idealize.SL.Sem

variable (q : (⟨S8192x1024, .bf16⟩ : BufTy).Contents (Elt Ideal)) (mkv : (⟨S256x2048, .bf16⟩ : BufTy).Contents (Elt Ideal))
  (g : (⟨S8192x1024, .bf16⟩ : BufTy).Contents (Elt Ideal)) (h : Fin 4) (s : Fin 8192) (j d : Fin 256)

/-- The keys. -/
theorem key_at : val_main_v4 (F := Ideal) mkv (ix3 j h d) = keys mkv h j d := by
  pointwise [val_main_v4, val_main_v2, val_main_v1]
  rfl

/-- The values. -/
theorem value_at : val_main_v5 (F := Ideal) mkv (ix3 j h d) = values mkv h j d := by
  pointwise [val_main_v5, val_main_v3, val_main_v1]
  rfl

/-- The query. -/
theorem query_at : val_main_v6 (F := Ideal) q (ix3 s h d) = headRow q h s d := by
  pointwise [val_main_v6, val_main_v0]
  rfl

/-- The derivative by the output. -/
theorem dout_at : val_main_v43 (F := Ideal) g (ix3 h d s) = headRow g h s d := by
  pointwise [val_main_v43, val_main_v42, val_main_v41]
  rfl

/-- The scores. -/
theorem score_at : val_main_v9 (F := Ideal) q mkv (ix3 h s j) = logits (headRow q h s) (keys mkv h) j := by
  pointwise [val_main_v9, val_main_v8, val_main_cst, val_main_v7, dot_S8192x4x256_S256x4x256_S4x8192x256_2_2_0_0_1_1, word_scale, key_at, query_at]
  simp only [logits, dot]

/-- The largest of a row of a table with three axes, from `−∞`. -/
theorem peak_of_table (y : FVec Ideal S4x8192x256 .f32) :
    (Host.reduce FloatOps.maximumf y (val_main_cst_0 (F := Ideal)) reducesTo_S4x8192x256_S4x8192_d2 h_S_ : FVec Ideal S4x8192 .f32) (ix2 h s) = peak fun j => y (ix3 h s j) := by
  pointwise [val_main_cst_0, word_bot]
  rw [peak]

/-- The largest score of a row. -/
theorem peak_at : val_main_v17 (F := Ideal) q mkv (ix2 h s) = peak (logits (headRow q h s) (keys mkv h)) := by
  have e : val_main_v10 (F := Ideal) q mkv (ix2 h s) = peak (logits (headRow q h s) (keys mkv h)) := by
    unfold val_main_v10
    rw [peak_of_table]
    exact congrArg peak (funext fun j => score_at q mkv h s j)
  rw [val_main_v17_apply, e, val_main_v16_apply, val_main_cst_2_apply]
  rw [Ideal.maximumf_def, Ideal.ofBits_def, word_bot, max_bot_left]

/-- The exponentials. -/
theorem wt_at : val_main_v30 (F := Ideal) q mkv (ix3 h s j) = wt (logits (headRow q h s) (keys mkv h)) j := by
  pointwise [val_main_v30, val_main_v29, val_main_v28, val_main_v27, score_at, peak_at]
  rfl

/-- Their sum. -/
theorem mass_at : val_main_v32 (F := Ideal) q mkv (ix3 h s 0) = mass (logits (headRow q h s) (keys mkv h)) := by
  pointwise [val_main_v32, val_main_v31, val_main_cst_8, wt_at]
  rfl

/-- The probabilities. -/
theorem prob_at : val_main_v34 (F := Ideal) q mkv (ix3 h s j) = prob (logits (headRow q h s) (keys mkv h)) j := by
  pointwise [val_main_v34, val_main_v33, wt_at, mass_at]
  rfl

/-- The derivative by the probabilities. -/
theorem dprob_at : val_main_v44 (F := Ideal) mkv g (ix3 h s j) = dot (headRow g h s) (values mkv h j) := by
  pointwise [val_main_v44, dot_S4x256x8192_S256x4x256_S4x8192x256_1_2_2_0_0_1, value_at, dout_at]
  rfl

/-- The derivative by the scores. -/
theorem dscore_at : val_main_v60 (F := Ideal) q mkv g (ix3 h s j)
    = dquot (logits (headRow q h s) (keys mkv h)) (fun k => dot (headRow g h s) (values mkv h k)) j * scale := by
  pointwise [val_main_v60, val_main_v59, val_main_cst_12, val_main_v58, val_main_v57, val_main_v56, val_main_v55, val_main_cst_11, val_main_v54, val_main_v53, val_main_v52,
    val_main_v51, val_main_v50, val_main_cst_10, val_main_v49, val_main_v48, val_main_v47, val_main_v37, val_main_v36, val_main_cst_9, val_main_v35, word_scale, wt_at, mass_at, dprob_at]
  simp only [dquot, Finset.univ_unique, Finset.sum_singleton]

/-- The head of a column. -/
theorem col_div (p : (col h d).val / 256 < 4) : (⟨(col h d).val / 256, p⟩ : Fin 4) = h := by
  ext; simp only [col]; omega

/-- The place of a column in its head. -/
theorem col_mod (p : (col h d).val % 256 < 256) : (⟨(col h d).val % 256, p⟩ : Fin 256) = d := by
  ext; simp only [col]; omega

/-- The query's derivative. -/
theorem dquery_at : val_main_v69 (F := Ideal) q mkv g (ix2 s (col h d))
    = ∑ j, dquot (logits (headRow q h s) (keys mkv h)) (fun k => dot (headRow g h s) (values mkv h k)) j * scale * keys mkv h j d := by
  pointwise [val_main_v69, val_main_v65, val_main_v64, val_main_v63, dot_S4x8192x256_S256x4x256_S4x8192x256_2_0_1_2_0_1, key_at, dscore_at, col_div, col_mod]

/-- The derivative by the keys, before the keys and the values are laid side by side. -/
theorem dkey_part : val_main_v67 (F := Ideal) q mkv g (ix2 j (col h d))
    = ∑ s, dquot (logits (headRow q h s) (keys mkv h)) (fun k => dot (headRow g h s) (values mkv h k)) j * scale * headRow q h s d := by
  pointwise [val_main_v67, val_main_v62, val_main_v61, dot_S4x8192x256_S8192x4x256_S4x256x256_1_0_2_2_0_1, query_at, dscore_at, col_div, col_mod]

/-- The derivative by the values, before the keys and the values are laid side by side. -/
theorem dval_part : val_main_v66 (F := Ideal) q mkv g (ix2 j (col h d))
    = ∑ s, headRow g h s d * prob (logits (headRow q h s) (keys mkv h)) j := by
  pointwise [val_main_v66, val_main_v46, val_main_v45, dot_S4x256x8192_S4x8192x256_S4x256x256_2_1_1_2_0_0, dout_at, prob_at, col_div, col_mod]

/-- The keys' columns come first. -/
theorem key_side : val_main_v68 (F := Ideal) q mkv g (ix2 j (keyCol (col h d))) = val_main_v67 (F := Ideal) q mkv g (ix2 j (col h d)) := by
  pointwise [val_main_v68]
  exact dif_pos (col h d).isLt

/-- The values' columns come after them. -/
theorem value_side : val_main_v68 (F := Ideal) q mkv g (ix2 j (valCol (col h d))) = val_main_v66 (F := Ideal) q mkv g (ix2 j (col h d)) := by
  pointwise [val_main_v68]
  refine (dif_neg (Nat.not_lt.mpr (Nat.le_add_right 1024 (col h d).val))).trans ?_
  exact congrArg (fun c => val_main_v66 (F := Ideal) q mkv g (ix2 j c)) (Fin.ext (Nat.add_sub_cancel_left 1024 (col h d).val))

/-! ### The reference is the gradient

where the exponentials of every row are real. -/

variable (tame : ∀ h s, Tame (logits (headRow q h s) (keys mkv h)))
include tame

/-- The derivative by the query. -/
theorem dquery_eq : val_main_v69 (F := Ideal) q mkv g (ix2 s (col h d)) = dquery q mkv g h s d := by
  rw [dquery_at]
  exact Finset.sum_congr rfl fun j _ => by rw [dquot_eq_dscore (tame h s), dlogits]

/-- The derivative by the keys. -/
theorem dkey_eq : val_main_v68 (F := Ideal) q mkv g (ix2 j (keyCol (col h d))) = dkey q mkv g h j d := by
  rw [key_side, dkey_part]
  exact Finset.sum_congr rfl fun s _ => by rw [dquot_eq_dscore (tame h s), dkeyTerm, dlogits]

omit tame in
/-- The derivative by the values. -/
theorem dval_eq : val_main_v68 (F := Ideal) q mkv g (ix2 j (valCol (col h d))) = dval q mkv g h j d := by
  rw [value_side, dval_part]
  exact Finset.sum_congr rfl fun s _ => mul_comm _ _

end Cert.ReferenceIdeal.Gradient

end
-- ==== Proof.Finite.lean ====
/-
  THE PRECONDITION, OPENED: that the largest magnitude of a table is below `+∞` says that every entry is a real number. Then so is every score.
-/
module

public import proofs.«01_k».proof.Proof.Spec
public import proofs.«01_k».proof.Proof.Gen.Pre_finite_scores
public import Idealize.ShloMosaic.Lib.Pointwise.Tactic
public import Idealize.ShloMosaic.Lib.Pointwise.Reduce
public import Idealize.ShloMosaic.Lib.Pointwise.Select

@[expose] public section

noncomputable section

namespace Cert.Finite

open Cert.Pre_finite_scores Cert.Pre_finite_scores.Gen Idealize.ShloMosaic Cert.Attend

/-- The word of `+∞`. -/
theorem word_top : (Ideal.ofBits .f32 0x7F800000#32 : EReal) = ⊤ := by
  simp [Ideal.ofBits, Ideal.ieee]

/-- The largest of a family, from `−∞`. -/
def largest {ι : Type*} [Fintype ι] (f : ι → EReal) : EReal := Finset.univ.fold max ⊥ f

theorem le_largest {ι : Type*} [Fintype ι] (f : ι → EReal) (i : ι) : f i ≤ largest f :=
  (Finset.le_fold_max (f i)).mpr (.inr ⟨i, Finset.mem_univ i, le_rfl⟩)

/-- A finite sum of real numbers is real. -/
theorem real_sum {ι : Type*} (A : Finset ι) (f : ι → EReal) (hf : ∀ i, ∃ r : ℝ, f i = r) : ∃ r : ℝ, ∑ i ∈ A, f i = r := by
  classical
  induction A using Finset.induction_on with
  | empty => exact ⟨0, by simp⟩
  | insert i A hi ih =>
    obtain ⟨r, hr⟩ := ih
    obtain ⟨x, hx⟩ := hf i
    exact ⟨x + r, by rw [Finset.sum_insert hi, hr, hx, EReal.coe_add]⟩

/-- A number of magnitude below `+∞` is real. -/
theorem real_of_abs {x : EReal} (h : max x (-x) < ⊤) : ∃ r : ℝ, x = r := by
  induction x with
  | bot => simp at h
  | top => simp at h
  | coe r => exact ⟨r, rfl⟩

theorem query_table (y : FVec Ideal S8192x1024 .f32) (i : S_.Idx) :
    (Host.reduce FloatOps.maximumf y (constant (F := Ideal) S_ .f32 0xFF800000#32) reducesTo_S8192x1024_S_d0_1 h_S_ : FVec Ideal S_ .f32) i
      = largest fun k : Fin 8192 × Fin 1024 => y (ix2 k.1 k.2) := by
  unfold largest
  pointwise [word_bot]

theorem memory_table (y : FVec Ideal S256x2048 .f32) (i : S_.Idx) :
    (Host.reduce FloatOps.maximumf y (constant (F := Ideal) S_ .f32 0xFF800000#32) reducesTo_S256x2048_S_d0_1 h_S_ : FVec Ideal S_ .f32) i
      = largest fun k : Fin 256 × Fin 2048 => y (ix2 k.1 k.2) := by
  unfold largest
  pointwise [word_bot]

variable (q : FVec Ideal S8192x1024 .bf16) (mkv : FVec Ideal S256x2048 .bf16) (g : FVec Ideal S8192x1024 .bf16)

omit q mkv g in
/-- The conjunction of the two comparisons with `+∞`. -/
theorem both (a b : Ideal .f32) (i : S_.Idx)
    (e : IntOp.andi (FloatOps.cmpf .olt a (constant (F := Ideal) S_ .f32 0x7F800000#32 i)) (FloatOps.cmpf .olt b (constant (F := Ideal) S_ .f32 0x7F800000#32 i)) = 1#1) :
    (a : EReal) < ⊤ ∧ (b : EReal) < ⊤ := by
  have z : (constant (F := Ideal) S_ .f32 0x7F800000#32 i : EReal) = ⊤ := word_top
  have e' : IntOp.andi (Ideal.cmp .olt a (constant (F := Ideal) S_ .f32 0x7F800000#32 i)) (Ideal.cmp .olt b (constant (F := Ideal) S_ .f32 0x7F800000#32 i)) = 1#1 := e
  rw [z] at e'
  by_cases ha : (a : EReal) < ⊤ <;> by_cases hb : (b : EReal) < ⊤ <;> simp_all [Ideal.cmp, IntOp.andi]

omit q mkv g in
/-- The same, of two tables with one entry. -/
theorem both_at (x y : FVec Ideal S_ .f32)
    (h : andi (cmpf .olt x (constant (F := Ideal) S_ .f32 0x7F800000#32)) (cmpf .olt y (constant (F := Ideal) S_ .f32 0x7F800000#32)) = fun _ => 1#1) (i : S_.Idx) :
    (x i : EReal) < ⊤ ∧ (y i : EReal) < ⊤ :=
  both _ _ _ (congrFun h i)

omit mkv g in
theorem magnitude_q (k : S8192x1024.Idx) : (Host.absf (extf (F := Ideal) .f32 q bitsLt_bf16_f32) k : EReal) = max (q k) (-q k) := by
  pointwise
  rfl

omit q g in
theorem magnitude_m (k : S256x2048.Idx) : (Host.absf (extf (F := Ideal) .f32 mkv bitsLt_bf16_f32) k : EReal) = max (mkv k) (-mkv k) := by
  pointwise
  rfl

/-- The precondition as two comparisons. -/
theorem opened (h : fn (F := Ideal) q mkv g = fun _ => 1#1) :
    (largest fun k : Fin 8192 × Fin 1024 => (max (q (ix2 k.1 k.2)) (-q (ix2 k.1 k.2)) : EReal)) < ⊤
      ∧ (largest fun k : Fin 256 × Fin 2048 => (max (mkv (ix2 k.1 k.2)) (-mkv (ix2 k.1 k.2)) : EReal)) < ⊤ := by
  unfold fn at h
  obtain ⟨h1, h2⟩ := both_at _ _ h (fun a => a.elim0)
  have h3 := lt_of_eq_of_lt (query_table _ _).symm h1
  have h4 := lt_of_eq_of_lt (memory_table _ _).symm h2
  exact ⟨lt_of_eq_of_lt (congrArg largest (funext fun k => (magnitude_q q (ix2 k.1 k.2)).symm)) h3,
    lt_of_eq_of_lt (congrArg largest (funext fun k => (magnitude_m mkv (ix2 k.1 k.2)).symm)) h4⟩

variable {q mkv g} (h : fn (F := Ideal) q mkv g = fun _ => 1#1)
include h

/-- Every entry of the query is real. -/
theorem query_real (r : Fin 8192) (d : Fin 1024) : ∃ x : ℝ, (q (ix2 r d) : EReal) = x := by
  have b := le_largest (fun k : Fin 8192 × Fin 1024 => (max (q (ix2 k.1 k.2)) (-q (ix2 k.1 k.2)) : EReal)) (r, d)
  exact real_of_abs (x := q (ix2 r d)) (lt_of_le_of_lt b (opened q mkv g h).1)

/-- Every entry of the memory is real. -/
theorem memory_real (r : Fin 256) (d : Fin 2048) : ∃ x : ℝ, (mkv (ix2 r d) : EReal) = x := by
  have b := le_largest (fun k : Fin 256 × Fin 2048 => (max (mkv (ix2 k.1 k.2)) (-mkv (ix2 k.1 k.2)) : EReal)) (r, d)
  exact real_of_abs (x := mkv (ix2 r d)) (lt_of_le_of_lt b (opened q mkv g h).2)

/-- So the scores of every row and head are real, and their softmax is a softmax of real numbers. -/
theorem scores_tame (hd : Fin 4) (s : Fin 8192) : Tame (logits (headRow q hd s) (keys mkv hd)) := by
  refine Tame.of_real 0 fun j => ?_
  obtain ⟨x, hx⟩ := real_sum Finset.univ (fun d => headRow q hd s d * keys mkv hd j d) fun d => by
    obtain ⟨a, ha⟩ := query_real h s (col hd d)
    obtain ⟨b, hb⟩ := memory_real h j (keyCol (col hd d))
    exact ⟨a * b, by rw [EReal.coe_mul, ← ha, ← hb]⟩
  exact ⟨x * (1 / 16), by rw [EReal.coe_mul, ← hx]; rfl⟩

end Cert.Finite

end
-- ==== Proof.Table.lean ====
/-
  TABLES BY ROW AND COLUMN.
-/
module

public import Idealize.ShloMosaic.Lib.Pointwise.Index

@[expose] public section

namespace Cert.Table

open Idealize.ShloMosaic

/-- An equation of two tables holds when it holds at every row and column. -/
theorem on_table {n w : ℕ} {α : Type} {f g : (⟨2, ![n, w]⟩ : Shape).Idx → α} (h : ∀ r d, f (ix2 r d) = g (ix2 r d)) (x) : f x = g x := by
  rw [eq_ix2 x]
  exact h _ _

end Cert.Table
-- ==== Proof.UpWeight.lean ====
/-
  THE DERIVATIVE BY THE FEED-FORWARD BLOCK'S FIRST WEIGHT: the product of the block's input, transposed, and the derivative by the product it went into. The grid walks over four
  blocks of columns, and for each over four blocks of 2048 positions: a buffer holds the sum so far, and goes out after the fourth.
-/
module

public import proofs.«01_k».proof.Proof.Gen.UpWeightIdeal.Value
public import proofs.«01_k».proof.Proof.Gen.UpWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.UpWeightIdeal.Product

open Cert.UpWeightIdeal Cert.UpWeightIdeal.Gen Cert.Table Idealize.ShloMosaic Idealize.ShloMosaic.TcCoe Idealize.SL.Sem

/-! ### One point -/

/-- What the first of four points stores. -/
theorem start_apply (x : S2048x1024.Idx → Elt Ideal .bf16) (y : S2048x1408.Idx → Elt Ideal .bf16) (r : Fin 1024) (d : Fin 1408) :
    k0_pay2 x y (ix2 r d) = ∑ s : Fin 2048, x (ix2 s r) * y (ix2 s d) := by
  unfold_payloads
  pointwise [dot_S2048x1024_S2048x1408_S1024x1408_0_0_1_1_n_n]

/-- What a later point stores. -/
theorem add_apply (x : S2048x1024.Idx → Elt Ideal .bf16) (y : S2048x1408.Idx → Elt Ideal .bf16) (a : S1024x1408.Idx → Elt Ideal .f32) (r : Fin 1024) (d : Fin 1408) :
    k0_pay3 x y a (ix2 r d) = a (ix2 r d) + ∑ s : Fin 2048, x (ix2 s r) * y (ix2 s d) := by
  unfold_payloads
  pointwise [dot_S2048x1024_S2048x1408_S1024x1408_0_0_1_1_n_n]

variable (m : (ℓ : Loc nD τ sig) → Buf (Elt Ideal) ℓ) (c : Dev nD)

/-- The block's input. -/
abbrev X : S8192x1024.Idx → EReal := m ((c.tc : Thread nD τ).loc main_arg0)

/-- The derivative by the first product. -/
abbrev DH : S8192x5632.Idx → EReal := m ((c.tc : Thread nD τ).loc main_arg1)

variable (t : Fin cfg0.N)

/-- The array's row that is row `r` of the block at hand. -/
def rowAt (r : Fin 2048) : Fin 8192 := ⟨t.val % 4 * 2048 + r.val, by omega⟩

/-- The array's column that is column `d` of the block at hand. -/
def colAt (d : Fin 1408) : Fin 5632 := ⟨t.val / 4 * 1408 + d.val, by have : t.val < 16 := t.isLt; omega⟩

theorem place0 : ∀ t : Fin cfg0.N, win0_0.index t 0 = t.val % 4 ∧ win0_0.index t 1 = 0 :=
  (by decide +kernel : ∀ t : Fin grid0.N, win0_0.index t 0 = t.val % 4 ∧ win0_0.index t 1 = 0)

theorem place1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem place2 : ∀ t : Fin cfg0.N, win0_2.index t 0 = 0 ∧ win0_2.index t 1 = t.val / 4 :=
  (by decide +kernel : ∀ t : Fin grid0.N, win0_2.index t 0 = 0 ∧ win0_2.index t 1 = t.val / 4)

theorem iblk_x (s : Fin 2048) (r : Fin 1024) : iblk m c 0 t (ix2 s r) = X m c (ix2 (rowAt t s) r) := by
  blk_ext [iblk, V, place0 t, rowAt]

theorem iblk_dh (s : Fin 2048) (d : Fin 1408) : iblk m c 1 t (ix2 s d) = DH m c (ix2 (rowAt t s) (colAt t d)) := by
  blk_ext [iblk, V, place1 t, rowAt, colAt]

/-- What a point adds. -/
def term (y : S1024x1408.Idx) : EReal := ∑ s : Fin 2048, X m c (ix2 (rowAt t s) (y 0)) * DH m c (ix2 (rowAt t s) (colAt t (y 1)))

theorem start_at (y : S1024x1408.Idx) : k0_pay2 (F := Ideal) (iblk m c 0 t) (iblk m c 1 t) y = term m c t y := by
  rw [eq_ix2 y]
  exact (start_apply _ _ _ _).trans (Finset.sum_congr rfl fun s _ => congrArg₂ (· * ·) (iblk_x m c t s _) (iblk_dh m c t s _))

theorem add_at (a : S1024x1408.Idx → Elt Ideal .f32) (y : S1024x1408.Idx) : k0_pay3 (F := Ideal) (iblk m c 0 t) (iblk m c 1 t) a y = a y + term m c t y := by
  rw [eq_ix2 y]
  exact (add_apply _ _ _ _ _).trans (congrArg (a _ + ·) (Finset.sum_congr rfl fun s _ => congrArg₂ (· * ·) (iblk_x m c t s _) (iblk_dh m c t s _)))

theorem first (h : t.val % 4 = 0) (y : S1024x1408.Idx) : (outsAt0 m c t.val t.isLt).2 y = term m c t y := by
  rw [outsAt0_A m c t h (by omega) (by omega)]
  frame_out
  exact start_at m c t y

theorem next (h : ¬t.val % 4 = 0) (y : S1024x1408.Idx) :
    (outsAt0 m c t.val t.isLt).2 y = (outsAt0 m c (t.val - 1) (Nat.lt_of_le_of_lt (Nat.sub_le _ _) t.isLt)).2 y + term m c t y := by
  by_cases h3 : t.val % 4 = 3
  · rw [outsAt0_C m c t h (by omega) h3]
    frame_out
    rw [(Memref.isWhole_whole _).read_unread]
    exact add_at m c t _ y
  · rw [outsAt0_B m c t h (by omega) h3]
    frame_out
    rw [(Memref.isWhole_whole _).read_unread]
    exact add_at m c t _ y

/-- What goes out is what the buffer holds. -/
theorem sent (h : t.val % 4 = 3) (y : S1024x1408.Idx) : (outsAt0 m c t.val t.isLt).1 y = (outsAt0 m c t.val t.isLt).2 y := by
  rw [outsAt0_C m c t (by omega) (by omega) h]
  frame_out
  unfold_payloads
  rfl

/-- The buffer after the fourth of four points. -/
theorem whole (h : t.val % 4 = 3) (r : Fin 1024) (d : Fin 1408) :
    (outsAt0 m c t.val t.isLt).2 (ix2 r d) = ∑ s : Fin 8192, X m c (ix2 s r) * DH m c (ix2 s (colAt t d)) := by
  rw [Pipeline.eq_sum_fin_of_reset_step_apply_of_flush (M := EReal) (fun n hn y => (outsAt0 m c n hn).2 y) 4 (fun _ => 0) (term m c)
    (fun t h y => (first m c t h y).trans (zero_add _).symm) (fun t h y => next m c t h y) t h (ix2 r d), zero_add]
  refine Eq.trans (Finset.sum_congr rfl fun s _ => Finset.sum_congr rfl fun k _ => ?_)
    (Fin.sum_mul_add_fin 4 2048 (fun s => X m c (ix2 s r) * DH m c (ix2 s (colAt t d))) rfl)
  have hr (hn) : rowAt ⟨4 * (t.val / 4) + s.val, hn⟩ k = ⟨s.val * 2048 + k.val, by omega⟩ := Fin.ext (by simp only [rowAt]; omega)
  have hc (hn) : colAt ⟨4 * (t.val / 4) + s.val, hn⟩ d = colAt t d := Fin.ext (by simp only [colAt]; omega)
  show X m c (ix2 (rowAt ⟨4 * (t.val / 4) + s.val, _⟩ k) r) * DH m c (ix2 (rowAt ⟨4 * (t.val / 4) + s.val, _⟩ k) (colAt ⟨4 * (t.val / 4) + s.val, _⟩ d)) = _
  rw [hr, hc]

/-- The kernel's array, at a row and a column. -/
def product : S1024x5632.Idx → Elt Ideal .bf16 := fun y => (∑ s : Fin 8192, X m c (ix2 s (y 0)) * DH m c (ix2 s (y 1)) : EReal)

theorem product_end : (dats m 0 c).arrAt 2 cfg0.N = product m c := by
  refine (dats m 0 c).arrAt_eq_of_covers 2 _ (by decide +kernel) fun t hf y => ?_
  blk_simp
  rw [after0_2]
  have h := (flush0_2 t).mp hf
  refine (sent m c t h y).trans ?_
  have e : (win0_2.blk t).view.emb y = ix2 (y 0) (colAt t (y 1)) := by
    blk_ext [place2 t, colAt]
  rw [e]
  have w := whole m c t h (y 0) (y 1)
  rw [← eq_ix2 y] at w
  exact w

end Cert.UpWeightIdeal.Product

namespace Cert.UpWeightReferenceIdeal.Product

open Cert.UpWeightReferenceIdeal Cert.UpWeightReferenceIdeal.Read Idealize.ShloMosaic

/-- The reference's array is the same product, its factors the other way round. -/
theorem reference_eq (x : S8192x1024.Idx → EReal) (dh : S8192x5632.Idx → EReal) :
    val_main_v6 (F := Ideal) x dh = fun y => (∑ s : Fin 8192, x (ix2 s (y 0)) * dh (ix2 s (y 1)) : EReal) := by
  funext y
  rw [val_main_v6_apply, val_main_v5_apply, val_main_v4_apply]
  refine Finset.sum_congr rfl fun s _ => (mul_comm (G := EReal) _ _).trans (congrArg₂ (· * ·) (congrArg x ?_) (congrArg dh ?_)) <;> exact eq_ix2 _

end Cert.UpWeightReferenceIdeal.Product

end
-- ==== Proof.DownWeight.lean ====
/-
  THE DERIVATIVE BY THE FEED-FORWARD BLOCK'S SECOND WEIGHT: the product of the gated activation, transposed, and the derivative by the block's output. The grid walks over two
  blocks of the weight's rows, and for each over four blocks of 2048 positions, as in `UpWeight`.
-/
module

public import proofs.«01_k».proof.Proof.Gen.DownWeightIdeal.Value
public import proofs.«01_k».proof.Proof.Gen.DownWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.DownWeightIdeal.Product

open Cert.DownWeightIdeal Cert.DownWeightIdeal.Gen Cert.Table Idealize.ShloMosaic Idealize.ShloMosaic.TcCoe Idealize.SL.Sem

/-! ### One point -/

/-- What the first of four points stores. -/
theorem start_apply (x : S2048x1408.Idx → Elt Ideal .bf16) (y : S2048x1024.Idx → Elt Ideal .bf16) (r : Fin 1408) (d : Fin 1024) :
    k0_pay2 x y (ix2 r d) = ∑ s : Fin 2048, x (ix2 s r) * y (ix2 s d) := by
  unfold_payloads
  pointwise [dot_S2048x1408_S2048x1024_S1408x1024_0_0_1_1_n_n]

/-- What a later point stores. -/
theorem add_apply (x : S2048x1408.Idx → Elt Ideal .bf16) (y : S2048x1024.Idx → Elt Ideal .bf16) (a : S1408x1024.Idx → Elt Ideal .f32) (r : Fin 1408) (d : Fin 1024) :
    k0_pay3 x y a (ix2 r d) = a (ix2 r d) + ∑ s : Fin 2048, x (ix2 s r) * y (ix2 s d) := by
  unfold_payloads
  pointwise [dot_S2048x1408_S2048x1024_S1408x1024_0_0_1_1_n_n]

variable (m : (ℓ : Loc nD τ sig) → Buf (Elt Ideal) ℓ) (c : Dev nD)

/-- The gated activation. -/
abbrev A : S8192x2816.Idx → EReal := m ((c.tc : Thread nD τ).loc main_arg0)

/-- The derivative by the block's output. -/
abbrev DZ : S8192x1024.Idx → EReal := m ((c.tc : Thread nD τ).loc main_arg1)

variable (t : Fin cfg0.N)

/-- The array's row that is row `r` of the block at hand. -/
def rowAt (r : Fin 2048) : Fin 8192 := ⟨t.val % 4 * 2048 + r.val, by omega⟩

/-- The weight's row that is row `r` of the block at hand. -/
def outAt (r : Fin 1408) : Fin 2816 := ⟨t.val / 4 * 1408 + r.val, by have : t.val < 8 := t.isLt; omega⟩

theorem place0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)

theorem place1 : ∀ t : Fin cfg0.N, win0_1.index t 0 = t.val % 4 ∧ win0_1.index t 1 = 0 :=
  (by decide +kernel : ∀ t : Fin grid0.N, win0_1.index t 0 = t.val % 4 ∧ win0_1.index t 1 = 0)

theorem place2 : ∀ t : Fin cfg0.N, win0_2.index t 0 = t.val / 4 ∧ win0_2.index t 1 = 0 :=
  (by decide +kernel : ∀ t : Fin grid0.N, win0_2.index t 0 = t.val / 4 ∧ win0_2.index t 1 = 0)

theorem iblk_a (s : Fin 2048) (r : Fin 1408) : iblk m c 0 t (ix2 s r) = A m c (ix2 (rowAt t s) (outAt t r)) := by
  blk_ext [iblk, V, place0 t, rowAt, outAt]

theorem iblk_dz (s : Fin 2048) (d : Fin 1024) : iblk m c 1 t (ix2 s d) = DZ m c (ix2 (rowAt t s) d) := by
  blk_ext [iblk, V, place1 t, rowAt]

/-- What a point adds. -/
def term (y : S1408x1024.Idx) : EReal := ∑ s : Fin 2048, A m c (ix2 (rowAt t s) (outAt t (y 0))) * DZ m c (ix2 (rowAt t s) (y 1))

theorem start_at (y : S1408x1024.Idx) : k0_pay2 (F := Ideal) (iblk m c 0 t) (iblk m c 1 t) y = term m c t y := by
  rw [eq_ix2 y]
  exact (start_apply _ _ _ _).trans (Finset.sum_congr rfl fun s _ => congrArg₂ (· * ·) (iblk_a m c t s _) (iblk_dz m c t s _))

theorem add_at (a : S1408x1024.Idx → Elt Ideal .f32) (y : S1408x1024.Idx) : k0_pay3 (F := Ideal) (iblk m c 0 t) (iblk m c 1 t) a y = a y + term m c t y := by
  rw [eq_ix2 y]
  exact (add_apply _ _ _ _ _).trans (congrArg (a _ + ·) (Finset.sum_congr rfl fun s _ => congrArg₂ (· * ·) (iblk_a m c t s _) (iblk_dz m c t s _)))

theorem first (h : t.val % 4 = 0) (y : S1408x1024.Idx) : (outsAt0 m c t.val t.isLt).2 y = term m c t y := by
  rw [outsAt0_A m c t h (by omega) (by omega)]
  frame_out
  exact start_at m c t y

theorem next (h : ¬t.val % 4 = 0) (y : S1408x1024.Idx) :
    (outsAt0 m c t.val t.isLt).2 y = (outsAt0 m c (t.val - 1) (Nat.lt_of_le_of_lt (Nat.sub_le _ _) t.isLt)).2 y + term m c t y := by
  by_cases h3 : t.val % 4 = 3
  · rw [outsAt0_C m c t h (by omega) h3]
    frame_out
    rw [(Memref.isWhole_whole _).read_unread]
    exact add_at m c t _ y
  · rw [outsAt0_B m c t h (by omega) h3]
    frame_out
    rw [(Memref.isWhole_whole _).read_unread]
    exact add_at m c t _ y

/-- What goes out is what the buffer holds. -/
theorem sent (h : t.val % 4 = 3) (y : S1408x1024.Idx) : (outsAt0 m c t.val t.isLt).1 y = (outsAt0 m c t.val t.isLt).2 y := by
  rw [outsAt0_C m c t (by omega) (by omega) h]
  frame_out
  unfold_payloads
  rfl

/-- The buffer after the fourth of four points. -/
theorem whole (h : t.val % 4 = 3) (r : Fin 1408) (d : Fin 1024) :
    (outsAt0 m c t.val t.isLt).2 (ix2 r d) = ∑ s : Fin 8192, A m c (ix2 s (outAt t r)) * DZ m c (ix2 s d) := by
  rw [Pipeline.eq_sum_fin_of_reset_step_apply_of_flush (M := EReal) (fun n hn y => (outsAt0 m c n hn).2 y) 4 (fun _ => 0) (term m c)
    (fun t h y => (first m c t h y).trans (zero_add _).symm) (fun t h y => next m c t h y) t h (ix2 r d), zero_add]
  refine Eq.trans (Finset.sum_congr rfl fun s _ => Finset.sum_congr rfl fun k _ => ?_)
    (Fin.sum_mul_add_fin 4 2048 (fun s => A m c (ix2 s (outAt t r)) * DZ m c (ix2 s d)) rfl)
  have hr (hn) : rowAt ⟨4 * (t.val / 4) + s.val, hn⟩ k = ⟨s.val * 2048 + k.val, by omega⟩ := Fin.ext (by simp only [rowAt]; omega)
  have hc (hn) : outAt ⟨4 * (t.val / 4) + s.val, hn⟩ r = outAt t r := Fin.ext (by simp only [outAt]; omega)
  show A m c (ix2 (rowAt ⟨4 * (t.val / 4) + s.val, _⟩ k) (outAt ⟨4 * (t.val / 4) + s.val, _⟩ r)) * DZ m c (ix2 (rowAt ⟨4 * (t.val / 4) + s.val, _⟩ k) d) = _
  rw [hr, hc]

/-- The kernel's array, at a row and a column. -/
def product : S2816x1024.Idx → Elt Ideal .bf16 := fun y => (∑ s : Fin 8192, A m c (ix2 s (y 0)) * DZ m c (ix2 s (y 1)) : EReal)

theorem product_end : (dats m 0 c).arrAt 2 cfg0.N = product m c := by
  refine (dats m 0 c).arrAt_eq_of_covers 2 _ (by decide +kernel) fun t hf y => ?_
  blk_simp
  rw [after0_2]
  have h := (flush0_2 t).mp hf
  refine (sent m c t h y).trans ?_
  have e : (win0_2.blk t).view.emb y = ix2 (outAt t (y 0)) (y 1) := by
    blk_ext [place2 t, outAt]
  rw [e]
  have w := whole m c t h (y 0) (y 1)
  rw [← eq_ix2 y] at w
  exact w

end Cert.DownWeightIdeal.Product

namespace Cert.DownWeightReferenceIdeal.Product

open Cert.DownWeightReferenceIdeal Cert.DownWeightReferenceIdeal.Read Idealize.ShloMosaic

/-- The reference's array is the same product, its factors the other way round. -/
theorem reference_eq (a : S8192x2816.Idx → EReal) (dz : S8192x1024.Idx → EReal) :
    val_main_v6 (F := Ideal) a dz = fun y => (∑ s : Fin 8192, a (ix2 s (y 0)) * dz (ix2 s (y 1)) : EReal) := by
  funext y
  rw [val_main_v6_apply, val_main_v5_apply, val_main_v4_apply]
  refine Finset.sum_congr rfl fun s _ => (mul_comm (G := EReal) _ _).trans (congrArg₂ (· * ·) (congrArg a ?_) (congrArg dz ?_)) <;> exact eq_ix2 _

end Cert.DownWeightReferenceIdeal.Product

end
-- ==== Proof.DownInput.lean ====
/-
  THE DERIVATIVE BY THE GATED ACTIVATION: the product of the derivative by the feed-forward block's output and the second weight, transposed. Each point computes 1024 rows whole.
-/
module

public import proofs.«01_k».proof.Proof.Gen.DownInputIdeal.Value
public import proofs.«01_k».proof.Proof.Gen.DownInputReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.DownInputIdeal.Product

open Cert.DownInputIdeal Cert.DownInputIdeal.Gen Cert.Table Idealize.ShloMosaic Idealize.ShloMosaic.TcCoe Idealize.SL.Sem

theorem rows_apply (x : S1024x1024.Idx → Elt Ideal .bf16) (w : S2816x1024.Idx → Elt Ideal .bf16) (r : Fin 1024) (d : Fin 2816) :
    k0_pay1 x w (ix2 r d) = ∑ k : Fin 1024, x (ix2 r k) * w (ix2 d k) := by
  unfold_payloads
  pointwise [dot_S1024x1024_S2816x1024_S1024x2816_1_1_0_0_n_n]

variable (m : (ℓ : Loc nD τ sig) → Buf (Elt Ideal) ℓ) (c : Dev nD)

/-- The derivative by the block's output. -/
abbrev DZ : S8192x1024.Idx → EReal := m ((c.tc : Thread nD τ).loc main_arg0)

/-- The second weight. -/
abbrev W : S2816x1024.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_dz (r : Fin 1024) (k : Fin 1024) : iblk m c 0 t (ix2 r k) = DZ m c (ix2 (rowAt t r) k) := by
  blk_ext [iblk, V, place0 t, rowAt]

theorem iblk_w (d : Fin 2816) (k : Fin 1024) : iblk m c 1 t (ix2 d k) = W m c (ix2 d k) := by
  blk_ext [iblk, V, place1 t]

/-- The kernel's array, at a row and a column. -/
def product : S8192x2816.Idx → Elt Ideal .bf16 := fun y => (∑ k : Fin 1024, DZ m c (ix2 (y 0) k) * W m c (ix2 (y 1) k) : EReal)

theorem rows_at (y : S1024x2816.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_dz m c t _ k) (iblk_w m c t _ k))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.DownInputIdeal.Product

namespace Cert.DownInputReferenceIdeal.Product

open Cert.DownInputReferenceIdeal Cert.DownInputReferenceIdeal.Read Idealize.ShloMosaic

/-- The reference's array is the same product. -/
theorem reference_eq (dz : S8192x1024.Idx → EReal) (w : S2816x1024.Idx → EReal) :
    val_main_v5 (F := Ideal) dz w = fun y => (∑ k : Fin 1024, dz (ix2 (y 0) k) * w (ix2 (y 1) k) : EReal) := by
  funext y
  rw [val_main_v5_apply, val_main_v4_apply]
  refine Finset.sum_congr rfl fun k _ => congrArg₂ (· * ·) (congrArg dz ?_) (congrArg w ?_) <;> exact eq_ix2 _

end Cert.DownInputReferenceIdeal.Product

end
-- ==== Proof.Products.lean ====
/-
  THE THREE PRODUCTS OF THE FEED-FORWARD BLOCK'S BACKWARD PASS: each program's array is the reference's product.
-/
module

public import proofs.«01_k».proof.Defs
public import proofs.«01_k».proof.Proof.Gen.UpWeight
public import proofs.«01_k».proof.Proof.Gen.UpWeight.Frame
public import proofs.«01_k».proof.Proof.Gen.UpWeightIdeal
public import proofs.«01_k».proof.Proof.Gen.UpWeightIdeal.Frame
public import proofs.«01_k».proof.Proof.Gen.UpWeightIdeal.Value
public import proofs.«01_k».proof.Proof.Gen.UpWeightReferenceIdeal.Run
public import proofs.«01_k».proof.Proof.UpWeight
public import proofs.«01_k».proof.Proof.Gen.DownWeight
public import proofs.«01_k».proof.Proof.Gen.DownWeight.Frame
public import proofs.«01_k».proof.Proof.Gen.DownWeightIdeal
public import proofs.«01_k».proof.Proof.Gen.DownWeightIdeal.Frame
public import proofs.«01_k».proof.Proof.Gen.DownWeightIdeal.Value
public import proofs.«01_k».proof.Proof.Gen.DownWeightReferenceIdeal.Run
public import proofs.«01_k».proof.Proof.DownWeight
public import proofs.«01_k».proof.Proof.Gen.DownInput
public import proofs.«01_k».proof.Proof.Gen.DownInput.Frame
public import proofs.«01_k».proof.Proof.Gen.DownInputIdeal
public import proofs.«01_k».proof.Proof.Gen.DownInputIdeal.Frame
public import proofs.«01_k».proof.Proof.Gen.DownInputIdeal.Value
public import proofs.«01_k».proof.Proof.Gen.DownInputReferenceIdeal.Run
public import proofs.«01_k».proof.Proof.DownInput
public import Idealize.ShloMosaic.Lib.Claim
public import Idealize.ShloMosaic.Lib.Quiescent
public import Idealize.ShloMosaic.Adequacy
public import Idealize.ShloMosaic.Init

@[expose] public section

noncomputable section

namespace Cert.Products

open Idealize.ShloMosaic Idealize.SL.Sem

/-- The first weight's gradient: the reference leaves its arguments as they were. -/
theorem upWeight_frame : Cert.quiescent_UpWeightReferenceIdeal := fun m ρ _ =>
  (θ_run Cert.UpWeightReferenceIdeal.defs _ _).mono (fun r h => ⟨fun c => (h c).2, sem_eq_zero_of_no_sems (by decide) r.2⟩) (Cert.UpWeightReferenceIdeal.Value.run (F := Ideal) m ρ)

/-- The first weight's gradient: the two arrays are equal. -/
theorem upWeight_same : Cert.algebraic_UpWeightIdeal_UpWeightReferenceIdeal := by
  intro m g m' g' _ hargs
  refine ⟨fun c => Cert.UpWeightIdeal.Product.product m c, ?_, ?_⟩
  · refine (θ_run Cert.UpWeightIdeal.defs _ _).mono (fun r h c => ?_) (Cert.UpWeightIdeal.Value.run_blocks m g)
    obtain ⟨h2, ha⟩ := h c
    exact ⟨h2.trans (Cert.UpWeightIdeal.Product.product_end m c), ha⟩
  · refine (θ_run Cert.UpWeightReferenceIdeal.defs _ _).mono (fun r h c => ?_) (Cert.UpWeightReferenceIdeal.Value.run m' g')
    obtain ⟨hv, ha⟩ := h c
    obtain ⟨e0, e1⟩ := hargs c
    refine ⟨hv.trans ?_, ha⟩
    rw [Cert.UpWeightReferenceIdeal.Read.val_main_v6_eq, e0, e1]
    exact Cert.UpWeightReferenceIdeal.Product.reference_eq (Cert.UpWeightIdeal.Product.X m c) (Cert.UpWeightIdeal.Product.DH m c)

/-- The second weight's gradient: the reference leaves its arguments as they were. -/
theorem downWeight_frame : Cert.quiescent_DownWeightReferenceIdeal := fun m ρ _ =>
  (θ_run Cert.DownWeightReferenceIdeal.defs _ _).mono (fun r h => ⟨fun c => (h c).2, sem_eq_zero_of_no_sems (by decide) r.2⟩) (Cert.DownWeightReferenceIdeal.Value.run (F := Ideal) m ρ)

/-- The second weight's gradient: the two arrays are equal. -/
theorem downWeight_same : Cert.algebraic_DownWeightIdeal_DownWeightReferenceIdeal := by
  intro m g m' g' _ hargs
  refine ⟨fun c => Cert.DownWeightIdeal.Product.product m c, ?_, ?_⟩
  · refine (θ_run Cert.DownWeightIdeal.defs _ _).mono (fun r h c => ?_) (Cert.DownWeightIdeal.Value.run_blocks m g)
    obtain ⟨h2, ha⟩ := h c
    exact ⟨h2.trans (Cert.DownWeightIdeal.Product.product_end m c), ha⟩
  · refine (θ_run Cert.DownWeightReferenceIdeal.defs _ _).mono (fun r h c => ?_) (Cert.DownWeightReferenceIdeal.Value.run m' g')
    obtain ⟨hv, ha⟩ := h c
    obtain ⟨e0, e1⟩ := hargs c
    refine ⟨hv.trans ?_, ha⟩
    rw [Cert.DownWeightReferenceIdeal.Read.val_main_v6_eq, e0, e1]
    exact Cert.DownWeightReferenceIdeal.Product.reference_eq (Cert.DownWeightIdeal.Product.A m c) (Cert.DownWeightIdeal.Product.DZ m c)

/-- The derivative by the second product's input: the reference leaves its arguments as they were. -/
theorem downInput_frame : Cert.quiescent_DownInputReferenceIdeal := fun m ρ _ =>
  (θ_run Cert.DownInputReferenceIdeal.defs _ _).mono (fun r h => ⟨fun c => (h c).2, sem_eq_zero_of_no_sems (by decide) r.2⟩) (Cert.DownInputReferenceIdeal.Value.run (F := Ideal) m ρ)

/-- The derivative by the second product's input: the two arrays are equal. -/
theorem downInput_same : Cert.algebraic_DownInputIdeal_DownInputReferenceIdeal := by
  intro m g m' g' _ hargs
  refine ⟨fun c => Cert.DownInputIdeal.Product.product m c, ?_, ?_⟩
  · refine (θ_run Cert.DownInputIdeal.defs _ _).mono (fun r h c => ?_) (Cert.DownInputIdeal.Value.run_blocks m g)
    obtain ⟨h2, ha⟩ := h c
    exact ⟨h2.trans (Cert.DownInputIdeal.Product.product_end m c), ha⟩
  · refine (θ_run Cert.DownInputReferenceIdeal.defs _ _).mono (fun r h c => ?_) (Cert.DownInputReferenceIdeal.Value.run m' g')
    obtain ⟨hv, ha⟩ := h c
    obtain ⟨e0, e1⟩ := hargs c
    refine ⟨hv.trans ?_, ha⟩
    rw [Cert.DownInputReferenceIdeal.Read.val_main_v5_eq, e0, e1]
    exact Cert.DownInputReferenceIdeal.Product.reference_eq (Cert.DownInputIdeal.Product.DZ m c) (Cert.DownInputIdeal.Product.W m c)

end Cert.Products

end
-- ==== Proof.Norm.lean ====
/-
  ONE ROW OF THE LAYER NORM AND ITS GRADIENT, on the extended reals.

  `z` is the row that is normalised, `o` the derivative by the norm's result, `g` the norm's weight. The derivative by the row is written here in the two ways that the two
  programs write it:

  * `dnorm`: `r (x_i − mean x − u_i mean (x u))`, with `x = o g`, `r` the reciprocal of the row's deviation and `u` the normalised row;
  * `drule`: the sum of the derivatives through the centred row, through the variance and through the mean, rule by rule.

  `drule_eq_dnorm` says they agree where `o` and `g` are real. If `z` is real too, the centred row sums to zero, so the mean gets nothing by way of the variance; if it is not, the
  variance is infinite and both derivatives are zero.
-/
module

public import Idealize.ShloMosaic.Lib.IdealHost
public import Idealize.ShloMosaic.PureOps.IdealRules

@[expose] public section

noncomputable section

namespace Cert.Norm

open Idealize.ShloMosaic

/-! ### The numbers -/

/-- The row's length, as the programs write it. -/
def width : EReal := Ideal.ofBits .f32 0x44800000#32

/-- What is added to the variance. -/
def eps : EReal := Ideal.ofBits .f32 0x3727C5AC#32

/-- Minus a half. -/
def mhalf : EReal := Ideal.ofBits .f32 0xBF000000#32

/-- Two. -/
def two : EReal := Ideal.ofBits .f32 0x40000000#32

/-- The weight of the residual. -/
def alpha : EReal := Ideal.ofBits .f32 0x3FD744FD#32

theorem width_eq : width = ((1024 : ℝ) : EReal) := by
  simp [width, Ideal.ofBits, Ideal.ieee, -EReal.coe_mul]; norm_num

theorem mhalf_eq : mhalf = ((-1 / 2 : ℝ) : EReal) := by
  simp [mhalf, Ideal.ofBits, Ideal.ieee, -EReal.coe_mul]; norm_num

theorem two_eq : two = ((2 : ℝ) : EReal) := by
  simp [two, Ideal.ofBits, Ideal.ieee, -EReal.coe_mul]; norm_num

theorem eps_real : ∃ e : ℝ, 0 < e ∧ eps = (e : EReal) := by
  refine ⟨10995116 / 2 ^ 40, by positivity, ?_⟩
  simp [eps, Ideal.ofBits, Ideal.ieee, -EReal.coe_mul]; norm_num

theorem alpha_real : ∃ a : ℝ, alpha = (a : EReal) := by
  refine ⟨14107901 / 2 ^ 23, ?_⟩
  simp [alpha, Ideal.ofBits, Ideal.ieee, -EReal.coe_mul]; norm_num

/-! ### The row -/

section Row
variable (z o g : Fin 1024 → EReal)

/-- An entry measured from the row's mean. -/
def centre (i : Fin 1024) : EReal := z i - Ideal.div (∑ k, z k) width

/-- The variance, and a little more. -/
def spread : EReal := Ideal.div (∑ k, centre z k * centre z k) width + eps

/-- The reciprocal of the deviation. -/
def recip : EReal := Ideal.rsqrt (spread z)

/-- An entry of the normalised row. -/
def unit (i : Fin 1024) : EReal := centre z i * recip z

/-- The derivative by an entry of the row, in the form with two means. -/
def dnorm (i : Fin 1024) : EReal :=
  recip z * (o i * g i - Ideal.div (∑ k, o k * g k) width - unit z i * Ideal.div (∑ k, o k * g k * unit z k) width)

/-- The part of the derivative that comes through the variance. -/
def byVariance (i : Fin 1024) : EReal :=
  Ideal.div ((∑ k, centre z k * (o k * g k)) * (mhalf * Ideal.div (recip z) (spread z))) width * (two * centre z i)

/-- The derivative by an entry of the row, rule by rule. -/
def drule (i : Fin 1024) : EReal :=
  o i * g i * recip z + byVariance z o g i + Ideal.div ((∑ k, -(o k * g k * recip z)) + ∑ k, -byVariance z o g k) width

end Row

/-! ### Real rows -/

theorem sum_coe {ι : Type*} (A : Finset ι) (f : ι → ℝ) : (∑ i ∈ A, (f i : EReal)) = ((∑ i ∈ A, f i : ℝ) : EReal) := by
  classical
  induction A using Finset.induction_on with
  | empty => simp
  | insert i A hi ih => rw [Finset.sum_insert hi, Finset.sum_insert hi, ih, EReal.coe_add]

theorem div_real (a b : ℝ) (hb : b ≠ 0) : Ideal.div (a : EReal) (b : EReal) = ((a / b : ℝ) : EReal) := by
  rw [Ideal.div_coe hb, ← EReal.coe_mul]
  congr 1
  ring

theorem div_width (a : ℝ) : Ideal.div (a : EReal) width = ((a / 1024 : ℝ) : EReal) := by
  rw [width_eq, div_real _ _ (by norm_num)]

/-- The two derivatives agree on real rows. -/
theorem drule_eq_dnorm_real (z o g : Fin 1024 → EReal) (hz : ∀ i, ∃ r : ℝ, z i = r) (ho : ∀ i, ∃ r : ℝ, o i = r) (hg : ∀ i, ∃ r : ℝ, g i = r) (i : Fin 1024) :
    drule z o g i = dnorm z o g i := by
  choose z' hz using hz
  choose o' ho using ho
  choose g' hg using hg
  obtain ⟨e, he, hε⟩ := eps_real
  set c : Fin 1024 → ℝ := fun i => z' i - (∑ k, z' k) / 1024 with hc
  have h1 : ∀ i, centre z i = (c i : EReal) := fun i => by
    simp only [centre, hz, sum_coe, div_width, ← EReal.coe_sub, hc]
  have c0 : ∑ k, c k = 0 := by
    simp only [hc, Finset.sum_sub_distrib, Finset.sum_const, Finset.card_univ, Fintype.card_fin, nsmul_eq_mul]
    push_cast
    ring
  set v : ℝ := (∑ k, c k * c k) / 1024 + e with hv
  have v0 : 0 < v := by
    have : 0 ≤ ∑ k, c k * c k := Finset.sum_nonneg fun k _ => mul_self_nonneg _
    positivity
  have h2 : spread z = (v : EReal) := by
    simp only [spread, h1, ← EReal.coe_mul, sum_coe, div_width, hε, ← EReal.coe_add, hv]
  set r : ℝ := (Real.sqrt v)⁻¹ with hr
  have h3 : recip z = (r : EReal) := by
    rw [recip, h2, Ideal.rsqrt_coe, if_neg (not_lt.mpr v0.le), if_neg v0.ne']
  have rv : r / v = r * r * r := by
    have : r * r = v⁻¹ := by rw [hr, ← mul_inv, Real.mul_self_sqrt v0.le]
    rw [this, div_eq_inv_mul]
  set x : Fin 1024 → ℝ := fun k => o' k * g' k with hx
  have h4 : ∀ k, o k * g k = (x k : EReal) := fun k => by rw [ho, hg, ← EReal.coe_mul]
  set b : ℝ := ∑ k, c k * x k with hb
  have h5 : ∀ k, byVariance z o g k = ((-(b * (r * r * r)) / 1024 * c k : ℝ) : EReal) := fun k => by
    simp only [byVariance, h1, h2, h3, h4, mhalf_eq, two_eq, ← EReal.coe_mul, sum_coe, div_real _ _ v0.ne', div_width, rv]
    rw [← hb]
    congr 1
    ring
  have b0 : ∑ k, -(-(b * (r * r * r)) / 1024 * c k) = 0 := by
    rw [Finset.sum_neg_distrib, ← Finset.mul_sum, c0]
    ring
  have b1 : ∑ k, x k * (c k * r) = b * r := by
    rw [hb, Finset.sum_mul]
    exact Finset.sum_congr rfl fun k _ => by ring
  have b2 : ∑ k, -(x k * r) = -(∑ k, x k) * r := by
    rw [Finset.sum_neg_distrib, ← Finset.sum_mul]
    ring
  simp only [drule, dnorm, unit, h1, h3, h4, h5, ← EReal.coe_mul, ← EReal.coe_neg, sum_coe, ← EReal.coe_add, ← EReal.coe_sub, div_width, b0, b1, b2]
  congr 1
  ring

/-! ### Rows that are not real -/

theorem sum_ne_bot {ι : Type*} (A : Finset ι) (f : ι → EReal) (hf : ∀ i, f i ≠ ⊥) : ∑ i ∈ A, f i ≠ ⊥ := by
  classical
  induction A using Finset.induction_on with
  | empty => simp
  | insert i A hi ih =>
    rw [Finset.sum_insert hi]
    exact fun h => (EReal.add_eq_bot_iff.mp h).elim (hf i) ih

theorem sum_bot {n : ℕ} (f : Fin n → EReal) (i : Fin n) (h : f i = ⊥) : ∑ k, f k = ⊥ := by
  rw [← Finset.add_sum_erase Finset.univ f (Finset.mem_univ i), h, EReal.bot_add]

theorem sum_top {n : ℕ} (f : Fin n → EReal) (hf : ∀ i, f i ≠ ⊥) (i : Fin n) (h : f i = ⊤) : ∑ k, f k = ⊤ := by
  rw [← Finset.add_sum_erase Finset.univ f (Finset.mem_univ i), h, EReal.top_add_of_ne_bot (sum_ne_bot _ f hf)]

theorem div_top : Ideal.div ⊤ width = ⊤ := by
  rw [width_eq, Ideal.div_coe (by norm_num), EReal.top_mul_coe_of_pos (by norm_num)]

theorem div_bot : Ideal.div ⊥ width = ⊥ := by
  rw [width_eq, Ideal.div_coe (by norm_num), EReal.bot_mul_coe_of_pos (by norm_num)]

/-- An infinite entry lies infinitely far below the row's mean, in the extended reals. -/
theorem centre_bot (z : Fin 1024 → EReal) (hz : ¬∀ i, ∃ r : ℝ, z i = r) : ∃ i, centre z i = ⊥ := by
  by_cases hb : ∀ i, z i ≠ ⊥
  · obtain ⟨i, hi⟩ := not_forall.mp hz
    have ht : z i = ⊤ := by
      induction h : z i with
      | bot => exact absurd h (hb i)
      | top => rfl
      | coe r => exact absurd ⟨r, h⟩ hi
    exact ⟨i, by rw [centre, sum_top z hb i ht, div_top, ht, EReal.sub_top]⟩
  · obtain ⟨i, hi⟩ := not_forall.mp hb
    have hi : z i = ⊥ := not_not.mp hi
    exact ⟨i, by rw [centre, hi, EReal.bot_sub]⟩

theorem mul_self_ne_bot (x : EReal) : x * x ≠ ⊥ := by
  induction x with
  | bot => simp
  | top => simp
  | coe r => exact EReal.coe_mul r r ▸ EReal.coe_ne_bot _

/-- The reciprocal of the deviation of a row that is not real is zero. -/
theorem recip_zero (z : Fin 1024 → EReal) (hz : ¬∀ i, ∃ r : ℝ, z i = r) : recip z = 0 := by
  obtain ⟨i, hi⟩ := centre_bot z hz
  obtain ⟨e, -, hε⟩ := eps_real
  rw [recip, spread, sum_top (fun k => centre z k * centre z k) (fun k => mul_self_ne_bot _) i (by simp only [hi]; simp), div_top, hε, EReal.top_add_coe,
    Ideal.rsqrt_top]

/-- The two derivatives agree, whatever the row that is normalised. -/
theorem drule_eq_dnorm (z o g : Fin 1024 → EReal) (ho : ∀ i, ∃ r : ℝ, o i = r) (hg : ∀ i, ∃ r : ℝ, g i = r) (i : Fin 1024) :
    drule z o g i = dnorm z o g i := by
  by_cases hz : ∀ i, ∃ r : ℝ, z i = r
  · exact drule_eq_dnorm_real z o g hz ho hg i
  have hr := recip_zero z hz
  have hd (y : EReal) : Ideal.div 0 y = 0 ∨ y = 0 := by
    by_cases hy : y = 0
    · exact .inr hy
    · exact .inl (Ideal.zero_div hy)
  have hw : Ideal.div 0 width = 0 := (hd width).resolve_right (by rw [width_eq]; norm_num)
  have hs : Ideal.div 0 (spread z) = 0 := (hd (spread z)).resolve_right fun h => by
    rw [recip, h, ← EReal.coe_zero, Ideal.rsqrt_coe] at hr
    simp at hr
  have hv (k : Fin 1024) : byVariance z o g k = 0 := by
    rw [byVariance, hr, hs, mul_zero, mul_zero, hw, zero_mul]
  simp only [drule, dnorm, hr, hv, mul_zero, zero_mul, neg_zero, Finset.sum_const_zero, add_zero, hw]

end Cert.Norm

end
-- ==== Proof.NormInput.lean ====
/-
  THE DERIVATIVE BY THE LAYER NORM'S INPUT: the kernel's four arrays. At a grid point the kernel holds 256 rows; of each it forms the derivative by the norm's result, the sum of a
  residual's and of a product's, takes it through the norm's row, and adds what the row gives to the derivatives by the norm's weight and bias.
-/
module

public import proofs.«01_k».proof.Proof.Gen.NormInputIdeal.Value
public import proofs.«01_k».proof.Proof.Norm
public import proofs.«01_k».proof.Proof.Table
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.StableHlo.ReadAt
public import Idealize.ShloMosaic.Lib.Claim
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.NormInputIdeal.Rows

open Cert.NormInputIdeal Cert.NormInputIdeal.Gen Cert.Norm Cert.Table Idealize.ShloMosaic Idealize.ShloMosaic.TcCoe Idealize.SL.Sem

/-! ### One block -/

section Block
variable (da : S256x5632.Idx → Elt Ideal .bf16) (w : S1024x5632.Idx → Elt Ideal .bf16) (d x : S256x1024.Idx → Elt Ideal .f32) (g a : S1x1024.Idx → Elt Ideal .f32)
  (s : S256x1.Idx → Elt Ideal .f32)

/-- The derivative by the norm's result. -/
theorem out_apply (r : Fin 256) (k : Fin 1024) :
    k0_pay5 da w d (ix2 r k) = alpha * d (ix2 r k) + ∑ j : Fin 5632, da (ix2 r j) * w (ix2 k j) := by
  unfold_payloads
  unfold alpha
  pointwise [dot_S256x5632_S1024x5632_S256x1024_1_1_0_0_n_n]

/-- The derivative by the norm's row. -/
theorem row_apply (r : Fin 256) (k : Fin 1024) :
    k0_pay7 da w d x g s (ix2 r k)
      = s (ix2 r 0) * (k0_pay5 da w d (ix2 r k) * g (ix2 0 k) - Ideal.div (∑ j : Fin 1024, k0_pay5 da w d (ix2 r j) * g (ix2 0 j)) width
          - x (ix2 r k) * Ideal.div (∑ j : Fin 1024, k0_pay5 da w d (ix2 r j) * g (ix2 0 j) * x (ix2 r j)) width) := by
  unfold k0_pay7 k0_pay6
  unfold width
  generalize k0_pay5 da w d = o
  pointwise

/-- What the block adds to the derivative by the weight. -/
theorem weight_apply (o : S256x1024.Idx → Elt Ideal .f32) (k : Fin 1024) :
    k0_pay3 o (k0_pay6 x) a (ix2 0 k) = a (ix2 0 k) + ∑ r : Fin 256, o (ix2 r k) * x (ix2 r k) := by
  unfold_payloads
  pointwise

/-- What the block adds to the derivative by the bias. -/
theorem bias_apply (o : S256x1024.Idx → Elt Ideal .f32) (k : Fin 1024) :
    k0_pay4 o a (ix2 0 k) = a (ix2 0 k) + ∑ r : Fin 256, o (ix2 r k) := by
  unfold_payloads
  pointwise

end Block

variable (m : (ℓ : Loc nD τ sig) → Buf (Elt Ideal) ℓ) (c : Dev nD)

/-- The residual's derivative. -/
abbrev D : S8192x1024.Idx → EReal := m ((c.tc : Thread nD τ).loc main_arg0)

/-- The derivative by the product. -/
abbrev DA : S8192x5632.Idx → EReal := m ((c.tc : Thread nD τ).loc main_arg1)

/-- The product's weight. -/
abbrev W : S1024x5632.Idx → EReal := m ((c.tc : Thread nD τ).loc main_arg2)

/-- The norm's input. -/
abbrev Z : S8192x1024.Idx → EReal := m ((c.tc : Thread nD τ).loc main_arg3)

/-- The norm's weight. -/
abbrev G : S1x1024.Idx → EReal := m ((c.tc : Thread nD τ).loc main_arg4)

/-- A row of the norm's input. -/
abbrev zrow (s : Fin 8192) (k : Fin 1024) : EReal := Z m c (ix2 s k)

theorem recip_at (s : Fin 8192) : V m c main_v13 (ix2 s 0) = recip (zrow m c s) := by
  unfold V recip spread centre width eps zrow
  after_reads_at

theorem unit_at (s : Fin 8192) (k : Fin 1024) : V m c main_v15 (ix2 s k) = unit (zrow m c s) k := by
  unfold V unit recip spread centre width eps zrow
  after_reads_at

/-- The derivative by the norm's result, at a row. -/
def dout (s : Fin 8192) (k : Fin 1024) : EReal := alpha * D m c (ix2 s k) + ∑ j : Fin 5632, DA m c (ix2 s j) * W m c (ix2 k j)

/-- The norm's weight, as a row. -/
abbrev grow (k : Fin 1024) : EReal := G m c (ix2 0 k)

/-! ### The block of a grid point -/

variable (t : Fin cfg0.N)

/-- The array's row that is row `r` of the block at hand. -/
def rowAt (r : Fin 256) : Fin 8192 := ⟨t.val * 256 + r.val, by have : t.val < 32 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = t.val ∧ win0_1.index t 1 = 0 :=
  (by decide +kernel : ∀ t : Fin grid0.N, win0_1.index t 0 = t.val ∧ win0_1.index t 1 = 0)

theorem place2 : ∀ t : Fin cfg0.N, win0_2.index t 0 = 0 ∧ win0_2.index t 1 = 0 :=
  (by decide +kernel : ∀ t : Fin grid0.N, win0_2.index t 0 = 0 ∧ win0_2.index t 1 = 0)

theorem place3 : ∀ t : Fin cfg0.N, win0_3.index t 0 = t.val ∧ win0_3.index t 1 = 0 :=
  (by decide +kernel : ∀ t : Fin grid0.N, win0_3.index t 0 = t.val ∧ win0_3.index t 1 = 0)

theorem place4 : ∀ t : Fin cfg0.N, win0_4.index t 0 = t.val ∧ win0_4.index t 1 = 0 :=
  (by decide +kernel : ∀ t : Fin grid0.N, win0_4.index t 0 = t.val ∧ win0_4.index t 1 = 0)

theorem place5 : ∀ t : Fin cfg0.N, win0_5.index t 0 = 0 ∧ win0_5.index t 1 = 0 :=
  (by decide +kernel : ∀ t : Fin grid0.N, win0_5.index t 0 = 0 ∧ win0_5.index t 1 = 0)

theorem place6 : ∀ t : Fin cfg0.N, win0_6.index t 0 = t.val ∧ win0_6.index t 1 = 0 :=
  (by decide +kernel : ∀ t : Fin grid0.N, win0_6.index t 0 = t.val ∧ win0_6.index t 1 = 0)

theorem place7 : ∀ t : Fin cfg0.N, win0_7.index t 0 = t.val ∧ win0_7.index t 1 = 0 :=
  (by decide +kernel : ∀ t : Fin grid0.N, win0_7.index t 0 = t.val ∧ win0_7.index t 1 = 0)

theorem iblk_d (r : Fin 256) (k : Fin 1024) : iblk m c 0 t (ix2 r k) = D m c (ix2 (rowAt t r) k) := by
  refine Eq.trans ?_ (congrFun (V_main_arg0 m c) (ix2 (rowAt t r) k))
  unfold iblk
  generalize V m c = v
  blk_ext [place0 t, rowAt]

theorem iblk_da (r : Fin 256) (j : Fin 5632) : iblk m c 1 t (ix2 r j) = DA m c (ix2 (rowAt t r) j) := by
  refine Eq.trans ?_ (congrFun (V_main_arg1 m c) (ix2 (rowAt t r) j))
  unfold iblk
  generalize V m c = v
  blk_ext [place1 t, rowAt]

theorem iblk_w (k : Fin 1024) (j : Fin 5632) : iblk m c 2 t (ix2 k j) = W m c (ix2 k j) := by
  refine Eq.trans ?_ (congrFun (V_main_arg2 m c) (ix2 k j))
  unfold iblk
  generalize V m c = v
  blk_ext [place2 t]

theorem iblk_unit (r : Fin 256) (k : Fin 1024) : iblk m c 3 t (ix2 r k) = unit (zrow m c (rowAt t r)) k := by
  refine Eq.trans ?_ (unit_at m c (rowAt t r) k)
  unfold iblk
  generalize V m c = v
  blk_ext [place3 t, rowAt]

theorem iblk_recip (r : Fin 256) : iblk m c 4 t (ix2 r 0) = recip (zrow m c (rowAt t r)) := by
  refine Eq.trans ?_ (recip_at m c (rowAt t r))
  unfold iblk
  generalize V m c = v
  blk_ext [place4 t, rowAt]

theorem iblk_g (k : Fin 1024) : iblk m c 5 t (ix2 0 k) = grow m c k := by
  refine Eq.trans ?_ (congrFun (V_main_arg4 m c) (ix2 0 k))
  unfold iblk
  generalize V m c = v
  blk_ext [place5 t]

theorem out_at (r : Fin 256) (k : Fin 1024) :
    k0_pay5 (F := Ideal) (iblk m c 1 t) (iblk m c 2 t) (iblk m c 0 t) (ix2 r k) = dout m c (rowAt t r) k :=
  (out_apply _ _ _ _ _).trans (congrArg₂ (· + ·) (congrArg (alpha * ·) (iblk_d m c t r k))
    (Finset.sum_congr rfl fun j _ => congrArg₂ (· * ·) (iblk_da m c t r j) (iblk_w m c t k j)))

/-! ### The derivative by the rows -/

/-- The first array: the derivative by the norm's input. -/
def dzArray : S8192x1024.Idx → Elt Ideal .f32 := fun y => dnorm (zrow m c (y 0)) (dout m c (y 0)) (grow m c) (y 1)

/-- The second array: the same, stored again. -/
def dzCopy : S8192x1024.Idx → Elt Ideal .bf16 := fun y => dnorm (zrow m c (y 0)) (dout m c (y 0)) (grow m c) (y 1)

/-- The third array: the derivative by the norm's weight. -/
def dgArray : S1x1024.Idx → Elt Ideal .f32 := fun y => (∑ s : Fin 8192, dout m c s (y 1) * unit (zrow m c s) (y 1) : EReal)

/-- The fourth array: the derivative by the norm's bias. -/
def dbArray : S1x1024.Idx → Elt Ideal .f32 := fun y => (∑ s : Fin 8192, dout m c s (y 1) : EReal)

theorem row_at (r : Fin 256) (k : Fin 1024) :
    k0_pay7 (F := Ideal) (iblk m c 1 t) (iblk m c 2 t) (iblk m c 0 t) (iblk m c 3 t) (iblk m c 5 t) (iblk m c 4 t) (ix2 r k)
      = dnorm (zrow m c (rowAt t r)) (dout m c (rowAt t r)) (grow m c) k := by
  have hx (j : Fin 1024) : k0_pay5 (F := Ideal) (iblk m c 1 t) (iblk m c 2 t) (iblk m c 0 t) (ix2 r j) * (iblk m c 5 t : S1x1024.Idx → EReal) (ix2 0 j)
      = dout m c (rowAt t r) j * grow m c j := congrArg₂ (· * ·) (out_at m c t r j) (iblk_g m c t j)
  refine (row_apply _ _ _ _ _ _ _ _).trans ?_
  exact congrArg₂ (· * ·) (iblk_recip m c t r) (congrArg₂ (· - ·)
    (congrArg₂ (· - ·) (hx k) (congrArg (Ideal.div · width) (Finset.sum_congr rfl fun j _ => hx j)))
    (congrArg₂ (· * ·) (iblk_unit m c t r k)
      (congrArg (Ideal.div · width) (Finset.sum_congr rfl fun j _ => congrArg₂ (· * ·) (hx j) (iblk_unit m c t r j)))))

theorem row_sent (y : S256x1024.Idx) : (outsAt0 m c t.val t.isLt).1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
  · rw [outsAt0_B m c t h]
    frame_out

theorem copy_sent (y : S256x1024.Idx) : (outsAt0 m c t.val t.isLt).2.1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
    rfl
  · rw [outsAt0_B m c t h]
    frame_out
    rfl

theorem dz_end : (dats m 0 c).arrAt 6 cfg0.N = dzArray m c := by
  refine (dats m 0 c).arrAt_eq_of_covers 6 _ (by decide +kernel) fun t hf y => ?_
  blk_simp
  rw [after0_6]
  refine (row_sent m c t y).trans ?_
  have e : (win0_6.blk t).view.emb y = ix2 (rowAt t (y 0)) (y 1) := by
    blk_ext [place6 t, rowAt]
  rw [e]
  rfl

theorem copy_end : (dats m 0 c).arrAt 7 cfg0.N = dzCopy m c := by
  refine (dats m 0 c).arrAt_eq_of_covers 7 _ (by decide +kernel) fun t hf y => ?_
  blk_simp
  rw [after0_7]
  refine (copy_sent m c t y).trans ?_
  have e : (win0_7.blk t).view.emb y = ix2 (rowAt t (y 0)) (y 1) := by
    blk_ext [place7 t, rowAt]
  rw [e]
  rfl

/-! ### The sums over the rows -/

/-- What a point adds to the derivative by the weight. -/
def weightTerm (y : S1x1024.Idx) : EReal := ∑ r : Fin 256, dout m c (rowAt t r) (y 1) * unit (zrow m c (rowAt t r)) (y 1)

/-- What a point adds to the derivative by the bias. -/
def biasTerm (y : S1x1024.Idx) : EReal := ∑ r : Fin 256, dout m c (rowAt t r) (y 1)

theorem weight_at (a : S1x1024.Idx → Elt Ideal .f32) (y : S1x1024.Idx) :
    k0_pay3 (F := Ideal) (k0_pay5 (iblk m c 1 t) (iblk m c 2 t) (iblk m c 0 t)) (k0_pay6 (iblk m c 3 t)) a y = a y + weightTerm m c t y := by
  obtain ⟨k, rfl⟩ : ∃ k : Fin 1024, y = ix2 0 k := ⟨y 1, (eq_ix2 y).trans (congrArg (ix2 · (y 1)) (Subsingleton.elim (α := Fin 1) _ _))⟩
  exact (weight_apply _ _ _ _).trans (congrArg (a _ + ·) (Finset.sum_congr rfl fun r _ => congrArg₂ (· * ·) (out_at m c t r _) (iblk_unit m c t r _)))

theorem bias_at (a : S1x1024.Idx → Elt Ideal .f32) (y : S1x1024.Idx) :
    k0_pay4 (F := Ideal) (k0_pay5 (iblk m c 1 t) (iblk m c 2 t) (iblk m c 0 t)) a y = a y + biasTerm m c t y := by
  obtain ⟨k, rfl⟩ : ∃ k : Fin 1024, y = ix2 0 k := ⟨y 1, (eq_ix2 y).trans (congrArg (ix2 · (y 1)) (Subsingleton.elim (α := Fin 1) _ _))⟩
  exact (bias_apply _ _ _).trans (congrArg (a _ + ·) (Finset.sum_congr rfl fun r _ => out_at m c t r _))

theorem zero1 (y : S1x1024.Idx) : (k0_pay1 (F := Ideal) y : EReal) = 0 := by
  unfold_payloads
  pointwise

theorem zero2 (y : S1x1024.Idx) : (k0_pay2 (F := Ideal) y : EReal) = 0 := by
  unfold_payloads
  pointwise

theorem weight_first (h : t.val % 32 = 0) (y : S1x1024.Idx) : (outsAt0 m c t.val t.isLt).2.2.1 y = (0 : EReal) + weightTerm m c t y := by
  rw [outsAt0_A m c t h]
  frame_out
  exact (weight_at m c t _ y).trans (congrArg (· + weightTerm m c t y) (zero1 y))

theorem bias_first (h : t.val % 32 = 0) (y : S1x1024.Idx) : (outsAt0 m c t.val t.isLt).2.2.2 y = (0 : EReal) + biasTerm m c t y := by
  rw [outsAt0_A m c t h]
  frame_out
  exact (bias_at m c t _ y).trans (congrArg (· + biasTerm m c t y) (zero2 y))

theorem weight_next (h : ¬t.val % 32 = 0) (y : S1x1024.Idx) :
    (outsAt0 m c t.val t.isLt).2.2.1 y = (outsAt0 m c (t.val - 1) (Nat.lt_of_le_of_lt (Nat.sub_le _ _) t.isLt)).2.2.1 y + weightTerm m c t y := by
  rw [outsAt0_B m c t h]
  frame_out
  exact weight_at m c t _ y

theorem bias_next (h : ¬t.val % 32 = 0) (y : S1x1024.Idx) :
    (outsAt0 m c t.val t.isLt).2.2.2 y = (outsAt0 m c (t.val - 1) (Nat.lt_of_le_of_lt (Nat.sub_le _ _) t.isLt)).2.2.2 y + biasTerm m c t y := by
  rw [outsAt0_B m c t h]
  frame_out
  exact bias_at m c t _ y

theorem weight_last (h : 31 < cfg0.N) (y : S1x1024.Idx) : (outsAt0 m c 31 h).2.2.1 y = ∑ s : Fin 8192, dout m c s (y 1) * unit (zrow m c s) (y 1) := by
  rw [Pipeline.eq_sum_fin_of_reset_step_apply_last (M := EReal) (fun n hn y => (outsAt0 m c n hn).2.2.1 y) 32 (fun _ => 0) (weightTerm m c)
    (fun t h0 y => weight_first m c t h0 y) (fun t h0 y => weight_next m c t h0 y) (by decide) ⟨31, h⟩ rfl y, zero_add]
  exact Fin.sum_mul_add_fin 32 256 (fun s => dout m c s (y 1) * unit (zrow m c s) (y 1)) rfl

theorem bias_last (h : 31 < cfg0.N) (y : S1x1024.Idx) : (outsAt0 m c 31 h).2.2.2 y = ∑ s : Fin 8192, dout m c s (y 1) := by
  rw [Pipeline.eq_sum_fin_of_reset_step_apply_last (M := EReal) (fun n hn y => (outsAt0 m c n hn).2.2.2 y) 32 (fun _ => 0) (biasTerm m c)
    (fun t h0 y => bias_first m c t h0 y) (fun t h0 y => bias_next m c t h0 y) (by decide) ⟨31, h⟩ rfl y, zero_add]
  exact Fin.sum_mul_add_fin 32 256 (fun s => dout m c s (y 1)) rfl

/-- The point after which the two sums go out. -/
def lastPoint : Fin cfg0.N := ⟨31, by decide⟩

theorem dg_end : (dats m 0 c).arrAt 8 cfg0.N = dgArray m c := by
  refine (dats m 0 c).arrAt_eq_of_after_last 8 lastPoint (by decide +kernel) _ fun j => ?_
  blk_simp
  rw [after0_8]
  exact weight_last m c _ j

theorem db_end : (dats m 0 c).arrAt 9 cfg0.N = dbArray m c := by
  refine (dats m 0 c).arrAt_eq_of_after_last 9 lastPoint (by decide +kernel) _ fun j => ?_
  blk_simp
  rw [after0_9]
  exact bias_last m c _ j

end Cert.NormInputIdeal.Rows

end
-- ==== Proof.NormReference.lean ====
/-
  WHAT THE REFERENCE OF THE LAYER NORM'S BACKWARD PASS HOLDS: the derivative by the norm's row, rule by rule, and the sums over the rows.
-/
module

public import proofs.«01_k».proof.Proof.Gen.NormInputReferenceIdeal.Read
public import proofs.«01_k».proof.Proof.Norm
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.NormInputReferenceIdeal.Rows

open Cert.NormInputReferenceIdeal Cert.NormInputReferenceIdeal.Gen Cert.NormInputReferenceIdeal.Read Cert.Norm Idealize.ShloMosaic

variable (d : S8192x1024.Idx → EReal) (da : S8192x5632.Idx → EReal) (w : S1024x5632.Idx → EReal) (z : S8192x1024.Idx → EReal) (g : S1x1024.Idx → EReal)

/-- The derivative by the norm's result, at a row. -/
def dout (s : Fin 8192) (k : Fin 1024) : EReal := alpha * d (ix2 s k) + ∑ j : Fin 5632, da (ix2 s j) * w (ix2 k j)

theorem mean_at (s : Fin 8192) : val_main_v4 (F := Ideal) z (ix2 s 0) = Ideal.div (∑ k, z (ix2 s k)) width := by
  unfold width
  pointwise [val_main_v4, val_main_v3, val_main_v2, val_main_v1, val_main_cst_0, val_main_cst_1]

theorem centre_at (s : Fin 8192) (k : Fin 1024) : val_main_v6 (F := Ideal) z (ix2 s k) = centre (fun k => z (ix2 s k)) k := by
  rw [val_main_v6_apply, val_main_v5_apply]
  exact congrArg (z (ix2 s k) - ·) ((congrArg (val_main_v4 (F := Ideal) z) (eq_ix2 _)).trans (mean_at z s))

theorem centre_at' (s : Fin 8192) (k : Fin 1024) : val_main_v15 (F := Ideal) z (ix2 s k) = centre (fun k => z (ix2 s k)) k := by
  rw [val_main_v15_apply, val_main_v14_apply]
  exact congrArg (z (ix2 s k) - ·) ((congrArg (val_main_v4 (F := Ideal) z) (eq_ix2 _)).trans (mean_at z s))

theorem spread_at (s : Fin 8192) : val_main_v17 (F := Ideal) z (ix2 s 0) = spread (fun k => z (ix2 s k)) := by
  unfold spread width eps
  simp only [← centre_at]
  pointwise [val_main_v17, val_main_v16, val_main_v13, val_main_v12, val_main_v11, val_main_v10, val_main_v7, val_main_cst_3, val_main_cst_4, val_main_cst_5]

theorem recip_at (s : Fin 8192) : val_main_v18 (F := Ideal) z (ix2 s 0) = recip (fun k => z (ix2 s k)) := by
  unfold recip
  rw [← spread_at]
  pointwise [val_main_v18]

theorem out_at (s : Fin 8192) (k : Fin 1024) : val_main_v36 (F := Ideal) d da w (ix2 s k) = dout d da w s k := by
  unfold dout alpha
  refine Eq.trans ?_ (add_comm (G := EReal) _ _)
  rw [val_main_v36_apply, val_main_v33_apply]
  pointwise [val_main_v35, val_main_v34, val_main_cst_8, val_main_v32, val_main_v30]
  have el (j : Fin 5632) : lidx_main_v33 (ix2 s k) j = ix2 s j := eq_ix2 _
  have er (j : Fin 5632) : ridx_main_v33 (ix2 s k) j = ix2 k j := eq_ix2 _
  simp only [el, er]

theorem weighted_at (s : Fin 8192) (k : Fin 1024) : val_main_v43 (F := Ideal) d da w g (ix2 s k) = dout d da w s k * g (ix2 0 k) := by
  rw [val_main_v43_apply, val_main_v42_apply]
  exact congrArg₂ (· * ·) (out_at d da w s k) (congrArg g (eq_ix2 _))

theorem direct_at (s : Fin 8192) (k : Fin 1024) :
    val_main_v48 (F := Ideal) d da w z g (ix2 s k) = dout d da w s k * g (ix2 0 k) * recip fun k => z (ix2 s k) := by
  rw [val_main_v48_apply, val_main_v47_apply]
  exact congrArg₂ (· * ·) (weighted_at d da w g s k) ((congrArg (val_main_v18 (F := Ideal) z) (eq_ix2 _)).trans (recip_at z s))

theorem product_at (s : Fin 8192) :
    val_main_v46 (F := Ideal) d da w z g (ix2 s 0) = ∑ k, centre (fun k => z (ix2 s k)) k * (dout d da w s k * g (ix2 0 k)) := by
  simp only [← centre_at', ← weighted_at]
  pointwise [val_main_v46, val_main_v45, val_main_v44, val_main_cst_11]

theorem slope_at (s : Fin 8192) :
    val_main_v21 (F := Ideal) z (ix2 s 0) = mhalf * Ideal.div (recip fun k => z (ix2 s k)) (spread fun k => z (ix2 s k)) := by
  unfold mhalf
  rw [← recip_at, ← spread_at]
  pointwise [val_main_v21, val_main_v20, val_main_v19, val_main_cst_6]

theorem share_at (s : Fin 8192) :
    val_main_v54 (F := Ideal) d da w z g (ix2 s 0)
      = Ideal.div ((∑ k, centre (fun k => z (ix2 s k)) k * (dout d da w s k * g (ix2 0 k)))
          * (mhalf * Ideal.div (recip fun k => z (ix2 s k)) (spread fun k => z (ix2 s k)))) width := by
  rw [← product_at, ← slope_at]
  unfold width
  pointwise [val_main_v54, val_main_v53, val_main_v49, val_main_cst_13]

theorem variance_at (s : Fin 8192) (k : Fin 1024) :
    val_main_v57 (F := Ideal) d da w z g (ix2 s k) = byVariance (fun k => z (ix2 s k)) (dout d da w s) (fun k => g (ix2 0 k)) k := by
  unfold byVariance
  rw [← share_at, ← centre_at]
  unfold two
  pointwise [val_main_v57, val_main_v56, val_main_v55, val_main_v9, val_main_v8, val_main_cst_14, val_main_cst_2]
  rw [Fin.sum_univ_one]

theorem mean_direct_at (s : Fin 8192) :
    val_main_v52 (F := Ideal) d da w z g (ix2 s 0) = ∑ k, -(dout d da w s k * g (ix2 0 k) * recip fun k => z (ix2 s k)) := by
  simp only [← direct_at]
  pointwise [val_main_v52, val_main_v51, val_main_v50, val_main_cst_12]

theorem mean_variance_at (s : Fin 8192) :
    val_main_v60 (F := Ideal) d da w z g (ix2 s 0) = ∑ k, -byVariance (fun k => z (ix2 s k)) (dout d da w s) (fun k => g (ix2 0 k)) k := by
  simp only [← variance_at]
  pointwise [val_main_v60, val_main_v59, val_main_v58, val_main_cst_15]

/-- The derivative by the norm's input. -/
theorem row_at (s : Fin 8192) (k : Fin 1024) :
    val_main_v67 (F := Ideal) d da w z g (ix2 s k) = drule (fun k => z (ix2 s k)) (dout d da w s) (fun k => g (ix2 0 k)) k := by
  unfold drule
  rw [← direct_at, ← variance_at, ← mean_direct_at, ← mean_variance_at]
  unfold width
  pointwise [val_main_v67, val_main_v66, val_main_v65, val_main_v64, val_main_v63, val_main_v62, val_main_v61, val_main_cst_16, val_main_cst_17]
  rw [Fin.sum_univ_one]

/-- The derivative by the norm's weight. -/
theorem weight_at (k : Fin 1024) :
    val_main_v41 (F := Ideal) d da w z (ix2 0 k) = ∑ s, dout d da w s k * unit (fun k => z (ix2 s k)) k := by
  have e (s : Fin 8192) : val_main_v39 (F := Ideal) d da w z (ix2 s k) = dout d da w s k * unit (fun k => z (ix2 s k)) k := by
    rw [val_main_v39_apply, val_main_v23_apply, val_main_v22_apply]
    refine (mul_comm (G := EReal) _ _).trans (congrArg₂ (· * ·) (out_at d da w s k) (congrArg₂ (· * ·) (centre_at' z s k) ?_))
    exact (congrArg (val_main_v18 (F := Ideal) z) (eq_ix2 _)).trans (recip_at z s)
  simp only [← e]
  pointwise [val_main_v41, val_main_v40, val_main_cst_10]

/-- The derivative by the norm's bias. -/
theorem bias_at (k : Fin 1024) : val_main_v38 (F := Ideal) d da w (ix2 0 k) = ∑ s, dout d da w s k := by
  simp only [← out_at]
  pointwise [val_main_v38, val_main_v37, val_main_cst_9]

end Cert.NormInputReferenceIdeal.Rows

end
-- ==== Proof.NormFinite.lean ====
/-
  THE PRECONDITION OF THE LAYER NORM'S BACKWARD PASS, OPENED: every entry of the two derivatives that come in and of the two weights is a real number, and so is the derivative by
  the norm's result.
-/
module

public import proofs.«01_k».proof.Proof.Finite
public import proofs.«01_k».proof.Proof.Norm
public import proofs.«01_k».proof.Proof.Gen.Pre_finite_norm
public import Idealize.ShloMosaic.Lib.Pointwise.Tactic
public import Idealize.ShloMosaic.Lib.Pointwise.Reduce

@[expose] public section

noncomputable section

namespace Cert.NormFinite

open Cert.Pre_finite_norm Cert.Pre_finite_norm.Gen Idealize.ShloMosaic Cert.Attend Cert.Norm Cert.Finite

theorem table_d (y : FVec Ideal S8192x1024 .f32) (i : S_.Idx) :
    (Host.reduce FloatOps.maximumf y (constant (F := Ideal) S_ .f32 0xFF800000#32) reducesTo_S8192x1024_S_d0_1 h_S_ : FVec Ideal S_ .f32) i
      = largest fun k : Fin 8192 × Fin 1024 => y (ix2 k.1 k.2) := by
  unfold largest
  pointwise [word_bot]

theorem table_da (y : FVec Ideal S8192x5632 .f32) (i : S_.Idx) :
    (Host.reduce FloatOps.maximumf y (constant (F := Ideal) S_ .f32 0xFF800000#32) reducesTo_S8192x5632_S_d0_1 h_S_ : FVec Ideal S_ .f32) i
      = largest fun k : Fin 8192 × Fin 5632 => y (ix2 k.1 k.2) := by
  unfold largest
  pointwise [word_bot]

theorem table_w (y : FVec Ideal S1024x5632 .f32) (i : S_.Idx) :
    (Host.reduce FloatOps.maximumf y (constant (F := Ideal) S_ .f32 0xFF800000#32) reducesTo_S1024x5632_S_d0_1 h_S_ : FVec Ideal S_ .f32) i
      = largest fun k : Fin 1024 × Fin 5632 => y (ix2 k.1 k.2) := by
  unfold largest
  pointwise [word_bot]

theorem table_g (y : FVec Ideal S1x1024 .f32) (i : S_.Idx) :
    (Host.reduce FloatOps.maximumf y (constant (F := Ideal) S_ .f32 0xFF800000#32) reducesTo_S1x1024_S_d0_1 h_S_ : FVec Ideal S_ .f32) i
      = largest fun k : Fin 1 × Fin 1024 => y (ix2 k.1 k.2) := by
  unfold largest
  pointwise [word_bot]

/-- A conjunction of two bits. -/
theorem split (x y : IVec S_ 1) (h : andi x y = fun _ => 1#1) : (x = fun _ => 1#1) ∧ y = fun _ => 1#1 := by
  have e (i : S_.Idx) : IntOp.andi (x i) (y i) = 1#1 := congrFun h i
  refine ⟨funext fun i => ?_, funext fun i => ?_⟩ <;> have := e i <;> revert this <;> unfold IntOp.andi <;> generalize x i = a <;> generalize y i = b <;> revert a b <;> decide

/-- The comparison of a table of one entry with `+∞`. -/
theorem below (x : FVec Ideal S_ .f32) (h : cmpf .olt x (constant (F := Ideal) S_ .f32 0x7F800000#32) = fun _ => 1#1) (i : S_.Idx) : (x i : EReal) < ⊤ := by
  have z : (constant (F := Ideal) S_ .f32 0x7F800000#32 i : EReal) = ⊤ := word_top
  have e : Ideal.cmp .olt (x i) (constant (F := Ideal) S_ .f32 0x7F800000#32 i) = 1#1 := congrFun h i
  rw [z] at e
  by_cases hx : (x i : EReal) < ⊤
  · exact hx
  · simp_all [Ideal.cmp]

theorem magnitude (y : FVec Ideal S8192x1024 .f32) (k : S8192x1024.Idx) : (Host.absf y k : EReal) = max (y k) (-y k) := by
  pointwise
  rfl

theorem magnitude_g (y : FVec Ideal S1x1024 .f32) (k : S1x1024.Idx) : (Host.absf y k : EReal) = max (y k) (-y k) := by
  pointwise
  rfl

theorem magnitude_da (y : FVec Ideal S8192x5632 .bf16) (k : S8192x5632.Idx) : (Host.absf (extf (F := Ideal) .f32 y bitsLt_bf16_f32) k : EReal) = max (y k) (-y k) := by
  pointwise
  rfl

theorem magnitude_w (y : FVec Ideal S1024x5632 .bf16) (k : S1024x5632.Idx) : (Host.absf (extf (F := Ideal) .f32 y bitsLt_bf16_f32) k : EReal) = max (y k) (-y k) := by
  pointwise
  rfl

variable (d : FVec Ideal S8192x1024 .f32) (da : FVec Ideal S8192x5632 .bf16) (w : FVec Ideal S1024x5632 .bf16) (z : FVec Ideal S8192x1024 .f32) (g : FVec Ideal S1x1024 .f32)

/-- The precondition as four comparisons. -/
theorem opened (h : fn (F := Ideal) d da w z g = fun _ => 1#1) :
    (largest fun k : Fin 8192 × Fin 1024 => (max (d (ix2 k.1 k.2)) (-d (ix2 k.1 k.2)) : EReal)) < ⊤
      ∧ (largest fun k : Fin 8192 × Fin 5632 => (max (da (ix2 k.1 k.2)) (-da (ix2 k.1 k.2)) : EReal)) < ⊤
      ∧ (largest fun k : Fin 1024 × Fin 5632 => (max (w (ix2 k.1 k.2)) (-w (ix2 k.1 k.2)) : EReal)) < ⊤
      ∧ (largest fun k : Fin 1 × Fin 1024 => (max (g (ix2 k.1 k.2)) (-g (ix2 k.1 k.2)) : EReal)) < ⊤ := by
  unfold fn at h
  obtain ⟨h, hg⟩ := split _ _ h
  obtain ⟨h, hw⟩ := split _ _ h
  obtain ⟨hd, ha⟩ := split _ _ h
  have kd := lt_of_eq_of_lt (table_d _ _).symm (below _ hd fun a => a.elim0)
  have ka := lt_of_eq_of_lt (table_da _ _).symm (below _ ha fun a => a.elim0)
  have kw := lt_of_eq_of_lt (table_w _ _).symm (below _ hw fun a => a.elim0)
  have kg := lt_of_eq_of_lt (table_g _ _).symm (below _ hg fun a => a.elim0)
  exact ⟨lt_of_eq_of_lt (congrArg largest (funext fun k => (magnitude d (ix2 k.1 k.2)).symm)) kd,
    lt_of_eq_of_lt (congrArg largest (funext fun k => (magnitude_da da (ix2 k.1 k.2)).symm)) ka,
    lt_of_eq_of_lt (congrArg largest (funext fun k => (magnitude_w w (ix2 k.1 k.2)).symm)) kw,
    lt_of_eq_of_lt (congrArg largest (funext fun k => (magnitude_g g (ix2 k.1 k.2)).symm)) kg⟩

variable {d da w z g} (h : fn (F := Ideal) d da w z g = fun _ => 1#1)
include h

/-- Every entry of the norm's weight is real. -/
theorem weight_real (k : Fin 1024) : ∃ x : ℝ, (g (ix2 0 k) : EReal) = x := by
  have b := le_largest (fun k : Fin 1 × Fin 1024 => (max (g (ix2 k.1 k.2)) (-g (ix2 k.1 k.2)) : EReal)) (0, k)
  exact real_of_abs (x := g (ix2 0 k)) (lt_of_le_of_lt b (opened d da w z g h).2.2.2)

/-- The derivative by the norm's result is real. -/
theorem out_real (s : Fin 8192) (k : Fin 1024) :
    ∃ x : ℝ, (alpha * (d (ix2 s k) : EReal) + ∑ j : Fin 5632, (da (ix2 s j) : EReal) * (w (ix2 k j) : EReal)) = x := by
  obtain ⟨hd, ha, hw, -⟩ := opened d da w z g h
  obtain ⟨a, ea⟩ := alpha_real
  have bd := le_largest (fun k : Fin 8192 × Fin 1024 => (max (d (ix2 k.1 k.2)) (-d (ix2 k.1 k.2)) : EReal)) (s, k)
  obtain ⟨x, hx⟩ := real_of_abs (x := d (ix2 s k)) (lt_of_le_of_lt bd hd)
  obtain ⟨y, hy⟩ := real_sum Finset.univ (fun j : Fin 5632 => (da (ix2 s j) : EReal) * (w (ix2 k j) : EReal)) fun j => by
    have b1 := le_largest (fun k : Fin 8192 × Fin 5632 => (max (da (ix2 k.1 k.2)) (-da (ix2 k.1 k.2)) : EReal)) (s, j)
    have b2 := le_largest (fun k : Fin 1024 × Fin 5632 => (max (w (ix2 k.1 k.2)) (-w (ix2 k.1 k.2)) : EReal)) (k, j)
    obtain ⟨p, hp⟩ := real_of_abs (x := da (ix2 s j)) (lt_of_le_of_lt b1 ha)
    obtain ⟨q, hq⟩ := real_of_abs (x := w (ix2 k j)) (lt_of_le_of_lt b2 hw)
    exact ⟨p * q, by rw [EReal.coe_mul, ← hp, ← hq]⟩
  exact ⟨a * x + y, by rw [EReal.coe_add, EReal.coe_mul, ← ea, ← hx, ← hy]⟩

end Cert.NormFinite

end
-- ==== Proof.Attention.lean ====
/-
  THE CROSS-ATTENTION, of the forward pass: the kernel's array and the reference's, entry by entry. The grid walks down the query in 16 blocks of 512 rows; each point computes its
  rows' four heads, one after the other, against the whole memory.
-/
module

public import proofs.«01_k».proof.Proof.Gen.AttentionIdeal.Value
public import proofs.«01_k».proof.Proof.Gen.AttentionReferenceIdeal.Read
public import proofs.«01_k».proof.Proof.Spec
public import proofs.«01_k».proof.Proof.Table
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.Attend

open Idealize.ShloMosaic

/-- The attention's output at row `s`, column `d` of head `h`: the values, weighed by the softmax of the row's scores. -/
def attended (q : (⟨2, ![8192, 1024]⟩ : Shape).Idx → EReal) (mkv : (⟨2, ![256, 2048]⟩ : Shape).Idx → EReal) (h : Fin 4) (s : Fin 8192) (d : Fin 256) : EReal :=
  ∑ j, prob (logits (headRow q h s) (keys mkv h)) j * values mkv h j d

end Cert.Attend

namespace Cert.AttentionIdeal.Rows

open Cert.AttentionIdeal Cert.AttentionIdeal.Gen Cert.Attend Cert.Table Idealize.ShloMosaic Idealize.ShloMosaic.TcCoe Idealize.SL.Sem

/-! ### One head of one block -/

section Head

variable (q : S512x256.Idx → Elt Ideal .bf16) (k v : S256x256.Idx → Elt Ideal .bf16)

theorem head0 (r : Fin 512) (d : Fin 256) :
    k0_pay2 q k v (ix2 r d) = ∑ j, prob (logits (row q r) (row k)) j * v (ix2 j d) := by
  unfold_payloads
  pointwise [dot_S512x256_S256x256_S512x256_1_1_0_0_n_n, dot_S512x256_S256x256_S512x256_1_0_0_1_n_n, word_scale, word_bot]
  rfl

/-! The printed text cuts the same arithmetic differently from one head to the next. -/

theorem head1 : k0_pay5 (k0_pay4 q k) v = k0_pay2 q k v := rfl

theorem head2 : k0_pay6 (k0_pay3 q k) v = k0_pay2 q k v := rfl

theorem head3 : k0_pay1 (k0_pay7 q k) (k0_pay8 q k) v = k0_pay2 q k v := rfl

end Head

variable (m : (ℓ : Loc nD τ sig) → Buf (Elt Ideal) ℓ) (c : Dev nD)

/-- The query. -/
abbrev Q : S8192x1024.Idx → EReal := m ((c.tc : Thread nD τ).loc main_arg0)

/-- The memory: keys and values. -/
abbrev MKV : S256x2048.Idx → EReal := m ((c.tc : Thread nD τ).loc main_arg1)

/-- The array's row that is row `r` of block `t`. -/
def rowAt (t : Fin cfg0.N) (r : Fin 512) : Fin 8192 := ⟨t.val * 512 + r.val, by have : t.val < 16 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = 0 ∧ win0_2.index t 1 = 1 :=
  (by decide +kernel : ∀ t : Fin grid0.N, win0_2.index t 0 = 0 ∧ win0_2.index t 1 = 1)

theorem place3 : ∀ t : Fin cfg0.N, win0_3.index t 0 = t.val ∧ win0_3.index t 1 = 0 :=
  (by decide +kernel : ∀ t : Fin grid0.N, win0_3.index t 0 = t.val ∧ win0_3.index t 1 = 0)

variable (t : Fin cfg0.N)

theorem iblk_q (r : Fin 512) (k : Fin 1024) : iblk m c 0 t (ix2 r k) = Q m c (ix2 (rowAt t r) k) := by
  blk_ext [iblk, V, place0 t, rowAt]

theorem iblk_k (j : Fin 256) (k : Fin 1024) : iblk m c 1 t (ix2 j k) = MKV m c (ix2 j (keyCol k)) := by
  blk_ext [iblk, V, place1 t, keyCol]

theorem iblk_v (j : Fin 256) (k : Fin 1024) : iblk m c 2 t (ix2 j k) = MKV m c (ix2 j (valCol k)) := by
  blk_ext [iblk, V, place2 t, valCol]

/-- The block of the output. -/
def outBlock : S512x1024.Idx → Elt Ideal .bf16 := fun y =>
  attended (Q m c) (MKV m c) (headOf (keyCol (y 1))) (rowAt t (y 0)) (within (keyCol (y 1)))

section Tiles

variable {o : ℕ} (hd : Fin 4) (ho : o = hd.val * 256)
include ho

theorem tile_q (inb) (r : Fin 512) (d : Fin 256) :
    View.ld (iblk m c 0 t) (Rect.unit ![0, o] ![512, 256] inb) (ix2 r d) = headRow (Q m c) hd (rowAt t r) d := by
  rw [View.ld_unit_apply_of _ _ _ _ _ (ix2 r (col hd d)) (by simp [col, ho])]
  exact iblk_q m c t r (col hd d)

theorem tile_k (inb) (j d : Fin 256) :
    View.ld (iblk m c 1 t) (Rect.unit ![0, o] ![256, 256] inb) (ix2 j d) = keys (MKV m c) hd j d := by
  rw [View.ld_unit_apply_of _ _ _ _ _ (ix2 j (col hd d)) (by simp [col, ho])]
  exact iblk_k m c t j (col hd d)

theorem tile_v (inb) (j d : Fin 256) :
    View.ld (iblk m c 2 t) (Rect.unit ![0, o] ![256, 256] inb) (ix2 j d) = values (MKV m c) hd j d := by
  rw [View.ld_unit_apply_of _ _ _ _ _ (ix2 j (col hd d)) (by simp [col, ho])]
  exact iblk_v m c t j (col hd d)

/-- One head of the output, as the point computes it. -/
theorem out_tile (i1 i2 i3) (r : Fin 512) (d : Fin 256) :
    k0_pay2 (View.ld (iblk m c 0 t) (Rect.unit ![0, o] ![512, 256] i1)) (View.ld (iblk m c 1 t) (Rect.unit ![0, o] ![256, 256] i2))
        (View.ld (iblk m c 2 t) (Rect.unit ![0, o] ![256, 256] i3)) (ix2 r d)
      = attended (Q m c) (MKV m c) hd (rowAt t r) d := by
  rw [head0]
  unfold attended row
  simp only [tile_q m c t hd ho, tile_k m c t hd ho, tile_v m c t hd ho]

theorem outBlock_emb (inb) (r : Fin 512) (d : Fin 256) :
    outBlock m c t ((Rect.unit (s := S512x1024) ![0, o] ![512, 256] inb).emb (ix2 r d)) = attended (Q m c) (MKV m c) hd (rowAt t r) d := by
  have e : (Rect.unit (s := S512x1024) ![0, o] ![512, 256] inb).emb (ix2 r d) = ix2 r (col hd d) := by
    blk_ext [col, ho]
  rw [e]
  show attended _ _ (headOf (keyCol (col hd d))) (rowAt t r) (within (keyCol (col hd d))) = _
  rw [headOf_key, within_key]

end Tiles

/-- What a point leaves. -/
theorem out_after (y : S512x1024.Idx) : out0_3 (F := Ideal) (iblk m c 0 t) (iblk m c 1 t) (iblk m c 2 t) y = outBlock m c t y := by
  frame_out
  refine View.canon_append_of_piecesOf (outBlock m c t) [] [_, _, _, _] ?_ y ?_
  · exact ⟨
      on_table fun r d => (congrFun (head3 _ _ _) _).trans <| (out_tile m c t 3 rfl _ _ _ r d).trans (outBlock_emb m c t 3 rfl inb_S512x1024_S512x256_0_768 r d).symm,
      on_table fun r d => (congrFun (head2 _ _ _) _).trans <| (out_tile m c t 2 rfl _ _ _ r d).trans (outBlock_emb m c t 2 rfl inb_S512x1024_S512x256_0_512 r d).symm,
      on_table fun r d => (congrFun (head1 _ _ _) _).trans <| (out_tile m c t 1 rfl _ _ _ r d).trans (outBlock_emb m c t 1 rfl inb_S512x1024_S512x256_0_256 r d).symm,
      on_table fun r d => (out_tile m c t 0 rfl _ _ _ r d).trans (outBlock_emb m c t 0 rfl inb_S512x1024_S512x256_0_0 r d).symm, trivial⟩
  · exact View.cover_of_tiled _ ![512, 256] rfl y

/-- The kernel's array. -/
def output : S8192x1024.Idx → Elt Ideal .bf16 := fun y =>
  attended (Q m c) (MKV m c) (headOf (keyCol (y 1))) (y 0) (within (keyCol (y 1)))

theorem output_end : (dats m 0 c).arrAt 3 cfg0.N = output m c := by
  refine (dats m 0 c).arrAt_eq_of_covers 3 _ (by decide +kernel) fun t hf y => ?_
  blk_simp
  rw [after0_3]
  refine (out_after m c t y).trans ?_
  have e : (win0_3.blk t).view.emb y = ix2 (rowAt t (y 0)) (y 1) := by
    blk_ext [place3 t, rowAt]
  rw [e]
  rfl

end Cert.AttentionIdeal.Rows

namespace Cert.AttentionReferenceIdeal.Rows

open Cert.AttentionReferenceIdeal Cert.AttentionReferenceIdeal.Gen Cert.AttentionReferenceIdeal.Read Cert.Attend Cert.Table Idealize.ShloMosaic Idealize.ShloMosaic.TcCoe Idealize.SL.Sem

variable (q : (⟨S8192x1024, .bf16⟩ : BufTy).Contents (Elt Ideal)) (mkv : (⟨S256x2048, .bf16⟩ : BufTy).Contents (Elt Ideal))
  (h : Fin 4) (s : Fin 8192) (j d : Fin 256)

/-- The keys. -/
theorem key_at : val_main_v4 (F := Ideal) mkv (ix3 j h d) = keys mkv h j d := by
  pointwise [val_main_v4, val_main_v2, val_main_v1]
  rfl

/-- The values. -/
theorem value_at : val_main_v5 (F := Ideal) mkv (ix3 j h d) = values mkv h j d := by
  pointwise [val_main_v5, val_main_v3, val_main_v1]
  rfl

/-- The query. -/
theorem query_at : val_main_v6 (F := Ideal) q (ix3 s h d) = headRow q h s d := by
  pointwise [val_main_v6, val_main_v0]
  rfl

/-- The scores. -/
theorem score_at : val_main_v9 (F := Ideal) q mkv (ix3 h s j) = logits (headRow q h s) (keys mkv h) j := by
  pointwise [val_main_v9, val_main_v8, val_main_cst, val_main_v7, dot_S8192x4x256_S256x4x256_S4x8192x256_2_2_0_0_1_1, word_scale, key_at, query_at]
  simp only [logits, dot]

/-- The largest of a row of a table with three axes, from `−∞`. -/
theorem peak_of_table (y : FVec Ideal S4x8192x256 .f32) :
    (Host.reduce FloatOps.maximumf y (val_main_cst_0 (F := Ideal)) reducesTo_S4x8192x256_S4x8192_d2 h_S_ : FVec Ideal S4x8192 .f32) (ix2 h s) = peak fun j => y (ix3 h s j) := by
  pointwise [val_main_cst_0, word_bot]
  rw [peak]

/-- The largest score of a row. -/
theorem peak_at : val_main_v12 (F := Ideal) q mkv (ix2 h s) = peak (logits (headRow q h s) (keys mkv h)) := by
  have e : val_main_v10 (F := Ideal) q mkv (ix2 h s) = peak (logits (headRow q h s) (keys mkv h)) := by
    unfold val_main_v10
    rw [peak_of_table]
    exact congrArg peak (funext fun j => score_at q mkv h s j)
  rw [val_main_v12_apply, e, val_main_v11_apply, val_main_cst_1_apply]
  rw [Ideal.maximumf_def, Ideal.ofBits_def, word_bot, max_bot_left]

/-- The exponentials. -/
theorem wt_at : val_main_v16 (F := Ideal) q mkv (ix3 h s j) = wt (logits (headRow q h s) (keys mkv h)) j := by
  pointwise [val_main_v16, val_main_v15, val_main_v14, val_main_v13, score_at, peak_at]
  rfl

/-- Their sum. -/
theorem mass_at : val_main_v18 (F := Ideal) q mkv (ix3 h s 0) = mass (logits (headRow q h s) (keys mkv h)) := by
  pointwise [val_main_v18, val_main_v17, val_main_cst_2, wt_at]
  rfl

/-- The probabilities. -/
theorem prob_at : val_main_v20 (F := Ideal) q mkv (ix3 h s j) = prob (logits (headRow q h s) (keys mkv h)) j := by
  pointwise [val_main_v20, val_main_v19, wt_at, mass_at]
  rfl

/-- The head of a column. -/
theorem col_div (p : (col h d).val / 256 < 4) : (⟨(col h d).val / 256, p⟩ : Fin 4) = h := by
  ext; simp only [col]; omega

/-- The place of a column in its head. -/
theorem col_mod (p : (col h d).val % 256 < 256) : (⟨(col h d).val % 256, p⟩ : Fin 256) = d := by
  ext; simp only [col]; omega

/-- The output. -/
theorem output_at : val_main_v24 (F := Ideal) q mkv (ix2 s (col h d)) = ∑ j, values mkv h j d * prob (logits (headRow q h s) (keys mkv h)) j := by
  pointwise [val_main_v24, val_main_v23, val_main_v22, val_main_v21, dot_S256x4x256_S4x8192x256_S4x256x8192_0_2_2_1_1_0, value_at, prob_at, col_div, col_mod]

/-- The reference's array. -/
theorem reference_eq : val_main_v24 (F := Ideal) q mkv = fun y => attended q mkv (headOf (keyCol (y 1))) (y 0) (within (keyCol (y 1))) := by
  funext y
  obtain ⟨h, d, e⟩ := exists_col (y 1)
  rw [eq_ix2 y, e]
  refine (output_at q mkv h (y 0) d).trans ?_
  show _ = attended q mkv (headOf (keyCol (col h d))) (y 0) (within (keyCol (col h d)))
  rw [headOf_key, within_key]
  exact Finset.sum_congr rfl fun j _ => mul_comm (G := EReal) _ _

end Cert.AttentionReferenceIdeal.Rows

end
-- ==== Proof.AttentionSame.lean ====
/-
  THE CROSS-ATTENTION'S OUTPUT: the kernel's array is the reference's.
-/
module

public import proofs.«01_k».proof.Defs
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.AttentionReferenceIdeal.Run
public import proofs.«01_k».proof.Proof.Attention
public import Idealize.ShloMosaic.Lib.Claim
public import Idealize.ShloMosaic.Lib.Quiescent
public import Idealize.ShloMosaic.Adequacy
public import Idealize.ShloMosaic.Init

@[expose] public section

noncomputable section

namespace Cert.AttentionSame

open Idealize.ShloMosaic Idealize.SL.Sem

/-- The reference leaves its arguments as they were. -/
theorem reference_frame : Cert.quiescent_AttentionReferenceIdeal := fun m ρ _ =>
  (θ_run Cert.AttentionReferenceIdeal.defs _ _).mono (fun r h => ⟨fun c => (h c).2, sem_eq_zero_of_no_sems (by decide) r.2⟩) (Cert.AttentionReferenceIdeal.Value.run (F := Ideal) m ρ)

/-- The two arrays are equal. -/
theorem same_output : Cert.algebraic_AttentionIdeal_AttentionReferenceIdeal := by
  intro m g m' g' _ hargs
  refine ⟨fun c => Cert.AttentionIdeal.Rows.output m c, ?_, ?_⟩
  · refine (θ_run Cert.AttentionIdeal.defs _ _).mono (fun r h c => ?_) (Cert.AttentionIdeal.Value.run_blocks m g)
    obtain ⟨h2, ha⟩ := h c
    exact ⟨h2.trans (Cert.AttentionIdeal.Rows.output_end m c), ha⟩
  · refine (θ_run Cert.AttentionReferenceIdeal.defs _ _).mono (fun r h c => ?_) (Cert.AttentionReferenceIdeal.Value.run m' g')
    obtain ⟨hv, ha⟩ := h c
    obtain ⟨e0, e1⟩ := hargs c
    refine ⟨hv.trans ?_, ha⟩
    rw [Cert.AttentionReferenceIdeal.Read.val_main_v24_eq, e0, e1]
    exact Cert.AttentionReferenceIdeal.Rows.reference_eq (Cert.AttentionIdeal.Rows.Q m c) (Cert.AttentionIdeal.Rows.MKV m c)

end Cert.AttentionSame

end
-- ==== Proof.DownNorm.lean ====
/-
  THE FEED-FORWARD BLOCK'S LAST PRODUCT, the residual and the norm, of the forward pass: the kernel's four arrays. Each point takes 512 rows: the residual scaled, plus the product; the norm's row; and it saves the
  normalised rows and the reciprocals of their deviations.
-/
module

public import proofs.«01_k».proof.Proof.Gen.DownNormIdeal.Value
public import proofs.«01_k».proof.Proof.Norm
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.StableHlo.ReadAt
public import Idealize.ShloMosaic.Lib.Claim
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.DownNormIdeal.Rows

open Cert.DownNormIdeal Cert.DownNormIdeal.Gen Cert.Norm Idealize.ShloMosaic Idealize.ShloMosaic.TcCoe Idealize.SL.Sem

/-! ### One block -/

section Block
variable (a : S512x2816.Idx → Elt Ideal .bf16) (w : S2816x1024.Idx → Elt Ideal .bf16) (x : S512x1024.Idx → Elt Ideal .f32) (g b : S1x1024.Idx → Elt Ideal .f32)

/-- A row before the norm. -/
def before (r : Fin 512) (k : Fin 1024) : EReal := alpha * x (ix2 r k) + ∑ j : Fin 2816, a (ix2 r j) * w (ix2 j k)

theorem centre_apply (r : Fin 512) (k : Fin 1024) : k0_pay1 a w x (ix2 r k) = centre (before a w x r) k := by
  unfold_payloads
  unfold centre before width alpha
  pointwise [dot_S512x2816_S2816x1024_S512x1024_1_0_0_1_n_n]

theorem recip_apply (r : Fin 512) : k0_pay2 a w x (ix2 r 0) = recip (before a w x r) := by
  unfold recip spread
  simp only [← centre_apply]
  unfold k0_pay2 width eps
  generalize k0_pay1 a w x = o
  pointwise

theorem unit_apply (r : Fin 512) (k : Fin 1024) : k0_pay3 a w x (ix2 r k) = unit (before a w x r) k := by
  unfold unit
  rw [← centre_apply, ← recip_apply]
  unfold k0_pay3
  generalize k0_pay1 a w x = o
  generalize k0_pay2 a w x = s
  pointwise

theorem norm_apply (r : Fin 512) (k : Fin 1024) : k0_pay4 a w x g b (ix2 r k) = unit (before a w x r) k * g (ix2 0 k) + b (ix2 0 k) := by
  rw [← unit_apply]
  unfold k0_pay4
  generalize k0_pay3 a w x = o
  pointwise

end Block

variable (m : (ℓ : Loc nD τ sig) → Buf (Elt Ideal) ℓ) (c : Dev nD)

/-- The gated activation. -/
abbrev A : S8192x2816.Idx → EReal := m ((c.tc : Thread nD τ).loc main_arg0)

/-- The product's weight. -/
abbrev W : S2816x1024.Idx → EReal := m ((c.tc : Thread nD τ).loc main_arg1)

/-- The residual. -/
abbrev X : S8192x1024.Idx → EReal := m ((c.tc : Thread nD τ).loc main_arg2)

/-- The norm's weight. -/
abbrev G : S1x1024.Idx → EReal := m ((c.tc : Thread nD τ).loc main_arg3)

/-- The norm's bias. -/
abbrev B : S1x1024.Idx → EReal := m ((c.tc : Thread nD τ).loc main_arg4)

/-- A row before the norm. -/
def zrow (s : Fin 8192) (k : Fin 1024) : EReal := alpha * X m c (ix2 s k) + ∑ j : Fin 2816, A m c (ix2 s j) * W m c (ix2 j k)

/-- The norm's row. -/
def norm (s : Fin 8192) (k : Fin 1024) : EReal := unit (zrow m c s) k * G m c (ix2 0 k) + B m c (ix2 0 k)

/-! ### The block of a grid point -/

variable (t : Fin cfg0.N)

/-- The array's row that is row `r` of the block at hand. -/
def rowAt (r : Fin 512) : Fin 8192 := ⟨t.val * 512 + r.val, by have : t.val < 16 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem place5 : ∀ t : Fin cfg0.N, win0_5.index t 0 = t.val ∧ win0_5.index t 1 = 0 :=
  (by decide +kernel : ∀ t : Fin grid0.N, win0_5.index t 0 = t.val ∧ win0_5.index t 1 = 0)

theorem place6 : ∀ t : Fin cfg0.N, win0_6.index t 0 = t.val ∧ win0_6.index t 1 = 0 :=
  (by decide +kernel : ∀ t : Fin grid0.N, win0_6.index t 0 = t.val ∧ win0_6.index t 1 = 0)

theorem place7 : ∀ t : Fin cfg0.N, win0_7.index t 0 = t.val ∧ win0_7.index t 1 = 0 :=
  (by decide +kernel : ∀ t : Fin grid0.N, win0_7.index t 0 = t.val ∧ win0_7.index t 1 = 0)

theorem place8 : ∀ t : Fin cfg0.N, win0_8.index t 0 = t.val ∧ win0_8.index t 1 = 0 :=
  (by decide +kernel : ∀ t : Fin grid0.N, win0_8.index t 0 = t.val ∧ win0_8.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place3 : ∀ t : Fin cfg0.N, win0_3.index t 0 = 0 ∧ win0_3.index t 1 = 0 :=
  (by decide +kernel : ∀ t : Fin grid0.N, win0_3.index t 0 = 0 ∧ win0_3.index t 1 = 0)

theorem place4 : ∀ t : Fin cfg0.N, win0_4.index t 0 = 0 ∧ win0_4.index t 1 = 0 :=
  (by decide +kernel : ∀ t : Fin grid0.N, win0_4.index t 0 = 0 ∧ win0_4.index t 1 = 0)

theorem iblk_a (r : Fin 512) (j : Fin 2816) : iblk m c 0 t (ix2 r j) = A m c (ix2 (rowAt t r) j) := by
  blk_ext [iblk, V, place0 t, rowAt]

theorem iblk_w (j : Fin 2816) (k : Fin 1024) : iblk m c 1 t (ix2 j k) = W m c (ix2 j k) := by
  blk_ext [iblk, V, place1 t]

theorem iblk_x (r : Fin 512) (k : Fin 1024) : iblk m c 2 t (ix2 r k) = X m c (ix2 (rowAt t r) k) := by
  blk_ext [iblk, V, place2 t, rowAt]

theorem iblk_g (k : Fin 1024) : iblk m c 3 t (ix2 0 k) = G m c (ix2 0 k) := by
  blk_ext [iblk, V, place3 t]

theorem iblk_b (k : Fin 1024) : iblk m c 4 t (ix2 0 k) = B m c (ix2 0 k) := by
  blk_ext [iblk, V, place4 t]

theorem before_at (r : Fin 512) : before (iblk m c 0 t) (iblk m c 1 t) (iblk m c 2 t) r = zrow m c (rowAt t r) :=
  funext fun k => congrArg₂ (· + ·) (congrArg (alpha * ·) (iblk_x m c t r k))
    (Finset.sum_congr rfl fun j _ => congrArg₂ (· * ·) (iblk_a m c t r j) (iblk_w m c t j k))

theorem norm_at (r : Fin 512) (k : Fin 1024) :
    k0_pay4 (F := Ideal) (iblk m c 0 t) (iblk m c 1 t) (iblk m c 2 t) (iblk m c 3 t) (iblk m c 4 t) (ix2 r k) = norm m c (rowAt t r) k :=
  (norm_apply _ _ _ _ _ _ _).trans (congrArg₂ (· + ·) (congrArg₂ (· * ·) (congrArg (unit · k) (before_at m c t r)) (iblk_g m c t k)) (iblk_b m c t k))

theorem unit_at (r : Fin 512) (k : Fin 1024) :
    k0_pay3 (F := Ideal) (iblk m c 0 t) (iblk m c 1 t) (iblk m c 2 t) (ix2 r k) = unit (zrow m c (rowAt t r)) k :=
  (unit_apply _ _ _ _ _).trans (congrArg (unit · k) (before_at m c t r))

theorem recip_at (r : Fin 512) : k0_pay2 (F := Ideal) (iblk m c 0 t) (iblk m c 1 t) (iblk m c 2 t) (ix2 r 0) = recip (zrow m c (rowAt t r)) :=
  (recip_apply _ _ _ _).trans (congrArg recip (before_at m c t r))

/-! ### The arrays -/

/-- The first array: the norm. -/
def normArray : S8192x1024.Idx → Elt Ideal .f32 := fun y => norm m c (y 0) (y 1)

/-- The second array: the same, stored again. -/
def normCopy : S8192x1024.Idx → Elt Ideal .bf16 := fun y => norm m c (y 0) (y 1)

/-- The third array: the normalised rows. -/
def unitArray : S8192x1024.Idx → Elt Ideal .f32 := fun y => unit (zrow m c (y 0)) (y 1)

/-- The fourth array: the reciprocals of the deviations. -/
def recipArray : S8192x1.Idx → Elt Ideal .f32 := fun y => recip (zrow m c (y 0))

theorem norm_end : (dats m 0 c).arrAt 5 cfg0.N = normArray m c := by
  refine (dats m 0 c).arrAt_eq_of_covers 5 _ (by decide +kernel) fun t hf y => ?_
  blk_simp
  rw [after0_5]
  frame_out
  have e : (win0_5.blk t).view.emb y = ix2 (rowAt t (y 0)) (y 1) := by
    blk_ext [place5 t, rowAt]
  rw [e, eq_ix2 y]
  exact norm_at m c t (y 0) (y 1)

theorem copy_end : (dats m 0 c).arrAt 6 cfg0.N = normCopy m c := by
  refine (dats m 0 c).arrAt_eq_of_covers 6 _ (by decide +kernel) fun t hf y => ?_
  blk_simp
  rw [after0_6]
  frame_out
  have e : (win0_6.blk t).view.emb y = ix2 (rowAt t (y 0)) (y 1) := by
    blk_ext [place6 t, rowAt]
  rw [e, eq_ix2 y]
  exact norm_at m c t (y 0) (y 1)

theorem unit_end : (dats m 0 c).arrAt 7 cfg0.N = unitArray m c := by
  refine (dats m 0 c).arrAt_eq_of_covers 7 _ (by decide +kernel) fun t hf y => ?_
  blk_simp
  rw [after0_7]
  frame_out
  have e : (win0_7.blk t).view.emb y = ix2 (rowAt t (y 0)) (y 1) := by
    blk_ext [place7 t, rowAt]
  rw [e, eq_ix2 y]
  exact unit_at m c t (y 0) (y 1)

theorem recip_end : (dats m 0 c).arrAt 8 cfg0.N = recipArray m c := by
  refine (dats m 0 c).arrAt_eq_of_covers 8 _ (by decide +kernel) fun t hf y => ?_
  blk_simp
  rw [after0_8]
  frame_out
  obtain ⟨r, rfl⟩ : ∃ r : Fin 512, y = ix2 r 0 := ⟨y 0, (eq_ix2 y).trans (congrArg (ix2 (y 0) ·) (Subsingleton.elim (α := Fin 1) _ _))⟩
  have e : (win0_8.blk t).view.emb (ix2 r 0) = ix2 (rowAt t r) 0 := by
    blk_ext [place8 t, rowAt]
  rw [e]
  exact recip_at m c t r

end Cert.DownNormIdeal.Rows

end
-- ==== Proof.DownNormReference.lean ====
/-
  WHAT THE REFERENCE OF THE FEED-FORWARD BLOCK'S LAST PRODUCT, THE RESIDUAL AND THE NORM HOLDS.
-/
module

public import proofs.«01_k».proof.Proof.Gen.DownNormReferenceIdeal.Read
public import proofs.«01_k».proof.Proof.Norm
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.DownNormReferenceIdeal.Rows

open Cert.DownNormReferenceIdeal Cert.DownNormReferenceIdeal.Gen Cert.DownNormReferenceIdeal.Read Cert.Norm Idealize.ShloMosaic

variable (a : S8192x2816.Idx → EReal) (w : S2816x1024.Idx → EReal) (x : S8192x1024.Idx → EReal) (g b : S1x1024.Idx → EReal)

/-- A row before the norm. -/
def zrow (s : Fin 8192) (k : Fin 1024) : EReal := alpha * x (ix2 s k) + ∑ j : Fin 2816, a (ix2 s j) * w (ix2 j k)

theorem before_at (s : Fin 8192) (k : Fin 1024) : val_main_v5 (F := Ideal) a w x (ix2 s k) = zrow a w x s k := by
  unfold zrow alpha
  rw [val_main_v5_apply, val_main_v4_apply]
  pointwise [val_main_v1, val_main_v0, val_main_cst, val_main_v2, val_main_v3]
  have el (j : Fin 2816) : lidx_main_v4 (ix2 s k) j = ix2 s j := eq_ix2 _
  have er (j : Fin 2816) : ridx_main_v4 (ix2 s k) j = ix2 j k := eq_ix2 _
  simp only [el, er]

theorem mean_at (s : Fin 8192) : val_main_v9 (F := Ideal) a w x (ix2 s 0) = Ideal.div (∑ k, zrow a w x s k) width := by
  simp only [← before_at]
  unfold width
  pointwise [val_main_v9, val_main_v8, val_main_v7, val_main_v6, val_main_cst_0, val_main_cst_1]

theorem mean_at' (s : Fin 8192) : val_main_v23 (F := Ideal) a w x (ix2 s 0) = Ideal.div (∑ k, zrow a w x s k) width := by
  simp only [← before_at]
  unfold width
  pointwise [val_main_v23, val_main_v22, val_main_v21, val_main_v20, val_main_cst_5, val_main_cst_6]

theorem centre_at (s : Fin 8192) (k : Fin 1024) : val_main_v11 (F := Ideal) a w x (ix2 s k) = centre (zrow a w x s) k := by
  rw [val_main_v11_apply, val_main_v10_apply]
  exact congrArg₂ (· - ·) (before_at a w x s k) ((congrArg (val_main_v9 (F := Ideal) a w x) (eq_ix2 _)).trans (mean_at a w x s))

theorem centre_saved_at (s : Fin 8192) (k : Fin 1024) : val_main_v44 (F := Ideal) a w x (ix2 s k) = centre (zrow a w x s) k := by
  rw [val_main_v44_apply, val_main_v43_apply]
  exact congrArg₂ (· - ·) (before_at a w x s k) ((congrArg (val_main_v9 (F := Ideal) a w x) (eq_ix2 _)).trans (mean_at a w x s))

theorem centre_squared_at (s : Fin 8192) (k : Fin 1024) : val_main_v25 (F := Ideal) a w x (ix2 s k) = centre (zrow a w x s) k := by
  rw [val_main_v25_apply, val_main_v24_apply]
  exact congrArg₂ (· - ·) (before_at a w x s k) ((congrArg (val_main_v23 (F := Ideal) a w x) (eq_ix2 _)).trans (mean_at' a w x s))

theorem centre_norm_at (s : Fin 8192) (k : Fin 1024) : val_main_v32 (F := Ideal) a w x (ix2 s k) = centre (zrow a w x s) k := by
  rw [val_main_v32_apply, val_main_v31_apply]
  exact congrArg₂ (· - ·) (before_at a w x s k) ((congrArg (val_main_v23 (F := Ideal) a w x) (eq_ix2 _)).trans (mean_at' a w x s))

theorem spread_at (s : Fin 8192) : val_main_v18 (F := Ideal) a w x (ix2 s 0) = spread (zrow a w x s) := by
  unfold spread width eps
  simp only [← centre_at]
  pointwise [val_main_v18, val_main_v17, val_main_v16, val_main_v15, val_main_v14, val_main_v13, val_main_v12, val_main_cst_2, val_main_cst_3, val_main_cst_4]

theorem recip_at (s : Fin 8192) : val_main_v19 (F := Ideal) a w x (ix2 s 0) = recip (zrow a w x s) := by
  unfold recip
  rw [← spread_at]
  pointwise [val_main_v19]

theorem spread_norm_at (s : Fin 8192) : val_main_v34 (F := Ideal) a w x (ix2 s 0) = spread (zrow a w x s) := by
  unfold spread width eps
  simp only [← centre_squared_at]
  pointwise [val_main_v34, val_main_v33, val_main_v30, val_main_v29, val_main_v28, val_main_v27, val_main_v26, val_main_cst_7, val_main_cst_8, val_main_cst_9]

theorem recip_norm_at (s : Fin 8192) : val_main_v35 (F := Ideal) a w x (ix2 s 0) = recip (zrow a w x s) := by
  unfold recip
  rw [← spread_norm_at]
  pointwise [val_main_v35]

theorem unit_at (s : Fin 8192) (k : Fin 1024) : val_main_v46 (F := Ideal) a w x (ix2 s k) = unit (zrow a w x s) k := by
  rw [val_main_v46_apply, val_main_v45_apply]
  exact congrArg₂ (· * ·) (centre_saved_at a w x s k) ((congrArg (val_main_v19 (F := Ideal) a w x) (eq_ix2 _)).trans (recip_at a w x s))

theorem unit_norm_at (s : Fin 8192) (k : Fin 1024) : val_main_v37 (F := Ideal) a w x (ix2 s k) = unit (zrow a w x s) k := by
  rw [val_main_v37_apply, val_main_v36_apply]
  exact congrArg₂ (· * ·) (centre_norm_at a w x s k) ((congrArg (val_main_v35 (F := Ideal) a w x) (eq_ix2 _)).trans (recip_norm_at a w x s))

/-- The norm's row. -/
theorem norm_at (s : Fin 8192) (k : Fin 1024) :
    val_main_v41 (F := Ideal) a w x g b (ix2 s k) = unit (zrow a w x s) k * g (ix2 0 k) + b (ix2 0 k) := by
  rw [val_main_v41_apply, val_main_v39_apply, val_main_v38_apply, val_main_v40_apply]
  exact congrArg₂ (· + ·) (congrArg₂ (· * ·) (unit_norm_at a w x s k) (congrArg g (eq_ix2 _))) (congrArg b (eq_ix2 _))

end Cert.DownNormReferenceIdeal.Rows

end
-- ==== Proof.DownNormSame.lean ====
/-
  THE FEED-FORWARD BLOCK'S LAST PRODUCT, THE RESIDUAL AND THE NORM: the kernel's four arrays are the reference's.
-/
module

public import proofs.«01_k».proof.Defs
public import proofs.«01_k».proof.Proof.Gen.DownNorm
public import proofs.«01_k».proof.Proof.Gen.DownNorm.Frame
public import proofs.«01_k».proof.Proof.Gen.DownNormIdeal
public import proofs.«01_k».proof.Proof.Gen.DownNormIdeal.Frame
public import proofs.«01_k».proof.Proof.Gen.DownNormIdeal.Value
public import proofs.«01_k».proof.Proof.Gen.DownNormReferenceIdeal
public import proofs.«01_k».proof.Proof.Gen.DownNormReferenceIdeal.Run
public import proofs.«01_k».proof.Proof.Gen.DownNormReferenceIdeal.Read
public import proofs.«01_k».proof.Proof.DownNorm
public import proofs.«01_k».proof.Proof.DownNormReference
public import Idealize.ShloMosaic.Lib.Claim
public import Idealize.ShloMosaic.Lib.Quiescent
public import Idealize.ShloMosaic.Adequacy
public import Idealize.ShloMosaic.Init

@[expose] public section

noncomputable section

namespace Cert.DownNormSame

open Idealize.ShloMosaic Idealize.SL.Sem

/-- The reference leaves its arguments as they were. -/
theorem norm_frame : Cert.quiescent_DownNormReferenceIdeal := fun m ρ _ =>
  (θ_run Cert.DownNormReferenceIdeal.defs _ _).mono
    (fun r h => ⟨fun c => (h c).2.2.2.2, Idealize.ShloMosaic.sem_eq_zero_of_no_sems (by decide) r.2⟩)
    (Cert.DownNormReferenceIdeal.Value.run (F := Ideal) m ρ)

section Norm

open Cert.DownNormIdeal.Rows

variable (m : (ℓ : Loc Cert.DownNormIdeal.nD Cert.DownNormIdeal.τ Cert.DownNormIdeal.sig) → Buf (Elt Ideal) ℓ) (c : Dev Cert.DownNormIdeal.nD)

theorem same_norm : Cert.DownNormReferenceIdeal.Read.val_main_v41 (F := Ideal) (A m c) (W m c) (X m c) (G m c) (B m c) = normArray m c := by
  funext y
  rw [eq_ix2 y]
  exact Cert.DownNormReferenceIdeal.Rows.norm_at _ _ _ _ _ _ _

theorem same_copy : Cert.DownNormReferenceIdeal.Read.val_main_v42 (F := Ideal) (A m c) (W m c) (X m c) (G m c) (B m c) = normCopy m c := by
  funext y
  rw [eq_ix2 y]
  exact Cert.DownNormReferenceIdeal.Rows.norm_at _ _ _ _ _ _ _

theorem same_unit : Cert.DownNormReferenceIdeal.Read.val_main_v46 (F := Ideal) (A m c) (W m c) (X m c) = unitArray m c := by
  funext y
  rw [eq_ix2 y]
  exact Cert.DownNormReferenceIdeal.Rows.unit_at _ _ _ _ _

theorem same_recip : Cert.DownNormReferenceIdeal.Read.val_main_v19 (F := Ideal) (A m c) (W m c) (X m c) = recipArray m c := by
  funext y
  obtain ⟨s, rfl⟩ : ∃ s : Fin 8192, y = ix2 s 0 := ⟨y 0, (eq_ix2 y).trans (congrArg (ix2 (y 0) ·) (Subsingleton.elim (α := Fin 1) _ _))⟩
  exact Cert.DownNormReferenceIdeal.Rows.recip_at _ _ _ _

end Norm

/-- Kernel and reference compute the same four arrays. -/
theorem norm_same : Cert.algebraic_DownNormIdeal_DownNormReferenceIdeal := by
  intro m g m' g' _ hargs
  refine ⟨fun c => Cert.DownNormIdeal.Rows.normArray m c, fun c => Cert.DownNormIdeal.Rows.normCopy m c, fun c => Cert.DownNormIdeal.Rows.unitArray m c, fun c => Cert.DownNormIdeal.Rows.recipArray m c, ?_, ?_⟩
  · refine (θ_run Cert.DownNormIdeal.defs _ _).mono (fun r h c => ?_) (Cert.DownNormIdeal.Value.run_blocks m g)
    obtain ⟨h5, h6, h7, h8, ha⟩ := h c
    exact ⟨h5.trans (Cert.DownNormIdeal.Rows.norm_end m c), h6.trans (Cert.DownNormIdeal.Rows.copy_end m c), h7.trans (Cert.DownNormIdeal.Rows.unit_end m c), h8.trans (Cert.DownNormIdeal.Rows.recip_end m c), ha⟩
  · refine (θ_run Cert.DownNormReferenceIdeal.defs _ _).mono (fun r h c => ?_) (Cert.DownNormReferenceIdeal.Value.run m' g')
    obtain ⟨h41, h42, h46, h19, ha⟩ := h c
    obtain ⟨e0, e1, e2, e3, e4⟩ := hargs c
    refine ⟨h41.trans ?_, h42.trans ?_, h46.trans ?_, h19.trans ?_, ha⟩
    · rw [Cert.DownNormReferenceIdeal.Read.val_main_v41_eq, e0, e1, e2, e3, e4]
      exact same_norm m c
    · rw [Cert.DownNormReferenceIdeal.Read.val_main_v42_eq, e0, e1, e2, e3, e4]
      exact same_copy m c
    · rw [Cert.DownNormReferenceIdeal.Read.val_main_v46_eq, e0, e1, e2]
      exact same_unit m c
    · rw [Cert.DownNormReferenceIdeal.Read.val_main_v19_eq, e0, e1, e2]
      exact same_recip m c

end Cert.DownNormSame

end
-- ==== Proof.OutNorm.lean ====
/-
  A MIXER'S OR THE CROSS-ATTENTION'S LAST PRODUCT, the residual and the norm, of the forward pass: the kernel's four arrays. Each point takes 512 rows: the residual scaled, plus the product; the norm's row; and it saves the
  normalised rows and the reciprocals of their deviations.
-/
module

public import proofs.«01_k».proof.Proof.Gen.OutNormIdeal.Value
public import proofs.«01_k».proof.Proof.Norm
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.StableHlo.ReadAt
public import Idealize.ShloMosaic.Lib.Claim
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.OutNormIdeal.Rows

open Cert.OutNormIdeal Cert.OutNormIdeal.Gen Cert.Norm Idealize.ShloMosaic Idealize.ShloMosaic.TcCoe Idealize.SL.Sem

/-! ### One block -/

section Block
variable (a : S512x1024.Idx → Elt Ideal .bf16) (w : S1024x1024.Idx → Elt Ideal .bf16) (x : S512x1024.Idx → Elt Ideal .f32) (g b : S1x1024.Idx → Elt Ideal .f32)

/-- A row before the norm. -/
def before (r : Fin 512) (k : Fin 1024) : EReal := alpha * x (ix2 r k) + ∑ j : Fin 1024, a (ix2 r j) * w (ix2 j k)

theorem centre_apply (r : Fin 512) (k : Fin 1024) : k0_pay1 a w x (ix2 r k) = centre (before a w x r) k := by
  unfold_payloads
  unfold centre before width alpha
  pointwise [dot_S512x1024_S1024x1024_S512x1024_1_0_0_1_n_n]

theorem recip_apply (r : Fin 512) : k0_pay2 a w x (ix2 r 0) = recip (before a w x r) := by
  unfold recip spread
  simp only [← centre_apply]
  unfold k0_pay2 width eps
  generalize k0_pay1 a w x = o
  pointwise

theorem unit_apply (r : Fin 512) (k : Fin 1024) : k0_pay3 a w x (ix2 r k) = unit (before a w x r) k := by
  unfold unit
  rw [← centre_apply, ← recip_apply]
  unfold k0_pay3
  generalize k0_pay1 a w x = o
  generalize k0_pay2 a w x = s
  pointwise

theorem norm_apply (r : Fin 512) (k : Fin 1024) : k0_pay4 a w x g b (ix2 r k) = unit (before a w x r) k * g (ix2 0 k) + b (ix2 0 k) := by
  rw [← unit_apply]
  unfold k0_pay4
  generalize k0_pay3 a w x = o
  pointwise

end Block

variable (m : (ℓ : Loc nD τ sig) → Buf (Elt Ideal) ℓ) (c : Dev nD)

/-- What the mixer or the attention gives. -/
abbrev A : S8192x1024.Idx → EReal := m ((c.tc : Thread nD τ).loc main_arg0)

/-- The product's weight. -/
abbrev W : S1024x1024.Idx → EReal := m ((c.tc : Thread nD τ).loc main_arg1)

/-- The residual. -/
abbrev X : S8192x1024.Idx → EReal := m ((c.tc : Thread nD τ).loc main_arg2)

/-- The norm's weight. -/
abbrev G : S1x1024.Idx → EReal := m ((c.tc : Thread nD τ).loc main_arg3)

/-- The norm's bias. -/
abbrev B : S1x1024.Idx → EReal := m ((c.tc : Thread nD τ).loc main_arg4)

/-- A row before the norm. -/
def zrow (s : Fin 8192) (k : Fin 1024) : EReal := alpha * X m c (ix2 s k) + ∑ j : Fin 1024, A m c (ix2 s j) * W m c (ix2 j k)

/-- The norm's row. -/
def norm (s : Fin 8192) (k : Fin 1024) : EReal := unit (zrow m c s) k * G m c (ix2 0 k) + B m c (ix2 0 k)

/-! ### The block of a grid point -/

variable (t : Fin cfg0.N)

/-- The array's row that is row `r` of the block at hand. -/
def rowAt (r : Fin 512) : Fin 8192 := ⟨t.val * 512 + r.val, by have : t.val < 16 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem place5 : ∀ t : Fin cfg0.N, win0_5.index t 0 = t.val ∧ win0_5.index t 1 = 0 :=
  (by decide +kernel : ∀ t : Fin grid0.N, win0_5.index t 0 = t.val ∧ win0_5.index t 1 = 0)

theorem place6 : ∀ t : Fin cfg0.N, win0_6.index t 0 = t.val ∧ win0_6.index t 1 = 0 :=
  (by decide +kernel : ∀ t : Fin grid0.N, win0_6.index t 0 = t.val ∧ win0_6.index t 1 = 0)

theorem place7 : ∀ t : Fin cfg0.N, win0_7.index t 0 = t.val ∧ win0_7.index t 1 = 0 :=
  (by decide +kernel : ∀ t : Fin grid0.N, win0_7.index t 0 = t.val ∧ win0_7.index t 1 = 0)

theorem place8 : ∀ t : Fin cfg0.N, win0_8.index t 0 = t.val ∧ win0_8.index t 1 = 0 :=
  (by decide +kernel : ∀ t : Fin grid0.N, win0_8.index t 0 = t.val ∧ win0_8.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place3 : ∀ t : Fin cfg0.N, win0_3.index t 0 = 0 ∧ win0_3.index t 1 = 0 :=
  (by decide +kernel : ∀ t : Fin grid0.N, win0_3.index t 0 = 0 ∧ win0_3.index t 1 = 0)

theorem place4 : ∀ t : Fin cfg0.N, win0_4.index t 0 = 0 ∧ win0_4.index t 1 = 0 :=
  (by decide +kernel : ∀ t : Fin grid0.N, win0_4.index t 0 = 0 ∧ win0_4.index t 1 = 0)

theorem iblk_a (r : Fin 512) (j : Fin 1024) : iblk m c 0 t (ix2 r j) = A m c (ix2 (rowAt t r) j) := by
  blk_ext [iblk, V, place0 t, rowAt]

theorem iblk_w (j : Fin 1024) (k : Fin 1024) : iblk m c 1 t (ix2 j k) = W m c (ix2 j k) := by
  blk_ext [iblk, V, place1 t]

theorem iblk_x (r : Fin 512) (k : Fin 1024) : iblk m c 2 t (ix2 r k) = X m c (ix2 (rowAt t r) k) := by
  blk_ext [iblk, V, place2 t, rowAt]

theorem iblk_g (k : Fin 1024) : iblk m c 3 t (ix2 0 k) = G m c (ix2 0 k) := by
  blk_ext [iblk, V, place3 t]

theorem iblk_b (k : Fin 1024) : iblk m c 4 t (ix2 0 k) = B m c (ix2 0 k) := by
  blk_ext [iblk, V, place4 t]

theorem before_at (r : Fin 512) : before (iblk m c 0 t) (iblk m c 1 t) (iblk m c 2 t) r = zrow m c (rowAt t r) :=
  funext fun k => congrArg₂ (· + ·) (congrArg (alpha * ·) (iblk_x m c t r k))
    (Finset.sum_congr rfl fun j _ => congrArg₂ (· * ·) (iblk_a m c t r j) (iblk_w m c t j k))

theorem norm_at (r : Fin 512) (k : Fin 1024) :
    k0_pay4 (F := Ideal) (iblk m c 0 t) (iblk m c 1 t) (iblk m c 2 t) (iblk m c 3 t) (iblk m c 4 t) (ix2 r k) = norm m c (rowAt t r) k :=
  (norm_apply _ _ _ _ _ _ _).trans (congrArg₂ (· + ·) (congrArg₂ (· * ·) (congrArg (unit · k) (before_at m c t r)) (iblk_g m c t k)) (iblk_b m c t k))

theorem unit_at (r : Fin 512) (k : Fin 1024) :
    k0_pay3 (F := Ideal) (iblk m c 0 t) (iblk m c 1 t) (iblk m c 2 t) (ix2 r k) = unit (zrow m c (rowAt t r)) k :=
  (unit_apply _ _ _ _ _).trans (congrArg (unit · k) (before_at m c t r))

theorem recip_at (r : Fin 512) : k0_pay2 (F := Ideal) (iblk m c 0 t) (iblk m c 1 t) (iblk m c 2 t) (ix2 r 0) = recip (zrow m c (rowAt t r)) :=
  (recip_apply _ _ _ _).trans (congrArg recip (before_at m c t r))

/-! ### The arrays -/

/-- The first array: the norm. -/
def normArray : S8192x1024.Idx → Elt Ideal .f32 := fun y => norm m c (y 0) (y 1)

/-- The second array: the same, stored again. -/
def normCopy : S8192x1024.Idx → Elt Ideal .bf16 := fun y => norm m c (y 0) (y 1)

/-- The third array: the normalised rows. -/
def unitArray : S8192x1024.Idx → Elt Ideal .f32 := fun y => unit (zrow m c (y 0)) (y 1)

/-- The fourth array: the reciprocals of the deviations. -/
def recipArray : S8192x1.Idx → Elt Ideal .f32 := fun y => recip (zrow m c (y 0))

theorem norm_end : (dats m 0 c).arrAt 5 cfg0.N = normArray m c := by
  refine (dats m 0 c).arrAt_eq_of_covers 5 _ (by decide +kernel) fun t hf y => ?_
  blk_simp
  rw [after0_5]
  frame_out
  have e : (win0_5.blk t).view.emb y = ix2 (rowAt t (y 0)) (y 1) := by
    blk_ext [place5 t, rowAt]
  rw [e, eq_ix2 y]
  exact norm_at m c t (y 0) (y 1)

theorem copy_end : (dats m 0 c).arrAt 6 cfg0.N = normCopy m c := by
  refine (dats m 0 c).arrAt_eq_of_covers 6 _ (by decide +kernel) fun t hf y => ?_
  blk_simp
  rw [after0_6]
  frame_out
  have e : (win0_6.blk t).view.emb y = ix2 (rowAt t (y 0)) (y 1) := by
    blk_ext [place6 t, rowAt]
  rw [e, eq_ix2 y]
  exact norm_at m c t (y 0) (y 1)

theorem unit_end : (dats m 0 c).arrAt 7 cfg0.N = unitArray m c := by
  refine (dats m 0 c).arrAt_eq_of_covers 7 _ (by decide +kernel) fun t hf y => ?_
  blk_simp
  rw [after0_7]
  frame_out
  have e : (win0_7.blk t).view.emb y = ix2 (rowAt t (y 0)) (y 1) := by
    blk_ext [place7 t, rowAt]
  rw [e, eq_ix2 y]
  exact unit_at m c t (y 0) (y 1)

theorem recip_end : (dats m 0 c).arrAt 8 cfg0.N = recipArray m c := by
  refine (dats m 0 c).arrAt_eq_of_covers 8 _ (by decide +kernel) fun t hf y => ?_
  blk_simp
  rw [after0_8]
  frame_out
  obtain ⟨r, rfl⟩ : ∃ r : Fin 512, y = ix2 r 0 := ⟨y 0, (eq_ix2 y).trans (congrArg (ix2 (y 0) ·) (Subsingleton.elim (α := Fin 1) _ _))⟩
  have e : (win0_8.blk t).view.emb (ix2 r 0) = ix2 (rowAt t r) 0 := by
    blk_ext [place8 t, rowAt]
  rw [e]
  exact recip_at m c t r

end Cert.OutNormIdeal.Rows

end
-- ==== Proof.OutNormReference.lean ====
/-
  WHAT THE REFERENCE OF A MIXER'S OR THE CROSS-ATTENTION'S LAST PRODUCT, THE RESIDUAL AND THE NORM HOLDS.
-/
module

public import proofs.«01_k».proof.Proof.Gen.OutNormReferenceIdeal.Read
public import proofs.«01_k».proof.Proof.Norm
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.OutNormReferenceIdeal.Rows

open Cert.OutNormReferenceIdeal Cert.OutNormReferenceIdeal.Gen Cert.OutNormReferenceIdeal.Read Cert.Norm Idealize.ShloMosaic

variable (a : S8192x1024.Idx → EReal) (w : S1024x1024.Idx → EReal) (x : S8192x1024.Idx → EReal) (g b : S1x1024.Idx → EReal)

/-- A row before the norm. -/
def zrow (s : Fin 8192) (k : Fin 1024) : EReal := alpha * x (ix2 s k) + ∑ j : Fin 1024, a (ix2 s j) * w (ix2 j k)

theorem before_at (s : Fin 8192) (k : Fin 1024) : val_main_v5 (F := Ideal) a w x (ix2 s k) = zrow a w x s k := by
  unfold zrow alpha
  rw [val_main_v5_apply, val_main_v4_apply]
  pointwise [val_main_v1, val_main_v0, val_main_cst, val_main_v2, val_main_v3]
  have el (j : Fin 1024) : lidx_main_v4 (ix2 s k) j = ix2 s j := eq_ix2 _
  have er (j : Fin 1024) : ridx_main_v4 (ix2 s k) j = ix2 j k := eq_ix2 _
  simp only [el, er]

theorem mean_at (s : Fin 8192) : val_main_v9 (F := Ideal) a w x (ix2 s 0) = Ideal.div (∑ k, zrow a w x s k) width := by
  simp only [← before_at]
  unfold width
  pointwise [val_main_v9, val_main_v8, val_main_v7, val_main_v6, val_main_cst_0, val_main_cst_1]

theorem mean_at' (s : Fin 8192) : val_main_v23 (F := Ideal) a w x (ix2 s 0) = Ideal.div (∑ k, zrow a w x s k) width := by
  simp only [← before_at]
  unfold width
  pointwise [val_main_v23, val_main_v22, val_main_v21, val_main_v20, val_main_cst_5, val_main_cst_6]

theorem centre_at (s : Fin 8192) (k : Fin 1024) : val_main_v11 (F := Ideal) a w x (ix2 s k) = centre (zrow a w x s) k := by
  rw [val_main_v11_apply, val_main_v10_apply]
  exact congrArg₂ (· - ·) (before_at a w x s k) ((congrArg (val_main_v9 (F := Ideal) a w x) (eq_ix2 _)).trans (mean_at a w x s))

theorem centre_saved_at (s : Fin 8192) (k : Fin 1024) : val_main_v44 (F := Ideal) a w x (ix2 s k) = centre (zrow a w x s) k := by
  rw [val_main_v44_apply, val_main_v43_apply]
  exact congrArg₂ (· - ·) (before_at a w x s k) ((congrArg (val_main_v9 (F := Ideal) a w x) (eq_ix2 _)).trans (mean_at a w x s))

theorem centre_squared_at (s : Fin 8192) (k : Fin 1024) : val_main_v25 (F := Ideal) a w x (ix2 s k) = centre (zrow a w x s) k := by
  rw [val_main_v25_apply, val_main_v24_apply]
  exact congrArg₂ (· - ·) (before_at a w x s k) ((congrArg (val_main_v23 (F := Ideal) a w x) (eq_ix2 _)).trans (mean_at' a w x s))

theorem centre_norm_at (s : Fin 8192) (k : Fin 1024) : val_main_v32 (F := Ideal) a w x (ix2 s k) = centre (zrow a w x s) k := by
  rw [val_main_v32_apply, val_main_v31_apply]
  exact congrArg₂ (· - ·) (before_at a w x s k) ((congrArg (val_main_v23 (F := Ideal) a w x) (eq_ix2 _)).trans (mean_at' a w x s))

theorem spread_at (s : Fin 8192) : val_main_v18 (F := Ideal) a w x (ix2 s 0) = spread (zrow a w x s) := by
  unfold spread width eps
  simp only [← centre_at]
  pointwise [val_main_v18, val_main_v17, val_main_v16, val_main_v15, val_main_v14, val_main_v13, val_main_v12, val_main_cst_2, val_main_cst_3, val_main_cst_4]

theorem recip_at (s : Fin 8192) : val_main_v19 (F := Ideal) a w x (ix2 s 0) = recip (zrow a w x s) := by
  unfold recip
  rw [← spread_at]
  pointwise [val_main_v19]

theorem spread_norm_at (s : Fin 8192) : val_main_v34 (F := Ideal) a w x (ix2 s 0) = spread (zrow a w x s) := by
  unfold spread width eps
  simp only [← centre_squared_at]
  pointwise [val_main_v34, val_main_v33, val_main_v30, val_main_v29, val_main_v28, val_main_v27, val_main_v26, val_main_cst_7, val_main_cst_8, val_main_cst_9]

theorem recip_norm_at (s : Fin 8192) : val_main_v35 (F := Ideal) a w x (ix2 s 0) = recip (zrow a w x s) := by
  unfold recip
  rw [← spread_norm_at]
  pointwise [val_main_v35]

theorem unit_at (s : Fin 8192) (k : Fin 1024) : val_main_v46 (F := Ideal) a w x (ix2 s k) = unit (zrow a w x s) k := by
  rw [val_main_v46_apply, val_main_v45_apply]
  exact congrArg₂ (· * ·) (centre_saved_at a w x s k) ((congrArg (val_main_v19 (F := Ideal) a w x) (eq_ix2 _)).trans (recip_at a w x s))

theorem unit_norm_at (s : Fin 8192) (k : Fin 1024) : val_main_v37 (F := Ideal) a w x (ix2 s k) = unit (zrow a w x s) k := by
  rw [val_main_v37_apply, val_main_v36_apply]
  exact congrArg₂ (· * ·) (centre_norm_at a w x s k) ((congrArg (val_main_v35 (F := Ideal) a w x) (eq_ix2 _)).trans (recip_norm_at a w x s))

/-- The norm's row. -/
theorem norm_at (s : Fin 8192) (k : Fin 1024) :
    val_main_v41 (F := Ideal) a w x g b (ix2 s k) = unit (zrow a w x s) k * g (ix2 0 k) + b (ix2 0 k) := by
  rw [val_main_v41_apply, val_main_v39_apply, val_main_v38_apply, val_main_v40_apply]
  exact congrArg₂ (· + ·) (congrArg₂ (· * ·) (unit_norm_at a w x s k) (congrArg g (eq_ix2 _))) (congrArg b (eq_ix2 _))

end Cert.OutNormReferenceIdeal.Rows

end
-- ==== Proof.OutNormSame.lean ====
/-
  A MIXER'S OR THE CROSS-ATTENTION'S LAST PRODUCT, THE RESIDUAL AND THE NORM: the kernel's four arrays are the reference's.
-/
module

public import proofs.«01_k».proof.Defs
public import proofs.«01_k».proof.Proof.Gen.OutNorm
public import proofs.«01_k».proof.Proof.Gen.OutNorm.Frame
public import proofs.«01_k».proof.Proof.Gen.OutNormIdeal
public import proofs.«01_k».proof.Proof.Gen.OutNormIdeal.Frame
public import proofs.«01_k».proof.Proof.Gen.OutNormIdeal.Value
public import proofs.«01_k».proof.Proof.Gen.OutNormReferenceIdeal
public import proofs.«01_k».proof.Proof.Gen.OutNormReferenceIdeal.Run
public import proofs.«01_k».proof.Proof.Gen.OutNormReferenceIdeal.Read
public import proofs.«01_k».proof.Proof.OutNorm
public import proofs.«01_k».proof.Proof.OutNormReference
public import Idealize.ShloMosaic.Lib.Claim
public import Idealize.ShloMosaic.Lib.Quiescent
public import Idealize.ShloMosaic.Adequacy
public import Idealize.ShloMosaic.Init

@[expose] public section

noncomputable section

namespace Cert.OutNormSame

open Idealize.ShloMosaic Idealize.SL.Sem

/-- The reference leaves its arguments as they were. -/
theorem norm_frame : Cert.quiescent_OutNormReferenceIdeal := fun m ρ _ =>
  (θ_run Cert.OutNormReferenceIdeal.defs _ _).mono
    (fun r h => ⟨fun c => (h c).2.2.2.2, Idealize.ShloMosaic.sem_eq_zero_of_no_sems (by decide) r.2⟩)
    (Cert.OutNormReferenceIdeal.Value.run (F := Ideal) m ρ)

section Norm

open Cert.OutNormIdeal.Rows

variable (m : (ℓ : Loc Cert.OutNormIdeal.nD Cert.OutNormIdeal.τ Cert.OutNormIdeal.sig) → Buf (Elt Ideal) ℓ) (c : Dev Cert.OutNormIdeal.nD)

theorem same_norm : Cert.OutNormReferenceIdeal.Read.val_main_v41 (F := Ideal) (A m c) (W m c) (X m c) (G m c) (B m c) = normArray m c := by
  funext y
  rw [eq_ix2 y]
  exact Cert.OutNormReferenceIdeal.Rows.norm_at _ _ _ _ _ _ _

theorem same_copy : Cert.OutNormReferenceIdeal.Read.val_main_v42 (F := Ideal) (A m c) (W m c) (X m c) (G m c) (B m c) = normCopy m c := by
  funext y
  rw [eq_ix2 y]
  exact Cert.OutNormReferenceIdeal.Rows.norm_at _ _ _ _ _ _ _

theorem same_unit : Cert.OutNormReferenceIdeal.Read.val_main_v46 (F := Ideal) (A m c) (W m c) (X m c) = unitArray m c := by
  funext y
  rw [eq_ix2 y]
  exact Cert.OutNormReferenceIdeal.Rows.unit_at _ _ _ _ _

theorem same_recip : Cert.OutNormReferenceIdeal.Read.val_main_v19 (F := Ideal) (A m c) (W m c) (X m c) = recipArray m c := by
  funext y
  obtain ⟨s, rfl⟩ : ∃ s : Fin 8192, y = ix2 s 0 := ⟨y 0, (eq_ix2 y).trans (congrArg (ix2 (y 0) ·) (Subsingleton.elim (α := Fin 1) _ _))⟩
  exact Cert.OutNormReferenceIdeal.Rows.recip_at _ _ _ _

end Norm

/-- Kernel and reference compute the same four arrays. -/
theorem norm_same : Cert.algebraic_OutNormIdeal_OutNormReferenceIdeal := by
  intro m g m' g' _ hargs
  refine ⟨fun c => Cert.OutNormIdeal.Rows.normArray m c, fun c => Cert.OutNormIdeal.Rows.normCopy m c, fun c => Cert.OutNormIdeal.Rows.unitArray m c, fun c => Cert.OutNormIdeal.Rows.recipArray m c, ?_, ?_⟩
  · refine (θ_run Cert.OutNormIdeal.defs _ _).mono (fun r h c => ?_) (Cert.OutNormIdeal.Value.run_blocks m g)
    obtain ⟨h5, h6, h7, h8, ha⟩ := h c
    exact ⟨h5.trans (Cert.OutNormIdeal.Rows.norm_end m c), h6.trans (Cert.OutNormIdeal.Rows.copy_end m c), h7.trans (Cert.OutNormIdeal.Rows.unit_end m c), h8.trans (Cert.OutNormIdeal.Rows.recip_end m c), ha⟩
  · refine (θ_run Cert.OutNormReferenceIdeal.defs _ _).mono (fun r h c => ?_) (Cert.OutNormReferenceIdeal.Value.run m' g')
    obtain ⟨h41, h42, h46, h19, ha⟩ := h c
    obtain ⟨e0, e1, e2, e3, e4⟩ := hargs c
    refine ⟨h41.trans ?_, h42.trans ?_, h46.trans ?_, h19.trans ?_, ha⟩
    · rw [Cert.OutNormReferenceIdeal.Read.val_main_v41_eq, e0, e1, e2, e3, e4]
      exact same_norm m c
    · rw [Cert.OutNormReferenceIdeal.Read.val_main_v42_eq, e0, e1, e2, e3, e4]
      exact same_copy m c
    · rw [Cert.OutNormReferenceIdeal.Read.val_main_v46_eq, e0, e1, e2]
      exact same_unit m c
    · rw [Cert.OutNormReferenceIdeal.Read.val_main_v19_eq, e0, e1, e2]
      exact same_recip m c

end Cert.OutNormSame

end
-- ==== Proof.NormWindow.lean ====
/-
  THE DERIVATIVE BY THE LAYER NORM'S INPUT, the norm being the one that feeds the windowed attention's first product: the kernel's four arrays. At a grid point the kernel holds 256 rows; of each it forms the derivative by the norm's result, the sum of a
  residual's and of a product's, takes it through the norm's row, and adds what the row gives to the derivatives by the norm's weight and bias.
-/
module

public import proofs.«01_k».proof.Proof.Gen.NormWindowIdeal.Value
public import proofs.«01_k».proof.Proof.Norm
public import proofs.«01_k».proof.Proof.Table
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.StableHlo.ReadAt
public import Idealize.ShloMosaic.Lib.Claim
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.NormWindowIdeal.Rows

open Cert.NormWindowIdeal Cert.NormWindowIdeal.Gen Cert.Norm Cert.Table Idealize.ShloMosaic Idealize.ShloMosaic.TcCoe Idealize.SL.Sem

/-! ### One block -/

section Block
variable (da : S256x1536.Idx → Elt Ideal .bf16) (w : S1024x1536.Idx → Elt Ideal .bf16) (d x : S256x1024.Idx → Elt Ideal .f32) (g a : S1x1024.Idx → Elt Ideal .f32)
  (s : S256x1.Idx → Elt Ideal .f32)

/-- The derivative by the norm's result. -/
theorem out_apply (r : Fin 256) (k : Fin 1024) :
    k0_pay5 da w d (ix2 r k) = alpha * d (ix2 r k) + ∑ j : Fin 1536, da (ix2 r j) * w (ix2 k j) := by
  unfold_payloads
  unfold alpha
  pointwise [dot_S256x1536_S1024x1536_S256x1024_1_1_0_0_n_n]

/-- The derivative by the norm's row. -/
theorem row_apply (r : Fin 256) (k : Fin 1024) :
    k0_pay7 da w d x g s (ix2 r k)
      = s (ix2 r 0) * (k0_pay5 da w d (ix2 r k) * g (ix2 0 k) - Ideal.div (∑ j : Fin 1024, k0_pay5 da w d (ix2 r j) * g (ix2 0 j)) width
          - x (ix2 r k) * Ideal.div (∑ j : Fin 1024, k0_pay5 da w d (ix2 r j) * g (ix2 0 j) * x (ix2 r j)) width) := by
  unfold k0_pay7 k0_pay6
  unfold width
  generalize k0_pay5 da w d = o
  pointwise

/-- What the block adds to the derivative by the weight. -/
theorem weight_apply (o : S256x1024.Idx → Elt Ideal .f32) (k : Fin 1024) :
    k0_pay3 o (k0_pay6 x) a (ix2 0 k) = a (ix2 0 k) + ∑ r : Fin 256, o (ix2 r k) * x (ix2 r k) := by
  unfold_payloads
  pointwise

/-- What the block adds to the derivative by the bias. -/
theorem bias_apply (o : S256x1024.Idx → Elt Ideal .f32) (k : Fin 1024) :
    k0_pay4 o a (ix2 0 k) = a (ix2 0 k) + ∑ r : Fin 256, o (ix2 r k) := by
  unfold_payloads
  pointwise

end Block

variable (m : (ℓ : Loc nD τ sig) → Buf (Elt Ideal) ℓ) (c : Dev nD)

/-- The residual's derivative. -/
abbrev D : S8192x1024.Idx → EReal := m ((c.tc : Thread nD τ).loc main_arg0)

/-- The derivative by the product. -/
abbrev DA : S8192x1536.Idx → EReal := m ((c.tc : Thread nD τ).loc main_arg1)

/-- The product's weight. -/
abbrev W : S1024x1536.Idx → EReal := m ((c.tc : Thread nD τ).loc main_arg2)

/-- The norm's input. -/
abbrev Z : S8192x1024.Idx → EReal := m ((c.tc : Thread nD τ).loc main_arg3)

/-- The norm's weight. -/
abbrev G : S1x1024.Idx → EReal := m ((c.tc : Thread nD τ).loc main_arg4)

/-- A row of the norm's input. -/
abbrev zrow (s : Fin 8192) (k : Fin 1024) : EReal := Z m c (ix2 s k)

theorem recip_at (s : Fin 8192) : V m c main_v13 (ix2 s 0) = recip (zrow m c s) := by
  unfold V recip spread centre width eps zrow
  after_reads_at

theorem unit_at (s : Fin 8192) (k : Fin 1024) : V m c main_v15 (ix2 s k) = unit (zrow m c s) k := by
  unfold V unit recip spread centre width eps zrow
  after_reads_at

/-- The derivative by the norm's result, at a row. -/
def dout (s : Fin 8192) (k : Fin 1024) : EReal := alpha * D m c (ix2 s k) + ∑ j : Fin 1536, DA m c (ix2 s j) * W m c (ix2 k j)

/-- The norm's weight, as a row. -/
abbrev grow (k : Fin 1024) : EReal := G m c (ix2 0 k)

/-! ### The block of a grid point -/

variable (t : Fin cfg0.N)

/-- The array's row that is row `r` of the block at hand. -/
def rowAt (r : Fin 256) : Fin 8192 := ⟨t.val * 256 + r.val, by have : t.val < 32 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = t.val ∧ win0_1.index t 1 = 0 :=
  (by decide +kernel : ∀ t : Fin grid0.N, win0_1.index t 0 = t.val ∧ win0_1.index t 1 = 0)

theorem place2 : ∀ t : Fin cfg0.N, win0_2.index t 0 = 0 ∧ win0_2.index t 1 = 0 :=
  (by decide +kernel : ∀ t : Fin grid0.N, win0_2.index t 0 = 0 ∧ win0_2.index t 1 = 0)

theorem place3 : ∀ t : Fin cfg0.N, win0_3.index t 0 = t.val ∧ win0_3.index t 1 = 0 :=
  (by decide +kernel : ∀ t : Fin grid0.N, win0_3.index t 0 = t.val ∧ win0_3.index t 1 = 0)

theorem place4 : ∀ t : Fin cfg0.N, win0_4.index t 0 = t.val ∧ win0_4.index t 1 = 0 :=
  (by decide +kernel : ∀ t : Fin grid0.N, win0_4.index t 0 = t.val ∧ win0_4.index t 1 = 0)

theorem place5 : ∀ t : Fin cfg0.N, win0_5.index t 0 = 0 ∧ win0_5.index t 1 = 0 :=
  (by decide +kernel : ∀ t : Fin grid0.N, win0_5.index t 0 = 0 ∧ win0_5.index t 1 = 0)

theorem place6 : ∀ t : Fin cfg0.N, win0_6.index t 0 = t.val ∧ win0_6.index t 1 = 0 :=
  (by decide +kernel : ∀ t : Fin grid0.N, win0_6.index t 0 = t.val ∧ win0_6.index t 1 = 0)

theorem place7 : ∀ t : Fin cfg0.N, win0_7.index t 0 = t.val ∧ win0_7.index t 1 = 0 :=
  (by decide +kernel : ∀ t : Fin grid0.N, win0_7.index t 0 = t.val ∧ win0_7.index t 1 = 0)

theorem iblk_d (r : Fin 256) (k : Fin 1024) : iblk m c 0 t (ix2 r k) = D m c (ix2 (rowAt t r) k) := by
  refine Eq.trans ?_ (congrFun (V_main_arg0 m c) (ix2 (rowAt t r) k))
  unfold iblk
  generalize V m c = v
  blk_ext [place0 t, rowAt]

theorem iblk_da (r : Fin 256) (j : Fin 1536) : iblk m c 1 t (ix2 r j) = DA m c (ix2 (rowAt t r) j) := by
  refine Eq.trans ?_ (congrFun (V_main_arg1 m c) (ix2 (rowAt t r) j))
  unfold iblk
  generalize V m c = v
  blk_ext [place1 t, rowAt]

theorem iblk_w (k : Fin 1024) (j : Fin 1536) : iblk m c 2 t (ix2 k j) = W m c (ix2 k j) := by
  refine Eq.trans ?_ (congrFun (V_main_arg2 m c) (ix2 k j))
  unfold iblk
  generalize V m c = v
  blk_ext [place2 t]

theorem iblk_unit (r : Fin 256) (k : Fin 1024) : iblk m c 3 t (ix2 r k) = unit (zrow m c (rowAt t r)) k := by
  refine Eq.trans ?_ (unit_at m c (rowAt t r) k)
  unfold iblk
  generalize V m c = v
  blk_ext [place3 t, rowAt]

theorem iblk_recip (r : Fin 256) : iblk m c 4 t (ix2 r 0) = recip (zrow m c (rowAt t r)) := by
  refine Eq.trans ?_ (recip_at m c (rowAt t r))
  unfold iblk
  generalize V m c = v
  blk_ext [place4 t, rowAt]

theorem iblk_g (k : Fin 1024) : iblk m c 5 t (ix2 0 k) = grow m c k := by
  refine Eq.trans ?_ (congrFun (V_main_arg4 m c) (ix2 0 k))
  unfold iblk
  generalize V m c = v
  blk_ext [place5 t]

theorem out_at (r : Fin 256) (k : Fin 1024) :
    k0_pay5 (F := Ideal) (iblk m c 1 t) (iblk m c 2 t) (iblk m c 0 t) (ix2 r k) = dout m c (rowAt t r) k :=
  (out_apply _ _ _ _ _).trans (congrArg₂ (· + ·) (congrArg (alpha * ·) (iblk_d m c t r k))
    (Finset.sum_congr rfl fun j _ => congrArg₂ (· * ·) (iblk_da m c t r j) (iblk_w m c t k j)))

/-! ### The derivative by the rows -/

/-- The first array: the derivative by the norm's input. -/
def dzArray : S8192x1024.Idx → Elt Ideal .f32 := fun y => dnorm (zrow m c (y 0)) (dout m c (y 0)) (grow m c) (y 1)

/-- The second array: the same, stored again. -/
def dzCopy : S8192x1024.Idx → Elt Ideal .bf16 := fun y => dnorm (zrow m c (y 0)) (dout m c (y 0)) (grow m c) (y 1)

/-- The third array: the derivative by the norm's weight. -/
def dgArray : S1x1024.Idx → Elt Ideal .f32 := fun y => (∑ s : Fin 8192, dout m c s (y 1) * unit (zrow m c s) (y 1) : EReal)

/-- The fourth array: the derivative by the norm's bias. -/
def dbArray : S1x1024.Idx → Elt Ideal .f32 := fun y => (∑ s : Fin 8192, dout m c s (y 1) : EReal)

theorem row_at (r : Fin 256) (k : Fin 1024) :
    k0_pay7 (F := Ideal) (iblk m c 1 t) (iblk m c 2 t) (iblk m c 0 t) (iblk m c 3 t) (iblk m c 5 t) (iblk m c 4 t) (ix2 r k)
      = dnorm (zrow m c (rowAt t r)) (dout m c (rowAt t r)) (grow m c) k := by
  have hx (j : Fin 1024) : k0_pay5 (F := Ideal) (iblk m c 1 t) (iblk m c 2 t) (iblk m c 0 t) (ix2 r j) * (iblk m c 5 t : S1x1024.Idx → EReal) (ix2 0 j)
      = dout m c (rowAt t r) j * grow m c j := congrArg₂ (· * ·) (out_at m c t r j) (iblk_g m c t j)
  refine (row_apply _ _ _ _ _ _ _ _).trans ?_
  exact congrArg₂ (· * ·) (iblk_recip m c t r) (congrArg₂ (· - ·)
    (congrArg₂ (· - ·) (hx k) (congrArg (Ideal.div · width) (Finset.sum_congr rfl fun j _ => hx j)))
    (congrArg₂ (· * ·) (iblk_unit m c t r k)
      (congrArg (Ideal.div · width) (Finset.sum_congr rfl fun j _ => congrArg₂ (· * ·) (hx j) (iblk_unit m c t r j)))))

theorem row_sent (y : S256x1024.Idx) : (outsAt0 m c t.val t.isLt).1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
  · rw [outsAt0_B m c t h]
    frame_out

theorem copy_sent (y : S256x1024.Idx) : (outsAt0 m c t.val t.isLt).2.1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
    rfl
  · rw [outsAt0_B m c t h]
    frame_out
    rfl

theorem dz_end : (dats m 0 c).arrAt 6 cfg0.N = dzArray m c := by
  refine (dats m 0 c).arrAt_eq_of_covers 6 _ (by decide +kernel) fun t hf y => ?_
  blk_simp
  rw [after0_6]
  refine (row_sent m c t y).trans ?_
  have e : (win0_6.blk t).view.emb y = ix2 (rowAt t (y 0)) (y 1) := by
    blk_ext [place6 t, rowAt]
  rw [e]
  rfl

theorem copy_end : (dats m 0 c).arrAt 7 cfg0.N = dzCopy m c := by
  refine (dats m 0 c).arrAt_eq_of_covers 7 _ (by decide +kernel) fun t hf y => ?_
  blk_simp
  rw [after0_7]
  refine (copy_sent m c t y).trans ?_
  have e : (win0_7.blk t).view.emb y = ix2 (rowAt t (y 0)) (y 1) := by
    blk_ext [place7 t, rowAt]
  rw [e]
  rfl

/-! ### The sums over the rows -/

/-- What a point adds to the derivative by the weight. -/
def weightTerm (y : S1x1024.Idx) : EReal := ∑ r : Fin 256, dout m c (rowAt t r) (y 1) * unit (zrow m c (rowAt t r)) (y 1)

/-- What a point adds to the derivative by the bias. -/
def biasTerm (y : S1x1024.Idx) : EReal := ∑ r : Fin 256, dout m c (rowAt t r) (y 1)

theorem weight_at (a : S1x1024.Idx → Elt Ideal .f32) (y : S1x1024.Idx) :
    k0_pay3 (F := Ideal) (k0_pay5 (iblk m c 1 t) (iblk m c 2 t) (iblk m c 0 t)) (k0_pay6 (iblk m c 3 t)) a y = a y + weightTerm m c t y := by
  obtain ⟨k, rfl⟩ : ∃ k : Fin 1024, y = ix2 0 k := ⟨y 1, (eq_ix2 y).trans (congrArg (ix2 · (y 1)) (Subsingleton.elim (α := Fin 1) _ _))⟩
  exact (weight_apply _ _ _ _).trans (congrArg (a _ + ·) (Finset.sum_congr rfl fun r _ => congrArg₂ (· * ·) (out_at m c t r _) (iblk_unit m c t r _)))

theorem bias_at (a : S1x1024.Idx → Elt Ideal .f32) (y : S1x1024.Idx) :
    k0_pay4 (F := Ideal) (k0_pay5 (iblk m c 1 t) (iblk m c 2 t) (iblk m c 0 t)) a y = a y + biasTerm m c t y := by
  obtain ⟨k, rfl⟩ : ∃ k : Fin 1024, y = ix2 0 k := ⟨y 1, (eq_ix2 y).trans (congrArg (ix2 · (y 1)) (Subsingleton.elim (α := Fin 1) _ _))⟩
  exact (bias_apply _ _ _).trans (congrArg (a _ + ·) (Finset.sum_congr rfl fun r _ => out_at m c t r _))

theorem zero1 (y : S1x1024.Idx) : (k0_pay1 (F := Ideal) y : EReal) = 0 := by
  unfold_payloads
  pointwise

theorem zero2 (y : S1x1024.Idx) : (k0_pay2 (F := Ideal) y : EReal) = 0 := by
  unfold_payloads
  pointwise

theorem weight_first (h : t.val % 32 = 0) (y : S1x1024.Idx) : (outsAt0 m c t.val t.isLt).2.2.1 y = (0 : EReal) + weightTerm m c t y := by
  rw [outsAt0_A m c t h]
  frame_out
  exact (weight_at m c t _ y).trans (congrArg (· + weightTerm m c t y) (zero1 y))

theorem bias_first (h : t.val % 32 = 0) (y : S1x1024.Idx) : (outsAt0 m c t.val t.isLt).2.2.2 y = (0 : EReal) + biasTerm m c t y := by
  rw [outsAt0_A m c t h]
  frame_out
  exact (bias_at m c t _ y).trans (congrArg (· + biasTerm m c t y) (zero2 y))

theorem weight_next (h : ¬t.val % 32 = 0) (y : S1x1024.Idx) :
    (outsAt0 m c t.val t.isLt).2.2.1 y = (outsAt0 m c (t.val - 1) (Nat.lt_of_le_of_lt (Nat.sub_le _ _) t.isLt)).2.2.1 y + weightTerm m c t y := by
  rw [outsAt0_B m c t h]
  frame_out
  exact weight_at m c t _ y

theorem bias_next (h : ¬t.val % 32 = 0) (y : S1x1024.Idx) :
    (outsAt0 m c t.val t.isLt).2.2.2 y = (outsAt0 m c (t.val - 1) (Nat.lt_of_le_of_lt (Nat.sub_le _ _) t.isLt)).2.2.2 y + biasTerm m c t y := by
  rw [outsAt0_B m c t h]
  frame_out
  exact bias_at m c t _ y

theorem weight_last (h : 31 < cfg0.N) (y : S1x1024.Idx) : (outsAt0 m c 31 h).2.2.1 y = ∑ s : Fin 8192, dout m c s (y 1) * unit (zrow m c s) (y 1) := by
  rw [Pipeline.eq_sum_fin_of_reset_step_apply_last (M := EReal) (fun n hn y => (outsAt0 m c n hn).2.2.1 y) 32 (fun _ => 0) (weightTerm m c)
    (fun t h0 y => weight_first m c t h0 y) (fun t h0 y => weight_next m c t h0 y) (by decide) ⟨31, h⟩ rfl y, zero_add]
  exact Fin.sum_mul_add_fin 32 256 (fun s => dout m c s (y 1) * unit (zrow m c s) (y 1)) rfl

theorem bias_last (h : 31 < cfg0.N) (y : S1x1024.Idx) : (outsAt0 m c 31 h).2.2.2 y = ∑ s : Fin 8192, dout m c s (y 1) := by
  rw [Pipeline.eq_sum_fin_of_reset_step_apply_last (M := EReal) (fun n hn y => (outsAt0 m c n hn).2.2.2 y) 32 (fun _ => 0) (biasTerm m c)
    (fun t h0 y => bias_first m c t h0 y) (fun t h0 y => bias_next m c t h0 y) (by decide) ⟨31, h⟩ rfl y, zero_add]
  exact Fin.sum_mul_add_fin 32 256 (fun s => dout m c s (y 1)) rfl

/-- The point after which the two sums go out. -/
def lastPoint : Fin cfg0.N := ⟨31, by decide⟩

theorem dg_end : (dats m 0 c).arrAt 8 cfg0.N = dgArray m c := by
  refine (dats m 0 c).arrAt_eq_of_after_last 8 lastPoint (by decide +kernel) _ fun j => ?_
  blk_simp
  rw [after0_8]
  exact weight_last m c _ j

theorem db_end : (dats m 0 c).arrAt 9 cfg0.N = dbArray m c := by
  refine (dats m 0 c).arrAt_eq_of_after_last 9 lastPoint (by decide +kernel) _ fun j => ?_
  blk_simp
  rw [after0_9]
  exact bias_last m c _ j

end Cert.NormWindowIdeal.Rows

end
-- ==== Proof.NormWindowReference.lean ====
/-
  WHAT THE REFERENCE OF THE LAYER NORM'S BACKWARD PASS HOLDS, where the norm feeds the windowed attention's first product: the derivative by the norm's row, rule by rule, and the sums over the rows.
-/
module

public import proofs.«01_k».proof.Proof.Gen.NormWindowReferenceIdeal.Read
public import proofs.«01_k».proof.Proof.Norm
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.NormWindowReferenceIdeal.Rows

open Cert.NormWindowReferenceIdeal Cert.NormWindowReferenceIdeal.Gen Cert.NormWindowReferenceIdeal.Read Cert.Norm Idealize.ShloMosaic

variable (d : S8192x1024.Idx → EReal) (da : S8192x1536.Idx → EReal) (w : S1024x1536.Idx → EReal) (z : S8192x1024.Idx → EReal) (g : S1x1024.Idx → EReal)

/-- The derivative by the norm's result, at a row. -/
def dout (s : Fin 8192) (k : Fin 1024) : EReal := alpha * d (ix2 s k) + ∑ j : Fin 1536, da (ix2 s j) * w (ix2 k j)

theorem mean_at (s : Fin 8192) : val_main_v4 (F := Ideal) z (ix2 s 0) = Ideal.div (∑ k, z (ix2 s k)) width := by
  unfold width
  pointwise [val_main_v4, val_main_v3, val_main_v2, val_main_v1, val_main_cst_0, val_main_cst_1]

theorem centre_at (s : Fin 8192) (k : Fin 1024) : val_main_v6 (F := Ideal) z (ix2 s k) = centre (fun k => z (ix2 s k)) k := by
  rw [val_main_v6_apply, val_main_v5_apply]
  exact congrArg (z (ix2 s k) - ·) ((congrArg (val_main_v4 (F := Ideal) z) (eq_ix2 _)).trans (mean_at z s))

theorem centre_at' (s : Fin 8192) (k : Fin 1024) : val_main_v15 (F := Ideal) z (ix2 s k) = centre (fun k => z (ix2 s k)) k := by
  rw [val_main_v15_apply, val_main_v14_apply]
  exact congrArg (z (ix2 s k) - ·) ((congrArg (val_main_v4 (F := Ideal) z) (eq_ix2 _)).trans (mean_at z s))

theorem spread_at (s : Fin 8192) : val_main_v17 (F := Ideal) z (ix2 s 0) = spread (fun k => z (ix2 s k)) := by
  unfold spread width eps
  simp only [← centre_at]
  pointwise [val_main_v17, val_main_v16, val_main_v13, val_main_v12, val_main_v11, val_main_v10, val_main_v7, val_main_cst_3, val_main_cst_4, val_main_cst_5]

theorem recip_at (s : Fin 8192) : val_main_v18 (F := Ideal) z (ix2 s 0) = recip (fun k => z (ix2 s k)) := by
  unfold recip
  rw [← spread_at]
  pointwise [val_main_v18]

theorem out_at (s : Fin 8192) (k : Fin 1024) : val_main_v36 (F := Ideal) d da w (ix2 s k) = dout d da w s k := by
  unfold dout alpha
  refine Eq.trans ?_ (add_comm (G := EReal) _ _)
  rw [val_main_v36_apply, val_main_v33_apply]
  pointwise [val_main_v35, val_main_v34, val_main_cst_8, val_main_v32, val_main_v30]
  have el (j : Fin 1536) : lidx_main_v33 (ix2 s k) j = ix2 s j := eq_ix2 _
  have er (j : Fin 1536) : ridx_main_v33 (ix2 s k) j = ix2 k j := eq_ix2 _
  simp only [el, er]

theorem weighted_at (s : Fin 8192) (k : Fin 1024) : val_main_v43 (F := Ideal) d da w g (ix2 s k) = dout d da w s k * g (ix2 0 k) := by
  rw [val_main_v43_apply, val_main_v42_apply]
  exact congrArg₂ (· * ·) (out_at d da w s k) (congrArg g (eq_ix2 _))

theorem direct_at (s : Fin 8192) (k : Fin 1024) :
    val_main_v48 (F := Ideal) d da w z g (ix2 s k) = dout d da w s k * g (ix2 0 k) * recip fun k => z (ix2 s k) := by
  rw [val_main_v48_apply, val_main_v47_apply]
  exact congrArg₂ (· * ·) (weighted_at d da w g s k) ((congrArg (val_main_v18 (F := Ideal) z) (eq_ix2 _)).trans (recip_at z s))

theorem product_at (s : Fin 8192) :
    val_main_v46 (F := Ideal) d da w z g (ix2 s 0) = ∑ k, centre (fun k => z (ix2 s k)) k * (dout d da w s k * g (ix2 0 k)) := by
  simp only [← centre_at', ← weighted_at]
  pointwise [val_main_v46, val_main_v45, val_main_v44, val_main_cst_11]

theorem slope_at (s : Fin 8192) :
    val_main_v21 (F := Ideal) z (ix2 s 0) = mhalf * Ideal.div (recip fun k => z (ix2 s k)) (spread fun k => z (ix2 s k)) := by
  unfold mhalf
  rw [← recip_at, ← spread_at]
  pointwise [val_main_v21, val_main_v20, val_main_v19, val_main_cst_6]

theorem share_at (s : Fin 8192) :
    val_main_v54 (F := Ideal) d da w z g (ix2 s 0)
      = Ideal.div ((∑ k, centre (fun k => z (ix2 s k)) k * (dout d da w s k * g (ix2 0 k)))
          * (mhalf * Ideal.div (recip fun k => z (ix2 s k)) (spread fun k => z (ix2 s k)))) width := by
  rw [← product_at, ← slope_at]
  unfold width
  pointwise [val_main_v54, val_main_v53, val_main_v49, val_main_cst_13]

theorem variance_at (s : Fin 8192) (k : Fin 1024) :
    val_main_v57 (F := Ideal) d da w z g (ix2 s k) = byVariance (fun k => z (ix2 s k)) (dout d da w s) (fun k => g (ix2 0 k)) k := by
  unfold byVariance
  rw [← share_at, ← centre_at]
  unfold two
  pointwise [val_main_v57, val_main_v56, val_main_v55, val_main_v9, val_main_v8, val_main_cst_14, val_main_cst_2]
  rw [Fin.sum_univ_one]

theorem mean_direct_at (s : Fin 8192) :
    val_main_v52 (F := Ideal) d da w z g (ix2 s 0) = ∑ k, -(dout d da w s k * g (ix2 0 k) * recip fun k => z (ix2 s k)) := by
  simp only [← direct_at]
  pointwise [val_main_v52, val_main_v51, val_main_v50, val_main_cst_12]

theorem mean_variance_at (s : Fin 8192) :
    val_main_v60 (F := Ideal) d da w z g (ix2 s 0) = ∑ k, -byVariance (fun k => z (ix2 s k)) (dout d da w s) (fun k => g (ix2 0 k)) k := by
  simp only [← variance_at]
  pointwise [val_main_v60, val_main_v59, val_main_v58, val_main_cst_15]

/-- The derivative by the norm's input. -/
theorem row_at (s : Fin 8192) (k : Fin 1024) :
    val_main_v67 (F := Ideal) d da w z g (ix2 s k) = drule (fun k => z (ix2 s k)) (dout d da w s) (fun k => g (ix2 0 k)) k := by
  unfold drule
  rw [← direct_at, ← variance_at, ← mean_direct_at, ← mean_variance_at]
  unfold width
  pointwise [val_main_v67, val_main_v66, val_main_v65, val_main_v64, val_main_v63, val_main_v62, val_main_v61, val_main_cst_16, val_main_cst_17]
  rw [Fin.sum_univ_one]

/-- The derivative by the norm's weight. -/
theorem weight_at (k : Fin 1024) :
    val_main_v41 (F := Ideal) d da w z (ix2 0 k) = ∑ s, dout d da w s k * unit (fun k => z (ix2 s k)) k := by
  have e (s : Fin 8192) : val_main_v39 (F := Ideal) d da w z (ix2 s k) = dout d da w s k * unit (fun k => z (ix2 s k)) k := by
    rw [val_main_v39_apply, val_main_v23_apply, val_main_v22_apply]
    refine (mul_comm (G := EReal) _ _).trans (congrArg₂ (· * ·) (out_at d da w s k) (congrArg₂ (· * ·) (centre_at' z s k) ?_))
    exact (congrArg (val_main_v18 (F := Ideal) z) (eq_ix2 _)).trans (recip_at z s)
  simp only [← e]
  pointwise [val_main_v41, val_main_v40, val_main_cst_10]

/-- The derivative by the norm's bias. -/
theorem bias_at (k : Fin 1024) : val_main_v38 (F := Ideal) d da w (ix2 0 k) = ∑ s, dout d da w s k := by
  simp only [← out_at]
  pointwise [val_main_v38, val_main_v37, val_main_cst_9]

end Cert.NormWindowReferenceIdeal.Rows

end
-- ==== Proof.NormWindowFinite.lean ====
/-
  THE PRECONDITION OF THE LAYER NORM'S BACKWARD PASS, OPENED, where the norm feeds the windowed attention's first product: every entry of the two derivatives that come in and of the two weights is a real number, and so is the derivative by
  the norm's result.
-/
module

public import proofs.«01_k».proof.Proof.Finite
public import proofs.«01_k».proof.Proof.Norm
public import proofs.«01_k».proof.Proof.Gen.Pre_finite_window
public import Idealize.ShloMosaic.Lib.Pointwise.Tactic
public import Idealize.ShloMosaic.Lib.Pointwise.Reduce

@[expose] public section

noncomputable section

namespace Cert.NormWindowFinite

open Cert.Pre_finite_window Cert.Pre_finite_window.Gen Idealize.ShloMosaic Cert.Attend Cert.Norm Cert.Finite

theorem table_d (y : FVec Ideal S8192x1024 .f32) (i : S_.Idx) :
    (Host.reduce FloatOps.maximumf y (constant (F := Ideal) S_ .f32 0xFF800000#32) reducesTo_S8192x1024_S_d0_1 h_S_ : FVec Ideal S_ .f32) i
      = largest fun k : Fin 8192 × Fin 1024 => y (ix2 k.1 k.2) := by
  unfold largest
  pointwise [word_bot]

theorem table_da (y : FVec Ideal S8192x1536 .f32) (i : S_.Idx) :
    (Host.reduce FloatOps.maximumf y (constant (F := Ideal) S_ .f32 0xFF800000#32) reducesTo_S8192x1536_S_d0_1 h_S_ : FVec Ideal S_ .f32) i
      = largest fun k : Fin 8192 × Fin 1536 => y (ix2 k.1 k.2) := by
  unfold largest
  pointwise [word_bot]

theorem table_w (y : FVec Ideal S1024x1536 .f32) (i : S_.Idx) :
    (Host.reduce FloatOps.maximumf y (constant (F := Ideal) S_ .f32 0xFF800000#32) reducesTo_S1024x1536_S_d0_1 h_S_ : FVec Ideal S_ .f32) i
      = largest fun k : Fin 1024 × Fin 1536 => y (ix2 k.1 k.2) := by
  unfold largest
  pointwise [word_bot]

theorem table_g (y : FVec Ideal S1x1024 .f32) (i : S_.Idx) :
    (Host.reduce FloatOps.maximumf y (constant (F := Ideal) S_ .f32 0xFF800000#32) reducesTo_S1x1024_S_d0_1 h_S_ : FVec Ideal S_ .f32) i
      = largest fun k : Fin 1 × Fin 1024 => y (ix2 k.1 k.2) := by
  unfold largest
  pointwise [word_bot]

/-- A conjunction of two bits. -/
theorem split (x y : IVec S_ 1) (h : andi x y = fun _ => 1#1) : (x = fun _ => 1#1) ∧ y = fun _ => 1#1 := by
  have e (i : S_.Idx) : IntOp.andi (x i) (y i) = 1#1 := congrFun h i
  refine ⟨funext fun i => ?_, funext fun i => ?_⟩ <;> have := e i <;> revert this <;> unfold IntOp.andi <;> generalize x i = a <;> generalize y i = b <;> revert a b <;> decide

/-- The comparison of a table of one entry with `+∞`. -/
theorem below (x : FVec Ideal S_ .f32) (h : cmpf .olt x (constant (F := Ideal) S_ .f32 0x7F800000#32) = fun _ => 1#1) (i : S_.Idx) : (x i : EReal) < ⊤ := by
  have z : (constant (F := Ideal) S_ .f32 0x7F800000#32 i : EReal) = ⊤ := word_top
  have e : Ideal.cmp .olt (x i) (constant (F := Ideal) S_ .f32 0x7F800000#32 i) = 1#1 := congrFun h i
  rw [z] at e
  by_cases hx : (x i : EReal) < ⊤
  · exact hx
  · simp_all [Ideal.cmp]

theorem magnitude (y : FVec Ideal S8192x1024 .f32) (k : S8192x1024.Idx) : (Host.absf y k : EReal) = max (y k) (-y k) := by
  pointwise
  rfl

theorem magnitude_g (y : FVec Ideal S1x1024 .f32) (k : S1x1024.Idx) : (Host.absf y k : EReal) = max (y k) (-y k) := by
  pointwise
  rfl

theorem magnitude_da (y : FVec Ideal S8192x1536 .bf16) (k : S8192x1536.Idx) : (Host.absf (extf (F := Ideal) .f32 y bitsLt_bf16_f32) k : EReal) = max (y k) (-y k) := by
  pointwise
  rfl

theorem magnitude_w (y : FVec Ideal S1024x1536 .bf16) (k : S1024x1536.Idx) : (Host.absf (extf (F := Ideal) .f32 y bitsLt_bf16_f32) k : EReal) = max (y k) (-y k) := by
  pointwise
  rfl

variable (d : FVec Ideal S8192x1024 .f32) (da : FVec Ideal S8192x1536 .bf16) (w : FVec Ideal S1024x1536 .bf16) (z : FVec Ideal S8192x1024 .f32) (g : FVec Ideal S1x1024 .f32)

/-- The precondition as four comparisons. -/
theorem opened (h : fn (F := Ideal) d da w z g = fun _ => 1#1) :
    (largest fun k : Fin 8192 × Fin 1024 => (max (d (ix2 k.1 k.2)) (-d (ix2 k.1 k.2)) : EReal)) < ⊤
      ∧ (largest fun k : Fin 8192 × Fin 1536 => (max (da (ix2 k.1 k.2)) (-da (ix2 k.1 k.2)) : EReal)) < ⊤
      ∧ (largest fun k : Fin 1024 × Fin 1536 => (max (w (ix2 k.1 k.2)) (-w (ix2 k.1 k.2)) : EReal)) < ⊤
      ∧ (largest fun k : Fin 1 × Fin 1024 => (max (g (ix2 k.1 k.2)) (-g (ix2 k.1 k.2)) : EReal)) < ⊤ := by
  unfold fn at h
  obtain ⟨h, hg⟩ := split _ _ h
  obtain ⟨h, hw⟩ := split _ _ h
  obtain ⟨hd, ha⟩ := split _ _ h
  have kd := lt_of_eq_of_lt (table_d _ _).symm (below _ hd fun a => a.elim0)
  have ka := lt_of_eq_of_lt (table_da _ _).symm (below _ ha fun a => a.elim0)
  have kw := lt_of_eq_of_lt (table_w _ _).symm (below _ hw fun a => a.elim0)
  have kg := lt_of_eq_of_lt (table_g _ _).symm (below _ hg fun a => a.elim0)
  exact ⟨lt_of_eq_of_lt (congrArg largest (funext fun k => (magnitude d (ix2 k.1 k.2)).symm)) kd,
    lt_of_eq_of_lt (congrArg largest (funext fun k => (magnitude_da da (ix2 k.1 k.2)).symm)) ka,
    lt_of_eq_of_lt (congrArg largest (funext fun k => (magnitude_w w (ix2 k.1 k.2)).symm)) kw,
    lt_of_eq_of_lt (congrArg largest (funext fun k => (magnitude_g g (ix2 k.1 k.2)).symm)) kg⟩

variable {d da w z g} (h : fn (F := Ideal) d da w z g = fun _ => 1#1)
include h

/-- Every entry of the norm's weight is real. -/
theorem weight_real (k : Fin 1024) : ∃ x : ℝ, (g (ix2 0 k) : EReal) = x := by
  have b := le_largest (fun k : Fin 1 × Fin 1024 => (max (g (ix2 k.1 k.2)) (-g (ix2 k.1 k.2)) : EReal)) (0, k)
  exact real_of_abs (x := g (ix2 0 k)) (lt_of_le_of_lt b (opened d da w z g h).2.2.2)

/-- The derivative by the norm's result is real. -/
theorem out_real (s : Fin 8192) (k : Fin 1024) :
    ∃ x : ℝ, (alpha * (d (ix2 s k) : EReal) + ∑ j : Fin 1536, (da (ix2 s j) : EReal) * (w (ix2 k j) : EReal)) = x := by
  obtain ⟨hd, ha, hw, -⟩ := opened d da w z g h
  obtain ⟨a, ea⟩ := alpha_real
  have bd := le_largest (fun k : Fin 8192 × Fin 1024 => (max (d (ix2 k.1 k.2)) (-d (ix2 k.1 k.2)) : EReal)) (s, k)
  obtain ⟨x, hx⟩ := real_of_abs (x := d (ix2 s k)) (lt_of_le_of_lt bd hd)
  obtain ⟨y, hy⟩ := real_sum Finset.univ (fun j : Fin 1536 => (da (ix2 s j) : EReal) * (w (ix2 k j) : EReal)) fun j => by
    have b1 := le_largest (fun k : Fin 8192 × Fin 1536 => (max (da (ix2 k.1 k.2)) (-da (ix2 k.1 k.2)) : EReal)) (s, j)
    have b2 := le_largest (fun k : Fin 1024 × Fin 1536 => (max (w (ix2 k.1 k.2)) (-w (ix2 k.1 k.2)) : EReal)) (k, j)
    obtain ⟨p, hp⟩ := real_of_abs (x := da (ix2 s j)) (lt_of_le_of_lt b1 ha)
    obtain ⟨q, hq⟩ := real_of_abs (x := w (ix2 k j)) (lt_of_le_of_lt b2 hw)
    exact ⟨p * q, by rw [EReal.coe_mul, ← hp, ← hq]⟩
  exact ⟨a * x + y, by rw [EReal.coe_add, EReal.coe_mul, ← ea, ← hx, ← hy]⟩

end Cert.NormWindowFinite

end
-- ==== Proof.NormWindowSame.lean ====
/-
  THE LAYER NORM THAT FEEDS THE WINDOWED ATTENTION'S FIRST PRODUCT: the kernel's four derivatives are the reference's.
-/
module

public import proofs.«01_k».proof.Defs
public import proofs.«01_k».proof.Proof.Gen.NormWindow
public import proofs.«01_k».proof.Proof.Gen.NormWindow.Frame
public import proofs.«01_k».proof.Proof.Gen.NormWindowIdeal
public import proofs.«01_k».proof.Proof.Gen.NormWindowIdeal.Frame
public import proofs.«01_k».proof.Proof.Gen.NormWindowIdeal.Value
public import proofs.«01_k».proof.Proof.Gen.NormWindowReferenceIdeal
public import proofs.«01_k».proof.Proof.Gen.NormWindowReferenceIdeal.Run
public import proofs.«01_k».proof.Proof.Gen.NormWindowReferenceIdeal.Read
public import proofs.«01_k».proof.Proof.Gen.Pre_finite_window
public import proofs.«01_k».proof.Proof.NormWindow
public import proofs.«01_k».proof.Proof.NormWindowReference
public import proofs.«01_k».proof.Proof.NormWindowFinite
public import Idealize.ShloMosaic.Lib.Claim
public import Idealize.ShloMosaic.Lib.Quiescent
public import Idealize.ShloMosaic.Adequacy
public import Idealize.ShloMosaic.Init

@[expose] public section

noncomputable section

namespace Cert.NormWindowSame

open Idealize.ShloMosaic Idealize.SL.Sem

/-- The layer norm's reference leaves its arguments as they were. -/
theorem norm_frame : Cert.quiescent_NormWindowReferenceIdeal := fun m ρ _ =>
  (θ_run Cert.NormWindowReferenceIdeal.defs _ _).mono
    (fun r h => ⟨fun c => (h c).2.2.2.2, Idealize.ShloMosaic.sem_eq_zero_of_no_sems (by decide) r.2⟩)
    (Cert.NormWindowReferenceIdeal.Value.run (F := Ideal) m ρ)

section Norm

open Cert.NormWindowIdeal.Rows

variable (m : (ℓ : Loc Cert.NormWindowIdeal.nD Cert.NormWindowIdeal.τ Cert.NormWindowIdeal.sig) → Buf (Elt Ideal) ℓ) (c : Dev Cert.NormWindowIdeal.nD)

/-- The two programs' derivatives by the norm's input, at an index. -/
theorem same_row (hpre : Cert.Pre_NormWindowIdeal_finite_window m) (s : Fin 8192) (k : Fin 1024) :
    Cert.NormWindowReferenceIdeal.Read.val_main_v67 (F := Ideal) (D m c) (DA m c) (W m c) (Z m c) (G m c) (ix2 s k)
      = Cert.Norm.dnorm (zrow m c s) (dout m c s) (grow m c) k :=
  (Cert.NormWindowReferenceIdeal.Rows.row_at _ _ _ _ _ s k).trans
    (Cert.Norm.drule_eq_dnorm _ _ _ (fun j => Cert.NormWindowFinite.out_real (hpre c) s j) (fun j => Cert.NormWindowFinite.weight_real (hpre c) j) k)

theorem same_dz (hpre : Cert.Pre_NormWindowIdeal_finite_window m) :
    Cert.NormWindowReferenceIdeal.Read.val_main_v67 (F := Ideal) (D m c) (DA m c) (W m c) (Z m c) (G m c) = dzArray m c := by
  funext y
  rw [eq_ix2 y]
  exact same_row m c hpre (y 0) (y 1)

theorem same_copy (hpre : Cert.Pre_NormWindowIdeal_finite_window m) :
    Cert.NormWindowReferenceIdeal.Read.val_main_v68 (F := Ideal) (D m c) (DA m c) (W m c) (Z m c) (G m c) = dzCopy m c := by
  funext y
  rw [eq_ix2 y]
  exact same_row m c hpre (y 0) (y 1)

theorem row_index (y : Cert.NormWindowIdeal.S1x1024.Idx) : ∃ k : Fin 1024, y = ix2 0 k :=
  ⟨y 1, (eq_ix2 y).trans (congrArg (ix2 · (y 1)) (Subsingleton.elim (α := Fin 1) _ _))⟩

theorem same_dg : Cert.NormWindowReferenceIdeal.Read.val_main_v41 (F := Ideal) (D m c) (DA m c) (W m c) (Z m c) = dgArray m c := by
  funext y
  obtain ⟨k, rfl⟩ := row_index y
  exact Cert.NormWindowReferenceIdeal.Rows.weight_at _ _ _ _ k

theorem same_db : Cert.NormWindowReferenceIdeal.Read.val_main_v38 (F := Ideal) (D m c) (DA m c) (W m c) = dbArray m c := by
  funext y
  obtain ⟨k, rfl⟩ := row_index y
  exact Cert.NormWindowReferenceIdeal.Rows.bias_at _ _ _ k

end Norm

/-- Kernel and reference compute the same four derivatives of the layer norm. -/
theorem norm_same : Cert.algebraic_NormWindowIdeal_NormWindowReferenceIdeal_pre_finite_window := by
  intro m g m' g' hpre hargs
  refine ⟨fun c => Cert.NormWindowIdeal.Rows.dzArray m c, fun c => Cert.NormWindowIdeal.Rows.dzCopy m c, fun c => Cert.NormWindowIdeal.Rows.dgArray m c,
    fun c => Cert.NormWindowIdeal.Rows.dbArray m c, ?_, ?_⟩
  · refine (θ_run Cert.NormWindowIdeal.defs _ _).mono (fun r h c => ?_) (Cert.NormWindowIdeal.Value.run_blocks m g)
    obtain ⟨h6, h7, h8, h9, ha⟩ := h c
    exact ⟨h6.trans (Cert.NormWindowIdeal.Rows.dz_end m c), h7.trans (Cert.NormWindowIdeal.Rows.copy_end m c), h8.trans (Cert.NormWindowIdeal.Rows.dg_end m c),
      h9.trans (Cert.NormWindowIdeal.Rows.db_end m c), ha⟩
  · refine (θ_run Cert.NormWindowReferenceIdeal.defs _ _).mono (fun r h c => ?_) (Cert.NormWindowReferenceIdeal.Value.run m' g')
    obtain ⟨h67, h68, h41, h38, ha⟩ := h c
    obtain ⟨e0, e1, e2, e3, e4⟩ := hargs c
    refine ⟨h67.trans ?_, h68.trans ?_, h41.trans ?_, h38.trans ?_, ha⟩
    · rw [Cert.NormWindowReferenceIdeal.Read.val_main_v67_eq, e0, e1, e2, e3, e4]
      exact same_dz m c hpre
    · rw [Cert.NormWindowReferenceIdeal.Read.val_main_v68_eq, e0, e1, e2, e3, e4]
      exact same_copy m c hpre
    · rw [Cert.NormWindowReferenceIdeal.Read.val_main_v41_eq, e0, e1, e2, e3]
      exact same_dg m c
    · rw [Cert.NormWindowReferenceIdeal.Read.val_main_v38_eq, e0, e1, e2]
      exact same_db m c

end Cert.NormWindowSame

end
-- ==== Proof.NormLatent.lean ====
/-
  THE DERIVATIVE BY THE LAYER NORM'S INPUT, the norm being the one that feeds the latent attention's first product: the kernel's four arrays. At a grid point the kernel holds 256 rows; of each it forms the derivative by the norm's result, the sum of a
  residual's and of a product's, takes it through the norm's row, and adds what the row gives to the derivatives by the norm's weight and bias.
-/
module

public import proofs.«01_k».proof.Proof.Gen.NormLatentIdeal.Value
public import proofs.«01_k».proof.Proof.Norm
public import proofs.«01_k».proof.Proof.Table
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.StableHlo.ReadAt
public import Idealize.ShloMosaic.Lib.Claim
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.NormLatentIdeal.Rows

open Cert.NormLatentIdeal Cert.NormLatentIdeal.Gen Cert.Norm Cert.Table Idealize.ShloMosaic Idealize.ShloMosaic.TcCoe Idealize.SL.Sem

/-! ### One block -/

section Block
variable (da : S256x704.Idx → Elt Ideal .bf16) (w : S1024x704.Idx → Elt Ideal .bf16) (d x : S256x1024.Idx → Elt Ideal .f32) (g a : S1x1024.Idx → Elt Ideal .f32)
  (s : S256x1.Idx → Elt Ideal .f32)

/-- The derivative by the norm's result. -/
theorem out_apply (r : Fin 256) (k : Fin 1024) :
    k0_pay5 da w d (ix2 r k) = alpha * d (ix2 r k) + ∑ j : Fin 704, da (ix2 r j) * w (ix2 k j) := by
  unfold_payloads
  unfold alpha
  pointwise [dot_S256x704_S1024x704_S256x1024_1_1_0_0_n_n]

/-- The derivative by the norm's row. -/
theorem row_apply (r : Fin 256) (k : Fin 1024) :
    k0_pay7 da w d x g s (ix2 r k)
      = s (ix2 r 0) * (k0_pay5 da w d (ix2 r k) * g (ix2 0 k) - Ideal.div (∑ j : Fin 1024, k0_pay5 da w d (ix2 r j) * g (ix2 0 j)) width
          - x (ix2 r k) * Ideal.div (∑ j : Fin 1024, k0_pay5 da w d (ix2 r j) * g (ix2 0 j) * x (ix2 r j)) width) := by
  unfold k0_pay7 k0_pay6
  unfold width
  generalize k0_pay5 da w d = o
  pointwise

/-- What the block adds to the derivative by the weight. -/
theorem weight_apply (o : S256x1024.Idx → Elt Ideal .f32) (k : Fin 1024) :
    k0_pay3 o (k0_pay6 x) a (ix2 0 k) = a (ix2 0 k) + ∑ r : Fin 256, o (ix2 r k) * x (ix2 r k) := by
  unfold_payloads
  pointwise

/-- What the block adds to the derivative by the bias. -/
theorem bias_apply (o : S256x1024.Idx → Elt Ideal .f32) (k : Fin 1024) :
    k0_pay4 o a (ix2 0 k) = a (ix2 0 k) + ∑ r : Fin 256, o (ix2 r k) := by
  unfold_payloads
  pointwise

end Block

variable (m : (ℓ : Loc nD τ sig) → Buf (Elt Ideal) ℓ) (c : Dev nD)

/-- The residual's derivative. -/
abbrev D : S8192x1024.Idx → EReal := m ((c.tc : Thread nD τ).loc main_arg0)

/-- The derivative by the product. -/
abbrev DA : S8192x704.Idx → EReal := m ((c.tc : Thread nD τ).loc main_arg1)

/-- The product's weight. -/
abbrev W : S1024x704.Idx → EReal := m ((c.tc : Thread nD τ).loc main_arg2)

/-- The norm's input. -/
abbrev Z : S8192x1024.Idx → EReal := m ((c.tc : Thread nD τ).loc main_arg3)

/-- The norm's weight. -/
abbrev G : S1x1024.Idx → EReal := m ((c.tc : Thread nD τ).loc main_arg4)

/-- A row of the norm's input. -/
abbrev zrow (s : Fin 8192) (k : Fin 1024) : EReal := Z m c (ix2 s k)

theorem recip_at (s : Fin 8192) : V m c main_v13 (ix2 s 0) = recip (zrow m c s) := by
  unfold V recip spread centre width eps zrow
  after_reads_at

theorem unit_at (s : Fin 8192) (k : Fin 1024) : V m c main_v15 (ix2 s k) = unit (zrow m c s) k := by
  unfold V unit recip spread centre width eps zrow
  after_reads_at

/-- The derivative by the norm's result, at a row. -/
def dout (s : Fin 8192) (k : Fin 1024) : EReal := alpha * D m c (ix2 s k) + ∑ j : Fin 704, DA m c (ix2 s j) * W m c (ix2 k j)

/-- The norm's weight, as a row. -/
abbrev grow (k : Fin 1024) : EReal := G m c (ix2 0 k)

/-! ### The block of a grid point -/

variable (t : Fin cfg0.N)

/-- The array's row that is row `r` of the block at hand. -/
def rowAt (r : Fin 256) : Fin 8192 := ⟨t.val * 256 + r.val, by have : t.val < 32 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = t.val ∧ win0_1.index t 1 = 0 :=
  (by decide +kernel : ∀ t : Fin grid0.N, win0_1.index t 0 = t.val ∧ win0_1.index t 1 = 0)

theorem place2 : ∀ t : Fin cfg0.N, win0_2.index t 0 = 0 ∧ win0_2.index t 1 = 0 :=
  (by decide +kernel : ∀ t : Fin grid0.N, win0_2.index t 0 = 0 ∧ win0_2.index t 1 = 0)

theorem place3 : ∀ t : Fin cfg0.N, win0_3.index t 0 = t.val ∧ win0_3.index t 1 = 0 :=
  (by decide +kernel : ∀ t : Fin grid0.N, win0_3.index t 0 = t.val ∧ win0_3.index t 1 = 0)

theorem place4 : ∀ t : Fin cfg0.N, win0_4.index t 0 = t.val ∧ win0_4.index t 1 = 0 :=
  (by decide +kernel : ∀ t : Fin grid0.N, win0_4.index t 0 = t.val ∧ win0_4.index t 1 = 0)

theorem place5 : ∀ t : Fin cfg0.N, win0_5.index t 0 = 0 ∧ win0_5.index t 1 = 0 :=
  (by decide +kernel : ∀ t : Fin grid0.N, win0_5.index t 0 = 0 ∧ win0_5.index t 1 = 0)

theorem place6 : ∀ t : Fin cfg0.N, win0_6.index t 0 = t.val ∧ win0_6.index t 1 = 0 :=
  (by decide +kernel : ∀ t : Fin grid0.N, win0_6.index t 0 = t.val ∧ win0_6.index t 1 = 0)

theorem place7 : ∀ t : Fin cfg0.N, win0_7.index t 0 = t.val ∧ win0_7.index t 1 = 0 :=
  (by decide +kernel : ∀ t : Fin grid0.N, win0_7.index t 0 = t.val ∧ win0_7.index t 1 = 0)

theorem iblk_d (r : Fin 256) (k : Fin 1024) : iblk m c 0 t (ix2 r k) = D m c (ix2 (rowAt t r) k) := by
  refine Eq.trans ?_ (congrFun (V_main_arg0 m c) (ix2 (rowAt t r) k))
  unfold iblk
  generalize V m c = v
  blk_ext [place0 t, rowAt]

theorem iblk_da (r : Fin 256) (j : Fin 704) : iblk m c 1 t (ix2 r j) = DA m c (ix2 (rowAt t r) j) := by
  refine Eq.trans ?_ (congrFun (V_main_arg1 m c) (ix2 (rowAt t r) j))
  unfold iblk
  generalize V m c = v
  blk_ext [place1 t, rowAt]

theorem iblk_w (k : Fin 1024) (j : Fin 704) : iblk m c 2 t (ix2 k j) = W m c (ix2 k j) := by
  refine Eq.trans ?_ (congrFun (V_main_arg2 m c) (ix2 k j))
  unfold iblk
  generalize V m c = v
  blk_ext [place2 t]

theorem iblk_unit (r : Fin 256) (k : Fin 1024) : iblk m c 3 t (ix2 r k) = unit (zrow m c (rowAt t r)) k := by
  refine Eq.trans ?_ (unit_at m c (rowAt t r) k)
  unfold iblk
  generalize V m c = v
  blk_ext [place3 t, rowAt]

theorem iblk_recip (r : Fin 256) : iblk m c 4 t (ix2 r 0) = recip (zrow m c (rowAt t r)) := by
  refine Eq.trans ?_ (recip_at m c (rowAt t r))
  unfold iblk
  generalize V m c = v
  blk_ext [place4 t, rowAt]

theorem iblk_g (k : Fin 1024) : iblk m c 5 t (ix2 0 k) = grow m c k := by
  refine Eq.trans ?_ (congrFun (V_main_arg4 m c) (ix2 0 k))
  unfold iblk
  generalize V m c = v
  blk_ext [place5 t]

theorem out_at (r : Fin 256) (k : Fin 1024) :
    k0_pay5 (F := Ideal) (iblk m c 1 t) (iblk m c 2 t) (iblk m c 0 t) (ix2 r k) = dout m c (rowAt t r) k :=
  (out_apply _ _ _ _ _).trans (congrArg₂ (· + ·) (congrArg (alpha * ·) (iblk_d m c t r k))
    (Finset.sum_congr rfl fun j _ => congrArg₂ (· * ·) (iblk_da m c t r j) (iblk_w m c t k j)))

/-! ### The derivative by the rows -/

/-- The first array: the derivative by the norm's input. -/
def dzArray : S8192x1024.Idx → Elt Ideal .f32 := fun y => dnorm (zrow m c (y 0)) (dout m c (y 0)) (grow m c) (y 1)

/-- The second array: the same, stored again. -/
def dzCopy : S8192x1024.Idx → Elt Ideal .bf16 := fun y => dnorm (zrow m c (y 0)) (dout m c (y 0)) (grow m c) (y 1)

/-- The third array: the derivative by the norm's weight. -/
def dgArray : S1x1024.Idx → Elt Ideal .f32 := fun y => (∑ s : Fin 8192, dout m c s (y 1) * unit (zrow m c s) (y 1) : EReal)

/-- The fourth array: the derivative by the norm's bias. -/
def dbArray : S1x1024.Idx → Elt Ideal .f32 := fun y => (∑ s : Fin 8192, dout m c s (y 1) : EReal)

theorem row_at (r : Fin 256) (k : Fin 1024) :
    k0_pay7 (F := Ideal) (iblk m c 1 t) (iblk m c 2 t) (iblk m c 0 t) (iblk m c 3 t) (iblk m c 5 t) (iblk m c 4 t) (ix2 r k)
      = dnorm (zrow m c (rowAt t r)) (dout m c (rowAt t r)) (grow m c) k := by
  have hx (j : Fin 1024) : k0_pay5 (F := Ideal) (iblk m c 1 t) (iblk m c 2 t) (iblk m c 0 t) (ix2 r j) * (iblk m c 5 t : S1x1024.Idx → EReal) (ix2 0 j)
      = dout m c (rowAt t r) j * grow m c j := congrArg₂ (· * ·) (out_at m c t r j) (iblk_g m c t j)
  refine (row_apply _ _ _ _ _ _ _ _).trans ?_
  exact congrArg₂ (· * ·) (iblk_recip m c t r) (congrArg₂ (· - ·)
    (congrArg₂ (· - ·) (hx k) (congrArg (Ideal.div · width) (Finset.sum_congr rfl fun j _ => hx j)))
    (congrArg₂ (· * ·) (iblk_unit m c t r k)
      (congrArg (Ideal.div · width) (Finset.sum_congr rfl fun j _ => congrArg₂ (· * ·) (hx j) (iblk_unit m c t r j)))))

theorem row_sent (y : S256x1024.Idx) : (outsAt0 m c t.val t.isLt).1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
  · rw [outsAt0_B m c t h]
    frame_out

theorem copy_sent (y : S256x1024.Idx) : (outsAt0 m c t.val t.isLt).2.1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
    rfl
  · rw [outsAt0_B m c t h]
    frame_out
    rfl

theorem dz_end : (dats m 0 c).arrAt 6 cfg0.N = dzArray m c := by
  refine (dats m 0 c).arrAt_eq_of_covers 6 _ (by decide +kernel) fun t hf y => ?_
  blk_simp
  rw [after0_6]
  refine (row_sent m c t y).trans ?_
  have e : (win0_6.blk t).view.emb y = ix2 (rowAt t (y 0)) (y 1) := by
    blk_ext [place6 t, rowAt]
  rw [e]
  rfl

theorem copy_end : (dats m 0 c).arrAt 7 cfg0.N = dzCopy m c := by
  refine (dats m 0 c).arrAt_eq_of_covers 7 _ (by decide +kernel) fun t hf y => ?_
  blk_simp
  rw [after0_7]
  refine (copy_sent m c t y).trans ?_
  have e : (win0_7.blk t).view.emb y = ix2 (rowAt t (y 0)) (y 1) := by
    blk_ext [place7 t, rowAt]
  rw [e]
  rfl

/-! ### The sums over the rows -/

/-- What a point adds to the derivative by the weight. -/
def weightTerm (y : S1x1024.Idx) : EReal := ∑ r : Fin 256, dout m c (rowAt t r) (y 1) * unit (zrow m c (rowAt t r)) (y 1)

/-- What a point adds to the derivative by the bias. -/
def biasTerm (y : S1x1024.Idx) : EReal := ∑ r : Fin 256, dout m c (rowAt t r) (y 1)

theorem weight_at (a : S1x1024.Idx → Elt Ideal .f32) (y : S1x1024.Idx) :
    k0_pay3 (F := Ideal) (k0_pay5 (iblk m c 1 t) (iblk m c 2 t) (iblk m c 0 t)) (k0_pay6 (iblk m c 3 t)) a y = a y + weightTerm m c t y := by
  obtain ⟨k, rfl⟩ : ∃ k : Fin 1024, y = ix2 0 k := ⟨y 1, (eq_ix2 y).trans (congrArg (ix2 · (y 1)) (Subsingleton.elim (α := Fin 1) _ _))⟩
  exact (weight_apply _ _ _ _).trans (congrArg (a _ + ·) (Finset.sum_congr rfl fun r _ => congrArg₂ (· * ·) (out_at m c t r _) (iblk_unit m c t r _)))

theorem bias_at (a : S1x1024.Idx → Elt Ideal .f32) (y : S1x1024.Idx) :
    k0_pay4 (F := Ideal) (k0_pay5 (iblk m c 1 t) (iblk m c 2 t) (iblk m c 0 t)) a y = a y + biasTerm m c t y := by
  obtain ⟨k, rfl⟩ : ∃ k : Fin 1024, y = ix2 0 k := ⟨y 1, (eq_ix2 y).trans (congrArg (ix2 · (y 1)) (Subsingleton.elim (α := Fin 1) _ _))⟩
  exact (bias_apply _ _ _).trans (congrArg (a _ + ·) (Finset.sum_congr rfl fun r _ => out_at m c t r _))

theorem zero1 (y : S1x1024.Idx) : (k0_pay1 (F := Ideal) y : EReal) = 0 := by
  unfold_payloads
  pointwise

theorem zero2 (y : S1x1024.Idx) : (k0_pay2 (F := Ideal) y : EReal) = 0 := by
  unfold_payloads
  pointwise

theorem weight_first (h : t.val % 32 = 0) (y : S1x1024.Idx) : (outsAt0 m c t.val t.isLt).2.2.1 y = (0 : EReal) + weightTerm m c t y := by
  rw [outsAt0_A m c t h]
  frame_out
  exact (weight_at m c t _ y).trans (congrArg (· + weightTerm m c t y) (zero1 y))

theorem bias_first (h : t.val % 32 = 0) (y : S1x1024.Idx) : (outsAt0 m c t.val t.isLt).2.2.2 y = (0 : EReal) + biasTerm m c t y := by
  rw [outsAt0_A m c t h]
  frame_out
  exact (bias_at m c t _ y).trans (congrArg (· + biasTerm m c t y) (zero2 y))

theorem weight_next (h : ¬t.val % 32 = 0) (y : S1x1024.Idx) :
    (outsAt0 m c t.val t.isLt).2.2.1 y = (outsAt0 m c (t.val - 1) (Nat.lt_of_le_of_lt (Nat.sub_le _ _) t.isLt)).2.2.1 y + weightTerm m c t y := by
  rw [outsAt0_B m c t h]
  frame_out
  exact weight_at m c t _ y

theorem bias_next (h : ¬t.val % 32 = 0) (y : S1x1024.Idx) :
    (outsAt0 m c t.val t.isLt).2.2.2 y = (outsAt0 m c (t.val - 1) (Nat.lt_of_le_of_lt (Nat.sub_le _ _) t.isLt)).2.2.2 y + biasTerm m c t y := by
  rw [outsAt0_B m c t h]
  frame_out
  exact bias_at m c t _ y

theorem weight_last (h : 31 < cfg0.N) (y : S1x1024.Idx) : (outsAt0 m c 31 h).2.2.1 y = ∑ s : Fin 8192, dout m c s (y 1) * unit (zrow m c s) (y 1) := by
  rw [Pipeline.eq_sum_fin_of_reset_step_apply_last (M := EReal) (fun n hn y => (outsAt0 m c n hn).2.2.1 y) 32 (fun _ => 0) (weightTerm m c)
    (fun t h0 y => weight_first m c t h0 y) (fun t h0 y => weight_next m c t h0 y) (by decide) ⟨31, h⟩ rfl y, zero_add]
  exact Fin.sum_mul_add_fin 32 256 (fun s => dout m c s (y 1) * unit (zrow m c s) (y 1)) rfl

theorem bias_last (h : 31 < cfg0.N) (y : S1x1024.Idx) : (outsAt0 m c 31 h).2.2.2 y = ∑ s : Fin 8192, dout m c s (y 1) := by
  rw [Pipeline.eq_sum_fin_of_reset_step_apply_last (M := EReal) (fun n hn y => (outsAt0 m c n hn).2.2.2 y) 32 (fun _ => 0) (biasTerm m c)
    (fun t h0 y => bias_first m c t h0 y) (fun t h0 y => bias_next m c t h0 y) (by decide) ⟨31, h⟩ rfl y, zero_add]
  exact Fin.sum_mul_add_fin 32 256 (fun s => dout m c s (y 1)) rfl

/-- The point after which the two sums go out. -/
def lastPoint : Fin cfg0.N := ⟨31, by decide⟩

theorem dg_end : (dats m 0 c).arrAt 8 cfg0.N = dgArray m c := by
  refine (dats m 0 c).arrAt_eq_of_after_last 8 lastPoint (by decide +kernel) _ fun j => ?_
  blk_simp
  rw [after0_8]
  exact weight_last m c _ j

theorem db_end : (dats m 0 c).arrAt 9 cfg0.N = dbArray m c := by
  refine (dats m 0 c).arrAt_eq_of_after_last 9 lastPoint (by decide +kernel) _ fun j => ?_
  blk_simp
  rw [after0_9]
  exact bias_last m c _ j

end Cert.NormLatentIdeal.Rows

end
-- ==== Proof.NormLatentReference.lean ====
/-
  WHAT THE REFERENCE OF THE LAYER NORM'S BACKWARD PASS HOLDS, where the norm feeds the latent attention's first product: the derivative by the norm's row, rule by rule, and the sums over the rows.
-/
module

public import proofs.«01_k».proof.Proof.Gen.NormLatentReferenceIdeal.Read
public import proofs.«01_k».proof.Proof.Norm
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.NormLatentReferenceIdeal.Rows

open Cert.NormLatentReferenceIdeal Cert.NormLatentReferenceIdeal.Gen Cert.NormLatentReferenceIdeal.Read Cert.Norm Idealize.ShloMosaic

variable (d : S8192x1024.Idx → EReal) (da : S8192x704.Idx → EReal) (w : S1024x704.Idx → EReal) (z : S8192x1024.Idx → EReal) (g : S1x1024.Idx → EReal)

/-- The derivative by the norm's result, at a row. -/
def dout (s : Fin 8192) (k : Fin 1024) : EReal := alpha * d (ix2 s k) + ∑ j : Fin 704, da (ix2 s j) * w (ix2 k j)

theorem mean_at (s : Fin 8192) : val_main_v4 (F := Ideal) z (ix2 s 0) = Ideal.div (∑ k, z (ix2 s k)) width := by
  unfold width
  pointwise [val_main_v4, val_main_v3, val_main_v2, val_main_v1, val_main_cst_0, val_main_cst_1]

theorem centre_at (s : Fin 8192) (k : Fin 1024) : val_main_v6 (F := Ideal) z (ix2 s k) = centre (fun k => z (ix2 s k)) k := by
  rw [val_main_v6_apply, val_main_v5_apply]
  exact congrArg (z (ix2 s k) - ·) ((congrArg (val_main_v4 (F := Ideal) z) (eq_ix2 _)).trans (mean_at z s))

theorem centre_at' (s : Fin 8192) (k : Fin 1024) : val_main_v15 (F := Ideal) z (ix2 s k) = centre (fun k => z (ix2 s k)) k := by
  rw [val_main_v15_apply, val_main_v14_apply]
  exact congrArg (z (ix2 s k) - ·) ((congrArg (val_main_v4 (F := Ideal) z) (eq_ix2 _)).trans (mean_at z s))

theorem spread_at (s : Fin 8192) : val_main_v17 (F := Ideal) z (ix2 s 0) = spread (fun k => z (ix2 s k)) := by
  unfold spread width eps
  simp only [← centre_at]
  pointwise [val_main_v17, val_main_v16, val_main_v13, val_main_v12, val_main_v11, val_main_v10, val_main_v7, val_main_cst_3, val_main_cst_4, val_main_cst_5]

theorem recip_at (s : Fin 8192) : val_main_v18 (F := Ideal) z (ix2 s 0) = recip (fun k => z (ix2 s k)) := by
  unfold recip
  rw [← spread_at]
  pointwise [val_main_v18]

theorem out_at (s : Fin 8192) (k : Fin 1024) : val_main_v36 (F := Ideal) d da w (ix2 s k) = dout d da w s k := by
  unfold dout alpha
  refine Eq.trans ?_ (add_comm (G := EReal) _ _)
  rw [val_main_v36_apply, val_main_v33_apply]
  pointwise [val_main_v35, val_main_v34, val_main_cst_8, val_main_v32, val_main_v30]
  have el (j : Fin 704) : lidx_main_v33 (ix2 s k) j = ix2 s j := eq_ix2 _
  have er (j : Fin 704) : ridx_main_v33 (ix2 s k) j = ix2 k j := eq_ix2 _
  simp only [el, er]

theorem weighted_at (s : Fin 8192) (k : Fin 1024) : val_main_v43 (F := Ideal) d da w g (ix2 s k) = dout d da w s k * g (ix2 0 k) := by
  rw [val_main_v43_apply, val_main_v42_apply]
  exact congrArg₂ (· * ·) (out_at d da w s k) (congrArg g (eq_ix2 _))

theorem direct_at (s : Fin 8192) (k : Fin 1024) :
    val_main_v48 (F := Ideal) d da w z g (ix2 s k) = dout d da w s k * g (ix2 0 k) * recip fun k => z (ix2 s k) := by
  rw [val_main_v48_apply, val_main_v47_apply]
  exact congrArg₂ (· * ·) (weighted_at d da w g s k) ((congrArg (val_main_v18 (F := Ideal) z) (eq_ix2 _)).trans (recip_at z s))

theorem product_at (s : Fin 8192) :
    val_main_v46 (F := Ideal) d da w z g (ix2 s 0) = ∑ k, centre (fun k => z (ix2 s k)) k * (dout d da w s k * g (ix2 0 k)) := by
  simp only [← centre_at', ← weighted_at]
  pointwise [val_main_v46, val_main_v45, val_main_v44, val_main_cst_11]

theorem slope_at (s : Fin 8192) :
    val_main_v21 (F := Ideal) z (ix2 s 0) = mhalf * Ideal.div (recip fun k => z (ix2 s k)) (spread fun k => z (ix2 s k)) := by
  unfold mhalf
  rw [← recip_at, ← spread_at]
  pointwise [val_main_v21, val_main_v20, val_main_v19, val_main_cst_6]

theorem share_at (s : Fin 8192) :
    val_main_v54 (F := Ideal) d da w z g (ix2 s 0)
      = Ideal.div ((∑ k, centre (fun k => z (ix2 s k)) k * (dout d da w s k * g (ix2 0 k)))
          * (mhalf * Ideal.div (recip fun k => z (ix2 s k)) (spread fun k => z (ix2 s k)))) width := by
  rw [← product_at, ← slope_at]
  unfold width
  pointwise [val_main_v54, val_main_v53, val_main_v49, val_main_cst_13]

theorem variance_at (s : Fin 8192) (k : Fin 1024) :
    val_main_v57 (F := Ideal) d da w z g (ix2 s k) = byVariance (fun k => z (ix2 s k)) (dout d da w s) (fun k => g (ix2 0 k)) k := by
  unfold byVariance
  rw [← share_at, ← centre_at]
  unfold two
  pointwise [val_main_v57, val_main_v56, val_main_v55, val_main_v9, val_main_v8, val_main_cst_14, val_main_cst_2]
  rw [Fin.sum_univ_one]

theorem mean_direct_at (s : Fin 8192) :
    val_main_v52 (F := Ideal) d da w z g (ix2 s 0) = ∑ k, -(dout d da w s k * g (ix2 0 k) * recip fun k => z (ix2 s k)) := by
  simp only [← direct_at]
  pointwise [val_main_v52, val_main_v51, val_main_v50, val_main_cst_12]

theorem mean_variance_at (s : Fin 8192) :
    val_main_v60 (F := Ideal) d da w z g (ix2 s 0) = ∑ k, -byVariance (fun k => z (ix2 s k)) (dout d da w s) (fun k => g (ix2 0 k)) k := by
  simp only [← variance_at]
  pointwise [val_main_v60, val_main_v59, val_main_v58, val_main_cst_15]

/-- The derivative by the norm's input. -/
theorem row_at (s : Fin 8192) (k : Fin 1024) :
    val_main_v67 (F := Ideal) d da w z g (ix2 s k) = drule (fun k => z (ix2 s k)) (dout d da w s) (fun k => g (ix2 0 k)) k := by
  unfold drule
  rw [← direct_at, ← variance_at, ← mean_direct_at, ← mean_variance_at]
  unfold width
  pointwise [val_main_v67, val_main_v66, val_main_v65, val_main_v64, val_main_v63, val_main_v62, val_main_v61, val_main_cst_16, val_main_cst_17]
  rw [Fin.sum_univ_one]

/-- The derivative by the norm's weight. -/
theorem weight_at (k : Fin 1024) :
    val_main_v41 (F := Ideal) d da w z (ix2 0 k) = ∑ s, dout d da w s k * unit (fun k => z (ix2 s k)) k := by
  have e (s : Fin 8192) : val_main_v39 (F := Ideal) d da w z (ix2 s k) = dout d da w s k * unit (fun k => z (ix2 s k)) k := by
    rw [val_main_v39_apply, val_main_v23_apply, val_main_v22_apply]
    refine (mul_comm (G := EReal) _ _).trans (congrArg₂ (· * ·) (out_at d da w s k) (congrArg₂ (· * ·) (centre_at' z s k) ?_))
    exact (congrArg (val_main_v18 (F := Ideal) z) (eq_ix2 _)).trans (recip_at z s)
  simp only [← e]
  pointwise [val_main_v41, val_main_v40, val_main_cst_10]

/-- The derivative by the norm's bias. -/
theorem bias_at (k : Fin 1024) : val_main_v38 (F := Ideal) d da w (ix2 0 k) = ∑ s, dout d da w s k := by
  simp only [← out_at]
  pointwise [val_main_v38, val_main_v37, val_main_cst_9]

end Cert.NormLatentReferenceIdeal.Rows

end
-- ==== Proof.NormLatentFinite.lean ====
/-
  THE PRECONDITION OF THE LAYER NORM'S BACKWARD PASS, OPENED, where the norm feeds the latent attention's first product: every entry of the two derivatives that come in and of the two weights is a real number, and so is the derivative by
  the norm's result.
-/
module

public import proofs.«01_k».proof.Proof.Finite
public import proofs.«01_k».proof.Proof.Norm
public import proofs.«01_k».proof.Proof.Gen.Pre_finite_latent
public import Idealize.ShloMosaic.Lib.Pointwise.Tactic
public import Idealize.ShloMosaic.Lib.Pointwise.Reduce

@[expose] public section

noncomputable section

namespace Cert.NormLatentFinite

open Cert.Pre_finite_latent Cert.Pre_finite_latent.Gen Idealize.ShloMosaic Cert.Attend Cert.Norm Cert.Finite

theorem table_d (y : FVec Ideal S8192x1024 .f32) (i : S_.Idx) :
    (Host.reduce FloatOps.maximumf y (constant (F := Ideal) S_ .f32 0xFF800000#32) reducesTo_S8192x1024_S_d0_1 h_S_ : FVec Ideal S_ .f32) i
      = largest fun k : Fin 8192 × Fin 1024 => y (ix2 k.1 k.2) := by
  unfold largest
  pointwise [word_bot]

theorem table_da (y : FVec Ideal S8192x704 .f32) (i : S_.Idx) :
    (Host.reduce FloatOps.maximumf y (constant (F := Ideal) S_ .f32 0xFF800000#32) reducesTo_S8192x704_S_d0_1 h_S_ : FVec Ideal S_ .f32) i
      = largest fun k : Fin 8192 × Fin 704 => y (ix2 k.1 k.2) := by
  unfold largest
  pointwise [word_bot]

theorem table_w (y : FVec Ideal S1024x704 .f32) (i : S_.Idx) :
    (Host.reduce FloatOps.maximumf y (constant (F := Ideal) S_ .f32 0xFF800000#32) reducesTo_S1024x704_S_d0_1 h_S_ : FVec Ideal S_ .f32) i
      = largest fun k : Fin 1024 × Fin 704 => y (ix2 k.1 k.2) := by
  unfold largest
  pointwise [word_bot]

theorem table_g (y : FVec Ideal S1x1024 .f32) (i : S_.Idx) :
    (Host.reduce FloatOps.maximumf y (constant (F := Ideal) S_ .f32 0xFF800000#32) reducesTo_S1x1024_S_d0_1 h_S_ : FVec Ideal S_ .f32) i
      = largest fun k : Fin 1 × Fin 1024 => y (ix2 k.1 k.2) := by
  unfold largest
  pointwise [word_bot]

/-- A conjunction of two bits. -/
theorem split (x y : IVec S_ 1) (h : andi x y = fun _ => 1#1) : (x = fun _ => 1#1) ∧ y = fun _ => 1#1 := by
  have e (i : S_.Idx) : IntOp.andi (x i) (y i) = 1#1 := congrFun h i
  refine ⟨funext fun i => ?_, funext fun i => ?_⟩ <;> have := e i <;> revert this <;> unfold IntOp.andi <;> generalize x i = a <;> generalize y i = b <;> revert a b <;> decide

/-- The comparison of a table of one entry with `+∞`. -/
theorem below (x : FVec Ideal S_ .f32) (h : cmpf .olt x (constant (F := Ideal) S_ .f32 0x7F800000#32) = fun _ => 1#1) (i : S_.Idx) : (x i : EReal) < ⊤ := by
  have z : (constant (F := Ideal) S_ .f32 0x7F800000#32 i : EReal) = ⊤ := word_top
  have e : Ideal.cmp .olt (x i) (constant (F := Ideal) S_ .f32 0x7F800000#32 i) = 1#1 := congrFun h i
  rw [z] at e
  by_cases hx : (x i : EReal) < ⊤
  · exact hx
  · simp_all [Ideal.cmp]

theorem magnitude (y : FVec Ideal S8192x1024 .f32) (k : S8192x1024.Idx) : (Host.absf y k : EReal) = max (y k) (-y k) := by
  pointwise
  rfl

theorem magnitude_g (y : FVec Ideal S1x1024 .f32) (k : S1x1024.Idx) : (Host.absf y k : EReal) = max (y k) (-y k) := by
  pointwise
  rfl

theorem magnitude_da (y : FVec Ideal S8192x704 .bf16) (k : S8192x704.Idx) : (Host.absf (extf (F := Ideal) .f32 y bitsLt_bf16_f32) k : EReal) = max (y k) (-y k) := by
  pointwise
  rfl

theorem magnitude_w (y : FVec Ideal S1024x704 .bf16) (k : S1024x704.Idx) : (Host.absf (extf (F := Ideal) .f32 y bitsLt_bf16_f32) k : EReal) = max (y k) (-y k) := by
  pointwise
  rfl

variable (d : FVec Ideal S8192x1024 .f32) (da : FVec Ideal S8192x704 .bf16) (w : FVec Ideal S1024x704 .bf16) (z : FVec Ideal S8192x1024 .f32) (g : FVec Ideal S1x1024 .f32)

/-- The precondition as four comparisons. -/
theorem opened (h : fn (F := Ideal) d da w z g = fun _ => 1#1) :
    (largest fun k : Fin 8192 × Fin 1024 => (max (d (ix2 k.1 k.2)) (-d (ix2 k.1 k.2)) : EReal)) < ⊤
      ∧ (largest fun k : Fin 8192 × Fin 704 => (max (da (ix2 k.1 k.2)) (-da (ix2 k.1 k.2)) : EReal)) < ⊤
      ∧ (largest fun k : Fin 1024 × Fin 704 => (max (w (ix2 k.1 k.2)) (-w (ix2 k.1 k.2)) : EReal)) < ⊤
      ∧ (largest fun k : Fin 1 × Fin 1024 => (max (g (ix2 k.1 k.2)) (-g (ix2 k.1 k.2)) : EReal)) < ⊤ := by
  unfold fn at h
  obtain ⟨h, hg⟩ := split _ _ h
  obtain ⟨h, hw⟩ := split _ _ h
  obtain ⟨hd, ha⟩ := split _ _ h
  have kd := lt_of_eq_of_lt (table_d _ _).symm (below _ hd fun a => a.elim0)
  have ka := lt_of_eq_of_lt (table_da _ _).symm (below _ ha fun a => a.elim0)
  have kw := lt_of_eq_of_lt (table_w _ _).symm (below _ hw fun a => a.elim0)
  have kg := lt_of_eq_of_lt (table_g _ _).symm (below _ hg fun a => a.elim0)
  exact ⟨lt_of_eq_of_lt (congrArg largest (funext fun k => (magnitude d (ix2 k.1 k.2)).symm)) kd,
    lt_of_eq_of_lt (congrArg largest (funext fun k => (magnitude_da da (ix2 k.1 k.2)).symm)) ka,
    lt_of_eq_of_lt (congrArg largest (funext fun k => (magnitude_w w (ix2 k.1 k.2)).symm)) kw,
    lt_of_eq_of_lt (congrArg largest (funext fun k => (magnitude_g g (ix2 k.1 k.2)).symm)) kg⟩

variable {d da w z g} (h : fn (F := Ideal) d da w z g = fun _ => 1#1)
include h

/-- Every entry of the norm's weight is real. -/
theorem weight_real (k : Fin 1024) : ∃ x : ℝ, (g (ix2 0 k) : EReal) = x := by
  have b := le_largest (fun k : Fin 1 × Fin 1024 => (max (g (ix2 k.1 k.2)) (-g (ix2 k.1 k.2)) : EReal)) (0, k)
  exact real_of_abs (x := g (ix2 0 k)) (lt_of_le_of_lt b (opened d da w z g h).2.2.2)

/-- The derivative by the norm's result is real. -/
theorem out_real (s : Fin 8192) (k : Fin 1024) :
    ∃ x : ℝ, (alpha * (d (ix2 s k) : EReal) + ∑ j : Fin 704, (da (ix2 s j) : EReal) * (w (ix2 k j) : EReal)) = x := by
  obtain ⟨hd, ha, hw, -⟩ := opened d da w z g h
  obtain ⟨a, ea⟩ := alpha_real
  have bd := le_largest (fun k : Fin 8192 × Fin 1024 => (max (d (ix2 k.1 k.2)) (-d (ix2 k.1 k.2)) : EReal)) (s, k)
  obtain ⟨x, hx⟩ := real_of_abs (x := d (ix2 s k)) (lt_of_le_of_lt bd hd)
  obtain ⟨y, hy⟩ := real_sum Finset.univ (fun j : Fin 704 => (da (ix2 s j) : EReal) * (w (ix2 k j) : EReal)) fun j => by
    have b1 := le_largest (fun k : Fin 8192 × Fin 704 => (max (da (ix2 k.1 k.2)) (-da (ix2 k.1 k.2)) : EReal)) (s, j)
    have b2 := le_largest (fun k : Fin 1024 × Fin 704 => (max (w (ix2 k.1 k.2)) (-w (ix2 k.1 k.2)) : EReal)) (k, j)
    obtain ⟨p, hp⟩ := real_of_abs (x := da (ix2 s j)) (lt_of_le_of_lt b1 ha)
    obtain ⟨q, hq⟩ := real_of_abs (x := w (ix2 k j)) (lt_of_le_of_lt b2 hw)
    exact ⟨p * q, by rw [EReal.coe_mul, ← hp, ← hq]⟩
  exact ⟨a * x + y, by rw [EReal.coe_add, EReal.coe_mul, ← ea, ← hx, ← hy]⟩

end Cert.NormLatentFinite

end
-- ==== Proof.NormLatentSame.lean ====
/-
  THE LAYER NORM THAT FEEDS THE LATENT ATTENTION'S FIRST PRODUCT: the kernel's four derivatives are the reference's.
-/
module

public import proofs.«01_k».proof.Defs
public import proofs.«01_k».proof.Proof.Gen.NormLatent
public import proofs.«01_k».proof.Proof.Gen.NormLatent.Frame
public import proofs.«01_k».proof.Proof.Gen.NormLatentIdeal
public import proofs.«01_k».proof.Proof.Gen.NormLatentIdeal.Frame
public import proofs.«01_k».proof.Proof.Gen.NormLatentIdeal.Value
public import proofs.«01_k».proof.Proof.Gen.NormLatentReferenceIdeal
public import proofs.«01_k».proof.Proof.Gen.NormLatentReferenceIdeal.Run
public import proofs.«01_k».proof.Proof.Gen.NormLatentReferenceIdeal.Read
public import proofs.«01_k».proof.Proof.Gen.Pre_finite_latent
public import proofs.«01_k».proof.Proof.NormLatent
public import proofs.«01_k».proof.Proof.NormLatentReference
public import proofs.«01_k».proof.Proof.NormLatentFinite
public import Idealize.ShloMosaic.Lib.Claim
public import Idealize.ShloMosaic.Lib.Quiescent
public import Idealize.ShloMosaic.Adequacy
public import Idealize.ShloMosaic.Init

@[expose] public section

noncomputable section

namespace Cert.NormLatentSame

open Idealize.ShloMosaic Idealize.SL.Sem

/-- The layer norm's reference leaves its arguments as they were. -/
theorem norm_frame : Cert.quiescent_NormLatentReferenceIdeal := fun m ρ _ =>
  (θ_run Cert.NormLatentReferenceIdeal.defs _ _).mono
    (fun r h => ⟨fun c => (h c).2.2.2.2, Idealize.ShloMosaic.sem_eq_zero_of_no_sems (by decide) r.2⟩)
    (Cert.NormLatentReferenceIdeal.Value.run (F := Ideal) m ρ)

section Norm

open Cert.NormLatentIdeal.Rows

variable (m : (ℓ : Loc Cert.NormLatentIdeal.nD Cert.NormLatentIdeal.τ Cert.NormLatentIdeal.sig) → Buf (Elt Ideal) ℓ) (c : Dev Cert.NormLatentIdeal.nD)

/-- The two programs' derivatives by the norm's input, at an index. -/
theorem same_row (hpre : Cert.Pre_NormLatentIdeal_finite_latent m) (s : Fin 8192) (k : Fin 1024) :
    Cert.NormLatentReferenceIdeal.Read.val_main_v67 (F := Ideal) (D m c) (DA m c) (W m c) (Z m c) (G m c) (ix2 s k)
      = Cert.Norm.dnorm (zrow m c s) (dout m c s) (grow m c) k :=
  (Cert.NormLatentReferenceIdeal.Rows.row_at _ _ _ _ _ s k).trans
    (Cert.Norm.drule_eq_dnorm _ _ _ (fun j => Cert.NormLatentFinite.out_real (hpre c) s j) (fun j => Cert.NormLatentFinite.weight_real (hpre c) j) k)

theorem same_dz (hpre : Cert.Pre_NormLatentIdeal_finite_latent m) :
    Cert.NormLatentReferenceIdeal.Read.val_main_v67 (F := Ideal) (D m c) (DA m c) (W m c) (Z m c) (G m c) = dzArray m c := by
  funext y
  rw [eq_ix2 y]
  exact same_row m c hpre (y 0) (y 1)

theorem same_copy (hpre : Cert.Pre_NormLatentIdeal_finite_latent m) :
    Cert.NormLatentReferenceIdeal.Read.val_main_v68 (F := Ideal) (D m c) (DA m c) (W m c) (Z m c) (G m c) = dzCopy m c := by
  funext y
  rw [eq_ix2 y]
  exact same_row m c hpre (y 0) (y 1)

theorem row_index (y : Cert.NormLatentIdeal.S1x1024.Idx) : ∃ k : Fin 1024, y = ix2 0 k :=
  ⟨y 1, (eq_ix2 y).trans (congrArg (ix2 · (y 1)) (Subsingleton.elim (α := Fin 1) _ _))⟩

theorem same_dg : Cert.NormLatentReferenceIdeal.Read.val_main_v41 (F := Ideal) (D m c) (DA m c) (W m c) (Z m c) = dgArray m c := by
  funext y
  obtain ⟨k, rfl⟩ := row_index y
  exact Cert.NormLatentReferenceIdeal.Rows.weight_at _ _ _ _ k

theorem same_db : Cert.NormLatentReferenceIdeal.Read.val_main_v38 (F := Ideal) (D m c) (DA m c) (W m c) = dbArray m c := by
  funext y
  obtain ⟨k, rfl⟩ := row_index y
  exact Cert.NormLatentReferenceIdeal.Rows.bias_at _ _ _ k

end Norm

/-- Kernel and reference compute the same four derivatives of the layer norm. -/
theorem norm_same : Cert.algebraic_NormLatentIdeal_NormLatentReferenceIdeal_pre_finite_latent := by
  intro m g m' g' hpre hargs
  refine ⟨fun c => Cert.NormLatentIdeal.Rows.dzArray m c, fun c => Cert.NormLatentIdeal.Rows.dzCopy m c, fun c => Cert.NormLatentIdeal.Rows.dgArray m c,
    fun c => Cert.NormLatentIdeal.Rows.dbArray m c, ?_, ?_⟩
  · refine (θ_run Cert.NormLatentIdeal.defs _ _).mono (fun r h c => ?_) (Cert.NormLatentIdeal.Value.run_blocks m g)
    obtain ⟨h6, h7, h8, h9, ha⟩ := h c
    exact ⟨h6.trans (Cert.NormLatentIdeal.Rows.dz_end m c), h7.trans (Cert.NormLatentIdeal.Rows.copy_end m c), h8.trans (Cert.NormLatentIdeal.Rows.dg_end m c),
      h9.trans (Cert.NormLatentIdeal.Rows.db_end m c), ha⟩
  · refine (θ_run Cert.NormLatentReferenceIdeal.defs _ _).mono (fun r h c => ?_) (Cert.NormLatentReferenceIdeal.Value.run m' g')
    obtain ⟨h67, h68, h41, h38, ha⟩ := h c
    obtain ⟨e0, e1, e2, e3, e4⟩ := hargs c
    refine ⟨h67.trans ?_, h68.trans ?_, h41.trans ?_, h38.trans ?_, ha⟩
    · rw [Cert.NormLatentReferenceIdeal.Read.val_main_v67_eq, e0, e1, e2, e3, e4]
      exact same_dz m c hpre
    · rw [Cert.NormLatentReferenceIdeal.Read.val_main_v68_eq, e0, e1, e2, e3, e4]
      exact same_copy m c hpre
    · rw [Cert.NormLatentReferenceIdeal.Read.val_main_v41_eq, e0, e1, e2, e3]
      exact same_dg m c
    · rw [Cert.NormLatentReferenceIdeal.Read.val_main_v38_eq, e0, e1, e2]
      exact same_db m c

end Cert.NormLatentSame

end
-- ==== Proof.NormRecurrence.lean ====
/-
  THE DERIVATIVE BY THE LAYER NORM'S INPUT, the norm being the one that feeds the recurrence's first product: the kernel's four arrays. At a grid point the kernel holds 256 rows; of each it forms the derivative by the norm's result, the sum of a
  residual's and of a product's, takes it through the norm's row, and adds what the row gives to the derivatives by the norm's weight and bias.
-/
module

public import proofs.«01_k».proof.Proof.Gen.NormRecurrenceIdeal.Value
public import proofs.«01_k».proof.Proof.Norm
public import proofs.«01_k».proof.Proof.Table
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.StableHlo.ReadAt
public import Idealize.ShloMosaic.Lib.Claim
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.NormRecurrenceIdeal.Rows

open Cert.NormRecurrenceIdeal Cert.NormRecurrenceIdeal.Gen Cert.Norm Cert.Table Idealize.ShloMosaic Idealize.ShloMosaic.TcCoe Idealize.SL.Sem

/-! ### One block -/

section Block
variable (da : S256x2048.Idx → Elt Ideal .bf16) (w : S1024x2048.Idx → Elt Ideal .bf16) (d x : S256x1024.Idx → Elt Ideal .f32) (g a : S1x1024.Idx → Elt Ideal .f32)
  (s : S256x1.Idx → Elt Ideal .f32)

/-- The derivative by the norm's result. -/
theorem out_apply (r : Fin 256) (k : Fin 1024) :
    k0_pay5 da w d (ix2 r k) = alpha * d (ix2 r k) + ∑ j : Fin 2048, da (ix2 r j) * w (ix2 k j) := by
  unfold_payloads
  unfold alpha
  pointwise [dot_S256x2048_S1024x2048_S256x1024_1_1_0_0_n_n]

/-- The derivative by the norm's row. -/
theorem row_apply (r : Fin 256) (k : Fin 1024) :
    k0_pay7 da w d x g s (ix2 r k)
      = s (ix2 r 0) * (k0_pay5 da w d (ix2 r k) * g (ix2 0 k) - Ideal.div (∑ j : Fin 1024, k0_pay5 da w d (ix2 r j) * g (ix2 0 j)) width
          - x (ix2 r k) * Ideal.div (∑ j : Fin 1024, k0_pay5 da w d (ix2 r j) * g (ix2 0 j) * x (ix2 r j)) width) := by
  unfold k0_pay7 k0_pay6
  unfold width
  generalize k0_pay5 da w d = o
  pointwise

/-- What the block adds to the derivative by the weight. -/
theorem weight_apply (o : S256x1024.Idx → Elt Ideal .f32) (k : Fin 1024) :
    k0_pay3 o (k0_pay6 x) a (ix2 0 k) = a (ix2 0 k) + ∑ r : Fin 256, o (ix2 r k) * x (ix2 r k) := by
  unfold_payloads
  pointwise

/-- What the block adds to the derivative by the bias. -/
theorem bias_apply (o : S256x1024.Idx → Elt Ideal .f32) (k : Fin 1024) :
    k0_pay4 o a (ix2 0 k) = a (ix2 0 k) + ∑ r : Fin 256, o (ix2 r k) := by
  unfold_payloads
  pointwise

end Block

variable (m : (ℓ : Loc nD τ sig) → Buf (Elt Ideal) ℓ) (c : Dev nD)

/-- The residual's derivative. -/
abbrev D : S8192x1024.Idx → EReal := m ((c.tc : Thread nD τ).loc main_arg0)

/-- The derivative by the product. -/
abbrev DA : S8192x2048.Idx → EReal := m ((c.tc : Thread nD τ).loc main_arg1)

/-- The product's weight. -/
abbrev W : S1024x2048.Idx → EReal := m ((c.tc : Thread nD τ).loc main_arg2)

/-- The norm's input. -/
abbrev Z : S8192x1024.Idx → EReal := m ((c.tc : Thread nD τ).loc main_arg3)

/-- The norm's weight. -/
abbrev G : S1x1024.Idx → EReal := m ((c.tc : Thread nD τ).loc main_arg4)

/-- A row of the norm's input. -/
abbrev zrow (s : Fin 8192) (k : Fin 1024) : EReal := Z m c (ix2 s k)

theorem recip_at (s : Fin 8192) : V m c main_v13 (ix2 s 0) = recip (zrow m c s) := by
  unfold V recip spread centre width eps zrow
  after_reads_at

theorem unit_at (s : Fin 8192) (k : Fin 1024) : V m c main_v15 (ix2 s k) = unit (zrow m c s) k := by
  unfold V unit recip spread centre width eps zrow
  after_reads_at

/-- The derivative by the norm's result, at a row. -/
def dout (s : Fin 8192) (k : Fin 1024) : EReal := alpha * D m c (ix2 s k) + ∑ j : Fin 2048, DA m c (ix2 s j) * W m c (ix2 k j)

/-- The norm's weight, as a row. -/
abbrev grow (k : Fin 1024) : EReal := G m c (ix2 0 k)

/-! ### The block of a grid point -/

variable (t : Fin cfg0.N)

/-- The array's row that is row `r` of the block at hand. -/
def rowAt (r : Fin 256) : Fin 8192 := ⟨t.val * 256 + r.val, by have : t.val < 32 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = t.val ∧ win0_1.index t 1 = 0 :=
  (by decide +kernel : ∀ t : Fin grid0.N, win0_1.index t 0 = t.val ∧ win0_1.index t 1 = 0)

theorem place2 : ∀ t : Fin cfg0.N, win0_2.index t 0 = 0 ∧ win0_2.index t 1 = 0 :=
  (by decide +kernel : ∀ t : Fin grid0.N, win0_2.index t 0 = 0 ∧ win0_2.index t 1 = 0)

theorem place3 : ∀ t : Fin cfg0.N, win0_3.index t 0 = t.val ∧ win0_3.index t 1 = 0 :=
  (by decide +kernel : ∀ t : Fin grid0.N, win0_3.index t 0 = t.val ∧ win0_3.index t 1 = 0)

theorem place4 : ∀ t : Fin cfg0.N, win0_4.index t 0 = t.val ∧ win0_4.index t 1 = 0 :=
  (by decide +kernel : ∀ t : Fin grid0.N, win0_4.index t 0 = t.val ∧ win0_4.index t 1 = 0)

theorem place5 : ∀ t : Fin cfg0.N, win0_5.index t 0 = 0 ∧ win0_5.index t 1 = 0 :=
  (by decide +kernel : ∀ t : Fin grid0.N, win0_5.index t 0 = 0 ∧ win0_5.index t 1 = 0)

theorem place6 : ∀ t : Fin cfg0.N, win0_6.index t 0 = t.val ∧ win0_6.index t 1 = 0 :=
  (by decide +kernel : ∀ t : Fin grid0.N, win0_6.index t 0 = t.val ∧ win0_6.index t 1 = 0)

theorem place7 : ∀ t : Fin cfg0.N, win0_7.index t 0 = t.val ∧ win0_7.index t 1 = 0 :=
  (by decide +kernel : ∀ t : Fin grid0.N, win0_7.index t 0 = t.val ∧ win0_7.index t 1 = 0)

theorem iblk_d (r : Fin 256) (k : Fin 1024) : iblk m c 0 t (ix2 r k) = D m c (ix2 (rowAt t r) k) := by
  refine Eq.trans ?_ (congrFun (V_main_arg0 m c) (ix2 (rowAt t r) k))
  unfold iblk
  generalize V m c = v
  blk_ext [place0 t, rowAt]

theorem iblk_da (r : Fin 256) (j : Fin 2048) : iblk m c 1 t (ix2 r j) = DA m c (ix2 (rowAt t r) j) := by
  refine Eq.trans ?_ (congrFun (V_main_arg1 m c) (ix2 (rowAt t r) j))
  unfold iblk
  generalize V m c = v
  blk_ext [place1 t, rowAt]

theorem iblk_w (k : Fin 1024) (j : Fin 2048) : iblk m c 2 t (ix2 k j) = W m c (ix2 k j) := by
  refine Eq.trans ?_ (congrFun (V_main_arg2 m c) (ix2 k j))
  unfold iblk
  generalize V m c = v
  blk_ext [place2 t]

theorem iblk_unit (r : Fin 256) (k : Fin 1024) : iblk m c 3 t (ix2 r k) = unit (zrow m c (rowAt t r)) k := by
  refine Eq.trans ?_ (unit_at m c (rowAt t r) k)
  unfold iblk
  generalize V m c = v
  blk_ext [place3 t, rowAt]

theorem iblk_recip (r : Fin 256) : iblk m c 4 t (ix2 r 0) = recip (zrow m c (rowAt t r)) := by
  refine Eq.trans ?_ (recip_at m c (rowAt t r))
  unfold iblk
  generalize V m c = v
  blk_ext [place4 t, rowAt]

theorem iblk_g (k : Fin 1024) : iblk m c 5 t (ix2 0 k) = grow m c k := by
  refine Eq.trans ?_ (congrFun (V_main_arg4 m c) (ix2 0 k))
  unfold iblk
  generalize V m c = v
  blk_ext [place5 t]

theorem out_at (r : Fin 256) (k : Fin 1024) :
    k0_pay5 (F := Ideal) (iblk m c 1 t) (iblk m c 2 t) (iblk m c 0 t) (ix2 r k) = dout m c (rowAt t r) k :=
  (out_apply _ _ _ _ _).trans (congrArg₂ (· + ·) (congrArg (alpha * ·) (iblk_d m c t r k))
    (Finset.sum_congr rfl fun j _ => congrArg₂ (· * ·) (iblk_da m c t r j) (iblk_w m c t k j)))

/-! ### The derivative by the rows -/

/-- The first array: the derivative by the norm's input. -/
def dzArray : S8192x1024.Idx → Elt Ideal .f32 := fun y => dnorm (zrow m c (y 0)) (dout m c (y 0)) (grow m c) (y 1)

/-- The second array: the same, stored again. -/
def dzCopy : S8192x1024.Idx → Elt Ideal .bf16 := fun y => dnorm (zrow m c (y 0)) (dout m c (y 0)) (grow m c) (y 1)

/-- The third array: the derivative by the norm's weight. -/
def dgArray : S1x1024.Idx → Elt Ideal .f32 := fun y => (∑ s : Fin 8192, dout m c s (y 1) * unit (zrow m c s) (y 1) : EReal)

/-- The fourth array: the derivative by the norm's bias. -/
def dbArray : S1x1024.Idx → Elt Ideal .f32 := fun y => (∑ s : Fin 8192, dout m c s (y 1) : EReal)

theorem row_at (r : Fin 256) (k : Fin 1024) :
    k0_pay7 (F := Ideal) (iblk m c 1 t) (iblk m c 2 t) (iblk m c 0 t) (iblk m c 3 t) (iblk m c 5 t) (iblk m c 4 t) (ix2 r k)
      = dnorm (zrow m c (rowAt t r)) (dout m c (rowAt t r)) (grow m c) k := by
  have hx (j : Fin 1024) : k0_pay5 (F := Ideal) (iblk m c 1 t) (iblk m c 2 t) (iblk m c 0 t) (ix2 r j) * (iblk m c 5 t : S1x1024.Idx → EReal) (ix2 0 j)
      = dout m c (rowAt t r) j * grow m c j := congrArg₂ (· * ·) (out_at m c t r j) (iblk_g m c t j)
  refine (row_apply _ _ _ _ _ _ _ _).trans ?_
  exact congrArg₂ (· * ·) (iblk_recip m c t r) (congrArg₂ (· - ·)
    (congrArg₂ (· - ·) (hx k) (congrArg (Ideal.div · width) (Finset.sum_congr rfl fun j _ => hx j)))
    (congrArg₂ (· * ·) (iblk_unit m c t r k)
      (congrArg (Ideal.div · width) (Finset.sum_congr rfl fun j _ => congrArg₂ (· * ·) (hx j) (iblk_unit m c t r j)))))

theorem row_sent (y : S256x1024.Idx) : (outsAt0 m c t.val t.isLt).1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
  · rw [outsAt0_B m c t h]
    frame_out

theorem copy_sent (y : S256x1024.Idx) : (outsAt0 m c t.val t.isLt).2.1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
    rfl
  · rw [outsAt0_B m c t h]
    frame_out
    rfl

theorem dz_end : (dats m 0 c).arrAt 6 cfg0.N = dzArray m c := by
  refine (dats m 0 c).arrAt_eq_of_covers 6 _ (by decide +kernel) fun t hf y => ?_
  blk_simp
  rw [after0_6]
  refine (row_sent m c t y).trans ?_
  have e : (win0_6.blk t).view.emb y = ix2 (rowAt t (y 0)) (y 1) := by
    blk_ext [place6 t, rowAt]
  rw [e]
  rfl

theorem copy_end : (dats m 0 c).arrAt 7 cfg0.N = dzCopy m c := by
  refine (dats m 0 c).arrAt_eq_of_covers 7 _ (by decide +kernel) fun t hf y => ?_
  blk_simp
  rw [after0_7]
  refine (copy_sent m c t y).trans ?_
  have e : (win0_7.blk t).view.emb y = ix2 (rowAt t (y 0)) (y 1) := by
    blk_ext [place7 t, rowAt]
  rw [e]
  rfl

/-! ### The sums over the rows -/

/-- What a point adds to the derivative by the weight. -/
def weightTerm (y : S1x1024.Idx) : EReal := ∑ r : Fin 256, dout m c (rowAt t r) (y 1) * unit (zrow m c (rowAt t r)) (y 1)

/-- What a point adds to the derivative by the bias. -/
def biasTerm (y : S1x1024.Idx) : EReal := ∑ r : Fin 256, dout m c (rowAt t r) (y 1)

theorem weight_at (a : S1x1024.Idx → Elt Ideal .f32) (y : S1x1024.Idx) :
    k0_pay3 (F := Ideal) (k0_pay5 (iblk m c 1 t) (iblk m c 2 t) (iblk m c 0 t)) (k0_pay6 (iblk m c 3 t)) a y = a y + weightTerm m c t y := by
  obtain ⟨k, rfl⟩ : ∃ k : Fin 1024, y = ix2 0 k := ⟨y 1, (eq_ix2 y).trans (congrArg (ix2 · (y 1)) (Subsingleton.elim (α := Fin 1) _ _))⟩
  exact (weight_apply _ _ _ _).trans (congrArg (a _ + ·) (Finset.sum_congr rfl fun r _ => congrArg₂ (· * ·) (out_at m c t r _) (iblk_unit m c t r _)))

theorem bias_at (a : S1x1024.Idx → Elt Ideal .f32) (y : S1x1024.Idx) :
    k0_pay4 (F := Ideal) (k0_pay5 (iblk m c 1 t) (iblk m c 2 t) (iblk m c 0 t)) a y = a y + biasTerm m c t y := by
  obtain ⟨k, rfl⟩ : ∃ k : Fin 1024, y = ix2 0 k := ⟨y 1, (eq_ix2 y).trans (congrArg (ix2 · (y 1)) (Subsingleton.elim (α := Fin 1) _ _))⟩
  exact (bias_apply _ _ _).trans (congrArg (a _ + ·) (Finset.sum_congr rfl fun r _ => out_at m c t r _))

theorem zero1 (y : S1x1024.Idx) : (k0_pay1 (F := Ideal) y : EReal) = 0 := by
  unfold_payloads
  pointwise

theorem zero2 (y : S1x1024.Idx) : (k0_pay2 (F := Ideal) y : EReal) = 0 := by
  unfold_payloads
  pointwise

theorem weight_first (h : t.val % 32 = 0) (y : S1x1024.Idx) : (outsAt0 m c t.val t.isLt).2.2.1 y = (0 : EReal) + weightTerm m c t y := by
  rw [outsAt0_A m c t h]
  frame_out
  exact (weight_at m c t _ y).trans (congrArg (· + weightTerm m c t y) (zero1 y))

theorem bias_first (h : t.val % 32 = 0) (y : S1x1024.Idx) : (outsAt0 m c t.val t.isLt).2.2.2 y = (0 : EReal) + biasTerm m c t y := by
  rw [outsAt0_A m c t h]
  frame_out
  exact (bias_at m c t _ y).trans (congrArg (· + biasTerm m c t y) (zero2 y))

theorem weight_next (h : ¬t.val % 32 = 0) (y : S1x1024.Idx) :
    (outsAt0 m c t.val t.isLt).2.2.1 y = (outsAt0 m c (t.val - 1) (Nat.lt_of_le_of_lt (Nat.sub_le _ _) t.isLt)).2.2.1 y + weightTerm m c t y := by
  rw [outsAt0_B m c t h]
  frame_out
  exact weight_at m c t _ y

theorem bias_next (h : ¬t.val % 32 = 0) (y : S1x1024.Idx) :
    (outsAt0 m c t.val t.isLt).2.2.2 y = (outsAt0 m c (t.val - 1) (Nat.lt_of_le_of_lt (Nat.sub_le _ _) t.isLt)).2.2.2 y + biasTerm m c t y := by
  rw [outsAt0_B m c t h]
  frame_out
  exact bias_at m c t _ y

theorem weight_last (h : 31 < cfg0.N) (y : S1x1024.Idx) : (outsAt0 m c 31 h).2.2.1 y = ∑ s : Fin 8192, dout m c s (y 1) * unit (zrow m c s) (y 1) := by
  rw [Pipeline.eq_sum_fin_of_reset_step_apply_last (M := EReal) (fun n hn y => (outsAt0 m c n hn).2.2.1 y) 32 (fun _ => 0) (weightTerm m c)
    (fun t h0 y => weight_first m c t h0 y) (fun t h0 y => weight_next m c t h0 y) (by decide) ⟨31, h⟩ rfl y, zero_add]
  exact Fin.sum_mul_add_fin 32 256 (fun s => dout m c s (y 1) * unit (zrow m c s) (y 1)) rfl

theorem bias_last (h : 31 < cfg0.N) (y : S1x1024.Idx) : (outsAt0 m c 31 h).2.2.2 y = ∑ s : Fin 8192, dout m c s (y 1) := by
  rw [Pipeline.eq_sum_fin_of_reset_step_apply_last (M := EReal) (fun n hn y => (outsAt0 m c n hn).2.2.2 y) 32 (fun _ => 0) (biasTerm m c)
    (fun t h0 y => bias_first m c t h0 y) (fun t h0 y => bias_next m c t h0 y) (by decide) ⟨31, h⟩ rfl y, zero_add]
  exact Fin.sum_mul_add_fin 32 256 (fun s => dout m c s (y 1)) rfl

/-- The point after which the two sums go out. -/
def lastPoint : Fin cfg0.N := ⟨31, by decide⟩

theorem dg_end : (dats m 0 c).arrAt 8 cfg0.N = dgArray m c := by
  refine (dats m 0 c).arrAt_eq_of_after_last 8 lastPoint (by decide +kernel) _ fun j => ?_
  blk_simp
  rw [after0_8]
  exact weight_last m c _ j

theorem db_end : (dats m 0 c).arrAt 9 cfg0.N = dbArray m c := by
  refine (dats m 0 c).arrAt_eq_of_after_last 9 lastPoint (by decide +kernel) _ fun j => ?_
  blk_simp
  rw [after0_9]
  exact bias_last m c _ j

end Cert.NormRecurrenceIdeal.Rows

end
-- ==== Proof.NormRecurrenceReference.lean ====
/-
  WHAT THE REFERENCE OF THE LAYER NORM'S BACKWARD PASS HOLDS, where the norm feeds the recurrence's first product: the derivative by the norm's row, rule by rule, and the sums over the rows.
-/
module

public import proofs.«01_k».proof.Proof.Gen.NormRecurrenceReferenceIdeal.Read
public import proofs.«01_k».proof.Proof.Norm
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.NormRecurrenceReferenceIdeal.Rows

open Cert.NormRecurrenceReferenceIdeal Cert.NormRecurrenceReferenceIdeal.Gen Cert.NormRecurrenceReferenceIdeal.Read Cert.Norm Idealize.ShloMosaic

variable (d : S8192x1024.Idx → EReal) (da : S8192x2048.Idx → EReal) (w : S1024x2048.Idx → EReal) (z : S8192x1024.Idx → EReal) (g : S1x1024.Idx → EReal)

/-- The derivative by the norm's result, at a row. -/
def dout (s : Fin 8192) (k : Fin 1024) : EReal := alpha * d (ix2 s k) + ∑ j : Fin 2048, da (ix2 s j) * w (ix2 k j)

theorem mean_at (s : Fin 8192) : val_main_v4 (F := Ideal) z (ix2 s 0) = Ideal.div (∑ k, z (ix2 s k)) width := by
  unfold width
  pointwise [val_main_v4, val_main_v3, val_main_v2, val_main_v1, val_main_cst_0, val_main_cst_1]

theorem centre_at (s : Fin 8192) (k : Fin 1024) : val_main_v6 (F := Ideal) z (ix2 s k) = centre (fun k => z (ix2 s k)) k := by
  rw [val_main_v6_apply, val_main_v5_apply]
  exact congrArg (z (ix2 s k) - ·) ((congrArg (val_main_v4 (F := Ideal) z) (eq_ix2 _)).trans (mean_at z s))

theorem centre_at' (s : Fin 8192) (k : Fin 1024) : val_main_v15 (F := Ideal) z (ix2 s k) = centre (fun k => z (ix2 s k)) k := by
  rw [val_main_v15_apply, val_main_v14_apply]
  exact congrArg (z (ix2 s k) - ·) ((congrArg (val_main_v4 (F := Ideal) z) (eq_ix2 _)).trans (mean_at z s))

theorem spread_at (s : Fin 8192) : val_main_v17 (F := Ideal) z (ix2 s 0) = spread (fun k => z (ix2 s k)) := by
  unfold spread width eps
  simp only [← centre_at]
  pointwise [val_main_v17, val_main_v16, val_main_v13, val_main_v12, val_main_v11, val_main_v10, val_main_v7, val_main_cst_3, val_main_cst_4, val_main_cst_5]

theorem recip_at (s : Fin 8192) : val_main_v18 (F := Ideal) z (ix2 s 0) = recip (fun k => z (ix2 s k)) := by
  unfold recip
  rw [← spread_at]
  pointwise [val_main_v18]

theorem out_at (s : Fin 8192) (k : Fin 1024) : val_main_v36 (F := Ideal) d da w (ix2 s k) = dout d da w s k := by
  unfold dout alpha
  refine Eq.trans ?_ (add_comm (G := EReal) _ _)
  rw [val_main_v36_apply, val_main_v33_apply]
  pointwise [val_main_v35, val_main_v34, val_main_cst_8, val_main_v32, val_main_v30]
  have el (j : Fin 2048) : lidx_main_v33 (ix2 s k) j = ix2 s j := eq_ix2 _
  have er (j : Fin 2048) : ridx_main_v33 (ix2 s k) j = ix2 k j := eq_ix2 _
  simp only [el, er]

theorem weighted_at (s : Fin 8192) (k : Fin 1024) : val_main_v43 (F := Ideal) d da w g (ix2 s k) = dout d da w s k * g (ix2 0 k) := by
  rw [val_main_v43_apply, val_main_v42_apply]
  exact congrArg₂ (· * ·) (out_at d da w s k) (congrArg g (eq_ix2 _))

theorem direct_at (s : Fin 8192) (k : Fin 1024) :
    val_main_v48 (F := Ideal) d da w z g (ix2 s k) = dout d da w s k * g (ix2 0 k) * recip fun k => z (ix2 s k) := by
  rw [val_main_v48_apply, val_main_v47_apply]
  exact congrArg₂ (· * ·) (weighted_at d da w g s k) ((congrArg (val_main_v18 (F := Ideal) z) (eq_ix2 _)).trans (recip_at z s))

theorem product_at (s : Fin 8192) :
    val_main_v46 (F := Ideal) d da w z g (ix2 s 0) = ∑ k, centre (fun k => z (ix2 s k)) k * (dout d da w s k * g (ix2 0 k)) := by
  simp only [← centre_at', ← weighted_at]
  pointwise [val_main_v46, val_main_v45, val_main_v44, val_main_cst_11]

theorem slope_at (s : Fin 8192) :
    val_main_v21 (F := Ideal) z (ix2 s 0) = mhalf * Ideal.div (recip fun k => z (ix2 s k)) (spread fun k => z (ix2 s k)) := by
  unfold mhalf
  rw [← recip_at, ← spread_at]
  pointwise [val_main_v21, val_main_v20, val_main_v19, val_main_cst_6]

theorem share_at (s : Fin 8192) :
    val_main_v54 (F := Ideal) d da w z g (ix2 s 0)
      = Ideal.div ((∑ k, centre (fun k => z (ix2 s k)) k * (dout d da w s k * g (ix2 0 k)))
          * (mhalf * Ideal.div (recip fun k => z (ix2 s k)) (spread fun k => z (ix2 s k)))) width := by
  rw [← product_at, ← slope_at]
  unfold width
  pointwise [val_main_v54, val_main_v53, val_main_v49, val_main_cst_13]

theorem variance_at (s : Fin 8192) (k : Fin 1024) :
    val_main_v57 (F := Ideal) d da w z g (ix2 s k) = byVariance (fun k => z (ix2 s k)) (dout d da w s) (fun k => g (ix2 0 k)) k := by
  unfold byVariance
  rw [← share_at, ← centre_at]
  unfold two
  pointwise [val_main_v57, val_main_v56, val_main_v55, val_main_v9, val_main_v8, val_main_cst_14, val_main_cst_2]
  rw [Fin.sum_univ_one]

theorem mean_direct_at (s : Fin 8192) :
    val_main_v52 (F := Ideal) d da w z g (ix2 s 0) = ∑ k, -(dout d da w s k * g (ix2 0 k) * recip fun k => z (ix2 s k)) := by
  simp only [← direct_at]
  pointwise [val_main_v52, val_main_v51, val_main_v50, val_main_cst_12]

theorem mean_variance_at (s : Fin 8192) :
    val_main_v60 (F := Ideal) d da w z g (ix2 s 0) = ∑ k, -byVariance (fun k => z (ix2 s k)) (dout d da w s) (fun k => g (ix2 0 k)) k := by
  simp only [← variance_at]
  pointwise [val_main_v60, val_main_v59, val_main_v58, val_main_cst_15]

/-- The derivative by the norm's input. -/
theorem row_at (s : Fin 8192) (k : Fin 1024) :
    val_main_v67 (F := Ideal) d da w z g (ix2 s k) = drule (fun k => z (ix2 s k)) (dout d da w s) (fun k => g (ix2 0 k)) k := by
  unfold drule
  rw [← direct_at, ← variance_at, ← mean_direct_at, ← mean_variance_at]
  unfold width
  pointwise [val_main_v67, val_main_v66, val_main_v65, val_main_v64, val_main_v63, val_main_v62, val_main_v61, val_main_cst_16, val_main_cst_17]
  rw [Fin.sum_univ_one]

/-- The derivative by the norm's weight. -/
theorem weight_at (k : Fin 1024) :
    val_main_v41 (F := Ideal) d da w z (ix2 0 k) = ∑ s, dout d da w s k * unit (fun k => z (ix2 s k)) k := by
  have e (s : Fin 8192) : val_main_v39 (F := Ideal) d da w z (ix2 s k) = dout d da w s k * unit (fun k => z (ix2 s k)) k := by
    rw [val_main_v39_apply, val_main_v23_apply, val_main_v22_apply]
    refine (mul_comm (G := EReal) _ _).trans (congrArg₂ (· * ·) (out_at d da w s k) (congrArg₂ (· * ·) (centre_at' z s k) ?_))
    exact (congrArg (val_main_v18 (F := Ideal) z) (eq_ix2 _)).trans (recip_at z s)
  simp only [← e]
  pointwise [val_main_v41, val_main_v40, val_main_cst_10]

/-- The derivative by the norm's bias. -/
theorem bias_at (k : Fin 1024) : val_main_v38 (F := Ideal) d da w (ix2 0 k) = ∑ s, dout d da w s k := by
  simp only [← out_at]
  pointwise [val_main_v38, val_main_v37, val_main_cst_9]

end Cert.NormRecurrenceReferenceIdeal.Rows

end
-- ==== Proof.NormRecurrenceFinite.lean ====
/-
  THE PRECONDITION OF THE LAYER NORM'S BACKWARD PASS, OPENED, where the norm feeds the recurrence's first product: every entry of the two derivatives that come in and of the two weights is a real number, and so is the derivative by
  the norm's result.
-/
module

public import proofs.«01_k».proof.Proof.Finite
public import proofs.«01_k».proof.Proof.Norm
public import proofs.«01_k».proof.Proof.Gen.Pre_finite_recurrence
public import Idealize.ShloMosaic.Lib.Pointwise.Tactic
public import Idealize.ShloMosaic.Lib.Pointwise.Reduce

@[expose] public section

noncomputable section

namespace Cert.NormRecurrenceFinite

open Cert.Pre_finite_recurrence Cert.Pre_finite_recurrence.Gen Idealize.ShloMosaic Cert.Attend Cert.Norm Cert.Finite

theorem table_d (y : FVec Ideal S8192x1024 .f32) (i : S_.Idx) :
    (Host.reduce FloatOps.maximumf y (constant (F := Ideal) S_ .f32 0xFF800000#32) reducesTo_S8192x1024_S_d0_1 h_S_ : FVec Ideal S_ .f32) i
      = largest fun k : Fin 8192 × Fin 1024 => y (ix2 k.1 k.2) := by
  unfold largest
  pointwise [word_bot]

theorem table_da (y : FVec Ideal S8192x2048 .f32) (i : S_.Idx) :
    (Host.reduce FloatOps.maximumf y (constant (F := Ideal) S_ .f32 0xFF800000#32) reducesTo_S8192x2048_S_d0_1 h_S_ : FVec Ideal S_ .f32) i
      = largest fun k : Fin 8192 × Fin 2048 => y (ix2 k.1 k.2) := by
  unfold largest
  pointwise [word_bot]

theorem table_w (y : FVec Ideal S1024x2048 .f32) (i : S_.Idx) :
    (Host.reduce FloatOps.maximumf y (constant (F := Ideal) S_ .f32 0xFF800000#32) reducesTo_S1024x2048_S_d0_1 h_S_ : FVec Ideal S_ .f32) i
      = largest fun k : Fin 1024 × Fin 2048 => y (ix2 k.1 k.2) := by
  unfold largest
  pointwise [word_bot]

theorem table_g (y : FVec Ideal S1x1024 .f32) (i : S_.Idx) :
    (Host.reduce FloatOps.maximumf y (constant (F := Ideal) S_ .f32 0xFF800000#32) reducesTo_S1x1024_S_d0_1 h_S_ : FVec Ideal S_ .f32) i
      = largest fun k : Fin 1 × Fin 1024 => y (ix2 k.1 k.2) := by
  unfold largest
  pointwise [word_bot]

/-- A conjunction of two bits. -/
theorem split (x y : IVec S_ 1) (h : andi x y = fun _ => 1#1) : (x = fun _ => 1#1) ∧ y = fun _ => 1#1 := by
  have e (i : S_.Idx) : IntOp.andi (x i) (y i) = 1#1 := congrFun h i
  refine ⟨funext fun i => ?_, funext fun i => ?_⟩ <;> have := e i <;> revert this <;> unfold IntOp.andi <;> generalize x i = a <;> generalize y i = b <;> revert a b <;> decide

/-- The comparison of a table of one entry with `+∞`. -/
theorem below (x : FVec Ideal S_ .f32) (h : cmpf .olt x (constant (F := Ideal) S_ .f32 0x7F800000#32) = fun _ => 1#1) (i : S_.Idx) : (x i : EReal) < ⊤ := by
  have z : (constant (F := Ideal) S_ .f32 0x7F800000#32 i : EReal) = ⊤ := word_top
  have e : Ideal.cmp .olt (x i) (constant (F := Ideal) S_ .f32 0x7F800000#32 i) = 1#1 := congrFun h i
  rw [z] at e
  by_cases hx : (x i : EReal) < ⊤
  · exact hx
  · simp_all [Ideal.cmp]

theorem magnitude (y : FVec Ideal S8192x1024 .f32) (k : S8192x1024.Idx) : (Host.absf y k : EReal) = max (y k) (-y k) := by
  pointwise
  rfl

theorem magnitude_g (y : FVec Ideal S1x1024 .f32) (k : S1x1024.Idx) : (Host.absf y k : EReal) = max (y k) (-y k) := by
  pointwise
  rfl

theorem magnitude_da (y : FVec Ideal S8192x2048 .bf16) (k : S8192x2048.Idx) : (Host.absf (extf (F := Ideal) .f32 y bitsLt_bf16_f32) k : EReal) = max (y k) (-y k) := by
  pointwise
  rfl

theorem magnitude_w (y : FVec Ideal S1024x2048 .bf16) (k : S1024x2048.Idx) : (Host.absf (extf (F := Ideal) .f32 y bitsLt_bf16_f32) k : EReal) = max (y k) (-y k) := by
  pointwise
  rfl

variable (d : FVec Ideal S8192x1024 .f32) (da : FVec Ideal S8192x2048 .bf16) (w : FVec Ideal S1024x2048 .bf16) (z : FVec Ideal S8192x1024 .f32) (g : FVec Ideal S1x1024 .f32)

/-- The precondition as four comparisons. -/
theorem opened (h : fn (F := Ideal) d da w z g = fun _ => 1#1) :
    (largest fun k : Fin 8192 × Fin 1024 => (max (d (ix2 k.1 k.2)) (-d (ix2 k.1 k.2)) : EReal)) < ⊤
      ∧ (largest fun k : Fin 8192 × Fin 2048 => (max (da (ix2 k.1 k.2)) (-da (ix2 k.1 k.2)) : EReal)) < ⊤
      ∧ (largest fun k : Fin 1024 × Fin 2048 => (max (w (ix2 k.1 k.2)) (-w (ix2 k.1 k.2)) : EReal)) < ⊤
      ∧ (largest fun k : Fin 1 × Fin 1024 => (max (g (ix2 k.1 k.2)) (-g (ix2 k.1 k.2)) : EReal)) < ⊤ := by
  unfold fn at h
  obtain ⟨h, hg⟩ := split _ _ h
  obtain ⟨h, hw⟩ := split _ _ h
  obtain ⟨hd, ha⟩ := split _ _ h
  have kd := lt_of_eq_of_lt (table_d _ _).symm (below _ hd fun a => a.elim0)
  have ka := lt_of_eq_of_lt (table_da _ _).symm (below _ ha fun a => a.elim0)
  have kw := lt_of_eq_of_lt (table_w _ _).symm (below _ hw fun a => a.elim0)
  have kg := lt_of_eq_of_lt (table_g _ _).symm (below _ hg fun a => a.elim0)
  exact ⟨lt_of_eq_of_lt (congrArg largest (funext fun k => (magnitude d (ix2 k.1 k.2)).symm)) kd,
    lt_of_eq_of_lt (congrArg largest (funext fun k => (magnitude_da da (ix2 k.1 k.2)).symm)) ka,
    lt_of_eq_of_lt (congrArg largest (funext fun k => (magnitude_w w (ix2 k.1 k.2)).symm)) kw,
    lt_of_eq_of_lt (congrArg largest (funext fun k => (magnitude_g g (ix2 k.1 k.2)).symm)) kg⟩

variable {d da w z g} (h : fn (F := Ideal) d da w z g = fun _ => 1#1)
include h

/-- Every entry of the norm's weight is real. -/
theorem weight_real (k : Fin 1024) : ∃ x : ℝ, (g (ix2 0 k) : EReal) = x := by
  have b := le_largest (fun k : Fin 1 × Fin 1024 => (max (g (ix2 k.1 k.2)) (-g (ix2 k.1 k.2)) : EReal)) (0, k)
  exact real_of_abs (x := g (ix2 0 k)) (lt_of_le_of_lt b (opened d da w z g h).2.2.2)

/-- The derivative by the norm's result is real. -/
theorem out_real (s : Fin 8192) (k : Fin 1024) :
    ∃ x : ℝ, (alpha * (d (ix2 s k) : EReal) + ∑ j : Fin 2048, (da (ix2 s j) : EReal) * (w (ix2 k j) : EReal)) = x := by
  obtain ⟨hd, ha, hw, -⟩ := opened d da w z g h
  obtain ⟨a, ea⟩ := alpha_real
  have bd := le_largest (fun k : Fin 8192 × Fin 1024 => (max (d (ix2 k.1 k.2)) (-d (ix2 k.1 k.2)) : EReal)) (s, k)
  obtain ⟨x, hx⟩ := real_of_abs (x := d (ix2 s k)) (lt_of_le_of_lt bd hd)
  obtain ⟨y, hy⟩ := real_sum Finset.univ (fun j : Fin 2048 => (da (ix2 s j) : EReal) * (w (ix2 k j) : EReal)) fun j => by
    have b1 := le_largest (fun k : Fin 8192 × Fin 2048 => (max (da (ix2 k.1 k.2)) (-da (ix2 k.1 k.2)) : EReal)) (s, j)
    have b2 := le_largest (fun k : Fin 1024 × Fin 2048 => (max (w (ix2 k.1 k.2)) (-w (ix2 k.1 k.2)) : EReal)) (k, j)
    obtain ⟨p, hp⟩ := real_of_abs (x := da (ix2 s j)) (lt_of_le_of_lt b1 ha)
    obtain ⟨q, hq⟩ := real_of_abs (x := w (ix2 k j)) (lt_of_le_of_lt b2 hw)
    exact ⟨p * q, by rw [EReal.coe_mul, ← hp, ← hq]⟩
  exact ⟨a * x + y, by rw [EReal.coe_add, EReal.coe_mul, ← ea, ← hx, ← hy]⟩

end Cert.NormRecurrenceFinite

end
-- ==== Proof.NormRecurrenceSame.lean ====
/-
  THE LAYER NORM THAT FEEDS THE RECURRENCE'S FIRST PRODUCT: the kernel's four derivatives are the reference's.
-/
module

public import proofs.«01_k».proof.Defs
public import proofs.«01_k».proof.Proof.Gen.NormRecurrence
public import proofs.«01_k».proof.Proof.Gen.NormRecurrence.Frame
public import proofs.«01_k».proof.Proof.Gen.NormRecurrenceIdeal
public import proofs.«01_k».proof.Proof.Gen.NormRecurrenceIdeal.Frame
public import proofs.«01_k».proof.Proof.Gen.NormRecurrenceIdeal.Value
public import proofs.«01_k».proof.Proof.Gen.NormRecurrenceReferenceIdeal
public import proofs.«01_k».proof.Proof.Gen.NormRecurrenceReferenceIdeal.Run
public import proofs.«01_k».proof.Proof.Gen.NormRecurrenceReferenceIdeal.Read
public import proofs.«01_k».proof.Proof.Gen.Pre_finite_recurrence
public import proofs.«01_k».proof.Proof.NormRecurrence
public import proofs.«01_k».proof.Proof.NormRecurrenceReference
public import proofs.«01_k».proof.Proof.NormRecurrenceFinite
public import Idealize.ShloMosaic.Lib.Claim
public import Idealize.ShloMosaic.Lib.Quiescent
public import Idealize.ShloMosaic.Adequacy
public import Idealize.ShloMosaic.Init

@[expose] public section

noncomputable section

namespace Cert.NormRecurrenceSame

open Idealize.ShloMosaic Idealize.SL.Sem

/-- The layer norm's reference leaves its arguments as they were. -/
theorem norm_frame : Cert.quiescent_NormRecurrenceReferenceIdeal := fun m ρ _ =>
  (θ_run Cert.NormRecurrenceReferenceIdeal.defs _ _).mono
    (fun r h => ⟨fun c => (h c).2.2.2.2, Idealize.ShloMosaic.sem_eq_zero_of_no_sems (by decide) r.2⟩)
    (Cert.NormRecurrenceReferenceIdeal.Value.run (F := Ideal) m ρ)

section Norm

open Cert.NormRecurrenceIdeal.Rows

variable (m : (ℓ : Loc Cert.NormRecurrenceIdeal.nD Cert.NormRecurrenceIdeal.τ Cert.NormRecurrenceIdeal.sig) → Buf (Elt Ideal) ℓ) (c : Dev Cert.NormRecurrenceIdeal.nD)

/-- The two programs' derivatives by the norm's input, at an index. -/
theorem same_row (hpre : Cert.Pre_NormRecurrenceIdeal_finite_recurrence m) (s : Fin 8192) (k : Fin 1024) :
    Cert.NormRecurrenceReferenceIdeal.Read.val_main_v67 (F := Ideal) (D m c) (DA m c) (W m c) (Z m c) (G m c) (ix2 s k)
      = Cert.Norm.dnorm (zrow m c s) (dout m c s) (grow m c) k :=
  (Cert.NormRecurrenceReferenceIdeal.Rows.row_at _ _ _ _ _ s k).trans
    (Cert.Norm.drule_eq_dnorm _ _ _ (fun j => Cert.NormRecurrenceFinite.out_real (hpre c) s j) (fun j => Cert.NormRecurrenceFinite.weight_real (hpre c) j) k)

theorem same_dz (hpre : Cert.Pre_NormRecurrenceIdeal_finite_recurrence m) :
    Cert.NormRecurrenceReferenceIdeal.Read.val_main_v67 (F := Ideal) (D m c) (DA m c) (W m c) (Z m c) (G m c) = dzArray m c := by
  funext y
  rw [eq_ix2 y]
  exact same_row m c hpre (y 0) (y 1)

theorem same_copy (hpre : Cert.Pre_NormRecurrenceIdeal_finite_recurrence m) :
    Cert.NormRecurrenceReferenceIdeal.Read.val_main_v68 (F := Ideal) (D m c) (DA m c) (W m c) (Z m c) (G m c) = dzCopy m c := by
  funext y
  rw [eq_ix2 y]
  exact same_row m c hpre (y 0) (y 1)

theorem row_index (y : Cert.NormRecurrenceIdeal.S1x1024.Idx) : ∃ k : Fin 1024, y = ix2 0 k :=
  ⟨y 1, (eq_ix2 y).trans (congrArg (ix2 · (y 1)) (Subsingleton.elim (α := Fin 1) _ _))⟩

theorem same_dg : Cert.NormRecurrenceReferenceIdeal.Read.val_main_v41 (F := Ideal) (D m c) (DA m c) (W m c) (Z m c) = dgArray m c := by
  funext y
  obtain ⟨k, rfl⟩ := row_index y
  exact Cert.NormRecurrenceReferenceIdeal.Rows.weight_at _ _ _ _ k

theorem same_db : Cert.NormRecurrenceReferenceIdeal.Read.val_main_v38 (F := Ideal) (D m c) (DA m c) (W m c) = dbArray m c := by
  funext y
  obtain ⟨k, rfl⟩ := row_index y
  exact Cert.NormRecurrenceReferenceIdeal.Rows.bias_at _ _ _ k

end Norm

/-- Kernel and reference compute the same four derivatives of the layer norm. -/
theorem norm_same : Cert.algebraic_NormRecurrenceIdeal_NormRecurrenceReferenceIdeal_pre_finite_recurrence := by
  intro m g m' g' hpre hargs
  refine ⟨fun c => Cert.NormRecurrenceIdeal.Rows.dzArray m c, fun c => Cert.NormRecurrenceIdeal.Rows.dzCopy m c, fun c => Cert.NormRecurrenceIdeal.Rows.dgArray m c,
    fun c => Cert.NormRecurrenceIdeal.Rows.dbArray m c, ?_, ?_⟩
  · refine (θ_run Cert.NormRecurrenceIdeal.defs _ _).mono (fun r h c => ?_) (Cert.NormRecurrenceIdeal.Value.run_blocks m g)
    obtain ⟨h6, h7, h8, h9, ha⟩ := h c
    exact ⟨h6.trans (Cert.NormRecurrenceIdeal.Rows.dz_end m c), h7.trans (Cert.NormRecurrenceIdeal.Rows.copy_end m c), h8.trans (Cert.NormRecurrenceIdeal.Rows.dg_end m c),
      h9.trans (Cert.NormRecurrenceIdeal.Rows.db_end m c), ha⟩
  · refine (θ_run Cert.NormRecurrenceReferenceIdeal.defs _ _).mono (fun r h c => ?_) (Cert.NormRecurrenceReferenceIdeal.Value.run m' g')
    obtain ⟨h67, h68, h41, h38, ha⟩ := h c
    obtain ⟨e0, e1, e2, e3, e4⟩ := hargs c
    refine ⟨h67.trans ?_, h68.trans ?_, h41.trans ?_, h38.trans ?_, ha⟩
    · rw [Cert.NormRecurrenceReferenceIdeal.Read.val_main_v67_eq, e0, e1, e2, e3, e4]
      exact same_dz m c hpre
    · rw [Cert.NormRecurrenceReferenceIdeal.Read.val_main_v68_eq, e0, e1, e2, e3, e4]
      exact same_copy m c hpre
    · rw [Cert.NormRecurrenceReferenceIdeal.Read.val_main_v41_eq, e0, e1, e2, e3]
      exact same_dg m c
    · rw [Cert.NormRecurrenceReferenceIdeal.Read.val_main_v38_eq, e0, e1, e2]
      exact same_db m c

end Cert.NormRecurrenceSame

end
-- ==== Proof.NormQuery.lean ====
/-
  THE DERIVATIVE BY THE LAYER NORM'S INPUT, the norm being the one that feeds the cross-attention's queries: the kernel's four arrays. At a grid point the kernel holds 256 rows; of each it forms the derivative by the norm's result, the sum of a
  residual's and of a product's, takes it through the norm's row, and adds what the row gives to the derivatives by the norm's weight and bias.
-/
module

public import proofs.«01_k».proof.Proof.Gen.NormQueryIdeal.Value
public import proofs.«01_k».proof.Proof.Norm
public import proofs.«01_k».proof.Proof.Table
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.StableHlo.ReadAt
public import Idealize.ShloMosaic.Lib.Claim
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.NormQueryIdeal.Rows

open Cert.NormQueryIdeal Cert.NormQueryIdeal.Gen Cert.Norm Cert.Table Idealize.ShloMosaic Idealize.ShloMosaic.TcCoe Idealize.SL.Sem

/-! ### One block -/

section Block
variable (da : S256x1024.Idx → Elt Ideal .bf16) (w : S1024x1024.Idx → Elt Ideal .bf16) (d x : S256x1024.Idx → Elt Ideal .f32) (g a : S1x1024.Idx → Elt Ideal .f32)
  (s : S256x1.Idx → Elt Ideal .f32)

/-- The derivative by the norm's result. -/
theorem out_apply (r : Fin 256) (k : Fin 1024) :
    k0_pay5 da w d (ix2 r k) = alpha * d (ix2 r k) + ∑ j : Fin 1024, da (ix2 r j) * w (ix2 k j) := by
  unfold_payloads
  unfold alpha
  pointwise [dot_S256x1024_S1024x1024_S256x1024_1_1_0_0_n_n]

/-- The derivative by the norm's row. -/
theorem row_apply (r : Fin 256) (k : Fin 1024) :
    k0_pay7 da w d x g s (ix2 r k)
      = s (ix2 r 0) * (k0_pay5 da w d (ix2 r k) * g (ix2 0 k) - Ideal.div (∑ j : Fin 1024, k0_pay5 da w d (ix2 r j) * g (ix2 0 j)) width
          - x (ix2 r k) * Ideal.div (∑ j : Fin 1024, k0_pay5 da w d (ix2 r j) * g (ix2 0 j) * x (ix2 r j)) width) := by
  unfold k0_pay7 k0_pay6
  unfold width
  generalize k0_pay5 da w d = o
  pointwise

/-- What the block adds to the derivative by the weight. -/
theorem weight_apply (o : S256x1024.Idx → Elt Ideal .f32) (k : Fin 1024) :
    k0_pay3 o (k0_pay6 x) a (ix2 0 k) = a (ix2 0 k) + ∑ r : Fin 256, o (ix2 r k) * x (ix2 r k) := by
  unfold_payloads
  pointwise

/-- What the block adds to the derivative by the bias. -/
theorem bias_apply (o : S256x1024.Idx → Elt Ideal .f32) (k : Fin 1024) :
    k0_pay4 o a (ix2 0 k) = a (ix2 0 k) + ∑ r : Fin 256, o (ix2 r k) := by
  unfold_payloads
  pointwise

end Block

variable (m : (ℓ : Loc nD τ sig) → Buf (Elt Ideal) ℓ) (c : Dev nD)

/-- The residual's derivative. -/
abbrev D : S8192x1024.Idx → EReal := m ((c.tc : Thread nD τ).loc main_arg0)

/-- The derivative by the product. -/
abbrev DA : S8192x1024.Idx → EReal := m ((c.tc : Thread nD τ).loc main_arg1)

/-- The product's weight. -/
abbrev W : S1024x1024.Idx → EReal := m ((c.tc : Thread nD τ).loc main_arg2)

/-- The norm's input. -/
abbrev Z : S8192x1024.Idx → EReal := m ((c.tc : Thread nD τ).loc main_arg3)

/-- The norm's weight. -/
abbrev G : S1x1024.Idx → EReal := m ((c.tc : Thread nD τ).loc main_arg4)

/-- A row of the norm's input. -/
abbrev zrow (s : Fin 8192) (k : Fin 1024) : EReal := Z m c (ix2 s k)

theorem recip_at (s : Fin 8192) : V m c main_v13 (ix2 s 0) = recip (zrow m c s) := by
  unfold V recip spread centre width eps zrow
  after_reads_at

theorem unit_at (s : Fin 8192) (k : Fin 1024) : V m c main_v15 (ix2 s k) = unit (zrow m c s) k := by
  unfold V unit recip spread centre width eps zrow
  after_reads_at

/-- The derivative by the norm's result, at a row. -/
def dout (s : Fin 8192) (k : Fin 1024) : EReal := alpha * D m c (ix2 s k) + ∑ j : Fin 1024, DA m c (ix2 s j) * W m c (ix2 k j)

/-- The norm's weight, as a row. -/
abbrev grow (k : Fin 1024) : EReal := G m c (ix2 0 k)

/-! ### The block of a grid point -/

variable (t : Fin cfg0.N)

/-- The array's row that is row `r` of the block at hand. -/
def rowAt (r : Fin 256) : Fin 8192 := ⟨t.val * 256 + r.val, by have : t.val < 32 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = t.val ∧ win0_1.index t 1 = 0 :=
  (by decide +kernel : ∀ t : Fin grid0.N, win0_1.index t 0 = t.val ∧ win0_1.index t 1 = 0)

theorem place2 : ∀ t : Fin cfg0.N, win0_2.index t 0 = 0 ∧ win0_2.index t 1 = 0 :=
  (by decide +kernel : ∀ t : Fin grid0.N, win0_2.index t 0 = 0 ∧ win0_2.index t 1 = 0)

theorem place3 : ∀ t : Fin cfg0.N, win0_3.index t 0 = t.val ∧ win0_3.index t 1 = 0 :=
  (by decide +kernel : ∀ t : Fin grid0.N, win0_3.index t 0 = t.val ∧ win0_3.index t 1 = 0)

theorem place4 : ∀ t : Fin cfg0.N, win0_4.index t 0 = t.val ∧ win0_4.index t 1 = 0 :=
  (by decide +kernel : ∀ t : Fin grid0.N, win0_4.index t 0 = t.val ∧ win0_4.index t 1 = 0)

theorem place5 : ∀ t : Fin cfg0.N, win0_5.index t 0 = 0 ∧ win0_5.index t 1 = 0 :=
  (by decide +kernel : ∀ t : Fin grid0.N, win0_5.index t 0 = 0 ∧ win0_5.index t 1 = 0)

theorem place6 : ∀ t : Fin cfg0.N, win0_6.index t 0 = t.val ∧ win0_6.index t 1 = 0 :=
  (by decide +kernel : ∀ t : Fin grid0.N, win0_6.index t 0 = t.val ∧ win0_6.index t 1 = 0)

theorem place7 : ∀ t : Fin cfg0.N, win0_7.index t 0 = t.val ∧ win0_7.index t 1 = 0 :=
  (by decide +kernel : ∀ t : Fin grid0.N, win0_7.index t 0 = t.val ∧ win0_7.index t 1 = 0)

theorem iblk_d (r : Fin 256) (k : Fin 1024) : iblk m c 0 t (ix2 r k) = D m c (ix2 (rowAt t r) k) := by
  refine Eq.trans ?_ (congrFun (V_main_arg0 m c) (ix2 (rowAt t r) k))
  unfold iblk
  generalize V m c = v
  blk_ext [place0 t, rowAt]

theorem iblk_da (r : Fin 256) (j : Fin 1024) : iblk m c 1 t (ix2 r j) = DA m c (ix2 (rowAt t r) j) := by
  refine Eq.trans ?_ (congrFun (V_main_arg1 m c) (ix2 (rowAt t r) j))
  unfold iblk
  generalize V m c = v
  blk_ext [place1 t, rowAt]

theorem iblk_w (k : Fin 1024) (j : Fin 1024) : iblk m c 2 t (ix2 k j) = W m c (ix2 k j) := by
  refine Eq.trans ?_ (congrFun (V_main_arg2 m c) (ix2 k j))
  unfold iblk
  generalize V m c = v
  blk_ext [place2 t]

theorem iblk_unit (r : Fin 256) (k : Fin 1024) : iblk m c 3 t (ix2 r k) = unit (zrow m c (rowAt t r)) k := by
  refine Eq.trans ?_ (unit_at m c (rowAt t r) k)
  unfold iblk
  generalize V m c = v
  blk_ext [place3 t, rowAt]

theorem iblk_recip (r : Fin 256) : iblk m c 4 t (ix2 r 0) = recip (zrow m c (rowAt t r)) := by
  refine Eq.trans ?_ (recip_at m c (rowAt t r))
  unfold iblk
  generalize V m c = v
  blk_ext [place4 t, rowAt]

theorem iblk_g (k : Fin 1024) : iblk m c 5 t (ix2 0 k) = grow m c k := by
  refine Eq.trans ?_ (congrFun (V_main_arg4 m c) (ix2 0 k))
  unfold iblk
  generalize V m c = v
  blk_ext [place5 t]

theorem out_at (r : Fin 256) (k : Fin 1024) :
    k0_pay5 (F := Ideal) (iblk m c 1 t) (iblk m c 2 t) (iblk m c 0 t) (ix2 r k) = dout m c (rowAt t r) k :=
  (out_apply _ _ _ _ _).trans (congrArg₂ (· + ·) (congrArg (alpha * ·) (iblk_d m c t r k))
    (Finset.sum_congr rfl fun j _ => congrArg₂ (· * ·) (iblk_da m c t r j) (iblk_w m c t k j)))

/-! ### The derivative by the rows -/

/-- The first array: the derivative by the norm's input. -/
def dzArray : S8192x1024.Idx → Elt Ideal .f32 := fun y => dnorm (zrow m c (y 0)) (dout m c (y 0)) (grow m c) (y 1)

/-- The second array: the same, stored again. -/
def dzCopy : S8192x1024.Idx → Elt Ideal .bf16 := fun y => dnorm (zrow m c (y 0)) (dout m c (y 0)) (grow m c) (y 1)

/-- The third array: the derivative by the norm's weight. -/
def dgArray : S1x1024.Idx → Elt Ideal .f32 := fun y => (∑ s : Fin 8192, dout m c s (y 1) * unit (zrow m c s) (y 1) : EReal)

/-- The fourth array: the derivative by the norm's bias. -/
def dbArray : S1x1024.Idx → Elt Ideal .f32 := fun y => (∑ s : Fin 8192, dout m c s (y 1) : EReal)

theorem row_at (r : Fin 256) (k : Fin 1024) :
    k0_pay7 (F := Ideal) (iblk m c 1 t) (iblk m c 2 t) (iblk m c 0 t) (iblk m c 3 t) (iblk m c 5 t) (iblk m c 4 t) (ix2 r k)
      = dnorm (zrow m c (rowAt t r)) (dout m c (rowAt t r)) (grow m c) k := by
  have hx (j : Fin 1024) : k0_pay5 (F := Ideal) (iblk m c 1 t) (iblk m c 2 t) (iblk m c 0 t) (ix2 r j) * (iblk m c 5 t : S1x1024.Idx → EReal) (ix2 0 j)
      = dout m c (rowAt t r) j * grow m c j := congrArg₂ (· * ·) (out_at m c t r j) (iblk_g m c t j)
  refine (row_apply _ _ _ _ _ _ _ _).trans ?_
  exact congrArg₂ (· * ·) (iblk_recip m c t r) (congrArg₂ (· - ·)
    (congrArg₂ (· - ·) (hx k) (congrArg (Ideal.div · width) (Finset.sum_congr rfl fun j _ => hx j)))
    (congrArg₂ (· * ·) (iblk_unit m c t r k)
      (congrArg (Ideal.div · width) (Finset.sum_congr rfl fun j _ => congrArg₂ (· * ·) (hx j) (iblk_unit m c t r j)))))

theorem row_sent (y : S256x1024.Idx) : (outsAt0 m c t.val t.isLt).1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
  · rw [outsAt0_B m c t h]
    frame_out

theorem copy_sent (y : S256x1024.Idx) : (outsAt0 m c t.val t.isLt).2.1 y = dnorm (zrow m c (rowAt t (y 0))) (dout m c (rowAt t (y 0))) (grow m c) (y 1) := by
  refine Eq.trans ?_ (row_at m c t (y 0) (y 1))
  rw [← eq_ix2 y]
  by_cases h : t.val % 32 = 0
  · rw [outsAt0_A m c t h]
    frame_out
    rfl
  · rw [outsAt0_B m c t h]
    frame_out
    rfl

theorem dz_end : (dats m 0 c).arrAt 6 cfg0.N = dzArray m c := by
  refine (dats m 0 c).arrAt_eq_of_covers 6 _ (by decide +kernel) fun t hf y => ?_
  blk_simp
  rw [after0_6]
  refine (row_sent m c t y).trans ?_
  have e : (win0_6.blk t).view.emb y = ix2 (rowAt t (y 0)) (y 1) := by
    blk_ext [place6 t, rowAt]
  rw [e]
  rfl

theorem copy_end : (dats m 0 c).arrAt 7 cfg0.N = dzCopy m c := by
  refine (dats m 0 c).arrAt_eq_of_covers 7 _ (by decide +kernel) fun t hf y => ?_
  blk_simp
  rw [after0_7]
  refine (copy_sent m c t y).trans ?_
  have e : (win0_7.blk t).view.emb y = ix2 (rowAt t (y 0)) (y 1) := by
    blk_ext [place7 t, rowAt]
  rw [e]
  rfl

/-! ### The sums over the rows -/

/-- What a point adds to the derivative by the weight. -/
def weightTerm (y : S1x1024.Idx) : EReal := ∑ r : Fin 256, dout m c (rowAt t r) (y 1) * unit (zrow m c (rowAt t r)) (y 1)

/-- What a point adds to the derivative by the bias. -/
def biasTerm (y : S1x1024.Idx) : EReal := ∑ r : Fin 256, dout m c (rowAt t r) (y 1)

theorem weight_at (a : S1x1024.Idx → Elt Ideal .f32) (y : S1x1024.Idx) :
    k0_pay3 (F := Ideal) (k0_pay5 (iblk m c 1 t) (iblk m c 2 t) (iblk m c 0 t)) (k0_pay6 (iblk m c 3 t)) a y = a y + weightTerm m c t y := by
  obtain ⟨k, rfl⟩ : ∃ k : Fin 1024, y = ix2 0 k := ⟨y 1, (eq_ix2 y).trans (congrArg (ix2 · (y 1)) (Subsingleton.elim (α := Fin 1) _ _))⟩
  exact (weight_apply _ _ _ _).trans (congrArg (a _ + ·) (Finset.sum_congr rfl fun r _ => congrArg₂ (· * ·) (out_at m c t r _) (iblk_unit m c t r _)))

theorem bias_at (a : S1x1024.Idx → Elt Ideal .f32) (y : S1x1024.Idx) :
    k0_pay4 (F := Ideal) (k0_pay5 (iblk m c 1 t) (iblk m c 2 t) (iblk m c 0 t)) a y = a y + biasTerm m c t y := by
  obtain ⟨k, rfl⟩ : ∃ k : Fin 1024, y = ix2 0 k := ⟨y 1, (eq_ix2 y).trans (congrArg (ix2 · (y 1)) (Subsingleton.elim (α := Fin 1) _ _))⟩
  exact (bias_apply _ _ _).trans (congrArg (a _ + ·) (Finset.sum_congr rfl fun r _ => out_at m c t r _))

theorem zero1 (y : S1x1024.Idx) : (k0_pay1 (F := Ideal) y : EReal) = 0 := by
  unfold_payloads
  pointwise

theorem zero2 (y : S1x1024.Idx) : (k0_pay2 (F := Ideal) y : EReal) = 0 := by
  unfold_payloads
  pointwise

theorem weight_first (h : t.val % 32 = 0) (y : S1x1024.Idx) : (outsAt0 m c t.val t.isLt).2.2.1 y = (0 : EReal) + weightTerm m c t y := by
  rw [outsAt0_A m c t h]
  frame_out
  exact (weight_at m c t _ y).trans (congrArg (· + weightTerm m c t y) (zero1 y))

theorem bias_first (h : t.val % 32 = 0) (y : S1x1024.Idx) : (outsAt0 m c t.val t.isLt).2.2.2 y = (0 : EReal) + biasTerm m c t y := by
  rw [outsAt0_A m c t h]
  frame_out
  exact (bias_at m c t _ y).trans (congrArg (· + biasTerm m c t y) (zero2 y))

theorem weight_next (h : ¬t.val % 32 = 0) (y : S1x1024.Idx) :
    (outsAt0 m c t.val t.isLt).2.2.1 y = (outsAt0 m c (t.val - 1) (Nat.lt_of_le_of_lt (Nat.sub_le _ _) t.isLt)).2.2.1 y + weightTerm m c t y := by
  rw [outsAt0_B m c t h]
  frame_out
  exact weight_at m c t _ y

theorem bias_next (h : ¬t.val % 32 = 0) (y : S1x1024.Idx) :
    (outsAt0 m c t.val t.isLt).2.2.2 y = (outsAt0 m c (t.val - 1) (Nat.lt_of_le_of_lt (Nat.sub_le _ _) t.isLt)).2.2.2 y + biasTerm m c t y := by
  rw [outsAt0_B m c t h]
  frame_out
  exact bias_at m c t _ y

theorem weight_last (h : 31 < cfg0.N) (y : S1x1024.Idx) : (outsAt0 m c 31 h).2.2.1 y = ∑ s : Fin 8192, dout m c s (y 1) * unit (zrow m c s) (y 1) := by
  rw [Pipeline.eq_sum_fin_of_reset_step_apply_last (M := EReal) (fun n hn y => (outsAt0 m c n hn).2.2.1 y) 32 (fun _ => 0) (weightTerm m c)
    (fun t h0 y => weight_first m c t h0 y) (fun t h0 y => weight_next m c t h0 y) (by decide) ⟨31, h⟩ rfl y, zero_add]
  exact Fin.sum_mul_add_fin 32 256 (fun s => dout m c s (y 1) * unit (zrow m c s) (y 1)) rfl

theorem bias_last (h : 31 < cfg0.N) (y : S1x1024.Idx) : (outsAt0 m c 31 h).2.2.2 y = ∑ s : Fin 8192, dout m c s (y 1) := by
  rw [Pipeline.eq_sum_fin_of_reset_step_apply_last (M := EReal) (fun n hn y => (outsAt0 m c n hn).2.2.2 y) 32 (fun _ => 0) (biasTerm m c)
    (fun t h0 y => bias_first m c t h0 y) (fun t h0 y => bias_next m c t h0 y) (by decide) ⟨31, h⟩ rfl y, zero_add]
  exact Fin.sum_mul_add_fin 32 256 (fun s => dout m c s (y 1)) rfl

/-- The point after which the two sums go out. -/
def lastPoint : Fin cfg0.N := ⟨31, by decide⟩

theorem dg_end : (dats m 0 c).arrAt 8 cfg0.N = dgArray m c := by
  refine (dats m 0 c).arrAt_eq_of_after_last 8 lastPoint (by decide +kernel) _ fun j => ?_
  blk_simp
  rw [after0_8]
  exact weight_last m c _ j

theorem db_end : (dats m 0 c).arrAt 9 cfg0.N = dbArray m c := by
  refine (dats m 0 c).arrAt_eq_of_after_last 9 lastPoint (by decide +kernel) _ fun j => ?_
  blk_simp
  rw [after0_9]
  exact bias_last m c _ j

end Cert.NormQueryIdeal.Rows

end
-- ==== Proof.NormQueryReference.lean ====
/-
  WHAT THE REFERENCE OF THE LAYER NORM'S BACKWARD PASS HOLDS, where the norm feeds the cross-attention's queries: the derivative by the norm's row, rule by rule, and the sums over the rows.
-/
module

public import proofs.«01_k».proof.Proof.Gen.NormQueryReferenceIdeal.Read
public import proofs.«01_k».proof.Proof.Norm
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.NormQueryReferenceIdeal.Rows

open Cert.NormQueryReferenceIdeal Cert.NormQueryReferenceIdeal.Gen Cert.NormQueryReferenceIdeal.Read Cert.Norm Idealize.ShloMosaic

variable (d : S8192x1024.Idx → EReal) (da : S8192x1024.Idx → EReal) (w : S1024x1024.Idx → EReal) (z : S8192x1024.Idx → EReal) (g : S1x1024.Idx → EReal)

/-- The derivative by the norm's result, at a row. -/
def dout (s : Fin 8192) (k : Fin 1024) : EReal := alpha * d (ix2 s k) + ∑ j : Fin 1024, da (ix2 s j) * w (ix2 k j)

theorem mean_at (s : Fin 8192) : val_main_v4 (F := Ideal) z (ix2 s 0) = Ideal.div (∑ k, z (ix2 s k)) width := by
  unfold width
  pointwise [val_main_v4, val_main_v3, val_main_v2, val_main_v1, val_main_cst_0, val_main_cst_1]

theorem centre_at (s : Fin 8192) (k : Fin 1024) : val_main_v6 (F := Ideal) z (ix2 s k) = centre (fun k => z (ix2 s k)) k := by
  rw [val_main_v6_apply, val_main_v5_apply]
  exact congrArg (z (ix2 s k) - ·) ((congrArg (val_main_v4 (F := Ideal) z) (eq_ix2 _)).trans (mean_at z s))

theorem centre_at' (s : Fin 8192) (k : Fin 1024) : val_main_v15 (F := Ideal) z (ix2 s k) = centre (fun k => z (ix2 s k)) k := by
  rw [val_main_v15_apply, val_main_v14_apply]
  exact congrArg (z (ix2 s k) - ·) ((congrArg (val_main_v4 (F := Ideal) z) (eq_ix2 _)).trans (mean_at z s))

theorem spread_at (s : Fin 8192) : val_main_v17 (F := Ideal) z (ix2 s 0) = spread (fun k => z (ix2 s k)) := by
  unfold spread width eps
  simp only [← centre_at]
  pointwise [val_main_v17, val_main_v16, val_main_v13, val_main_v12, val_main_v11, val_main_v10, val_main_v7, val_main_cst_3, val_main_cst_4, val_main_cst_5]

theorem recip_at (s : Fin 8192) : val_main_v18 (F := Ideal) z (ix2 s 0) = recip (fun k => z (ix2 s k)) := by
  unfold recip
  rw [← spread_at]
  pointwise [val_main_v18]

theorem out_at (s : Fin 8192) (k : Fin 1024) : val_main_v36 (F := Ideal) d da w (ix2 s k) = dout d da w s k := by
  unfold dout alpha
  refine Eq.trans ?_ (add_comm (G := EReal) _ _)
  rw [val_main_v36_apply, val_main_v33_apply]
  pointwise [val_main_v35, val_main_v34, val_main_cst_8, val_main_v32, val_main_v30]
  have el (j : Fin 1024) : lidx_main_v33 (ix2 s k) j = ix2 s j := eq_ix2 _
  have er (j : Fin 1024) : ridx_main_v33 (ix2 s k) j = ix2 k j := eq_ix2 _
  simp only [el, er]

theorem weighted_at (s : Fin 8192) (k : Fin 1024) : val_main_v43 (F := Ideal) d da w g (ix2 s k) = dout d da w s k * g (ix2 0 k) := by
  rw [val_main_v43_apply, val_main_v42_apply]
  exact congrArg₂ (· * ·) (out_at d da w s k) (congrArg g (eq_ix2 _))

theorem direct_at (s : Fin 8192) (k : Fin 1024) :
    val_main_v48 (F := Ideal) d da w z g (ix2 s k) = dout d da w s k * g (ix2 0 k) * recip fun k => z (ix2 s k) := by
  rw [val_main_v48_apply, val_main_v47_apply]
  exact congrArg₂ (· * ·) (weighted_at d da w g s k) ((congrArg (val_main_v18 (F := Ideal) z) (eq_ix2 _)).trans (recip_at z s))

theorem product_at (s : Fin 8192) :
    val_main_v46 (F := Ideal) d da w z g (ix2 s 0) = ∑ k, centre (fun k => z (ix2 s k)) k * (dout d da w s k * g (ix2 0 k)) := by
  simp only [← centre_at', ← weighted_at]
  pointwise [val_main_v46, val_main_v45, val_main_v44, val_main_cst_11]

theorem slope_at (s : Fin 8192) :
    val_main_v21 (F := Ideal) z (ix2 s 0) = mhalf * Ideal.div (recip fun k => z (ix2 s k)) (spread fun k => z (ix2 s k)) := by
  unfold mhalf
  rw [← recip_at, ← spread_at]
  pointwise [val_main_v21, val_main_v20, val_main_v19, val_main_cst_6]

theorem share_at (s : Fin 8192) :
    val_main_v54 (F := Ideal) d da w z g (ix2 s 0)
      = Ideal.div ((∑ k, centre (fun k => z (ix2 s k)) k * (dout d da w s k * g (ix2 0 k)))
          * (mhalf * Ideal.div (recip fun k => z (ix2 s k)) (spread fun k => z (ix2 s k)))) width := by
  rw [← product_at, ← slope_at]
  unfold width
  pointwise [val_main_v54, val_main_v53, val_main_v49, val_main_cst_13]

theorem variance_at (s : Fin 8192) (k : Fin 1024) :
    val_main_v57 (F := Ideal) d da w z g (ix2 s k) = byVariance (fun k => z (ix2 s k)) (dout d da w s) (fun k => g (ix2 0 k)) k := by
  unfold byVariance
  rw [← share_at, ← centre_at]
  unfold two
  pointwise [val_main_v57, val_main_v56, val_main_v55, val_main_v9, val_main_v8, val_main_cst_14, val_main_cst_2]
  rw [Fin.sum_univ_one]

theorem mean_direct_at (s : Fin 8192) :
    val_main_v52 (F := Ideal) d da w z g (ix2 s 0) = ∑ k, -(dout d da w s k * g (ix2 0 k) * recip fun k => z (ix2 s k)) := by
  simp only [← direct_at]
  pointwise [val_main_v52, val_main_v51, val_main_v50, val_main_cst_12]

theorem mean_variance_at (s : Fin 8192) :
    val_main_v60 (F := Ideal) d da w z g (ix2 s 0) = ∑ k, -byVariance (fun k => z (ix2 s k)) (dout d da w s) (fun k => g (ix2 0 k)) k := by
  simp only [← variance_at]
  pointwise [val_main_v60, val_main_v59, val_main_v58, val_main_cst_15]

/-- The derivative by the norm's input. -/
theorem row_at (s : Fin 8192) (k : Fin 1024) :
    val_main_v67 (F := Ideal) d da w z g (ix2 s k) = drule (fun k => z (ix2 s k)) (dout d da w s) (fun k => g (ix2 0 k)) k := by
  unfold drule
  rw [← direct_at, ← variance_at, ← mean_direct_at, ← mean_variance_at]
  unfold width
  pointwise [val_main_v67, val_main_v66, val_main_v65, val_main_v64, val_main_v63, val_main_v62, val_main_v61, val_main_cst_16, val_main_cst_17]
  rw [Fin.sum_univ_one]

/-- The derivative by the norm's weight. -/
theorem weight_at (k : Fin 1024) :
    val_main_v41 (F := Ideal) d da w z (ix2 0 k) = ∑ s, dout d da w s k * unit (fun k => z (ix2 s k)) k := by
  have e (s : Fin 8192) : val_main_v39 (F := Ideal) d da w z (ix2 s k) = dout d da w s k * unit (fun k => z (ix2 s k)) k := by
    rw [val_main_v39_apply, val_main_v23_apply, val_main_v22_apply]
    refine (mul_comm (G := EReal) _ _).trans (congrArg₂ (· * ·) (out_at d da w s k) (congrArg₂ (· * ·) (centre_at' z s k) ?_))
    exact (congrArg (val_main_v18 (F := Ideal) z) (eq_ix2 _)).trans (recip_at z s)
  simp only [← e]
  pointwise [val_main_v41, val_main_v40, val_main_cst_10]

/-- The derivative by the norm's bias. -/
theorem bias_at (k : Fin 1024) : val_main_v38 (F := Ideal) d da w (ix2 0 k) = ∑ s, dout d da w s k := by
  simp only [← out_at]
  pointwise [val_main_v38, val_main_v37, val_main_cst_9]

end Cert.NormQueryReferenceIdeal.Rows

end
-- ==== Proof.NormQueryFinite.lean ====
/-
  THE PRECONDITION OF THE LAYER NORM'S BACKWARD PASS, OPENED, where the norm feeds the cross-attention's queries: every entry of the two derivatives that come in and of the two weights is a real number, and so is the derivative by
  the norm's result.
-/
module

public import proofs.«01_k».proof.Proof.Finite
public import proofs.«01_k».proof.Proof.Norm
public import proofs.«01_k».proof.Proof.Gen.Pre_finite_query
public import Idealize.ShloMosaic.Lib.Pointwise.Tactic
public import Idealize.ShloMosaic.Lib.Pointwise.Reduce

@[expose] public section

noncomputable section

namespace Cert.NormQueryFinite

open Cert.Pre_finite_query Cert.Pre_finite_query.Gen Idealize.ShloMosaic Cert.Attend Cert.Norm Cert.Finite

theorem table_d (y : FVec Ideal S8192x1024 .f32) (i : S_.Idx) :
    (Host.reduce FloatOps.maximumf y (constant (F := Ideal) S_ .f32 0xFF800000#32) reducesTo_S8192x1024_S_d0_1 h_S_ : FVec Ideal S_ .f32) i
      = largest fun k : Fin 8192 × Fin 1024 => y (ix2 k.1 k.2) := by
  unfold largest
  pointwise [word_bot]

theorem table_da (y : FVec Ideal S8192x1024 .f32) (i : S_.Idx) :
    (Host.reduce FloatOps.maximumf y (constant (F := Ideal) S_ .f32 0xFF800000#32) reducesTo_S8192x1024_S_d0_1 h_S_ : FVec Ideal S_ .f32) i
      = largest fun k : Fin 8192 × Fin 1024 => y (ix2 k.1 k.2) := by
  unfold largest
  pointwise [word_bot]

theorem table_w (y : FVec Ideal S1024x1024 .f32) (i : S_.Idx) :
    (Host.reduce FloatOps.maximumf y (constant (F := Ideal) S_ .f32 0xFF800000#32) reducesTo_S1024x1024_S_d0_1 h_S_ : FVec Ideal S_ .f32) i
      = largest fun k : Fin 1024 × Fin 1024 => y (ix2 k.1 k.2) := by
  unfold largest
  pointwise [word_bot]

theorem table_g (y : FVec Ideal S1x1024 .f32) (i : S_.Idx) :
    (Host.reduce FloatOps.maximumf y (constant (F := Ideal) S_ .f32 0xFF800000#32) reducesTo_S1x1024_S_d0_1 h_S_ : FVec Ideal S_ .f32) i
      = largest fun k : Fin 1 × Fin 1024 => y (ix2 k.1 k.2) := by
  unfold largest
  pointwise [word_bot]

/-- A conjunction of two bits. -/
theorem split (x y : IVec S_ 1) (h : andi x y = fun _ => 1#1) : (x = fun _ => 1#1) ∧ y = fun _ => 1#1 := by
  have e (i : S_.Idx) : IntOp.andi (x i) (y i) = 1#1 := congrFun h i
  refine ⟨funext fun i => ?_, funext fun i => ?_⟩ <;> have := e i <;> revert this <;> unfold IntOp.andi <;> generalize x i = a <;> generalize y i = b <;> revert a b <;> decide

/-- The comparison of a table of one entry with `+∞`. -/
theorem below (x : FVec Ideal S_ .f32) (h : cmpf .olt x (constant (F := Ideal) S_ .f32 0x7F800000#32) = fun _ => 1#1) (i : S_.Idx) : (x i : EReal) < ⊤ := by
  have z : (constant (F := Ideal) S_ .f32 0x7F800000#32 i : EReal) = ⊤ := word_top
  have e : Ideal.cmp .olt (x i) (constant (F := Ideal) S_ .f32 0x7F800000#32 i) = 1#1 := congrFun h i
  rw [z] at e
  by_cases hx : (x i : EReal) < ⊤
  · exact hx
  · simp_all [Ideal.cmp]

theorem magnitude (y : FVec Ideal S8192x1024 .f32) (k : S8192x1024.Idx) : (Host.absf y k : EReal) = max (y k) (-y k) := by
  pointwise
  rfl

theorem magnitude_g (y : FVec Ideal S1x1024 .f32) (k : S1x1024.Idx) : (Host.absf y k : EReal) = max (y k) (-y k) := by
  pointwise
  rfl

theorem magnitude_da (y : FVec Ideal S8192x1024 .bf16) (k : S8192x1024.Idx) : (Host.absf (extf (F := Ideal) .f32 y bitsLt_bf16_f32) k : EReal) = max (y k) (-y k) := by
  pointwise
  rfl

theorem magnitude_w (y : FVec Ideal S1024x1024 .bf16) (k : S1024x1024.Idx) : (Host.absf (extf (F := Ideal) .f32 y bitsLt_bf16_f32) k : EReal) = max (y k) (-y k) := by
  pointwise
  rfl

variable (d : FVec Ideal S8192x1024 .f32) (da : FVec Ideal S8192x1024 .bf16) (w : FVec Ideal S1024x1024 .bf16) (z : FVec Ideal S8192x1024 .f32) (g : FVec Ideal S1x1024 .f32)

/-- The precondition as four comparisons. -/
theorem opened (h : fn (F := Ideal) d da w z g = fun _ => 1#1) :
    (largest fun k : Fin 8192 × Fin 1024 => (max (d (ix2 k.1 k.2)) (-d (ix2 k.1 k.2)) : EReal)) < ⊤
      ∧ (largest fun k : Fin 8192 × Fin 1024 => (max (da (ix2 k.1 k.2)) (-da (ix2 k.1 k.2)) : EReal)) < ⊤
      ∧ (largest fun k : Fin 1024 × Fin 1024 => (max (w (ix2 k.1 k.2)) (-w (ix2 k.1 k.2)) : EReal)) < ⊤
      ∧ (largest fun k : Fin 1 × Fin 1024 => (max (g (ix2 k.1 k.2)) (-g (ix2 k.1 k.2)) : EReal)) < ⊤ := by
  unfold fn at h
  obtain ⟨h, hg⟩ := split _ _ h
  obtain ⟨h, hw⟩ := split _ _ h
  obtain ⟨hd, ha⟩ := split _ _ h
  have kd := lt_of_eq_of_lt (table_d _ _).symm (below _ hd fun a => a.elim0)
  have ka := lt_of_eq_of_lt (table_da _ _).symm (below _ ha fun a => a.elim0)
  have kw := lt_of_eq_of_lt (table_w _ _).symm (below _ hw fun a => a.elim0)
  have kg := lt_of_eq_of_lt (table_g _ _).symm (below _ hg fun a => a.elim0)
  exact ⟨lt_of_eq_of_lt (congrArg largest (funext fun k => (magnitude d (ix2 k.1 k.2)).symm)) kd,
    lt_of_eq_of_lt (congrArg largest (funext fun k => (magnitude_da da (ix2 k.1 k.2)).symm)) ka,
    lt_of_eq_of_lt (congrArg largest (funext fun k => (magnitude_w w (ix2 k.1 k.2)).symm)) kw,
    lt_of_eq_of_lt (congrArg largest (funext fun k => (magnitude_g g (ix2 k.1 k.2)).symm)) kg⟩

variable {d da w z g} (h : fn (F := Ideal) d da w z g = fun _ => 1#1)
include h

/-- Every entry of the norm's weight is real. -/
theorem weight_real (k : Fin 1024) : ∃ x : ℝ, (g (ix2 0 k) : EReal) = x := by
  have b := le_largest (fun k : Fin 1 × Fin 1024 => (max (g (ix2 k.1 k.2)) (-g (ix2 k.1 k.2)) : EReal)) (0, k)
  exact real_of_abs (x := g (ix2 0 k)) (lt_of_le_of_lt b (opened d da w z g h).2.2.2)

/-- The derivative by the norm's result is real. -/
theorem out_real (s : Fin 8192) (k : Fin 1024) :
    ∃ x : ℝ, (alpha * (d (ix2 s k) : EReal) + ∑ j : Fin 1024, (da (ix2 s j) : EReal) * (w (ix2 k j) : EReal)) = x := by
  obtain ⟨hd, ha, hw, -⟩ := opened d da w z g h
  obtain ⟨a, ea⟩ := alpha_real
  have bd := le_largest (fun k : Fin 8192 × Fin 1024 => (max (d (ix2 k.1 k.2)) (-d (ix2 k.1 k.2)) : EReal)) (s, k)
  obtain ⟨x, hx⟩ := real_of_abs (x := d (ix2 s k)) (lt_of_le_of_lt bd hd)
  obtain ⟨y, hy⟩ := real_sum Finset.univ (fun j : Fin 1024 => (da (ix2 s j) : EReal) * (w (ix2 k j) : EReal)) fun j => by
    have b1 := le_largest (fun k : Fin 8192 × Fin 1024 => (max (da (ix2 k.1 k.2)) (-da (ix2 k.1 k.2)) : EReal)) (s, j)
    have b2 := le_largest (fun k : Fin 1024 × Fin 1024 => (max (w (ix2 k.1 k.2)) (-w (ix2 k.1 k.2)) : EReal)) (k, j)
    obtain ⟨p, hp⟩ := real_of_abs (x := da (ix2 s j)) (lt_of_le_of_lt b1 ha)
    obtain ⟨q, hq⟩ := real_of_abs (x := w (ix2 k j)) (lt_of_le_of_lt b2 hw)
    exact ⟨p * q, by rw [EReal.coe_mul, ← hp, ← hq]⟩
  exact ⟨a * x + y, by rw [EReal.coe_add, EReal.coe_mul, ← ea, ← hx, ← hy]⟩

end Cert.NormQueryFinite

end
-- ==== Proof.NormQuerySame.lean ====
/-
  THE LAYER NORM THAT FEEDS THE CROSS-ATTENTION'S QUERIES: the kernel's four derivatives are the reference's.
-/
module

public import proofs.«01_k».proof.Defs
public import proofs.«01_k».proof.Proof.Gen.NormQuery
public import proofs.«01_k».proof.Proof.Gen.NormQuery.Frame
public import proofs.«01_k».proof.Proof.Gen.NormQueryIdeal
public import proofs.«01_k».proof.Proof.Gen.NormQueryIdeal.Frame
public import proofs.«01_k».proof.Proof.Gen.NormQueryIdeal.Value
public import proofs.«01_k».proof.Proof.Gen.NormQueryReferenceIdeal
public import proofs.«01_k».proof.Proof.Gen.NormQueryReferenceIdeal.Run
public import proofs.«01_k».proof.Proof.Gen.NormQueryReferenceIdeal.Read
public import proofs.«01_k».proof.Proof.Gen.Pre_finite_query
public import proofs.«01_k».proof.Proof.NormQuery
public import proofs.«01_k».proof.Proof.NormQueryReference
public import proofs.«01_k».proof.Proof.NormQueryFinite
public import Idealize.ShloMosaic.Lib.Claim
public import Idealize.ShloMosaic.Lib.Quiescent
public import Idealize.ShloMosaic.Adequacy
public import Idealize.ShloMosaic.Init

@[expose] public section

noncomputable section

namespace Cert.NormQuerySame

open Idealize.ShloMosaic Idealize.SL.Sem

/-- The layer norm's reference leaves its arguments as they were. -/
theorem norm_frame : Cert.quiescent_NormQueryReferenceIdeal := fun m ρ _ =>
  (θ_run Cert.NormQueryReferenceIdeal.defs _ _).mono
    (fun r h => ⟨fun c => (h c).2.2.2.2, Idealize.ShloMosaic.sem_eq_zero_of_no_sems (by decide) r.2⟩)
    (Cert.NormQueryReferenceIdeal.Value.run (F := Ideal) m ρ)

section Norm

open Cert.NormQueryIdeal.Rows

variable (m : (ℓ : Loc Cert.NormQueryIdeal.nD Cert.NormQueryIdeal.τ Cert.NormQueryIdeal.sig) → Buf (Elt Ideal) ℓ) (c : Dev Cert.NormQueryIdeal.nD)

/-- The two programs' derivatives by the norm's input, at an index. -/
theorem same_row (hpre : Cert.Pre_NormQueryIdeal_finite_query m) (s : Fin 8192) (k : Fin 1024) :
    Cert.NormQueryReferenceIdeal.Read.val_main_v67 (F := Ideal) (D m c) (DA m c) (W m c) (Z m c) (G m c) (ix2 s k)
      = Cert.Norm.dnorm (zrow m c s) (dout m c s) (grow m c) k :=
  (Cert.NormQueryReferenceIdeal.Rows.row_at _ _ _ _ _ s k).trans
    (Cert.Norm.drule_eq_dnorm _ _ _ (fun j => Cert.NormQueryFinite.out_real (hpre c) s j) (fun j => Cert.NormQueryFinite.weight_real (hpre c) j) k)

theorem same_dz (hpre : Cert.Pre_NormQueryIdeal_finite_query m) :
    Cert.NormQueryReferenceIdeal.Read.val_main_v67 (F := Ideal) (D m c) (DA m c) (W m c) (Z m c) (G m c) = dzArray m c := by
  funext y
  rw [eq_ix2 y]
  exact same_row m c hpre (y 0) (y 1)

theorem same_copy (hpre : Cert.Pre_NormQueryIdeal_finite_query m) :
    Cert.NormQueryReferenceIdeal.Read.val_main_v68 (F := Ideal) (D m c) (DA m c) (W m c) (Z m c) (G m c) = dzCopy m c := by
  funext y
  rw [eq_ix2 y]
  exact same_row m c hpre (y 0) (y 1)

theorem row_index (y : Cert.NormQueryIdeal.S1x1024.Idx) : ∃ k : Fin 1024, y = ix2 0 k :=
  ⟨y 1, (eq_ix2 y).trans (congrArg (ix2 · (y 1)) (Subsingleton.elim (α := Fin 1) _ _))⟩

theorem same_dg : Cert.NormQueryReferenceIdeal.Read.val_main_v41 (F := Ideal) (D m c) (DA m c) (W m c) (Z m c) = dgArray m c := by
  funext y
  obtain ⟨k, rfl⟩ := row_index y
  exact Cert.NormQueryReferenceIdeal.Rows.weight_at _ _ _ _ k

theorem same_db : Cert.NormQueryReferenceIdeal.Read.val_main_v38 (F := Ideal) (D m c) (DA m c) (W m c) = dbArray m c := by
  funext y
  obtain ⟨k, rfl⟩ := row_index y
  exact Cert.NormQueryReferenceIdeal.Rows.bias_at _ _ _ k

end Norm

/-- Kernel and reference compute the same four derivatives of the layer norm. -/
theorem norm_same : Cert.algebraic_NormQueryIdeal_NormQueryReferenceIdeal_pre_finite_query := by
  intro m g m' g' hpre hargs
  refine ⟨fun c => Cert.NormQueryIdeal.Rows.dzArray m c, fun c => Cert.NormQueryIdeal.Rows.dzCopy m c, fun c => Cert.NormQueryIdeal.Rows.dgArray m c,
    fun c => Cert.NormQueryIdeal.Rows.dbArray m c, ?_, ?_⟩
  · refine (θ_run Cert.NormQueryIdeal.defs _ _).mono (fun r h c => ?_) (Cert.NormQueryIdeal.Value.run_blocks m g)
    obtain ⟨h6, h7, h8, h9, ha⟩ := h c
    exact ⟨h6.trans (Cert.NormQueryIdeal.Rows.dz_end m c), h7.trans (Cert.NormQueryIdeal.Rows.copy_end m c), h8.trans (Cert.NormQueryIdeal.Rows.dg_end m c),
      h9.trans (Cert.NormQueryIdeal.Rows.db_end m c), ha⟩
  · refine (θ_run Cert.NormQueryReferenceIdeal.defs _ _).mono (fun r h c => ?_) (Cert.NormQueryReferenceIdeal.Value.run m' g')
    obtain ⟨h67, h68, h41, h38, ha⟩ := h c
    obtain ⟨e0, e1, e2, e3, e4⟩ := hargs c
    refine ⟨h67.trans ?_, h68.trans ?_, h41.trans ?_, h38.trans ?_, ha⟩
    · rw [Cert.NormQueryReferenceIdeal.Read.val_main_v67_eq, e0, e1, e2, e3, e4]
      exact same_dz m c hpre
    · rw [Cert.NormQueryReferenceIdeal.Read.val_main_v68_eq, e0, e1, e2, e3, e4]
      exact same_copy m c hpre
    · rw [Cert.NormQueryReferenceIdeal.Read.val_main_v41_eq, e0, e1, e2, e3]
      exact same_dg m c
    · rw [Cert.NormQueryReferenceIdeal.Read.val_main_v38_eq, e0, e1, e2]
      exact same_db m c

end Cert.NormQuerySame

end
-- ==== Proof.SquareWeight.lean ====
/-
  THE DERIVATIVE BY A SQUARE WEIGHT, such as an attention's last: the product of the weight's input, transposed, and the derivative by the product. The grid walks over four
  blocks of 2048 positions: a buffer holds the sum so far, and goes out after the fourth, as in `UpWeight`.
-/
module

public import proofs.«01_k».proof.Proof.Gen.SquareWeightIdeal.Value
public import proofs.«01_k».proof.Proof.Gen.SquareWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.SquareWeightIdeal.Product

open Cert.SquareWeightIdeal Cert.SquareWeightIdeal.Gen Cert.Table Idealize.ShloMosaic Idealize.ShloMosaic.TcCoe Idealize.SL.Sem

/-! ### One point -/

/-- What the first of four points stores. -/
theorem start_apply (x : S2048x1024.Idx → Elt Ideal .bf16) (y : S2048x1024.Idx → Elt Ideal .bf16) (r : Fin 1024) (d : Fin 1024) :
    k0_pay2 x y (ix2 r d) = ∑ s : Fin 2048, x (ix2 s r) * y (ix2 s d) := by
  unfold_payloads
  pointwise [dot_S2048x1024_S2048x1024_S1024x1024_0_0_1_1_n_n]

/-- What a later point stores. -/
theorem add_apply (x : S2048x1024.Idx → Elt Ideal .bf16) (y : S2048x1024.Idx → Elt Ideal .bf16) (a : S1024x1024.Idx → Elt Ideal .f32) (r : Fin 1024) (d : Fin 1024) :
    k0_pay3 x y a (ix2 r d) = a (ix2 r d) + ∑ s : Fin 2048, x (ix2 s r) * y (ix2 s d) := by
  unfold_payloads
  pointwise [dot_S2048x1024_S2048x1024_S1024x1024_0_0_1_1_n_n]

variable (m : (ℓ : Loc nD τ sig) → Buf (Elt Ideal) ℓ) (c : Dev nD)

/-- The weight's input. -/
abbrev X : S8192x1024.Idx → EReal := m ((c.tc : Thread nD τ).loc main_arg0)

/-- The derivative by the product. -/
abbrev DH : S8192x1024.Idx → EReal := m ((c.tc : Thread nD τ).loc main_arg1)

variable (t : Fin cfg0.N)

/-- The array's row that is row `r` of the block at hand. -/
def rowAt (r : Fin 2048) : Fin 8192 := ⟨t.val % 4 * 2048 + r.val, by omega⟩

/-- The array's column that is column `d` of the block at hand. -/
def colAt (d : Fin 1024) : Fin 1024 := ⟨t.val / 4 * 1024 + d.val, by have : t.val < 4 := t.isLt; omega⟩

theorem place0 : ∀ t : Fin cfg0.N, win0_0.index t 0 = t.val % 4 ∧ win0_0.index t 1 = 0 :=
  (by decide +kernel : ∀ t : Fin grid0.N, win0_0.index t 0 = t.val % 4 ∧ win0_0.index t 1 = 0)

theorem place1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem place2 : ∀ t : Fin cfg0.N, win0_2.index t 0 = 0 ∧ win0_2.index t 1 = t.val / 4 :=
  (by decide +kernel : ∀ t : Fin grid0.N, win0_2.index t 0 = 0 ∧ win0_2.index t 1 = t.val / 4)

theorem iblk_x (s : Fin 2048) (r : Fin 1024) : iblk m c 0 t (ix2 s r) = X m c (ix2 (rowAt t s) r) := by
  blk_ext [iblk, V, place0 t, rowAt]

theorem iblk_dh (s : Fin 2048) (d : Fin 1024) : iblk m c 1 t (ix2 s d) = DH m c (ix2 (rowAt t s) (colAt t d)) := by
  blk_ext [iblk, V, place1 t, rowAt, colAt]

/-- What a point adds. -/
def term (y : S1024x1024.Idx) : EReal := ∑ s : Fin 2048, X m c (ix2 (rowAt t s) (y 0)) * DH m c (ix2 (rowAt t s) (colAt t (y 1)))

theorem start_at (y : S1024x1024.Idx) : k0_pay2 (F := Ideal) (iblk m c 0 t) (iblk m c 1 t) y = term m c t y := by
  rw [eq_ix2 y]
  exact (start_apply _ _ _ _).trans (Finset.sum_congr rfl fun s _ => congrArg₂ (· * ·) (iblk_x m c t s _) (iblk_dh m c t s _))

theorem add_at (a : S1024x1024.Idx → Elt Ideal .f32) (y : S1024x1024.Idx) : k0_pay3 (F := Ideal) (iblk m c 0 t) (iblk m c 1 t) a y = a y + term m c t y := by
  rw [eq_ix2 y]
  exact (add_apply _ _ _ _ _).trans (congrArg (a _ + ·) (Finset.sum_congr rfl fun s _ => congrArg₂ (· * ·) (iblk_x m c t s _) (iblk_dh m c t s _)))

theorem first (h : t.val % 4 = 0) (y : S1024x1024.Idx) : (outsAt0 m c t.val t.isLt).2 y = term m c t y := by
  have small : t.val < 4 := t.isLt
  rw [outsAt0_A m c t h (by omega) (by omega)]
  frame_out
  exact start_at m c t y

theorem next (h : ¬t.val % 4 = 0) (y : S1024x1024.Idx) :
    (outsAt0 m c t.val t.isLt).2 y = (outsAt0 m c (t.val - 1) (Nat.lt_of_le_of_lt (Nat.sub_le _ _) t.isLt)).2 y + term m c t y := by
  have small : t.val < 4 := t.isLt
  by_cases h3 : t.val % 4 = 3
  · rw [outsAt0_C m c t h (by omega) h3]
    frame_out
    rw [(Memref.isWhole_whole _).read_unread]
    exact add_at m c t _ y
  · rw [outsAt0_B m c t h (by omega) h3]
    frame_out
    rw [(Memref.isWhole_whole _).read_unread]
    exact add_at m c t _ y

/-- What goes out is what the buffer holds. -/
theorem sent (h : t.val % 4 = 3) (y : S1024x1024.Idx) : (outsAt0 m c t.val t.isLt).1 y = (outsAt0 m c t.val t.isLt).2 y := by
  have small : t.val < 4 := t.isLt
  rw [outsAt0_C m c t (by omega) (by omega) h]
  frame_out
  unfold_payloads
  rfl

/-- The buffer after the fourth of four points. -/
theorem whole (h : t.val % 4 = 3) (r : Fin 1024) (d : Fin 1024) :
    (outsAt0 m c t.val t.isLt).2 (ix2 r d) = ∑ s : Fin 8192, X m c (ix2 s r) * DH m c (ix2 s (colAt t d)) := by
  rw [Pipeline.eq_sum_fin_of_reset_step_apply_of_flush (M := EReal) (fun n hn y => (outsAt0 m c n hn).2 y) 4 (fun _ => 0) (term m c)
    (fun t h y => (first m c t h y).trans (zero_add _).symm) (fun t h y => next m c t h y) t h (ix2 r d), zero_add]
  refine Eq.trans (Finset.sum_congr rfl fun s _ => Finset.sum_congr rfl fun k _ => ?_)
    (Fin.sum_mul_add_fin 4 2048 (fun s => X m c (ix2 s r) * DH m c (ix2 s (colAt t d))) rfl)
  have hr (hn) : rowAt ⟨4 * (t.val / 4) + s.val, hn⟩ k = ⟨s.val * 2048 + k.val, by omega⟩ := Fin.ext (by simp only [rowAt]; omega)
  have hc (hn) : colAt ⟨4 * (t.val / 4) + s.val, hn⟩ d = colAt t d := Fin.ext (by simp only [colAt]; omega)
  show X m c (ix2 (rowAt ⟨4 * (t.val / 4) + s.val, _⟩ k) r) * DH m c (ix2 (rowAt ⟨4 * (t.val / 4) + s.val, _⟩ k) (colAt ⟨4 * (t.val / 4) + s.val, _⟩ d)) = _
  rw [hr, hc]

/-- The kernel's array, at a row and a column. -/
def product : S1024x1024.Idx → Elt Ideal .bf16 := fun y => (∑ s : Fin 8192, X m c (ix2 s (y 0)) * DH m c (ix2 s (y 1)) : EReal)

theorem product_end : (dats m 0 c).arrAt 2 cfg0.N = product m c := by
  refine (dats m 0 c).arrAt_eq_of_covers 2 _ (by decide +kernel) fun t hf y => ?_
  blk_simp
  rw [after0_2]
  have h := (flush0_2 t).mp hf
  refine (sent m c t h y).trans ?_
  have e : (win0_2.blk t).view.emb y = ix2 (y 0) (colAt t (y 1)) := by
    blk_ext [place2 t, colAt]
  rw [e]
  have w := whole m c t h (y 0) (y 1)
  rw [← eq_ix2 y] at w
  exact w

end Cert.SquareWeightIdeal.Product

namespace Cert.SquareWeightReferenceIdeal.Product

open Cert.SquareWeightReferenceIdeal Cert.SquareWeightReferenceIdeal.Read Idealize.ShloMosaic

/-- The reference's array is the same product, its factors the other way round. -/
theorem reference_eq (x : S8192x1024.Idx → EReal) (dh : S8192x1024.Idx → EReal) :
    val_main_v6 (F := Ideal) x dh = fun y => (∑ s : Fin 8192, x (ix2 s (y 0)) * dh (ix2 s (y 1)) : EReal) := by
  funext y
  rw [val_main_v6_apply, val_main_v5_apply, val_main_v4_apply]
  refine Finset.sum_congr rfl fun s _ => (mul_comm (G := EReal) _ _).trans (congrArg₂ (· * ·) (congrArg x ?_) (congrArg dh ?_)) <;> exact eq_ix2 _

end Cert.SquareWeightReferenceIdeal.Product

end
-- ==== Proof.SquareInput.lean ====
/-
  THE DERIVATIVE BY THE INPUT OF A SQUARE WEIGHT, such as an attention's last: the derivative by the product, times the weight transposed. Each point computes 1024 rows whole.
-/
module

public import proofs.«01_k».proof.Proof.Gen.SquareInputIdeal.Value
public import proofs.«01_k».proof.Proof.Gen.SquareInputReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.SquareInputIdeal.Product

open Cert.SquareInputIdeal Cert.SquareInputIdeal.Gen Cert.Table Idealize.ShloMosaic Idealize.ShloMosaic.TcCoe Idealize.SL.Sem

theorem rows_apply (x : S1024x1024.Idx → Elt Ideal .bf16) (w : S1024x1024.Idx → Elt Ideal .bf16) (r : Fin 1024) (d : Fin 1024) :
    k0_pay1 x w (ix2 r d) = ∑ k : Fin 1024, x (ix2 r k) * w (ix2 d k) := by
  unfold_payloads
  pointwise [dot_S1024x1024_S1024x1024_S1024x1024_1_1_0_0_n_n]

variable (m : (ℓ : Loc nD τ sig) → Buf (Elt Ideal) ℓ) (c : Dev nD)

/-- The derivative by the product. -/
abbrev DZ : S8192x1024.Idx → EReal := m ((c.tc : Thread nD τ).loc main_arg0)

/-- The weight. -/
abbrev W : S1024x1024.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_dz (r : Fin 1024) (k : Fin 1024) : iblk m c 0 t (ix2 r k) = DZ m c (ix2 (rowAt t r) k) := by
  blk_ext [iblk, V, place0 t, rowAt]

theorem iblk_w (d : Fin 1024) (k : Fin 1024) : iblk m c 1 t (ix2 d k) = W m c (ix2 d k) := by
  blk_ext [iblk, V, place1 t]

/-- The kernel's array, at a row and a column. -/
def product : S8192x1024.Idx → Elt Ideal .bf16 := fun y => (∑ k : Fin 1024, DZ m c (ix2 (y 0) k) * W m c (ix2 (y 1) k) : EReal)

theorem rows_at (y : S1024x1024.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_dz m c t _ k) (iblk_w m c t _ k))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.SquareInputIdeal.Product

namespace Cert.SquareInputReferenceIdeal.Product

open Cert.SquareInputReferenceIdeal Cert.SquareInputReferenceIdeal.Read Idealize.ShloMosaic

/-- The reference's array is the same product. -/
theorem reference_eq (dz : S8192x1024.Idx → EReal) (w : S1024x1024.Idx → EReal) :
    val_main_v5 (F := Ideal) dz w = fun y => (∑ k : Fin 1024, dz (ix2 (y 0) k) * w (ix2 (y 1) k) : EReal) := by
  funext y
  rw [val_main_v5_apply, val_main_v4_apply]
  refine Finset.sum_congr rfl fun k _ => congrArg₂ (· * ·) (congrArg dz ?_) (congrArg w ?_) <;> exact eq_ix2 _

end Cert.SquareInputReferenceIdeal.Product

end
-- ==== Proof.WindowWeight.lean ====
/-
  THE DERIVATIVE BY THE WINDOWED ATTENTION'S FIRST WEIGHT: the product of the sublayer's input, transposed, and the derivative by queries, keys and values. The grid walks over four
  blocks of 2048 positions: a buffer holds the sum so far, and goes out after the fourth, as in `UpWeight`.
-/
module

public import proofs.«01_k».proof.Proof.Gen.WindowWeightIdeal.Value
public import proofs.«01_k».proof.Proof.Gen.WindowWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.WindowWeightIdeal.Product

open Cert.WindowWeightIdeal Cert.WindowWeightIdeal.Gen Cert.Table Idealize.ShloMosaic Idealize.ShloMosaic.TcCoe Idealize.SL.Sem

/-! ### One point -/

/-- What the first of four points stores. -/
theorem start_apply (x : S2048x1024.Idx → Elt Ideal .bf16) (y : S2048x1536.Idx → Elt Ideal .bf16) (r : Fin 1024) (d : Fin 1536) :
    k0_pay2 x y (ix2 r d) = ∑ s : Fin 2048, x (ix2 s r) * y (ix2 s d) := by
  unfold_payloads
  pointwise [dot_S2048x1024_S2048x1536_S1024x1536_0_0_1_1_n_n]

/-- What a later point stores. -/
theorem add_apply (x : S2048x1024.Idx → Elt Ideal .bf16) (y : S2048x1536.Idx → Elt Ideal .bf16) (a : S1024x1536.Idx → Elt Ideal .f32) (r : Fin 1024) (d : Fin 1536) :
    k0_pay3 x y a (ix2 r d) = a (ix2 r d) + ∑ s : Fin 2048, x (ix2 s r) * y (ix2 s d) := by
  unfold_payloads
  pointwise [dot_S2048x1024_S2048x1536_S1024x1536_0_0_1_1_n_n]

variable (m : (ℓ : Loc nD τ sig) → Buf (Elt Ideal) ℓ) (c : Dev nD)

/-- The sublayer's input. -/
abbrev X : S8192x1024.Idx → EReal := m ((c.tc : Thread nD τ).loc main_arg0)

/-- The derivative by queries, keys and values. -/
abbrev DH : S8192x1536.Idx → EReal := m ((c.tc : Thread nD τ).loc main_arg1)

variable (t : Fin cfg0.N)

/-- The array's row that is row `r` of the block at hand. -/
def rowAt (r : Fin 2048) : Fin 8192 := ⟨t.val % 4 * 2048 + r.val, by omega⟩

/-- The array's column that is column `d` of the block at hand. -/
def colAt (d : Fin 1536) : Fin 1536 := ⟨t.val / 4 * 1536 + d.val, by have : t.val < 4 := t.isLt; omega⟩

theorem place0 : ∀ t : Fin cfg0.N, win0_0.index t 0 = t.val % 4 ∧ win0_0.index t 1 = 0 :=
  (by decide +kernel : ∀ t : Fin grid0.N, win0_0.index t 0 = t.val % 4 ∧ win0_0.index t 1 = 0)

theorem place1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem place2 : ∀ t : Fin cfg0.N, win0_2.index t 0 = 0 ∧ win0_2.index t 1 = t.val / 4 :=
  (by decide +kernel : ∀ t : Fin grid0.N, win0_2.index t 0 = 0 ∧ win0_2.index t 1 = t.val / 4)

theorem iblk_x (s : Fin 2048) (r : Fin 1024) : iblk m c 0 t (ix2 s r) = X m c (ix2 (rowAt t s) r) := by
  blk_ext [iblk, V, place0 t, rowAt]

theorem iblk_dh (s : Fin 2048) (d : Fin 1536) : iblk m c 1 t (ix2 s d) = DH m c (ix2 (rowAt t s) (colAt t d)) := by
  blk_ext [iblk, V, place1 t, rowAt, colAt]

/-- What a point adds. -/
def term (y : S1024x1536.Idx) : EReal := ∑ s : Fin 2048, X m c (ix2 (rowAt t s) (y 0)) * DH m c (ix2 (rowAt t s) (colAt t (y 1)))

theorem start_at (y : S1024x1536.Idx) : k0_pay2 (F := Ideal) (iblk m c 0 t) (iblk m c 1 t) y = term m c t y := by
  rw [eq_ix2 y]
  exact (start_apply _ _ _ _).trans (Finset.sum_congr rfl fun s _ => congrArg₂ (· * ·) (iblk_x m c t s _) (iblk_dh m c t s _))

theorem add_at (a : S1024x1536.Idx → Elt Ideal .f32) (y : S1024x1536.Idx) : k0_pay3 (F := Ideal) (iblk m c 0 t) (iblk m c 1 t) a y = a y + term m c t y := by
  rw [eq_ix2 y]
  exact (add_apply _ _ _ _ _).trans (congrArg (a _ + ·) (Finset.sum_congr rfl fun s _ => congrArg₂ (· * ·) (iblk_x m c t s _) (iblk_dh m c t s _)))

theorem first (h : t.val % 4 = 0) (y : S1024x1536.Idx) : (outsAt0 m c t.val t.isLt).2 y = term m c t y := by
  have small : t.val < 4 := t.isLt
  rw [outsAt0_A m c t h (by omega) (by omega)]
  frame_out
  exact start_at m c t y

theorem next (h : ¬t.val % 4 = 0) (y : S1024x1536.Idx) :
    (outsAt0 m c t.val t.isLt).2 y = (outsAt0 m c (t.val - 1) (Nat.lt_of_le_of_lt (Nat.sub_le _ _) t.isLt)).2 y + term m c t y := by
  have small : t.val < 4 := t.isLt
  by_cases h3 : t.val % 4 = 3
  · rw [outsAt0_C m c t h (by omega) h3]
    frame_out
    rw [(Memref.isWhole_whole _).read_unread]
    exact add_at m c t _ y
  · rw [outsAt0_B m c t h (by omega) h3]
    frame_out
    rw [(Memref.isWhole_whole _).read_unread]
    exact add_at m c t _ y

/-- What goes out is what the buffer holds. -/
theorem sent (h : t.val % 4 = 3) (y : S1024x1536.Idx) : (outsAt0 m c t.val t.isLt).1 y = (outsAt0 m c t.val t.isLt).2 y := by
  have small : t.val < 4 := t.isLt
  rw [outsAt0_C m c t (by omega) (by omega) h]
  frame_out
  unfold_payloads
  rfl

/-- The buffer after the fourth of four points. -/
theorem whole (h : t.val % 4 = 3) (r : Fin 1024) (d : Fin 1536) :
    (outsAt0 m c t.val t.isLt).2 (ix2 r d) = ∑ s : Fin 8192, X m c (ix2 s r) * DH m c (ix2 s (colAt t d)) := by
  rw [Pipeline.eq_sum_fin_of_reset_step_apply_of_flush (M := EReal) (fun n hn y => (outsAt0 m c n hn).2 y) 4 (fun _ => 0) (term m c)
    (fun t h y => (first m c t h y).trans (zero_add _).symm) (fun t h y => next m c t h y) t h (ix2 r d), zero_add]
  refine Eq.trans (Finset.sum_congr rfl fun s _ => Finset.sum_congr rfl fun k _ => ?_)
    (Fin.sum_mul_add_fin 4 2048 (fun s => X m c (ix2 s r) * DH m c (ix2 s (colAt t d))) rfl)
  have hr (hn) : rowAt ⟨4 * (t.val / 4) + s.val, hn⟩ k = ⟨s.val * 2048 + k.val, by omega⟩ := Fin.ext (by simp only [rowAt]; omega)
  have hc (hn) : colAt ⟨4 * (t.val / 4) + s.val, hn⟩ d = colAt t d := Fin.ext (by simp only [colAt]; omega)
  show X m c (ix2 (rowAt ⟨4 * (t.val / 4) + s.val, _⟩ k) r) * DH m c (ix2 (rowAt ⟨4 * (t.val / 4) + s.val, _⟩ k) (colAt ⟨4 * (t.val / 4) + s.val, _⟩ d)) = _
  rw [hr, hc]

/-- The kernel's array, at a row and a column. -/
def product : S1024x1536.Idx → Elt Ideal .bf16 := fun y => (∑ s : Fin 8192, X m c (ix2 s (y 0)) * DH m c (ix2 s (y 1)) : EReal)

theorem product_end : (dats m 0 c).arrAt 2 cfg0.N = product m c := by
  refine (dats m 0 c).arrAt_eq_of_covers 2 _ (by decide +kernel) fun t hf y => ?_
  blk_simp
  rw [after0_2]
  have h := (flush0_2 t).mp hf
  refine (sent m c t h y).trans ?_
  have e : (win0_2.blk t).view.emb y = ix2 (y 0) (colAt t (y 1)) := by
    blk_ext [place2 t, colAt]
  rw [e]
  have w := whole m c t h (y 0) (y 1)
  rw [← eq_ix2 y] at w
  exact w

end Cert.WindowWeightIdeal.Product

namespace Cert.WindowWeightReferenceIdeal.Product

open Cert.WindowWeightReferenceIdeal Cert.WindowWeightReferenceIdeal.Read Idealize.ShloMosaic

/-- The reference's array is the same product, its factors the other way round. -/
theorem reference_eq (x : S8192x1024.Idx → EReal) (dh : S8192x1536.Idx → EReal) :
    val_main_v6 (F := Ideal) x dh = fun y => (∑ s : Fin 8192, x (ix2 s (y 0)) * dh (ix2 s (y 1)) : EReal) := by
  funext y
  rw [val_main_v6_apply, val_main_v5_apply, val_main_v4_apply]
  refine Finset.sum_congr rfl fun s _ => (mul_comm (G := EReal) _ _).trans (congrArg₂ (· * ·) (congrArg x ?_) (congrArg dh ?_)) <;> exact eq_ix2 _

end Cert.WindowWeightReferenceIdeal.Product

end
-- ==== Proof.RecurrenceWeight.lean ====
/-
  THE DERIVATIVE BY THE RECURRENCE'S FIRST WEIGHT: the product of the sublayer's input, transposed, and the derivative by the gate and the recurrence's input. The grid walks over four
  blocks of 2048 positions: a buffer holds the sum so far, and goes out after the fourth, as in `UpWeight`.
-/
module

public import proofs.«01_k».proof.Proof.Gen.RecurrenceWeightIdeal.Value
public import proofs.«01_k».proof.Proof.Gen.RecurrenceWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.RecurrenceWeightIdeal.Product

open Cert.RecurrenceWeightIdeal Cert.RecurrenceWeightIdeal.Gen Cert.Table Idealize.ShloMosaic Idealize.ShloMosaic.TcCoe Idealize.SL.Sem

/-! ### One point -/

/-- What the first of four points stores. -/
theorem start_apply (x : S2048x1024.Idx → Elt Ideal .bf16) (y : S2048x2048.Idx → Elt Ideal .bf16) (r : Fin 1024) (d : Fin 2048) :
    k0_pay2 x y (ix2 r d) = ∑ s : Fin 2048, x (ix2 s r) * y (ix2 s d) := by
  unfold_payloads
  pointwise [dot_S2048x1024_S2048x2048_S1024x2048_0_0_1_1_n_n]

/-- What a later point stores. -/
theorem add_apply (x : S2048x1024.Idx → Elt Ideal .bf16) (y : S2048x2048.Idx → Elt Ideal .bf16) (a : S1024x2048.Idx → Elt Ideal .f32) (r : Fin 1024) (d : Fin 2048) :
    k0_pay3 x y a (ix2 r d) = a (ix2 r d) + ∑ s : Fin 2048, x (ix2 s r) * y (ix2 s d) := by
  unfold_payloads
  pointwise [dot_S2048x1024_S2048x2048_S1024x2048_0_0_1_1_n_n]

variable (m : (ℓ : Loc nD τ sig) → Buf (Elt Ideal) ℓ) (c : Dev nD)

/-- The sublayer's input. -/
abbrev X : S8192x1024.Idx → EReal := m ((c.tc : Thread nD τ).loc main_arg0)

/-- The derivative by the gate and the recurrence's input. -/
abbrev DH : S8192x2048.Idx → EReal := m ((c.tc : Thread nD τ).loc main_arg1)

variable (t : Fin cfg0.N)

/-- The array's row that is row `r` of the block at hand. -/
def rowAt (r : Fin 2048) : Fin 8192 := ⟨t.val % 4 * 2048 + r.val, by omega⟩

/-- The array's column that is column `d` of the block at hand. -/
def colAt (d : Fin 2048) : Fin 2048 := ⟨t.val / 4 * 2048 + d.val, by have : t.val < 4 := t.isLt; omega⟩

theorem place0 : ∀ t : Fin cfg0.N, win0_0.index t 0 = t.val % 4 ∧ win0_0.index t 1 = 0 :=
  (by decide +kernel : ∀ t : Fin grid0.N, win0_0.index t 0 = t.val % 4 ∧ win0_0.index t 1 = 0)

theorem place1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem place2 : ∀ t : Fin cfg0.N, win0_2.index t 0 = 0 ∧ win0_2.index t 1 = t.val / 4 :=
  (by decide +kernel : ∀ t : Fin grid0.N, win0_2.index t 0 = 0 ∧ win0_2.index t 1 = t.val / 4)

theorem iblk_x (s : Fin 2048) (r : Fin 1024) : iblk m c 0 t (ix2 s r) = X m c (ix2 (rowAt t s) r) := by
  blk_ext [iblk, V, place0 t, rowAt]

theorem iblk_dh (s : Fin 2048) (d : Fin 2048) : iblk m c 1 t (ix2 s d) = DH m c (ix2 (rowAt t s) (colAt t d)) := by
  blk_ext [iblk, V, place1 t, rowAt, colAt]

/-- What a point adds. -/
def term (y : S1024x2048.Idx) : EReal := ∑ s : Fin 2048, X m c (ix2 (rowAt t s) (y 0)) * DH m c (ix2 (rowAt t s) (colAt t (y 1)))

theorem start_at (y : S1024x2048.Idx) : k0_pay2 (F := Ideal) (iblk m c 0 t) (iblk m c 1 t) y = term m c t y := by
  rw [eq_ix2 y]
  exact (start_apply _ _ _ _).trans (Finset.sum_congr rfl fun s _ => congrArg₂ (· * ·) (iblk_x m c t s _) (iblk_dh m c t s _))

theorem add_at (a : S1024x2048.Idx → Elt Ideal .f32) (y : S1024x2048.Idx) : k0_pay3 (F := Ideal) (iblk m c 0 t) (iblk m c 1 t) a y = a y + term m c t y := by
  rw [eq_ix2 y]
  exact (add_apply _ _ _ _ _).trans (congrArg (a _ + ·) (Finset.sum_congr rfl fun s _ => congrArg₂ (· * ·) (iblk_x m c t s _) (iblk_dh m c t s _)))

theorem first (h : t.val % 4 = 0) (y : S1024x2048.Idx) : (outsAt0 m c t.val t.isLt).2 y = term m c t y := by
  have small : t.val < 4 := t.isLt
  rw [outsAt0_A m c t h (by omega) (by omega)]
  frame_out
  exact start_at m c t y

theorem next (h : ¬t.val % 4 = 0) (y : S1024x2048.Idx) :
    (outsAt0 m c t.val t.isLt).2 y = (outsAt0 m c (t.val - 1) (Nat.lt_of_le_of_lt (Nat.sub_le _ _) t.isLt)).2 y + term m c t y := by
  have small : t.val < 4 := t.isLt
  by_cases h3 : t.val % 4 = 3
  · rw [outsAt0_C m c t h (by omega) h3]
    frame_out
    rw [(Memref.isWhole_whole _).read_unread]
    exact add_at m c t _ y
  · rw [outsAt0_B m c t h (by omega) h3]
    frame_out
    rw [(Memref.isWhole_whole _).read_unread]
    exact add_at m c t _ y

/-- What goes out is what the buffer holds. -/
theorem sent (h : t.val % 4 = 3) (y : S1024x2048.Idx) : (outsAt0 m c t.val t.isLt).1 y = (outsAt0 m c t.val t.isLt).2 y := by
  have small : t.val < 4 := t.isLt
  rw [outsAt0_C m c t (by omega) (by omega) h]
  frame_out
  unfold_payloads
  rfl

/-- The buffer after the fourth of four points. -/
theorem whole (h : t.val % 4 = 3) (r : Fin 1024) (d : Fin 2048) :
    (outsAt0 m c t.val t.isLt).2 (ix2 r d) = ∑ s : Fin 8192, X m c (ix2 s r) * DH m c (ix2 s (colAt t d)) := by
  rw [Pipeline.eq_sum_fin_of_reset_step_apply_of_flush (M := EReal) (fun n hn y => (outsAt0 m c n hn).2 y) 4 (fun _ => 0) (term m c)
    (fun t h y => (first m c t h y).trans (zero_add _).symm) (fun t h y => next m c t h y) t h (ix2 r d), zero_add]
  refine Eq.trans (Finset.sum_congr rfl fun s _ => Finset.sum_congr rfl fun k _ => ?_)
    (Fin.sum_mul_add_fin 4 2048 (fun s => X m c (ix2 s r) * DH m c (ix2 s (colAt t d))) rfl)
  have hr (hn) : rowAt ⟨4 * (t.val / 4) + s.val, hn⟩ k = ⟨s.val * 2048 + k.val, by omega⟩ := Fin.ext (by simp only [rowAt]; omega)
  have hc (hn) : colAt ⟨4 * (t.val / 4) + s.val, hn⟩ d = colAt t d := Fin.ext (by simp only [colAt]; omega)
  show X m c (ix2 (rowAt ⟨4 * (t.val / 4) + s.val, _⟩ k) r) * DH m c (ix2 (rowAt ⟨4 * (t.val / 4) + s.val, _⟩ k) (colAt ⟨4 * (t.val / 4) + s.val, _⟩ d)) = _
  rw [hr, hc]

/-- The kernel's array, at a row and a column. -/
def product : S1024x2048.Idx → Elt Ideal .bf16 := fun y => (∑ s : Fin 8192, X m c (ix2 s (y 0)) * DH m c (ix2 s (y 1)) : EReal)

theorem product_end : (dats m 0 c).arrAt 2 cfg0.N = product m c := by
  refine (dats m 0 c).arrAt_eq_of_covers 2 _ (by decide +kernel) fun t hf y => ?_
  blk_simp
  rw [after0_2]
  have h := (flush0_2 t).mp hf
  refine (sent m c t h y).trans ?_
  have e : (win0_2.blk t).view.emb y = ix2 (y 0) (colAt t (y 1)) := by
    blk_ext [place2 t, colAt]
  rw [e]
  have w := whole m c t h (y 0) (y 1)
  rw [← eq_ix2 y] at w
  exact w

end Cert.RecurrenceWeightIdeal.Product

namespace Cert.RecurrenceWeightReferenceIdeal.Product

open Cert.RecurrenceWeightReferenceIdeal Cert.RecurrenceWeightReferenceIdeal.Read Idealize.ShloMosaic

/-- The reference's array is the same product, its factors the other way round. -/
theorem reference_eq (x : S8192x1024.Idx → EReal) (dh : S8192x2048.Idx → EReal) :
    val_main_v6 (F := Ideal) x dh = fun y => (∑ s : Fin 8192, x (ix2 s (y 0)) * dh (ix2 s (y 1)) : EReal) := by
  funext y
  rw [val_main_v6_apply, val_main_v5_apply, val_main_v4_apply]
  refine Finset.sum_congr rfl fun s _ => (mul_comm (G := EReal) _ _).trans (congrArg₂ (· * ·) (congrArg x ?_) (congrArg dh ?_)) <;> exact eq_ix2 _

end Cert.RecurrenceWeightReferenceIdeal.Product

end
-- ==== Proof.Up.lean ====
/-
  THE FEED-FORWARD BLOCK'S FIRST PRODUCT, of the forward pass. The grid walks over four blocks of 2048 rows and, for each, four blocks of columns.
-/
module

public import proofs.«01_k».proof.Proof.Gen.UpIdeal.Value
public import proofs.«01_k».proof.Proof.Gen.UpReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.UpIdeal.Product

open Cert.UpIdeal Cert.UpIdeal.Gen Cert.Table Idealize.ShloMosaic Idealize.ShloMosaic.TcCoe Idealize.SL.Sem

theorem rows_apply (x : S2048x1024.Idx → Elt Ideal .bf16) (w : S1024x1408.Idx → Elt Ideal .bf16) (r : Fin 2048) (d : Fin 1408) :
    k0_pay1 x w (ix2 r d) = ∑ k : Fin 1024, x (ix2 r k) * w (ix2 k d) := by
  unfold_payloads
  pointwise [dot_S2048x1024_S1024x1408_S2048x1408_1_0_0_1_n_n]

variable (m : (ℓ : Loc nD τ sig) → Buf (Elt Ideal) ℓ) (c : Dev nD)

/-- The rows. -/
abbrev X : S8192x1024.Idx → EReal := m ((c.tc : Thread nD τ).loc main_arg0)

/-- The weight. -/
abbrev W : S1024x5632.Idx → EReal := m ((c.tc : Thread nD τ).loc main_arg1)

variable (t : Fin cfg0.N)

/-- The array's row that is row `r` of the block at hand. -/
def rowAt (r : Fin 2048) : Fin 8192 := ⟨t.val / 4 * 2048 + r.val, by have : t.val < 16 := t.isLt; omega⟩

/-- The weight's column that is column `d` of the block at hand. -/
def colAt (d : Fin 1408) : Fin 5632 := ⟨t.val % 4 * 1408 + d.val, by omega⟩

theorem place0 : ∀ t : Fin cfg0.N, win0_0.index t 0 = t.val / 4 ∧ win0_0.index t 1 = 0 :=
  (by decide +kernel : ∀ t : Fin grid0.N, win0_0.index t 0 = t.val / 4 ∧ win0_0.index t 1 = 0)

theorem place1 : ∀ t : Fin cfg0.N, win0_1.index t 0 = 0 ∧ win0_1.index t 1 = t.val % 4 :=
  (by decide +kernel : ∀ t : Fin grid0.N, win0_1.index t 0 = 0 ∧ win0_1.index t 1 = t.val % 4)

theorem place2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem iblk_x (r : Fin 2048) (k : Fin 1024) : iblk m c 0 t (ix2 r k) = X m c (ix2 (rowAt t r) k) := by
  blk_ext [iblk, V, place0 t, rowAt]

theorem iblk_w (k : Fin 1024) (d : Fin 1408) : iblk m c 1 t (ix2 k d) = W m c (ix2 k (colAt t d)) := by
  blk_ext [iblk, V, place1 t, colAt]

/-- The kernel's array, at a row and a column. -/
def product : S8192x5632.Idx → Elt Ideal .bf16 := fun y => (∑ k : Fin 1024, X m c (ix2 (y 0) k) * W m c (ix2 k (y 1)) : EReal)

theorem rows_at (y : S2048x1408.Idx) : k0_pay1 (F := Ideal) (iblk m c 0 t) (iblk m c 1 t) y = product m c (ix2 (rowAt t (y 0)) (colAt t (y 1))) := by
  rw [eq_ix2 y]
  exact (rows_apply _ _ _ _).trans (Finset.sum_congr rfl fun k _ => congrArg₂ (· * ·) (iblk_x m c t _ k) (iblk_w m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt, colAt]

end Cert.UpIdeal.Product

namespace Cert.UpReferenceIdeal.Product

open Cert.UpReferenceIdeal Cert.UpReferenceIdeal.Read Idealize.ShloMosaic

/-- The reference's array is the same product. -/
theorem reference_eq (x : S8192x1024.Idx → EReal) (w : S1024x5632.Idx → EReal) :
    val_main_v3 (F := Ideal) x w = fun y => (∑ k : Fin 1024, x (ix2 (y 0) k) * w (ix2 k (y 1)) : EReal) := by
  funext y
  rw [val_main_v3_apply, val_main_v2_apply]
  refine Finset.sum_congr rfl fun k _ => congrArg₂ (· * ·) (congrArg x ?_) (congrArg w ?_) <;> exact eq_ix2 _

end Cert.UpReferenceIdeal.Product

end
-- ==== Proof.Query.lean ====
/-
  THE CROSS-ATTENTION'S QUERIES, of the forward pass: a product with a square weight, 1024 rows at a time.
-/
module

public import proofs.«01_k».proof.Proof.Gen.QueryIdeal.Value
public import proofs.«01_k».proof.Proof.Gen.QueryReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.QueryIdeal.Product

open Cert.QueryIdeal Cert.QueryIdeal.Gen Cert.Table Idealize.ShloMosaic Idealize.ShloMosaic.TcCoe Idealize.SL.Sem

theorem rows_apply (x : S1024x1024.Idx → Elt Ideal .bf16) (w : S1024x1024.Idx → Elt Ideal .bf16) (r : Fin 1024) (d : Fin 1024) :
    k0_pay1 x w (ix2 r d) = ∑ k : Fin 1024, x (ix2 r k) * w (ix2 k d) := by
  unfold_payloads
  pointwise [dot_S1024x1024_S1024x1024_S1024x1024_1_0_0_1_n_n]

variable (m : (ℓ : Loc nD τ sig) → Buf (Elt Ideal) ℓ) (c : Dev nD)

/-- The rows. -/
abbrev X : S8192x1024.Idx → EReal := m ((c.tc : Thread nD τ).loc main_arg0)

/-- The weight. -/
abbrev W : S1024x1024.Idx → EReal := m ((c.tc : Thread nD τ).loc main_arg1)

variable (t : Fin cfg0.N)

/-- The array's row that is row `r` of the block at hand. -/
def rowAt (r : Fin 1024) : Fin 8192 := ⟨t.val / 1 * 1024 + r.val, by have : t.val < 8 := t.isLt; omega⟩

/-- The weight's column that is column `d` of the block at hand. -/
def colAt (d : Fin 1024) : Fin 1024 := ⟨t.val % 1 * 1024 + d.val, by omega⟩

theorem place0 : ∀ t : Fin cfg0.N, win0_0.index t 0 = t.val / 1 ∧ win0_0.index t 1 = 0 :=
  (by decide +kernel : ∀ t : Fin grid0.N, win0_0.index t 0 = t.val / 1 ∧ win0_0.index t 1 = 0)

theorem place1 : ∀ t : Fin cfg0.N, win0_1.index t 0 = 0 ∧ win0_1.index t 1 = t.val % 1 :=
  (by decide +kernel : ∀ t : Fin grid0.N, win0_1.index t 0 = 0 ∧ win0_1.index t 1 = t.val % 1)

theorem place2 : ∀ t : Fin cfg0.N, win0_2.index t 0 = t.val / 1 ∧ win0_2.index t 1 = t.val % 1 :=
  (by decide +kernel : ∀ t : Fin grid0.N, win0_2.index t 0 = t.val / 1 ∧ win0_2.index t 1 = t.val % 1)

theorem iblk_x (r : Fin 1024) (k : Fin 1024) : iblk m c 0 t (ix2 r k) = X m c (ix2 (rowAt t r) k) := by
  blk_ext [iblk, V, place0 t, rowAt]

theorem iblk_w (k : Fin 1024) (d : Fin 1024) : iblk m c 1 t (ix2 k d) = W m c (ix2 k (colAt t d)) := by
  blk_ext [iblk, V, place1 t, colAt]

/-- The kernel's array, at a row and a column. -/
def product : S8192x1024.Idx → Elt Ideal .bf16 := fun y => (∑ k : Fin 1024, X m c (ix2 (y 0) k) * W m c (ix2 k (y 1)) : EReal)

theorem rows_at (y : S1024x1024.Idx) : k0_pay1 (F := Ideal) (iblk m c 0 t) (iblk m c 1 t) y = product m c (ix2 (rowAt t (y 0)) (colAt t (y 1))) := by
  rw [eq_ix2 y]
  exact (rows_apply _ _ _ _).trans (Finset.sum_congr rfl fun k _ => congrArg₂ (· * ·) (iblk_x m c t _ k) (iblk_w m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt, colAt]

end Cert.QueryIdeal.Product

namespace Cert.QueryReferenceIdeal.Product

open Cert.QueryReferenceIdeal Cert.QueryReferenceIdeal.Read Idealize.ShloMosaic

/-- The reference's array is the same product. -/
theorem reference_eq (x : S8192x1024.Idx → EReal) (w : S1024x1024.Idx → EReal) :
    val_main_v3 (F := Ideal) x w = fun y => (∑ k : Fin 1024, x (ix2 (y 0) k) * w (ix2 k (y 1)) : EReal) := by
  funext y
  rw [val_main_v3_apply, val_main_v2_apply]
  refine Finset.sum_congr rfl fun k _ => congrArg₂ (· * ·) (congrArg x ?_) (congrArg w ?_) <;> exact eq_ix2 _

end Cert.QueryReferenceIdeal.Product

end
-- ==== Proof.WindowUp.lean ====
/-
  THE WINDOWED ATTENTION'S FIRST PRODUCT, of the forward pass, 1024 rows at a time.
-/
module

public import proofs.«01_k».proof.Proof.Gen.WindowUpIdeal.Value
public import proofs.«01_k».proof.Proof.Gen.WindowUpReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.WindowUpIdeal.Product

open Cert.WindowUpIdeal Cert.WindowUpIdeal.Gen Cert.Table Idealize.ShloMosaic Idealize.ShloMosaic.TcCoe Idealize.SL.Sem

theorem rows_apply (x : S1024x1024.Idx → Elt Ideal .bf16) (w : S1024x1536.Idx → Elt Ideal .bf16) (r : Fin 1024) (d : Fin 1536) :
    k0_pay1 x w (ix2 r d) = ∑ k : Fin 1024, x (ix2 r k) * w (ix2 k d) := by
  unfold_payloads
  pointwise [dot_S1024x1024_S1024x1536_S1024x1536_1_0_0_1_n_n]

variable (m : (ℓ : Loc nD τ sig) → Buf (Elt Ideal) ℓ) (c : Dev nD)

/-- The rows. -/
abbrev X : S8192x1024.Idx → EReal := m ((c.tc : Thread nD τ).loc main_arg0)

/-- The weight. -/
abbrev W : S1024x1536.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_x (r : Fin 1024) (k : Fin 1024) : iblk m c 0 t (ix2 r k) = X m c (ix2 (rowAt t r) k) := by
  blk_ext [iblk, V, place0 t, rowAt]

theorem iblk_w (k : Fin 1024) (d : Fin 1536) : iblk m c 1 t (ix2 k d) = W m c (ix2 k d) := by
  blk_ext [iblk, V, place1 t]

/-- The kernel's array, at a row and a column. -/
def product : S8192x1536.Idx → Elt Ideal .f32 := fun y => (∑ k : Fin 1024, X m c (ix2 (y 0) k) * W m c (ix2 k (y 1)) : EReal)

theorem rows_at (y : S1024x1536.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_x m c t _ k) (iblk_w m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.WindowUpIdeal.Product

namespace Cert.WindowUpReferenceIdeal.Product

open Cert.WindowUpReferenceIdeal Cert.WindowUpReferenceIdeal.Read Idealize.ShloMosaic

/-- The reference's array is the same product. -/
theorem reference_eq (x : S8192x1024.Idx → EReal) (w : S1024x1536.Idx → EReal) :
    val_main_v2 (F := Ideal) x w = fun y => (∑ k : Fin 1024, x (ix2 (y 0) k) * w (ix2 k (y 1)) : EReal) := by
  funext y
  rw [val_main_v2_apply]
  refine Finset.sum_congr rfl fun k _ => congrArg₂ (· * ·) (congrArg x ?_) (congrArg w ?_) <;> exact eq_ix2 _

end Cert.WindowUpReferenceIdeal.Product

end
-- ==== Proof.RecurrenceUp.lean ====
/-
  THE RECURRENCE'S FIRST PRODUCT, of the forward pass, 1024 rows at a time.
-/
module

public import proofs.«01_k».proof.Proof.Gen.RecurrenceUpIdeal.Value
public import proofs.«01_k».proof.Proof.Gen.RecurrenceUpReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.RecurrenceUpIdeal.Product

open Cert.RecurrenceUpIdeal Cert.RecurrenceUpIdeal.Gen Cert.Table Idealize.ShloMosaic Idealize.ShloMosaic.TcCoe Idealize.SL.Sem

theorem rows_apply (x : S1024x1024.Idx → Elt Ideal .bf16) (w : S1024x2048.Idx → Elt Ideal .bf16) (r : Fin 1024) (d : Fin 2048) :
    k0_pay1 x w (ix2 r d) = ∑ k : Fin 1024, x (ix2 r k) * w (ix2 k d) := by
  unfold_payloads
  pointwise [dot_S1024x1024_S1024x2048_S1024x2048_1_0_0_1_n_n]

variable (m : (ℓ : Loc nD τ sig) → Buf (Elt Ideal) ℓ) (c : Dev nD)

/-- The rows. -/
abbrev X : S8192x1024.Idx → EReal := m ((c.tc : Thread nD τ).loc main_arg0)

/-- The weight. -/
abbrev W : S1024x2048.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_x (r : Fin 1024) (k : Fin 1024) : iblk m c 0 t (ix2 r k) = X m c (ix2 (rowAt t r) k) := by
  blk_ext [iblk, V, place0 t, rowAt]

theorem iblk_w (k : Fin 1024) (d : Fin 2048) : iblk m c 1 t (ix2 k d) = W m c (ix2 k d) := by
  blk_ext [iblk, V, place1 t]

/-- The kernel's array, at a row and a column. -/
def product : S8192x2048.Idx → Elt Ideal .f32 := fun y => (∑ k : Fin 1024, X m c (ix2 (y 0) k) * W m c (ix2 k (y 1)) : EReal)

theorem rows_at (y : S1024x2048.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_x m c t _ k) (iblk_w m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.RecurrenceUpIdeal.Product

namespace Cert.RecurrenceUpReferenceIdeal.Product

open Cert.RecurrenceUpReferenceIdeal Cert.RecurrenceUpReferenceIdeal.Read Idealize.ShloMosaic

/-- The reference's array is the same product. -/
theorem reference_eq (x : S8192x1024.Idx → EReal) (w : S1024x2048.Idx → EReal) :
    val_main_v2 (F := Ideal) x w = fun y => (∑ k : Fin 1024, x (ix2 (y 0) k) * w (ix2 k (y 1)) : EReal) := by
  funext y
  rw [val_main_v2_apply]
  refine Finset.sum_congr rfl fun k _ => congrArg₂ (· * ·) (congrArg x ?_) (congrArg w ?_) <;> exact eq_ix2 _

end Cert.RecurrenceUpReferenceIdeal.Product

end
-- ==== Proof.LatentDown.lean ====
/-
  THE LATENT ATTENTION'S FIRST PRODUCT, of the forward pass, 1024 rows at a time.
-/
module

public import proofs.«01_k».proof.Proof.Gen.LatentDownIdeal.Value
public import proofs.«01_k».proof.Proof.Gen.LatentDownReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.LatentDownIdeal.Product

open Cert.LatentDownIdeal Cert.LatentDownIdeal.Gen Cert.Table Idealize.ShloMosaic Idealize.ShloMosaic.TcCoe Idealize.SL.Sem

theorem rows_apply (x : S1024x1024.Idx → Elt Ideal .bf16) (w : S1024x704.Idx → Elt Ideal .bf16) (r : Fin 1024) (d : Fin 704) :
    k0_pay1 x w (ix2 r d) = ∑ k : Fin 1024, x (ix2 r k) * w (ix2 k d) := by
  unfold_payloads
  pointwise [dot_S1024x1024_S1024x704_S1024x704_1_0_0_1_n_n]

variable (m : (ℓ : Loc nD τ sig) → Buf (Elt Ideal) ℓ) (c : Dev nD)

/-- The rows. -/
abbrev X : S8192x1024.Idx → EReal := m ((c.tc : Thread nD τ).loc main_arg0)

/-- The weight. -/
abbrev W : S1024x704.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_x (r : Fin 1024) (k : Fin 1024) : iblk m c 0 t (ix2 r k) = X m c (ix2 (rowAt t r) k) := by
  blk_ext [iblk, V, place0 t, rowAt]

theorem iblk_w (k : Fin 1024) (d : Fin 704) : iblk m c 1 t (ix2 k d) = W m c (ix2 k d) := by
  blk_ext [iblk, V, place1 t]

/-- The kernel's array, at a row and a column. -/
def product : S8192x704.Idx → Elt Ideal .f32 := fun y => (∑ k : Fin 1024, X m c (ix2 (y 0) k) * W m c (ix2 k (y 1)) : EReal)

theorem rows_at (y : S1024x704.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_x m c t _ k) (iblk_w m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.LatentDownIdeal.Product

namespace Cert.LatentDownReferenceIdeal.Product

open Cert.LatentDownReferenceIdeal Cert.LatentDownReferenceIdeal.Read Idealize.ShloMosaic

/-- The reference's array is the same product. -/
theorem reference_eq (x : S8192x1024.Idx → EReal) (w : S1024x704.Idx → EReal) :
    val_main_v2 (F := Ideal) x w = fun y => (∑ k : Fin 1024, x (ix2 (y 0) k) * w (ix2 k (y 1)) : EReal) := by
  funext y
  rw [val_main_v2_apply]
  refine Finset.sum_congr rfl fun k _ => congrArg₂ (· * ·) (congrArg x ?_) (congrArg w ?_) <;> exact eq_ix2 _

end Cert.LatentDownReferenceIdeal.Product

end
-- ==== Proof.RopeUp.lean ====
/-
  THE LATENT ATTENTION'S QUERIES THAT ARE ROTATED, of the forward pass, 1024 rows at a time.
-/
module

public import proofs.«01_k».proof.Proof.Gen.RopeUpIdeal.Value
public import proofs.«01_k».proof.Proof.Gen.RopeUpReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.RopeUpIdeal.Product

open Cert.RopeUpIdeal Cert.RopeUpIdeal.Gen Cert.Table Idealize.ShloMosaic Idealize.ShloMosaic.TcCoe Idealize.SL.Sem

theorem rows_apply (x : S1024x384.Idx → Elt Ideal .bf16) (w : S384x512.Idx → Elt Ideal .bf16) (r : Fin 1024) (d : Fin 512) :
    k0_pay1 x w (ix2 r d) = ∑ k : Fin 384, x (ix2 r k) * w (ix2 k d) := by
  unfold_payloads
  pointwise [dot_S1024x384_S384x512_S1024x512_1_0_0_1_n_n]

variable (m : (ℓ : Loc nD τ sig) → Buf (Elt Ideal) ℓ) (c : Dev nD)

/-- The rows. -/
abbrev X : S8192x384.Idx → EReal := m ((c.tc : Thread nD τ).loc main_arg0)

/-- The weight. -/
abbrev W : S384x512.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_x (r : Fin 1024) (k : Fin 384) : iblk m c 0 t (ix2 r k) = X m c (ix2 (rowAt t r) k) := by
  blk_ext [iblk, V, place0 t, rowAt]

theorem iblk_w (k : Fin 384) (d : Fin 512) : iblk m c 1 t (ix2 k d) = W m c (ix2 k d) := by
  blk_ext [iblk, V, place1 t]

/-- The kernel's array, at a row and a column. -/
def product : S8192x512.Idx → Elt Ideal .f32 := fun y => (∑ k : Fin 384, X m c (ix2 (y 0) k) * W m c (ix2 k (y 1)) : EReal)

theorem rows_at (y : S1024x512.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_x m c t _ k) (iblk_w m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.RopeUpIdeal.Product

namespace Cert.RopeUpReferenceIdeal.Product

open Cert.RopeUpReferenceIdeal Cert.RopeUpReferenceIdeal.Read Idealize.ShloMosaic

/-- The reference's array is the same product. -/
theorem reference_eq (x : S8192x384.Idx → EReal) (w : S384x512.Idx → EReal) :
    val_main_v2 (F := Ideal) x w = fun y => (∑ k : Fin 384, x (ix2 (y 0) k) * w (ix2 k (y 1)) : EReal) := by
  funext y
  rw [val_main_v2_apply]
  refine Finset.sum_congr rfl fun k _ => congrArg₂ (· * ·) (congrArg x ?_) (congrArg w ?_) <;> exact eq_ix2 _

end Cert.RopeUpReferenceIdeal.Product

end
-- ==== Proof.NopeUp.lean ====
/-
  THE LATENT ATTENTION'S QUERIES THAT ARE NOT ROTATED, of the forward pass, 1024 rows at a time.
-/
module

public import proofs.«01_k».proof.Proof.Gen.NopeUpIdeal.Value
public import proofs.«01_k».proof.Proof.Gen.NopeUpReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.NopeUpIdeal.Product

open Cert.NopeUpIdeal Cert.NopeUpIdeal.Gen Cert.Table Idealize.ShloMosaic Idealize.ShloMosaic.TcCoe Idealize.SL.Sem

theorem rows_apply (x : S1024x384.Idx → Elt Ideal .bf16) (w : S384x1024.Idx → Elt Ideal .bf16) (r : Fin 1024) (d : Fin 1024) :
    k0_pay1 x w (ix2 r d) = ∑ k : Fin 384, x (ix2 r k) * w (ix2 k d) := by
  unfold_payloads
  pointwise [dot_S1024x384_S384x1024_S1024x1024_1_0_0_1_n_n]

variable (m : (ℓ : Loc nD τ sig) → Buf (Elt Ideal) ℓ) (c : Dev nD)

/-- The rows. -/
abbrev X : S8192x384.Idx → EReal := m ((c.tc : Thread nD τ).loc main_arg0)

/-- The weight. -/
abbrev W : S384x1024.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_x (r : Fin 1024) (k : Fin 384) : iblk m c 0 t (ix2 r k) = X m c (ix2 (rowAt t r) k) := by
  blk_ext [iblk, V, place0 t, rowAt]

theorem iblk_w (k : Fin 384) (d : Fin 1024) : iblk m c 1 t (ix2 k d) = W m c (ix2 k d) := by
  blk_ext [iblk, V, place1 t]

/-- The kernel's array, at a row and a column. -/
def product : S8192x1024.Idx → Elt Ideal .bf16 := fun y => (∑ k : Fin 384, X m c (ix2 (y 0) k) * W m c (ix2 k (y 1)) : EReal)

theorem rows_at (y : S1024x1024.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_x m c t _ k) (iblk_w m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.NopeUpIdeal.Product

namespace Cert.NopeUpReferenceIdeal.Product

open Cert.NopeUpReferenceIdeal Cert.NopeUpReferenceIdeal.Read Idealize.ShloMosaic

/-- The reference's array is the same product. -/
theorem reference_eq (x : S8192x384.Idx → EReal) (w : S384x1024.Idx → EReal) :
    val_main_v3 (F := Ideal) x w = fun y => (∑ k : Fin 384, x (ix2 (y 0) k) * w (ix2 k (y 1)) : EReal) := by
  funext y
  rw [val_main_v3_apply, val_main_v2_apply]
  refine Finset.sum_congr rfl fun k _ => congrArg₂ (· * ·) (congrArg x ?_) (congrArg w ?_) <;> exact eq_ix2 _

end Cert.NopeUpReferenceIdeal.Product

end
-- ==== Proof.KeyValueUp.lean ====
/-
  THE LATENT ATTENTION'S KEYS AND VALUES, of the forward pass, 1024 rows at a time.
-/
module

public import proofs.«01_k».proof.Proof.Gen.KeyValueUpIdeal.Value
public import proofs.«01_k».proof.Proof.Gen.KeyValueUpReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.KeyValueUpIdeal.Product

open Cert.KeyValueUpIdeal Cert.KeyValueUpIdeal.Gen Cert.Table Idealize.ShloMosaic Idealize.ShloMosaic.TcCoe Idealize.SL.Sem

theorem rows_apply (x : S1024x256.Idx → Elt Ideal .bf16) (w : S256x2048.Idx → Elt Ideal .bf16) (r : Fin 1024) (d : Fin 2048) :
    k0_pay1 x w (ix2 r d) = ∑ k : Fin 256, x (ix2 r k) * w (ix2 k d) := by
  unfold_payloads
  pointwise [dot_S1024x256_S256x2048_S1024x2048_1_0_0_1_n_n]

variable (m : (ℓ : Loc nD τ sig) → Buf (Elt Ideal) ℓ) (c : Dev nD)

/-- The rows. -/
abbrev X : S8192x256.Idx → EReal := m ((c.tc : Thread nD τ).loc main_arg0)

/-- The weight. -/
abbrev W : S256x2048.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_x (r : Fin 1024) (k : Fin 256) : iblk m c 0 t (ix2 r k) = X m c (ix2 (rowAt t r) k) := by
  blk_ext [iblk, V, place0 t, rowAt]

theorem iblk_w (k : Fin 256) (d : Fin 2048) : iblk m c 1 t (ix2 k d) = W m c (ix2 k d) := by
  blk_ext [iblk, V, place1 t]

/-- The kernel's array, at a row and a column. -/
def product : S8192x2048.Idx → Elt Ideal .bf16 := fun y => (∑ k : Fin 256, X m c (ix2 (y 0) k) * W m c (ix2 k (y 1)) : EReal)

theorem rows_at (y : S1024x2048.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_x m c t _ k) (iblk_w m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.KeyValueUpIdeal.Product

namespace Cert.KeyValueUpReferenceIdeal.Product

open Cert.KeyValueUpReferenceIdeal Cert.KeyValueUpReferenceIdeal.Read Idealize.ShloMosaic

/-- The reference's array is the same product. -/
theorem reference_eq (x : S8192x256.Idx → EReal) (w : S256x2048.Idx → EReal) :
    val_main_v3 (F := Ideal) x w = fun y => (∑ k : Fin 256, x (ix2 (y 0) k) * w (ix2 k (y 1)) : EReal) := by
  funext y
  rw [val_main_v3_apply, val_main_v2_apply]
  refine Finset.sum_congr rfl fun k _ => congrArg₂ (· * ·) (congrArg x ?_) (congrArg w ?_) <;> exact eq_ix2 _

end Cert.KeyValueUpReferenceIdeal.Product

end
-- ==== Proof.MemoryUp.lean ====
/-
  THE MEMORY'S KEYS AND VALUES, of the forward pass, in one point.
-/
module

public import proofs.«01_k».proof.Proof.Gen.MemoryUpIdeal.Value
public import proofs.«01_k».proof.Proof.Gen.MemoryUpReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.MemoryUpIdeal.Product

open Cert.MemoryUpIdeal Cert.MemoryUpIdeal.Gen Cert.Table Idealize.ShloMosaic Idealize.ShloMosaic.TcCoe Idealize.SL.Sem

theorem rows_apply (x : S256x1024.Idx → Elt Ideal .bf16) (w : S1024x2048.Idx → Elt Ideal .bf16) (r : Fin 256) (d : Fin 2048) :
    k0_pay1 x w (ix2 r d) = ∑ k : Fin 1024, x (ix2 r k) * w (ix2 k d) := by
  unfold_payloads
  pointwise [dot_S256x1024_S1024x2048_S256x2048_1_0_0_1_n_n]

variable (m : (ℓ : Loc nD τ sig) → Buf (Elt Ideal) ℓ) (c : Dev nD)

/-- The memory. -/
abbrev X : S256x1024.Idx → EReal := m ((c.tc : Thread nD τ).loc main_arg0)

/-- The weight. -/
abbrev W : S1024x2048.Idx → EReal := m ((c.tc : Thread nD τ).loc main_arg1)

variable (t : Fin cfg0.N)

/-- The array's row that is row `r` of the block at hand. -/
def rowAt (r : Fin 256) : Fin 256 := ⟨t.val * 256 + r.val, by have : t.val < 1 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_x (r : Fin 256) (k : Fin 1024) : iblk m c 0 t (ix2 r k) = X m c (ix2 (rowAt t r) k) := by
  blk_ext [iblk, V, place0 t, rowAt]

theorem iblk_w (k : Fin 1024) (d : Fin 2048) : iblk m c 1 t (ix2 k d) = W m c (ix2 k d) := by
  blk_ext [iblk, V, place1 t]

/-- The kernel's array, at a row and a column. -/
def product : S256x2048.Idx → Elt Ideal .bf16 := fun y => (∑ k : Fin 1024, X m c (ix2 (y 0) k) * W m c (ix2 k (y 1)) : EReal)

theorem rows_at (y : S256x2048.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_x m c t _ k) (iblk_w m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.MemoryUpIdeal.Product

namespace Cert.MemoryUpReferenceIdeal.Product

open Cert.MemoryUpReferenceIdeal Cert.MemoryUpReferenceIdeal.Read Idealize.ShloMosaic

/-- The reference's array is the same product. -/
theorem reference_eq (x : S256x1024.Idx → EReal) (w : S1024x2048.Idx → EReal) :
    val_main_v3 (F := Ideal) x w = fun y => (∑ k : Fin 1024, x (ix2 (y 0) k) * w (ix2 k (y 1)) : EReal) := by
  funext y
  rw [val_main_v3_apply, val_main_v2_apply]
  refine Finset.sum_congr rfl fun k _ => congrArg₂ (· * ·) (congrArg x ?_) (congrArg w ?_) <;> exact eq_ix2 _

end Cert.MemoryUpReferenceIdeal.Product

end
-- ==== Proof.WindowInput.lean ====
/-
  THE DERIVATIVE BY THE FIRST LAYER'S INPUT, through the windowed attention's first product: the derivative by queries, keys and values, times the weight transposed.
-/
module

public import proofs.«01_k».proof.Proof.Gen.WindowInputIdeal.Value
public import proofs.«01_k».proof.Proof.Gen.WindowInputReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.WindowInputIdeal.Product

open Cert.WindowInputIdeal Cert.WindowInputIdeal.Gen Cert.Table Idealize.ShloMosaic Idealize.ShloMosaic.TcCoe Idealize.SL.Sem

theorem rows_apply (x : S1024x1536.Idx → Elt Ideal .bf16) (w : S1024x1536.Idx → Elt Ideal .bf16) (r : Fin 1024) (d : Fin 1024) :
    k0_pay1 x w (ix2 r d) = ∑ k : Fin 1536, x (ix2 r k) * w (ix2 d k) := by
  unfold_payloads
  pointwise [dot_S1024x1536_S1024x1536_S1024x1024_1_1_0_0_n_n]

variable (m : (ℓ : Loc nD τ sig) → Buf (Elt Ideal) ℓ) (c : Dev nD)

/-- The derivative by the product. -/
abbrev DZ : S8192x1536.Idx → EReal := m ((c.tc : Thread nD τ).loc main_arg0)

/-- The weight. -/
abbrev W : S1024x1536.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_dz (r : Fin 1024) (k : Fin 1536) : iblk m c 0 t (ix2 r k) = DZ m c (ix2 (rowAt t r) k) := by
  blk_ext [iblk, V, place0 t, rowAt]

theorem iblk_w (d : Fin 1024) (k : Fin 1536) : iblk m c 1 t (ix2 d k) = W m c (ix2 d k) := by
  blk_ext [iblk, V, place1 t]

/-- The kernel's array, at a row and a column. -/
def product : S8192x1024.Idx → Elt Ideal .f32 := fun y => (∑ k : Fin 1536, DZ m c (ix2 (y 0) k) * W m c (ix2 (y 1) k) : EReal)

theorem rows_at (y : S1024x1024.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_dz m c t _ k) (iblk_w m c t _ k))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.WindowInputIdeal.Product

namespace Cert.WindowInputReferenceIdeal.Product

open Cert.WindowInputReferenceIdeal Cert.WindowInputReferenceIdeal.Read Idealize.ShloMosaic

/-- The reference's array is the same product. -/
theorem reference_eq (dz : S8192x1536.Idx → EReal) (w : S1024x1536.Idx → EReal) :
    val_main_v4 (F := Ideal) dz w = fun y => (∑ k : Fin 1536, dz (ix2 (y 0) k) * w (ix2 (y 1) k) : EReal) := by
  funext y
  rw [val_main_v4_apply]
  refine Finset.sum_congr rfl fun k _ => congrArg₂ (· * ·) (congrArg dz ?_) (congrArg w ?_) <;> exact eq_ix2 _

end Cert.WindowInputReferenceIdeal.Product

end
-- ==== Proof.NopeInput.lean ====
/-
  THE DERIVATIVE BY THE LATENT QUERY, through the queries that are not rotated: the derivative by those, times the weight transposed.
-/
module

public import proofs.«01_k».proof.Proof.Gen.NopeInputIdeal.Value
public import proofs.«01_k».proof.Proof.Gen.NopeInputReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.NopeInputIdeal.Product

open Cert.NopeInputIdeal Cert.NopeInputIdeal.Gen Cert.Table Idealize.ShloMosaic Idealize.ShloMosaic.TcCoe Idealize.SL.Sem

theorem rows_apply (x : S1024x1024.Idx → Elt Ideal .bf16) (w : S384x1024.Idx → Elt Ideal .bf16) (r : Fin 1024) (d : Fin 384) :
    k0_pay1 x w (ix2 r d) = ∑ k : Fin 1024, x (ix2 r k) * w (ix2 d k) := by
  unfold_payloads
  pointwise [dot_S1024x1024_S384x1024_S1024x384_1_1_0_0_n_n]

variable (m : (ℓ : Loc nD τ sig) → Buf (Elt Ideal) ℓ) (c : Dev nD)

/-- The derivative by the product. -/
abbrev DZ : S8192x1024.Idx → EReal := m ((c.tc : Thread nD τ).loc main_arg0)

/-- The weight. -/
abbrev W : S384x1024.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_dz (r : Fin 1024) (k : Fin 1024) : iblk m c 0 t (ix2 r k) = DZ m c (ix2 (rowAt t r) k) := by
  blk_ext [iblk, V, place0 t, rowAt]

theorem iblk_w (d : Fin 384) (k : Fin 1024) : iblk m c 1 t (ix2 d k) = W m c (ix2 d k) := by
  blk_ext [iblk, V, place1 t]

/-- The kernel's array, at a row and a column. -/
def product : S8192x384.Idx → Elt Ideal .f32 := fun y => (∑ k : Fin 1024, DZ m c (ix2 (y 0) k) * W m c (ix2 (y 1) k) : EReal)

theorem rows_at (y : S1024x384.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_dz m c t _ k) (iblk_w m c t _ k))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.NopeInputIdeal.Product

namespace Cert.NopeInputReferenceIdeal.Product

open Cert.NopeInputReferenceIdeal Cert.NopeInputReferenceIdeal.Read Idealize.ShloMosaic

/-- The reference's array is the same product. -/
theorem reference_eq (dz : S8192x1024.Idx → EReal) (w : S384x1024.Idx → EReal) :
    val_main_v4 (F := Ideal) dz w = fun y => (∑ k : Fin 1024, dz (ix2 (y 0) k) * w (ix2 (y 1) k) : EReal) := by
  funext y
  rw [val_main_v4_apply]
  refine Finset.sum_congr rfl fun k _ => congrArg₂ (· * ·) (congrArg dz ?_) (congrArg w ?_) <;> exact eq_ix2 _

end Cert.NopeInputReferenceIdeal.Product

end
-- ==== Proof.RopeInput.lean ====
/-
  THE DERIVATIVE BY THE LATENT QUERY, through the queries that are rotated: the derivative by those, times the weight transposed.
-/
module

public import proofs.«01_k».proof.Proof.Gen.RopeInputIdeal.Value
public import proofs.«01_k».proof.Proof.Gen.RopeInputReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.RopeInputIdeal.Product

open Cert.RopeInputIdeal Cert.RopeInputIdeal.Gen Cert.Table Idealize.ShloMosaic Idealize.ShloMosaic.TcCoe Idealize.SL.Sem

theorem rows_apply (x : S1024x512.Idx → Elt Ideal .bf16) (w : S384x512.Idx → Elt Ideal .bf16) (r : Fin 1024) (d : Fin 384) :
    k0_pay1 x w (ix2 r d) = ∑ k : Fin 512, x (ix2 r k) * w (ix2 d k) := by
  unfold_payloads
  pointwise [dot_S1024x512_S384x512_S1024x384_1_1_0_0_n_n]

variable (m : (ℓ : Loc nD τ sig) → Buf (Elt Ideal) ℓ) (c : Dev nD)

/-- The derivative by the product. -/
abbrev DZ : S8192x512.Idx → EReal := m ((c.tc : Thread nD τ).loc main_arg0)

/-- The weight. -/
abbrev W : S384x512.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_dz (r : Fin 1024) (k : Fin 512) : iblk m c 0 t (ix2 r k) = DZ m c (ix2 (rowAt t r) k) := by
  blk_ext [iblk, V, place0 t, rowAt]

theorem iblk_w (d : Fin 384) (k : Fin 512) : iblk m c 1 t (ix2 d k) = W m c (ix2 d k) := by
  blk_ext [iblk, V, place1 t]

/-- The kernel's array, at a row and a column. -/
def product : S8192x384.Idx → Elt Ideal .f32 := fun y => (∑ k : Fin 512, DZ m c (ix2 (y 0) k) * W m c (ix2 (y 1) k) : EReal)

theorem rows_at (y : S1024x384.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_dz m c t _ k) (iblk_w m c t _ k))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.RopeInputIdeal.Product

namespace Cert.RopeInputReferenceIdeal.Product

open Cert.RopeInputReferenceIdeal Cert.RopeInputReferenceIdeal.Read Idealize.ShloMosaic

/-- The reference's array is the same product. -/
theorem reference_eq (dz : S8192x512.Idx → EReal) (w : S384x512.Idx → EReal) :
    val_main_v4 (F := Ideal) dz w = fun y => (∑ k : Fin 512, dz (ix2 (y 0) k) * w (ix2 (y 1) k) : EReal) := by
  funext y
  rw [val_main_v4_apply]
  refine Finset.sum_congr rfl fun k _ => congrArg₂ (· * ·) (congrArg dz ?_) (congrArg w ?_) <;> exact eq_ix2 _

end Cert.RopeInputReferenceIdeal.Product

end
-- ==== Proof.KeyValueInput.lean ====
/-
  THE DERIVATIVE BY THE LATENT KEY AND VALUE: the derivative by keys and values, times the weight transposed.
-/
module

public import proofs.«01_k».proof.Proof.Gen.KeyValueInputIdeal.Value
public import proofs.«01_k».proof.Proof.Gen.KeyValueInputReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.KeyValueInputIdeal.Product

open Cert.KeyValueInputIdeal Cert.KeyValueInputIdeal.Gen Cert.Table Idealize.ShloMosaic Idealize.ShloMosaic.TcCoe Idealize.SL.Sem

theorem rows_apply (x : S1024x2048.Idx → Elt Ideal .bf16) (w : S256x2048.Idx → Elt Ideal .bf16) (r : Fin 1024) (d : Fin 256) :
    k0_pay1 x w (ix2 r d) = ∑ k : Fin 2048, x (ix2 r k) * w (ix2 d k) := by
  unfold_payloads
  pointwise [dot_S1024x2048_S256x2048_S1024x256_1_1_0_0_n_n]

variable (m : (ℓ : Loc nD τ sig) → Buf (Elt Ideal) ℓ) (c : Dev nD)

/-- The derivative by the product. -/
abbrev DZ : S8192x2048.Idx → EReal := m ((c.tc : Thread nD τ).loc main_arg0)

/-- The weight. -/
abbrev W : S256x2048.Idx → EReal := m ((c.tc : Thread nD τ).loc main_arg1)

variable (t : Fin cfg0.N)

/-- The array's row that is row `r` of the block at hand. -/
def rowAt (r : Fin 1024) : Fin 8192 := ⟨t.val * 1024 + r.val, by have : t.val < 8 := t.isLt; omega⟩

theorem place0 : ∀ t : Fin cfg0.N, win0_0.index t 0 = t.val ∧ win0_0.index t 1 = 0 :=
  (by decide +kernel : ∀ t : Fin grid0.N, win0_0.index t 0 = t.val ∧ win0_0.index t 1 = 0)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_dz (r : Fin 1024) (k : Fin 2048) : iblk m c 0 t (ix2 r k) = DZ m c (ix2 (rowAt t r) k) := by
  blk_ext [iblk, V, place0 t, rowAt]

theorem iblk_w (d : Fin 256) (k : Fin 2048) : iblk m c 1 t (ix2 d k) = W m c (ix2 d k) := by
  blk_ext [iblk, V, place1 t]

/-- The kernel's array, at a row and a column. -/
def product : S8192x256.Idx → Elt Ideal .f32 := fun y => (∑ k : Fin 2048, DZ m c (ix2 (y 0) k) * W m c (ix2 (y 1) k) : EReal)

theorem rows_at (y : S1024x256.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_dz m c t _ k) (iblk_w m c t _ k))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.KeyValueInputIdeal.Product

namespace Cert.KeyValueInputReferenceIdeal.Product

open Cert.KeyValueInputReferenceIdeal Cert.KeyValueInputReferenceIdeal.Read Idealize.ShloMosaic

/-- The reference's array is the same product. -/
theorem reference_eq (dz : S8192x2048.Idx → EReal) (w : S256x2048.Idx → EReal) :
    val_main_v4 (F := Ideal) dz w = fun y => (∑ k : Fin 2048, dz (ix2 (y 0) k) * w (ix2 (y 1) k) : EReal) := by
  funext y
  rw [val_main_v4_apply]
  refine Finset.sum_congr rfl fun k _ => congrArg₂ (· * ·) (congrArg dz ?_) (congrArg w ?_) <;> exact eq_ix2 _

end Cert.KeyValueInputReferenceIdeal.Product

end
-- ==== Proof.LatentWeight.lean ====
/-
  THE DERIVATIVE BY THE LATENT ATTENTION'S FIRST WEIGHT: the product of the weight's input, transposed, and the derivative by its product. The grid walks over four blocks of 2048 positions: a buffer
  holds the sum so far, and goes out after the fourth, as in `UpWeight`.
-/
module

public import proofs.«01_k».proof.Proof.Gen.LatentWeightIdeal.Value
public import proofs.«01_k».proof.Proof.Gen.LatentWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.LatentWeightIdeal.Product

open Cert.LatentWeightIdeal Cert.LatentWeightIdeal.Gen Cert.Table Idealize.ShloMosaic Idealize.ShloMosaic.TcCoe Idealize.SL.Sem

/-! ### One point -/

/-- What the first of four points stores. -/
theorem start_apply (x : S2048x1024.Idx → Elt Ideal .bf16) (y : S2048x704.Idx → Elt Ideal .bf16) (r : Fin 1024) (d : Fin 704) :
    k0_pay2 x y (ix2 r d) = ∑ s : Fin 2048, x (ix2 s r) * y (ix2 s d) := by
  unfold_payloads
  pointwise [dot_S2048x1024_S2048x704_S1024x704_0_0_1_1_n_n]

/-- What a later point stores. -/
theorem add_apply (x : S2048x1024.Idx → Elt Ideal .bf16) (y : S2048x704.Idx → Elt Ideal .bf16) (a : S1024x704.Idx → Elt Ideal .f32) (r : Fin 1024) (d : Fin 704) :
    k0_pay3 x y a (ix2 r d) = a (ix2 r d) + ∑ s : Fin 2048, x (ix2 s r) * y (ix2 s d) := by
  unfold_payloads
  pointwise [dot_S2048x1024_S2048x704_S1024x704_0_0_1_1_n_n]

variable (m : (ℓ : Loc nD τ sig) → Buf (Elt Ideal) ℓ) (c : Dev nD)

/-- The sublayer's input. -/
abbrev X : S8192x1024.Idx → EReal := m ((c.tc : Thread nD τ).loc main_arg0)

/-- The derivative by the latents. -/
abbrev DH : S8192x704.Idx → EReal := m ((c.tc : Thread nD τ).loc main_arg1)

variable (t : Fin cfg0.N)

/-- The array's row that is row `r` of the block at hand. -/
def rowAt (r : Fin 2048) : Fin 8192 := ⟨t.val % 4 * 2048 + r.val, by omega⟩

/-- The array's column that is column `d` of the block at hand. -/
def colAt (d : Fin 704) : Fin 704 := ⟨t.val / 4 * 704 + d.val, by have : t.val < 4 := t.isLt; omega⟩

theorem place0 : ∀ t : Fin cfg0.N, win0_0.index t 0 = t.val % 4 ∧ win0_0.index t 1 = 0 :=
  (by decide +kernel : ∀ t : Fin grid0.N, win0_0.index t 0 = t.val % 4 ∧ win0_0.index t 1 = 0)

theorem place1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem place2 : ∀ t : Fin cfg0.N, win0_2.index t 0 = 0 ∧ win0_2.index t 1 = t.val / 4 :=
  (by decide +kernel : ∀ t : Fin grid0.N, win0_2.index t 0 = 0 ∧ win0_2.index t 1 = t.val / 4)

theorem iblk_x (s : Fin 2048) (r : Fin 1024) : iblk m c 0 t (ix2 s r) = X m c (ix2 (rowAt t s) r) := by
  blk_ext [iblk, V, place0 t, rowAt]

theorem iblk_dh (s : Fin 2048) (d : Fin 704) : iblk m c 1 t (ix2 s d) = DH m c (ix2 (rowAt t s) (colAt t d)) := by
  blk_ext [iblk, V, place1 t, rowAt, colAt]

/-- What a point adds. -/
def term (y : S1024x704.Idx) : EReal := ∑ s : Fin 2048, X m c (ix2 (rowAt t s) (y 0)) * DH m c (ix2 (rowAt t s) (colAt t (y 1)))

theorem start_at (y : S1024x704.Idx) : k0_pay2 (F := Ideal) (iblk m c 0 t) (iblk m c 1 t) y = term m c t y := by
  rw [eq_ix2 y]
  exact (start_apply _ _ _ _).trans (Finset.sum_congr rfl fun s _ => congrArg₂ (· * ·) (iblk_x m c t s _) (iblk_dh m c t s _))

theorem add_at (a : S1024x704.Idx → Elt Ideal .f32) (y : S1024x704.Idx) : k0_pay3 (F := Ideal) (iblk m c 0 t) (iblk m c 1 t) a y = a y + term m c t y := by
  rw [eq_ix2 y]
  exact (add_apply _ _ _ _ _).trans (congrArg (a _ + ·) (Finset.sum_congr rfl fun s _ => congrArg₂ (· * ·) (iblk_x m c t s _) (iblk_dh m c t s _)))

theorem first (h : t.val % 4 = 0) (y : S1024x704.Idx) : (outsAt0 m c t.val t.isLt).2 y = term m c t y := by
  have small : t.val < 4 := t.isLt
  rw [outsAt0_A m c t h (by omega) (by omega)]
  frame_out
  exact start_at m c t y

theorem next (h : ¬t.val % 4 = 0) (y : S1024x704.Idx) :
    (outsAt0 m c t.val t.isLt).2 y = (outsAt0 m c (t.val - 1) (Nat.lt_of_le_of_lt (Nat.sub_le _ _) t.isLt)).2 y + term m c t y := by
  have small : t.val < 4 := t.isLt
  by_cases h3 : t.val % 4 = 3
  · rw [outsAt0_C m c t h (by omega) h3]
    frame_out
    rw [(Memref.isWhole_whole _).read_unread]
    exact add_at m c t _ y
  · rw [outsAt0_B m c t h (by omega) h3]
    frame_out
    rw [(Memref.isWhole_whole _).read_unread]
    exact add_at m c t _ y

/-- What goes out is what the buffer holds. -/
theorem sent (h : t.val % 4 = 3) (y : S1024x704.Idx) : (outsAt0 m c t.val t.isLt).1 y = (outsAt0 m c t.val t.isLt).2 y := by
  have small : t.val < 4 := t.isLt
  rw [outsAt0_C m c t (by omega) (by omega) h]
  frame_out
  unfold_payloads
  rfl

/-- The buffer after the fourth of four points. -/
theorem whole (h : t.val % 4 = 3) (r : Fin 1024) (d : Fin 704) :
    (outsAt0 m c t.val t.isLt).2 (ix2 r d) = ∑ s : Fin 8192, X m c (ix2 s r) * DH m c (ix2 s (colAt t d)) := by
  rw [Pipeline.eq_sum_fin_of_reset_step_apply_of_flush (M := EReal) (fun n hn y => (outsAt0 m c n hn).2 y) 4 (fun _ => 0) (term m c)
    (fun t h y => (first m c t h y).trans (zero_add _).symm) (fun t h y => next m c t h y) t h (ix2 r d), zero_add]
  refine Eq.trans (Finset.sum_congr rfl fun s _ => Finset.sum_congr rfl fun k _ => ?_)
    (Fin.sum_mul_add_fin 4 2048 (fun s => X m c (ix2 s r) * DH m c (ix2 s (colAt t d))) rfl)
  have hr (hn) : rowAt ⟨4 * (t.val / 4) + s.val, hn⟩ k = ⟨s.val * 2048 + k.val, by omega⟩ := Fin.ext (by simp only [rowAt]; omega)
  have hc (hn) : colAt ⟨4 * (t.val / 4) + s.val, hn⟩ d = colAt t d := Fin.ext (by simp only [colAt]; omega)
  show X m c (ix2 (rowAt ⟨4 * (t.val / 4) + s.val, _⟩ k) r) * DH m c (ix2 (rowAt ⟨4 * (t.val / 4) + s.val, _⟩ k) (colAt ⟨4 * (t.val / 4) + s.val, _⟩ d)) = _
  rw [hr, hc]

/-- The kernel's array, at a row and a column. -/
def product : S1024x704.Idx → Elt Ideal .bf16 := fun y => (∑ s : Fin 8192, X m c (ix2 s (y 0)) * DH m c (ix2 s (y 1)) : EReal)

theorem product_end : (dats m 0 c).arrAt 2 cfg0.N = product m c := by
  refine (dats m 0 c).arrAt_eq_of_covers 2 _ (by decide +kernel) fun t hf y => ?_
  blk_simp
  rw [after0_2]
  have h := (flush0_2 t).mp hf
  refine (sent m c t h y).trans ?_
  have e : (win0_2.blk t).view.emb y = ix2 (y 0) (colAt t (y 1)) := by
    blk_ext [place2 t, colAt]
  rw [e]
  have w := whole m c t h (y 0) (y 1)
  rw [← eq_ix2 y] at w
  exact w

end Cert.LatentWeightIdeal.Product

namespace Cert.LatentWeightReferenceIdeal.Product

open Cert.LatentWeightReferenceIdeal Cert.LatentWeightReferenceIdeal.Read Idealize.ShloMosaic

/-- The reference's array is the same product, its factors the other way round. -/
theorem reference_eq (x : S8192x1024.Idx → EReal) (dh : S8192x704.Idx → EReal) :
    val_main_v6 (F := Ideal) x dh = fun y => (∑ s : Fin 8192, x (ix2 s (y 0)) * dh (ix2 s (y 1)) : EReal) := by
  funext y
  rw [val_main_v6_apply, val_main_v5_apply, val_main_v4_apply]
  refine Finset.sum_congr rfl fun s _ => (mul_comm (G := EReal) _ _).trans (congrArg₂ (· * ·) (congrArg x ?_) (congrArg dh ?_)) <;> exact eq_ix2 _

end Cert.LatentWeightReferenceIdeal.Product

end
-- ==== Proof.NopeWeight.lean ====
/-
  THE DERIVATIVE BY THE WEIGHT OF THE QUERIES THAT ARE NOT ROTATED: the product of the weight's input, transposed, and the derivative by its product. The grid walks over four blocks of 2048 positions: a buffer
  holds the sum so far, and goes out after the fourth, as in `UpWeight`.
-/
module

public import proofs.«01_k».proof.Proof.Gen.NopeWeightIdeal.Value
public import proofs.«01_k».proof.Proof.Gen.NopeWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.NopeWeightIdeal.Product

open Cert.NopeWeightIdeal Cert.NopeWeightIdeal.Gen Cert.Table Idealize.ShloMosaic Idealize.ShloMosaic.TcCoe Idealize.SL.Sem

/-! ### One point -/

/-- What the first of four points stores. -/
theorem start_apply (x : S2048x384.Idx → Elt Ideal .bf16) (y : S2048x1024.Idx → Elt Ideal .bf16) (r : Fin 384) (d : Fin 1024) :
    k0_pay2 x y (ix2 r d) = ∑ s : Fin 2048, x (ix2 s r) * y (ix2 s d) := by
  unfold_payloads
  pointwise [dot_S2048x384_S2048x1024_S384x1024_0_0_1_1_n_n]

/-- What a later point stores. -/
theorem add_apply (x : S2048x384.Idx → Elt Ideal .bf16) (y : S2048x1024.Idx → Elt Ideal .bf16) (a : S384x1024.Idx → Elt Ideal .f32) (r : Fin 384) (d : Fin 1024) :
    k0_pay3 x y a (ix2 r d) = a (ix2 r d) + ∑ s : Fin 2048, x (ix2 s r) * y (ix2 s d) := by
  unfold_payloads
  pointwise [dot_S2048x384_S2048x1024_S384x1024_0_0_1_1_n_n]

variable (m : (ℓ : Loc nD τ sig) → Buf (Elt Ideal) ℓ) (c : Dev nD)

/-- The latent query. -/
abbrev X : S8192x384.Idx → EReal := m ((c.tc : Thread nD τ).loc main_arg0)

/-- The derivative by the queries. -/
abbrev DH : S8192x1024.Idx → EReal := m ((c.tc : Thread nD τ).loc main_arg1)

variable (t : Fin cfg0.N)

/-- The array's row that is row `r` of the block at hand. -/
def rowAt (r : Fin 2048) : Fin 8192 := ⟨t.val % 4 * 2048 + r.val, by omega⟩

/-- The array's column that is column `d` of the block at hand. -/
def colAt (d : Fin 1024) : Fin 1024 := ⟨t.val / 4 * 1024 + d.val, by have : t.val < 4 := t.isLt; omega⟩

theorem place0 : ∀ t : Fin cfg0.N, win0_0.index t 0 = t.val % 4 ∧ win0_0.index t 1 = 0 :=
  (by decide +kernel : ∀ t : Fin grid0.N, win0_0.index t 0 = t.val % 4 ∧ win0_0.index t 1 = 0)

theorem place1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem place2 : ∀ t : Fin cfg0.N, win0_2.index t 0 = 0 ∧ win0_2.index t 1 = t.val / 4 :=
  (by decide +kernel : ∀ t : Fin grid0.N, win0_2.index t 0 = 0 ∧ win0_2.index t 1 = t.val / 4)

theorem iblk_x (s : Fin 2048) (r : Fin 384) : iblk m c 0 t (ix2 s r) = X m c (ix2 (rowAt t s) r) := by
  blk_ext [iblk, V, place0 t, rowAt]

theorem iblk_dh (s : Fin 2048) (d : Fin 1024) : iblk m c 1 t (ix2 s d) = DH m c (ix2 (rowAt t s) (colAt t d)) := by
  blk_ext [iblk, V, place1 t, rowAt, colAt]

/-- What a point adds. -/
def term (y : S384x1024.Idx) : EReal := ∑ s : Fin 2048, X m c (ix2 (rowAt t s) (y 0)) * DH m c (ix2 (rowAt t s) (colAt t (y 1)))

theorem start_at (y : S384x1024.Idx) : k0_pay2 (F := Ideal) (iblk m c 0 t) (iblk m c 1 t) y = term m c t y := by
  rw [eq_ix2 y]
  exact (start_apply _ _ _ _).trans (Finset.sum_congr rfl fun s _ => congrArg₂ (· * ·) (iblk_x m c t s _) (iblk_dh m c t s _))

theorem add_at (a : S384x1024.Idx → Elt Ideal .f32) (y : S384x1024.Idx) : k0_pay3 (F := Ideal) (iblk m c 0 t) (iblk m c 1 t) a y = a y + term m c t y := by
  rw [eq_ix2 y]
  exact (add_apply _ _ _ _ _).trans (congrArg (a _ + ·) (Finset.sum_congr rfl fun s _ => congrArg₂ (· * ·) (iblk_x m c t s _) (iblk_dh m c t s _)))

theorem first (h : t.val % 4 = 0) (y : S384x1024.Idx) : (outsAt0 m c t.val t.isLt).2 y = term m c t y := by
  have small : t.val < 4 := t.isLt
  rw [outsAt0_A m c t h (by omega) (by omega)]
  frame_out
  exact start_at m c t y

theorem next (h : ¬t.val % 4 = 0) (y : S384x1024.Idx) :
    (outsAt0 m c t.val t.isLt).2 y = (outsAt0 m c (t.val - 1) (Nat.lt_of_le_of_lt (Nat.sub_le _ _) t.isLt)).2 y + term m c t y := by
  have small : t.val < 4 := t.isLt
  by_cases h3 : t.val % 4 = 3
  · rw [outsAt0_C m c t h (by omega) h3]
    frame_out
    rw [(Memref.isWhole_whole _).read_unread]
    exact add_at m c t _ y
  · rw [outsAt0_B m c t h (by omega) h3]
    frame_out
    rw [(Memref.isWhole_whole _).read_unread]
    exact add_at m c t _ y

/-- What goes out is what the buffer holds. -/
theorem sent (h : t.val % 4 = 3) (y : S384x1024.Idx) : (outsAt0 m c t.val t.isLt).1 y = (outsAt0 m c t.val t.isLt).2 y := by
  have small : t.val < 4 := t.isLt
  rw [outsAt0_C m c t (by omega) (by omega) h]
  frame_out
  unfold_payloads
  rfl

/-- The buffer after the fourth of four points. -/
theorem whole (h : t.val % 4 = 3) (r : Fin 384) (d : Fin 1024) :
    (outsAt0 m c t.val t.isLt).2 (ix2 r d) = ∑ s : Fin 8192, X m c (ix2 s r) * DH m c (ix2 s (colAt t d)) := by
  rw [Pipeline.eq_sum_fin_of_reset_step_apply_of_flush (M := EReal) (fun n hn y => (outsAt0 m c n hn).2 y) 4 (fun _ => 0) (term m c)
    (fun t h y => (first m c t h y).trans (zero_add _).symm) (fun t h y => next m c t h y) t h (ix2 r d), zero_add]
  refine Eq.trans (Finset.sum_congr rfl fun s _ => Finset.sum_congr rfl fun k _ => ?_)
    (Fin.sum_mul_add_fin 4 2048 (fun s => X m c (ix2 s r) * DH m c (ix2 s (colAt t d))) rfl)
  have hr (hn) : rowAt ⟨4 * (t.val / 4) + s.val, hn⟩ k = ⟨s.val * 2048 + k.val, by omega⟩ := Fin.ext (by simp only [rowAt]; omega)
  have hc (hn) : colAt ⟨4 * (t.val / 4) + s.val, hn⟩ d = colAt t d := Fin.ext (by simp only [colAt]; omega)
  show X m c (ix2 (rowAt ⟨4 * (t.val / 4) + s.val, _⟩ k) r) * DH m c (ix2 (rowAt ⟨4 * (t.val / 4) + s.val, _⟩ k) (colAt ⟨4 * (t.val / 4) + s.val, _⟩ d)) = _
  rw [hr, hc]

/-- The kernel's array, at a row and a column. -/
def product : S384x1024.Idx → Elt Ideal .bf16 := fun y => (∑ s : Fin 8192, X m c (ix2 s (y 0)) * DH m c (ix2 s (y 1)) : EReal)

theorem product_end : (dats m 0 c).arrAt 2 cfg0.N = product m c := by
  refine (dats m 0 c).arrAt_eq_of_covers 2 _ (by decide +kernel) fun t hf y => ?_
  blk_simp
  rw [after0_2]
  have h := (flush0_2 t).mp hf
  refine (sent m c t h y).trans ?_
  have e : (win0_2.blk t).view.emb y = ix2 (y 0) (colAt t (y 1)) := by
    blk_ext [place2 t, colAt]
  rw [e]
  have w := whole m c t h (y 0) (y 1)
  rw [← eq_ix2 y] at w
  exact w

end Cert.NopeWeightIdeal.Product

namespace Cert.NopeWeightReferenceIdeal.Product

open Cert.NopeWeightReferenceIdeal Cert.NopeWeightReferenceIdeal.Read Idealize.ShloMosaic

/-- The reference's array is the same product, its factors the other way round. -/
theorem reference_eq (x : S8192x384.Idx → EReal) (dh : S8192x1024.Idx → EReal) :
    val_main_v6 (F := Ideal) x dh = fun y => (∑ s : Fin 8192, x (ix2 s (y 0)) * dh (ix2 s (y 1)) : EReal) := by
  funext y
  rw [val_main_v6_apply, val_main_v5_apply, val_main_v4_apply]
  refine Finset.sum_congr rfl fun s _ => (mul_comm (G := EReal) _ _).trans (congrArg₂ (· * ·) (congrArg x ?_) (congrArg dh ?_)) <;> exact eq_ix2 _

end Cert.NopeWeightReferenceIdeal.Product

end
-- ==== Proof.RopeWeight.lean ====
/-
  THE DERIVATIVE BY THE WEIGHT OF THE QUERIES THAT ARE ROTATED: the product of the weight's input, transposed, and the derivative by its product. The grid walks over four blocks of 2048 positions: a buffer
  holds the sum so far, and goes out after the fourth, as in `UpWeight`.
-/
module

public import proofs.«01_k».proof.Proof.Gen.RopeWeightIdeal.Value
public import proofs.«01_k».proof.Proof.Gen.RopeWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.RopeWeightIdeal.Product

open Cert.RopeWeightIdeal Cert.RopeWeightIdeal.Gen Cert.Table Idealize.ShloMosaic Idealize.ShloMosaic.TcCoe Idealize.SL.Sem

/-! ### One point -/

/-- What the first of four points stores. -/
theorem start_apply (x : S2048x384.Idx → Elt Ideal .bf16) (y : S2048x512.Idx → Elt Ideal .bf16) (r : Fin 384) (d : Fin 512) :
    k0_pay2 x y (ix2 r d) = ∑ s : Fin 2048, x (ix2 s r) * y (ix2 s d) := by
  unfold_payloads
  pointwise [dot_S2048x384_S2048x512_S384x512_0_0_1_1_n_n]

/-- What a later point stores. -/
theorem add_apply (x : S2048x384.Idx → Elt Ideal .bf16) (y : S2048x512.Idx → Elt Ideal .bf16) (a : S384x512.Idx → Elt Ideal .f32) (r : Fin 384) (d : Fin 512) :
    k0_pay3 x y a (ix2 r d) = a (ix2 r d) + ∑ s : Fin 2048, x (ix2 s r) * y (ix2 s d) := by
  unfold_payloads
  pointwise [dot_S2048x384_S2048x512_S384x512_0_0_1_1_n_n]

variable (m : (ℓ : Loc nD τ sig) → Buf (Elt Ideal) ℓ) (c : Dev nD)

/-- The latent query. -/
abbrev X : S8192x384.Idx → EReal := m ((c.tc : Thread nD τ).loc main_arg0)

/-- The derivative by the queries. -/
abbrev DH : S8192x512.Idx → EReal := m ((c.tc : Thread nD τ).loc main_arg1)

variable (t : Fin cfg0.N)

/-- The array's row that is row `r` of the block at hand. -/
def rowAt (r : Fin 2048) : Fin 8192 := ⟨t.val % 4 * 2048 + r.val, by omega⟩

/-- The array's column that is column `d` of the block at hand. -/
def colAt (d : Fin 512) : Fin 512 := ⟨t.val / 4 * 512 + d.val, by have : t.val < 4 := t.isLt; omega⟩

theorem place0 : ∀ t : Fin cfg0.N, win0_0.index t 0 = t.val % 4 ∧ win0_0.index t 1 = 0 :=
  (by decide +kernel : ∀ t : Fin grid0.N, win0_0.index t 0 = t.val % 4 ∧ win0_0.index t 1 = 0)

theorem place1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem place2 : ∀ t : Fin cfg0.N, win0_2.index t 0 = 0 ∧ win0_2.index t 1 = t.val / 4 :=
  (by decide +kernel : ∀ t : Fin grid0.N, win0_2.index t 0 = 0 ∧ win0_2.index t 1 = t.val / 4)

theorem iblk_x (s : Fin 2048) (r : Fin 384) : iblk m c 0 t (ix2 s r) = X m c (ix2 (rowAt t s) r) := by
  blk_ext [iblk, V, place0 t, rowAt]

theorem iblk_dh (s : Fin 2048) (d : Fin 512) : iblk m c 1 t (ix2 s d) = DH m c (ix2 (rowAt t s) (colAt t d)) := by
  blk_ext [iblk, V, place1 t, rowAt, colAt]

/-- What a point adds. -/
def term (y : S384x512.Idx) : EReal := ∑ s : Fin 2048, X m c (ix2 (rowAt t s) (y 0)) * DH m c (ix2 (rowAt t s) (colAt t (y 1)))

theorem start_at (y : S384x512.Idx) : k0_pay2 (F := Ideal) (iblk m c 0 t) (iblk m c 1 t) y = term m c t y := by
  rw [eq_ix2 y]
  exact (start_apply _ _ _ _).trans (Finset.sum_congr rfl fun s _ => congrArg₂ (· * ·) (iblk_x m c t s _) (iblk_dh m c t s _))

theorem add_at (a : S384x512.Idx → Elt Ideal .f32) (y : S384x512.Idx) : k0_pay3 (F := Ideal) (iblk m c 0 t) (iblk m c 1 t) a y = a y + term m c t y := by
  rw [eq_ix2 y]
  exact (add_apply _ _ _ _ _).trans (congrArg (a _ + ·) (Finset.sum_congr rfl fun s _ => congrArg₂ (· * ·) (iblk_x m c t s _) (iblk_dh m c t s _)))

theorem first (h : t.val % 4 = 0) (y : S384x512.Idx) : (outsAt0 m c t.val t.isLt).2 y = term m c t y := by
  have small : t.val < 4 := t.isLt
  rw [outsAt0_A m c t h (by omega) (by omega)]
  frame_out
  exact start_at m c t y

theorem next (h : ¬t.val % 4 = 0) (y : S384x512.Idx) :
    (outsAt0 m c t.val t.isLt).2 y = (outsAt0 m c (t.val - 1) (Nat.lt_of_le_of_lt (Nat.sub_le _ _) t.isLt)).2 y + term m c t y := by
  have small : t.val < 4 := t.isLt
  by_cases h3 : t.val % 4 = 3
  · rw [outsAt0_C m c t h (by omega) h3]
    frame_out
    rw [(Memref.isWhole_whole _).read_unread]
    exact add_at m c t _ y
  · rw [outsAt0_B m c t h (by omega) h3]
    frame_out
    rw [(Memref.isWhole_whole _).read_unread]
    exact add_at m c t _ y

/-- What goes out is what the buffer holds. -/
theorem sent (h : t.val % 4 = 3) (y : S384x512.Idx) : (outsAt0 m c t.val t.isLt).1 y = (outsAt0 m c t.val t.isLt).2 y := by
  have small : t.val < 4 := t.isLt
  rw [outsAt0_C m c t (by omega) (by omega) h]
  frame_out
  unfold_payloads
  rfl

/-- The buffer after the fourth of four points. -/
theorem whole (h : t.val % 4 = 3) (r : Fin 384) (d : Fin 512) :
    (outsAt0 m c t.val t.isLt).2 (ix2 r d) = ∑ s : Fin 8192, X m c (ix2 s r) * DH m c (ix2 s (colAt t d)) := by
  rw [Pipeline.eq_sum_fin_of_reset_step_apply_of_flush (M := EReal) (fun n hn y => (outsAt0 m c n hn).2 y) 4 (fun _ => 0) (term m c)
    (fun t h y => (first m c t h y).trans (zero_add _).symm) (fun t h y => next m c t h y) t h (ix2 r d), zero_add]
  refine Eq.trans (Finset.sum_congr rfl fun s _ => Finset.sum_congr rfl fun k _ => ?_)
    (Fin.sum_mul_add_fin 4 2048 (fun s => X m c (ix2 s r) * DH m c (ix2 s (colAt t d))) rfl)
  have hr (hn) : rowAt ⟨4 * (t.val / 4) + s.val, hn⟩ k = ⟨s.val * 2048 + k.val, by omega⟩ := Fin.ext (by simp only [rowAt]; omega)
  have hc (hn) : colAt ⟨4 * (t.val / 4) + s.val, hn⟩ d = colAt t d := Fin.ext (by simp only [colAt]; omega)
  show X m c (ix2 (rowAt ⟨4 * (t.val / 4) + s.val, _⟩ k) r) * DH m c (ix2 (rowAt ⟨4 * (t.val / 4) + s.val, _⟩ k) (colAt ⟨4 * (t.val / 4) + s.val, _⟩ d)) = _
  rw [hr, hc]

/-- The kernel's array, at a row and a column. -/
def product : S384x512.Idx → Elt Ideal .bf16 := fun y => (∑ s : Fin 8192, X m c (ix2 s (y 0)) * DH m c (ix2 s (y 1)) : EReal)

theorem product_end : (dats m 0 c).arrAt 2 cfg0.N = product m c := by
  refine (dats m 0 c).arrAt_eq_of_covers 2 _ (by decide +kernel) fun t hf y => ?_
  blk_simp
  rw [after0_2]
  have h := (flush0_2 t).mp hf
  refine (sent m c t h y).trans ?_
  have e : (win0_2.blk t).view.emb y = ix2 (y 0) (colAt t (y 1)) := by
    blk_ext [place2 t, colAt]
  rw [e]
  have w := whole m c t h (y 0) (y 1)
  rw [← eq_ix2 y] at w
  exact w

end Cert.RopeWeightIdeal.Product

namespace Cert.RopeWeightReferenceIdeal.Product

open Cert.RopeWeightReferenceIdeal Cert.RopeWeightReferenceIdeal.Read Idealize.ShloMosaic

/-- The reference's array is the same product, its factors the other way round. -/
theorem reference_eq (x : S8192x384.Idx → EReal) (dh : S8192x512.Idx → EReal) :
    val_main_v6 (F := Ideal) x dh = fun y => (∑ s : Fin 8192, x (ix2 s (y 0)) * dh (ix2 s (y 1)) : EReal) := by
  funext y
  rw [val_main_v6_apply, val_main_v5_apply, val_main_v4_apply]
  refine Finset.sum_congr rfl fun s _ => (mul_comm (G := EReal) _ _).trans (congrArg₂ (· * ·) (congrArg x ?_) (congrArg dh ?_)) <;> exact eq_ix2 _

end Cert.RopeWeightReferenceIdeal.Product

end
-- ==== Proof.KeyValueWeight.lean ====
/-
  THE DERIVATIVE BY THE WEIGHT OF THE KEYS AND VALUES: the product of the weight's input, transposed, and the derivative by its product. The grid walks over four blocks of 2048 positions: a buffer
  holds the sum so far, and goes out after the fourth, as in `UpWeight`.
-/
module

public import proofs.«01_k».proof.Proof.Gen.KeyValueWeightIdeal.Value
public import proofs.«01_k».proof.Proof.Gen.KeyValueWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.KeyValueWeightIdeal.Product

open Cert.KeyValueWeightIdeal Cert.KeyValueWeightIdeal.Gen Cert.Table Idealize.ShloMosaic Idealize.ShloMosaic.TcCoe Idealize.SL.Sem

/-! ### One point -/

/-- What the first of four points stores. -/
theorem start_apply (x : S2048x256.Idx → Elt Ideal .bf16) (y : S2048x2048.Idx → Elt Ideal .bf16) (r : Fin 256) (d : Fin 2048) :
    k0_pay2 x y (ix2 r d) = ∑ s : Fin 2048, x (ix2 s r) * y (ix2 s d) := by
  unfold_payloads
  pointwise [dot_S2048x256_S2048x2048_S256x2048_0_0_1_1_n_n]

/-- What a later point stores. -/
theorem add_apply (x : S2048x256.Idx → Elt Ideal .bf16) (y : S2048x2048.Idx → Elt Ideal .bf16) (a : S256x2048.Idx → Elt Ideal .f32) (r : Fin 256) (d : Fin 2048) :
    k0_pay3 x y a (ix2 r d) = a (ix2 r d) + ∑ s : Fin 2048, x (ix2 s r) * y (ix2 s d) := by
  unfold_payloads
  pointwise [dot_S2048x256_S2048x2048_S256x2048_0_0_1_1_n_n]

variable (m : (ℓ : Loc nD τ sig) → Buf (Elt Ideal) ℓ) (c : Dev nD)

/-- The latent key and value. -/
abbrev X : S8192x256.Idx → EReal := m ((c.tc : Thread nD τ).loc main_arg0)

/-- The derivative by keys and values. -/
abbrev DH : S8192x2048.Idx → EReal := m ((c.tc : Thread nD τ).loc main_arg1)

variable (t : Fin cfg0.N)

/-- The array's row that is row `r` of the block at hand. -/
def rowAt (r : Fin 2048) : Fin 8192 := ⟨t.val % 4 * 2048 + r.val, by omega⟩

/-- The array's column that is column `d` of the block at hand. -/
def colAt (d : Fin 2048) : Fin 2048 := ⟨t.val / 4 * 2048 + d.val, by have : t.val < 4 := t.isLt; omega⟩

theorem place0 : ∀ t : Fin cfg0.N, win0_0.index t 0 = t.val % 4 ∧ win0_0.index t 1 = 0 :=
  (by decide +kernel : ∀ t : Fin grid0.N, win0_0.index t 0 = t.val % 4 ∧ win0_0.index t 1 = 0)

theorem place1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem place2 : ∀ t : Fin cfg0.N, win0_2.index t 0 = 0 ∧ win0_2.index t 1 = t.val / 4 :=
  (by decide +kernel : ∀ t : Fin grid0.N, win0_2.index t 0 = 0 ∧ win0_2.index t 1 = t.val / 4)

theorem iblk_x (s : Fin 2048) (r : Fin 256) : iblk m c 0 t (ix2 s r) = X m c (ix2 (rowAt t s) r) := by
  blk_ext [iblk, V, place0 t, rowAt]

theorem iblk_dh (s : Fin 2048) (d : Fin 2048) : iblk m c 1 t (ix2 s d) = DH m c (ix2 (rowAt t s) (colAt t d)) := by
  blk_ext [iblk, V, place1 t, rowAt, colAt]

/-- What a point adds. -/
def term (y : S256x2048.Idx) : EReal := ∑ s : Fin 2048, X m c (ix2 (rowAt t s) (y 0)) * DH m c (ix2 (rowAt t s) (colAt t (y 1)))

theorem start_at (y : S256x2048.Idx) : k0_pay2 (F := Ideal) (iblk m c 0 t) (iblk m c 1 t) y = term m c t y := by
  rw [eq_ix2 y]
  exact (start_apply _ _ _ _).trans (Finset.sum_congr rfl fun s _ => congrArg₂ (· * ·) (iblk_x m c t s _) (iblk_dh m c t s _))

theorem add_at (a : S256x2048.Idx → Elt Ideal .f32) (y : S256x2048.Idx) : k0_pay3 (F := Ideal) (iblk m c 0 t) (iblk m c 1 t) a y = a y + term m c t y := by
  rw [eq_ix2 y]
  exact (add_apply _ _ _ _ _).trans (congrArg (a _ + ·) (Finset.sum_congr rfl fun s _ => congrArg₂ (· * ·) (iblk_x m c t s _) (iblk_dh m c t s _)))

theorem first (h : t.val % 4 = 0) (y : S256x2048.Idx) : (outsAt0 m c t.val t.isLt).2 y = term m c t y := by
  have small : t.val < 4 := t.isLt
  rw [outsAt0_A m c t h (by omega) (by omega)]
  frame_out
  exact start_at m c t y

theorem next (h : ¬t.val % 4 = 0) (y : S256x2048.Idx) :
    (outsAt0 m c t.val t.isLt).2 y = (outsAt0 m c (t.val - 1) (Nat.lt_of_le_of_lt (Nat.sub_le _ _) t.isLt)).2 y + term m c t y := by
  have small : t.val < 4 := t.isLt
  by_cases h3 : t.val % 4 = 3
  · rw [outsAt0_C m c t h (by omega) h3]
    frame_out
    rw [(Memref.isWhole_whole _).read_unread]
    exact add_at m c t _ y
  · rw [outsAt0_B m c t h (by omega) h3]
    frame_out
    rw [(Memref.isWhole_whole _).read_unread]
    exact add_at m c t _ y

/-- What goes out is what the buffer holds. -/
theorem sent (h : t.val % 4 = 3) (y : S256x2048.Idx) : (outsAt0 m c t.val t.isLt).1 y = (outsAt0 m c t.val t.isLt).2 y := by
  have small : t.val < 4 := t.isLt
  rw [outsAt0_C m c t (by omega) (by omega) h]
  frame_out
  unfold_payloads
  rfl

/-- The buffer after the fourth of four points. -/
theorem whole (h : t.val % 4 = 3) (r : Fin 256) (d : Fin 2048) :
    (outsAt0 m c t.val t.isLt).2 (ix2 r d) = ∑ s : Fin 8192, X m c (ix2 s r) * DH m c (ix2 s (colAt t d)) := by
  rw [Pipeline.eq_sum_fin_of_reset_step_apply_of_flush (M := EReal) (fun n hn y => (outsAt0 m c n hn).2 y) 4 (fun _ => 0) (term m c)
    (fun t h y => (first m c t h y).trans (zero_add _).symm) (fun t h y => next m c t h y) t h (ix2 r d), zero_add]
  refine Eq.trans (Finset.sum_congr rfl fun s _ => Finset.sum_congr rfl fun k _ => ?_)
    (Fin.sum_mul_add_fin 4 2048 (fun s => X m c (ix2 s r) * DH m c (ix2 s (colAt t d))) rfl)
  have hr (hn) : rowAt ⟨4 * (t.val / 4) + s.val, hn⟩ k = ⟨s.val * 2048 + k.val, by omega⟩ := Fin.ext (by simp only [rowAt]; omega)
  have hc (hn) : colAt ⟨4 * (t.val / 4) + s.val, hn⟩ d = colAt t d := Fin.ext (by simp only [colAt]; omega)
  show X m c (ix2 (rowAt ⟨4 * (t.val / 4) + s.val, _⟩ k) r) * DH m c (ix2 (rowAt ⟨4 * (t.val / 4) + s.val, _⟩ k) (colAt ⟨4 * (t.val / 4) + s.val, _⟩ d)) = _
  rw [hr, hc]

/-- The kernel's array, at a row and a column. -/
def product : S256x2048.Idx → Elt Ideal .bf16 := fun y => (∑ s : Fin 8192, X m c (ix2 s (y 0)) * DH m c (ix2 s (y 1)) : EReal)

theorem product_end : (dats m 0 c).arrAt 2 cfg0.N = product m c := by
  refine (dats m 0 c).arrAt_eq_of_covers 2 _ (by decide +kernel) fun t hf y => ?_
  blk_simp
  rw [after0_2]
  have h := (flush0_2 t).mp hf
  refine (sent m c t h y).trans ?_
  have e : (win0_2.blk t).view.emb y = ix2 (y 0) (colAt t (y 1)) := by
    blk_ext [place2 t, colAt]
  rw [e]
  have w := whole m c t h (y 0) (y 1)
  rw [← eq_ix2 y] at w
  exact w

end Cert.KeyValueWeightIdeal.Product

namespace Cert.KeyValueWeightReferenceIdeal.Product

open Cert.KeyValueWeightReferenceIdeal Cert.KeyValueWeightReferenceIdeal.Read Idealize.ShloMosaic

/-- The reference's array is the same product, its factors the other way round. -/
theorem reference_eq (x : S8192x256.Idx → EReal) (dh : S8192x2048.Idx → EReal) :
    val_main_v6 (F := Ideal) x dh = fun y => (∑ s : Fin 8192, x (ix2 s (y 0)) * dh (ix2 s (y 1)) : EReal) := by
  funext y
  rw [val_main_v6_apply, val_main_v5_apply, val_main_v4_apply]
  refine Finset.sum_congr rfl fun s _ => (mul_comm (G := EReal) _ _).trans (congrArg₂ (· * ·) (congrArg x ?_) (congrArg dh ?_)) <;> exact eq_ix2 _

end Cert.KeyValueWeightReferenceIdeal.Product

end
-- ==== Proof.MemoryWeight.lean ====
/-
  THE DERIVATIVE BY THE MEMORY'S WEIGHT: the product of the memory, transposed, and the derivative by its keys and values. Each point computes 512 rows whole.
-/
module

public import proofs.«01_k».proof.Proof.Gen.MemoryWeightIdeal.Value
public import proofs.«01_k».proof.Proof.Gen.MemoryWeightReferenceIdeal.Read
public import proofs.«01_k».proof.Proof.Table
public import Idealize.ShloMosaic.Lib.Pointwise.Tactic
public import Idealize.ShloMosaic.Lib.Pointwise.Contract
public import Idealize.ShloMosaic.Lib.Pointwise.Reshape
public import Idealize.ShloMosaic.Lib.Pipeline.ValueKit.Tiles
public import Idealize.ShloMosaic.Lib.Pipeline.ValueKit.Geometry
public import Idealize.ShloMosaic.Lib.Pipeline.ReadBack

@[expose] public section

noncomputable section

namespace Cert.MemoryWeightIdeal.Product

open Cert.MemoryWeightIdeal Cert.MemoryWeightIdeal.Gen Cert.Table Idealize.ShloMosaic Idealize.ShloMosaic.TcCoe Idealize.SL.Sem

theorem rows_apply (x : S256x512.Idx → Elt Ideal .bf16) (d : S256x2048.Idx → Elt Ideal .f32) (r : Fin 512) (e : Fin 2048) :
    k0_pay1 x d (ix2 r e) = ∑ k : Fin 256, x (ix2 k r) * d (ix2 k e) := by
  unfold_payloads
  pointwise [dot_S256x512_S256x2048_S512x2048_0_0_1_1_n_n]

variable (m : (ℓ : Loc nD τ sig) → Buf (Elt Ideal) ℓ) (c : Dev nD)

/-- The memory. -/
abbrev X : S256x1024.Idx → EReal := m ((c.tc : Thread nD τ).loc main_arg0)

/-- The derivative by keys and values. -/
abbrev DH : S256x2048.Idx → EReal := m ((c.tc : Thread nD τ).loc main_arg1)

variable (t : Fin cfg0.N)

/-- The array's row that is row `r` of the block at hand. -/
def rowAt (r : Fin 512) : Fin 1024 := ⟨t.val * 512 + r.val, by have : t.val < 2 := t.isLt; omega⟩

theorem place0 : ∀ t : Fin cfg0.N, win0_0.index t 0 = 0 ∧ win0_0.index t 1 = t.val :=
  (by decide +kernel : ∀ t : Fin grid0.N, win0_0.index t 0 = 0 ∧ win0_0.index t 1 = t.val)

theorem place1 : ∀ t : Fin cfg0.N, win0_1.index t 0 = 0 ∧ win0_1.index t 1 = 0 :=
  (by decide +kernel : ∀ t : Fin grid0.N, win0_1.index t 0 = 0 ∧ win0_1.index t 1 = 0)

theorem place2 : ∀ t : Fin cfg0.N, win0_2.index t 0 = t.val ∧ win0_2.index t 1 = 0 :=
  (by decide +kernel : ∀ t : Fin grid0.N, win0_2.index t 0 = t.val ∧ win0_2.index t 1 = 0)

theorem iblk_x (k : Fin 256) (r : Fin 512) : iblk m c 0 t (ix2 k r) = X m c (ix2 k (rowAt t r)) := by
  blk_ext [iblk, V, place0 t, rowAt]

theorem iblk_dh (k : Fin 256) (e : Fin 2048) : iblk m c 1 t (ix2 k e) = DH m c (ix2 k e) := by
  blk_ext [iblk, V, place1 t]

/-- The kernel's array, at a row and a column. -/
def product : S1024x2048.Idx → Elt Ideal .bf16 := fun y => (∑ k : Fin 256, X m c (ix2 k (y 0)) * DH m c (ix2 k (y 1)) : EReal)

theorem rows_at (y : S512x2048.Idx) : k0_pay1 (F := Ideal) (iblk m c 0 t) (iblk m c 1 t) y = product m c (ix2 (rowAt t (y 0)) (y 1)) := by
  rw [eq_ix2 y]
  exact (rows_apply _ _ _ _).trans (Finset.sum_congr rfl fun k _ => congrArg₂ (· * ·) (iblk_x m c t k _) (iblk_dh m c t k _))

theorem product_end : (dats m 0 c).arrAt 2 cfg0.N = product m c := by
  refine (dats m 0 c).arrAt_eq_of_covers 2 _ (by decide +kernel) fun t hf y => ?_
  blk_simp
  rw [after0_2]
  frame_out
  refine (rows_at m c t y).trans (congrArg (product m c) ?_)
  blk_ext [place2 t, rowAt]

end Cert.MemoryWeightIdeal.Product

namespace Cert.MemoryWeightReferenceIdeal.Product

open Cert.MemoryWeightReferenceIdeal Cert.MemoryWeightReferenceIdeal.Read Idealize.ShloMosaic

/-- The reference's array is the same product, its factors the other way round. -/
theorem reference_eq (x : S256x1024.Idx → EReal) (dh : S256x2048.Idx → EReal) :
    val_main_v5 (F := Ideal) x dh = fun y => (∑ k : Fin 256, x (ix2 k (y 0)) * dh (ix2 k (y 1)) : EReal) := by
  funext y
  rw [val_main_v5_apply, val_main_v4_apply, val_main_v3_apply]
  refine Finset.sum_congr rfl fun k _ => (mul_comm (G := EReal) _ _).trans (congrArg₂ (· * ·) (congrArg x ?_) (congrArg dh ?_)) <;> exact eq_ix2 _

end Cert.MemoryWeightReferenceIdeal.Product

end
-- ==== Proof.MoreProducts.lean ====
/-
  THE OTHER PRODUCTS: each program's array is the reference's product.
-/
module

public import proofs.«01_k».proof.Defs
public import proofs.«01_k».proof.Proof.Gen.SquareWeight
public import proofs.«01_k».proof.Proof.Gen.SquareWeight.Frame
public import proofs.«01_k».proof.Proof.Gen.SquareWeightIdeal
public import proofs.«01_k».proof.Proof.Gen.SquareWeightIdeal.Frame
public import proofs.«01_k».proof.Proof.Gen.SquareWeightIdeal.Value
public import proofs.«01_k».proof.Proof.Gen.SquareWeightReferenceIdeal.Run
public import proofs.«01_k».proof.Proof.SquareWeight
public import proofs.«01_k».proof.Proof.Gen.SquareInput
public import proofs.«01_k».proof.Proof.Gen.SquareInput.Frame
public import proofs.«01_k».proof.Proof.Gen.SquareInputIdeal
public import proofs.«01_k».proof.Proof.Gen.SquareInputIdeal.Frame
public import proofs.«01_k».proof.Proof.Gen.SquareInputIdeal.Value
public import proofs.«01_k».proof.Proof.Gen.SquareInputReferenceIdeal.Run
public import proofs.«01_k».proof.Proof.SquareInput
public import proofs.«01_k».proof.Proof.Gen.WindowWeight
public import proofs.«01_k».proof.Proof.Gen.WindowWeight.Frame
public import proofs.«01_k».proof.Proof.Gen.WindowWeightIdeal
public import proofs.«01_k».proof.Proof.Gen.WindowWeightIdeal.Frame
public import proofs.«01_k».proof.Proof.Gen.WindowWeightIdeal.Value
public import proofs.«01_k».proof.Proof.Gen.WindowWeightReferenceIdeal.Run
public import proofs.«01_k».proof.Proof.WindowWeight
public import proofs.«01_k».proof.Proof.Gen.RecurrenceWeight
public import proofs.«01_k».proof.Proof.Gen.RecurrenceWeight.Frame
public import proofs.«01_k».proof.Proof.Gen.RecurrenceWeightIdeal
public import proofs.«01_k».proof.Proof.Gen.RecurrenceWeightIdeal.Frame
public import proofs.«01_k».proof.Proof.Gen.RecurrenceWeightIdeal.Value
public import proofs.«01_k».proof.Proof.Gen.RecurrenceWeightReferenceIdeal.Run
public import proofs.«01_k».proof.Proof.RecurrenceWeight
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal.Run
public import proofs.«01_k».proof.Proof.Up
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryReferenceIdeal.Run
public import proofs.«01_k».proof.Proof.Query
public import proofs.«01_k».proof.Proof.Gen.WindowUp
public import proofs.«01_k».proof.Proof.Gen.WindowUp.Frame
public import proofs.«01_k».proof.Proof.Gen.WindowUpIdeal
public import proofs.«01_k».proof.Proof.Gen.WindowUpIdeal.Frame
public import proofs.«01_k».proof.Proof.Gen.WindowUpIdeal.Value
public import proofs.«01_k».proof.Proof.Gen.WindowUpReferenceIdeal.Run
public import proofs.«01_k».proof.Proof.WindowUp
public import proofs.«01_k».proof.Proof.Gen.RecurrenceUp
public import proofs.«01_k».proof.Proof.Gen.RecurrenceUp.Frame
public import proofs.«01_k».proof.Proof.Gen.RecurrenceUpIdeal
public import proofs.«01_k».proof.Proof.Gen.RecurrenceUpIdeal.Frame
public import proofs.«01_k».proof.Proof.Gen.RecurrenceUpIdeal.Value
public import proofs.«01_k».proof.Proof.Gen.RecurrenceUpReferenceIdeal.Run
public import proofs.«01_k».proof.Proof.RecurrenceUp
public import proofs.«01_k».proof.Proof.Gen.LatentDown
public import proofs.«01_k».proof.Proof.Gen.LatentDown.Frame
public import proofs.«01_k».proof.Proof.Gen.LatentDownIdeal
public import proofs.«01_k».proof.Proof.Gen.LatentDownIdeal.Frame
public import proofs.«01_k».proof.Proof.Gen.LatentDownIdeal.Value
public import proofs.«01_k».proof.Proof.Gen.LatentDownReferenceIdeal.Run
public import proofs.«01_k».proof.Proof.LatentDown
public import proofs.«01_k».proof.Proof.Gen.RopeUp
public import proofs.«01_k».proof.Proof.Gen.RopeUp.Frame
public import proofs.«01_k».proof.Proof.Gen.RopeUpIdeal
public import proofs.«01_k».proof.Proof.Gen.RopeUpIdeal.Frame
public import proofs.«01_k».proof.Proof.Gen.RopeUpIdeal.Value
public import proofs.«01_k».proof.Proof.Gen.RopeUpReferenceIdeal.Run
public import proofs.«01_k».proof.Proof.RopeUp
public import proofs.«01_k».proof.Proof.Gen.NopeUp
public import proofs.«01_k».proof.Proof.Gen.NopeUp.Frame
public import proofs.«01_k».proof.Proof.Gen.NopeUpIdeal
public import proofs.«01_k».proof.Proof.Gen.NopeUpIdeal.Frame
public import proofs.«01_k».proof.Proof.Gen.NopeUpIdeal.Value
public import proofs.«01_k».proof.Proof.Gen.NopeUpReferenceIdeal.Run
public import proofs.«01_k».proof.Proof.NopeUp
public import proofs.«01_k».proof.Proof.Gen.KeyValueUp
public import proofs.«01_k».proof.Proof.Gen.KeyValueUp.Frame
public import proofs.«01_k».proof.Proof.Gen.KeyValueUpIdeal
public import proofs.«01_k».proof.Proof.Gen.KeyValueUpIdeal.Frame
public import proofs.«01_k».proof.Proof.Gen.KeyValueUpIdeal.Value
public import proofs.«01_k».proof.Proof.Gen.KeyValueUpReferenceIdeal.Run
public import proofs.«01_k».proof.Proof.KeyValueUp
public import proofs.«01_k».proof.Proof.Gen.MemoryUp
public import proofs.«01_k».proof.Proof.Gen.MemoryUp.Frame
public import proofs.«01_k».proof.Proof.Gen.MemoryUpIdeal
public import proofs.«01_k».proof.Proof.Gen.MemoryUpIdeal.Frame
public import proofs.«01_k».proof.Proof.Gen.MemoryUpIdeal.Value
public import proofs.«01_k».proof.Proof.Gen.MemoryUpReferenceIdeal.Run
public import proofs.«01_k».proof.Proof.MemoryUp
public import proofs.«01_k».proof.Proof.Gen.WindowInput
public import proofs.«01_k».proof.Proof.Gen.WindowInput.Frame
public import proofs.«01_k».proof.Proof.Gen.WindowInputIdeal
public import proofs.«01_k».proof.Proof.Gen.WindowInputIdeal.Frame
public import proofs.«01_k».proof.Proof.Gen.WindowInputIdeal.Value
public import proofs.«01_k».proof.Proof.Gen.WindowInputReferenceIdeal.Run
public import proofs.«01_k».proof.Proof.WindowInput
public import proofs.«01_k».proof.Proof.Gen.NopeInput
public import proofs.«01_k».proof.Proof.Gen.NopeInput.Frame
public import proofs.«01_k».proof.Proof.Gen.NopeInputIdeal
public import proofs.«01_k».proof.Proof.Gen.NopeInputIdeal.Frame
public import proofs.«01_k».proof.Proof.Gen.NopeInputIdeal.Value
public import proofs.«01_k».proof.Proof.Gen.NopeInputReferenceIdeal.Run
public import proofs.«01_k».proof.Proof.NopeInput
public import proofs.«01_k».proof.Proof.Gen.RopeInput
public import proofs.«01_k».proof.Proof.Gen.RopeInput.Frame
public import proofs.«01_k».proof.Proof.Gen.RopeInputIdeal
public import proofs.«01_k».proof.Proof.Gen.RopeInputIdeal.Frame
public import proofs.«01_k».proof.Proof.Gen.RopeInputIdeal.Value
public import proofs.«01_k».proof.Proof.Gen.RopeInputReferenceIdeal.Run
public import proofs.«01_k».proof.Proof.RopeInput
public import proofs.«01_k».proof.Proof.Gen.KeyValueInput
public import proofs.«01_k».proof.Proof.Gen.KeyValueInput.Frame
public import proofs.«01_k».proof.Proof.Gen.KeyValueInputIdeal
public import proofs.«01_k».proof.Proof.Gen.KeyValueInputIdeal.Frame
public import proofs.«01_k».proof.Proof.Gen.KeyValueInputIdeal.Value
public import proofs.«01_k».proof.Proof.Gen.KeyValueInputReferenceIdeal.Run
public import proofs.«01_k».proof.Proof.KeyValueInput
public import proofs.«01_k».proof.Proof.Gen.LatentWeight
public import proofs.«01_k».proof.Proof.Gen.LatentWeight.Frame
public import proofs.«01_k».proof.Proof.Gen.LatentWeightIdeal
public import proofs.«01_k».proof.Proof.Gen.LatentWeightIdeal.Frame
public import proofs.«01_k».proof.Proof.Gen.LatentWeightIdeal.Value
public import proofs.«01_k».proof.Proof.Gen.LatentWeightReferenceIdeal.Run
public import proofs.«01_k».proof.Proof.LatentWeight
public import proofs.«01_k».proof.Proof.Gen.NopeWeight
public import proofs.«01_k».proof.Proof.Gen.NopeWeight.Frame
public import proofs.«01_k».proof.Proof.Gen.NopeWeightIdeal
public import proofs.«01_k».proof.Proof.Gen.NopeWeightIdeal.Frame
public import proofs.«01_k».proof.Proof.Gen.NopeWeightIdeal.Value
public import proofs.«01_k».proof.Proof.Gen.NopeWeightReferenceIdeal.Run
public import proofs.«01_k».proof.Proof.NopeWeight
public import proofs.«01_k».proof.Proof.Gen.RopeWeight
public import proofs.«01_k».proof.Proof.Gen.RopeWeight.Frame
public import proofs.«01_k».proof.Proof.Gen.RopeWeightIdeal
public import proofs.«01_k».proof.Proof.Gen.RopeWeightIdeal.Frame
public import proofs.«01_k».proof.Proof.Gen.RopeWeightIdeal.Value
public import proofs.«01_k».proof.Proof.Gen.RopeWeightReferenceIdeal.Run
public import proofs.«01_k».proof.Proof.RopeWeight
public import proofs.«01_k».proof.Proof.Gen.KeyValueWeight
public import proofs.«01_k».proof.Proof.Gen.KeyValueWeight.Frame
public import proofs.«01_k».proof.Proof.Gen.KeyValueWeightIdeal
public import proofs.«01_k».proof.Proof.Gen.KeyValueWeightIdeal.Frame
public import proofs.«01_k».proof.Proof.Gen.KeyValueWeightIdeal.Value
public import proofs.«01_k».proof.Proof.Gen.KeyValueWeightReferenceIdeal.Run
public import proofs.«01_k».proof.Proof.KeyValueWeight
public import proofs.«01_k».proof.Proof.Gen.MemoryWeight
public import proofs.«01_k».proof.Proof.Gen.MemoryWeight.Frame
public import proofs.«01_k».proof.Proof.Gen.MemoryWeightIdeal
public import proofs.«01_k».proof.Proof.Gen.MemoryWeightIdeal.Frame
public import proofs.«01_k».proof.Proof.Gen.MemoryWeightIdeal.Value
public import proofs.«01_k».proof.Proof.Gen.MemoryWeightReferenceIdeal.Run
public import proofs.«01_k».proof.Proof.MemoryWeight
public import Idealize.ShloMosaic.Lib.Claim
public import Idealize.ShloMosaic.Lib.Quiescent
public import Idealize.ShloMosaic.Adequacy
public import Idealize.ShloMosaic.Init

@[expose] public section

noncomputable section

namespace Cert.MoreProducts

open Idealize.ShloMosaic Idealize.SL.Sem

/-- A square weight's gradient: the reference leaves its arguments as they were. -/
theorem squareWeight_frame : Cert.quiescent_SquareWeightReferenceIdeal := fun m ρ _ =>
  (θ_run Cert.SquareWeightReferenceIdeal.defs _ _).mono (fun r h => ⟨fun c => (h c).2, sem_eq_zero_of_no_sems (by decide) r.2⟩) (Cert.SquareWeightReferenceIdeal.Value.run (F := Ideal) m ρ)

/-- A square weight's gradient: the two arrays are equal. -/
theorem squareWeight_same : Cert.algebraic_SquareWeightIdeal_SquareWeightReferenceIdeal := by
  intro m g m' g' _ hargs
  refine ⟨fun c => Cert.SquareWeightIdeal.Product.product m c, ?_, ?_⟩
  · refine (θ_run Cert.SquareWeightIdeal.defs _ _).mono (fun r h c => ?_) (Cert.SquareWeightIdeal.Value.run_blocks m g)
    obtain ⟨h2, ha⟩ := h c
    exact ⟨h2.trans (Cert.SquareWeightIdeal.Product.product_end m c), ha⟩
  · refine (θ_run Cert.SquareWeightReferenceIdeal.defs _ _).mono (fun r h c => ?_) (Cert.SquareWeightReferenceIdeal.Value.run m' g')
    obtain ⟨hv, ha⟩ := h c
    obtain ⟨e0, e1⟩ := hargs c
    refine ⟨hv.trans ?_, ha⟩
    rw [Cert.SquareWeightReferenceIdeal.Read.val_main_v6_eq, e0, e1]
    exact Cert.SquareWeightReferenceIdeal.Product.reference_eq (Cert.SquareWeightIdeal.Product.X m c) (Cert.SquareWeightIdeal.Product.DH m c)

/-- The derivative by a square product's input: the reference leaves its arguments as they were. -/
theorem squareInput_frame : Cert.quiescent_SquareInputReferenceIdeal := fun m ρ _ =>
  (θ_run Cert.SquareInputReferenceIdeal.defs _ _).mono (fun r h => ⟨fun c => (h c).2, sem_eq_zero_of_no_sems (by decide) r.2⟩) (Cert.SquareInputReferenceIdeal.Value.run (F := Ideal) m ρ)

/-- The derivative by a square product's input: the two arrays are equal. -/
theorem squareInput_same : Cert.algebraic_SquareInputIdeal_SquareInputReferenceIdeal := by
  intro m g m' g' _ hargs
  refine ⟨fun c => Cert.SquareInputIdeal.Product.product m c, ?_, ?_⟩
  · refine (θ_run Cert.SquareInputIdeal.defs _ _).mono (fun r h c => ?_) (Cert.SquareInputIdeal.Value.run_blocks m g)
    obtain ⟨h2, ha⟩ := h c
    exact ⟨h2.trans (Cert.SquareInputIdeal.Product.product_end m c), ha⟩
  · refine (θ_run Cert.SquareInputReferenceIdeal.defs _ _).mono (fun r h c => ?_) (Cert.SquareInputReferenceIdeal.Value.run m' g')
    obtain ⟨hv, ha⟩ := h c
    obtain ⟨e0, e1⟩ := hargs c
    refine ⟨hv.trans ?_, ha⟩
    rw [Cert.SquareInputReferenceIdeal.Read.val_main_v5_eq, e0, e1]
    exact Cert.SquareInputReferenceIdeal.Product.reference_eq (Cert.SquareInputIdeal.Product.DZ m c) (Cert.SquareInputIdeal.Product.W m c)

/-- The gradient by the windowed attention's first weight: the reference leaves its arguments as they were. -/
theorem windowWeight_frame : Cert.quiescent_WindowWeightReferenceIdeal := fun m ρ _ =>
  (θ_run Cert.WindowWeightReferenceIdeal.defs _ _).mono (fun r h => ⟨fun c => (h c).2, sem_eq_zero_of_no_sems (by decide) r.2⟩) (Cert.WindowWeightReferenceIdeal.Value.run (F := Ideal) m ρ)

/-- The gradient by the windowed attention's first weight: the two arrays are equal. -/
theorem windowWeight_same : Cert.algebraic_WindowWeightIdeal_WindowWeightReferenceIdeal := by
  intro m g m' g' _ hargs
  refine ⟨fun c => Cert.WindowWeightIdeal.Product.product m c, ?_, ?_⟩
  · refine (θ_run Cert.WindowWeightIdeal.defs _ _).mono (fun r h c => ?_) (Cert.WindowWeightIdeal.Value.run_blocks m g)
    obtain ⟨h2, ha⟩ := h c
    exact ⟨h2.trans (Cert.WindowWeightIdeal.Product.product_end m c), ha⟩
  · refine (θ_run Cert.WindowWeightReferenceIdeal.defs _ _).mono (fun r h c => ?_) (Cert.WindowWeightReferenceIdeal.Value.run m' g')
    obtain ⟨hv, ha⟩ := h c
    obtain ⟨e0, e1⟩ := hargs c
    refine ⟨hv.trans ?_, ha⟩
    rw [Cert.WindowWeightReferenceIdeal.Read.val_main_v6_eq, e0, e1]
    exact Cert.WindowWeightReferenceIdeal.Product.reference_eq (Cert.WindowWeightIdeal.Product.X m c) (Cert.WindowWeightIdeal.Product.DH m c)

/-- The gradient by the recurrence's first weight: the reference leaves its arguments as they were. -/
theorem recurrenceWeight_frame : Cert.quiescent_RecurrenceWeightReferenceIdeal := fun m ρ _ =>
  (θ_run Cert.RecurrenceWeightReferenceIdeal.defs _ _).mono (fun r h => ⟨fun c => (h c).2, sem_eq_zero_of_no_sems (by decide) r.2⟩) (Cert.RecurrenceWeightReferenceIdeal.Value.run (F := Ideal) m ρ)

/-- The gradient by the recurrence's first weight: the two arrays are equal. -/
theorem recurrenceWeight_same : Cert.algebraic_RecurrenceWeightIdeal_RecurrenceWeightReferenceIdeal := by
  intro m g m' g' _ hargs
  refine ⟨fun c => Cert.RecurrenceWeightIdeal.Product.product m c, ?_, ?_⟩
  · refine (θ_run Cert.RecurrenceWeightIdeal.defs _ _).mono (fun r h c => ?_) (Cert.RecurrenceWeightIdeal.Value.run_blocks m g)
    obtain ⟨h2, ha⟩ := h c
    exact ⟨h2.trans (Cert.RecurrenceWeightIdeal.Product.product_end m c), ha⟩
  · refine (θ_run Cert.RecurrenceWeightReferenceIdeal.defs _ _).mono (fun r h c => ?_) (Cert.RecurrenceWeightReferenceIdeal.Value.run m' g')
    obtain ⟨hv, ha⟩ := h c
    obtain ⟨e0, e1⟩ := hargs c
    refine ⟨hv.trans ?_, ha⟩
    rw [Cert.RecurrenceWeightReferenceIdeal.Read.val_main_v6_eq, e0, e1]
    exact Cert.RecurrenceWeightReferenceIdeal.Product.reference_eq (Cert.RecurrenceWeightIdeal.Product.X m c) (Cert.RecurrenceWeightIdeal.Product.DH m c)

/-- The feed-forward block's first product: the reference leaves its arguments as they were. -/
theorem up_frame : Cert.quiescent_UpReferenceIdeal := fun m ρ _ =>
  (θ_run Cert.UpReferenceIdeal.defs _ _).mono (fun r h => ⟨fun c => (h c).2, sem_eq_zero_of_no_sems (by decide) r.2⟩) (Cert.UpReferenceIdeal.Value.run (F := Ideal) m ρ)

/-- The feed-forward block's first product: the two arrays are equal. -/
theorem up_same : Cert.algebraic_UpIdeal_UpReferenceIdeal := by
  intro m g m' g' _ hargs
  refine ⟨fun c => Cert.UpIdeal.Product.product m c, ?_, ?_⟩
  · refine (θ_run Cert.UpIdeal.defs _ _).mono (fun r h c => ?_) (Cert.UpIdeal.Value.run_blocks m g)
    obtain ⟨h2, ha⟩ := h c
    exact ⟨h2.trans (Cert.UpIdeal.Product.product_end m c), ha⟩
  · refine (θ_run Cert.UpReferenceIdeal.defs _ _).mono (fun r h c => ?_) (Cert.UpReferenceIdeal.Value.run m' g')
    obtain ⟨hv, ha⟩ := h c
    obtain ⟨e0, e1⟩ := hargs c
    refine ⟨hv.trans ?_, ha⟩
    rw [Cert.UpReferenceIdeal.Read.val_main_v3_eq, e0, e1]
    exact Cert.UpReferenceIdeal.Product.reference_eq (Cert.UpIdeal.Product.X m c) (Cert.UpIdeal.Product.W m c)

/-- The cross-attention's queries: the reference leaves its arguments as they were. -/
theorem query_frame : Cert.quiescent_QueryReferenceIdeal := fun m ρ _ =>
  (θ_run Cert.QueryReferenceIdeal.defs _ _).mono (fun r h => ⟨fun c => (h c).2, sem_eq_zero_of_no_sems (by decide) r.2⟩) (Cert.QueryReferenceIdeal.Value.run (F := Ideal) m ρ)

/-- The cross-attention's queries: the two arrays are equal. -/
theorem query_same : Cert.algebraic_QueryIdeal_QueryReferenceIdeal := by
  intro m g m' g' _ hargs
  refine ⟨fun c => Cert.QueryIdeal.Product.product m c, ?_, ?_⟩
  · refine (θ_run Cert.QueryIdeal.defs _ _).mono (fun r h c => ?_) (Cert.QueryIdeal.Value.run_blocks m g)
    obtain ⟨h2, ha⟩ := h c
    exact ⟨h2.trans (Cert.QueryIdeal.Product.product_end m c), ha⟩
  · refine (θ_run Cert.QueryReferenceIdeal.defs _ _).mono (fun r h c => ?_) (Cert.QueryReferenceIdeal.Value.run m' g')
    obtain ⟨hv, ha⟩ := h c
    obtain ⟨e0, e1⟩ := hargs c
    refine ⟨hv.trans ?_, ha⟩
    rw [Cert.QueryReferenceIdeal.Read.val_main_v3_eq, e0, e1]
    exact Cert.QueryReferenceIdeal.Product.reference_eq (Cert.QueryIdeal.Product.X m c) (Cert.QueryIdeal.Product.W m c)

/-- The windowed attention's first product: the reference leaves its arguments as they were. -/
theorem windowUp_frame : Cert.quiescent_WindowUpReferenceIdeal := fun m ρ _ =>
  (θ_run Cert.WindowUpReferenceIdeal.defs _ _).mono (fun r h => ⟨fun c => (h c).2, sem_eq_zero_of_no_sems (by decide) r.2⟩) (Cert.WindowUpReferenceIdeal.Value.run (F := Ideal) m ρ)

/-- The windowed attention's first product: the two arrays are equal. -/
theorem windowUp_same : Cert.algebraic_WindowUpIdeal_WindowUpReferenceIdeal := by
  intro m g m' g' _ hargs
  refine ⟨fun c => Cert.WindowUpIdeal.Product.product m c, ?_, ?_⟩
  · refine (θ_run Cert.WindowUpIdeal.defs _ _).mono (fun r h c => ?_) (Cert.WindowUpIdeal.Value.run_blocks m g)
    obtain ⟨h2, ha⟩ := h c
    exact ⟨h2.trans (Cert.WindowUpIdeal.Product.product_end m c), ha⟩
  · refine (θ_run Cert.WindowUpReferenceIdeal.defs _ _).mono (fun r h c => ?_) (Cert.WindowUpReferenceIdeal.Value.run m' g')
    obtain ⟨hv, ha⟩ := h c
    obtain ⟨e0, e1⟩ := hargs c
    refine ⟨hv.trans ?_, ha⟩
    rw [Cert.WindowUpReferenceIdeal.Read.val_main_v2_eq, e0, e1]
    exact Cert.WindowUpReferenceIdeal.Product.reference_eq (Cert.WindowUpIdeal.Product.X m c) (Cert.WindowUpIdeal.Product.W m c)

/-- The recurrence's first product: the reference leaves its arguments as they were. -/
theorem recurrenceUp_frame : Cert.quiescent_RecurrenceUpReferenceIdeal := fun m ρ _ =>
  (θ_run Cert.RecurrenceUpReferenceIdeal.defs _ _).mono (fun r h => ⟨fun c => (h c).2, sem_eq_zero_of_no_sems (by decide) r.2⟩) (Cert.RecurrenceUpReferenceIdeal.Value.run (F := Ideal) m ρ)

/-- The recurrence's first product: the two arrays are equal. -/
theorem recurrenceUp_same : Cert.algebraic_RecurrenceUpIdeal_RecurrenceUpReferenceIdeal := by
  intro m g m' g' _ hargs
  refine ⟨fun c => Cert.RecurrenceUpIdeal.Product.product m c, ?_, ?_⟩
  · refine (θ_run Cert.RecurrenceUpIdeal.defs _ _).mono (fun r h c => ?_) (Cert.RecurrenceUpIdeal.Value.run_blocks m g)
    obtain ⟨h2, ha⟩ := h c
    exact ⟨h2.trans (Cert.RecurrenceUpIdeal.Product.product_end m c), ha⟩
  · refine (θ_run Cert.RecurrenceUpReferenceIdeal.defs _ _).mono (fun r h c => ?_) (Cert.RecurrenceUpReferenceIdeal.Value.run m' g')
    obtain ⟨hv, ha⟩ := h c
    obtain ⟨e0, e1⟩ := hargs c
    refine ⟨hv.trans ?_, ha⟩
    rw [Cert.RecurrenceUpReferenceIdeal.Read.val_main_v2_eq, e0, e1]
    exact Cert.RecurrenceUpReferenceIdeal.Product.reference_eq (Cert.RecurrenceUpIdeal.Product.X m c) (Cert.RecurrenceUpIdeal.Product.W m c)

/-- The latent attention's first product: the reference leaves its arguments as they were. -/
theorem latentDown_frame : Cert.quiescent_LatentDownReferenceIdeal := fun m ρ _ =>
  (θ_run Cert.LatentDownReferenceIdeal.defs _ _).mono (fun r h => ⟨fun c => (h c).2, sem_eq_zero_of_no_sems (by decide) r.2⟩) (Cert.LatentDownReferenceIdeal.Value.run (F := Ideal) m ρ)

/-- The latent attention's first product: the two arrays are equal. -/
theorem latentDown_same : Cert.algebraic_LatentDownIdeal_LatentDownReferenceIdeal := by
  intro m g m' g' _ hargs
  refine ⟨fun c => Cert.LatentDownIdeal.Product.product m c, ?_, ?_⟩
  · refine (θ_run Cert.LatentDownIdeal.defs _ _).mono (fun r h c => ?_) (Cert.LatentDownIdeal.Value.run_blocks m g)
    obtain ⟨h2, ha⟩ := h c
    exact ⟨h2.trans (Cert.LatentDownIdeal.Product.product_end m c), ha⟩
  · refine (θ_run Cert.LatentDownReferenceIdeal.defs _ _).mono (fun r h c => ?_) (Cert.LatentDownReferenceIdeal.Value.run m' g')
    obtain ⟨hv, ha⟩ := h c
    obtain ⟨e0, e1⟩ := hargs c
    refine ⟨hv.trans ?_, ha⟩
    rw [Cert.LatentDownReferenceIdeal.Read.val_main_v2_eq, e0, e1]
    exact Cert.LatentDownReferenceIdeal.Product.reference_eq (Cert.LatentDownIdeal.Product.X m c) (Cert.LatentDownIdeal.Product.W m c)

/-- The queries that are rotated: the reference leaves its arguments as they were. -/
theorem ropeUp_frame : Cert.quiescent_RopeUpReferenceIdeal := fun m ρ _ =>
  (θ_run Cert.RopeUpReferenceIdeal.defs _ _).mono (fun r h => ⟨fun c => (h c).2, sem_eq_zero_of_no_sems (by decide) r.2⟩) (Cert.RopeUpReferenceIdeal.Value.run (F := Ideal) m ρ)

/-- The queries that are rotated: the two arrays are equal. -/
theorem ropeUp_same : Cert.algebraic_RopeUpIdeal_RopeUpReferenceIdeal := by
  intro m g m' g' _ hargs
  refine ⟨fun c => Cert.RopeUpIdeal.Product.product m c, ?_, ?_⟩
  · refine (θ_run Cert.RopeUpIdeal.defs _ _).mono (fun r h c => ?_) (Cert.RopeUpIdeal.Value.run_blocks m g)
    obtain ⟨h2, ha⟩ := h c
    exact ⟨h2.trans (Cert.RopeUpIdeal.Product.product_end m c), ha⟩
  · refine (θ_run Cert.RopeUpReferenceIdeal.defs _ _).mono (fun r h c => ?_) (Cert.RopeUpReferenceIdeal.Value.run m' g')
    obtain ⟨hv, ha⟩ := h c
    obtain ⟨e0, e1⟩ := hargs c
    refine ⟨hv.trans ?_, ha⟩
    rw [Cert.RopeUpReferenceIdeal.Read.val_main_v2_eq, e0, e1]
    exact Cert.RopeUpReferenceIdeal.Product.reference_eq (Cert.RopeUpIdeal.Product.X m c) (Cert.RopeUpIdeal.Product.W m c)

/-- The queries that are not rotated: the reference leaves its arguments as they were. -/
theorem nopeUp_frame : Cert.quiescent_NopeUpReferenceIdeal := fun m ρ _ =>
  (θ_run Cert.NopeUpReferenceIdeal.defs _ _).mono (fun r h => ⟨fun c => (h c).2, sem_eq_zero_of_no_sems (by decide) r.2⟩) (Cert.NopeUpReferenceIdeal.Value.run (F := Ideal) m ρ)

/-- The queries that are not rotated: the two arrays are equal. -/
theorem nopeUp_same : Cert.algebraic_NopeUpIdeal_NopeUpReferenceIdeal := by
  intro m g m' g' _ hargs
  refine ⟨fun c => Cert.NopeUpIdeal.Product.product m c, ?_, ?_⟩
  · refine (θ_run Cert.NopeUpIdeal.defs _ _).mono (fun r h c => ?_) (Cert.NopeUpIdeal.Value.run_blocks m g)
    obtain ⟨h2, ha⟩ := h c
    exact ⟨h2.trans (Cert.NopeUpIdeal.Product.product_end m c), ha⟩
  · refine (θ_run Cert.NopeUpReferenceIdeal.defs _ _).mono (fun r h c => ?_) (Cert.NopeUpReferenceIdeal.Value.run m' g')
    obtain ⟨hv, ha⟩ := h c
    obtain ⟨e0, e1⟩ := hargs c
    refine ⟨hv.trans ?_, ha⟩
    rw [Cert.NopeUpReferenceIdeal.Read.val_main_v3_eq, e0, e1]
    exact Cert.NopeUpReferenceIdeal.Product.reference_eq (Cert.NopeUpIdeal.Product.X m c) (Cert.NopeUpIdeal.Product.W m c)

/-- The latent attention's keys and values: the reference leaves its arguments as they were. -/
theorem keyValueUp_frame : Cert.quiescent_KeyValueUpReferenceIdeal := fun m ρ _ =>
  (θ_run Cert.KeyValueUpReferenceIdeal.defs _ _).mono (fun r h => ⟨fun c => (h c).2, sem_eq_zero_of_no_sems (by decide) r.2⟩) (Cert.KeyValueUpReferenceIdeal.Value.run (F := Ideal) m ρ)

/-- The latent attention's keys and values: the two arrays are equal. -/
theorem keyValueUp_same : Cert.algebraic_KeyValueUpIdeal_KeyValueUpReferenceIdeal := by
  intro m g m' g' _ hargs
  refine ⟨fun c => Cert.KeyValueUpIdeal.Product.product m c, ?_, ?_⟩
  · refine (θ_run Cert.KeyValueUpIdeal.defs _ _).mono (fun r h c => ?_) (Cert.KeyValueUpIdeal.Value.run_blocks m g)
    obtain ⟨h2, ha⟩ := h c
    exact ⟨h2.trans (Cert.KeyValueUpIdeal.Product.product_end m c), ha⟩
  · refine (θ_run Cert.KeyValueUpReferenceIdeal.defs _ _).mono (fun r h c => ?_) (Cert.KeyValueUpReferenceIdeal.Value.run m' g')
    obtain ⟨hv, ha⟩ := h c
    obtain ⟨e0, e1⟩ := hargs c
    refine ⟨hv.trans ?_, ha⟩
    rw [Cert.KeyValueUpReferenceIdeal.Read.val_main_v3_eq, e0, e1]
    exact Cert.KeyValueUpReferenceIdeal.Product.reference_eq (Cert.KeyValueUpIdeal.Product.X m c) (Cert.KeyValueUpIdeal.Product.W m c)

/-- The memory's keys and values: the reference leaves its arguments as they were. -/
theorem memoryUp_frame : Cert.quiescent_MemoryUpReferenceIdeal := fun m ρ _ =>
  (θ_run Cert.MemoryUpReferenceIdeal.defs _ _).mono (fun r h => ⟨fun c => (h c).2, sem_eq_zero_of_no_sems (by decide) r.2⟩) (Cert.MemoryUpReferenceIdeal.Value.run (F := Ideal) m ρ)

/-- The memory's keys and values: the two arrays are equal. -/
theorem memoryUp_same : Cert.algebraic_MemoryUpIdeal_MemoryUpReferenceIdeal := by
  intro m g m' g' _ hargs
  refine ⟨fun c => Cert.MemoryUpIdeal.Product.product m c, ?_, ?_⟩
  · refine (θ_run Cert.MemoryUpIdeal.defs _ _).mono (fun r h c => ?_) (Cert.MemoryUpIdeal.Value.run_blocks m g)
    obtain ⟨h2, ha⟩ := h c
    exact ⟨h2.trans (Cert.MemoryUpIdeal.Product.product_end m c), ha⟩
  · refine (θ_run Cert.MemoryUpReferenceIdeal.defs _ _).mono (fun r h c => ?_) (Cert.MemoryUpReferenceIdeal.Value.run m' g')
    obtain ⟨hv, ha⟩ := h c
    obtain ⟨e0, e1⟩ := hargs c
    refine ⟨hv.trans ?_, ha⟩
    rw [Cert.MemoryUpReferenceIdeal.Read.val_main_v3_eq, e0, e1]
    exact Cert.MemoryUpReferenceIdeal.Product.reference_eq (Cert.MemoryUpIdeal.Product.X m c) (Cert.MemoryUpIdeal.Product.W m c)

/-- The derivative by the first layer's input: the reference leaves its arguments as they were. -/
theorem windowInput_frame : Cert.quiescent_WindowInputReferenceIdeal := fun m ρ _ =>
  (θ_run Cert.WindowInputReferenceIdeal.defs _ _).mono (fun r h => ⟨fun c => (h c).2, sem_eq_zero_of_no_sems (by decide) r.2⟩) (Cert.WindowInputReferenceIdeal.Value.run (F := Ideal) m ρ)

/-- The derivative by the first layer's input: the two arrays are equal. -/
theorem windowInput_same : Cert.algebraic_WindowInputIdeal_WindowInputReferenceIdeal := by
  intro m g m' g' _ hargs
  refine ⟨fun c => Cert.WindowInputIdeal.Product.product m c, ?_, ?_⟩
  · refine (θ_run Cert.WindowInputIdeal.defs _ _).mono (fun r h c => ?_) (Cert.WindowInputIdeal.Value.run_blocks m g)
    obtain ⟨h2, ha⟩ := h c
    exact ⟨h2.trans (Cert.WindowInputIdeal.Product.product_end m c), ha⟩
  · refine (θ_run Cert.WindowInputReferenceIdeal.defs _ _).mono (fun r h c => ?_) (Cert.WindowInputReferenceIdeal.Value.run m' g')
    obtain ⟨hv, ha⟩ := h c
    obtain ⟨e0, e1⟩ := hargs c
    refine ⟨hv.trans ?_, ha⟩
    rw [Cert.WindowInputReferenceIdeal.Read.val_main_v4_eq, e0, e1]
    exact Cert.WindowInputReferenceIdeal.Product.reference_eq (Cert.WindowInputIdeal.Product.DZ m c) (Cert.WindowInputIdeal.Product.W m c)

/-- The derivative through the queries that are not rotated: the reference leaves its arguments as they were. -/
theorem nopeInput_frame : Cert.quiescent_NopeInputReferenceIdeal := fun m ρ _ =>
  (θ_run Cert.NopeInputReferenceIdeal.defs _ _).mono (fun r h => ⟨fun c => (h c).2, sem_eq_zero_of_no_sems (by decide) r.2⟩) (Cert.NopeInputReferenceIdeal.Value.run (F := Ideal) m ρ)

/-- The derivative through the queries that are not rotated: the two arrays are equal. -/
theorem nopeInput_same : Cert.algebraic_NopeInputIdeal_NopeInputReferenceIdeal := by
  intro m g m' g' _ hargs
  refine ⟨fun c => Cert.NopeInputIdeal.Product.product m c, ?_, ?_⟩
  · refine (θ_run Cert.NopeInputIdeal.defs _ _).mono (fun r h c => ?_) (Cert.NopeInputIdeal.Value.run_blocks m g)
    obtain ⟨h2, ha⟩ := h c
    exact ⟨h2.trans (Cert.NopeInputIdeal.Product.product_end m c), ha⟩
  · refine (θ_run Cert.NopeInputReferenceIdeal.defs _ _).mono (fun r h c => ?_) (Cert.NopeInputReferenceIdeal.Value.run m' g')
    obtain ⟨hv, ha⟩ := h c
    obtain ⟨e0, e1⟩ := hargs c
    refine ⟨hv.trans ?_, ha⟩
    rw [Cert.NopeInputReferenceIdeal.Read.val_main_v4_eq, e0, e1]
    exact Cert.NopeInputReferenceIdeal.Product.reference_eq (Cert.NopeInputIdeal.Product.DZ m c) (Cert.NopeInputIdeal.Product.W m c)

/-- The derivative through the queries that are rotated: the reference leaves its arguments as they were. -/
theorem ropeInput_frame : Cert.quiescent_RopeInputReferenceIdeal := fun m ρ _ =>
  (θ_run Cert.RopeInputReferenceIdeal.defs _ _).mono (fun r h => ⟨fun c => (h c).2, sem_eq_zero_of_no_sems (by decide) r.2⟩) (Cert.RopeInputReferenceIdeal.Value.run (F := Ideal) m ρ)

/-- The derivative through the queries that are rotated: the two arrays are equal. -/
theorem ropeInput_same : Cert.algebraic_RopeInputIdeal_RopeInputReferenceIdeal := by
  intro m g m' g' _ hargs
  refine ⟨fun c => Cert.RopeInputIdeal.Product.product m c, ?_, ?_⟩
  · refine (θ_run Cert.RopeInputIdeal.defs _ _).mono (fun r h c => ?_) (Cert.RopeInputIdeal.Value.run_blocks m g)
    obtain ⟨h2, ha⟩ := h c
    exact ⟨h2.trans (Cert.RopeInputIdeal.Product.product_end m c), ha⟩
  · refine (θ_run Cert.RopeInputReferenceIdeal.defs _ _).mono (fun r h c => ?_) (Cert.RopeInputReferenceIdeal.Value.run m' g')
    obtain ⟨hv, ha⟩ := h c
    obtain ⟨e0, e1⟩ := hargs c
    refine ⟨hv.trans ?_, ha⟩
    rw [Cert.RopeInputReferenceIdeal.Read.val_main_v4_eq, e0, e1]
    exact Cert.RopeInputReferenceIdeal.Product.reference_eq (Cert.RopeInputIdeal.Product.DZ m c) (Cert.RopeInputIdeal.Product.W m c)

/-- The derivative by the latent key and value: the reference leaves its arguments as they were. -/
theorem keyValueInput_frame : Cert.quiescent_KeyValueInputReferenceIdeal := fun m ρ _ =>
  (θ_run Cert.KeyValueInputReferenceIdeal.defs _ _).mono (fun r h => ⟨fun c => (h c).2, sem_eq_zero_of_no_sems (by decide) r.2⟩) (Cert.KeyValueInputReferenceIdeal.Value.run (F := Ideal) m ρ)

/-- The derivative by the latent key and value: the two arrays are equal. -/
theorem keyValueInput_same : Cert.algebraic_KeyValueInputIdeal_KeyValueInputReferenceIdeal := by
  intro m g m' g' _ hargs
  refine ⟨fun c => Cert.KeyValueInputIdeal.Product.product m c, ?_, ?_⟩
  · refine (θ_run Cert.KeyValueInputIdeal.defs _ _).mono (fun r h c => ?_) (Cert.KeyValueInputIdeal.Value.run_blocks m g)
    obtain ⟨h2, ha⟩ := h c
    exact ⟨h2.trans (Cert.KeyValueInputIdeal.Product.product_end m c), ha⟩
  · refine (θ_run Cert.KeyValueInputReferenceIdeal.defs _ _).mono (fun r h c => ?_) (Cert.KeyValueInputReferenceIdeal.Value.run m' g')
    obtain ⟨hv, ha⟩ := h c
    obtain ⟨e0, e1⟩ := hargs c
    refine ⟨hv.trans ?_, ha⟩
    rw [Cert.KeyValueInputReferenceIdeal.Read.val_main_v4_eq, e0, e1]
    exact Cert.KeyValueInputReferenceIdeal.Product.reference_eq (Cert.KeyValueInputIdeal.Product.DZ m c) (Cert.KeyValueInputIdeal.Product.W m c)

/-- The gradient by the latent attention's first weight: the reference leaves its arguments as they were. -/
theorem latentWeight_frame : Cert.quiescent_LatentWeightReferenceIdeal := fun m ρ _ =>
  (θ_run Cert.LatentWeightReferenceIdeal.defs _ _).mono (fun r h => ⟨fun c => (h c).2, sem_eq_zero_of_no_sems (by decide) r.2⟩) (Cert.LatentWeightReferenceIdeal.Value.run (F := Ideal) m ρ)

/-- The gradient by the latent attention's first weight: the two arrays are equal. -/
theorem latentWeight_same : Cert.algebraic_LatentWeightIdeal_LatentWeightReferenceIdeal := by
  intro m g m' g' _ hargs
  refine ⟨fun c => Cert.LatentWeightIdeal.Product.product m c, ?_, ?_⟩
  · refine (θ_run Cert.LatentWeightIdeal.defs _ _).mono (fun r h c => ?_) (Cert.LatentWeightIdeal.Value.run_blocks m g)
    obtain ⟨h2, ha⟩ := h c
    exact ⟨h2.trans (Cert.LatentWeightIdeal.Product.product_end m c), ha⟩
  · refine (θ_run Cert.LatentWeightReferenceIdeal.defs _ _).mono (fun r h c => ?_) (Cert.LatentWeightReferenceIdeal.Value.run m' g')
    obtain ⟨hv, ha⟩ := h c
    obtain ⟨e0, e1⟩ := hargs c
    refine ⟨hv.trans ?_, ha⟩
    rw [Cert.LatentWeightReferenceIdeal.Read.val_main_v6_eq, e0, e1]
    exact Cert.LatentWeightReferenceIdeal.Product.reference_eq (Cert.LatentWeightIdeal.Product.X m c) (Cert.LatentWeightIdeal.Product.DH m c)

/-- The gradient by the weight of the queries that are not rotated: the reference leaves its arguments as they were. -/
theorem nopeWeight_frame : Cert.quiescent_NopeWeightReferenceIdeal := fun m ρ _ =>
  (θ_run Cert.NopeWeightReferenceIdeal.defs _ _).mono (fun r h => ⟨fun c => (h c).2, sem_eq_zero_of_no_sems (by decide) r.2⟩) (Cert.NopeWeightReferenceIdeal.Value.run (F := Ideal) m ρ)

/-- The gradient by the weight of the queries that are not rotated: the two arrays are equal. -/
theorem nopeWeight_same : Cert.algebraic_NopeWeightIdeal_NopeWeightReferenceIdeal := by
  intro m g m' g' _ hargs
  refine ⟨fun c => Cert.NopeWeightIdeal.Product.product m c, ?_, ?_⟩
  · refine (θ_run Cert.NopeWeightIdeal.defs _ _).mono (fun r h c => ?_) (Cert.NopeWeightIdeal.Value.run_blocks m g)
    obtain ⟨h2, ha⟩ := h c
    exact ⟨h2.trans (Cert.NopeWeightIdeal.Product.product_end m c), ha⟩
  · refine (θ_run Cert.NopeWeightReferenceIdeal.defs _ _).mono (fun r h c => ?_) (Cert.NopeWeightReferenceIdeal.Value.run m' g')
    obtain ⟨hv, ha⟩ := h c
    obtain ⟨e0, e1⟩ := hargs c
    refine ⟨hv.trans ?_, ha⟩
    rw [Cert.NopeWeightReferenceIdeal.Read.val_main_v6_eq, e0, e1]
    exact Cert.NopeWeightReferenceIdeal.Product.reference_eq (Cert.NopeWeightIdeal.Product.X m c) (Cert.NopeWeightIdeal.Product.DH m c)

/-- The gradient by the weight of the queries that are rotated: the reference leaves its arguments as they were. -/
theorem ropeWeight_frame : Cert.quiescent_RopeWeightReferenceIdeal := fun m ρ _ =>
  (θ_run Cert.RopeWeightReferenceIdeal.defs _ _).mono (fun r h => ⟨fun c => (h c).2, sem_eq_zero_of_no_sems (by decide) r.2⟩) (Cert.RopeWeightReferenceIdeal.Value.run (F := Ideal) m ρ)

/-- The gradient by the weight of the queries that are rotated: the two arrays are equal. -/
theorem ropeWeight_same : Cert.algebraic_RopeWeightIdeal_RopeWeightReferenceIdeal := by
  intro m g m' g' _ hargs
  refine ⟨fun c => Cert.RopeWeightIdeal.Product.product m c, ?_, ?_⟩
  · refine (θ_run Cert.RopeWeightIdeal.defs _ _).mono (fun r h c => ?_) (Cert.RopeWeightIdeal.Value.run_blocks m g)
    obtain ⟨h2, ha⟩ := h c
    exact ⟨h2.trans (Cert.RopeWeightIdeal.Product.product_end m c), ha⟩
  · refine (θ_run Cert.RopeWeightReferenceIdeal.defs _ _).mono (fun r h c => ?_) (Cert.RopeWeightReferenceIdeal.Value.run m' g')
    obtain ⟨hv, ha⟩ := h c
    obtain ⟨e0, e1⟩ := hargs c
    refine ⟨hv.trans ?_, ha⟩
    rw [Cert.RopeWeightReferenceIdeal.Read.val_main_v6_eq, e0, e1]
    exact Cert.RopeWeightReferenceIdeal.Product.reference_eq (Cert.RopeWeightIdeal.Product.X m c) (Cert.RopeWeightIdeal.Product.DH m c)

/-- The gradient by the weight of the keys and values: the reference leaves its arguments as they were. -/
theorem keyValueWeight_frame : Cert.quiescent_KeyValueWeightReferenceIdeal := fun m ρ _ =>
  (θ_run Cert.KeyValueWeightReferenceIdeal.defs _ _).mono (fun r h => ⟨fun c => (h c).2, sem_eq_zero_of_no_sems (by decide) r.2⟩) (Cert.KeyValueWeightReferenceIdeal.Value.run (F := Ideal) m ρ)

/-- The gradient by the weight of the keys and values: the two arrays are equal. -/
theorem keyValueWeight_same : Cert.algebraic_KeyValueWeightIdeal_KeyValueWeightReferenceIdeal := by
  intro m g m' g' _ hargs
  refine ⟨fun c => Cert.KeyValueWeightIdeal.Product.product m c, ?_, ?_⟩
  · refine (θ_run Cert.KeyValueWeightIdeal.defs _ _).mono (fun r h c => ?_) (Cert.KeyValueWeightIdeal.Value.run_blocks m g)
    obtain ⟨h2, ha⟩ := h c
    exact ⟨h2.trans (Cert.KeyValueWeightIdeal.Product.product_end m c), ha⟩
  · refine (θ_run Cert.KeyValueWeightReferenceIdeal.defs _ _).mono (fun r h c => ?_) (Cert.KeyValueWeightReferenceIdeal.Value.run m' g')
    obtain ⟨hv, ha⟩ := h c
    obtain ⟨e0, e1⟩ := hargs c
    refine ⟨hv.trans ?_, ha⟩
    rw [Cert.KeyValueWeightReferenceIdeal.Read.val_main_v6_eq, e0, e1]
    exact Cert.KeyValueWeightReferenceIdeal.Product.reference_eq (Cert.KeyValueWeightIdeal.Product.X m c) (Cert.KeyValueWeightIdeal.Product.DH m c)

/-- The gradient by the memory's weight: the reference leaves its arguments as they were. -/
theorem memoryWeight_frame : Cert.quiescent_MemoryWeightReferenceIdeal := fun m ρ _ =>
  (θ_run Cert.MemoryWeightReferenceIdeal.defs _ _).mono (fun r h => ⟨fun c => (h c).2, sem_eq_zero_of_no_sems (by decide) r.2⟩) (Cert.MemoryWeightReferenceIdeal.Value.run (F := Ideal) m ρ)

/-- The gradient by the memory's weight: the two arrays are equal. -/
theorem memoryWeight_same : Cert.algebraic_MemoryWeightIdeal_MemoryWeightReferenceIdeal := by
  intro m g m' g' _ hargs
  refine ⟨fun c => Cert.MemoryWeightIdeal.Product.product m c, ?_, ?_⟩
  · refine (θ_run Cert.MemoryWeightIdeal.defs _ _).mono (fun r h c => ?_) (Cert.MemoryWeightIdeal.Value.run_blocks m g)
    obtain ⟨h2, ha⟩ := h c
    exact ⟨h2.trans (Cert.MemoryWeightIdeal.Product.product_end m c), ha⟩
  · refine (θ_run Cert.MemoryWeightReferenceIdeal.defs _ _).mono (fun r h c => ?_) (Cert.MemoryWeightReferenceIdeal.Value.run m' g')
    obtain ⟨hv, ha⟩ := h c
    obtain ⟨e0, e1⟩ := hargs c
    refine ⟨hv.trans ?_, ha⟩
    rw [Cert.MemoryWeightReferenceIdeal.Read.val_main_v5_eq, e0, e1]
    exact Cert.MemoryWeightReferenceIdeal.Product.reference_eq (Cert.MemoryWeightIdeal.Product.X m c) (Cert.MemoryWeightIdeal.Product.DH m c)

end Cert.MoreProducts

end
-- ==== Proof.lean ====
/-
  THE CLAIM, ASSEMBLED. The kernel is the backward pass of the attention over a memory of 256 keys and values; the reference is the derivative of the attention's forward lines.
  `Arrays` says what the kernel's two results hold, `Gradient` what the reference's hold; here the two are the same function of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.UpWeight
public import proofs.«01_k».proof.Proof.Gen.UpWeight.Skeleton
public import proofs.«01_k».proof.Proof.Gen.UpWeight.Launch
public import proofs.«01_k».proof.Proof.Gen.UpWeight.Points
public import proofs.«01_k».proof.Proof.Gen.UpWeight.Frame
public import proofs.«01_k».proof.Proof.Gen.UpWeightIdeal
public import proofs.«01_k».proof.Proof.Gen.UpWeightIdeal.Skeleton
public import proofs.«01_k».proof.Proof.Gen.UpWeightIdeal.Launch
public import proofs.«01_k».proof.Proof.Gen.UpWeightIdeal.Points
public import proofs.«01_k».proof.Proof.Gen.UpWeightIdeal.Frame
public import proofs.«01_k».proof.Proof.Gen.UpWeightIdeal.Value
public import proofs.«01_k».proof.Proof.Gen.UpWeightReferenceIdeal
public import proofs.«01_k».proof.Proof.Gen.UpWeightReferenceIdeal.Run
public import proofs.«01_k».proof.Proof.Gen.UpWeightReferenceIdeal.Read
public import proofs.«01_k».proof.Proof.Gen.DownWeight
public import proofs.«01_k».proof.Proof.Gen.DownWeight.Skeleton
public import proofs.«01_k».proof.Proof.Gen.DownWeight.Launch
public import proofs.«01_k».proof.Proof.Gen.DownWeight.Points
public import proofs.«01_k».proof.Proof.Gen.DownWeight.Frame
public import proofs.«01_k».proof.Proof.Gen.DownWeightIdeal
public import proofs.«01_k».proof.Proof.Gen.DownWeightIdeal.Skeleton
public import proofs.«01_k».proof.Proof.Gen.DownWeightIdeal.Launch
public import proofs.«01_k».proof.Proof.Gen.DownWeightIdeal.Points
public import proofs.«01_k».proof.Proof.Gen.DownWeightIdeal.Frame
public import proofs.«01_k».proof.Proof.Gen.DownWeightIdeal.Value
public import proofs.«01_k».proof.Proof.Gen.DownWeightReferenceIdeal
public import proofs.«01_k».proof.Proof.Gen.DownWeightReferenceIdeal.Run
public import proofs.«01_k».proof.Proof.Gen.DownWeightReferenceIdeal.Read
public import proofs.«01_k».proof.Proof.Gen.DownInput
public import proofs.«01_k».proof.Proof.Gen.DownInput.Skeleton
public import proofs.«01_k».proof.Proof.Gen.DownInput.Launch
public import proofs.«01_k».proof.Proof.Gen.DownInput.Points
public import proofs.«01_k».proof.Proof.Gen.DownInput.Frame
public import proofs.«01_k».proof.Proof.Gen.DownInputIdeal
public import proofs.«01_k».proof.Proof.Gen.DownInputIdeal.Skeleton
public import proofs.«01_k».proof.Proof.Gen.DownInputIdeal.Launch
public import proofs.«01_k».proof.Proof.Gen.DownInputIdeal.Points
public import proofs.«01_k».proof.Proof.Gen.DownInputIdeal.Frame
public import proofs.«01_k».proof.Proof.Gen.DownInputIdeal.Value
public import proofs.«01_k».proof.Proof.Gen.DownInputReferenceIdeal
public import proofs.«01_k».proof.Proof.Gen.DownInputReferenceIdeal.Run
public import proofs.«01_k».proof.Proof.Gen.DownInputReferenceIdeal.Read
public import proofs.«01_k».proof.Proof.Gen.NormInput
public import proofs.«01_k».proof.Proof.Gen.NormInput.Skeleton
public import proofs.«01_k».proof.Proof.Gen.NormInput.Launch
public import proofs.«01_k».proof.Proof.Gen.NormInput.Points
public import proofs.«01_k».proof.Proof.Gen.NormInput.Frame
public import proofs.«01_k».proof.Proof.Gen.NormInputIdeal
public import proofs.«01_k».proof.Proof.Gen.NormInputIdeal.Skeleton
public import proofs.«01_k».proof.Proof.Gen.NormInputIdeal.Launch
public import proofs.«01_k».proof.Proof.Gen.NormInputIdeal.Points
public import proofs.«01_k».proof.Proof.Gen.NormInputIdeal.Frame
public import proofs.«01_k».proof.Proof.Gen.NormInputIdeal.Value
public import proofs.«01_k».proof.Proof.Gen.NormInputReferenceIdeal
public import proofs.«01_k».proof.Proof.Gen.NormInputReferenceIdeal.Run
public import proofs.«01_k».proof.Proof.Gen.NormInputReferenceIdeal.Read
public import proofs.«01_k».proof.Proof.Gen.Pre_finite_norm
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.AttentionReferenceIdeal.Read
public import proofs.«01_k».proof.Proof.Gen.WindowUp
public import proofs.«01_k».proof.Proof.Gen.WindowUp.Skeleton
public import proofs.«01_k».proof.Proof.Gen.WindowUp.Launch
public import proofs.«01_k».proof.Proof.Gen.WindowUp.Points
public import proofs.«01_k».proof.Proof.Gen.WindowUp.Frame
public import proofs.«01_k».proof.Proof.Gen.WindowUpIdeal
public import proofs.«01_k».proof.Proof.Gen.WindowUpIdeal.Skeleton
public import proofs.«01_k».proof.Proof.Gen.WindowUpIdeal.Launch
public import proofs.«01_k».proof.Proof.Gen.WindowUpIdeal.Points
public import proofs.«01_k».proof.Proof.Gen.WindowUpIdeal.Frame
public import proofs.«01_k».proof.Proof.Gen.WindowUpIdeal.Value
public import proofs.«01_k».proof.Proof.Gen.WindowUpReferenceIdeal
public import proofs.«01_k».proof.Proof.Gen.WindowUpReferenceIdeal.Run
public import proofs.«01_k».proof.Proof.Gen.WindowUpReferenceIdeal.Read
public import proofs.«01_k».proof.Proof.Gen.RecurrenceUp
public import proofs.«01_k».proof.Proof.Gen.RecurrenceUp.Skeleton
public import proofs.«01_k».proof.Proof.Gen.RecurrenceUp.Launch
public import proofs.«01_k».proof.Proof.Gen.RecurrenceUp.Points
public import proofs.«01_k».proof.Proof.Gen.RecurrenceUp.Frame
public import proofs.«01_k».proof.Proof.Gen.RecurrenceUpIdeal
public import proofs.«01_k».proof.Proof.Gen.RecurrenceUpIdeal.Skeleton
public import proofs.«01_k».proof.Proof.Gen.RecurrenceUpIdeal.Launch
public import proofs.«01_k».proof.Proof.Gen.RecurrenceUpIdeal.Points
public import proofs.«01_k».proof.Proof.Gen.RecurrenceUpIdeal.Frame
public import proofs.«01_k».proof.Proof.Gen.RecurrenceUpIdeal.Value
public import proofs.«01_k».proof.Proof.Gen.RecurrenceUpReferenceIdeal
public import proofs.«01_k».proof.Proof.Gen.RecurrenceUpReferenceIdeal.Run
public import proofs.«01_k».proof.Proof.Gen.RecurrenceUpReferenceIdeal.Read
public import proofs.«01_k».proof.Proof.Gen.LatentDown
public import proofs.«01_k».proof.Proof.Gen.LatentDown.Skeleton
public import proofs.«01_k».proof.Proof.Gen.LatentDown.Launch
public import proofs.«01_k».proof.Proof.Gen.LatentDown.Points
public import proofs.«01_k».proof.Proof.Gen.LatentDown.Frame
public import proofs.«01_k».proof.Proof.Gen.LatentDownIdeal
public import proofs.«01_k».proof.Proof.Gen.LatentDownIdeal.Skeleton
public import proofs.«01_k».proof.Proof.Gen.LatentDownIdeal.Launch
public import proofs.«01_k».proof.Proof.Gen.LatentDownIdeal.Points
public import proofs.«01_k».proof.Proof.Gen.LatentDownIdeal.Frame
public import proofs.«01_k».proof.Proof.Gen.LatentDownIdeal.Value
public import proofs.«01_k».proof.Proof.Gen.LatentDownReferenceIdeal
public import proofs.«01_k».proof.Proof.Gen.LatentDownReferenceIdeal.Run
public import proofs.«01_k».proof.Proof.Gen.LatentDownReferenceIdeal.Read
public import proofs.«01_k».proof.Proof.Gen.RopeUp
public import proofs.«01_k».proof.Proof.Gen.RopeUp.Skeleton
public import proofs.«01_k».proof.Proof.Gen.RopeUp.Launch
public import proofs.«01_k».proof.Proof.Gen.RopeUp.Points
public import proofs.«01_k».proof.Proof.Gen.RopeUp.Frame
public import proofs.«01_k».proof.Proof.Gen.RopeUpIdeal
public import proofs.«01_k».proof.Proof.Gen.RopeUpIdeal.Skeleton
public import proofs.«01_k».proof.Proof.Gen.RopeUpIdeal.Launch
public import proofs.«01_k».proof.Proof.Gen.RopeUpIdeal.Points
public import proofs.«01_k».proof.Proof.Gen.RopeUpIdeal.Frame
public import proofs.«01_k».proof.Proof.Gen.RopeUpIdeal.Value
public import proofs.«01_k».proof.Proof.Gen.RopeUpReferenceIdeal
public import proofs.«01_k».proof.Proof.Gen.RopeUpReferenceIdeal.Run
public import proofs.«01_k».proof.Proof.Gen.RopeUpReferenceIdeal.Read
public import proofs.«01_k».proof.Proof.Gen.NopeUp
public import proofs.«01_k».proof.Proof.Gen.NopeUp.Skeleton
public import proofs.«01_k».proof.Proof.Gen.NopeUp.Launch
public import proofs.«01_k».proof.Proof.Gen.NopeUp.Points
public import proofs.«01_k».proof.Proof.Gen.NopeUp.Frame
public import proofs.«01_k».proof.Proof.Gen.NopeUpIdeal
public import proofs.«01_k».proof.Proof.Gen.NopeUpIdeal.Skeleton
public import proofs.«01_k».proof.Proof.Gen.NopeUpIdeal.Launch
public import proofs.«01_k».proof.Proof.Gen.NopeUpIdeal.Points
public import proofs.«01_k».proof.Proof.Gen.NopeUpIdeal.Frame
public import proofs.«01_k».proof.Proof.Gen.NopeUpIdeal.Value
public import proofs.«01_k».proof.Proof.Gen.NopeUpReferenceIdeal
public import proofs.«01_k».proof.Proof.Gen.NopeUpReferenceIdeal.Run
public import proofs.«01_k».proof.Proof.Gen.NopeUpReferenceIdeal.Read
public import proofs.«01_k».proof.Proof.Gen.KeyValueUp
public import proofs.«01_k».proof.Proof.Gen.KeyValueUp.Skeleton
public import proofs.«01_k».proof.Proof.Gen.KeyValueUp.Launch
public import proofs.«01_k».proof.Proof.Gen.KeyValueUp.Points
public import proofs.«01_k».proof.Proof.Gen.KeyValueUp.Frame
public import proofs.«01_k».proof.Proof.Gen.KeyValueUpIdeal
public import proofs.«01_k».proof.Proof.Gen.KeyValueUpIdeal.Skeleton
public import proofs.«01_k».proof.Proof.Gen.KeyValueUpIdeal.Launch
public import proofs.«01_k».proof.Proof.Gen.KeyValueUpIdeal.Points
public import proofs.«01_k».proof.Proof.Gen.KeyValueUpIdeal.Frame
public import proofs.«01_k».proof.Proof.Gen.KeyValueUpIdeal.Value
public import proofs.«01_k».proof.Proof.Gen.KeyValueUpReferenceIdeal
public import proofs.«01_k».proof.Proof.Gen.KeyValueUpReferenceIdeal.Run
public import proofs.«01_k».proof.Proof.Gen.KeyValueUpReferenceIdeal.Read
public import proofs.«01_k».proof.Proof.Gen.MemoryUp
public import proofs.«01_k».proof.Proof.Gen.MemoryUp.Skeleton
public import proofs.«01_k».proof.Proof.Gen.MemoryUp.Launch
public import proofs.«01_k».proof.Proof.Gen.MemoryUp.Points
public import proofs.«01_k».proof.Proof.Gen.MemoryUp.Frame
public import proofs.«01_k».proof.Proof.Gen.MemoryUpIdeal
public import proofs.«01_k».proof.Proof.Gen.MemoryUpIdeal.Skeleton
public import proofs.«01_k».proof.Proof.Gen.MemoryUpIdeal.Launch
public import proofs.«01_k».proof.Proof.Gen.MemoryUpIdeal.Points
public import proofs.«01_k».proof.Proof.Gen.MemoryUpIdeal.Frame
public import proofs.«01_k».proof.Proof.Gen.MemoryUpIdeal.Value
public import proofs.«01_k».proof.Proof.Gen.MemoryUpReferenceIdeal
public import proofs.«01_k».proof.Proof.Gen.MemoryUpReferenceIdeal.Run
public import proofs.«01_k».proof.Proof.Gen.MemoryUpReferenceIdeal.Read
public import proofs.«01_k».proof.Proof.Gen.WindowInput
public import proofs.«01_k».proof.Proof.Gen.WindowInput.Skeleton
public import proofs.«01_k».proof.Proof.Gen.WindowInput.Launch
public import proofs.«01_k».proof.Proof.Gen.WindowInput.Points
public import proofs.«01_k».proof.Proof.Gen.WindowInput.Frame
public import proofs.«01_k».proof.Proof.Gen.WindowInputIdeal
public import proofs.«01_k».proof.Proof.Gen.WindowInputIdeal.Skeleton
public import proofs.«01_k».proof.Proof.Gen.WindowInputIdeal.Launch
public import proofs.«01_k».proof.Proof.Gen.WindowInputIdeal.Points
public import proofs.«01_k».proof.Proof.Gen.WindowInputIdeal.Frame
public import proofs.«01_k».proof.Proof.Gen.WindowInputIdeal.Value
public import proofs.«01_k».proof.Proof.Gen.WindowInputReferenceIdeal
public import proofs.«01_k».proof.Proof.Gen.WindowInputReferenceIdeal.Run
public import proofs.«01_k».proof.Proof.Gen.WindowInputReferenceIdeal.Read
public import proofs.«01_k».proof.Proof.Gen.NopeInput
public import proofs.«01_k».proof.Proof.Gen.NopeInput.Skeleton
public import proofs.«01_k».proof.Proof.Gen.NopeInput.Launch
public import proofs.«01_k».proof.Proof.Gen.NopeInput.Points
public import proofs.«01_k».proof.Proof.Gen.NopeInput.Frame
public import proofs.«01_k».proof.Proof.Gen.NopeInputIdeal
public import proofs.«01_k».proof.Proof.Gen.NopeInputIdeal.Skeleton
public import proofs.«01_k».proof.Proof.Gen.NopeInputIdeal.Launch
public import proofs.«01_k».proof.Proof.Gen.NopeInputIdeal.Points
public import proofs.«01_k».proof.Proof.Gen.NopeInputIdeal.Frame
public import proofs.«01_k».proof.Proof.Gen.NopeInputIdeal.Value
public import proofs.«01_k».proof.Proof.Gen.NopeInputReferenceIdeal
public import proofs.«01_k».proof.Proof.Gen.NopeInputReferenceIdeal.Run
public import proofs.«01_k».proof.Proof.Gen.NopeInputReferenceIdeal.Read
public import proofs.«01_k».proof.Proof.Gen.RopeInput
public import proofs.«01_k».proof.Proof.Gen.RopeInput.Skeleton
public import proofs.«01_k».proof.Proof.Gen.RopeInput.Launch
public import proofs.«01_k».proof.Proof.Gen.RopeInput.Points
public import proofs.«01_k».proof.Proof.Gen.RopeInput.Frame
public import proofs.«01_k».proof.Proof.Gen.RopeInputIdeal
public import proofs.«01_k».proof.Proof.Gen.RopeInputIdeal.Skeleton
public import proofs.«01_k».proof.Proof.Gen.RopeInputIdeal.Launch
public import proofs.«01_k».proof.Proof.Gen.RopeInputIdeal.Points
public import proofs.«01_k».proof.Proof.Gen.RopeInputIdeal.Frame
public import proofs.«01_k».proof.Proof.Gen.RopeInputIdeal.Value
public import proofs.«01_k».proof.Proof.Gen.RopeInputReferenceIdeal
public import proofs.«01_k».proof.Proof.Gen.RopeInputReferenceIdeal.Run
public import proofs.«01_k».proof.Proof.Gen.RopeInputReferenceIdeal.Read
public import proofs.«01_k».proof.Proof.Gen.KeyValueInput
public import proofs.«01_k».proof.Proof.Gen.KeyValueInput.Skeleton
public import proofs.«01_k».proof.Proof.Gen.KeyValueInput.Launch
public import proofs.«01_k».proof.Proof.Gen.KeyValueInput.Points
public import proofs.«01_k».proof.Proof.Gen.KeyValueInput.Frame
public import proofs.«01_k».proof.Proof.Gen.KeyValueInputIdeal
public import proofs.«01_k».proof.Proof.Gen.KeyValueInputIdeal.Skeleton
public import proofs.«01_k».proof.Proof.Gen.KeyValueInputIdeal.Launch
public import proofs.«01_k».proof.Proof.Gen.KeyValueInputIdeal.Points
public import proofs.«01_k».proof.Proof.Gen.KeyValueInputIdeal.Frame
public import proofs.«01_k».proof.Proof.Gen.KeyValueInputIdeal.Value
public import proofs.«01_k».proof.Proof.Gen.KeyValueInputReferenceIdeal
public import proofs.«01_k».proof.Proof.Gen.KeyValueInputReferenceIdeal.Run
public import proofs.«01_k».proof.Proof.Gen.KeyValueInputReferenceIdeal.Read
public import proofs.«01_k».proof.Proof.Gen.LatentWeight
public import proofs.«01_k».proof.Proof.Gen.LatentWeight.Skeleton
public import proofs.«01_k».proof.Proof.Gen.LatentWeight.Launch
public import proofs.«01_k».proof.Proof.Gen.LatentWeight.Points
public import proofs.«01_k».proof.Proof.Gen.LatentWeight.Frame
public import proofs.«01_k».proof.Proof.Gen.LatentWeightIdeal
public import proofs.«01_k».proof.Proof.Gen.LatentWeightIdeal.Skeleton
public import proofs.«01_k».proof.Proof.Gen.LatentWeightIdeal.Launch
public import proofs.«01_k».proof.Proof.Gen.LatentWeightIdeal.Points
public import proofs.«01_k».proof.Proof.Gen.LatentWeightIdeal.Frame
public import proofs.«01_k».proof.Proof.Gen.LatentWeightIdeal.Value
public import proofs.«01_k».proof.Proof.Gen.LatentWeightReferenceIdeal
public import proofs.«01_k».proof.Proof.Gen.LatentWeightReferenceIdeal.Run
public import proofs.«01_k».proof.Proof.Gen.LatentWeightReferenceIdeal.Read
public import proofs.«01_k».proof.Proof.Gen.NopeWeight
public import proofs.«01_k».proof.Proof.Gen.NopeWeight.Skeleton
public import proofs.«01_k».proof.Proof.Gen.NopeWeight.Launch
public import proofs.«01_k».proof.Proof.Gen.NopeWeight.Points
public import proofs.«01_k».proof.Proof.Gen.NopeWeight.Frame
public import proofs.«01_k».proof.Proof.Gen.NopeWeightIdeal
public import proofs.«01_k».proof.Proof.Gen.NopeWeightIdeal.Skeleton
public import proofs.«01_k».proof.Proof.Gen.NopeWeightIdeal.Launch
public import proofs.«01_k».proof.Proof.Gen.NopeWeightIdeal.Points
public import proofs.«01_k».proof.Proof.Gen.NopeWeightIdeal.Frame
public import proofs.«01_k».proof.Proof.Gen.NopeWeightIdeal.Value
public import proofs.«01_k».proof.Proof.Gen.NopeWeightReferenceIdeal
public import proofs.«01_k».proof.Proof.Gen.NopeWeightReferenceIdeal.Run
public import proofs.«01_k».proof.Proof.Gen.NopeWeightReferenceIdeal.Read
public import proofs.«01_k».proof.Proof.Gen.RopeWeight
public import proofs.«01_k».proof.Proof.Gen.RopeWeight.Skeleton
public import proofs.«01_k».proof.Proof.Gen.RopeWeight.Launch
public import proofs.«01_k».proof.Proof.Gen.RopeWeight.Points
public import proofs.«01_k».proof.Proof.Gen.RopeWeight.Frame
public import proofs.«01_k».proof.Proof.Gen.RopeWeightIdeal
public import proofs.«01_k».proof.Proof.Gen.RopeWeightIdeal.Skeleton
public import proofs.«01_k».proof.Proof.Gen.RopeWeightIdeal.Launch
public import proofs.«01_k».proof.Proof.Gen.RopeWeightIdeal.Points
public import proofs.«01_k».proof.Proof.Gen.RopeWeightIdeal.Frame
public import proofs.«01_k».proof.Proof.Gen.RopeWeightIdeal.Value
public import proofs.«01_k».proof.Proof.Gen.RopeWeightReferenceIdeal
public import proofs.«01_k».proof.Proof.Gen.RopeWeightReferenceIdeal.Run
public import proofs.«01_k».proof.Proof.Gen.RopeWeightReferenceIdeal.Read
public import proofs.«01_k».proof.Proof.Gen.KeyValueWeight
public import proofs.«01_k».proof.Proof.Gen.KeyValueWeight.Skeleton
public import proofs.«01_k».proof.Proof.Gen.KeyValueWeight.Launch
public import proofs.«01_k».proof.Proof.Gen.KeyValueWeight.Points
public import proofs.«01_k».proof.Proof.Gen.KeyValueWeight.Frame
public import proofs.«01_k».proof.Proof.Gen.KeyValueWeightIdeal
public import proofs.«01_k».proof.Proof.Gen.KeyValueWeightIdeal.Skeleton
public import proofs.«01_k».proof.Proof.Gen.KeyValueWeightIdeal.Launch
public import proofs.«01_k».proof.Proof.Gen.KeyValueWeightIdeal.Points
public import proofs.«01_k».proof.Proof.Gen.KeyValueWeightIdeal.Frame
public import proofs.«01_k».proof.Proof.Gen.KeyValueWeightIdeal.Value
public import proofs.«01_k».proof.Proof.Gen.KeyValueWeightReferenceIdeal
public import proofs.«01_k».proof.Proof.Gen.KeyValueWeightReferenceIdeal.Run
public import proofs.«01_k».proof.Proof.Gen.KeyValueWeightReferenceIdeal.Read
public import proofs.«01_k».proof.Proof.Gen.MemoryWeight
public import proofs.«01_k».proof.Proof.Gen.MemoryWeight.Skeleton
public import proofs.«01_k».proof.Proof.Gen.MemoryWeight.Launch
public import proofs.«01_k».proof.Proof.Gen.MemoryWeight.Points
public import proofs.«01_k».proof.Proof.Gen.MemoryWeight.Frame
public import proofs.«01_k».proof.Proof.Gen.MemoryWeightIdeal
public import proofs.«01_k».proof.Proof.Gen.MemoryWeightIdeal.Skeleton
public import proofs.«01_k».proof.Proof.Gen.MemoryWeightIdeal.Launch
public import proofs.«01_k».proof.Proof.Gen.MemoryWeightIdeal.Points
public import proofs.«01_k».proof.Proof.Gen.MemoryWeightIdeal.Frame
public import proofs.«01_k».proof.Proof.Gen.MemoryWeightIdeal.Value
public import proofs.«01_k».proof.Proof.Gen.MemoryWeightReferenceIdeal
public import proofs.«01_k».proof.Proof.Gen.MemoryWeightReferenceIdeal.Run
public import proofs.«01_k».proof.Proof.Gen.MemoryWeightReferenceIdeal.Read
public import proofs.«01_k».proof.Proof.Gen.SquareWeight
public import proofs.«01_k».proof.Proof.Gen.SquareWeight.Skeleton
public import proofs.«01_k».proof.Proof.Gen.SquareWeight.Launch
public import proofs.«01_k».proof.Proof.Gen.SquareWeight.Points
public import proofs.«01_k».proof.Proof.Gen.SquareWeight.Frame
public import proofs.«01_k».proof.Proof.Gen.SquareWeightIdeal
public import proofs.«01_k».proof.Proof.Gen.SquareWeightIdeal.Skeleton
public import proofs.«01_k».proof.Proof.Gen.SquareWeightIdeal.Launch
public import proofs.«01_k».proof.Proof.Gen.SquareWeightIdeal.Points
public import proofs.«01_k».proof.Proof.Gen.SquareWeightIdeal.Frame
public import proofs.«01_k».proof.Proof.Gen.SquareWeightIdeal.Value
public import proofs.«01_k».proof.Proof.Gen.SquareWeightReferenceIdeal
public import proofs.«01_k».proof.Proof.Gen.SquareWeightReferenceIdeal.Run
public import proofs.«01_k».proof.Proof.Gen.SquareWeightReferenceIdeal.Read
public import proofs.«01_k».proof.Proof.Gen.SquareInput
public import proofs.«01_k».proof.Proof.Gen.SquareInput.Skeleton
public import proofs.«01_k».proof.Proof.Gen.SquareInput.Launch
public import proofs.«01_k».proof.Proof.Gen.SquareInput.Points
public import proofs.«01_k».proof.Proof.Gen.SquareInput.Frame
public import proofs.«01_k».proof.Proof.Gen.SquareInputIdeal
public import proofs.«01_k».proof.Proof.Gen.SquareInputIdeal.Skeleton
public import proofs.«01_k».proof.Proof.Gen.SquareInputIdeal.Launch
public import proofs.«01_k».proof.Proof.Gen.SquareInputIdeal.Points
public import proofs.«01_k».proof.Proof.Gen.SquareInputIdeal.Frame
public import proofs.«01_k».proof.Proof.Gen.SquareInputIdeal.Value
public import proofs.«01_k».proof.Proof.Gen.SquareInputReferenceIdeal
public import proofs.«01_k».proof.Proof.Gen.SquareInputReferenceIdeal.Run
public import proofs.«01_k».proof.Proof.Gen.SquareInputReferenceIdeal.Read
public import proofs.«01_k».proof.Proof.Gen.WindowWeight
public import proofs.«01_k».proof.Proof.Gen.WindowWeight.Skeleton
public import proofs.«01_k».proof.Proof.Gen.WindowWeight.Launch
public import proofs.«01_k».proof.Proof.Gen.WindowWeight.Points
public import proofs.«01_k».proof.Proof.Gen.WindowWeight.Frame
public import proofs.«01_k».proof.Proof.Gen.WindowWeightIdeal
public import proofs.«01_k».proof.Proof.Gen.WindowWeightIdeal.Skeleton
public import proofs.«01_k».proof.Proof.Gen.WindowWeightIdeal.Launch
public import proofs.«01_k».proof.Proof.Gen.WindowWeightIdeal.Points
public import proofs.«01_k».proof.Proof.Gen.WindowWeightIdeal.Frame
public import proofs.«01_k».proof.Proof.Gen.WindowWeightIdeal.Value
public import proofs.«01_k».proof.Proof.Gen.WindowWeightReferenceIdeal
public import proofs.«01_k».proof.Proof.Gen.WindowWeightReferenceIdeal.Run
public import proofs.«01_k».proof.Proof.Gen.WindowWeightReferenceIdeal.Read
public import proofs.«01_k».proof.Proof.Gen.RecurrenceWeight
public import proofs.«01_k».proof.Proof.Gen.RecurrenceWeight.Skeleton
public import proofs.«01_k».proof.Proof.Gen.RecurrenceWeight.Launch
public import proofs.«01_k».proof.Proof.Gen.RecurrenceWeight.Points
public import proofs.«01_k».proof.Proof.Gen.RecurrenceWeight.Frame
public import proofs.«01_k».proof.Proof.Gen.RecurrenceWeightIdeal
public import proofs.«01_k».proof.Proof.Gen.RecurrenceWeightIdeal.Skeleton
public import proofs.«01_k».proof.Proof.Gen.RecurrenceWeightIdeal.Launch
public import proofs.«01_k».proof.Proof.Gen.RecurrenceWeightIdeal.Points
public import proofs.«01_k».proof.Proof.Gen.RecurrenceWeightIdeal.Frame
public import proofs.«01_k».proof.Proof.Gen.RecurrenceWeightIdeal.Value
public import proofs.«01_k».proof.Proof.Gen.RecurrenceWeightReferenceIdeal
public import proofs.«01_k».proof.Proof.Gen.RecurrenceWeightReferenceIdeal.Run
public import proofs.«01_k».proof.Proof.Gen.RecurrenceWeightReferenceIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.QueryReferenceIdeal
public import proofs.«01_k».proof.Proof.Gen.QueryReferenceIdeal.Run
public import proofs.«01_k».proof.Proof.Gen.QueryReferenceIdeal.Read
public import proofs.«01_k».proof.Proof.Gen.NormQuery
public import proofs.«01_k».proof.Proof.Gen.NormQuery.Skeleton
public import proofs.«01_k».proof.Proof.Gen.NormQuery.Launch
public import proofs.«01_k».proof.Proof.Gen.NormQuery.Points
public import proofs.«01_k».proof.Proof.Gen.NormQuery.Frame
public import proofs.«01_k».proof.Proof.Gen.NormQueryIdeal
public import proofs.«01_k».proof.Proof.Gen.NormQueryIdeal.Skeleton
public import proofs.«01_k».proof.Proof.Gen.NormQueryIdeal.Launch
public import proofs.«01_k».proof.Proof.Gen.NormQueryIdeal.Points
public import proofs.«01_k».proof.Proof.Gen.NormQueryIdeal.Frame
public import proofs.«01_k».proof.Proof.Gen.NormQueryIdeal.Value
public import proofs.«01_k».proof.Proof.Gen.NormQueryReferenceIdeal
public import proofs.«01_k».proof.Proof.Gen.NormQueryReferenceIdeal.Run
public import proofs.«01_k».proof.Proof.Gen.NormQueryReferenceIdeal.Read
public import proofs.«01_k».proof.Proof.Gen.NormRecurrence
public import proofs.«01_k».proof.Proof.Gen.NormRecurrence.Skeleton
public import proofs.«01_k».proof.Proof.Gen.NormRecurrence.Launch
public import proofs.«01_k».proof.Proof.Gen.NormRecurrence.Points
public import proofs.«01_k».proof.Proof.Gen.NormRecurrence.Frame
public import proofs.«01_k».proof.Proof.Gen.NormRecurrenceIdeal
public import proofs.«01_k».proof.Proof.Gen.NormRecurrenceIdeal.Skeleton
public import proofs.«01_k».proof.Proof.Gen.NormRecurrenceIdeal.Launch
public import proofs.«01_k».proof.Proof.Gen.NormRecurrenceIdeal.Points
public import proofs.«01_k».proof.Proof.Gen.NormRecurrenceIdeal.Frame
public import proofs.«01_k».proof.Proof.Gen.NormRecurrenceIdeal.Value
public import proofs.«01_k».proof.Proof.Gen.NormRecurrenceReferenceIdeal
public import proofs.«01_k».proof.Proof.Gen.NormRecurrenceReferenceIdeal.Run
public import proofs.«01_k».proof.Proof.Gen.NormRecurrenceReferenceIdeal.Read
public import proofs.«01_k».proof.Proof.Gen.NormLatent
public import proofs.«01_k».proof.Proof.Gen.NormLatent.Skeleton
public import proofs.«01_k».proof.Proof.Gen.NormLatent.Launch
public import proofs.«01_k».proof.Proof.Gen.NormLatent.Points
public import proofs.«01_k».proof.Proof.Gen.NormLatent.Frame
public import proofs.«01_k».proof.Proof.Gen.NormLatentIdeal
public import proofs.«01_k».proof.Proof.Gen.NormLatentIdeal.Skeleton
public import proofs.«01_k».proof.Proof.Gen.NormLatentIdeal.Launch
public import proofs.«01_k».proof.Proof.Gen.NormLatentIdeal.Points
public import proofs.«01_k».proof.Proof.Gen.NormLatentIdeal.Frame
public import proofs.«01_k».proof.Proof.Gen.NormLatentIdeal.Value
public import proofs.«01_k».proof.Proof.Gen.NormLatentReferenceIdeal
public import proofs.«01_k».proof.Proof.Gen.NormLatentReferenceIdeal.Run
public import proofs.«01_k».proof.Proof.Gen.NormLatentReferenceIdeal.Read
public import proofs.«01_k».proof.Proof.Gen.NormWindow
public import proofs.«01_k».proof.Proof.Gen.NormWindow.Skeleton
public import proofs.«01_k».proof.Proof.Gen.NormWindow.Launch
public import proofs.«01_k».proof.Proof.Gen.NormWindow.Points
public import proofs.«01_k».proof.Proof.Gen.NormWindow.Frame
public import proofs.«01_k».proof.Proof.Gen.NormWindowIdeal
public import proofs.«01_k».proof.Proof.Gen.NormWindowIdeal.Skeleton
public import proofs.«01_k».proof.Proof.Gen.NormWindowIdeal.Launch
public import proofs.«01_k».proof.Proof.Gen.NormWindowIdeal.Points
public import proofs.«01_k».proof.Proof.Gen.NormWindowIdeal.Frame
public import proofs.«01_k».proof.Proof.Gen.NormWindowIdeal.Value
public import proofs.«01_k».proof.Proof.Gen.NormWindowReferenceIdeal
public import proofs.«01_k».proof.Proof.Gen.NormWindowReferenceIdeal.Run
public import proofs.«01_k».proof.Proof.Gen.NormWindowReferenceIdeal.Read
public import proofs.«01_k».proof.Proof.Gen.OutNorm
public import proofs.«01_k».proof.Proof.Gen.OutNorm.Skeleton
public import proofs.«01_k».proof.Proof.Gen.OutNorm.Launch
public import proofs.«01_k».proof.Proof.Gen.OutNorm.Points
public import proofs.«01_k».proof.Proof.Gen.OutNorm.Frame
public import proofs.«01_k».proof.Proof.Gen.OutNormIdeal
public import proofs.«01_k».proof.Proof.Gen.OutNormIdeal.Skeleton
public import proofs.«01_k».proof.Proof.Gen.OutNormIdeal.Launch
public import proofs.«01_k».proof.Proof.Gen.OutNormIdeal.Points
public import proofs.«01_k».proof.Proof.Gen.OutNormIdeal.Frame
public import proofs.«01_k».proof.Proof.Gen.OutNormIdeal.Value
public import proofs.«01_k».proof.Proof.Gen.OutNormReferenceIdeal
public import proofs.«01_k».proof.Proof.Gen.OutNormReferenceIdeal.Run
public import proofs.«01_k».proof.Proof.Gen.OutNormReferenceIdeal.Read
public import proofs.«01_k».proof.Proof.Gen.DownNorm
public import proofs.«01_k».proof.Proof.Gen.DownNorm.Skeleton
public import proofs.«01_k».proof.Proof.Gen.DownNorm.Launch
public import proofs.«01_k».proof.Proof.Gen.DownNorm.Points
public import proofs.«01_k».proof.Proof.Gen.DownNorm.Frame
public import proofs.«01_k».proof.Proof.Gen.DownNormIdeal
public import proofs.«01_k».proof.Proof.Gen.DownNormIdeal.Skeleton
public import proofs.«01_k».proof.Proof.Gen.DownNormIdeal.Launch
public import proofs.«01_k».proof.Proof.Gen.DownNormIdeal.Points
public import proofs.«01_k».proof.Proof.Gen.DownNormIdeal.Frame
public import proofs.«01_k».proof.Proof.Gen.DownNormIdeal.Value
public import proofs.«01_k».proof.Proof.Gen.DownNormReferenceIdeal
public import proofs.«01_k».proof.Proof.Gen.DownNormReferenceIdeal.Run
public import proofs.«01_k».proof.Proof.Gen.DownNormReferenceIdeal.Read
public import proofs.«01_k».proof.Proof.Gen.Pre_finite_query
public import proofs.«01_k».proof.Proof.Gen.Pre_finite_recurrence
public import proofs.«01_k».proof.Proof.Gen.Pre_finite_latent
public import proofs.«01_k».proof.Proof.Gen.Pre_finite_window
public import proofs.«01_k».proof.Proof.Arrays
public import proofs.«01_k».proof.Proof.Reference
public import proofs.«01_k».proof.Proof.Finite
public import proofs.«01_k».proof.Proof.Products
public import proofs.«01_k».proof.Proof.NormInput
public import proofs.«01_k».proof.Proof.NormReference
public import proofs.«01_k».proof.Proof.NormFinite
public import proofs.«01_k».proof.Proof.AttentionSame
public import proofs.«01_k».proof.Proof.DownNormSame
public import proofs.«01_k».proof.Proof.OutNormSame
public import proofs.«01_k».proof.Proof.NormWindowSame
public import proofs.«01_k».proof.Proof.NormLatentSame
public import proofs.«01_k».proof.Proof.NormRecurrenceSame
public import proofs.«01_k».proof.Proof.NormQuerySame
public import proofs.«01_k».proof.Proof.MoreProducts
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Attend

/-- The reference leaves its arguments as they were; it has no semaphore. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The two programs' derivatives by the query. -/
theorem same_dq (m : (ℓ : Loc Cert.KernelIdeal.nD Cert.KernelIdeal.τ Cert.KernelIdeal.sig) → Buf (Elt Ideal) ℓ) (c) (hpre : Cert.Pre_KernelIdeal_finite_scores m) :
    Cert.ReferenceIdeal.Read.val_main_v69 (F := Ideal) (Cert.KernelIdeal.Arrays.Q m c) (Cert.KernelIdeal.Arrays.MKV m c) (Cert.KernelIdeal.Arrays.G m c)
      = Cert.KernelIdeal.Arrays.dqArray m c := by
  funext y
  obtain ⟨h, d, e⟩ := exists_col (y 1)
  rw [eq_ix2 y, e]
  refine (Cert.ReferenceIdeal.Gradient.dquery_eq _ _ _ h (y 0) d fun h s => Cert.Finite.scores_tame (hpre c) h s).trans ?_
  show _ = dquery _ _ _ (headOf (keyCol (col h d))) (y 0) (within (keyCol (col h d)))
  rw [headOf_key, within_key]

/-- The two programs' derivatives by the memory. -/
theorem same_dm (m : (ℓ : Loc Cert.KernelIdeal.nD Cert.KernelIdeal.τ Cert.KernelIdeal.sig) → Buf (Elt Ideal) ℓ) (c) (hpre : Cert.Pre_KernelIdeal_finite_scores m) :
    Cert.ReferenceIdeal.Read.val_main_v68 (F := Ideal) (Cert.KernelIdeal.Arrays.Q m c) (Cert.KernelIdeal.Arrays.MKV m c) (Cert.KernelIdeal.Arrays.G m c)
      = Cert.KernelIdeal.Arrays.dmArray m c := by
  funext y
  rw [eq_ix2 y]
  obtain ⟨h, d, e⟩ | ⟨h, d, e⟩ := exists_keyCol_or_valCol (y 1) <;> rw [e]
  · refine (Cert.ReferenceIdeal.Gradient.dkey_eq _ _ _ h (y 0) d fun h s => Cert.Finite.scores_tame (hpre c) h s).trans ?_
    exact Finset.sum_congr rfl fun s _ => (dmemTerm_key _ _ _ h (y 0) d s).symm
  · refine (Cert.ReferenceIdeal.Gradient.dval_eq _ _ _ h (y 0) d).trans ?_
    exact Finset.sum_congr rfl fun s _ => (dmemTerm_val _ _ _ h (y 0) d s).symm

/-- Kernel and reference compute the same two derivatives. -/
theorem same_results : Cert.algebraic_KernelIdeal_ReferenceIdeal_pre_finite_scores := by
  intro m g m' g' hpre hargs
  refine ⟨fun c => Cert.KernelIdeal.Arrays.dqArray m c, fun c => Cert.KernelIdeal.Arrays.dmArray m c, ?_, ?_⟩
  · refine (θ_run Cert.KernelIdeal.defs _ _).mono (fun r h c => ?_) (Cert.KernelIdeal.Value.run_blocks m g)
    obtain ⟨h4, h5, ha⟩ := h c
    exact ⟨h4.trans (Cert.KernelIdeal.Arrays.dq_end m c), h5.trans (Cert.KernelIdeal.Arrays.dm_end m c), ha⟩
  · refine (θ_run Cert.ReferenceIdeal.defs _ _).mono (fun r h c => ?_) (Cert.ReferenceIdeal.Value.run m' g')
    obtain ⟨h69, h68, ha⟩ := h c
    obtain ⟨e0, e1, e2⟩ := hargs c
    refine ⟨h69.trans ?_, h68.trans ?_, ha⟩
    · rw [Cert.ReferenceIdeal.Read.val_main_v69_eq, e0, e1, e2]
      exact same_dq m c hpre
    · rw [Cert.ReferenceIdeal.Read.val_main_v68_eq, e0, e1, e2]
      exact same_dm m c hpre

/-- The layer norm's reference leaves its arguments as they were. -/
theorem norm_frame : Cert.quiescent_NormInputReferenceIdeal := fun m ρ _ =>
  (θ_run Cert.NormInputReferenceIdeal.defs _ _).mono
    (fun r h => ⟨fun c => (h c).2.2.2.2, Idealize.ShloMosaic.sem_eq_zero_of_no_sems (by decide) r.2⟩)
    (Cert.NormInputReferenceIdeal.Value.run (F := Ideal) m ρ)

section Norm

open Cert.NormInputIdeal.Rows

variable (m : (ℓ : Loc Cert.NormInputIdeal.nD Cert.NormInputIdeal.τ Cert.NormInputIdeal.sig) → Buf (Elt Ideal) ℓ) (c : Dev Cert.NormInputIdeal.nD)

/-- The two programs' derivatives by the norm's input, at an index. -/
theorem same_row (hpre : Cert.Pre_NormInputIdeal_finite_norm m) (s : Fin 8192) (k : Fin 1024) :
    Cert.NormInputReferenceIdeal.Read.val_main_v67 (F := Ideal) (D m c) (DA m c) (W m c) (Z m c) (G m c) (ix2 s k)
      = Cert.Norm.dnorm (zrow m c s) (dout m c s) (grow m c) k :=
  (Cert.NormInputReferenceIdeal.Rows.row_at _ _ _ _ _ s k).trans
    (Cert.Norm.drule_eq_dnorm _ _ _ (fun j => Cert.NormFinite.out_real (hpre c) s j) (fun j => Cert.NormFinite.weight_real (hpre c) j) k)

theorem same_dz (hpre : Cert.Pre_NormInputIdeal_finite_norm m) :
    Cert.NormInputReferenceIdeal.Read.val_main_v67 (F := Ideal) (D m c) (DA m c) (W m c) (Z m c) (G m c) = dzArray m c := by
  funext y
  rw [eq_ix2 y]
  exact same_row m c hpre (y 0) (y 1)

theorem same_copy (hpre : Cert.Pre_NormInputIdeal_finite_norm m) :
    Cert.NormInputReferenceIdeal.Read.val_main_v68 (F := Ideal) (D m c) (DA m c) (W m c) (Z m c) (G m c) = dzCopy m c := by
  funext y
  rw [eq_ix2 y]
  exact same_row m c hpre (y 0) (y 1)

theorem row_index (y : Cert.NormInputIdeal.S1x1024.Idx) : ∃ k : Fin 1024, y = ix2 0 k :=
  ⟨y 1, (eq_ix2 y).trans (congrArg (ix2 · (y 1)) (Subsingleton.elim (α := Fin 1) _ _))⟩

theorem same_dg : Cert.NormInputReferenceIdeal.Read.val_main_v41 (F := Ideal) (D m c) (DA m c) (W m c) (Z m c) = dgArray m c := by
  funext y
  obtain ⟨k, rfl⟩ := row_index y
  exact Cert.NormInputReferenceIdeal.Rows.weight_at _ _ _ _ k

theorem same_db : Cert.NormInputReferenceIdeal.Read.val_main_v38 (F := Ideal) (D m c) (DA m c) (W m c) = dbArray m c := by
  funext y
  obtain ⟨k, rfl⟩ := row_index y
  exact Cert.NormInputReferenceIdeal.Rows.bias_at _ _ _ k

end Norm

/-- Kernel and reference compute the same four derivatives of the layer norm. -/
theorem norm_same : Cert.algebraic_NormInputIdeal_NormInputReferenceIdeal_pre_finite_norm := by
  intro m g m' g' hpre hargs
  refine ⟨fun c => Cert.NormInputIdeal.Rows.dzArray m c, fun c => Cert.NormInputIdeal.Rows.dzCopy m c, fun c => Cert.NormInputIdeal.Rows.dgArray m c,
    fun c => Cert.NormInputIdeal.Rows.dbArray m c, ?_, ?_⟩
  · refine (θ_run Cert.NormInputIdeal.defs _ _).mono (fun r h c => ?_) (Cert.NormInputIdeal.Value.run_blocks m g)
    obtain ⟨h6, h7, h8, h9, ha⟩ := h c
    exact ⟨h6.trans (Cert.NormInputIdeal.Rows.dz_end m c), h7.trans (Cert.NormInputIdeal.Rows.copy_end m c), h8.trans (Cert.NormInputIdeal.Rows.dg_end m c),
      h9.trans (Cert.NormInputIdeal.Rows.db_end m c), ha⟩
  · refine (θ_run Cert.NormInputReferenceIdeal.defs _ _).mono (fun r h c => ?_) (Cert.NormInputReferenceIdeal.Value.run m' g')
    obtain ⟨h67, h68, h41, h38, ha⟩ := h c
    obtain ⟨e0, e1, e2, e3, e4⟩ := hargs c
    refine ⟨h67.trans ?_, h68.trans ?_, h41.trans ?_, h38.trans ?_, ha⟩
    · rw [Cert.NormInputReferenceIdeal.Read.val_main_v67_eq, e0, e1, e2, e3, e4]
      exact same_dz m c hpre
    · rw [Cert.NormInputReferenceIdeal.Read.val_main_v68_eq, e0, e1, e2, e3, e4]
      exact same_copy m c hpre
    · rw [Cert.NormInputReferenceIdeal.Read.val_main_v41_eq, e0, e1, e2, e3]
      exact same_dg m c
    · rw [Cert.NormInputReferenceIdeal.Read.val_main_v38_eq, e0, e1, e2]
      exact same_db m c

theorem claim : Cert.Claim := ⟨Cert.Kernel.Gen.facts, Cert.KernelIdeal.Gen.facts, Cert.ReferenceIdeal.Gen.facts, Cert.UpWeight.Gen.facts, Cert.UpWeightIdeal.Gen.facts, Cert.UpWeightReferenceIdeal.Gen.facts, Cert.DownWeight.Gen.facts, Cert.DownWeightIdeal.Gen.facts, Cert.DownWeightReferenceIdeal.Gen.facts, Cert.DownInput.Gen.facts, Cert.DownInputIdeal.Gen.facts, Cert.DownInputReferenceIdeal.Gen.facts, Cert.NormInput.Gen.facts, Cert.NormInputIdeal.Gen.facts, Cert.NormInputReferenceIdeal.Gen.facts, Cert.SquareWeight.Gen.facts, Cert.SquareWeightIdeal.Gen.facts, Cert.SquareWeightReferenceIdeal.Gen.facts, Cert.SquareInput.Gen.facts, Cert.SquareInputIdeal.Gen.facts, Cert.SquareInputReferenceIdeal.Gen.facts, Cert.WindowWeight.Gen.facts, Cert.WindowWeightIdeal.Gen.facts, Cert.WindowWeightReferenceIdeal.Gen.facts, Cert.RecurrenceWeight.Gen.facts, Cert.RecurrenceWeightIdeal.Gen.facts, Cert.RecurrenceWeightReferenceIdeal.Gen.facts, Cert.Up.Gen.facts, Cert.UpIdeal.Gen.facts, Cert.UpReferenceIdeal.Gen.facts, Cert.Query.Gen.facts, Cert.QueryIdeal.Gen.facts, Cert.QueryReferenceIdeal.Gen.facts, Cert.NormQuery.Gen.facts, Cert.NormQueryIdeal.Gen.facts, Cert.NormQueryReferenceIdeal.Gen.facts, Cert.NormRecurrence.Gen.facts, Cert.NormRecurrenceIdeal.Gen.facts, Cert.NormRecurrenceReferenceIdeal.Gen.facts, Cert.NormLatent.Gen.facts, Cert.NormLatentIdeal.Gen.facts, Cert.NormLatentReferenceIdeal.Gen.facts, Cert.NormWindow.Gen.facts, Cert.NormWindowIdeal.Gen.facts, Cert.NormWindowReferenceIdeal.Gen.facts, Cert.OutNorm.Gen.facts, Cert.OutNormIdeal.Gen.facts, Cert.OutNormReferenceIdeal.Gen.facts, Cert.DownNorm.Gen.facts, Cert.DownNormIdeal.Gen.facts, Cert.DownNormReferenceIdeal.Gen.facts, Cert.WindowUp.Gen.facts, Cert.WindowUpIdeal.Gen.facts, Cert.WindowUpReferenceIdeal.Gen.facts, Cert.RecurrenceUp.Gen.facts, Cert.RecurrenceUpIdeal.Gen.facts, Cert.RecurrenceUpReferenceIdeal.Gen.facts, Cert.LatentDown.Gen.facts, Cert.LatentDownIdeal.Gen.facts, Cert.LatentDownReferenceIdeal.Gen.facts, Cert.RopeUp.Gen.facts, Cert.RopeUpIdeal.Gen.facts, Cert.RopeUpReferenceIdeal.Gen.facts, Cert.NopeUp.Gen.facts, Cert.NopeUpIdeal.Gen.facts, Cert.NopeUpReferenceIdeal.Gen.facts, Cert.KeyValueUp.Gen.facts, Cert.KeyValueUpIdeal.Gen.facts, Cert.KeyValueUpReferenceIdeal.Gen.facts, Cert.MemoryUp.Gen.facts, Cert.MemoryUpIdeal.Gen.facts, Cert.MemoryUpReferenceIdeal.Gen.facts, Cert.WindowInput.Gen.facts, Cert.WindowInputIdeal.Gen.facts, Cert.WindowInputReferenceIdeal.Gen.facts, Cert.NopeInput.Gen.facts, Cert.NopeInputIdeal.Gen.facts, Cert.NopeInputReferenceIdeal.Gen.facts, Cert.RopeInput.Gen.facts, Cert.RopeInputIdeal.Gen.facts, Cert.RopeInputReferenceIdeal.Gen.facts, Cert.KeyValueInput.Gen.facts, Cert.KeyValueInputIdeal.Gen.facts, Cert.KeyValueInputReferenceIdeal.Gen.facts, Cert.LatentWeight.Gen.facts, Cert.LatentWeightIdeal.Gen.facts, Cert.LatentWeightReferenceIdeal.Gen.facts, Cert.NopeWeight.Gen.facts, Cert.NopeWeightIdeal.Gen.facts, Cert.NopeWeightReferenceIdeal.Gen.facts, Cert.RopeWeight.Gen.facts, Cert.RopeWeightIdeal.Gen.facts, Cert.RopeWeightReferenceIdeal.Gen.facts, Cert.KeyValueWeight.Gen.facts, Cert.KeyValueWeightIdeal.Gen.facts, Cert.KeyValueWeightReferenceIdeal.Gen.facts, Cert.MemoryWeight.Gen.facts, Cert.MemoryWeightIdeal.Gen.facts, Cert.MemoryWeightReferenceIdeal.Gen.facts, Cert.Attention.Gen.facts, Cert.AttentionIdeal.Gen.facts, Cert.AttentionReferenceIdeal.Gen.facts, Cert.Pre_finite_scores.Gen.facts, Cert.Pre_finite_norm.Gen.facts, Cert.Pre_finite_query.Gen.facts, Cert.Pre_finite_recurrence.Gen.facts, Cert.Pre_finite_latent.Gen.facts, Cert.Pre_finite_window.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.UpWeight.Gen.frame m ρ,
  fun m ρ _ => Cert.UpWeightIdeal.Gen.frame m ρ,
  Cert.Products.upWeight_frame,
  fun m ρ _ => Cert.DownWeight.Gen.frame m ρ,
  fun m ρ _ => Cert.DownWeightIdeal.Gen.frame m ρ,
  Cert.Products.downWeight_frame,
  fun m ρ _ => Cert.DownInput.Gen.frame m ρ,
  fun m ρ _ => Cert.DownInputIdeal.Gen.frame m ρ,
  Cert.Products.downInput_frame,
  fun m ρ _ => Cert.NormInput.Gen.frame m ρ,
  fun m ρ _ => Cert.NormInputIdeal.Gen.frame m ρ,
  fun m ρ _ => Cert.NormInputIdeal.Gen.frame m ρ,
  norm_frame,
  fun m ρ _ => norm_frame m ρ trivial,
  fun m ρ _ => Cert.SquareWeight.Gen.frame m ρ,
  fun m ρ _ => Cert.SquareWeightIdeal.Gen.frame m ρ,
  Cert.MoreProducts.squareWeight_frame,
  fun m ρ _ => Cert.SquareInput.Gen.frame m ρ,
  fun m ρ _ => Cert.SquareInputIdeal.Gen.frame m ρ,
  Cert.MoreProducts.squareInput_frame,
  fun m ρ _ => Cert.WindowWeight.Gen.frame m ρ,
  fun m ρ _ => Cert.WindowWeightIdeal.Gen.frame m ρ,
  Cert.MoreProducts.windowWeight_frame,
  fun m ρ _ => Cert.RecurrenceWeight.Gen.frame m ρ,
  fun m ρ _ => Cert.RecurrenceWeightIdeal.Gen.frame m ρ,
  Cert.MoreProducts.recurrenceWeight_frame,
  fun m ρ _ => Cert.Up.Gen.frame m ρ,
  fun m ρ _ => Cert.UpIdeal.Gen.frame m ρ,
  Cert.MoreProducts.up_frame,
  fun m ρ _ => Cert.Query.Gen.frame m ρ,
  fun m ρ _ => Cert.QueryIdeal.Gen.frame m ρ,
  Cert.MoreProducts.query_frame,
  fun m ρ _ => Cert.NormQuery.Gen.frame m ρ,
  fun m ρ _ => Cert.NormQueryIdeal.Gen.frame m ρ,
  fun m ρ _ => Cert.NormQueryIdeal.Gen.frame m ρ,
  Cert.NormQuerySame.norm_frame,
  fun m ρ _ => Cert.NormQuerySame.norm_frame m ρ trivial,
  fun m ρ _ => Cert.NormRecurrence.Gen.frame m ρ,
  fun m ρ _ => Cert.NormRecurrenceIdeal.Gen.frame m ρ,
  fun m ρ _ => Cert.NormRecurrenceIdeal.Gen.frame m ρ,
  Cert.NormRecurrenceSame.norm_frame,
  fun m ρ _ => Cert.NormRecurrenceSame.norm_frame m ρ trivial,
  fun m ρ _ => Cert.NormLatent.Gen.frame m ρ,
  fun m ρ _ => Cert.NormLatentIdeal.Gen.frame m ρ,
  fun m ρ _ => Cert.NormLatentIdeal.Gen.frame m ρ,
  Cert.NormLatentSame.norm_frame,
  fun m ρ _ => Cert.NormLatentSame.norm_frame m ρ trivial,
  fun m ρ _ => Cert.NormWindow.Gen.frame m ρ,
  fun m ρ _ => Cert.NormWindowIdeal.Gen.frame m ρ,
  fun m ρ _ => Cert.NormWindowIdeal.Gen.frame m ρ,
  Cert.NormWindowSame.norm_frame,
  fun m ρ _ => Cert.NormWindowSame.norm_frame m ρ trivial,
  fun m ρ _ => Cert.OutNorm.Gen.frame m ρ,
  fun m ρ _ => Cert.OutNormIdeal.Gen.frame m ρ,
  Cert.OutNormSame.norm_frame,
  fun m ρ _ => Cert.DownNorm.Gen.frame m ρ,
  fun m ρ _ => Cert.DownNormIdeal.Gen.frame m ρ,
  Cert.DownNormSame.norm_frame,
  fun m ρ _ => Cert.WindowUp.Gen.frame m ρ,
  fun m ρ _ => Cert.WindowUpIdeal.Gen.frame m ρ,
  Cert.MoreProducts.windowUp_frame,
  fun m ρ _ => Cert.RecurrenceUp.Gen.frame m ρ,
  fun m ρ _ => Cert.RecurrenceUpIdeal.Gen.frame m ρ,
  Cert.MoreProducts.recurrenceUp_frame,
  fun m ρ _ => Cert.LatentDown.Gen.frame m ρ,
  fun m ρ _ => Cert.LatentDownIdeal.Gen.frame m ρ,
  Cert.MoreProducts.latentDown_frame,
  fun m ρ _ => Cert.RopeUp.Gen.frame m ρ,
  fun m ρ _ => Cert.RopeUpIdeal.Gen.frame m ρ,
  Cert.MoreProducts.ropeUp_frame,
  fun m ρ _ => Cert.NopeUp.Gen.frame m ρ,
  fun m ρ _ => Cert.NopeUpIdeal.Gen.frame m ρ,
  Cert.MoreProducts.nopeUp_frame,
  fun m ρ _ => Cert.KeyValueUp.Gen.frame m ρ,
  fun m ρ _ => Cert.KeyValueUpIdeal.Gen.frame m ρ,
  Cert.MoreProducts.keyValueUp_frame,
  fun m ρ _ => Cert.MemoryUp.Gen.frame m ρ,
  fun m ρ _ => Cert.MemoryUpIdeal.Gen.frame m ρ,
  Cert.MoreProducts.memoryUp_frame,
  fun m ρ _ => Cert.WindowInput.Gen.frame m ρ,
  fun m ρ _ => Cert.WindowInputIdeal.Gen.frame m ρ,
  Cert.MoreProducts.windowInput_frame,
  fun m ρ _ => Cert.NopeInput.Gen.frame m ρ,
  fun m ρ _ => Cert.NopeInputIdeal.Gen.frame m ρ,
  Cert.MoreProducts.nopeInput_frame,
  fun m ρ _ => Cert.RopeInput.Gen.frame m ρ,
  fun m ρ _ => Cert.RopeInputIdeal.Gen.frame m ρ,
  Cert.MoreProducts.ropeInput_frame,
  fun m ρ _ => Cert.KeyValueInput.Gen.frame m ρ,
  fun m ρ _ => Cert.KeyValueInputIdeal.Gen.frame m ρ,
  Cert.MoreProducts.keyValueInput_frame,
  fun m ρ _ => Cert.LatentWeight.Gen.frame m ρ,
  fun m ρ _ => Cert.LatentWeightIdeal.Gen.frame m ρ,
  Cert.MoreProducts.latentWeight_frame,
  fun m ρ _ => Cert.NopeWeight.Gen.frame m ρ,
  fun m ρ _ => Cert.NopeWeightIdeal.Gen.frame m ρ,
  Cert.MoreProducts.nopeWeight_frame,
  fun m ρ _ => Cert.RopeWeight.Gen.frame m ρ,
  fun m ρ _ => Cert.RopeWeightIdeal.Gen.frame m ρ,
  Cert.MoreProducts.ropeWeight_frame,
  fun m ρ _ => Cert.KeyValueWeight.Gen.frame m ρ,
  fun m ρ _ => Cert.KeyValueWeightIdeal.Gen.frame m ρ,
  Cert.MoreProducts.keyValueWeight_frame,
  fun m ρ _ => Cert.MemoryWeight.Gen.frame m ρ,
  fun m ρ _ => Cert.MemoryWeightIdeal.Gen.frame m ρ,
  Cert.MoreProducts.memoryWeight_frame,
  fun m ρ _ => Cert.Attention.Gen.frame m ρ,
  fun m ρ _ => Cert.AttentionIdeal.Gen.frame m ρ,
  Cert.AttentionSame.reference_frame,
  trivial,
  same_results,
  trivial,
  Cert.Products.upWeight_same,
  trivial,
  Cert.Products.downWeight_same,
  trivial,
  Cert.Products.downInput_same,
  trivial,
  norm_same,
  trivial,
  Cert.MoreProducts.squareWeight_same,
  trivial,
  Cert.MoreProducts.squareInput_same,
  trivial,
  Cert.MoreProducts.windowWeight_same,
  trivial,
  Cert.MoreProducts.recurrenceWeight_same,
  trivial,
  Cert.MoreProducts.up_same,
  trivial,
  Cert.MoreProducts.query_same,
  trivial,
  Cert.NormQuerySame.norm_same,
  trivial,
  Cert.NormRecurrenceSame.norm_same,
  trivial,
  Cert.NormLatentSame.norm_same,
  trivial,
  Cert.NormWindowSame.norm_same,
  trivial,
  Cert.OutNormSame.norm_same,
  trivial,
  Cert.DownNormSame.norm_same,
  trivial,
  Cert.MoreProducts.windowUp_same,
  trivial,
  Cert.MoreProducts.recurrenceUp_same,
  trivial,
  Cert.MoreProducts.latentDown_same,
  trivial,
  Cert.MoreProducts.ropeUp_same,
  trivial,
  Cert.MoreProducts.nopeUp_same,
  trivial,
  Cert.MoreProducts.keyValueUp_same,
  trivial,
  Cert.MoreProducts.memoryUp_same,
  trivial,
  Cert.MoreProducts.windowInput_same,
  trivial,
  Cert.MoreProducts.nopeInput_same,
  trivial,
  Cert.MoreProducts.ropeInput_same,
  trivial,
  Cert.MoreProducts.keyValueInput_same,
  trivial,
  Cert.MoreProducts.latentWeight_same,
  trivial,
  Cert.MoreProducts.nopeWeight_same,
  trivial,
  Cert.MoreProducts.ropeWeight_same,
  trivial,
  Cert.MoreProducts.keyValueWeight_same,
  trivial,
  Cert.MoreProducts.memoryWeight_same,
  trivial,
  Cert.AttentionSame.same_output⟩

end Cert.Proof

end
